-- ==== Defs.lean ====
def Pre_SgBwd (m : (ℓ : Loc Cert.SgBwd.nD Cert.SgBwd.τ Cert.SgBwd.sig) → Buf (Elt Bits) ℓ) : Prop :=
  True

def Pre_SgBwdIdeal (m : (ℓ : Loc Cert.SgBwdIdeal.nD Cert.SgBwdIdeal.τ Cert.SgBwdIdeal.sig) → Buf (Elt Ideal) ℓ) : Prop :=
  True

def Pre_SgRefIdeal (m : (ℓ : Loc Cert.SgRefIdeal.nD Cert.SgRefIdeal.τ Cert.SgRefIdeal.sig) → Buf (Elt Ideal) ℓ) : Prop :=
  True

def Pre_DWin (m : (ℓ : Loc Cert.DWin.nD Cert.DWin.τ Cert.DWin.sig) → Buf (Elt Bits) ℓ) : Prop :=
  True

def Pre_DWinIdeal (m : (ℓ : Loc Cert.DWinIdeal.nD Cert.DWinIdeal.τ Cert.DWinIdeal.sig) → Buf (Elt Ideal) ℓ) : Prop :=
  True

def Pre_DWinRefIdeal (m : (ℓ : Loc Cert.DWinRefIdeal.nD Cert.DWinRefIdeal.τ Cert.DWinRefIdeal.sig) → Buf (Elt Ideal) ℓ) : Prop :=
  True

def Pre_DH (m : (ℓ : Loc Cert.DH.nD Cert.DH.τ Cert.DH.sig) → Buf (Elt Bits) ℓ) : Prop :=
  True

def Pre_DHIdeal (m : (ℓ : Loc Cert.DHIdeal.nD Cert.DHIdeal.τ Cert.DHIdeal.sig) → Buf (Elt Ideal) ℓ) : Prop :=
  True

def Pre_DHRefIdeal (m : (ℓ : Loc Cert.DHRefIdeal.nD Cert.DHRefIdeal.τ Cert.DHRefIdeal.sig) → Buf (Elt Ideal) ℓ) : Prop :=
  True

def Pre_DMerged (m : (ℓ : Loc Cert.DMerged.nD Cert.DMerged.τ Cert.DMerged.sig) → Buf (Elt Bits) ℓ) : Prop :=
  True

def Pre_DMergedIdeal (m : (ℓ : Loc Cert.DMergedIdeal.nD Cert.DMergedIdeal.τ Cert.DMergedIdeal.sig) → Buf (Elt Ideal) ℓ) : Prop :=
  True

def Pre_DMergedRefIdeal (m : (ℓ : Loc Cert.DMergedRefIdeal.nD Cert.DMergedRefIdeal.τ Cert.DMergedRefIdeal.sig) → Buf (Elt Ideal) ℓ) : Prop :=
  True

def Pre_DWout (m : (ℓ : Loc Cert.DWout.nD Cert.DWout.τ Cert.DWout.sig) → Buf (Elt Bits) ℓ) : Prop :=
  True

def Pre_DWoutIdeal (m : (ℓ : Loc Cert.DWoutIdeal.nD Cert.DWoutIdeal.τ Cert.DWoutIdeal.sig) → Buf (Elt Ideal) ℓ) : Prop :=
  True

def Pre_DWoutRefIdeal (m : (ℓ : Loc Cert.DWoutRefIdeal.nD Cert.DWoutRefIdeal.τ Cert.DWoutRefIdeal.sig) → Buf (Elt Ideal) ℓ) : Prop :=
  True

def Pre_DY (m : (ℓ : Loc Cert.DY.nD Cert.DY.τ Cert.DY.sig) → Buf (Elt Bits) ℓ) : Prop :=
  True

def Pre_DYIdeal (m : (ℓ : Loc Cert.DYIdeal.nD Cert.DYIdeal.τ Cert.DYIdeal.sig) → Buf (Elt Ideal) ℓ) : Prop :=
  True

def Pre_DYRefIdeal (m : (ℓ : Loc Cert.DYRefIdeal.nD Cert.DYRefIdeal.τ Cert.DYRefIdeal.sig) → Buf (Elt Ideal) ℓ) : Prop :=
  True

def Pre_DWb (m : (ℓ : Loc Cert.DWb.nD Cert.DWb.τ Cert.DWb.sig) → Buf (Elt Bits) ℓ) : Prop :=
  True

def Pre_DWbIdeal (m : (ℓ : Loc Cert.DWbIdeal.nD Cert.DWbIdeal.τ Cert.DWbIdeal.sig) → Buf (Elt Ideal) ℓ) : Prop :=
  True

def Pre_DWbRefIdeal (m : (ℓ : Loc Cert.DWbRefIdeal.nD Cert.DWbRefIdeal.τ Cert.DWbRefIdeal.sig) → Buf (Elt Ideal) ℓ) : Prop :=
  True

def Pre_Branch (m : (ℓ : Loc Cert.Branch.nD Cert.Branch.τ Cert.Branch.sig) → Buf (Elt Bits) ℓ) : Prop :=
  True

def Pre_BranchIdeal (m : (ℓ : Loc Cert.BranchIdeal.nD Cert.BranchIdeal.τ Cert.BranchIdeal.sig) → Buf (Elt Ideal) ℓ) : Prop :=
  True

def Pre_BranchRefIdeal (m : (ℓ : Loc Cert.BranchRefIdeal.nD Cert.BranchRefIdeal.τ Cert.BranchRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RmsBwdRefIdeal (m : (ℓ : Loc Cert.RmsBwdRefIdeal.nD Cert.RmsBwdRefIdeal.τ Cert.RmsBwdRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_GluBwd (m : (ℓ : Loc Cert.GluBwd.nD Cert.GluBwd.τ Cert.GluBwd.sig) → Buf (Elt Bits) ℓ) : Prop :=
  True

def Pre_GluBwdIdeal (m : (ℓ : Loc Cert.GluBwdIdeal.nD Cert.GluBwdIdeal.τ Cert.GluBwdIdeal.sig) → Buf (Elt Ideal) ℓ) : Prop :=
  True

def Pre_GluBwdRefIdeal (m : (ℓ : Loc Cert.GluBwdRefIdeal.nD Cert.GluBwdRefIdeal.τ Cert.GluBwdRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_GluFwd (m : (ℓ : Loc Cert.GluFwd.nD Cert.GluFwd.τ Cert.GluFwd.sig) → Buf (Elt Bits) ℓ) : Prop :=
  True

def Pre_GluFwdIdeal (m : (ℓ : Loc Cert.GluFwdIdeal.nD Cert.GluFwdIdeal.τ Cert.GluFwdIdeal.sig) → Buf (Elt Ideal) ℓ) : Prop :=
  True

def Pre_GluFwdRefIdeal (m : (ℓ : Loc Cert.GluFwdRefIdeal.nD Cert.GluFwdRefIdeal.τ Cert.GluFwdRefIdeal.sig) → Buf (Elt Ideal) ℓ) : Prop :=
  True

def Pre_InProj [hPre_every_tile_once : Cert.Pre_every_tile_once.Facts] (m : (ℓ : Loc Cert.InProj.nD Cert.InProj.τ Cert.InProj.sig) → Buf (Elt Bits) ℓ) : Prop :=
  ∀ c : Dev Cert.InProj.nD,
    (Cert.Pre_every_tile_once.fn (F := Bits) (m ((c.tc : Thread Cert.InProj.nD Cert.InProj.τ).loc Cert.InProj.main_arg0)) (m ((c.tc : Thread Cert.InProj.nD Cert.InProj.τ).loc Cert.InProj.main_arg1)) (m ((c.tc : Thread Cert.InProj.nD Cert.InProj.τ).loc Cert.InProj.main_arg2)) (m ((c.tc : Thread Cert.InProj.nD Cert.InProj.τ).loc Cert.InProj.main_arg3))) = (fun _ => 1#1)

def Pre_InProjIdeal [hPre_every_tile_once : Cert.Pre_every_tile_once.Facts] (m : (ℓ : Loc Cert.InProjIdeal.nD Cert.InProjIdeal.τ Cert.InProjIdeal.sig) → Buf (Elt Ideal) ℓ) : Prop :=
  ∀ c : Dev Cert.InProjIdeal.nD,
    (Cert.Pre_every_tile_once.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3))) = (fun _ => 1#1)

def Pre_InProjRefIdeal (m : (ℓ : Loc Cert.InProjRefIdeal.nD Cert.InProjRefIdeal.τ Cert.InProjRefIdeal.sig) → Buf (Elt Ideal) ℓ) : Prop :=
  True

def Pre_InProjRefIdeal_every_tile_once [hPre_every_tile_once : Cert.Pre_every_tile_once.Facts] (m : (ℓ : Loc Cert.InProjRefIdeal.nD Cert.InProjRefIdeal.τ Cert.InProjRefIdeal.sig) → Buf (Elt Ideal) ℓ) : Prop :=
  ∀ c : Dev Cert.InProjRefIdeal.nD,
    (Cert.Pre_every_tile_once.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3))) = (fun _ => 1#1)

def Pre_SgFwd (m : (ℓ : Loc Cert.SgFwd.nD Cert.SgFwd.τ Cert.SgFwd.sig) → Buf (Elt Bits) ℓ) : Prop :=
  True

def Pre_SgFwdIdeal (m : (ℓ : Loc Cert.SgFwdIdeal.nD Cert.SgFwdIdeal.τ Cert.SgFwdIdeal.sig) → Buf (Elt Ideal) ℓ) : Prop :=
  True

def Pre_SgFwdRefIdeal (m : (ℓ : Loc Cert.SgFwdRefIdeal.nD Cert.SgFwdRefIdeal.τ Cert.SgFwdRefIdeal.sig) → Buf (Elt Ideal) ℓ) : Prop :=
  True

def Pre_AdamA (m : (ℓ : Loc Cert.AdamA.nD Cert.AdamA.τ Cert.AdamA.sig) → Buf (Elt Bits) ℓ) : Prop :=
  True

def Pre_AdamAIdeal (m : (ℓ : Loc Cert.AdamAIdeal.nD Cert.AdamAIdeal.τ Cert.AdamAIdeal.sig) → Buf (Elt Ideal) ℓ) : Prop :=
  True

def Pre_AdamARefIdeal (m : (ℓ : Loc Cert.AdamARefIdeal.nD Cert.AdamARefIdeal.τ Cert.AdamARefIdeal.sig) → Buf (Elt Ideal) ℓ) : Prop :=
  True

def Pre_AdamC (m : (ℓ : Loc Cert.AdamC.nD Cert.AdamC.τ Cert.AdamC.sig) → Buf (Elt Bits) ℓ) : Prop :=
  True

def Pre_AdamCIdeal (m : (ℓ : Loc Cert.AdamCIdeal.nD Cert.AdamCIdeal.τ Cert.AdamCIdeal.sig) → Buf (Elt Ideal) ℓ) : Prop :=
  True

def Pre_AdamCRefIdeal (m : (ℓ : Loc Cert.AdamCRefIdeal.nD Cert.AdamCRefIdeal.τ Cert.AdamCRefIdeal.sig) → Buf (Elt Ideal) ℓ) : Prop :=
  True

def Pre_AdamMix (m : (ℓ : Loc Cert.AdamMix.nD Cert.AdamMix.τ Cert.AdamMix.sig) → Buf (Elt Bits) ℓ) : Prop :=
  True

def Pre_AdamMixIdeal (m : (ℓ : Loc Cert.AdamMixIdeal.nD Cert.AdamMixIdeal.τ Cert.AdamMixIdeal.sig) → Buf (Elt Ideal) ℓ) : Prop :=
  True

def Pre_AdamMixRefIdeal (m : (ℓ : Loc Cert.AdamMixRefIdeal.nD Cert.AdamMixRefIdeal.τ Cert.AdamMixRefIdeal.sig) → Buf (Elt Ideal) ℓ) : Prop :=
  True

def Pre_AdamVec (m : (ℓ : Loc Cert.AdamVec.nD Cert.AdamVec.τ Cert.AdamVec.sig) → Buf (Elt Bits) ℓ) : Prop :=
  True

def Pre_AdamVecIdeal (m : (ℓ : Loc Cert.AdamVecIdeal.nD Cert.AdamVecIdeal.τ Cert.AdamVecIdeal.sig) → Buf (Elt Ideal) ℓ) : Prop :=
  True

def Pre_AdamVecRefIdeal (m : (ℓ : Loc Cert.AdamVecRefIdeal.nD Cert.AdamVecRefIdeal.τ Cert.AdamVecRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdRefIdeal (m : (ℓ : Loc Cert.AttnFwdRefIdeal.nD Cert.AttnFwdRefIdeal.τ Cert.AttnFwdRefIdeal.sig) → Buf (Elt Ideal) ℓ) : Prop :=
  True

def Pre_S5Par (m : (ℓ : Loc Cert.S5Par.nD Cert.S5Par.τ Cert.S5Par.sig) → Buf (Elt Bits) ℓ) : Prop :=
  True

def Pre_S5ParIdeal (m : (ℓ : Loc Cert.S5ParIdeal.nD Cert.S5ParIdeal.τ Cert.S5ParIdeal.sig) → Buf (Elt Ideal) ℓ) : Prop :=
  True

def Pre_S5ParRefIdeal (m : (ℓ : Loc Cert.S5ParRefIdeal.nD Cert.S5ParRefIdeal.τ Cert.S5ParRefIdeal.sig) → Buf (Elt Ideal) ℓ) : Prop :=
  True

def Pre_S5ParBwd (m : (ℓ : Loc Cert.S5ParBwd.nD Cert.S5ParBwd.τ Cert.S5ParBwd.sig) → Buf (Elt Bits) ℓ) : Prop :=
  True

def Pre_S5ParBwdIdeal (m : (ℓ : Loc Cert.S5ParBwdIdeal.nD Cert.S5ParBwdIdeal.τ Cert.S5ParBwdIdeal.sig) → Buf (Elt Ideal) ℓ) : Prop :=
  True

def Pre_S5ParBwdRefIdeal (m : (ℓ : Loc Cert.S5ParBwdRefIdeal.nD Cert.S5ParBwdRefIdeal.τ Cert.S5ParBwdRefIdeal.sig) → Buf (Elt Ideal) ℓ) : Prop :=
  True

def Pre_AdamBr (m : (ℓ : Loc Cert.AdamBr.nD Cert.AdamBr.τ Cert.AdamBr.sig) → Buf (Elt Bits) ℓ) : Prop :=
  True

def Pre_AdamBrIdeal (m : (ℓ : Loc Cert.AdamBrIdeal.nD Cert.AdamBrIdeal.τ Cert.AdamBrIdeal.sig) → Buf (Elt Ideal) ℓ) : Prop :=
  True

def Pre_AdamBrRefIdeal (m : (ℓ : Loc Cert.AdamBrRefIdeal.nD Cert.AdamBrRefIdeal.τ Cert.AdamBrRefIdeal.sig) → Buf (Elt Ideal) ℓ) : Prop :=
  True

def quiescent_SgBwd [hSgBwd : Cert.SgBwd.Facts] : Prop :=
  ∀ (m : (ℓ : Loc Cert.SgBwd.nD Cert.SgBwd.τ Cert.SgBwd.sig) → Buf (Elt Bits) ℓ) (g : Dev Cert.SgBwd.nD → PrngReg), Pre_SgBwd m →
    θ_run (Cert.SgBwd.defs (F := Bits)) (onTc (τ := Cert.SgBwd.τ) (Cert.SgBwd.main (F := Bits))) ⟨m, fun _ => 0, g⟩ (fun r => (∀ c : Dev Cert.SgBwd.nD,
      r.2.mem ((c.tc : Thread Cert.SgBwd.nD Cert.SgBwd.τ).loc Cert.SgBwd.main_arg0) = m ((c.tc : Thread Cert.SgBwd.nD Cert.SgBwd.τ).loc Cert.SgBwd.main_arg0)
      ∧ r.2.mem ((c.tc : Thread Cert.SgBwd.nD Cert.SgBwd.τ).loc Cert.SgBwd.main_arg1) = m ((c.tc : Thread Cert.SgBwd.nD Cert.SgBwd.τ).loc Cert.SgBwd.main_arg1)
      ∧ r.2.mem ((c.tc : Thread Cert.SgBwd.nD Cert.SgBwd.τ).loc Cert.SgBwd.main_arg2) = m ((c.tc : Thread Cert.SgBwd.nD Cert.SgBwd.τ).loc Cert.SgBwd.main_arg2)
      ∧ r.2.mem ((c.tc : Thread Cert.SgBwd.nD Cert.SgBwd.τ).loc Cert.SgBwd.main_arg3) = m ((c.tc : Thread Cert.SgBwd.nD Cert.SgBwd.τ).loc Cert.SgBwd.main_arg3)
      ∧ r.2.mem ((c.tc : Thread Cert.SgBwd.nD Cert.SgBwd.τ).loc Cert.SgBwd.main_arg4) = m ((c.tc : Thread Cert.SgBwd.nD Cert.SgBwd.τ).loc Cert.SgBwd.main_arg4)
      ∧ r.2.mem ((c.tc : Thread Cert.SgBwd.nD Cert.SgBwd.τ).loc Cert.SgBwd.main_arg5) = m ((c.tc : Thread Cert.SgBwd.nD Cert.SgBwd.τ).loc Cert.SgBwd.main_arg5))
      ∧ r.2.sem = fun _ => 0)

def quiescent_SgBwdIdeal [hSgBwdIdeal : Cert.SgBwdIdeal.Facts] : Prop :=
  ∀ (m : (ℓ : Loc Cert.SgBwdIdeal.nD Cert.SgBwdIdeal.τ Cert.SgBwdIdeal.sig) → Buf (Elt Ideal) ℓ) (g : Dev Cert.SgBwdIdeal.nD → PrngReg), Pre_SgBwdIdeal m →
    θ_run (Cert.SgBwdIdeal.defs (F := Ideal)) (onTc (τ := Cert.SgBwdIdeal.τ) (Cert.SgBwdIdeal.main (F := Ideal))) ⟨m, fun _ => 0, g⟩ (fun r => (∀ c : Dev Cert.SgBwdIdeal.nD,
      r.2.mem ((c.tc : Thread Cert.SgBwdIdeal.nD Cert.SgBwdIdeal.τ).loc Cert.SgBwdIdeal.main_arg0) = m ((c.tc : Thread Cert.SgBwdIdeal.nD Cert.SgBwdIdeal.τ).loc Cert.SgBwdIdeal.main_arg0)
      ∧ r.2.mem ((c.tc : Thread Cert.SgBwdIdeal.nD Cert.SgBwdIdeal.τ).loc Cert.SgBwdIdeal.main_arg1) = m ((c.tc : Thread Cert.SgBwdIdeal.nD Cert.SgBwdIdeal.τ).loc Cert.SgBwdIdeal.main_arg1)
      ∧ r.2.mem ((c.tc : Thread Cert.SgBwdIdeal.nD Cert.SgBwdIdeal.τ).loc Cert.SgBwdIdeal.main_arg2) = m ((c.tc : Thread Cert.SgBwdIdeal.nD Cert.SgBwdIdeal.τ).loc Cert.SgBwdIdeal.main_arg2)
      ∧ r.2.mem ((c.tc : Thread Cert.SgBwdIdeal.nD Cert.SgBwdIdeal.τ).loc Cert.SgBwdIdeal.main_arg3) = m ((c.tc : Thread Cert.SgBwdIdeal.nD Cert.SgBwdIdeal.τ).loc Cert.SgBwdIdeal.main_arg3)
      ∧ r.2.mem ((c.tc : Thread Cert.SgBwdIdeal.nD Cert.SgBwdIdeal.τ).loc Cert.SgBwdIdeal.main_arg4) = m ((c.tc : Thread Cert.SgBwdIdeal.nD Cert.SgBwdIdeal.τ).loc Cert.SgBwdIdeal.main_arg4)
      ∧ r.2.mem ((c.tc : Thread Cert.SgBwdIdeal.nD Cert.SgBwdIdeal.τ).loc Cert.SgBwdIdeal.main_arg5) = m ((c.tc : Thread Cert.SgBwdIdeal.nD Cert.SgBwdIdeal.τ).loc Cert.SgBwdIdeal.main_arg5))
      ∧ r.2.sem = fun _ => 0)

def quiescent_SgRefIdeal [hSgRefIdeal : Cert.SgRefIdeal.Facts] : Prop :=
  ∀ (m : (ℓ : Loc Cert.SgRefIdeal.nD Cert.SgRefIdeal.τ Cert.SgRefIdeal.sig) → Buf (Elt Ideal) ℓ) (g : Dev Cert.SgRefIdeal.nD → PrngReg), Pre_SgRefIdeal m →
    θ_run (Cert.SgRefIdeal.defs (F := Ideal)) (onTc (τ := Cert.SgRefIdeal.τ) (Cert.SgRefIdeal.main (F := Ideal))) ⟨m, fun _ => 0, g⟩ (fun r => (∀ c : Dev Cert.SgRefIdeal.nD,
      r.2.mem ((c.tc : Thread Cert.SgRefIdeal.nD Cert.SgRefIdeal.τ).loc Cert.SgRefIdeal.main_arg0) = m ((c.tc : Thread Cert.SgRefIdeal.nD Cert.SgRefIdeal.τ).loc Cert.SgRefIdeal.main_arg0)
      ∧ r.2.mem ((c.tc : Thread Cert.SgRefIdeal.nD Cert.SgRefIdeal.τ).loc Cert.SgRefIdeal.main_arg1) = m ((c.tc : Thread Cert.SgRefIdeal.nD Cert.SgRefIdeal.τ).loc Cert.SgRefIdeal.main_arg1)
      ∧ r.2.mem ((c.tc : Thread Cert.SgRefIdeal.nD Cert.SgRefIdeal.τ).loc Cert.SgRefIdeal.main_arg2) = m ((c.tc : Thread Cert.SgRefIdeal.nD Cert.SgRefIdeal.τ).loc Cert.SgRefIdeal.main_arg2)
      ∧ r.2.mem ((c.tc : Thread Cert.SgRefIdeal.nD Cert.SgRefIdeal.τ).loc Cert.SgRefIdeal.main_arg3) = m ((c.tc : Thread Cert.SgRefIdeal.nD Cert.SgRefIdeal.τ).loc Cert.SgRefIdeal.main_arg3)
      ∧ r.2.mem ((c.tc : Thread Cert.SgRefIdeal.nD Cert.SgRefIdeal.τ).loc Cert.SgRefIdeal.main_arg4) = m ((c.tc : Thread Cert.SgRefIdeal.nD Cert.SgRefIdeal.τ).loc Cert.SgRefIdeal.main_arg4)
      ∧ r.2.mem ((c.tc : Thread Cert.SgRefIdeal.nD Cert.SgRefIdeal.τ).loc Cert.SgRefIdeal.main_arg5) = m ((c.tc : Thread Cert.SgRefIdeal.nD Cert.SgRefIdeal.τ).loc Cert.SgRefIdeal.main_arg5))
      ∧ r.2.sem = fun _ => 0)

def quiescent_DWin [hDWin : Cert.DWin.Facts] : Prop :=
  ∀ (m : (ℓ : Loc Cert.DWin.nD Cert.DWin.τ Cert.DWin.sig) → Buf (Elt Bits) ℓ) (g : Dev Cert.DWin.nD → PrngReg), Pre_DWin m →
    θ_run (Cert.DWin.defs (F := Bits)) (onTc (τ := Cert.DWin.τ) (Cert.DWin.main (F := Bits))) ⟨m, fun _ => 0, g⟩ (fun r => (∀ c : Dev Cert.DWin.nD,
      r.2.mem ((c.tc : Thread Cert.DWin.nD Cert.DWin.τ).loc Cert.DWin.main_arg0) = m ((c.tc : Thread Cert.DWin.nD Cert.DWin.τ).loc Cert.DWin.main_arg0)
      ∧ r.2.mem ((c.tc : Thread Cert.DWin.nD Cert.DWin.τ).loc Cert.DWin.main_arg1) = m ((c.tc : Thread Cert.DWin.nD Cert.DWin.τ).loc Cert.DWin.main_arg1))
      ∧ r.2.sem = fun _ => 0)

def quiescent_DWinIdeal [hDWinIdeal : Cert.DWinIdeal.Facts] : Prop :=
  ∀ (m : (ℓ : Loc Cert.DWinIdeal.nD Cert.DWinIdeal.τ Cert.DWinIdeal.sig) → Buf (Elt Ideal) ℓ) (g : Dev Cert.DWinIdeal.nD → PrngReg), Pre_DWinIdeal m →
    θ_run (Cert.DWinIdeal.defs (F := Ideal)) (onTc (τ := Cert.DWinIdeal.τ) (Cert.DWinIdeal.main (F := Ideal))) ⟨m, fun _ => 0, g⟩ (fun r => (∀ c : Dev Cert.DWinIdeal.nD,
      r.2.mem ((c.tc : Thread Cert.DWinIdeal.nD Cert.DWinIdeal.τ).loc Cert.DWinIdeal.main_arg0) = m ((c.tc : Thread Cert.DWinIdeal.nD Cert.DWinIdeal.τ).loc Cert.DWinIdeal.main_arg0)
      ∧ r.2.mem ((c.tc : Thread Cert.DWinIdeal.nD Cert.DWinIdeal.τ).loc Cert.DWinIdeal.main_arg1) = m ((c.tc : Thread Cert.DWinIdeal.nD Cert.DWinIdeal.τ).loc Cert.DWinIdeal.main_arg1))
      ∧ r.2.sem = fun _ => 0)

def quiescent_DWinRefIdeal [hDWinRefIdeal : Cert.DWinRefIdeal.Facts] : Prop :=
  ∀ (m : (ℓ : Loc Cert.DWinRefIdeal.nD Cert.DWinRefIdeal.τ Cert.DWinRefIdeal.sig) → Buf (Elt Ideal) ℓ) (g : Dev Cert.DWinRefIdeal.nD → PrngReg), Pre_DWinRefIdeal m →
    θ_run (Cert.DWinRefIdeal.defs (F := Ideal)) (onTc (τ := Cert.DWinRefIdeal.τ) (Cert.DWinRefIdeal.main (F := Ideal))) ⟨m, fun _ => 0, g⟩ (fun r => (∀ c : Dev Cert.DWinRefIdeal.nD,
      r.2.mem ((c.tc : Thread Cert.DWinRefIdeal.nD Cert.DWinRefIdeal.τ).loc Cert.DWinRefIdeal.main_arg0) = m ((c.tc : Thread Cert.DWinRefIdeal.nD Cert.DWinRefIdeal.τ).loc Cert.DWinRefIdeal.main_arg0)
      ∧ r.2.mem ((c.tc : Thread Cert.DWinRefIdeal.nD Cert.DWinRefIdeal.τ).loc Cert.DWinRefIdeal.main_arg1) = m ((c.tc : Thread Cert.DWinRefIdeal.nD Cert.DWinRefIdeal.τ).loc Cert.DWinRefIdeal.main_arg1))
      ∧ r.2.sem = fun _ => 0)

def quiescent_DH [hDH : Cert.DH.Facts] : Prop :=
  ∀ (m : (ℓ : Loc Cert.DH.nD Cert.DH.τ Cert.DH.sig) → Buf (Elt Bits) ℓ) (g : Dev Cert.DH.nD → PrngReg), Pre_DH m →
    θ_run (Cert.DH.defs (F := Bits)) (onTc (τ := Cert.DH.τ) (Cert.DH.main (F := Bits))) ⟨m, fun _ => 0, g⟩ (fun r => (∀ c : Dev Cert.DH.nD,
      r.2.mem ((c.tc : Thread Cert.DH.nD Cert.DH.τ).loc Cert.DH.main_arg0) = m ((c.tc : Thread Cert.DH.nD Cert.DH.τ).loc Cert.DH.main_arg0)
      ∧ r.2.mem ((c.tc : Thread Cert.DH.nD Cert.DH.τ).loc Cert.DH.main_arg1) = m ((c.tc : Thread Cert.DH.nD Cert.DH.τ).loc Cert.DH.main_arg1))
      ∧ r.2.sem = fun _ => 0)

def quiescent_DHIdeal [hDHIdeal : Cert.DHIdeal.Facts] : Prop :=
  ∀ (m : (ℓ : Loc Cert.DHIdeal.nD Cert.DHIdeal.τ Cert.DHIdeal.sig) → Buf (Elt Ideal) ℓ) (g : Dev Cert.DHIdeal.nD → PrngReg), Pre_DHIdeal m →
    θ_run (Cert.DHIdeal.defs (F := Ideal)) (onTc (τ := Cert.DHIdeal.τ) (Cert.DHIdeal.main (F := Ideal))) ⟨m, fun _ => 0, g⟩ (fun r => (∀ c : Dev Cert.DHIdeal.nD,
      r.2.mem ((c.tc : Thread Cert.DHIdeal.nD Cert.DHIdeal.τ).loc Cert.DHIdeal.main_arg0) = m ((c.tc : Thread Cert.DHIdeal.nD Cert.DHIdeal.τ).loc Cert.DHIdeal.main_arg0)
      ∧ r.2.mem ((c.tc : Thread Cert.DHIdeal.nD Cert.DHIdeal.τ).loc Cert.DHIdeal.main_arg1) = m ((c.tc : Thread Cert.DHIdeal.nD Cert.DHIdeal.τ).loc Cert.DHIdeal.main_arg1))
      ∧ r.2.sem = fun _ => 0)

def quiescent_DHRefIdeal [hDHRefIdeal : Cert.DHRefIdeal.Facts] : Prop :=
  ∀ (m : (ℓ : Loc Cert.DHRefIdeal.nD Cert.DHRefIdeal.τ Cert.DHRefIdeal.sig) → Buf (Elt Ideal) ℓ) (g : Dev Cert.DHRefIdeal.nD → PrngReg), Pre_DHRefIdeal m →
    θ_run (Cert.DHRefIdeal.defs (F := Ideal)) (onTc (τ := Cert.DHRefIdeal.τ) (Cert.DHRefIdeal.main (F := Ideal))) ⟨m, fun _ => 0, g⟩ (fun r => (∀ c : Dev Cert.DHRefIdeal.nD,
      r.2.mem ((c.tc : Thread Cert.DHRefIdeal.nD Cert.DHRefIdeal.τ).loc Cert.DHRefIdeal.main_arg0) = m ((c.tc : Thread Cert.DHRefIdeal.nD Cert.DHRefIdeal.τ).loc Cert.DHRefIdeal.main_arg0)
      ∧ r.2.mem ((c.tc : Thread Cert.DHRefIdeal.nD Cert.DHRefIdeal.τ).loc Cert.DHRefIdeal.main_arg1) = m ((c.tc : Thread Cert.DHRefIdeal.nD Cert.DHRefIdeal.τ).loc Cert.DHRefIdeal.main_arg1))
      ∧ r.2.sem = fun _ => 0)

def quiescent_DMerged [hDMerged : Cert.DMerged.Facts] : Prop :=
  ∀ (m : (ℓ : Loc Cert.DMerged.nD Cert.DMerged.τ Cert.DMerged.sig) → Buf (Elt Bits) ℓ) (g : Dev Cert.DMerged.nD → PrngReg), Pre_DMerged m →
    θ_run (Cert.DMerged.defs (F := Bits)) (onTc (τ := Cert.DMerged.τ) (Cert.DMerged.main (F := Bits))) ⟨m, fun _ => 0, g⟩ (fun r => (∀ c : Dev Cert.DMerged.nD,
      r.2.mem ((c.tc : Thread Cert.DMerged.nD Cert.DMerged.τ).loc Cert.DMerged.main_arg0) = m ((c.tc : Thread Cert.DMerged.nD Cert.DMerged.τ).loc Cert.DMerged.main_arg0)
      ∧ r.2.mem ((c.tc : Thread Cert.DMerged.nD Cert.DMerged.τ).loc Cert.DMerged.main_arg1) = m ((c.tc : Thread Cert.DMerged.nD Cert.DMerged.τ).loc Cert.DMerged.main_arg1))
      ∧ r.2.sem = fun _ => 0)

def quiescent_DMergedIdeal [hDMergedIdeal : Cert.DMergedIdeal.Facts] : Prop :=
  ∀ (m : (ℓ : Loc Cert.DMergedIdeal.nD Cert.DMergedIdeal.τ Cert.DMergedIdeal.sig) → Buf (Elt Ideal) ℓ) (g : Dev Cert.DMergedIdeal.nD → PrngReg), Pre_DMergedIdeal m →
    θ_run (Cert.DMergedIdeal.defs (F := Ideal)) (onTc (τ := Cert.DMergedIdeal.τ) (Cert.DMergedIdeal.main (F := Ideal))) ⟨m, fun _ => 0, g⟩ (fun r => (∀ c : Dev Cert.DMergedIdeal.nD,
      r.2.mem ((c.tc : Thread Cert.DMergedIdeal.nD Cert.DMergedIdeal.τ).loc Cert.DMergedIdeal.main_arg0) = m ((c.tc : Thread Cert.DMergedIdeal.nD Cert.DMergedIdeal.τ).loc Cert.DMergedIdeal.main_arg0)
      ∧ r.2.mem ((c.tc : Thread Cert.DMergedIdeal.nD Cert.DMergedIdeal.τ).loc Cert.DMergedIdeal.main_arg1) = m ((c.tc : Thread Cert.DMergedIdeal.nD Cert.DMergedIdeal.τ).loc Cert.DMergedIdeal.main_arg1))
      ∧ r.2.sem = fun _ => 0)

def quiescent_DMergedRefIdeal [hDMergedRefIdeal : Cert.DMergedRefIdeal.Facts] : Prop :=
  ∀ (m : (ℓ : Loc Cert.DMergedRefIdeal.nD Cert.DMergedRefIdeal.τ Cert.DMergedRefIdeal.sig) → Buf (Elt Ideal) ℓ) (g : Dev Cert.DMergedRefIdeal.nD → PrngReg), Pre_DMergedRefIdeal m →
    θ_run (Cert.DMergedRefIdeal.defs (F := Ideal)) (onTc (τ := Cert.DMergedRefIdeal.τ) (Cert.DMergedRefIdeal.main (F := Ideal))) ⟨m, fun _ => 0, g⟩ (fun r => (∀ c : Dev Cert.DMergedRefIdeal.nD,
      r.2.mem ((c.tc : Thread Cert.DMergedRefIdeal.nD Cert.DMergedRefIdeal.τ).loc Cert.DMergedRefIdeal.main_arg0) = m ((c.tc : Thread Cert.DMergedRefIdeal.nD Cert.DMergedRefIdeal.τ).loc Cert.DMergedRefIdeal.main_arg0)
      ∧ r.2.mem ((c.tc : Thread Cert.DMergedRefIdeal.nD Cert.DMergedRefIdeal.τ).loc Cert.DMergedRefIdeal.main_arg1) = m ((c.tc : Thread Cert.DMergedRefIdeal.nD Cert.DMergedRefIdeal.τ).loc Cert.DMergedRefIdeal.main_arg1))
      ∧ r.2.sem = fun _ => 0)

def quiescent_DWout [hDWout : Cert.DWout.Facts] : Prop :=
  ∀ (m : (ℓ : Loc Cert.DWout.nD Cert.DWout.τ Cert.DWout.sig) → Buf (Elt Bits) ℓ) (g : Dev Cert.DWout.nD → PrngReg), Pre_DWout m →
    θ_run (Cert.DWout.defs (F := Bits)) (onTc (τ := Cert.DWout.τ) (Cert.DWout.main (F := Bits))) ⟨m, fun _ => 0, g⟩ (fun r => (∀ c : Dev Cert.DWout.nD,
      r.2.mem ((c.tc : Thread Cert.DWout.nD Cert.DWout.τ).loc Cert.DWout.main_arg0) = m ((c.tc : Thread Cert.DWout.nD Cert.DWout.τ).loc Cert.DWout.main_arg0)
      ∧ r.2.mem ((c.tc : Thread Cert.DWout.nD Cert.DWout.τ).loc Cert.DWout.main_arg1) = m ((c.tc : Thread Cert.DWout.nD Cert.DWout.τ).loc Cert.DWout.main_arg1))
      ∧ r.2.sem = fun _ => 0)

def quiescent_DWoutIdeal [hDWoutIdeal : Cert.DWoutIdeal.Facts] : Prop :=
  ∀ (m : (ℓ : Loc Cert.DWoutIdeal.nD Cert.DWoutIdeal.τ Cert.DWoutIdeal.sig) → Buf (Elt Ideal) ℓ) (g : Dev Cert.DWoutIdeal.nD → PrngReg), Pre_DWoutIdeal m →
    θ_run (Cert.DWoutIdeal.defs (F := Ideal)) (onTc (τ := Cert.DWoutIdeal.τ) (Cert.DWoutIdeal.main (F := Ideal))) ⟨m, fun _ => 0, g⟩ (fun r => (∀ c : Dev Cert.DWoutIdeal.nD,
      r.2.mem ((c.tc : Thread Cert.DWoutIdeal.nD Cert.DWoutIdeal.τ).loc Cert.DWoutIdeal.main_arg0) = m ((c.tc : Thread Cert.DWoutIdeal.nD Cert.DWoutIdeal.τ).loc Cert.DWoutIdeal.main_arg0)
      ∧ r.2.mem ((c.tc : Thread Cert.DWoutIdeal.nD Cert.DWoutIdeal.τ).loc Cert.DWoutIdeal.main_arg1) = m ((c.tc : Thread Cert.DWoutIdeal.nD Cert.DWoutIdeal.τ).loc Cert.DWoutIdeal.main_arg1))
      ∧ r.2.sem = fun _ => 0)

def quiescent_DWoutRefIdeal [hDWoutRefIdeal : Cert.DWoutRefIdeal.Facts] : Prop :=
  ∀ (m : (ℓ : Loc Cert.DWoutRefIdeal.nD Cert.DWoutRefIdeal.τ Cert.DWoutRefIdeal.sig) → Buf (Elt Ideal) ℓ) (g : Dev Cert.DWoutRefIdeal.nD → PrngReg), Pre_DWoutRefIdeal m →
    θ_run (Cert.DWoutRefIdeal.defs (F := Ideal)) (onTc (τ := Cert.DWoutRefIdeal.τ) (Cert.DWoutRefIdeal.main (F := Ideal))) ⟨m, fun _ => 0, g⟩ (fun r => (∀ c : Dev Cert.DWoutRefIdeal.nD,
      r.2.mem ((c.tc : Thread Cert.DWoutRefIdeal.nD Cert.DWoutRefIdeal.τ).loc Cert.DWoutRefIdeal.main_arg0) = m ((c.tc : Thread Cert.DWoutRefIdeal.nD Cert.DWoutRefIdeal.τ).loc Cert.DWoutRefIdeal.main_arg0)
      ∧ r.2.mem ((c.tc : Thread Cert.DWoutRefIdeal.nD Cert.DWoutRefIdeal.τ).loc Cert.DWoutRefIdeal.main_arg1) = m ((c.tc : Thread Cert.DWoutRefIdeal.nD Cert.DWoutRefIdeal.τ).loc Cert.DWoutRefIdeal.main_arg1))
      ∧ r.2.sem = fun _ => 0)

def quiescent_DY [hDY : Cert.DY.Facts] : Prop :=
  ∀ (m : (ℓ : Loc Cert.DY.nD Cert.DY.τ Cert.DY.sig) → Buf (Elt Bits) ℓ) (g : Dev Cert.DY.nD → PrngReg), Pre_DY m →
    θ_run (Cert.DY.defs (F := Bits)) (onTc (τ := Cert.DY.τ) (Cert.DY.main (F := Bits))) ⟨m, fun _ => 0, g⟩ (fun r => (∀ c : Dev Cert.DY.nD,
      r.2.mem ((c.tc : Thread Cert.DY.nD Cert.DY.τ).loc Cert.DY.main_arg0) = m ((c.tc : Thread Cert.DY.nD Cert.DY.τ).loc Cert.DY.main_arg0)
      ∧ r.2.mem ((c.tc : Thread Cert.DY.nD Cert.DY.τ).loc Cert.DY.main_arg1) = m ((c.tc : Thread Cert.DY.nD Cert.DY.τ).loc Cert.DY.main_arg1))
      ∧ r.2.sem = fun _ => 0)

def quiescent_DYIdeal [hDYIdeal : Cert.DYIdeal.Facts] : Prop :=
  ∀ (m : (ℓ : Loc Cert.DYIdeal.nD Cert.DYIdeal.τ Cert.DYIdeal.sig) → Buf (Elt Ideal) ℓ) (g : Dev Cert.DYIdeal.nD → PrngReg), Pre_DYIdeal m →
    θ_run (Cert.DYIdeal.defs (F := Ideal)) (onTc (τ := Cert.DYIdeal.τ) (Cert.DYIdeal.main (F := Ideal))) ⟨m, fun _ => 0, g⟩ (fun r => (∀ c : Dev Cert.DYIdeal.nD,
      r.2.mem ((c.tc : Thread Cert.DYIdeal.nD Cert.DYIdeal.τ).loc Cert.DYIdeal.main_arg0) = m ((c.tc : Thread Cert.DYIdeal.nD Cert.DYIdeal.τ).loc Cert.DYIdeal.main_arg0)
      ∧ r.2.mem ((c.tc : Thread Cert.DYIdeal.nD Cert.DYIdeal.τ).loc Cert.DYIdeal.main_arg1) = m ((c.tc : Thread Cert.DYIdeal.nD Cert.DYIdeal.τ).loc Cert.DYIdeal.main_arg1))
      ∧ r.2.sem = fun _ => 0)

def quiescent_DYRefIdeal [hDYRefIdeal : Cert.DYRefIdeal.Facts] : Prop :=
  ∀ (m : (ℓ : Loc Cert.DYRefIdeal.nD Cert.DYRefIdeal.τ Cert.DYRefIdeal.sig) → Buf (Elt Ideal) ℓ) (g : Dev Cert.DYRefIdeal.nD → PrngReg), Pre_DYRefIdeal m →
    θ_run (Cert.DYRefIdeal.defs (F := Ideal)) (onTc (τ := Cert.DYRefIdeal.τ) (Cert.DYRefIdeal.main (F := Ideal))) ⟨m, fun _ => 0, g⟩ (fun r => (∀ c : Dev Cert.DYRefIdeal.nD,
      r.2.mem ((c.tc : Thread Cert.DYRefIdeal.nD Cert.DYRefIdeal.τ).loc Cert.DYRefIdeal.main_arg0) = m ((c.tc : Thread Cert.DYRefIdeal.nD Cert.DYRefIdeal.τ).loc Cert.DYRefIdeal.main_arg0)
      ∧ r.2.mem ((c.tc : Thread Cert.DYRefIdeal.nD Cert.DYRefIdeal.τ).loc Cert.DYRefIdeal.main_arg1) = m ((c.tc : Thread Cert.DYRefIdeal.nD Cert.DYRefIdeal.τ).loc Cert.DYRefIdeal.main_arg1))
      ∧ r.2.sem = fun _ => 0)

def quiescent_DWb [hDWb : Cert.DWb.Facts] : Prop :=
  ∀ (m : (ℓ : Loc Cert.DWb.nD Cert.DWb.τ Cert.DWb.sig) → Buf (Elt Bits) ℓ) (g : Dev Cert.DWb.nD → PrngReg), Pre_DWb m →
    θ_run (Cert.DWb.defs (F := Bits)) (onTc (τ := Cert.DWb.τ) (Cert.DWb.main (F := Bits))) ⟨m, fun _ => 0, g⟩ (fun r => (∀ c : Dev Cert.DWb.nD,
      r.2.mem ((c.tc : Thread Cert.DWb.nD Cert.DWb.τ).loc Cert.DWb.main_arg0) = m ((c.tc : Thread Cert.DWb.nD Cert.DWb.τ).loc Cert.DWb.main_arg0)
      ∧ r.2.mem ((c.tc : Thread Cert.DWb.nD Cert.DWb.τ).loc Cert.DWb.main_arg1) = m ((c.tc : Thread Cert.DWb.nD Cert.DWb.τ).loc Cert.DWb.main_arg1))
      ∧ r.2.sem = fun _ => 0)

def quiescent_DWbIdeal [hDWbIdeal : Cert.DWbIdeal.Facts] : Prop :=
  ∀ (m : (ℓ : Loc Cert.DWbIdeal.nD Cert.DWbIdeal.τ Cert.DWbIdeal.sig) → Buf (Elt Ideal) ℓ) (g : Dev Cert.DWbIdeal.nD → PrngReg), Pre_DWbIdeal m →
    θ_run (Cert.DWbIdeal.defs (F := Ideal)) (onTc (τ := Cert.DWbIdeal.τ) (Cert.DWbIdeal.main (F := Ideal))) ⟨m, fun _ => 0, g⟩ (fun r => (∀ c : Dev Cert.DWbIdeal.nD,
      r.2.mem ((c.tc : Thread Cert.DWbIdeal.nD Cert.DWbIdeal.τ).loc Cert.DWbIdeal.main_arg0) = m ((c.tc : Thread Cert.DWbIdeal.nD Cert.DWbIdeal.τ).loc Cert.DWbIdeal.main_arg0)
      ∧ r.2.mem ((c.tc : Thread Cert.DWbIdeal.nD Cert.DWbIdeal.τ).loc Cert.DWbIdeal.main_arg1) = m ((c.tc : Thread Cert.DWbIdeal.nD Cert.DWbIdeal.τ).loc Cert.DWbIdeal.main_arg1))
      ∧ r.2.sem = fun _ => 0)

def quiescent_DWbRefIdeal [hDWbRefIdeal : Cert.DWbRefIdeal.Facts] : Prop :=
  ∀ (m : (ℓ : Loc Cert.DWbRefIdeal.nD Cert.DWbRefIdeal.τ Cert.DWbRefIdeal.sig) → Buf (Elt Ideal) ℓ) (g : Dev Cert.DWbRefIdeal.nD → PrngReg), Pre_DWbRefIdeal m →
    θ_run (Cert.DWbRefIdeal.defs (F := Ideal)) (onTc (τ := Cert.DWbRefIdeal.τ) (Cert.DWbRefIdeal.main (F := Ideal))) ⟨m, fun _ => 0, g⟩ (fun r => (∀ c : Dev Cert.DWbRefIdeal.nD,
      r.2.mem ((c.tc : Thread Cert.DWbRefIdeal.nD Cert.DWbRefIdeal.τ).loc Cert.DWbRefIdeal.main_arg0) = m ((c.tc : Thread Cert.DWbRefIdeal.nD Cert.DWbRefIdeal.τ).loc Cert.DWbRefIdeal.main_arg0)
      ∧ r.2.mem ((c.tc : Thread Cert.DWbRefIdeal.nD Cert.DWbRefIdeal.τ).loc Cert.DWbRefIdeal.main_arg1) = m ((c.tc : Thread Cert.DWbRefIdeal.nD Cert.DWbRefIdeal.τ).loc Cert.DWbRefIdeal.main_arg1))
      ∧ r.2.sem = fun _ => 0)

def quiescent_Branch [hBranch : Cert.Branch.Facts] : Prop :=
  ∀ (m : (ℓ : Loc Cert.Branch.nD Cert.Branch.τ Cert.Branch.sig) → Buf (Elt Bits) ℓ) (g : Dev Cert.Branch.nD → PrngReg), Pre_Branch m →
    θ_run (Cert.Branch.defs (F := Bits)) (onTc (τ := Cert.Branch.τ) (Cert.Branch.main (F := Bits))) ⟨m, fun _ => 0, g⟩ (fun r => (∀ c : Dev Cert.Branch.nD,
      r.2.mem ((c.tc : Thread Cert.Branch.nD Cert.Branch.τ).loc Cert.Branch.main_arg0) = m ((c.tc : Thread Cert.Branch.nD Cert.Branch.τ).loc Cert.Branch.main_arg0)
      ∧ r.2.mem ((c.tc : Thread Cert.Branch.nD Cert.Branch.τ).loc Cert.Branch.main_arg1) = m ((c.tc : Thread Cert.Branch.nD Cert.Branch.τ).loc Cert.Branch.main_arg1))
      ∧ r.2.sem = fun _ => 0)

def quiescent_BranchIdeal [hBranchIdeal : Cert.BranchIdeal.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ r.2.sem = fun _ => 0)

def quiescent_BranchRefIdeal [hBranchRefIdeal : Cert.BranchRefIdeal.Facts] : Prop :=
  ∀ (m : (ℓ : Loc Cert.BranchRefIdeal.nD Cert.BranchRefIdeal.τ Cert.BranchRefIdeal.sig) → Buf (Elt Ideal) ℓ) (g : Dev Cert.BranchRefIdeal.nD → PrngReg), Pre_BranchRefIdeal m →
    θ_run (Cert.BranchRefIdeal.defs (F := Ideal)) (onTc (τ := Cert.BranchRefIdeal.τ) (Cert.BranchRefIdeal.main (F := Ideal))) ⟨m, fun _ => 0, g⟩ (fun r => (∀ c : Dev Cert.BranchRefIdeal.nD,
      r.2.mem ((c.tc : Thread Cert.BranchRefIdeal.nD Cert.BranchRefIdeal.τ).loc Cert.BranchRefIdeal.main_arg0) = m ((c.tc : Thread Cert.BranchRefIdeal.nD Cert.BranchRefIdeal.τ).loc Cert.BranchRefIdeal.main_arg0)
      ∧ r.2.mem ((c.tc : Thread Cert.BranchRefIdeal.nD Cert.BranchRefIdeal.τ).loc Cert.BranchRefIdeal.main_arg1) = m ((c.tc : Thread Cert.BranchRefIdeal.nD Cert.BranchRefIdeal.τ).loc Cert.BranchRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4))
      ∧ r.2.sem = fun _ => 0)

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsBwdRefIdeal [hRmsBwdRefIdeal : Cert.RmsBwdRefIdeal.Facts] : Prop :=
  ∀ (m : (ℓ : Loc Cert.RmsBwdRefIdeal.nD Cert.RmsBwdRefIdeal.τ Cert.RmsBwdRefIdeal.sig) → Buf (Elt Ideal) ℓ) (g : Dev Cert.RmsBwdRefIdeal.nD → PrngReg), Pre_RmsBwdRefIdeal m →
    θ_run (Cert.RmsBwdRefIdeal.defs (F := Ideal)) (onTc (τ := Cert.RmsBwdRefIdeal.τ) (Cert.RmsBwdRefIdeal.main (F := Ideal))) ⟨m, fun _ => 0, g⟩ (fun r => (∀ c : Dev Cert.RmsBwdRefIdeal.nD,
      r.2.mem ((c.tc : Thread Cert.RmsBwdRefIdeal.nD Cert.RmsBwdRefIdeal.τ).loc Cert.RmsBwdRefIdeal.main_arg0) = m ((c.tc : Thread Cert.RmsBwdRefIdeal.nD Cert.RmsBwdRefIdeal.τ).loc Cert.RmsBwdRefIdeal.main_arg0)
      ∧ r.2.mem ((c.tc : Thread Cert.RmsBwdRefIdeal.nD Cert.RmsBwdRefIdeal.τ).loc Cert.RmsBwdRefIdeal.main_arg1) = m ((c.tc : Thread Cert.RmsBwdRefIdeal.nD Cert.RmsBwdRefIdeal.τ).loc Cert.RmsBwdRefIdeal.main_arg1)
      ∧ r.2.mem ((c.tc : Thread Cert.RmsBwdRefIdeal.nD Cert.RmsBwdRefIdeal.τ).loc Cert.RmsBwdRefIdeal.main_arg2) = m ((c.tc : Thread Cert.RmsBwdRefIdeal.nD Cert.RmsBwdRefIdeal.τ).loc Cert.RmsBwdRefIdeal.main_arg2)
      ∧ r.2.mem ((c.tc : Thread Cert.RmsBwdRefIdeal.nD Cert.RmsBwdRefIdeal.τ).loc Cert.RmsBwdRefIdeal.main_arg3) = m ((c.tc : Thread Cert.RmsBwdRefIdeal.nD Cert.RmsBwdRefIdeal.τ).loc Cert.RmsBwdRefIdeal.main_arg3))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_GluBwd [hGluBwd : Cert.GluBwd.Facts] : Prop :=
  ∀ (m : (ℓ : Loc Cert.GluBwd.nD Cert.GluBwd.τ Cert.GluBwd.sig) → Buf (Elt Bits) ℓ) (g : Dev Cert.GluBwd.nD → PrngReg), Pre_GluBwd m →
    θ_run (Cert.GluBwd.defs (F := Bits)) (onTc (τ := Cert.GluBwd.τ) (Cert.GluBwd.main (F := Bits))) ⟨m, fun _ => 0, g⟩ (fun r => (∀ c : Dev Cert.GluBwd.nD,
      r.2.mem ((c.tc : Thread Cert.GluBwd.nD Cert.GluBwd.τ).loc Cert.GluBwd.main_arg0) = m ((c.tc : Thread Cert.GluBwd.nD Cert.GluBwd.τ).loc Cert.GluBwd.main_arg0)
      ∧ r.2.mem ((c.tc : Thread Cert.GluBwd.nD Cert.GluBwd.τ).loc Cert.GluBwd.main_arg1) = m ((c.tc : Thread Cert.GluBwd.nD Cert.GluBwd.τ).loc Cert.GluBwd.main_arg1)
      ∧ r.2.mem ((c.tc : Thread Cert.GluBwd.nD Cert.GluBwd.τ).loc Cert.GluBwd.main_arg2) = m ((c.tc : Thread Cert.GluBwd.nD Cert.GluBwd.τ).loc Cert.GluBwd.main_arg2)
      ∧ r.2.mem ((c.tc : Thread Cert.GluBwd.nD Cert.GluBwd.τ).loc Cert.GluBwd.main_arg3) = m ((c.tc : Thread Cert.GluBwd.nD Cert.GluBwd.τ).loc Cert.GluBwd.main_arg3)
      ∧ r.2.mem ((c.tc : Thread Cert.GluBwd.nD Cert.GluBwd.τ).loc Cert.GluBwd.main_arg4) = m ((c.tc : Thread Cert.GluBwd.nD Cert.GluBwd.τ).loc Cert.GluBwd.main_arg4))
      ∧ r.2.sem = fun _ => 0)

def quiescent_GluBwdIdeal [hGluBwdIdeal : Cert.GluBwdIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg), Pre_GluBwdIdeal m →
    θ_run (Cert.GluBwdIdeal.defs (F := Ideal)) (onTc (τ := Cert.GluBwdIdeal.τ) (Cert.GluBwdIdeal.main (F := Ideal))) ⟨m, fun _ => 0, g⟩ (fun r => (∀ c : Dev Cert.GluBwdIdeal.nD,
      r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
      ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1)
      ∧ r.2.mem ((c.tc : Thread Cert.GluBwdIdeal.nD Cert.GluBwdIdeal.τ).loc Cert.GluBwdIdeal.main_arg2) = m ((c.tc : Thread Cert.GluBwdIdeal.nD Cert.GluBwdIdeal.τ).loc Cert.GluBwdIdeal.main_arg2)
      ∧ r.2.mem ((c.tc : Thread Cert.GluBwdIdeal.nD Cert.GluBwdIdeal.τ).loc Cert.GluBwdIdeal.main_arg3) = m ((c.tc : Thread Cert.GluBwdIdeal.nD Cert.GluBwdIdeal.τ).loc Cert.GluBwdIdeal.main_arg3)
      ∧ r.2.mem ((c.tc : Thread Cert.GluBwdIdeal.nD Cert.GluBwdIdeal.τ).loc Cert.GluBwdIdeal.main_arg4) = m ((c.tc : Thread Cert.GluBwdIdeal.nD Cert.GluBwdIdeal.τ).loc Cert.GluBwdIdeal.main_arg4))
      ∧ r.2.sem = fun _ => 0)

def quiescent_GluBwdRefIdeal [hGluBwdRefIdeal : Cert.GluBwdRefIdeal.Facts] : Prop :=
  ∀ (m : (ℓ : Loc Cert.GluBwdRefIdeal.nD Cert.GluBwdRefIdeal.τ Cert.GluBwdRefIdeal.sig) → Buf (Elt Ideal) ℓ) (g : Dev Cert.GluBwdRefIdeal.nD → PrngReg), Pre_GluBwdRefIdeal m →
    θ_run (Cert.GluBwdRefIdeal.defs (F := Ideal)) (onTc (τ := Cert.GluBwdRefIdeal.τ) (Cert.GluBwdRefIdeal.main (F := Ideal))) ⟨m, fun _ => 0, g⟩ (fun r => (∀ c : Dev Cert.GluBwdRefIdeal.nD,
      r.2.mem ((c.tc : Thread Cert.GluBwdRefIdeal.nD Cert.GluBwdRefIdeal.τ).loc Cert.GluBwdRefIdeal.main_arg0) = m ((c.tc : Thread Cert.GluBwdRefIdeal.nD Cert.GluBwdRefIdeal.τ).loc Cert.GluBwdRefIdeal.main_arg0)
      ∧ r.2.mem ((c.tc : Thread Cert.GluBwdRefIdeal.nD Cert.GluBwdRefIdeal.τ).loc Cert.GluBwdRefIdeal.main_arg1) = m ((c.tc : Thread Cert.GluBwdRefIdeal.nD Cert.GluBwdRefIdeal.τ).loc Cert.GluBwdRefIdeal.main_arg1)
      ∧ r.2.mem ((c.tc : Thread Cert.GluBwdRefIdeal.nD Cert.GluBwdRefIdeal.τ).loc Cert.GluBwdRefIdeal.main_arg2) = m ((c.tc : Thread Cert.GluBwdRefIdeal.nD Cert.GluBwdRefIdeal.τ).loc Cert.GluBwdRefIdeal.main_arg2)
      ∧ r.2.mem ((c.tc : Thread Cert.GluBwdRefIdeal.nD Cert.GluBwdRefIdeal.τ).loc Cert.GluBwdRefIdeal.main_arg3) = m ((c.tc : Thread Cert.GluBwdRefIdeal.nD Cert.GluBwdRefIdeal.τ).loc Cert.GluBwdRefIdeal.main_arg3)
      ∧ r.2.mem ((c.tc : Thread Cert.GluBwdRefIdeal.nD Cert.GluBwdRefIdeal.τ).loc Cert.GluBwdRefIdeal.main_arg4) = m ((c.tc : Thread Cert.GluBwdRefIdeal.nD Cert.GluBwdRefIdeal.τ).loc Cert.GluBwdRefIdeal.main_arg4))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_GluFwd [hGluFwd : Cert.GluFwd.Facts] : Prop :=
  ∀ (m : (ℓ : Loc Cert.GluFwd.nD Cert.GluFwd.τ Cert.GluFwd.sig) → Buf (Elt Bits) ℓ) (g : Dev Cert.GluFwd.nD → PrngReg), Pre_GluFwd m →
    θ_run (Cert.GluFwd.defs (F := Bits)) (onTc (τ := Cert.GluFwd.τ) (Cert.GluFwd.main (F := Bits))) ⟨m, fun _ => 0, g⟩ (fun r => (∀ c : Dev Cert.GluFwd.nD,
      r.2.mem ((c.tc : Thread Cert.GluFwd.nD Cert.GluFwd.τ).loc Cert.GluFwd.main_arg0) = m ((c.tc : Thread Cert.GluFwd.nD Cert.GluFwd.τ).loc Cert.GluFwd.main_arg0)
      ∧ r.2.mem ((c.tc : Thread Cert.GluFwd.nD Cert.GluFwd.τ).loc Cert.GluFwd.main_arg1) = m ((c.tc : Thread Cert.GluFwd.nD Cert.GluFwd.τ).loc Cert.GluFwd.main_arg1)
      ∧ r.2.mem ((c.tc : Thread Cert.GluFwd.nD Cert.GluFwd.τ).loc Cert.GluFwd.main_arg2) = m ((c.tc : Thread Cert.GluFwd.nD Cert.GluFwd.τ).loc Cert.GluFwd.main_arg2)
      ∧ r.2.mem ((c.tc : Thread Cert.GluFwd.nD Cert.GluFwd.τ).loc Cert.GluFwd.main_arg3) = m ((c.tc : Thread Cert.GluFwd.nD Cert.GluFwd.τ).loc Cert.GluFwd.main_arg3))
      ∧ r.2.sem = fun _ => 0)

def quiescent_GluFwdIdeal [hGluFwdIdeal : Cert.GluFwdIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg), Pre_GluFwdIdeal m →
    θ_run (Cert.GluFwdIdeal.defs (F := Ideal)) (onTc (τ := Cert.GluFwdIdeal.τ) (Cert.GluFwdIdeal.main (F := Ideal))) ⟨m, fun _ => 0, g⟩ (fun r => (∀ c : Dev Cert.GluFwdIdeal.nD,
      r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
      ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1)
      ∧ r.2.mem ((c.tc : Thread Cert.GluFwdIdeal.nD Cert.GluFwdIdeal.τ).loc Cert.GluFwdIdeal.main_arg2) = m ((c.tc : Thread Cert.GluFwdIdeal.nD Cert.GluFwdIdeal.τ).loc Cert.GluFwdIdeal.main_arg2)
      ∧ r.2.mem ((c.tc : Thread Cert.GluFwdIdeal.nD Cert.GluFwdIdeal.τ).loc Cert.GluFwdIdeal.main_arg3) = m ((c.tc : Thread Cert.GluFwdIdeal.nD Cert.GluFwdIdeal.τ).loc Cert.GluFwdIdeal.main_arg3))
      ∧ r.2.sem = fun _ => 0)

def quiescent_GluFwdRefIdeal [hGluFwdRefIdeal : Cert.GluFwdRefIdeal.Facts] : Prop :=
  ∀ (m : (ℓ : Loc Cert.GluFwdRefIdeal.nD Cert.GluFwdRefIdeal.τ Cert.GluFwdRefIdeal.sig) → Buf (Elt Ideal) ℓ) (g : Dev Cert.GluFwdRefIdeal.nD → PrngReg), Pre_GluFwdRefIdeal m →
    θ_run (Cert.GluFwdRefIdeal.defs (F := Ideal)) (onTc (τ := Cert.GluFwdRefIdeal.τ) (Cert.GluFwdRefIdeal.main (F := Ideal))) ⟨m, fun _ => 0, g⟩ (fun r => (∀ c : Dev Cert.GluFwdRefIdeal.nD,
      r.2.mem ((c.tc : Thread Cert.GluFwdRefIdeal.nD Cert.GluFwdRefIdeal.τ).loc Cert.GluFwdRefIdeal.main_arg0) = m ((c.tc : Thread Cert.GluFwdRefIdeal.nD Cert.GluFwdRefIdeal.τ).loc Cert.GluFwdRefIdeal.main_arg0)
      ∧ r.2.mem ((c.tc : Thread Cert.GluFwdRefIdeal.nD Cert.GluFwdRefIdeal.τ).loc Cert.GluFwdRefIdeal.main_arg1) = m ((c.tc : Thread Cert.GluFwdRefIdeal.nD Cert.GluFwdRefIdeal.τ).loc Cert.GluFwdRefIdeal.main_arg1)
      ∧ r.2.mem ((c.tc : Thread Cert.GluFwdRefIdeal.nD Cert.GluFwdRefIdeal.τ).loc Cert.GluFwdRefIdeal.main_arg2) = m ((c.tc : Thread Cert.GluFwdRefIdeal.nD Cert.GluFwdRefIdeal.τ).loc Cert.GluFwdRefIdeal.main_arg2)
      ∧ r.2.mem ((c.tc : Thread Cert.GluFwdRefIdeal.nD Cert.GluFwdRefIdeal.τ).loc Cert.GluFwdRefIdeal.main_arg3) = m ((c.tc : Thread Cert.GluFwdRefIdeal.nD Cert.GluFwdRefIdeal.τ).loc Cert.GluFwdRefIdeal.main_arg3))
      ∧ r.2.sem = fun _ => 0)

def quiescent_InProj [hInProj : Cert.InProj.Facts] [hPre_every_tile_once : Cert.Pre_every_tile_once.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] [hPre_every_tile_once : Cert.Pre_every_tile_once.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_InProjRefIdeal_pre_every_tile_once [hInProjRefIdeal : Cert.InProjRefIdeal.Facts] [hPre_every_tile_once : Cert.Pre_every_tile_once.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal_every_tile_once m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_SgFwd [hSgFwd : Cert.SgFwd.Facts] : Prop :=
  ∀ (m : (ℓ : Loc Cert.SgFwd.nD Cert.SgFwd.τ Cert.SgFwd.sig) → Buf (Elt Bits) ℓ) (g : Dev Cert.SgFwd.nD → PrngReg), Pre_SgFwd m →
    θ_run (Cert.SgFwd.defs (F := Bits)) (onTc (τ := Cert.SgFwd.τ) (Cert.SgFwd.main (F := Bits))) ⟨m, fun _ => 0, g⟩ (fun r => (∀ c : Dev Cert.SgFwd.nD,
      r.2.mem ((c.tc : Thread Cert.SgFwd.nD Cert.SgFwd.τ).loc Cert.SgFwd.main_arg0) = m ((c.tc : Thread Cert.SgFwd.nD Cert.SgFwd.τ).loc Cert.SgFwd.main_arg0)
      ∧ r.2.mem ((c.tc : Thread Cert.SgFwd.nD Cert.SgFwd.τ).loc Cert.SgFwd.main_arg1) = m ((c.tc : Thread Cert.SgFwd.nD Cert.SgFwd.τ).loc Cert.SgFwd.main_arg1)
      ∧ r.2.mem ((c.tc : Thread Cert.SgFwd.nD Cert.SgFwd.τ).loc Cert.SgFwd.main_arg2) = m ((c.tc : Thread Cert.SgFwd.nD Cert.SgFwd.τ).loc Cert.SgFwd.main_arg2)
      ∧ r.2.mem ((c.tc : Thread Cert.SgFwd.nD Cert.SgFwd.τ).loc Cert.SgFwd.main_arg3) = m ((c.tc : Thread Cert.SgFwd.nD Cert.SgFwd.τ).loc Cert.SgFwd.main_arg3)
      ∧ r.2.mem ((c.tc : Thread Cert.SgFwd.nD Cert.SgFwd.τ).loc Cert.SgFwd.main_arg4) = m ((c.tc : Thread Cert.SgFwd.nD Cert.SgFwd.τ).loc Cert.SgFwd.main_arg4))
      ∧ r.2.sem = fun _ => 0)

def quiescent_SgFwdIdeal [hSgFwdIdeal : Cert.SgFwdIdeal.Facts] : Prop :=
  ∀ (m : (ℓ : Loc Cert.SgFwdIdeal.nD Cert.SgFwdIdeal.τ Cert.SgFwdIdeal.sig) → Buf (Elt Ideal) ℓ) (g : Dev Cert.SgFwdIdeal.nD → PrngReg), Pre_SgFwdIdeal m →
    θ_run (Cert.SgFwdIdeal.defs (F := Ideal)) (onTc (τ := Cert.SgFwdIdeal.τ) (Cert.SgFwdIdeal.main (F := Ideal))) ⟨m, fun _ => 0, g⟩ (fun r => (∀ c : Dev Cert.SgFwdIdeal.nD,
      r.2.mem ((c.tc : Thread Cert.SgFwdIdeal.nD Cert.SgFwdIdeal.τ).loc Cert.SgFwdIdeal.main_arg0) = m ((c.tc : Thread Cert.SgFwdIdeal.nD Cert.SgFwdIdeal.τ).loc Cert.SgFwdIdeal.main_arg0)
      ∧ r.2.mem ((c.tc : Thread Cert.SgFwdIdeal.nD Cert.SgFwdIdeal.τ).loc Cert.SgFwdIdeal.main_arg1) = m ((c.tc : Thread Cert.SgFwdIdeal.nD Cert.SgFwdIdeal.τ).loc Cert.SgFwdIdeal.main_arg1)
      ∧ r.2.mem ((c.tc : Thread Cert.SgFwdIdeal.nD Cert.SgFwdIdeal.τ).loc Cert.SgFwdIdeal.main_arg2) = m ((c.tc : Thread Cert.SgFwdIdeal.nD Cert.SgFwdIdeal.τ).loc Cert.SgFwdIdeal.main_arg2)
      ∧ r.2.mem ((c.tc : Thread Cert.SgFwdIdeal.nD Cert.SgFwdIdeal.τ).loc Cert.SgFwdIdeal.main_arg3) = m ((c.tc : Thread Cert.SgFwdIdeal.nD Cert.SgFwdIdeal.τ).loc Cert.SgFwdIdeal.main_arg3)
      ∧ r.2.mem ((c.tc : Thread Cert.SgFwdIdeal.nD Cert.SgFwdIdeal.τ).loc Cert.SgFwdIdeal.main_arg4) = m ((c.tc : Thread Cert.SgFwdIdeal.nD Cert.SgFwdIdeal.τ).loc Cert.SgFwdIdeal.main_arg4))
      ∧ r.2.sem = fun _ => 0)

def quiescent_SgFwdRefIdeal [hSgFwdRefIdeal : Cert.SgFwdRefIdeal.Facts] : Prop :=
  ∀ (m : (ℓ : Loc Cert.SgFwdRefIdeal.nD Cert.SgFwdRefIdeal.τ Cert.SgFwdRefIdeal.sig) → Buf (Elt Ideal) ℓ) (g : Dev Cert.SgFwdRefIdeal.nD → PrngReg), Pre_SgFwdRefIdeal m →
    θ_run (Cert.SgFwdRefIdeal.defs (F := Ideal)) (onTc (τ := Cert.SgFwdRefIdeal.τ) (Cert.SgFwdRefIdeal.main (F := Ideal))) ⟨m, fun _ => 0, g⟩ (fun r => (∀ c : Dev Cert.SgFwdRefIdeal.nD,
      r.2.mem ((c.tc : Thread Cert.SgFwdRefIdeal.nD Cert.SgFwdRefIdeal.τ).loc Cert.SgFwdRefIdeal.main_arg0) = m ((c.tc : Thread Cert.SgFwdRefIdeal.nD Cert.SgFwdRefIdeal.τ).loc Cert.SgFwdRefIdeal.main_arg0)
      ∧ r.2.mem ((c.tc : Thread Cert.SgFwdRefIdeal.nD Cert.SgFwdRefIdeal.τ).loc Cert.SgFwdRefIdeal.main_arg1) = m ((c.tc : Thread Cert.SgFwdRefIdeal.nD Cert.SgFwdRefIdeal.τ).loc Cert.SgFwdRefIdeal.main_arg1)
      ∧ r.2.mem ((c.tc : Thread Cert.SgFwdRefIdeal.nD Cert.SgFwdRefIdeal.τ).loc Cert.SgFwdRefIdeal.main_arg2) = m ((c.tc : Thread Cert.SgFwdRefIdeal.nD Cert.SgFwdRefIdeal.τ).loc Cert.SgFwdRefIdeal.main_arg2)
      ∧ r.2.mem ((c.tc : Thread Cert.SgFwdRefIdeal.nD Cert.SgFwdRefIdeal.τ).loc Cert.SgFwdRefIdeal.main_arg3) = m ((c.tc : Thread Cert.SgFwdRefIdeal.nD Cert.SgFwdRefIdeal.τ).loc Cert.SgFwdRefIdeal.main_arg3)
      ∧ r.2.mem ((c.tc : Thread Cert.SgFwdRefIdeal.nD Cert.SgFwdRefIdeal.τ).loc Cert.SgFwdRefIdeal.main_arg4) = m ((c.tc : Thread Cert.SgFwdRefIdeal.nD Cert.SgFwdRefIdeal.τ).loc Cert.SgFwdRefIdeal.main_arg4))
      ∧ r.2.sem = fun _ => 0)

def quiescent_AdamA [hAdamA : Cert.AdamA.Facts] : Prop :=
  ∀ (m : (ℓ : Loc Cert.AdamA.nD Cert.AdamA.τ Cert.AdamA.sig) → Buf (Elt Bits) ℓ) (g : Dev Cert.AdamA.nD → PrngReg), Pre_AdamA m →
    θ_run (Cert.AdamA.defs (F := Bits)) (onTc (τ := Cert.AdamA.τ) (Cert.AdamA.main (F := Bits))) ⟨m, fun _ => 0, g⟩ (fun r => (∀ c : Dev Cert.AdamA.nD,
      r.2.mem ((c.tc : Thread Cert.AdamA.nD Cert.AdamA.τ).loc Cert.AdamA.main_arg0) = m ((c.tc : Thread Cert.AdamA.nD Cert.AdamA.τ).loc Cert.AdamA.main_arg0)
      ∧ r.2.mem ((c.tc : Thread Cert.AdamA.nD Cert.AdamA.τ).loc Cert.AdamA.main_arg1) = m ((c.tc : Thread Cert.AdamA.nD Cert.AdamA.τ).loc Cert.AdamA.main_arg1)
      ∧ r.2.mem ((c.tc : Thread Cert.AdamA.nD Cert.AdamA.τ).loc Cert.AdamA.main_arg2) = m ((c.tc : Thread Cert.AdamA.nD Cert.AdamA.τ).loc Cert.AdamA.main_arg2)
      ∧ r.2.mem ((c.tc : Thread Cert.AdamA.nD Cert.AdamA.τ).loc Cert.AdamA.main_arg3) = m ((c.tc : Thread Cert.AdamA.nD Cert.AdamA.τ).loc Cert.AdamA.main_arg3))
      ∧ r.2.sem = fun _ => 0)

def quiescent_AdamAIdeal [hAdamAIdeal : Cert.AdamAIdeal.Facts] : Prop :=
  ∀ (m : (ℓ : Loc Cert.AdamAIdeal.nD Cert.AdamAIdeal.τ Cert.AdamAIdeal.sig) → Buf (Elt Ideal) ℓ) (g : Dev Cert.AdamAIdeal.nD → PrngReg), Pre_AdamAIdeal m →
    θ_run (Cert.AdamAIdeal.defs (F := Ideal)) (onTc (τ := Cert.AdamAIdeal.τ) (Cert.AdamAIdeal.main (F := Ideal))) ⟨m, fun _ => 0, g⟩ (fun r => (∀ c : Dev Cert.AdamAIdeal.nD,
      r.2.mem ((c.tc : Thread Cert.AdamAIdeal.nD Cert.AdamAIdeal.τ).loc Cert.AdamAIdeal.main_arg0) = m ((c.tc : Thread Cert.AdamAIdeal.nD Cert.AdamAIdeal.τ).loc Cert.AdamAIdeal.main_arg0)
      ∧ r.2.mem ((c.tc : Thread Cert.AdamAIdeal.nD Cert.AdamAIdeal.τ).loc Cert.AdamAIdeal.main_arg1) = m ((c.tc : Thread Cert.AdamAIdeal.nD Cert.AdamAIdeal.τ).loc Cert.AdamAIdeal.main_arg1)
      ∧ r.2.mem ((c.tc : Thread Cert.AdamAIdeal.nD Cert.AdamAIdeal.τ).loc Cert.AdamAIdeal.main_arg2) = m ((c.tc : Thread Cert.AdamAIdeal.nD Cert.AdamAIdeal.τ).loc Cert.AdamAIdeal.main_arg2)
      ∧ r.2.mem ((c.tc : Thread Cert.AdamAIdeal.nD Cert.AdamAIdeal.τ).loc Cert.AdamAIdeal.main_arg3) = m ((c.tc : Thread Cert.AdamAIdeal.nD Cert.AdamAIdeal.τ).loc Cert.AdamAIdeal.main_arg3))
      ∧ r.2.sem = fun _ => 0)

def quiescent_AdamARefIdeal [hAdamARefIdeal : Cert.AdamARefIdeal.Facts] : Prop :=
  ∀ (m : (ℓ : Loc Cert.AdamARefIdeal.nD Cert.AdamARefIdeal.τ Cert.AdamARefIdeal.sig) → Buf (Elt Ideal) ℓ) (g : Dev Cert.AdamARefIdeal.nD → PrngReg), Pre_AdamARefIdeal m →
    θ_run (Cert.AdamARefIdeal.defs (F := Ideal)) (onTc (τ := Cert.AdamARefIdeal.τ) (Cert.AdamARefIdeal.main (F := Ideal))) ⟨m, fun _ => 0, g⟩ (fun r => (∀ c : Dev Cert.AdamARefIdeal.nD,
      r.2.mem ((c.tc : Thread Cert.AdamARefIdeal.nD Cert.AdamARefIdeal.τ).loc Cert.AdamARefIdeal.main_arg0) = m ((c.tc : Thread Cert.AdamARefIdeal.nD Cert.AdamARefIdeal.τ).loc Cert.AdamARefIdeal.main_arg0)
      ∧ r.2.mem ((c.tc : Thread Cert.AdamARefIdeal.nD Cert.AdamARefIdeal.τ).loc Cert.AdamARefIdeal.main_arg1) = m ((c.tc : Thread Cert.AdamARefIdeal.nD Cert.AdamARefIdeal.τ).loc Cert.AdamARefIdeal.main_arg1)
      ∧ r.2.mem ((c.tc : Thread Cert.AdamARefIdeal.nD Cert.AdamARefIdeal.τ).loc Cert.AdamARefIdeal.main_arg2) = m ((c.tc : Thread Cert.AdamARefIdeal.nD Cert.AdamARefIdeal.τ).loc Cert.AdamARefIdeal.main_arg2)
      ∧ r.2.mem ((c.tc : Thread Cert.AdamARefIdeal.nD Cert.AdamARefIdeal.τ).loc Cert.AdamARefIdeal.main_arg3) = m ((c.tc : Thread Cert.AdamARefIdeal.nD Cert.AdamARefIdeal.τ).loc Cert.AdamARefIdeal.main_arg3))
      ∧ r.2.sem = fun _ => 0)

def quiescent_AdamC [hAdamC : Cert.AdamC.Facts] : Prop :=
  ∀ (m : (ℓ : Loc Cert.AdamC.nD Cert.AdamC.τ Cert.AdamC.sig) → Buf (Elt Bits) ℓ) (g : Dev Cert.AdamC.nD → PrngReg), Pre_AdamC m →
    θ_run (Cert.AdamC.defs (F := Bits)) (onTc (τ := Cert.AdamC.τ) (Cert.AdamC.main (F := Bits))) ⟨m, fun _ => 0, g⟩ (fun r => (∀ c : Dev Cert.AdamC.nD,
      r.2.mem ((c.tc : Thread Cert.AdamC.nD Cert.AdamC.τ).loc Cert.AdamC.main_arg0) = m ((c.tc : Thread Cert.AdamC.nD Cert.AdamC.τ).loc Cert.AdamC.main_arg0)
      ∧ r.2.mem ((c.tc : Thread Cert.AdamC.nD Cert.AdamC.τ).loc Cert.AdamC.main_arg1) = m ((c.tc : Thread Cert.AdamC.nD Cert.AdamC.τ).loc Cert.AdamC.main_arg1)
      ∧ r.2.mem ((c.tc : Thread Cert.AdamC.nD Cert.AdamC.τ).loc Cert.AdamC.main_arg2) = m ((c.tc : Thread Cert.AdamC.nD Cert.AdamC.τ).loc Cert.AdamC.main_arg2)
      ∧ r.2.mem ((c.tc : Thread Cert.AdamC.nD Cert.AdamC.τ).loc Cert.AdamC.main_arg3) = m ((c.tc : Thread Cert.AdamC.nD Cert.AdamC.τ).loc Cert.AdamC.main_arg3))
      ∧ r.2.sem = fun _ => 0)

def quiescent_AdamCIdeal [hAdamCIdeal : Cert.AdamCIdeal.Facts] : Prop :=
  ∀ (m : (ℓ : Loc Cert.AdamCIdeal.nD Cert.AdamCIdeal.τ Cert.AdamCIdeal.sig) → Buf (Elt Ideal) ℓ) (g : Dev Cert.AdamCIdeal.nD → PrngReg), Pre_AdamCIdeal m →
    θ_run (Cert.AdamCIdeal.defs (F := Ideal)) (onTc (τ := Cert.AdamCIdeal.τ) (Cert.AdamCIdeal.main (F := Ideal))) ⟨m, fun _ => 0, g⟩ (fun r => (∀ c : Dev Cert.AdamCIdeal.nD,
      r.2.mem ((c.tc : Thread Cert.AdamCIdeal.nD Cert.AdamCIdeal.τ).loc Cert.AdamCIdeal.main_arg0) = m ((c.tc : Thread Cert.AdamCIdeal.nD Cert.AdamCIdeal.τ).loc Cert.AdamCIdeal.main_arg0)
      ∧ r.2.mem ((c.tc : Thread Cert.AdamCIdeal.nD Cert.AdamCIdeal.τ).loc Cert.AdamCIdeal.main_arg1) = m ((c.tc : Thread Cert.AdamCIdeal.nD Cert.AdamCIdeal.τ).loc Cert.AdamCIdeal.main_arg1)
      ∧ r.2.mem ((c.tc : Thread Cert.AdamCIdeal.nD Cert.AdamCIdeal.τ).loc Cert.AdamCIdeal.main_arg2) = m ((c.tc : Thread Cert.AdamCIdeal.nD Cert.AdamCIdeal.τ).loc Cert.AdamCIdeal.main_arg2)
      ∧ r.2.mem ((c.tc : Thread Cert.AdamCIdeal.nD Cert.AdamCIdeal.τ).loc Cert.AdamCIdeal.main_arg3) = m ((c.tc : Thread Cert.AdamCIdeal.nD Cert.AdamCIdeal.τ).loc Cert.AdamCIdeal.main_arg3))
      ∧ r.2.sem = fun _ => 0)

def quiescent_AdamCRefIdeal [hAdamCRefIdeal : Cert.AdamCRefIdeal.Facts] : Prop :=
  ∀ (m : (ℓ : Loc Cert.AdamCRefIdeal.nD Cert.AdamCRefIdeal.τ Cert.AdamCRefIdeal.sig) → Buf (Elt Ideal) ℓ) (g : Dev Cert.AdamCRefIdeal.nD → PrngReg), Pre_AdamCRefIdeal m →
    θ_run (Cert.AdamCRefIdeal.defs (F := Ideal)) (onTc (τ := Cert.AdamCRefIdeal.τ) (Cert.AdamCRefIdeal.main (F := Ideal))) ⟨m, fun _ => 0, g⟩ (fun r => (∀ c : Dev Cert.AdamCRefIdeal.nD,
      r.2.mem ((c.tc : Thread Cert.AdamCRefIdeal.nD Cert.AdamCRefIdeal.τ).loc Cert.AdamCRefIdeal.main_arg0) = m ((c.tc : Thread Cert.AdamCRefIdeal.nD Cert.AdamCRefIdeal.τ).loc Cert.AdamCRefIdeal.main_arg0)
      ∧ r.2.mem ((c.tc : Thread Cert.AdamCRefIdeal.nD Cert.AdamCRefIdeal.τ).loc Cert.AdamCRefIdeal.main_arg1) = m ((c.tc : Thread Cert.AdamCRefIdeal.nD Cert.AdamCRefIdeal.τ).loc Cert.AdamCRefIdeal.main_arg1)
      ∧ r.2.mem ((c.tc : Thread Cert.AdamCRefIdeal.nD Cert.AdamCRefIdeal.τ).loc Cert.AdamCRefIdeal.main_arg2) = m ((c.tc : Thread Cert.AdamCRefIdeal.nD Cert.AdamCRefIdeal.τ).loc Cert.AdamCRefIdeal.main_arg2)
      ∧ r.2.mem ((c.tc : Thread Cert.AdamCRefIdeal.nD Cert.AdamCRefIdeal.τ).loc Cert.AdamCRefIdeal.main_arg3) = m ((c.tc : Thread Cert.AdamCRefIdeal.nD Cert.AdamCRefIdeal.τ).loc Cert.AdamCRefIdeal.main_arg3))
      ∧ r.2.sem = fun _ => 0)

def quiescent_AdamMix [hAdamMix : Cert.AdamMix.Facts] : Prop :=
  ∀ (m : (ℓ : Loc Cert.AdamMix.nD Cert.AdamMix.τ Cert.AdamMix.sig) → Buf (Elt Bits) ℓ) (g : Dev Cert.AdamMix.nD → PrngReg), Pre_AdamMix m →
    θ_run (Cert.AdamMix.defs (F := Bits)) (onTc (τ := Cert.AdamMix.τ) (Cert.AdamMix.main (F := Bits))) ⟨m, fun _ => 0, g⟩ (fun r => (∀ c : Dev Cert.AdamMix.nD,
      r.2.mem ((c.tc : Thread Cert.AdamMix.nD Cert.AdamMix.τ).loc Cert.AdamMix.main_arg0) = m ((c.tc : Thread Cert.AdamMix.nD Cert.AdamMix.τ).loc Cert.AdamMix.main_arg0)
      ∧ r.2.mem ((c.tc : Thread Cert.AdamMix.nD Cert.AdamMix.τ).loc Cert.AdamMix.main_arg1) = m ((c.tc : Thread Cert.AdamMix.nD Cert.AdamMix.τ).loc Cert.AdamMix.main_arg1)
      ∧ r.2.mem ((c.tc : Thread Cert.AdamMix.nD Cert.AdamMix.τ).loc Cert.AdamMix.main_arg2) = m ((c.tc : Thread Cert.AdamMix.nD Cert.AdamMix.τ).loc Cert.AdamMix.main_arg2)
      ∧ r.2.mem ((c.tc : Thread Cert.AdamMix.nD Cert.AdamMix.τ).loc Cert.AdamMix.main_arg3) = m ((c.tc : Thread Cert.AdamMix.nD Cert.AdamMix.τ).loc Cert.AdamMix.main_arg3))
      ∧ r.2.sem = fun _ => 0)

def quiescent_AdamMixIdeal [hAdamMixIdeal : Cert.AdamMixIdeal.Facts] : Prop :=
  ∀ (m : (ℓ : Loc Cert.AdamMixIdeal.nD Cert.AdamMixIdeal.τ Cert.AdamMixIdeal.sig) → Buf (Elt Ideal) ℓ) (g : Dev Cert.AdamMixIdeal.nD → PrngReg), Pre_AdamMixIdeal m →
    θ_run (Cert.AdamMixIdeal.defs (F := Ideal)) (onTc (τ := Cert.AdamMixIdeal.τ) (Cert.AdamMixIdeal.main (F := Ideal))) ⟨m, fun _ => 0, g⟩ (fun r => (∀ c : Dev Cert.AdamMixIdeal.nD,
      r.2.mem ((c.tc : Thread Cert.AdamMixIdeal.nD Cert.AdamMixIdeal.τ).loc Cert.AdamMixIdeal.main_arg0) = m ((c.tc : Thread Cert.AdamMixIdeal.nD Cert.AdamMixIdeal.τ).loc Cert.AdamMixIdeal.main_arg0)
      ∧ r.2.mem ((c.tc : Thread Cert.AdamMixIdeal.nD Cert.AdamMixIdeal.τ).loc Cert.AdamMixIdeal.main_arg1) = m ((c.tc : Thread Cert.AdamMixIdeal.nD Cert.AdamMixIdeal.τ).loc Cert.AdamMixIdeal.main_arg1)
      ∧ r.2.mem ((c.tc : Thread Cert.AdamMixIdeal.nD Cert.AdamMixIdeal.τ).loc Cert.AdamMixIdeal.main_arg2) = m ((c.tc : Thread Cert.AdamMixIdeal.nD Cert.AdamMixIdeal.τ).loc Cert.AdamMixIdeal.main_arg2)
      ∧ r.2.mem ((c.tc : Thread Cert.AdamMixIdeal.nD Cert.AdamMixIdeal.τ).loc Cert.AdamMixIdeal.main_arg3) = m ((c.tc : Thread Cert.AdamMixIdeal.nD Cert.AdamMixIdeal.τ).loc Cert.AdamMixIdeal.main_arg3))
      ∧ r.2.sem = fun _ => 0)

def quiescent_AdamMixRefIdeal [hAdamMixRefIdeal : Cert.AdamMixRefIdeal.Facts] : Prop :=
  ∀ (m : (ℓ : Loc Cert.AdamMixRefIdeal.nD Cert.AdamMixRefIdeal.τ Cert.AdamMixRefIdeal.sig) → Buf (Elt Ideal) ℓ) (g : Dev Cert.AdamMixRefIdeal.nD → PrngReg), Pre_AdamMixRefIdeal m →
    θ_run (Cert.AdamMixRefIdeal.defs (F := Ideal)) (onTc (τ := Cert.AdamMixRefIdeal.τ) (Cert.AdamMixRefIdeal.main (F := Ideal))) ⟨m, fun _ => 0, g⟩ (fun r => (∀ c : Dev Cert.AdamMixRefIdeal.nD,
      r.2.mem ((c.tc : Thread Cert.AdamMixRefIdeal.nD Cert.AdamMixRefIdeal.τ).loc Cert.AdamMixRefIdeal.main_arg0) = m ((c.tc : Thread Cert.AdamMixRefIdeal.nD Cert.AdamMixRefIdeal.τ).loc Cert.AdamMixRefIdeal.main_arg0)
      ∧ r.2.mem ((c.tc : Thread Cert.AdamMixRefIdeal.nD Cert.AdamMixRefIdeal.τ).loc Cert.AdamMixRefIdeal.main_arg1) = m ((c.tc : Thread Cert.AdamMixRefIdeal.nD Cert.AdamMixRefIdeal.τ).loc Cert.AdamMixRefIdeal.main_arg1)
      ∧ r.2.mem ((c.tc : Thread Cert.AdamMixRefIdeal.nD Cert.AdamMixRefIdeal.τ).loc Cert.AdamMixRefIdeal.main_arg2) = m ((c.tc : Thread Cert.AdamMixRefIdeal.nD Cert.AdamMixRefIdeal.τ).loc Cert.AdamMixRefIdeal.main_arg2)
      ∧ r.2.mem ((c.tc : Thread Cert.AdamMixRefIdeal.nD Cert.AdamMixRefIdeal.τ).loc Cert.AdamMixRefIdeal.main_arg3) = m ((c.tc : Thread Cert.AdamMixRefIdeal.nD Cert.AdamMixRefIdeal.τ).loc Cert.AdamMixRefIdeal.main_arg3))
      ∧ r.2.sem = fun _ => 0)

def quiescent_AdamVec [hAdamVec : Cert.AdamVec.Facts] : Prop :=
  ∀ (m : (ℓ : Loc Cert.AdamVec.nD Cert.AdamVec.τ Cert.AdamVec.sig) → Buf (Elt Bits) ℓ) (g : Dev Cert.AdamVec.nD → PrngReg), Pre_AdamVec m →
    θ_run (Cert.AdamVec.defs (F := Bits)) (onTc (τ := Cert.AdamVec.τ) (Cert.AdamVec.main (F := Bits))) ⟨m, fun _ => 0, g⟩ (fun r => (∀ c : Dev Cert.AdamVec.nD,
      r.2.mem ((c.tc : Thread Cert.AdamVec.nD Cert.AdamVec.τ).loc Cert.AdamVec.main_arg0) = m ((c.tc : Thread Cert.AdamVec.nD Cert.AdamVec.τ).loc Cert.AdamVec.main_arg0)
      ∧ r.2.mem ((c.tc : Thread Cert.AdamVec.nD Cert.AdamVec.τ).loc Cert.AdamVec.main_arg1) = m ((c.tc : Thread Cert.AdamVec.nD Cert.AdamVec.τ).loc Cert.AdamVec.main_arg1)
      ∧ r.2.mem ((c.tc : Thread Cert.AdamVec.nD Cert.AdamVec.τ).loc Cert.AdamVec.main_arg2) = m ((c.tc : Thread Cert.AdamVec.nD Cert.AdamVec.τ).loc Cert.AdamVec.main_arg2)
      ∧ r.2.mem ((c.tc : Thread Cert.AdamVec.nD Cert.AdamVec.τ).loc Cert.AdamVec.main_arg3) = m ((c.tc : Thread Cert.AdamVec.nD Cert.AdamVec.τ).loc Cert.AdamVec.main_arg3))
      ∧ r.2.sem = fun _ => 0)

def quiescent_AdamVecIdeal [hAdamVecIdeal : Cert.AdamVecIdeal.Facts] : Prop :=
  ∀ (m : (ℓ : Loc Cert.AdamVecIdeal.nD Cert.AdamVecIdeal.τ Cert.AdamVecIdeal.sig) → Buf (Elt Ideal) ℓ) (g : Dev Cert.AdamVecIdeal.nD → PrngReg), Pre_AdamVecIdeal m →
    θ_run (Cert.AdamVecIdeal.defs (F := Ideal)) (onTc (τ := Cert.AdamVecIdeal.τ) (Cert.AdamVecIdeal.main (F := Ideal))) ⟨m, fun _ => 0, g⟩ (fun r => (∀ c : Dev Cert.AdamVecIdeal.nD,
      r.2.mem ((c.tc : Thread Cert.AdamVecIdeal.nD Cert.AdamVecIdeal.τ).loc Cert.AdamVecIdeal.main_arg0) = m ((c.tc : Thread Cert.AdamVecIdeal.nD Cert.AdamVecIdeal.τ).loc Cert.AdamVecIdeal.main_arg0)
      ∧ r.2.mem ((c.tc : Thread Cert.AdamVecIdeal.nD Cert.AdamVecIdeal.τ).loc Cert.AdamVecIdeal.main_arg1) = m ((c.tc : Thread Cert.AdamVecIdeal.nD Cert.AdamVecIdeal.τ).loc Cert.AdamVecIdeal.main_arg1)
      ∧ r.2.mem ((c.tc : Thread Cert.AdamVecIdeal.nD Cert.AdamVecIdeal.τ).loc Cert.AdamVecIdeal.main_arg2) = m ((c.tc : Thread Cert.AdamVecIdeal.nD Cert.AdamVecIdeal.τ).loc Cert.AdamVecIdeal.main_arg2)
      ∧ r.2.mem ((c.tc : Thread Cert.AdamVecIdeal.nD Cert.AdamVecIdeal.τ).loc Cert.AdamVecIdeal.main_arg3) = m ((c.tc : Thread Cert.AdamVecIdeal.nD Cert.AdamVecIdeal.τ).loc Cert.AdamVecIdeal.main_arg3))
      ∧ r.2.sem = fun _ => 0)

def quiescent_AdamVecRefIdeal [hAdamVecRefIdeal : Cert.AdamVecRefIdeal.Facts] : Prop :=
  ∀ (m : (ℓ : Loc Cert.AdamVecRefIdeal.nD Cert.AdamVecRefIdeal.τ Cert.AdamVecRefIdeal.sig) → Buf (Elt Ideal) ℓ) (g : Dev Cert.AdamVecRefIdeal.nD → PrngReg), Pre_AdamVecRefIdeal m →
    θ_run (Cert.AdamVecRefIdeal.defs (F := Ideal)) (onTc (τ := Cert.AdamVecRefIdeal.τ) (Cert.AdamVecRefIdeal.main (F := Ideal))) ⟨m, fun _ => 0, g⟩ (fun r => (∀ c : Dev Cert.AdamVecRefIdeal.nD,
      r.2.mem ((c.tc : Thread Cert.AdamVecRefIdeal.nD Cert.AdamVecRefIdeal.τ).loc Cert.AdamVecRefIdeal.main_arg0) = m ((c.tc : Thread Cert.AdamVecRefIdeal.nD Cert.AdamVecRefIdeal.τ).loc Cert.AdamVecRefIdeal.main_arg0)
      ∧ r.2.mem ((c.tc : Thread Cert.AdamVecRefIdeal.nD Cert.AdamVecRefIdeal.τ).loc Cert.AdamVecRefIdeal.main_arg1) = m ((c.tc : Thread Cert.AdamVecRefIdeal.nD Cert.AdamVecRefIdeal.τ).loc Cert.AdamVecRefIdeal.main_arg1)
      ∧ r.2.mem ((c.tc : Thread Cert.AdamVecRefIdeal.nD Cert.AdamVecRefIdeal.τ).loc Cert.AdamVecRefIdeal.main_arg2) = m ((c.tc : Thread Cert.AdamVecRefIdeal.nD Cert.AdamVecRefIdeal.τ).loc Cert.AdamVecRefIdeal.main_arg2)
      ∧ r.2.mem ((c.tc : Thread Cert.AdamVecRefIdeal.nD Cert.AdamVecRefIdeal.τ).loc Cert.AdamVecRefIdeal.main_arg3) = m ((c.tc : Thread Cert.AdamVecRefIdeal.nD Cert.AdamVecRefIdeal.τ).loc Cert.AdamVecRefIdeal.main_arg3))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1))
      ∧ r.2.sem = fun _ => 0)

def quiescent_S5Par [hS5Par : Cert.S5Par.Facts] : Prop :=
  ∀ (m : (ℓ : Loc Cert.S5Par.nD Cert.S5Par.τ Cert.S5Par.sig) → Buf (Elt Bits) ℓ) (g : Dev Cert.S5Par.nD → PrngReg), Pre_S5Par m →
    θ_run (Cert.S5Par.defs (F := Bits)) (onTc (τ := Cert.S5Par.τ) (Cert.S5Par.main (F := Bits))) ⟨m, fun _ => 0, g⟩ (fun r => (∀ c : Dev Cert.S5Par.nD,
      r.2.mem ((c.tc : Thread Cert.S5Par.nD Cert.S5Par.τ).loc Cert.S5Par.main_arg0) = m ((c.tc : Thread Cert.S5Par.nD Cert.S5Par.τ).loc Cert.S5Par.main_arg0)
      ∧ r.2.mem ((c.tc : Thread Cert.S5Par.nD Cert.S5Par.τ).loc Cert.S5Par.main_arg1) = m ((c.tc : Thread Cert.S5Par.nD Cert.S5Par.τ).loc Cert.S5Par.main_arg1)
      ∧ r.2.mem ((c.tc : Thread Cert.S5Par.nD Cert.S5Par.τ).loc Cert.S5Par.main_arg2) = m ((c.tc : Thread Cert.S5Par.nD Cert.S5Par.τ).loc Cert.S5Par.main_arg2)
      ∧ r.2.mem ((c.tc : Thread Cert.S5Par.nD Cert.S5Par.τ).loc Cert.S5Par.main_arg3) = m ((c.tc : Thread Cert.S5Par.nD Cert.S5Par.τ).loc Cert.S5Par.main_arg3)
      ∧ r.2.mem ((c.tc : Thread Cert.S5Par.nD Cert.S5Par.τ).loc Cert.S5Par.main_arg4) = m ((c.tc : Thread Cert.S5Par.nD Cert.S5Par.τ).loc Cert.S5Par.main_arg4))
      ∧ r.2.sem = fun _ => 0)

def quiescent_S5ParIdeal [hS5ParIdeal : Cert.S5ParIdeal.Facts] : Prop :=
  ∀ (m : (ℓ : Loc Cert.S5ParIdeal.nD Cert.S5ParIdeal.τ Cert.S5ParIdeal.sig) → Buf (Elt Ideal) ℓ) (g : Dev Cert.S5ParIdeal.nD → PrngReg), Pre_S5ParIdeal m →
    θ_run (Cert.S5ParIdeal.defs (F := Ideal)) (onTc (τ := Cert.S5ParIdeal.τ) (Cert.S5ParIdeal.main (F := Ideal))) ⟨m, fun _ => 0, g⟩ (fun r => (∀ c : Dev Cert.S5ParIdeal.nD,
      r.2.mem ((c.tc : Thread Cert.S5ParIdeal.nD Cert.S5ParIdeal.τ).loc Cert.S5ParIdeal.main_arg0) = m ((c.tc : Thread Cert.S5ParIdeal.nD Cert.S5ParIdeal.τ).loc Cert.S5ParIdeal.main_arg0)
      ∧ r.2.mem ((c.tc : Thread Cert.S5ParIdeal.nD Cert.S5ParIdeal.τ).loc Cert.S5ParIdeal.main_arg1) = m ((c.tc : Thread Cert.S5ParIdeal.nD Cert.S5ParIdeal.τ).loc Cert.S5ParIdeal.main_arg1)
      ∧ r.2.mem ((c.tc : Thread Cert.S5ParIdeal.nD Cert.S5ParIdeal.τ).loc Cert.S5ParIdeal.main_arg2) = m ((c.tc : Thread Cert.S5ParIdeal.nD Cert.S5ParIdeal.τ).loc Cert.S5ParIdeal.main_arg2)
      ∧ r.2.mem ((c.tc : Thread Cert.S5ParIdeal.nD Cert.S5ParIdeal.τ).loc Cert.S5ParIdeal.main_arg3) = m ((c.tc : Thread Cert.S5ParIdeal.nD Cert.S5ParIdeal.τ).loc Cert.S5ParIdeal.main_arg3)
      ∧ r.2.mem ((c.tc : Thread Cert.S5ParIdeal.nD Cert.S5ParIdeal.τ).loc Cert.S5ParIdeal.main_arg4) = m ((c.tc : Thread Cert.S5ParIdeal.nD Cert.S5ParIdeal.τ).loc Cert.S5ParIdeal.main_arg4))
      ∧ r.2.sem = fun _ => 0)

def quiescent_S5ParRefIdeal [hS5ParRefIdeal : Cert.S5ParRefIdeal.Facts] : Prop :=
  ∀ (m : (ℓ : Loc Cert.S5ParRefIdeal.nD Cert.S5ParRefIdeal.τ Cert.S5ParRefIdeal.sig) → Buf (Elt Ideal) ℓ) (g : Dev Cert.S5ParRefIdeal.nD → PrngReg), Pre_S5ParRefIdeal m →
    θ_run (Cert.S5ParRefIdeal.defs (F := Ideal)) (onTc (τ := Cert.S5ParRefIdeal.τ) (Cert.S5ParRefIdeal.main (F := Ideal))) ⟨m, fun _ => 0, g⟩ (fun r => (∀ c : Dev Cert.S5ParRefIdeal.nD,
      r.2.mem ((c.tc : Thread Cert.S5ParRefIdeal.nD Cert.S5ParRefIdeal.τ).loc Cert.S5ParRefIdeal.main_arg0) = m ((c.tc : Thread Cert.S5ParRefIdeal.nD Cert.S5ParRefIdeal.τ).loc Cert.S5ParRefIdeal.main_arg0)
      ∧ r.2.mem ((c.tc : Thread Cert.S5ParRefIdeal.nD Cert.S5ParRefIdeal.τ).loc Cert.S5ParRefIdeal.main_arg1) = m ((c.tc : Thread Cert.S5ParRefIdeal.nD Cert.S5ParRefIdeal.τ).loc Cert.S5ParRefIdeal.main_arg1)
      ∧ r.2.mem ((c.tc : Thread Cert.S5ParRefIdeal.nD Cert.S5ParRefIdeal.τ).loc Cert.S5ParRefIdeal.main_arg2) = m ((c.tc : Thread Cert.S5ParRefIdeal.nD Cert.S5ParRefIdeal.τ).loc Cert.S5ParRefIdeal.main_arg2)
      ∧ r.2.mem ((c.tc : Thread Cert.S5ParRefIdeal.nD Cert.S5ParRefIdeal.τ).loc Cert.S5ParRefIdeal.main_arg3) = m ((c.tc : Thread Cert.S5ParRefIdeal.nD Cert.S5ParRefIdeal.τ).loc Cert.S5ParRefIdeal.main_arg3)
      ∧ r.2.mem ((c.tc : Thread Cert.S5ParRefIdeal.nD Cert.S5ParRefIdeal.τ).loc Cert.S5ParRefIdeal.main_arg4) = m ((c.tc : Thread Cert.S5ParRefIdeal.nD Cert.S5ParRefIdeal.τ).loc Cert.S5ParRefIdeal.main_arg4))
      ∧ r.2.sem = fun _ => 0)

def quiescent_S5ParBwd [hS5ParBwd : Cert.S5ParBwd.Facts] : Prop :=
  ∀ (m : (ℓ : Loc Cert.S5ParBwd.nD Cert.S5ParBwd.τ Cert.S5ParBwd.sig) → Buf (Elt Bits) ℓ) (g : Dev Cert.S5ParBwd.nD → PrngReg), Pre_S5ParBwd m →
    θ_run (Cert.S5ParBwd.defs (F := Bits)) (onTc (τ := Cert.S5ParBwd.τ) (Cert.S5ParBwd.main (F := Bits))) ⟨m, fun _ => 0, g⟩ (fun r => (∀ c : Dev Cert.S5ParBwd.nD,
      r.2.mem ((c.tc : Thread Cert.S5ParBwd.nD Cert.S5ParBwd.τ).loc Cert.S5ParBwd.main_arg0) = m ((c.tc : Thread Cert.S5ParBwd.nD Cert.S5ParBwd.τ).loc Cert.S5ParBwd.main_arg0)
      ∧ r.2.mem ((c.tc : Thread Cert.S5ParBwd.nD Cert.S5ParBwd.τ).loc Cert.S5ParBwd.main_arg1) = m ((c.tc : Thread Cert.S5ParBwd.nD Cert.S5ParBwd.τ).loc Cert.S5ParBwd.main_arg1)
      ∧ r.2.mem ((c.tc : Thread Cert.S5ParBwd.nD Cert.S5ParBwd.τ).loc Cert.S5ParBwd.main_arg2) = m ((c.tc : Thread Cert.S5ParBwd.nD Cert.S5ParBwd.τ).loc Cert.S5ParBwd.main_arg2)
      ∧ r.2.mem ((c.tc : Thread Cert.S5ParBwd.nD Cert.S5ParBwd.τ).loc Cert.S5ParBwd.main_arg3) = m ((c.tc : Thread Cert.S5ParBwd.nD Cert.S5ParBwd.τ).loc Cert.S5ParBwd.main_arg3)
      ∧ r.2.mem ((c.tc : Thread Cert.S5ParBwd.nD Cert.S5ParBwd.τ).loc Cert.S5ParBwd.main_arg4) = m ((c.tc : Thread Cert.S5ParBwd.nD Cert.S5ParBwd.τ).loc Cert.S5ParBwd.main_arg4)
      ∧ r.2.mem ((c.tc : Thread Cert.S5ParBwd.nD Cert.S5ParBwd.τ).loc Cert.S5ParBwd.main_arg5) = m ((c.tc : Thread Cert.S5ParBwd.nD Cert.S5ParBwd.τ).loc Cert.S5ParBwd.main_arg5)
      ∧ r.2.mem ((c.tc : Thread Cert.S5ParBwd.nD Cert.S5ParBwd.τ).loc Cert.S5ParBwd.main_arg6) = m ((c.tc : Thread Cert.S5ParBwd.nD Cert.S5ParBwd.τ).loc Cert.S5ParBwd.main_arg6)
      ∧ r.2.mem ((c.tc : Thread Cert.S5ParBwd.nD Cert.S5ParBwd.τ).loc Cert.S5ParBwd.main_arg7) = m ((c.tc : Thread Cert.S5ParBwd.nD Cert.S5ParBwd.τ).loc Cert.S5ParBwd.main_arg7)
      ∧ r.2.mem ((c.tc : Thread Cert.S5ParBwd.nD Cert.S5ParBwd.τ).loc Cert.S5ParBwd.main_arg8) = m ((c.tc : Thread Cert.S5ParBwd.nD Cert.S5ParBwd.τ).loc Cert.S5ParBwd.main_arg8))
      ∧ r.2.sem = fun _ => 0)

def quiescent_S5ParBwdIdeal [hS5ParBwdIdeal : Cert.S5ParBwdIdeal.Facts] : Prop :=
  ∀ (m : (ℓ : Loc Cert.S5ParBwdIdeal.nD Cert.S5ParBwdIdeal.τ Cert.S5ParBwdIdeal.sig) → Buf (Elt Ideal) ℓ) (g : Dev Cert.S5ParBwdIdeal.nD → PrngReg), Pre_S5ParBwdIdeal m →
    θ_run (Cert.S5ParBwdIdeal.defs (F := Ideal)) (onTc (τ := Cert.S5ParBwdIdeal.τ) (Cert.S5ParBwdIdeal.main (F := Ideal))) ⟨m, fun _ => 0, g⟩ (fun r => (∀ c : Dev Cert.S5ParBwdIdeal.nD,
      r.2.mem ((c.tc : Thread Cert.S5ParBwdIdeal.nD Cert.S5ParBwdIdeal.τ).loc Cert.S5ParBwdIdeal.main_arg0) = m ((c.tc : Thread Cert.S5ParBwdIdeal.nD Cert.S5ParBwdIdeal.τ).loc Cert.S5ParBwdIdeal.main_arg0)
      ∧ r.2.mem ((c.tc : Thread Cert.S5ParBwdIdeal.nD Cert.S5ParBwdIdeal.τ).loc Cert.S5ParBwdIdeal.main_arg1) = m ((c.tc : Thread Cert.S5ParBwdIdeal.nD Cert.S5ParBwdIdeal.τ).loc Cert.S5ParBwdIdeal.main_arg1)
      ∧ r.2.mem ((c.tc : Thread Cert.S5ParBwdIdeal.nD Cert.S5ParBwdIdeal.τ).loc Cert.S5ParBwdIdeal.main_arg2) = m ((c.tc : Thread Cert.S5ParBwdIdeal.nD Cert.S5ParBwdIdeal.τ).loc Cert.S5ParBwdIdeal.main_arg2)
      ∧ r.2.mem ((c.tc : Thread Cert.S5ParBwdIdeal.nD Cert.S5ParBwdIdeal.τ).loc Cert.S5ParBwdIdeal.main_arg3) = m ((c.tc : Thread Cert.S5ParBwdIdeal.nD Cert.S5ParBwdIdeal.τ).loc Cert.S5ParBwdIdeal.main_arg3)
      ∧ r.2.mem ((c.tc : Thread Cert.S5ParBwdIdeal.nD Cert.S5ParBwdIdeal.τ).loc Cert.S5ParBwdIdeal.main_arg4) = m ((c.tc : Thread Cert.S5ParBwdIdeal.nD Cert.S5ParBwdIdeal.τ).loc Cert.S5ParBwdIdeal.main_arg4)
      ∧ r.2.mem ((c.tc : Thread Cert.S5ParBwdIdeal.nD Cert.S5ParBwdIdeal.τ).loc Cert.S5ParBwdIdeal.main_arg5) = m ((c.tc : Thread Cert.S5ParBwdIdeal.nD Cert.S5ParBwdIdeal.τ).loc Cert.S5ParBwdIdeal.main_arg5)
      ∧ r.2.mem ((c.tc : Thread Cert.S5ParBwdIdeal.nD Cert.S5ParBwdIdeal.τ).loc Cert.S5ParBwdIdeal.main_arg6) = m ((c.tc : Thread Cert.S5ParBwdIdeal.nD Cert.S5ParBwdIdeal.τ).loc Cert.S5ParBwdIdeal.main_arg6)
      ∧ r.2.mem ((c.tc : Thread Cert.S5ParBwdIdeal.nD Cert.S5ParBwdIdeal.τ).loc Cert.S5ParBwdIdeal.main_arg7) = m ((c.tc : Thread Cert.S5ParBwdIdeal.nD Cert.S5ParBwdIdeal.τ).loc Cert.S5ParBwdIdeal.main_arg7)
      ∧ r.2.mem ((c.tc : Thread Cert.S5ParBwdIdeal.nD Cert.S5ParBwdIdeal.τ).loc Cert.S5ParBwdIdeal.main_arg8) = m ((c.tc : Thread Cert.S5ParBwdIdeal.nD Cert.S5ParBwdIdeal.τ).loc Cert.S5ParBwdIdeal.main_arg8))
      ∧ r.2.sem = fun _ => 0)

def quiescent_S5ParBwdRefIdeal [hS5ParBwdRefIdeal : Cert.S5ParBwdRefIdeal.Facts] : Prop :=
  ∀ (m : (ℓ : Loc Cert.S5ParBwdRefIdeal.nD Cert.S5ParBwdRefIdeal.τ Cert.S5ParBwdRefIdeal.sig) → Buf (Elt Ideal) ℓ) (g : Dev Cert.S5ParBwdRefIdeal.nD → PrngReg), Pre_S5ParBwdRefIdeal m →
    θ_run (Cert.S5ParBwdRefIdeal.defs (F := Ideal)) (onTc (τ := Cert.S5ParBwdRefIdeal.τ) (Cert.S5ParBwdRefIdeal.main (F := Ideal))) ⟨m, fun _ => 0, g⟩ (fun r => (∀ c : Dev Cert.S5ParBwdRefIdeal.nD,
      r.2.mem ((c.tc : Thread Cert.S5ParBwdRefIdeal.nD Cert.S5ParBwdRefIdeal.τ).loc Cert.S5ParBwdRefIdeal.main_arg0) = m ((c.tc : Thread Cert.S5ParBwdRefIdeal.nD Cert.S5ParBwdRefIdeal.τ).loc Cert.S5ParBwdRefIdeal.main_arg0)
      ∧ r.2.mem ((c.tc : Thread Cert.S5ParBwdRefIdeal.nD Cert.S5ParBwdRefIdeal.τ).loc Cert.S5ParBwdRefIdeal.main_arg1) = m ((c.tc : Thread Cert.S5ParBwdRefIdeal.nD Cert.S5ParBwdRefIdeal.τ).loc Cert.S5ParBwdRefIdeal.main_arg1)
      ∧ r.2.mem ((c.tc : Thread Cert.S5ParBwdRefIdeal.nD Cert.S5ParBwdRefIdeal.τ).loc Cert.S5ParBwdRefIdeal.main_arg2) = m ((c.tc : Thread Cert.S5ParBwdRefIdeal.nD Cert.S5ParBwdRefIdeal.τ).loc Cert.S5ParBwdRefIdeal.main_arg2)
      ∧ r.2.mem ((c.tc : Thread Cert.S5ParBwdRefIdeal.nD Cert.S5ParBwdRefIdeal.τ).loc Cert.S5ParBwdRefIdeal.main_arg3) = m ((c.tc : Thread Cert.S5ParBwdRefIdeal.nD Cert.S5ParBwdRefIdeal.τ).loc Cert.S5ParBwdRefIdeal.main_arg3)
      ∧ r.2.mem ((c.tc : Thread Cert.S5ParBwdRefIdeal.nD Cert.S5ParBwdRefIdeal.τ).loc Cert.S5ParBwdRefIdeal.main_arg4) = m ((c.tc : Thread Cert.S5ParBwdRefIdeal.nD Cert.S5ParBwdRefIdeal.τ).loc Cert.S5ParBwdRefIdeal.main_arg4)
      ∧ r.2.mem ((c.tc : Thread Cert.S5ParBwdRefIdeal.nD Cert.S5ParBwdRefIdeal.τ).loc Cert.S5ParBwdRefIdeal.main_arg5) = m ((c.tc : Thread Cert.S5ParBwdRefIdeal.nD Cert.S5ParBwdRefIdeal.τ).loc Cert.S5ParBwdRefIdeal.main_arg5)
      ∧ r.2.mem ((c.tc : Thread Cert.S5ParBwdRefIdeal.nD Cert.S5ParBwdRefIdeal.τ).loc Cert.S5ParBwdRefIdeal.main_arg6) = m ((c.tc : Thread Cert.S5ParBwdRefIdeal.nD Cert.S5ParBwdRefIdeal.τ).loc Cert.S5ParBwdRefIdeal.main_arg6)
      ∧ r.2.mem ((c.tc : Thread Cert.S5ParBwdRefIdeal.nD Cert.S5ParBwdRefIdeal.τ).loc Cert.S5ParBwdRefIdeal.main_arg7) = m ((c.tc : Thread Cert.S5ParBwdRefIdeal.nD Cert.S5ParBwdRefIdeal.τ).loc Cert.S5ParBwdRefIdeal.main_arg7)
      ∧ r.2.mem ((c.tc : Thread Cert.S5ParBwdRefIdeal.nD Cert.S5ParBwdRefIdeal.τ).loc Cert.S5ParBwdRefIdeal.main_arg8) = m ((c.tc : Thread Cert.S5ParBwdRefIdeal.nD Cert.S5ParBwdRefIdeal.τ).loc Cert.S5ParBwdRefIdeal.main_arg8))
      ∧ r.2.sem = fun _ => 0)

def quiescent_AdamBr [hAdamBr : Cert.AdamBr.Facts] : Prop :=
  ∀ (m : (ℓ : Loc Cert.AdamBr.nD Cert.AdamBr.τ Cert.AdamBr.sig) → Buf (Elt Bits) ℓ) (g : Dev Cert.AdamBr.nD → PrngReg), Pre_AdamBr m →
    θ_run (Cert.AdamBr.defs (F := Bits)) (onTc (τ := Cert.AdamBr.τ) (Cert.AdamBr.main (F := Bits))) ⟨m, fun _ => 0, g⟩ (fun r => (∀ c : Dev Cert.AdamBr.nD,
      r.2.mem ((c.tc : Thread Cert.AdamBr.nD Cert.AdamBr.τ).loc Cert.AdamBr.main_arg0) = m ((c.tc : Thread Cert.AdamBr.nD Cert.AdamBr.τ).loc Cert.AdamBr.main_arg0)
      ∧ r.2.mem ((c.tc : Thread Cert.AdamBr.nD Cert.AdamBr.τ).loc Cert.AdamBr.main_arg1) = m ((c.tc : Thread Cert.AdamBr.nD Cert.AdamBr.τ).loc Cert.AdamBr.main_arg1)
      ∧ r.2.mem ((c.tc : Thread Cert.AdamBr.nD Cert.AdamBr.τ).loc Cert.AdamBr.main_arg2) = m ((c.tc : Thread Cert.AdamBr.nD Cert.AdamBr.τ).loc Cert.AdamBr.main_arg2)
      ∧ r.2.mem ((c.tc : Thread Cert.AdamBr.nD Cert.AdamBr.τ).loc Cert.AdamBr.main_arg3) = m ((c.tc : Thread Cert.AdamBr.nD Cert.AdamBr.τ).loc Cert.AdamBr.main_arg3)
      ∧ r.2.mem ((c.tc : Thread Cert.AdamBr.nD Cert.AdamBr.τ).loc Cert.AdamBr.main_arg4) = m ((c.tc : Thread Cert.AdamBr.nD Cert.AdamBr.τ).loc Cert.AdamBr.main_arg4))
      ∧ r.2.sem = fun _ => 0)

def quiescent_AdamBrIdeal [hAdamBrIdeal : Cert.AdamBrIdeal.Facts] : Prop :=
  ∀ (m : (ℓ : Loc Cert.AdamBrIdeal.nD Cert.AdamBrIdeal.τ Cert.AdamBrIdeal.sig) → Buf (Elt Ideal) ℓ) (g : Dev Cert.AdamBrIdeal.nD → PrngReg), Pre_AdamBrIdeal m →
    θ_run (Cert.AdamBrIdeal.defs (F := Ideal)) (onTc (τ := Cert.AdamBrIdeal.τ) (Cert.AdamBrIdeal.main (F := Ideal))) ⟨m, fun _ => 0, g⟩ (fun r => (∀ c : Dev Cert.AdamBrIdeal.nD,
      r.2.mem ((c.tc : Thread Cert.AdamBrIdeal.nD Cert.AdamBrIdeal.τ).loc Cert.AdamBrIdeal.main_arg0) = m ((c.tc : Thread Cert.AdamBrIdeal.nD Cert.AdamBrIdeal.τ).loc Cert.AdamBrIdeal.main_arg0)
      ∧ r.2.mem ((c.tc : Thread Cert.AdamBrIdeal.nD Cert.AdamBrIdeal.τ).loc Cert.AdamBrIdeal.main_arg1) = m ((c.tc : Thread Cert.AdamBrIdeal.nD Cert.AdamBrIdeal.τ).loc Cert.AdamBrIdeal.main_arg1)
      ∧ r.2.mem ((c.tc : Thread Cert.AdamBrIdeal.nD Cert.AdamBrIdeal.τ).loc Cert.AdamBrIdeal.main_arg2) = m ((c.tc : Thread Cert.AdamBrIdeal.nD Cert.AdamBrIdeal.τ).loc Cert.AdamBrIdeal.main_arg2)
      ∧ r.2.mem ((c.tc : Thread Cert.AdamBrIdeal.nD Cert.AdamBrIdeal.τ).loc Cert.AdamBrIdeal.main_arg3) = m ((c.tc : Thread Cert.AdamBrIdeal.nD Cert.AdamBrIdeal.τ).loc Cert.AdamBrIdeal.main_arg3)
      ∧ r.2.mem ((c.tc : Thread Cert.AdamBrIdeal.nD Cert.AdamBrIdeal.τ).loc Cert.AdamBrIdeal.main_arg4) = m ((c.tc : Thread Cert.AdamBrIdeal.nD Cert.AdamBrIdeal.τ).loc Cert.AdamBrIdeal.main_arg4))
      ∧ r.2.sem = fun _ => 0)

def quiescent_AdamBrRefIdeal [hAdamBrRefIdeal : Cert.AdamBrRefIdeal.Facts] : Prop :=
  ∀ (m : (ℓ : Loc Cert.AdamBrRefIdeal.nD Cert.AdamBrRefIdeal.τ Cert.AdamBrRefIdeal.sig) → Buf (Elt Ideal) ℓ) (g : Dev Cert.AdamBrRefIdeal.nD → PrngReg), Pre_AdamBrRefIdeal m →
    θ_run (Cert.AdamBrRefIdeal.defs (F := Ideal)) (onTc (τ := Cert.AdamBrRefIdeal.τ) (Cert.AdamBrRefIdeal.main (F := Ideal))) ⟨m, fun _ => 0, g⟩ (fun r => (∀ c : Dev Cert.AdamBrRefIdeal.nD,
      r.2.mem ((c.tc : Thread Cert.AdamBrRefIdeal.nD Cert.AdamBrRefIdeal.τ).loc Cert.AdamBrRefIdeal.main_arg0) = m ((c.tc : Thread Cert.AdamBrRefIdeal.nD Cert.AdamBrRefIdeal.τ).loc Cert.AdamBrRefIdeal.main_arg0)
      ∧ r.2.mem ((c.tc : Thread Cert.AdamBrRefIdeal.nD Cert.AdamBrRefIdeal.τ).loc Cert.AdamBrRefIdeal.main_arg1) = m ((c.tc : Thread Cert.AdamBrRefIdeal.nD Cert.AdamBrRefIdeal.τ).loc Cert.AdamBrRefIdeal.main_arg1)
      ∧ r.2.mem ((c.tc : Thread Cert.AdamBrRefIdeal.nD Cert.AdamBrRefIdeal.τ).loc Cert.AdamBrRefIdeal.main_arg2) = m ((c.tc : Thread Cert.AdamBrRefIdeal.nD Cert.AdamBrRefIdeal.τ).loc Cert.AdamBrRefIdeal.main_arg2)
      ∧ r.2.mem ((c.tc : Thread Cert.AdamBrRefIdeal.nD Cert.AdamBrRefIdeal.τ).loc Cert.AdamBrRefIdeal.main_arg3) = m ((c.tc : Thread Cert.AdamBrRefIdeal.nD Cert.AdamBrRefIdeal.τ).loc Cert.AdamBrRefIdeal.main_arg3)
      ∧ r.2.mem ((c.tc : Thread Cert.AdamBrRefIdeal.nD Cert.AdamBrRefIdeal.τ).loc Cert.AdamBrRefIdeal.main_arg4) = m ((c.tc : Thread Cert.AdamBrRefIdeal.nD Cert.AdamBrRefIdeal.τ).loc Cert.AdamBrRefIdeal.main_arg4))
      ∧ r.2.sem = fun _ => 0)

def preserves_SgBwd_SgBwdIdeal : Prop :=
  True

def algebraic_SgBwdIdeal_SgRefIdeal [hSgBwdIdeal : Cert.SgBwdIdeal.Facts] [hSgRefIdeal : Cert.SgRefIdeal.Facts] : Prop :=
  ∀ (m : (ℓ : Loc Cert.SgBwdIdeal.nD Cert.SgBwdIdeal.τ Cert.SgBwdIdeal.sig) → Buf (Elt Ideal) ℓ) (g : Dev Cert.SgBwdIdeal.nD → PrngReg)
    (m' : (ℓ : Loc Cert.SgRefIdeal.nD Cert.SgRefIdeal.τ Cert.SgRefIdeal.sig) → Buf (Elt Ideal) ℓ) (g' : Dev Cert.SgRefIdeal.nD → PrngReg), Pre_SgBwdIdeal m →
    (∀ c : Dev Cert.SgBwdIdeal.nD,
      m' ((c.tc : Thread Cert.SgRefIdeal.nD Cert.SgRefIdeal.τ).loc Cert.SgRefIdeal.main_arg0) = m ((c.tc : Thread Cert.SgBwdIdeal.nD Cert.SgBwdIdeal.τ).loc Cert.SgBwdIdeal.main_arg0)
      ∧ m' ((c.tc : Thread Cert.SgRefIdeal.nD Cert.SgRefIdeal.τ).loc Cert.SgRefIdeal.main_arg1) = m ((c.tc : Thread Cert.SgBwdIdeal.nD Cert.SgBwdIdeal.τ).loc Cert.SgBwdIdeal.main_arg1)
      ∧ m' ((c.tc : Thread Cert.SgRefIdeal.nD Cert.SgRefIdeal.τ).loc Cert.SgRefIdeal.main_arg2) = m ((c.tc : Thread Cert.SgBwdIdeal.nD Cert.SgBwdIdeal.τ).loc Cert.SgBwdIdeal.main_arg2)
      ∧ m' ((c.tc : Thread Cert.SgRefIdeal.nD Cert.SgRefIdeal.τ).loc Cert.SgRefIdeal.main_arg3) = m ((c.tc : Thread Cert.SgBwdIdeal.nD Cert.SgBwdIdeal.τ).loc Cert.SgBwdIdeal.main_arg3)
      ∧ m' ((c.tc : Thread Cert.SgRefIdeal.nD Cert.SgRefIdeal.τ).loc Cert.SgRefIdeal.main_arg4) = m ((c.tc : Thread Cert.SgBwdIdeal.nD Cert.SgBwdIdeal.τ).loc Cert.SgBwdIdeal.main_arg4)
      ∧ m' ((c.tc : Thread Cert.SgRefIdeal.nD Cert.SgRefIdeal.τ).loc Cert.SgRefIdeal.main_arg5) = m ((c.tc : Thread Cert.SgBwdIdeal.nD Cert.SgBwdIdeal.τ).loc Cert.SgBwdIdeal.main_arg5)) →
    ∃ (v0 : (c : Dev Cert.SgBwdIdeal.nD) → Buf (Elt Ideal) ((c.tc : Thread Cert.SgBwdIdeal.nD Cert.SgBwdIdeal.τ).loc Cert.SgBwdIdeal.main_v3_0)) (v1 : (c : Dev Cert.SgBwdIdeal.nD) → Buf (Elt Ideal) ((c.tc : Thread Cert.SgBwdIdeal.nD Cert.SgBwdIdeal.τ).loc Cert.SgBwdIdeal.main_v3_1)) (v2 : (c : Dev Cert.SgBwdIdeal.nD) → Buf (Elt Ideal) ((c.tc : Thread Cert.SgBwdIdeal.nD Cert.SgBwdIdeal.τ).loc Cert.SgBwdIdeal.main_v3_2)) (v3 : (c : Dev Cert.SgBwdIdeal.nD) → Buf (Elt Ideal) ((c.tc : Thread Cert.SgBwdIdeal.nD Cert.SgBwdIdeal.τ).loc Cert.SgBwdIdeal.main_v3_3)) (v4 : (c : Dev Cert.SgBwdIdeal.nD) → Buf (Elt Ideal) ((c.tc : Thread Cert.SgBwdIdeal.nD Cert.SgBwdIdeal.τ).loc Cert.SgBwdIdeal.main_v3_4)) (v5 : (c : Dev Cert.SgBwdIdeal.nD) → Buf (Elt Ideal) ((c.tc : Thread Cert.SgBwdIdeal.nD Cert.SgBwdIdeal.τ).loc Cert.SgBwdIdeal.main_v3_5)) (v6 : (c : Dev Cert.SgBwdIdeal.nD) → Buf (Elt Ideal) ((c.tc : Thread Cert.SgBwdIdeal.nD Cert.SgBwdIdeal.τ).loc Cert.SgBwdIdeal.main_v3_6)),
      θ_run (Cert.SgBwdIdeal.defs (F := Ideal)) (onTc (τ := Cert.SgBwdIdeal.τ) (Cert.SgBwdIdeal.main (F := Ideal))) ⟨m, fun _ => 0, g⟩ (fun r => ∀ c : Dev Cert.SgBwdIdeal.nD,
          r.2.mem ((c.tc : Thread Cert.SgBwdIdeal.nD Cert.SgBwdIdeal.τ).loc Cert.SgBwdIdeal.main_v3_0) = v0 c
          ∧ r.2.mem ((c.tc : Thread Cert.SgBwdIdeal.nD Cert.SgBwdIdeal.τ).loc Cert.SgBwdIdeal.main_v3_1) = v1 c
          ∧ r.2.mem ((c.tc : Thread Cert.SgBwdIdeal.nD Cert.SgBwdIdeal.τ).loc Cert.SgBwdIdeal.main_v3_2) = v2 c
          ∧ r.2.mem ((c.tc : Thread Cert.SgBwdIdeal.nD Cert.SgBwdIdeal.τ).loc Cert.SgBwdIdeal.main_v3_3) = v3 c
          ∧ r.2.mem ((c.tc : Thread Cert.SgBwdIdeal.nD Cert.SgBwdIdeal.τ).loc Cert.SgBwdIdeal.main_v3_4) = v4 c
          ∧ r.2.mem ((c.tc : Thread Cert.SgBwdIdeal.nD Cert.SgBwdIdeal.τ).loc Cert.SgBwdIdeal.main_v3_5) = v5 c
          ∧ r.2.mem ((c.tc : Thread Cert.SgBwdIdeal.nD Cert.SgBwdIdeal.τ).loc Cert.SgBwdIdeal.main_v3_6) = v6 c
          ∧ r.2.mem ((c.tc : Thread Cert.SgBwdIdeal.nD Cert.SgBwdIdeal.τ).loc Cert.SgBwdIdeal.main_arg0) = m ((c.tc : Thread Cert.SgBwdIdeal.nD Cert.SgBwdIdeal.τ).loc Cert.SgBwdIdeal.main_arg0)
          ∧ r.2.mem ((c.tc : Thread Cert.SgBwdIdeal.nD Cert.SgBwdIdeal.τ).loc Cert.SgBwdIdeal.main_arg1) = m ((c.tc : Thread Cert.SgBwdIdeal.nD Cert.SgBwdIdeal.τ).loc Cert.SgBwdIdeal.main_arg1)
          ∧ r.2.mem ((c.tc : Thread Cert.SgBwdIdeal.nD Cert.SgBwdIdeal.τ).loc Cert.SgBwdIdeal.main_arg2) = m ((c.tc : Thread Cert.SgBwdIdeal.nD Cert.SgBwdIdeal.τ).loc Cert.SgBwdIdeal.main_arg2)
          ∧ r.2.mem ((c.tc : Thread Cert.SgBwdIdeal.nD Cert.SgBwdIdeal.τ).loc Cert.SgBwdIdeal.main_arg3) = m ((c.tc : Thread Cert.SgBwdIdeal.nD Cert.SgBwdIdeal.τ).loc Cert.SgBwdIdeal.main_arg3)
          ∧ r.2.mem ((c.tc : Thread Cert.SgBwdIdeal.nD Cert.SgBwdIdeal.τ).loc Cert.SgBwdIdeal.main_arg4) = m ((c.tc : Thread Cert.SgBwdIdeal.nD Cert.SgBwdIdeal.τ).loc Cert.SgBwdIdeal.main_arg4)
          ∧ r.2.mem ((c.tc : Thread Cert.SgBwdIdeal.nD Cert.SgBwdIdeal.τ).loc Cert.SgBwdIdeal.main_arg5) = m ((c.tc : Thread Cert.SgBwdIdeal.nD Cert.SgBwdIdeal.τ).loc Cert.SgBwdIdeal.main_arg5))
      ∧ θ_run (Cert.SgRefIdeal.defs (F := Ideal)) (onTc (τ := Cert.SgRefIdeal.τ) (Cert.SgRefIdeal.main (F := Ideal))) ⟨m', fun _ => 0, g'⟩ (fun r => ∀ c : Dev Cert.SgRefIdeal.nD,
          r.2.mem ((c.tc : Thread Cert.SgRefIdeal.nD Cert.SgRefIdeal.τ).loc Cert.SgRefIdeal.main_v168) = v0 c
          ∧ r.2.mem ((c.tc : Thread Cert.SgRefIdeal.nD Cert.SgRefIdeal.τ).loc Cert.SgRefIdeal.main_v169) = v1 c
          ∧ r.2.mem ((c.tc : Thread Cert.SgRefIdeal.nD Cert.SgRefIdeal.τ).loc Cert.SgRefIdeal.main_v170) = v2 c
          ∧ r.2.mem ((c.tc : Thread Cert.SgRefIdeal.nD Cert.SgRefIdeal.τ).loc Cert.SgRefIdeal.main_v171) = v3 c
          ∧ r.2.mem ((c.tc : Thread Cert.SgRefIdeal.nD Cert.SgRefIdeal.τ).loc Cert.SgRefIdeal.main_v172) = v4 c
          ∧ r.2.mem ((c.tc : Thread Cert.SgRefIdeal.nD Cert.SgRefIdeal.τ).loc Cert.SgRefIdeal.main_v109) = v5 c
          ∧ r.2.mem ((c.tc : Thread Cert.SgRefIdeal.nD Cert.SgRefIdeal.τ).loc Cert.SgRefIdeal.main_v173) = v6 c
          ∧ r.2.mem ((c.tc : Thread Cert.SgRefIdeal.nD Cert.SgRefIdeal.τ).loc Cert.SgRefIdeal.main_arg0) = m' ((c.tc : Thread Cert.SgRefIdeal.nD Cert.SgRefIdeal.τ).loc Cert.SgRefIdeal.main_arg0)
          ∧ r.2.mem ((c.tc : Thread Cert.SgRefIdeal.nD Cert.SgRefIdeal.τ).loc Cert.SgRefIdeal.main_arg1) = m' ((c.tc : Thread Cert.SgRefIdeal.nD Cert.SgRefIdeal.τ).loc Cert.SgRefIdeal.main_arg1)
          ∧ r.2.mem ((c.tc : Thread Cert.SgRefIdeal.nD Cert.SgRefIdeal.τ).loc Cert.SgRefIdeal.main_arg2) = m' ((c.tc : Thread Cert.SgRefIdeal.nD Cert.SgRefIdeal.τ).loc Cert.SgRefIdeal.main_arg2)
          ∧ r.2.mem ((c.tc : Thread Cert.SgRefIdeal.nD Cert.SgRefIdeal.τ).loc Cert.SgRefIdeal.main_arg3) = m' ((c.tc : Thread Cert.SgRefIdeal.nD Cert.SgRefIdeal.τ).loc Cert.SgRefIdeal.main_arg3)
          ∧ r.2.mem ((c.tc : Thread Cert.SgRefIdeal.nD Cert.SgRefIdeal.τ).loc Cert.SgRefIdeal.main_arg4) = m' ((c.tc : Thread Cert.SgRefIdeal.nD Cert.SgRefIdeal.τ).loc Cert.SgRefIdeal.main_arg4)
          ∧ r.2.mem ((c.tc : Thread Cert.SgRefIdeal.nD Cert.SgRefIdeal.τ).loc Cert.SgRefIdeal.main_arg5) = m' ((c.tc : Thread Cert.SgRefIdeal.nD Cert.SgRefIdeal.τ).loc Cert.SgRefIdeal.main_arg5))

def preserves_DWin_DWinIdeal : Prop :=
  True

def algebraic_DWinIdeal_DWinRefIdeal [hDWinIdeal : Cert.DWinIdeal.Facts] [hDWinRefIdeal : Cert.DWinRefIdeal.Facts] : Prop :=
  ∀ (m : (ℓ : Loc Cert.DWinIdeal.nD Cert.DWinIdeal.τ Cert.DWinIdeal.sig) → Buf (Elt Ideal) ℓ) (g : Dev Cert.DWinIdeal.nD → PrngReg)
    (m' : (ℓ : Loc Cert.DWinRefIdeal.nD Cert.DWinRefIdeal.τ Cert.DWinRefIdeal.sig) → Buf (Elt Ideal) ℓ) (g' : Dev Cert.DWinRefIdeal.nD → PrngReg), Pre_DWinIdeal m →
    (∀ c : Dev Cert.DWinIdeal.nD,
      m' ((c.tc : Thread Cert.DWinRefIdeal.nD Cert.DWinRefIdeal.τ).loc Cert.DWinRefIdeal.main_arg0) = m ((c.tc : Thread Cert.DWinIdeal.nD Cert.DWinIdeal.τ).loc Cert.DWinIdeal.main_arg0)
      ∧ m' ((c.tc : Thread Cert.DWinRefIdeal.nD Cert.DWinRefIdeal.τ).loc Cert.DWinRefIdeal.main_arg1) = m ((c.tc : Thread Cert.DWinIdeal.nD Cert.DWinIdeal.τ).loc Cert.DWinIdeal.main_arg1)) →
    ∃ (v0 : (c : Dev Cert.DWinIdeal.nD) → Buf (Elt Ideal) ((c.tc : Thread Cert.DWinIdeal.nD Cert.DWinIdeal.τ).loc Cert.DWinIdeal.main_v0)),
      θ_run (Cert.DWinIdeal.defs (F := Ideal)) (onTc (τ := Cert.DWinIdeal.τ) (Cert.DWinIdeal.main (F := Ideal))) ⟨m, fun _ => 0, g⟩ (fun r => ∀ c : Dev Cert.DWinIdeal.nD,
          r.2.mem ((c.tc : Thread Cert.DWinIdeal.nD Cert.DWinIdeal.τ).loc Cert.DWinIdeal.main_v0) = v0 c
          ∧ r.2.mem ((c.tc : Thread Cert.DWinIdeal.nD Cert.DWinIdeal.τ).loc Cert.DWinIdeal.main_arg0) = m ((c.tc : Thread Cert.DWinIdeal.nD Cert.DWinIdeal.τ).loc Cert.DWinIdeal.main_arg0)
          ∧ r.2.mem ((c.tc : Thread Cert.DWinIdeal.nD Cert.DWinIdeal.τ).loc Cert.DWinIdeal.main_arg1) = m ((c.tc : Thread Cert.DWinIdeal.nD Cert.DWinIdeal.τ).loc Cert.DWinIdeal.main_arg1))
      ∧ θ_run (Cert.DWinRefIdeal.defs (F := Ideal)) (onTc (τ := Cert.DWinRefIdeal.τ) (Cert.DWinRefIdeal.main (F := Ideal))) ⟨m', fun _ => 0, g'⟩ (fun r => ∀ c : Dev Cert.DWinRefIdeal.nD,
          r.2.mem ((c.tc : Thread Cert.DWinRefIdeal.nD Cert.DWinRefIdeal.τ).loc Cert.DWinRefIdeal.main_v7) = v0 c
          ∧ r.2.mem ((c.tc : Thread Cert.DWinRefIdeal.nD Cert.DWinRefIdeal.τ).loc Cert.DWinRefIdeal.main_arg0) = m' ((c.tc : Thread Cert.DWinRefIdeal.nD Cert.DWinRefIdeal.τ).loc Cert.DWinRefIdeal.main_arg0)
          ∧ r.2.mem ((c.tc : Thread Cert.DWinRefIdeal.nD Cert.DWinRefIdeal.τ).loc Cert.DWinRefIdeal.main_arg1) = m' ((c.tc : Thread Cert.DWinRefIdeal.nD Cert.DWinRefIdeal.τ).loc Cert.DWinRefIdeal.main_arg1))

def preserves_DH_DHIdeal : Prop :=
  True

def algebraic_DHIdeal_DHRefIdeal [hDHIdeal : Cert.DHIdeal.Facts] [hDHRefIdeal : Cert.DHRefIdeal.Facts] : Prop :=
  ∀ (m : (ℓ : Loc Cert.DHIdeal.nD Cert.DHIdeal.τ Cert.DHIdeal.sig) → Buf (Elt Ideal) ℓ) (g : Dev Cert.DHIdeal.nD → PrngReg)
    (m' : (ℓ : Loc Cert.DHRefIdeal.nD Cert.DHRefIdeal.τ Cert.DHRefIdeal.sig) → Buf (Elt Ideal) ℓ) (g' : Dev Cert.DHRefIdeal.nD → PrngReg), Pre_DHIdeal m →
    (∀ c : Dev Cert.DHIdeal.nD,
      m' ((c.tc : Thread Cert.DHRefIdeal.nD Cert.DHRefIdeal.τ).loc Cert.DHRefIdeal.main_arg0) = m ((c.tc : Thread Cert.DHIdeal.nD Cert.DHIdeal.τ).loc Cert.DHIdeal.main_arg0)
      ∧ m' ((c.tc : Thread Cert.DHRefIdeal.nD Cert.DHRefIdeal.τ).loc Cert.DHRefIdeal.main_arg1) = m ((c.tc : Thread Cert.DHIdeal.nD Cert.DHIdeal.τ).loc Cert.DHIdeal.main_arg1)) →
    ∃ (v0 : (c : Dev Cert.DHIdeal.nD) → Buf (Elt Ideal) ((c.tc : Thread Cert.DHIdeal.nD Cert.DHIdeal.τ).loc Cert.DHIdeal.main_v0)),
      θ_run (Cert.DHIdeal.defs (F := Ideal)) (onTc (τ := Cert.DHIdeal.τ) (Cert.DHIdeal.main (F := Ideal))) ⟨m, fun _ => 0, g⟩ (fun r => ∀ c : Dev Cert.DHIdeal.nD,
          r.2.mem ((c.tc : Thread Cert.DHIdeal.nD Cert.DHIdeal.τ).loc Cert.DHIdeal.main_v0) = v0 c
          ∧ r.2.mem ((c.tc : Thread Cert.DHIdeal.nD Cert.DHIdeal.τ).loc Cert.DHIdeal.main_arg0) = m ((c.tc : Thread Cert.DHIdeal.nD Cert.DHIdeal.τ).loc Cert.DHIdeal.main_arg0)
          ∧ r.2.mem ((c.tc : Thread Cert.DHIdeal.nD Cert.DHIdeal.τ).loc Cert.DHIdeal.main_arg1) = m ((c.tc : Thread Cert.DHIdeal.nD Cert.DHIdeal.τ).loc Cert.DHIdeal.main_arg1))
      ∧ θ_run (Cert.DHRefIdeal.defs (F := Ideal)) (onTc (τ := Cert.DHRefIdeal.τ) (Cert.DHRefIdeal.main (F := Ideal))) ⟨m', fun _ => 0, g'⟩ (fun r => ∀ c : Dev Cert.DHRefIdeal.nD,
          r.2.mem ((c.tc : Thread Cert.DHRefIdeal.nD Cert.DHRefIdeal.τ).loc Cert.DHRefIdeal.main_v5) = v0 c
          ∧ r.2.mem ((c.tc : Thread Cert.DHRefIdeal.nD Cert.DHRefIdeal.τ).loc Cert.DHRefIdeal.main_arg0) = m' ((c.tc : Thread Cert.DHRefIdeal.nD Cert.DHRefIdeal.τ).loc Cert.DHRefIdeal.main_arg0)
          ∧ r.2.mem ((c.tc : Thread Cert.DHRefIdeal.nD Cert.DHRefIdeal.τ).loc Cert.DHRefIdeal.main_arg1) = m' ((c.tc : Thread Cert.DHRefIdeal.nD Cert.DHRefIdeal.τ).loc Cert.DHRefIdeal.main_arg1))

def preserves_DMerged_DMergedIdeal : Prop :=
  True

def algebraic_DMergedIdeal_DMergedRefIdeal [hDMergedIdeal : Cert.DMergedIdeal.Facts] [hDMergedRefIdeal : Cert.DMergedRefIdeal.Facts] : Prop :=
  ∀ (m : (ℓ : Loc Cert.DMergedIdeal.nD Cert.DMergedIdeal.τ Cert.DMergedIdeal.sig) → Buf (Elt Ideal) ℓ) (g : Dev Cert.DMergedIdeal.nD → PrngReg)
    (m' : (ℓ : Loc Cert.DMergedRefIdeal.nD Cert.DMergedRefIdeal.τ Cert.DMergedRefIdeal.sig) → Buf (Elt Ideal) ℓ) (g' : Dev Cert.DMergedRefIdeal.nD → PrngReg), Pre_DMergedIdeal m →
    (∀ c : Dev Cert.DMergedIdeal.nD,
      m' ((c.tc : Thread Cert.DMergedRefIdeal.nD Cert.DMergedRefIdeal.τ).loc Cert.DMergedRefIdeal.main_arg0) = m ((c.tc : Thread Cert.DMergedIdeal.nD Cert.DMergedIdeal.τ).loc Cert.DMergedIdeal.main_arg0)
      ∧ m' ((c.tc : Thread Cert.DMergedRefIdeal.nD Cert.DMergedRefIdeal.τ).loc Cert.DMergedRefIdeal.main_arg1) = m ((c.tc : Thread Cert.DMergedIdeal.nD Cert.DMergedIdeal.τ).loc Cert.DMergedIdeal.main_arg1)) →
    ∃ (v0 : (c : Dev Cert.DMergedIdeal.nD) → Buf (Elt Ideal) ((c.tc : Thread Cert.DMergedIdeal.nD Cert.DMergedIdeal.τ).loc Cert.DMergedIdeal.main_v0)),
      θ_run (Cert.DMergedIdeal.defs (F := Ideal)) (onTc (τ := Cert.DMergedIdeal.τ) (Cert.DMergedIdeal.main (F := Ideal))) ⟨m, fun _ => 0, g⟩ (fun r => ∀ c : Dev Cert.DMergedIdeal.nD,
          r.2.mem ((c.tc : Thread Cert.DMergedIdeal.nD Cert.DMergedIdeal.τ).loc Cert.DMergedIdeal.main_v0) = v0 c
          ∧ r.2.mem ((c.tc : Thread Cert.DMergedIdeal.nD Cert.DMergedIdeal.τ).loc Cert.DMergedIdeal.main_arg0) = m ((c.tc : Thread Cert.DMergedIdeal.nD Cert.DMergedIdeal.τ).loc Cert.DMergedIdeal.main_arg0)
          ∧ r.2.mem ((c.tc : Thread Cert.DMergedIdeal.nD Cert.DMergedIdeal.τ).loc Cert.DMergedIdeal.main_arg1) = m ((c.tc : Thread Cert.DMergedIdeal.nD Cert.DMergedIdeal.τ).loc Cert.DMergedIdeal.main_arg1))
      ∧ θ_run (Cert.DMergedRefIdeal.defs (F := Ideal)) (onTc (τ := Cert.DMergedRefIdeal.τ) (Cert.DMergedRefIdeal.main (F := Ideal))) ⟨m', fun _ => 0, g'⟩ (fun r => ∀ c : Dev Cert.DMergedRefIdeal.nD,
          r.2.mem ((c.tc : Thread Cert.DMergedRefIdeal.nD Cert.DMergedRefIdeal.τ).loc Cert.DMergedRefIdeal.main_v4) = v0 c
          ∧ r.2.mem ((c.tc : Thread Cert.DMergedRefIdeal.nD Cert.DMergedRefIdeal.τ).loc Cert.DMergedRefIdeal.main_arg0) = m' ((c.tc : Thread Cert.DMergedRefIdeal.nD Cert.DMergedRefIdeal.τ).loc Cert.DMergedRefIdeal.main_arg0)
          ∧ r.2.mem ((c.tc : Thread Cert.DMergedRefIdeal.nD Cert.DMergedRefIdeal.τ).loc Cert.DMergedRefIdeal.main_arg1) = m' ((c.tc : Thread Cert.DMergedRefIdeal.nD Cert.DMergedRefIdeal.τ).loc Cert.DMergedRefIdeal.main_arg1))

def preserves_DWout_DWoutIdeal : Prop :=
  True

def algebraic_DWoutIdeal_DWoutRefIdeal [hDWoutIdeal : Cert.DWoutIdeal.Facts] [hDWoutRefIdeal : Cert.DWoutRefIdeal.Facts] : Prop :=
  ∀ (m : (ℓ : Loc Cert.DWoutIdeal.nD Cert.DWoutIdeal.τ Cert.DWoutIdeal.sig) → Buf (Elt Ideal) ℓ) (g : Dev Cert.DWoutIdeal.nD → PrngReg)
    (m' : (ℓ : Loc Cert.DWoutRefIdeal.nD Cert.DWoutRefIdeal.τ Cert.DWoutRefIdeal.sig) → Buf (Elt Ideal) ℓ) (g' : Dev Cert.DWoutRefIdeal.nD → PrngReg), Pre_DWoutIdeal m →
    (∀ c : Dev Cert.DWoutIdeal.nD,
      m' ((c.tc : Thread Cert.DWoutRefIdeal.nD Cert.DWoutRefIdeal.τ).loc Cert.DWoutRefIdeal.main_arg0) = m ((c.tc : Thread Cert.DWoutIdeal.nD Cert.DWoutIdeal.τ).loc Cert.DWoutIdeal.main_arg0)
      ∧ m' ((c.tc : Thread Cert.DWoutRefIdeal.nD Cert.DWoutRefIdeal.τ).loc Cert.DWoutRefIdeal.main_arg1) = m ((c.tc : Thread Cert.DWoutIdeal.nD Cert.DWoutIdeal.τ).loc Cert.DWoutIdeal.main_arg1)) →
    ∃ (v0 : (c : Dev Cert.DWoutIdeal.nD) → Buf (Elt Ideal) ((c.tc : Thread Cert.DWoutIdeal.nD Cert.DWoutIdeal.τ).loc Cert.DWoutIdeal.main_v0)),
      θ_run (Cert.DWoutIdeal.defs (F := Ideal)) (onTc (τ := Cert.DWoutIdeal.τ) (Cert.DWoutIdeal.main (F := Ideal))) ⟨m, fun _ => 0, g⟩ (fun r => ∀ c : Dev Cert.DWoutIdeal.nD,
          r.2.mem ((c.tc : Thread Cert.DWoutIdeal.nD Cert.DWoutIdeal.τ).loc Cert.DWoutIdeal.main_v0) = v0 c
          ∧ r.2.mem ((c.tc : Thread Cert.DWoutIdeal.nD Cert.DWoutIdeal.τ).loc Cert.DWoutIdeal.main_arg0) = m ((c.tc : Thread Cert.DWoutIdeal.nD Cert.DWoutIdeal.τ).loc Cert.DWoutIdeal.main_arg0)
          ∧ r.2.mem ((c.tc : Thread Cert.DWoutIdeal.nD Cert.DWoutIdeal.τ).loc Cert.DWoutIdeal.main_arg1) = m ((c.tc : Thread Cert.DWoutIdeal.nD Cert.DWoutIdeal.τ).loc Cert.DWoutIdeal.main_arg1))
      ∧ θ_run (Cert.DWoutRefIdeal.defs (F := Ideal)) (onTc (τ := Cert.DWoutRefIdeal.τ) (Cert.DWoutRefIdeal.main (F := Ideal))) ⟨m', fun _ => 0, g'⟩ (fun r => ∀ c : Dev Cert.DWoutRefIdeal.nD,
          r.2.mem ((c.tc : Thread Cert.DWoutRefIdeal.nD Cert.DWoutRefIdeal.τ).loc Cert.DWoutRefIdeal.main_v5) = v0 c
          ∧ r.2.mem ((c.tc : Thread Cert.DWoutRefIdeal.nD Cert.DWoutRefIdeal.τ).loc Cert.DWoutRefIdeal.main_arg0) = m' ((c.tc : Thread Cert.DWoutRefIdeal.nD Cert.DWoutRefIdeal.τ).loc Cert.DWoutRefIdeal.main_arg0)
          ∧ r.2.mem ((c.tc : Thread Cert.DWoutRefIdeal.nD Cert.DWoutRefIdeal.τ).loc Cert.DWoutRefIdeal.main_arg1) = m' ((c.tc : Thread Cert.DWoutRefIdeal.nD Cert.DWoutRefIdeal.τ).loc Cert.DWoutRefIdeal.main_arg1))

def preserves_DY_DYIdeal : Prop :=
  True

def algebraic_DYIdeal_DYRefIdeal [hDYIdeal : Cert.DYIdeal.Facts] [hDYRefIdeal : Cert.DYRefIdeal.Facts] : Prop :=
  ∀ (m : (ℓ : Loc Cert.DYIdeal.nD Cert.DYIdeal.τ Cert.DYIdeal.sig) → Buf (Elt Ideal) ℓ) (g : Dev Cert.DYIdeal.nD → PrngReg)
    (m' : (ℓ : Loc Cert.DYRefIdeal.nD Cert.DYRefIdeal.τ Cert.DYRefIdeal.sig) → Buf (Elt Ideal) ℓ) (g' : Dev Cert.DYRefIdeal.nD → PrngReg), Pre_DYIdeal m →
    (∀ c : Dev Cert.DYIdeal.nD,
      m' ((c.tc : Thread Cert.DYRefIdeal.nD Cert.DYRefIdeal.τ).loc Cert.DYRefIdeal.main_arg0) = m ((c.tc : Thread Cert.DYIdeal.nD Cert.DYIdeal.τ).loc Cert.DYIdeal.main_arg0)
      ∧ m' ((c.tc : Thread Cert.DYRefIdeal.nD Cert.DYRefIdeal.τ).loc Cert.DYRefIdeal.main_arg1) = m ((c.tc : Thread Cert.DYIdeal.nD Cert.DYIdeal.τ).loc Cert.DYIdeal.main_arg1)) →
    ∃ (v0 : (c : Dev Cert.DYIdeal.nD) → Buf (Elt Ideal) ((c.tc : Thread Cert.DYIdeal.nD Cert.DYIdeal.τ).loc Cert.DYIdeal.main_v0)),
      θ_run (Cert.DYIdeal.defs (F := Ideal)) (onTc (τ := Cert.DYIdeal.τ) (Cert.DYIdeal.main (F := Ideal))) ⟨m, fun _ => 0, g⟩ (fun r => ∀ c : Dev Cert.DYIdeal.nD,
          r.2.mem ((c.tc : Thread Cert.DYIdeal.nD Cert.DYIdeal.τ).loc Cert.DYIdeal.main_v0) = v0 c
          ∧ r.2.mem ((c.tc : Thread Cert.DYIdeal.nD Cert.DYIdeal.τ).loc Cert.DYIdeal.main_arg0) = m ((c.tc : Thread Cert.DYIdeal.nD Cert.DYIdeal.τ).loc Cert.DYIdeal.main_arg0)
          ∧ r.2.mem ((c.tc : Thread Cert.DYIdeal.nD Cert.DYIdeal.τ).loc Cert.DYIdeal.main_arg1) = m ((c.tc : Thread Cert.DYIdeal.nD Cert.DYIdeal.τ).loc Cert.DYIdeal.main_arg1))
      ∧ θ_run (Cert.DYRefIdeal.defs (F := Ideal)) (onTc (τ := Cert.DYRefIdeal.τ) (Cert.DYRefIdeal.main (F := Ideal))) ⟨m', fun _ => 0, g'⟩ (fun r => ∀ c : Dev Cert.DYRefIdeal.nD,
          r.2.mem ((c.tc : Thread Cert.DYRefIdeal.nD Cert.DYRefIdeal.τ).loc Cert.DYRefIdeal.main_v6) = v0 c
          ∧ r.2.mem ((c.tc : Thread Cert.DYRefIdeal.nD Cert.DYRefIdeal.τ).loc Cert.DYRefIdeal.main_arg0) = m' ((c.tc : Thread Cert.DYRefIdeal.nD Cert.DYRefIdeal.τ).loc Cert.DYRefIdeal.main_arg0)
          ∧ r.2.mem ((c.tc : Thread Cert.DYRefIdeal.nD Cert.DYRefIdeal.τ).loc Cert.DYRefIdeal.main_arg1) = m' ((c.tc : Thread Cert.DYRefIdeal.nD Cert.DYRefIdeal.τ).loc Cert.DYRefIdeal.main_arg1))

def preserves_DWb_DWbIdeal : Prop :=
  True

def algebraic_DWbIdeal_DWbRefIdeal [hDWbIdeal : Cert.DWbIdeal.Facts] [hDWbRefIdeal : Cert.DWbRefIdeal.Facts] : Prop :=
  ∀ (m : (ℓ : Loc Cert.DWbIdeal.nD Cert.DWbIdeal.τ Cert.DWbIdeal.sig) → Buf (Elt Ideal) ℓ) (g : Dev Cert.DWbIdeal.nD → PrngReg)
    (m' : (ℓ : Loc Cert.DWbRefIdeal.nD Cert.DWbRefIdeal.τ Cert.DWbRefIdeal.sig) → Buf (Elt Ideal) ℓ) (g' : Dev Cert.DWbRefIdeal.nD → PrngReg), Pre_DWbIdeal m →
    (∀ c : Dev Cert.DWbIdeal.nD,
      m' ((c.tc : Thread Cert.DWbRefIdeal.nD Cert.DWbRefIdeal.τ).loc Cert.DWbRefIdeal.main_arg0) = m ((c.tc : Thread Cert.DWbIdeal.nD Cert.DWbIdeal.τ).loc Cert.DWbIdeal.main_arg0)
      ∧ m' ((c.tc : Thread Cert.DWbRefIdeal.nD Cert.DWbRefIdeal.τ).loc Cert.DWbRefIdeal.main_arg1) = m ((c.tc : Thread Cert.DWbIdeal.nD Cert.DWbIdeal.τ).loc Cert.DWbIdeal.main_arg1)) →
    ∃ (v0 : (c : Dev Cert.DWbIdeal.nD) → Buf (Elt Ideal) ((c.tc : Thread Cert.DWbIdeal.nD Cert.DWbIdeal.τ).loc Cert.DWbIdeal.main_v0)),
      θ_run (Cert.DWbIdeal.defs (F := Ideal)) (onTc (τ := Cert.DWbIdeal.τ) (Cert.DWbIdeal.main (F := Ideal))) ⟨m, fun _ => 0, g⟩ (fun r => ∀ c : Dev Cert.DWbIdeal.nD,
          r.2.mem ((c.tc : Thread Cert.DWbIdeal.nD Cert.DWbIdeal.τ).loc Cert.DWbIdeal.main_v0) = v0 c
          ∧ r.2.mem ((c.tc : Thread Cert.DWbIdeal.nD Cert.DWbIdeal.τ).loc Cert.DWbIdeal.main_arg0) = m ((c.tc : Thread Cert.DWbIdeal.nD Cert.DWbIdeal.τ).loc Cert.DWbIdeal.main_arg0)
          ∧ r.2.mem ((c.tc : Thread Cert.DWbIdeal.nD Cert.DWbIdeal.τ).loc Cert.DWbIdeal.main_arg1) = m ((c.tc : Thread Cert.DWbIdeal.nD Cert.DWbIdeal.τ).loc Cert.DWbIdeal.main_arg1))
      ∧ θ_run (Cert.DWbRefIdeal.defs (F := Ideal)) (onTc (τ := Cert.DWbRefIdeal.τ) (Cert.DWbRefIdeal.main (F := Ideal))) ⟨m', fun _ => 0, g'⟩ (fun r => ∀ c : Dev Cert.DWbRefIdeal.nD,
          r.2.mem ((c.tc : Thread Cert.DWbRefIdeal.nD Cert.DWbRefIdeal.τ).loc Cert.DWbRefIdeal.main_v7) = v0 c
          ∧ r.2.mem ((c.tc : Thread Cert.DWbRefIdeal.nD Cert.DWbRefIdeal.τ).loc Cert.DWbRefIdeal.main_arg0) = m' ((c.tc : Thread Cert.DWbRefIdeal.nD Cert.DWbRefIdeal.τ).loc Cert.DWbRefIdeal.main_arg0)
          ∧ r.2.mem ((c.tc : Thread Cert.DWbRefIdeal.nD Cert.DWbRefIdeal.τ).loc Cert.DWbRefIdeal.main_arg1) = m' ((c.tc : Thread Cert.DWbRefIdeal.nD Cert.DWbRefIdeal.τ).loc Cert.DWbRefIdeal.main_arg1))

def preserves_Branch_BranchIdeal : Prop :=
  True

def algebraic_BranchIdeal_BranchRefIdeal [hBranchIdeal : Cert.BranchIdeal.Facts] [hBranchRefIdeal : Cert.BranchRefIdeal.Facts] : Prop :=
  ∀ (m : (ℓ : Loc Cert.BranchIdeal.nD Cert.BranchIdeal.τ Cert.BranchIdeal.sig) → Buf (Elt Ideal) ℓ) (g : Dev Cert.BranchIdeal.nD → PrngReg)
    (m' : (ℓ : Loc Cert.BranchRefIdeal.nD Cert.BranchRefIdeal.τ Cert.BranchRefIdeal.sig) → Buf (Elt Ideal) ℓ) (g' : Dev Cert.BranchRefIdeal.nD → PrngReg), Pre_BranchIdeal m →
    (∀ c : Dev Cert.BranchIdeal.nD,
      m' ((c.tc : Thread Cert.BranchRefIdeal.nD Cert.BranchRefIdeal.τ).loc Cert.BranchRefIdeal.main_arg0) = m ((c.tc : Thread Cert.BranchIdeal.nD Cert.BranchIdeal.τ).loc Cert.BranchIdeal.main_arg0)
      ∧ m' ((c.tc : Thread Cert.BranchRefIdeal.nD Cert.BranchRefIdeal.τ).loc Cert.BranchRefIdeal.main_arg1) = m ((c.tc : Thread Cert.BranchIdeal.nD Cert.BranchIdeal.τ).loc Cert.BranchIdeal.main_arg1)) →
    ∃ (v0 : (c : Dev Cert.BranchIdeal.nD) → Buf (Elt Ideal) ((c.tc : Thread Cert.BranchIdeal.nD Cert.BranchIdeal.τ).loc Cert.BranchIdeal.main_v0)),
      θ_run (Cert.BranchIdeal.defs (F := Ideal)) (onTc (τ := Cert.BranchIdeal.τ) (Cert.BranchIdeal.main (F := Ideal))) ⟨m, fun _ => 0, g⟩ (fun r => ∀ c : Dev Cert.BranchIdeal.nD,
          r.2.mem ((c.tc : Thread Cert.BranchIdeal.nD Cert.BranchIdeal.τ).loc Cert.BranchIdeal.main_v0) = v0 c
          ∧ r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
          ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ θ_run (Cert.BranchRefIdeal.defs (F := Ideal)) (onTc (τ := Cert.BranchRefIdeal.τ) (Cert.BranchRefIdeal.main (F := Ideal))) ⟨m', fun _ => 0, g'⟩ (fun r => ∀ c : Dev Cert.BranchRefIdeal.nD,
          r.2.mem ((c.tc : Thread Cert.BranchRefIdeal.nD Cert.BranchRefIdeal.τ).loc Cert.BranchRefIdeal.main_v4) = v0 c
          ∧ r.2.mem ((c.tc : Thread Cert.BranchRefIdeal.nD Cert.BranchRefIdeal.τ).loc Cert.BranchRefIdeal.main_arg0) = m' ((c.tc : Thread Cert.BranchRefIdeal.nD Cert.BranchRefIdeal.τ).loc Cert.BranchRefIdeal.main_arg0)
          ∧ r.2.mem ((c.tc : Thread Cert.BranchRefIdeal.nD Cert.BranchRefIdeal.τ).loc Cert.BranchRefIdeal.main_arg1) = m' ((c.tc : Thread Cert.BranchRefIdeal.nD Cert.BranchRefIdeal.τ).loc Cert.BranchRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)
      ∧ m' ((c.tc : Thread Cert.MergeBwdRefIdeal.nD Cert.MergeBwdRefIdeal.τ).loc Cert.MergeBwdRefIdeal.main_arg4) = m ((c.tc : Thread Cert.MergeBwdIdeal.nD Cert.MergeBwdIdeal.τ).loc Cert.MergeBwdIdeal.main_arg4)) →
    ∃ (v0 : (c : Dev Cert.MergeBwdIdeal.nD) → Buf (Elt Ideal) ((c.tc : Thread Cert.MergeBwdIdeal.nD Cert.MergeBwdIdeal.τ).loc Cert.MergeBwdIdeal.main_v0_0)) (v1 : (c : Dev Cert.MergeBwdIdeal.nD) → Buf (Elt Ideal) ((c.tc : Thread Cert.MergeBwdIdeal.nD Cert.MergeBwdIdeal.τ).loc Cert.MergeBwdIdeal.main_v0_1)) (v2 : (c : Dev Cert.MergeBwdIdeal.nD) → Buf (Elt Ideal) ((c.tc : Thread Cert.MergeBwdIdeal.nD Cert.MergeBwdIdeal.τ).loc Cert.MergeBwdIdeal.main_v0_2)) (v3 : (c : Dev Cert.MergeBwdIdeal.nD) → Buf (Elt Ideal) ((c.tc : Thread Cert.MergeBwdIdeal.nD Cert.MergeBwdIdeal.τ).loc Cert.MergeBwdIdeal.main_v0_3)) (v4 : (c : Dev Cert.MergeBwdIdeal.nD) → Buf (Elt Ideal) ((c.tc : Thread Cert.MergeBwdIdeal.nD Cert.MergeBwdIdeal.τ).loc Cert.MergeBwdIdeal.main_v0_4)) (v5 : (c : Dev Cert.MergeBwdIdeal.nD) → Buf (Elt Ideal) ((c.tc : Thread Cert.MergeBwdIdeal.nD Cert.MergeBwdIdeal.τ).loc Cert.MergeBwdIdeal.main_v0_5)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v0_0) = v0 c
          ∧ r.2.mem ((c.tc : Thread Cert.MergeBwdIdeal.nD Cert.MergeBwdIdeal.τ).loc Cert.MergeBwdIdeal.main_v0_1) = v1 c
          ∧ r.2.mem ((c.tc : Thread Cert.MergeBwdIdeal.nD Cert.MergeBwdIdeal.τ).loc Cert.MergeBwdIdeal.main_v0_2) = v2 c
          ∧ r.2.mem ((c.tc : Thread Cert.MergeBwdIdeal.nD Cert.MergeBwdIdeal.τ).loc Cert.MergeBwdIdeal.main_v0_3) = v3 c
          ∧ r.2.mem ((c.tc : Thread Cert.MergeBwdIdeal.nD Cert.MergeBwdIdeal.τ).loc Cert.MergeBwdIdeal.main_v0_4) = v4 c
          ∧ r.2.mem ((c.tc : Thread Cert.MergeBwdIdeal.nD Cert.MergeBwdIdeal.τ).loc Cert.MergeBwdIdeal.main_v0_5) = v5 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v49) = v0 c
          ∧ r.2.mem ((c.tc : Thread Cert.MergeBwdRefIdeal.nD Cert.MergeBwdRefIdeal.τ).loc Cert.MergeBwdRefIdeal.main_v50) = v1 c
          ∧ r.2.mem ((c.tc : Thread Cert.MergeBwdRefIdeal.nD Cert.MergeBwdRefIdeal.τ).loc Cert.MergeBwdRefIdeal.main_v51) = v2 c
          ∧ r.2.mem ((c.tc : Thread Cert.MergeBwdRefIdeal.nD Cert.MergeBwdRefIdeal.τ).loc Cert.MergeBwdRefIdeal.main_v52) = v3 c
          ∧ r.2.mem ((c.tc : Thread Cert.MergeBwdRefIdeal.nD Cert.MergeBwdRefIdeal.τ).loc Cert.MergeBwdRefIdeal.main_v53) = v4 c
          ∧ r.2.mem ((c.tc : Thread Cert.MergeBwdRefIdeal.nD Cert.MergeBwdRefIdeal.τ).loc Cert.MergeBwdRefIdeal.main_v54) = v5 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3)
          ∧ r.2.mem ((c.tc : Thread Cert.MergeBwdRefIdeal.nD Cert.MergeBwdRefIdeal.τ).loc Cert.MergeBwdRefIdeal.main_arg4) = m' ((c.tc : Thread Cert.MergeBwdRefIdeal.nD Cert.MergeBwdRefIdeal.τ).loc Cert.MergeBwdRefIdeal.main_arg4))

def preserves_RmsBwd_RmsBwdIdeal : Prop :=
  True

def algebraic_RmsBwdIdeal_RmsBwdRefIdeal [hRmsBwdIdeal : Cert.RmsBwdIdeal.Facts] [hRmsBwdRefIdeal : Cert.RmsBwdRefIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RmsBwdRefIdeal.nD Cert.RmsBwdRefIdeal.τ Cert.RmsBwdRefIdeal.sig) → Buf (Elt Ideal) ℓ) (g' : Dev Cert.RmsBwdRefIdeal.nD → PrngReg), Pre_RmsBwdIdeal m →
    (∀ c : Dev Cert.RmsBwdIdeal.nD,
      m' ((c.tc : Thread Cert.RmsBwdRefIdeal.nD Cert.RmsBwdRefIdeal.τ).loc Cert.RmsBwdRefIdeal.main_arg0) = m ((c.tc : Thread Cert.RmsBwdIdeal.nD Cert.RmsBwdIdeal.τ).loc Cert.RmsBwdIdeal.main_arg0)
      ∧ m' ((c.tc : Thread Cert.RmsBwdRefIdeal.nD Cert.RmsBwdRefIdeal.τ).loc Cert.RmsBwdRefIdeal.main_arg1) = m ((c.tc : Thread Cert.RmsBwdIdeal.nD Cert.RmsBwdIdeal.τ).loc Cert.RmsBwdIdeal.main_arg1)
      ∧ m' ((c.tc : Thread Cert.RmsBwdRefIdeal.nD Cert.RmsBwdRefIdeal.τ).loc Cert.RmsBwdRefIdeal.main_arg2) = m ((c.tc : Thread Cert.RmsBwdIdeal.nD Cert.RmsBwdIdeal.τ).loc Cert.RmsBwdIdeal.main_arg2)
      ∧ m' ((c.tc : Thread Cert.RmsBwdRefIdeal.nD Cert.RmsBwdRefIdeal.τ).loc Cert.RmsBwdRefIdeal.main_arg3) = m ((c.tc : Thread Cert.RmsBwdIdeal.nD Cert.RmsBwdIdeal.τ).loc Cert.RmsBwdIdeal.main_arg3)) →
    ∃ (v0 : (c : Dev Cert.RmsBwdIdeal.nD) → Buf (Elt Ideal) ((c.tc : Thread Cert.RmsBwdIdeal.nD Cert.RmsBwdIdeal.τ).loc Cert.RmsBwdIdeal.main_v1_0)) (v1 : (c : Dev Cert.RmsBwdIdeal.nD) → Buf (Elt Ideal) ((c.tc : Thread Cert.RmsBwdIdeal.nD Cert.RmsBwdIdeal.τ).loc Cert.RmsBwdIdeal.main_v1_1)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v1_0) = v0 c
          ∧ r.2.mem ((c.tc : Thread Cert.RmsBwdIdeal.nD Cert.RmsBwdIdeal.τ).loc Cert.RmsBwdIdeal.main_v1_1) = v1 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ θ_run (Cert.RmsBwdRefIdeal.defs (F := Ideal)) (onTc (τ := Cert.RmsBwdRefIdeal.τ) (Cert.RmsBwdRefIdeal.main (F := Ideal))) ⟨m', fun _ => 0, g'⟩ (fun r => ∀ c : Dev Cert.RmsBwdRefIdeal.nD,
          r.2.mem ((c.tc : Thread Cert.RmsBwdRefIdeal.nD Cert.RmsBwdRefIdeal.τ).loc Cert.RmsBwdRefIdeal.main_v36) = v0 c
          ∧ r.2.mem ((c.tc : Thread Cert.RmsBwdRefIdeal.nD Cert.RmsBwdRefIdeal.τ).loc Cert.RmsBwdRefIdeal.main_v37) = v1 c
          ∧ r.2.mem ((c.tc : Thread Cert.RmsBwdRefIdeal.nD Cert.RmsBwdRefIdeal.τ).loc Cert.RmsBwdRefIdeal.main_arg0) = m' ((c.tc : Thread Cert.RmsBwdRefIdeal.nD Cert.RmsBwdRefIdeal.τ).loc Cert.RmsBwdRefIdeal.main_arg0)
          ∧ r.2.mem ((c.tc : Thread Cert.RmsBwdRefIdeal.nD Cert.RmsBwdRefIdeal.τ).loc Cert.RmsBwdRefIdeal.main_arg1) = m' ((c.tc : Thread Cert.RmsBwdRefIdeal.nD Cert.RmsBwdRefIdeal.τ).loc Cert.RmsBwdRefIdeal.main_arg1)
          ∧ r.2.mem ((c.tc : Thread Cert.RmsBwdRefIdeal.nD Cert.RmsBwdRefIdeal.τ).loc Cert.RmsBwdRefIdeal.main_arg2) = m' ((c.tc : Thread Cert.RmsBwdRefIdeal.nD Cert.RmsBwdRefIdeal.τ).loc Cert.RmsBwdRefIdeal.main_arg2)
          ∧ r.2.mem ((c.tc : Thread Cert.RmsBwdRefIdeal.nD Cert.RmsBwdRefIdeal.τ).loc Cert.RmsBwdRefIdeal.main_arg3) = m' ((c.tc : Thread Cert.RmsBwdRefIdeal.nD Cert.RmsBwdRefIdeal.τ).loc Cert.RmsBwdRefIdeal.main_arg3))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v1_0)) (v1 : (c : Dev Cert.LossHeadIdeal.nD) → Buf (Elt Ideal) ((c.tc : Thread Cert.LossHeadIdeal.nD Cert.LossHeadIdeal.τ).loc Cert.LossHeadIdeal.main_v1_1)) (v2 : (c : Dev Cert.LossHeadIdeal.nD) → Buf (Elt Ideal) ((c.tc : Thread Cert.LossHeadIdeal.nD Cert.LossHeadIdeal.τ).loc Cert.LossHeadIdeal.main_v1_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v1_0) = v0 c
          ∧ r.2.mem ((c.tc : Thread Cert.LossHeadIdeal.nD Cert.LossHeadIdeal.τ).loc Cert.LossHeadIdeal.main_v1_1) = v1 c
          ∧ r.2.mem ((c.tc : Thread Cert.LossHeadIdeal.nD Cert.LossHeadIdeal.τ).loc Cert.LossHeadIdeal.main_v1_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v51) = v0 c
          ∧ r.2.mem ((c.tc : Thread Cert.LossHeadRefIdeal.nD Cert.LossHeadRefIdeal.τ).loc Cert.LossHeadRefIdeal.main_v50) = v1 c
          ∧ r.2.mem ((c.tc : Thread Cert.LossHeadRefIdeal.nD Cert.LossHeadRefIdeal.τ).loc Cert.LossHeadRefIdeal.main_v52) = v2 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_GluBwd_GluBwdIdeal : Prop :=
  True

def algebraic_GluBwdIdeal_GluBwdRefIdeal [hGluBwdIdeal : Cert.GluBwdIdeal.Facts] [hGluBwdRefIdeal : Cert.GluBwdRefIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg)
    (m' : (ℓ : Loc Cert.GluBwdRefIdeal.nD Cert.GluBwdRefIdeal.τ Cert.GluBwdRefIdeal.sig) → Buf (Elt Ideal) ℓ) (g' : Dev Cert.GluBwdRefIdeal.nD → PrngReg), Pre_GluBwdIdeal m →
    (∀ c : Dev Cert.GluBwdIdeal.nD,
      m' ((c.tc : Thread Cert.GluBwdRefIdeal.nD Cert.GluBwdRefIdeal.τ).loc Cert.GluBwdRefIdeal.main_arg0) = m ((c.tc : Thread Cert.GluBwdIdeal.nD Cert.GluBwdIdeal.τ).loc Cert.GluBwdIdeal.main_arg0)
      ∧ m' ((c.tc : Thread Cert.GluBwdRefIdeal.nD Cert.GluBwdRefIdeal.τ).loc Cert.GluBwdRefIdeal.main_arg1) = m ((c.tc : Thread Cert.GluBwdIdeal.nD Cert.GluBwdIdeal.τ).loc Cert.GluBwdIdeal.main_arg1)
      ∧ m' ((c.tc : Thread Cert.GluBwdRefIdeal.nD Cert.GluBwdRefIdeal.τ).loc Cert.GluBwdRefIdeal.main_arg2) = m ((c.tc : Thread Cert.GluBwdIdeal.nD Cert.GluBwdIdeal.τ).loc Cert.GluBwdIdeal.main_arg2)
      ∧ m' ((c.tc : Thread Cert.GluBwdRefIdeal.nD Cert.GluBwdRefIdeal.τ).loc Cert.GluBwdRefIdeal.main_arg3) = m ((c.tc : Thread Cert.GluBwdIdeal.nD Cert.GluBwdIdeal.τ).loc Cert.GluBwdIdeal.main_arg3)
      ∧ m' ((c.tc : Thread Cert.GluBwdRefIdeal.nD Cert.GluBwdRefIdeal.τ).loc Cert.GluBwdRefIdeal.main_arg4) = m ((c.tc : Thread Cert.GluBwdIdeal.nD Cert.GluBwdIdeal.τ).loc Cert.GluBwdIdeal.main_arg4)) →
    ∃ (v0 : (c : Dev Cert.GluBwdIdeal.nD) → Buf (Elt Ideal) ((c.tc : Thread Cert.GluBwdIdeal.nD Cert.GluBwdIdeal.τ).loc Cert.GluBwdIdeal.main_v1_0)) (v1 : (c : Dev Cert.GluBwdIdeal.nD) → Buf (Elt Ideal) ((c.tc : Thread Cert.GluBwdIdeal.nD Cert.GluBwdIdeal.τ).loc Cert.GluBwdIdeal.main_v1_1)) (v2 : (c : Dev Cert.GluBwdIdeal.nD) → Buf (Elt Ideal) ((c.tc : Thread Cert.GluBwdIdeal.nD Cert.GluBwdIdeal.τ).loc Cert.GluBwdIdeal.main_v1_2)) (v3 : (c : Dev Cert.GluBwdIdeal.nD) → Buf (Elt Ideal) ((c.tc : Thread Cert.GluBwdIdeal.nD Cert.GluBwdIdeal.τ).loc Cert.GluBwdIdeal.main_v1_3)),
      θ_run (Cert.GluBwdIdeal.defs (F := Ideal)) (onTc (τ := Cert.GluBwdIdeal.τ) (Cert.GluBwdIdeal.main (F := Ideal))) ⟨m, fun _ => 0, g⟩ (fun r => ∀ c : Dev Cert.GluBwdIdeal.nD,
          r.2.mem ((c.tc : Thread Cert.GluBwdIdeal.nD Cert.GluBwdIdeal.τ).loc Cert.GluBwdIdeal.main_v1_0) = v0 c
          ∧ r.2.mem ((c.tc : Thread Cert.GluBwdIdeal.nD Cert.GluBwdIdeal.τ).loc Cert.GluBwdIdeal.main_v1_1) = v1 c
          ∧ r.2.mem ((c.tc : Thread Cert.GluBwdIdeal.nD Cert.GluBwdIdeal.τ).loc Cert.GluBwdIdeal.main_v1_2) = v2 c
          ∧ r.2.mem ((c.tc : Thread Cert.GluBwdIdeal.nD Cert.GluBwdIdeal.τ).loc Cert.GluBwdIdeal.main_v1_3) = v3 c
          ∧ r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
          ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1)
          ∧ r.2.mem ((c.tc : Thread Cert.GluBwdIdeal.nD Cert.GluBwdIdeal.τ).loc Cert.GluBwdIdeal.main_arg2) = m ((c.tc : Thread Cert.GluBwdIdeal.nD Cert.GluBwdIdeal.τ).loc Cert.GluBwdIdeal.main_arg2)
          ∧ r.2.mem ((c.tc : Thread Cert.GluBwdIdeal.nD Cert.GluBwdIdeal.τ).loc Cert.GluBwdIdeal.main_arg3) = m ((c.tc : Thread Cert.GluBwdIdeal.nD Cert.GluBwdIdeal.τ).loc Cert.GluBwdIdeal.main_arg3)
          ∧ r.2.mem ((c.tc : Thread Cert.GluBwdIdeal.nD Cert.GluBwdIdeal.τ).loc Cert.GluBwdIdeal.main_arg4) = m ((c.tc : Thread Cert.GluBwdIdeal.nD Cert.GluBwdIdeal.τ).loc Cert.GluBwdIdeal.main_arg4))
      ∧ θ_run (Cert.GluBwdRefIdeal.defs (F := Ideal)) (onTc (τ := Cert.GluBwdRefIdeal.τ) (Cert.GluBwdRefIdeal.main (F := Ideal))) ⟨m', fun _ => 0, g'⟩ (fun r => ∀ c : Dev Cert.GluBwdRefIdeal.nD,
          r.2.mem ((c.tc : Thread Cert.GluBwdRefIdeal.nD Cert.GluBwdRefIdeal.τ).loc Cert.GluBwdRefIdeal.main_v34) = v0 c
          ∧ r.2.mem ((c.tc : Thread Cert.GluBwdRefIdeal.nD Cert.GluBwdRefIdeal.τ).loc Cert.GluBwdRefIdeal.main_v35) = v1 c
          ∧ r.2.mem ((c.tc : Thread Cert.GluBwdRefIdeal.nD Cert.GluBwdRefIdeal.τ).loc Cert.GluBwdRefIdeal.main_v31) = v2 c
          ∧ r.2.mem ((c.tc : Thread Cert.GluBwdRefIdeal.nD Cert.GluBwdRefIdeal.τ).loc Cert.GluBwdRefIdeal.main_v36) = v3 c
          ∧ r.2.mem ((c.tc : Thread Cert.GluBwdRefIdeal.nD Cert.GluBwdRefIdeal.τ).loc Cert.GluBwdRefIdeal.main_arg0) = m' ((c.tc : Thread Cert.GluBwdRefIdeal.nD Cert.GluBwdRefIdeal.τ).loc Cert.GluBwdRefIdeal.main_arg0)
          ∧ r.2.mem ((c.tc : Thread Cert.GluBwdRefIdeal.nD Cert.GluBwdRefIdeal.τ).loc Cert.GluBwdRefIdeal.main_arg1) = m' ((c.tc : Thread Cert.GluBwdRefIdeal.nD Cert.GluBwdRefIdeal.τ).loc Cert.GluBwdRefIdeal.main_arg1)
          ∧ r.2.mem ((c.tc : Thread Cert.GluBwdRefIdeal.nD Cert.GluBwdRefIdeal.τ).loc Cert.GluBwdRefIdeal.main_arg2) = m' ((c.tc : Thread Cert.GluBwdRefIdeal.nD Cert.GluBwdRefIdeal.τ).loc Cert.GluBwdRefIdeal.main_arg2)
          ∧ r.2.mem ((c.tc : Thread Cert.GluBwdRefIdeal.nD Cert.GluBwdRefIdeal.τ).loc Cert.GluBwdRefIdeal.main_arg3) = m' ((c.tc : Thread Cert.GluBwdRefIdeal.nD Cert.GluBwdRefIdeal.τ).loc Cert.GluBwdRefIdeal.main_arg3)
          ∧ r.2.mem ((c.tc : Thread Cert.GluBwdRefIdeal.nD Cert.GluBwdRefIdeal.τ).loc Cert.GluBwdRefIdeal.main_arg4) = m' ((c.tc : Thread Cert.GluBwdRefIdeal.nD Cert.GluBwdRefIdeal.τ).loc Cert.GluBwdRefIdeal.main_arg4))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)) →
    ∃ (v0 : (c : Dev Cert.MergeFwdIdeal.nD) → Buf (Elt Ideal) ((c.tc : Thread Cert.MergeFwdIdeal.nD Cert.MergeFwdIdeal.τ).loc Cert.MergeFwdIdeal.main_v0)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v19) = v0 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v1)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v1) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v13) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_GluFwd_GluFwdIdeal : Prop :=
  True

def algebraic_GluFwdIdeal_GluFwdRefIdeal [hGluFwdIdeal : Cert.GluFwdIdeal.Facts] [hGluFwdRefIdeal : Cert.GluFwdRefIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg)
    (m' : (ℓ : Loc Cert.GluFwdRefIdeal.nD Cert.GluFwdRefIdeal.τ Cert.GluFwdRefIdeal.sig) → Buf (Elt Ideal) ℓ) (g' : Dev Cert.GluFwdRefIdeal.nD → PrngReg), Pre_GluFwdIdeal m →
    (∀ c : Dev Cert.GluFwdIdeal.nD,
      m' ((c.tc : Thread Cert.GluFwdRefIdeal.nD Cert.GluFwdRefIdeal.τ).loc Cert.GluFwdRefIdeal.main_arg0) = m ((c.tc : Thread Cert.GluFwdIdeal.nD Cert.GluFwdIdeal.τ).loc Cert.GluFwdIdeal.main_arg0)
      ∧ m' ((c.tc : Thread Cert.GluFwdRefIdeal.nD Cert.GluFwdRefIdeal.τ).loc Cert.GluFwdRefIdeal.main_arg1) = m ((c.tc : Thread Cert.GluFwdIdeal.nD Cert.GluFwdIdeal.τ).loc Cert.GluFwdIdeal.main_arg1)
      ∧ m' ((c.tc : Thread Cert.GluFwdRefIdeal.nD Cert.GluFwdRefIdeal.τ).loc Cert.GluFwdRefIdeal.main_arg2) = m ((c.tc : Thread Cert.GluFwdIdeal.nD Cert.GluFwdIdeal.τ).loc Cert.GluFwdIdeal.main_arg2)
      ∧ m' ((c.tc : Thread Cert.GluFwdRefIdeal.nD Cert.GluFwdRefIdeal.τ).loc Cert.GluFwdRefIdeal.main_arg3) = m ((c.tc : Thread Cert.GluFwdIdeal.nD Cert.GluFwdIdeal.τ).loc Cert.GluFwdIdeal.main_arg3)) →
    ∃ (v0 : (c : Dev Cert.GluFwdIdeal.nD) → Buf (Elt Ideal) ((c.tc : Thread Cert.GluFwdIdeal.nD Cert.GluFwdIdeal.τ).loc Cert.GluFwdIdeal.main_v1)),
      θ_run (Cert.GluFwdIdeal.defs (F := Ideal)) (onTc (τ := Cert.GluFwdIdeal.τ) (Cert.GluFwdIdeal.main (F := Ideal))) ⟨m, fun _ => 0, g⟩ (fun r => ∀ c : Dev Cert.GluFwdIdeal.nD,
          r.2.mem ((c.tc : Thread Cert.GluFwdIdeal.nD Cert.GluFwdIdeal.τ).loc Cert.GluFwdIdeal.main_v1) = v0 c
          ∧ r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
          ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1)
          ∧ r.2.mem ((c.tc : Thread Cert.GluFwdIdeal.nD Cert.GluFwdIdeal.τ).loc Cert.GluFwdIdeal.main_arg2) = m ((c.tc : Thread Cert.GluFwdIdeal.nD Cert.GluFwdIdeal.τ).loc Cert.GluFwdIdeal.main_arg2)
          ∧ r.2.mem ((c.tc : Thread Cert.GluFwdIdeal.nD Cert.GluFwdIdeal.τ).loc Cert.GluFwdIdeal.main_arg3) = m ((c.tc : Thread Cert.GluFwdIdeal.nD Cert.GluFwdIdeal.τ).loc Cert.GluFwdIdeal.main_arg3))
      ∧ θ_run (Cert.GluFwdRefIdeal.defs (F := Ideal)) (onTc (τ := Cert.GluFwdRefIdeal.τ) (Cert.GluFwdRefIdeal.main (F := Ideal))) ⟨m', fun _ => 0, g'⟩ (fun r => ∀ c : Dev Cert.GluFwdRefIdeal.nD,
          r.2.mem ((c.tc : Thread Cert.GluFwdRefIdeal.nD Cert.GluFwdRefIdeal.τ).loc Cert.GluFwdRefIdeal.main_v17) = v0 c
          ∧ r.2.mem ((c.tc : Thread Cert.GluFwdRefIdeal.nD Cert.GluFwdRefIdeal.τ).loc Cert.GluFwdRefIdeal.main_arg0) = m' ((c.tc : Thread Cert.GluFwdRefIdeal.nD Cert.GluFwdRefIdeal.τ).loc Cert.GluFwdRefIdeal.main_arg0)
          ∧ r.2.mem ((c.tc : Thread Cert.GluFwdRefIdeal.nD Cert.GluFwdRefIdeal.τ).loc Cert.GluFwdRefIdeal.main_arg1) = m' ((c.tc : Thread Cert.GluFwdRefIdeal.nD Cert.GluFwdRefIdeal.τ).loc Cert.GluFwdRefIdeal.main_arg1)
          ∧ r.2.mem ((c.tc : Thread Cert.GluFwdRefIdeal.nD Cert.GluFwdRefIdeal.τ).loc Cert.GluFwdRefIdeal.main_arg2) = m' ((c.tc : Thread Cert.GluFwdRefIdeal.nD Cert.GluFwdRefIdeal.τ).loc Cert.GluFwdRefIdeal.main_arg2)
          ∧ r.2.mem ((c.tc : Thread Cert.GluFwdRefIdeal.nD Cert.GluFwdRefIdeal.τ).loc Cert.GluFwdRefIdeal.main_arg3) = m' ((c.tc : Thread Cert.GluFwdRefIdeal.nD Cert.GluFwdRefIdeal.τ).loc Cert.GluFwdRefIdeal.main_arg3))

def preserves_InProj_InProjIdeal : Prop :=
  True

def algebraic_InProjIdeal_InProjRefIdeal [hInProjIdeal : Cert.InProjIdeal.Facts] [hInProjRefIdeal : Cert.InProjRefIdeal.Facts] [hPre_every_tile_once : Cert.Pre_every_tile_once.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v4) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_SgFwd_SgFwdIdeal : Prop :=
  True

def algebraic_SgFwdIdeal_SgFwdRefIdeal [hSgFwdIdeal : Cert.SgFwdIdeal.Facts] [hSgFwdRefIdeal : Cert.SgFwdRefIdeal.Facts] : Prop :=
  ∀ (m : (ℓ : Loc Cert.SgFwdIdeal.nD Cert.SgFwdIdeal.τ Cert.SgFwdIdeal.sig) → Buf (Elt Ideal) ℓ) (g : Dev Cert.SgFwdIdeal.nD → PrngReg)
    (m' : (ℓ : Loc Cert.SgFwdRefIdeal.nD Cert.SgFwdRefIdeal.τ Cert.SgFwdRefIdeal.sig) → Buf (Elt Ideal) ℓ) (g' : Dev Cert.SgFwdRefIdeal.nD → PrngReg), Pre_SgFwdIdeal m →
    (∀ c : Dev Cert.SgFwdIdeal.nD,
      m' ((c.tc : Thread Cert.SgFwdRefIdeal.nD Cert.SgFwdRefIdeal.τ).loc Cert.SgFwdRefIdeal.main_arg0) = m ((c.tc : Thread Cert.SgFwdIdeal.nD Cert.SgFwdIdeal.τ).loc Cert.SgFwdIdeal.main_arg0)
      ∧ m' ((c.tc : Thread Cert.SgFwdRefIdeal.nD Cert.SgFwdRefIdeal.τ).loc Cert.SgFwdRefIdeal.main_arg1) = m ((c.tc : Thread Cert.SgFwdIdeal.nD Cert.SgFwdIdeal.τ).loc Cert.SgFwdIdeal.main_arg1)
      ∧ m' ((c.tc : Thread Cert.SgFwdRefIdeal.nD Cert.SgFwdRefIdeal.τ).loc Cert.SgFwdRefIdeal.main_arg2) = m ((c.tc : Thread Cert.SgFwdIdeal.nD Cert.SgFwdIdeal.τ).loc Cert.SgFwdIdeal.main_arg2)
      ∧ m' ((c.tc : Thread Cert.SgFwdRefIdeal.nD Cert.SgFwdRefIdeal.τ).loc Cert.SgFwdRefIdeal.main_arg3) = m ((c.tc : Thread Cert.SgFwdIdeal.nD Cert.SgFwdIdeal.τ).loc Cert.SgFwdIdeal.main_arg3)
      ∧ m' ((c.tc : Thread Cert.SgFwdRefIdeal.nD Cert.SgFwdRefIdeal.τ).loc Cert.SgFwdRefIdeal.main_arg4) = m ((c.tc : Thread Cert.SgFwdIdeal.nD Cert.SgFwdIdeal.τ).loc Cert.SgFwdIdeal.main_arg4)) →
    ∃ (v0 : (c : Dev Cert.SgFwdIdeal.nD) → Buf (Elt Ideal) ((c.tc : Thread Cert.SgFwdIdeal.nD Cert.SgFwdIdeal.τ).loc Cert.SgFwdIdeal.main_v3)),
      θ_run (Cert.SgFwdIdeal.defs (F := Ideal)) (onTc (τ := Cert.SgFwdIdeal.τ) (Cert.SgFwdIdeal.main (F := Ideal))) ⟨m, fun _ => 0, g⟩ (fun r => ∀ c : Dev Cert.SgFwdIdeal.nD,
          r.2.mem ((c.tc : Thread Cert.SgFwdIdeal.nD Cert.SgFwdIdeal.τ).loc Cert.SgFwdIdeal.main_v3) = v0 c
          ∧ r.2.mem ((c.tc : Thread Cert.SgFwdIdeal.nD Cert.SgFwdIdeal.τ).loc Cert.SgFwdIdeal.main_arg0) = m ((c.tc : Thread Cert.SgFwdIdeal.nD Cert.SgFwdIdeal.τ).loc Cert.SgFwdIdeal.main_arg0)
          ∧ r.2.mem ((c.tc : Thread Cert.SgFwdIdeal.nD Cert.SgFwdIdeal.τ).loc Cert.SgFwdIdeal.main_arg1) = m ((c.tc : Thread Cert.SgFwdIdeal.nD Cert.SgFwdIdeal.τ).loc Cert.SgFwdIdeal.main_arg1)
          ∧ r.2.mem ((c.tc : Thread Cert.SgFwdIdeal.nD Cert.SgFwdIdeal.τ).loc Cert.SgFwdIdeal.main_arg2) = m ((c.tc : Thread Cert.SgFwdIdeal.nD Cert.SgFwdIdeal.τ).loc Cert.SgFwdIdeal.main_arg2)
          ∧ r.2.mem ((c.tc : Thread Cert.SgFwdIdeal.nD Cert.SgFwdIdeal.τ).loc Cert.SgFwdIdeal.main_arg3) = m ((c.tc : Thread Cert.SgFwdIdeal.nD Cert.SgFwdIdeal.τ).loc Cert.SgFwdIdeal.main_arg3)
          ∧ r.2.mem ((c.tc : Thread Cert.SgFwdIdeal.nD Cert.SgFwdIdeal.τ).loc Cert.SgFwdIdeal.main_arg4) = m ((c.tc : Thread Cert.SgFwdIdeal.nD Cert.SgFwdIdeal.τ).loc Cert.SgFwdIdeal.main_arg4))
      ∧ θ_run (Cert.SgFwdRefIdeal.defs (F := Ideal)) (onTc (τ := Cert.SgFwdRefIdeal.τ) (Cert.SgFwdRefIdeal.main (F := Ideal))) ⟨m', fun _ => 0, g'⟩ (fun r => ∀ c : Dev Cert.SgFwdRefIdeal.nD,
          r.2.mem ((c.tc : Thread Cert.SgFwdRefIdeal.nD Cert.SgFwdRefIdeal.τ).loc Cert.SgFwdRefIdeal.main_v71) = v0 c
          ∧ r.2.mem ((c.tc : Thread Cert.SgFwdRefIdeal.nD Cert.SgFwdRefIdeal.τ).loc Cert.SgFwdRefIdeal.main_arg0) = m' ((c.tc : Thread Cert.SgFwdRefIdeal.nD Cert.SgFwdRefIdeal.τ).loc Cert.SgFwdRefIdeal.main_arg0)
          ∧ r.2.mem ((c.tc : Thread Cert.SgFwdRefIdeal.nD Cert.SgFwdRefIdeal.τ).loc Cert.SgFwdRefIdeal.main_arg1) = m' ((c.tc : Thread Cert.SgFwdRefIdeal.nD Cert.SgFwdRefIdeal.τ).loc Cert.SgFwdRefIdeal.main_arg1)
          ∧ r.2.mem ((c.tc : Thread Cert.SgFwdRefIdeal.nD Cert.SgFwdRefIdeal.τ).loc Cert.SgFwdRefIdeal.main_arg2) = m' ((c.tc : Thread Cert.SgFwdRefIdeal.nD Cert.SgFwdRefIdeal.τ).loc Cert.SgFwdRefIdeal.main_arg2)
          ∧ r.2.mem ((c.tc : Thread Cert.SgFwdRefIdeal.nD Cert.SgFwdRefIdeal.τ).loc Cert.SgFwdRefIdeal.main_arg3) = m' ((c.tc : Thread Cert.SgFwdRefIdeal.nD Cert.SgFwdRefIdeal.τ).loc Cert.SgFwdRefIdeal.main_arg3)
          ∧ r.2.mem ((c.tc : Thread Cert.SgFwdRefIdeal.nD Cert.SgFwdRefIdeal.τ).loc Cert.SgFwdRefIdeal.main_arg4) = m' ((c.tc : Thread Cert.SgFwdRefIdeal.nD Cert.SgFwdRefIdeal.τ).loc Cert.SgFwdRefIdeal.main_arg4))

def preserves_AdamA_AdamAIdeal : Prop :=
  True

def algebraic_AdamAIdeal_AdamARefIdeal [hAdamAIdeal : Cert.AdamAIdeal.Facts] [hAdamARefIdeal : Cert.AdamARefIdeal.Facts] : Prop :=
  ∀ (m : (ℓ : Loc Cert.AdamAIdeal.nD Cert.AdamAIdeal.τ Cert.AdamAIdeal.sig) → Buf (Elt Ideal) ℓ) (g : Dev Cert.AdamAIdeal.nD → PrngReg)
    (m' : (ℓ : Loc Cert.AdamARefIdeal.nD Cert.AdamARefIdeal.τ Cert.AdamARefIdeal.sig) → Buf (Elt Ideal) ℓ) (g' : Dev Cert.AdamARefIdeal.nD → PrngReg), Pre_AdamAIdeal m →
    (∀ c : Dev Cert.AdamAIdeal.nD,
      m' ((c.tc : Thread Cert.AdamARefIdeal.nD Cert.AdamARefIdeal.τ).loc Cert.AdamARefIdeal.main_arg0) = m ((c.tc : Thread Cert.AdamAIdeal.nD Cert.AdamAIdeal.τ).loc Cert.AdamAIdeal.main_arg0)
      ∧ m' ((c.tc : Thread Cert.AdamARefIdeal.nD Cert.AdamARefIdeal.τ).loc Cert.AdamARefIdeal.main_arg1) = m ((c.tc : Thread Cert.AdamAIdeal.nD Cert.AdamAIdeal.τ).loc Cert.AdamAIdeal.main_arg1)
      ∧ m' ((c.tc : Thread Cert.AdamARefIdeal.nD Cert.AdamARefIdeal.τ).loc Cert.AdamARefIdeal.main_arg2) = m ((c.tc : Thread Cert.AdamAIdeal.nD Cert.AdamAIdeal.τ).loc Cert.AdamAIdeal.main_arg2)
      ∧ m' ((c.tc : Thread Cert.AdamARefIdeal.nD Cert.AdamARefIdeal.τ).loc Cert.AdamARefIdeal.main_arg3) = m ((c.tc : Thread Cert.AdamAIdeal.nD Cert.AdamAIdeal.τ).loc Cert.AdamAIdeal.main_arg3)) →
    ∃ (v0 : (c : Dev Cert.AdamAIdeal.nD) → Buf (Elt Ideal) ((c.tc : Thread Cert.AdamAIdeal.nD Cert.AdamAIdeal.τ).loc Cert.AdamAIdeal.main_v0_0)) (v1 : (c : Dev Cert.AdamAIdeal.nD) → Buf (Elt Ideal) ((c.tc : Thread Cert.AdamAIdeal.nD Cert.AdamAIdeal.τ).loc Cert.AdamAIdeal.main_v0_1)) (v2 : (c : Dev Cert.AdamAIdeal.nD) → Buf (Elt Ideal) ((c.tc : Thread Cert.AdamAIdeal.nD Cert.AdamAIdeal.τ).loc Cert.AdamAIdeal.main_v0_2)),
      θ_run (Cert.AdamAIdeal.defs (F := Ideal)) (onTc (τ := Cert.AdamAIdeal.τ) (Cert.AdamAIdeal.main (F := Ideal))) ⟨m, fun _ => 0, g⟩ (fun r => ∀ c : Dev Cert.AdamAIdeal.nD,
          r.2.mem ((c.tc : Thread Cert.AdamAIdeal.nD Cert.AdamAIdeal.τ).loc Cert.AdamAIdeal.main_v0_0) = v0 c
          ∧ r.2.mem ((c.tc : Thread Cert.AdamAIdeal.nD Cert.AdamAIdeal.τ).loc Cert.AdamAIdeal.main_v0_1) = v1 c
          ∧ r.2.mem ((c.tc : Thread Cert.AdamAIdeal.nD Cert.AdamAIdeal.τ).loc Cert.AdamAIdeal.main_v0_2) = v2 c
          ∧ r.2.mem ((c.tc : Thread Cert.AdamAIdeal.nD Cert.AdamAIdeal.τ).loc Cert.AdamAIdeal.main_arg0) = m ((c.tc : Thread Cert.AdamAIdeal.nD Cert.AdamAIdeal.τ).loc Cert.AdamAIdeal.main_arg0)
          ∧ r.2.mem ((c.tc : Thread Cert.AdamAIdeal.nD Cert.AdamAIdeal.τ).loc Cert.AdamAIdeal.main_arg1) = m ((c.tc : Thread Cert.AdamAIdeal.nD Cert.AdamAIdeal.τ).loc Cert.AdamAIdeal.main_arg1)
          ∧ r.2.mem ((c.tc : Thread Cert.AdamAIdeal.nD Cert.AdamAIdeal.τ).loc Cert.AdamAIdeal.main_arg2) = m ((c.tc : Thread Cert.AdamAIdeal.nD Cert.AdamAIdeal.τ).loc Cert.AdamAIdeal.main_arg2)
          ∧ r.2.mem ((c.tc : Thread Cert.AdamAIdeal.nD Cert.AdamAIdeal.τ).loc Cert.AdamAIdeal.main_arg3) = m ((c.tc : Thread Cert.AdamAIdeal.nD Cert.AdamAIdeal.τ).loc Cert.AdamAIdeal.main_arg3))
      ∧ θ_run (Cert.AdamARefIdeal.defs (F := Ideal)) (onTc (τ := Cert.AdamARefIdeal.τ) (Cert.AdamARefIdeal.main (F := Ideal))) ⟨m', fun _ => 0, g'⟩ (fun r => ∀ c : Dev Cert.AdamARefIdeal.nD,
          r.2.mem ((c.tc : Thread Cert.AdamARefIdeal.nD Cert.AdamARefIdeal.τ).loc Cert.AdamARefIdeal.main_v23) = v0 c
          ∧ r.2.mem ((c.tc : Thread Cert.AdamARefIdeal.nD Cert.AdamARefIdeal.τ).loc Cert.AdamARefIdeal.main_v4) = v1 c
          ∧ r.2.mem ((c.tc : Thread Cert.AdamARefIdeal.nD Cert.AdamARefIdeal.τ).loc Cert.AdamARefIdeal.main_v10) = v2 c
          ∧ r.2.mem ((c.tc : Thread Cert.AdamARefIdeal.nD Cert.AdamARefIdeal.τ).loc Cert.AdamARefIdeal.main_arg0) = m' ((c.tc : Thread Cert.AdamARefIdeal.nD Cert.AdamARefIdeal.τ).loc Cert.AdamARefIdeal.main_arg0)
          ∧ r.2.mem ((c.tc : Thread Cert.AdamARefIdeal.nD Cert.AdamARefIdeal.τ).loc Cert.AdamARefIdeal.main_arg1) = m' ((c.tc : Thread Cert.AdamARefIdeal.nD Cert.AdamARefIdeal.τ).loc Cert.AdamARefIdeal.main_arg1)
          ∧ r.2.mem ((c.tc : Thread Cert.AdamARefIdeal.nD Cert.AdamARefIdeal.τ).loc Cert.AdamARefIdeal.main_arg2) = m' ((c.tc : Thread Cert.AdamARefIdeal.nD Cert.AdamARefIdeal.τ).loc Cert.AdamARefIdeal.main_arg2)
          ∧ r.2.mem ((c.tc : Thread Cert.AdamARefIdeal.nD Cert.AdamARefIdeal.τ).loc Cert.AdamARefIdeal.main_arg3) = m' ((c.tc : Thread Cert.AdamARefIdeal.nD Cert.AdamARefIdeal.τ).loc Cert.AdamARefIdeal.main_arg3))

def preserves_AdamC_AdamCIdeal : Prop :=
  True

def algebraic_AdamCIdeal_AdamCRefIdeal [hAdamCIdeal : Cert.AdamCIdeal.Facts] [hAdamCRefIdeal : Cert.AdamCRefIdeal.Facts] : Prop :=
  ∀ (m : (ℓ : Loc Cert.AdamCIdeal.nD Cert.AdamCIdeal.τ Cert.AdamCIdeal.sig) → Buf (Elt Ideal) ℓ) (g : Dev Cert.AdamCIdeal.nD → PrngReg)
    (m' : (ℓ : Loc Cert.AdamCRefIdeal.nD Cert.AdamCRefIdeal.τ Cert.AdamCRefIdeal.sig) → Buf (Elt Ideal) ℓ) (g' : Dev Cert.AdamCRefIdeal.nD → PrngReg), Pre_AdamCIdeal m →
    (∀ c : Dev Cert.AdamCIdeal.nD,
      m' ((c.tc : Thread Cert.AdamCRefIdeal.nD Cert.AdamCRefIdeal.τ).loc Cert.AdamCRefIdeal.main_arg0) = m ((c.tc : Thread Cert.AdamCIdeal.nD Cert.AdamCIdeal.τ).loc Cert.AdamCIdeal.main_arg0)
      ∧ m' ((c.tc : Thread Cert.AdamCRefIdeal.nD Cert.AdamCRefIdeal.τ).loc Cert.AdamCRefIdeal.main_arg1) = m ((c.tc : Thread Cert.AdamCIdeal.nD Cert.AdamCIdeal.τ).loc Cert.AdamCIdeal.main_arg1)
      ∧ m' ((c.tc : Thread Cert.AdamCRefIdeal.nD Cert.AdamCRefIdeal.τ).loc Cert.AdamCRefIdeal.main_arg2) = m ((c.tc : Thread Cert.AdamCIdeal.nD Cert.AdamCIdeal.τ).loc Cert.AdamCIdeal.main_arg2)
      ∧ m' ((c.tc : Thread Cert.AdamCRefIdeal.nD Cert.AdamCRefIdeal.τ).loc Cert.AdamCRefIdeal.main_arg3) = m ((c.tc : Thread Cert.AdamCIdeal.nD Cert.AdamCIdeal.τ).loc Cert.AdamCIdeal.main_arg3)) →
    ∃ (v0 : (c : Dev Cert.AdamCIdeal.nD) → Buf (Elt Ideal) ((c.tc : Thread Cert.AdamCIdeal.nD Cert.AdamCIdeal.τ).loc Cert.AdamCIdeal.main_v0_0)) (v1 : (c : Dev Cert.AdamCIdeal.nD) → Buf (Elt Ideal) ((c.tc : Thread Cert.AdamCIdeal.nD Cert.AdamCIdeal.τ).loc Cert.AdamCIdeal.main_v0_1)) (v2 : (c : Dev Cert.AdamCIdeal.nD) → Buf (Elt Ideal) ((c.tc : Thread Cert.AdamCIdeal.nD Cert.AdamCIdeal.τ).loc Cert.AdamCIdeal.main_v0_2)),
      θ_run (Cert.AdamCIdeal.defs (F := Ideal)) (onTc (τ := Cert.AdamCIdeal.τ) (Cert.AdamCIdeal.main (F := Ideal))) ⟨m, fun _ => 0, g⟩ (fun r => ∀ c : Dev Cert.AdamCIdeal.nD,
          r.2.mem ((c.tc : Thread Cert.AdamCIdeal.nD Cert.AdamCIdeal.τ).loc Cert.AdamCIdeal.main_v0_0) = v0 c
          ∧ r.2.mem ((c.tc : Thread Cert.AdamCIdeal.nD Cert.AdamCIdeal.τ).loc Cert.AdamCIdeal.main_v0_1) = v1 c
          ∧ r.2.mem ((c.tc : Thread Cert.AdamCIdeal.nD Cert.AdamCIdeal.τ).loc Cert.AdamCIdeal.main_v0_2) = v2 c
          ∧ r.2.mem ((c.tc : Thread Cert.AdamCIdeal.nD Cert.AdamCIdeal.τ).loc Cert.AdamCIdeal.main_arg0) = m ((c.tc : Thread Cert.AdamCIdeal.nD Cert.AdamCIdeal.τ).loc Cert.AdamCIdeal.main_arg0)
          ∧ r.2.mem ((c.tc : Thread Cert.AdamCIdeal.nD Cert.AdamCIdeal.τ).loc Cert.AdamCIdeal.main_arg1) = m ((c.tc : Thread Cert.AdamCIdeal.nD Cert.AdamCIdeal.τ).loc Cert.AdamCIdeal.main_arg1)
          ∧ r.2.mem ((c.tc : Thread Cert.AdamCIdeal.nD Cert.AdamCIdeal.τ).loc Cert.AdamCIdeal.main_arg2) = m ((c.tc : Thread Cert.AdamCIdeal.nD Cert.AdamCIdeal.τ).loc Cert.AdamCIdeal.main_arg2)
          ∧ r.2.mem ((c.tc : Thread Cert.AdamCIdeal.nD Cert.AdamCIdeal.τ).loc Cert.AdamCIdeal.main_arg3) = m ((c.tc : Thread Cert.AdamCIdeal.nD Cert.AdamCIdeal.τ).loc Cert.AdamCIdeal.main_arg3))
      ∧ θ_run (Cert.AdamCRefIdeal.defs (F := Ideal)) (onTc (τ := Cert.AdamCRefIdeal.τ) (Cert.AdamCRefIdeal.main (F := Ideal))) ⟨m', fun _ => 0, g'⟩ (fun r => ∀ c : Dev Cert.AdamCRefIdeal.nD,
          r.2.mem ((c.tc : Thread Cert.AdamCRefIdeal.nD Cert.AdamCRefIdeal.τ).loc Cert.AdamCRefIdeal.main_v23) = v0 c
          ∧ r.2.mem ((c.tc : Thread Cert.AdamCRefIdeal.nD Cert.AdamCRefIdeal.τ).loc Cert.AdamCRefIdeal.main_v4) = v1 c
          ∧ r.2.mem ((c.tc : Thread Cert.AdamCRefIdeal.nD Cert.AdamCRefIdeal.τ).loc Cert.AdamCRefIdeal.main_v10) = v2 c
          ∧ r.2.mem ((c.tc : Thread Cert.AdamCRefIdeal.nD Cert.AdamCRefIdeal.τ).loc Cert.AdamCRefIdeal.main_arg0) = m' ((c.tc : Thread Cert.AdamCRefIdeal.nD Cert.AdamCRefIdeal.τ).loc Cert.AdamCRefIdeal.main_arg0)
          ∧ r.2.mem ((c.tc : Thread Cert.AdamCRefIdeal.nD Cert.AdamCRefIdeal.τ).loc Cert.AdamCRefIdeal.main_arg1) = m' ((c.tc : Thread Cert.AdamCRefIdeal.nD Cert.AdamCRefIdeal.τ).loc Cert.AdamCRefIdeal.main_arg1)
          ∧ r.2.mem ((c.tc : Thread Cert.AdamCRefIdeal.nD Cert.AdamCRefIdeal.τ).loc Cert.AdamCRefIdeal.main_arg2) = m' ((c.tc : Thread Cert.AdamCRefIdeal.nD Cert.AdamCRefIdeal.τ).loc Cert.AdamCRefIdeal.main_arg2)
          ∧ r.2.mem ((c.tc : Thread Cert.AdamCRefIdeal.nD Cert.AdamCRefIdeal.τ).loc Cert.AdamCRefIdeal.main_arg3) = m' ((c.tc : Thread Cert.AdamCRefIdeal.nD Cert.AdamCRefIdeal.τ).loc Cert.AdamCRefIdeal.main_arg3))

def preserves_AdamMix_AdamMixIdeal : Prop :=
  True

def algebraic_AdamMixIdeal_AdamMixRefIdeal [hAdamMixIdeal : Cert.AdamMixIdeal.Facts] [hAdamMixRefIdeal : Cert.AdamMixRefIdeal.Facts] : Prop :=
  ∀ (m : (ℓ : Loc Cert.AdamMixIdeal.nD Cert.AdamMixIdeal.τ Cert.AdamMixIdeal.sig) → Buf (Elt Ideal) ℓ) (g : Dev Cert.AdamMixIdeal.nD → PrngReg)
    (m' : (ℓ : Loc Cert.AdamMixRefIdeal.nD Cert.AdamMixRefIdeal.τ Cert.AdamMixRefIdeal.sig) → Buf (Elt Ideal) ℓ) (g' : Dev Cert.AdamMixRefIdeal.nD → PrngReg), Pre_AdamMixIdeal m →
    (∀ c : Dev Cert.AdamMixIdeal.nD,
      m' ((c.tc : Thread Cert.AdamMixRefIdeal.nD Cert.AdamMixRefIdeal.τ).loc Cert.AdamMixRefIdeal.main_arg0) = m ((c.tc : Thread Cert.AdamMixIdeal.nD Cert.AdamMixIdeal.τ).loc Cert.AdamMixIdeal.main_arg0)
      ∧ m' ((c.tc : Thread Cert.AdamMixRefIdeal.nD Cert.AdamMixRefIdeal.τ).loc Cert.AdamMixRefIdeal.main_arg1) = m ((c.tc : Thread Cert.AdamMixIdeal.nD Cert.AdamMixIdeal.τ).loc Cert.AdamMixIdeal.main_arg1)
      ∧ m' ((c.tc : Thread Cert.AdamMixRefIdeal.nD Cert.AdamMixRefIdeal.τ).loc Cert.AdamMixRefIdeal.main_arg2) = m ((c.tc : Thread Cert.AdamMixIdeal.nD Cert.AdamMixIdeal.τ).loc Cert.AdamMixIdeal.main_arg2)
      ∧ m' ((c.tc : Thread Cert.AdamMixRefIdeal.nD Cert.AdamMixRefIdeal.τ).loc Cert.AdamMixRefIdeal.main_arg3) = m ((c.tc : Thread Cert.AdamMixIdeal.nD Cert.AdamMixIdeal.τ).loc Cert.AdamMixIdeal.main_arg3)) →
    ∃ (v0 : (c : Dev Cert.AdamMixIdeal.nD) → Buf (Elt Ideal) ((c.tc : Thread Cert.AdamMixIdeal.nD Cert.AdamMixIdeal.τ).loc Cert.AdamMixIdeal.main_v0_0)) (v1 : (c : Dev Cert.AdamMixIdeal.nD) → Buf (Elt Ideal) ((c.tc : Thread Cert.AdamMixIdeal.nD Cert.AdamMixIdeal.τ).loc Cert.AdamMixIdeal.main_v0_1)) (v2 : (c : Dev Cert.AdamMixIdeal.nD) → Buf (Elt Ideal) ((c.tc : Thread Cert.AdamMixIdeal.nD Cert.AdamMixIdeal.τ).loc Cert.AdamMixIdeal.main_v0_2)),
      θ_run (Cert.AdamMixIdeal.defs (F := Ideal)) (onTc (τ := Cert.AdamMixIdeal.τ) (Cert.AdamMixIdeal.main (F := Ideal))) ⟨m, fun _ => 0, g⟩ (fun r => ∀ c : Dev Cert.AdamMixIdeal.nD,
          r.2.mem ((c.tc : Thread Cert.AdamMixIdeal.nD Cert.AdamMixIdeal.τ).loc Cert.AdamMixIdeal.main_v0_0) = v0 c
          ∧ r.2.mem ((c.tc : Thread Cert.AdamMixIdeal.nD Cert.AdamMixIdeal.τ).loc Cert.AdamMixIdeal.main_v0_1) = v1 c
          ∧ r.2.mem ((c.tc : Thread Cert.AdamMixIdeal.nD Cert.AdamMixIdeal.τ).loc Cert.AdamMixIdeal.main_v0_2) = v2 c
          ∧ r.2.mem ((c.tc : Thread Cert.AdamMixIdeal.nD Cert.AdamMixIdeal.τ).loc Cert.AdamMixIdeal.main_arg0) = m ((c.tc : Thread Cert.AdamMixIdeal.nD Cert.AdamMixIdeal.τ).loc Cert.AdamMixIdeal.main_arg0)
          ∧ r.2.mem ((c.tc : Thread Cert.AdamMixIdeal.nD Cert.AdamMixIdeal.τ).loc Cert.AdamMixIdeal.main_arg1) = m ((c.tc : Thread Cert.AdamMixIdeal.nD Cert.AdamMixIdeal.τ).loc Cert.AdamMixIdeal.main_arg1)
          ∧ r.2.mem ((c.tc : Thread Cert.AdamMixIdeal.nD Cert.AdamMixIdeal.τ).loc Cert.AdamMixIdeal.main_arg2) = m ((c.tc : Thread Cert.AdamMixIdeal.nD Cert.AdamMixIdeal.τ).loc Cert.AdamMixIdeal.main_arg2)
          ∧ r.2.mem ((c.tc : Thread Cert.AdamMixIdeal.nD Cert.AdamMixIdeal.τ).loc Cert.AdamMixIdeal.main_arg3) = m ((c.tc : Thread Cert.AdamMixIdeal.nD Cert.AdamMixIdeal.τ).loc Cert.AdamMixIdeal.main_arg3))
      ∧ θ_run (Cert.AdamMixRefIdeal.defs (F := Ideal)) (onTc (τ := Cert.AdamMixRefIdeal.τ) (Cert.AdamMixRefIdeal.main (F := Ideal))) ⟨m', fun _ => 0, g'⟩ (fun r => ∀ c : Dev Cert.AdamMixRefIdeal.nD,
          r.2.mem ((c.tc : Thread Cert.AdamMixRefIdeal.nD Cert.AdamMixRefIdeal.τ).loc Cert.AdamMixRefIdeal.main_v23) = v0 c
          ∧ r.2.mem ((c.tc : Thread Cert.AdamMixRefIdeal.nD Cert.AdamMixRefIdeal.τ).loc Cert.AdamMixRefIdeal.main_v4) = v1 c
          ∧ r.2.mem ((c.tc : Thread Cert.AdamMixRefIdeal.nD Cert.AdamMixRefIdeal.τ).loc Cert.AdamMixRefIdeal.main_v10) = v2 c
          ∧ r.2.mem ((c.tc : Thread Cert.AdamMixRefIdeal.nD Cert.AdamMixRefIdeal.τ).loc Cert.AdamMixRefIdeal.main_arg0) = m' ((c.tc : Thread Cert.AdamMixRefIdeal.nD Cert.AdamMixRefIdeal.τ).loc Cert.AdamMixRefIdeal.main_arg0)
          ∧ r.2.mem ((c.tc : Thread Cert.AdamMixRefIdeal.nD Cert.AdamMixRefIdeal.τ).loc Cert.AdamMixRefIdeal.main_arg1) = m' ((c.tc : Thread Cert.AdamMixRefIdeal.nD Cert.AdamMixRefIdeal.τ).loc Cert.AdamMixRefIdeal.main_arg1)
          ∧ r.2.mem ((c.tc : Thread Cert.AdamMixRefIdeal.nD Cert.AdamMixRefIdeal.τ).loc Cert.AdamMixRefIdeal.main_arg2) = m' ((c.tc : Thread Cert.AdamMixRefIdeal.nD Cert.AdamMixRefIdeal.τ).loc Cert.AdamMixRefIdeal.main_arg2)
          ∧ r.2.mem ((c.tc : Thread Cert.AdamMixRefIdeal.nD Cert.AdamMixRefIdeal.τ).loc Cert.AdamMixRefIdeal.main_arg3) = m' ((c.tc : Thread Cert.AdamMixRefIdeal.nD Cert.AdamMixRefIdeal.τ).loc Cert.AdamMixRefIdeal.main_arg3))

def preserves_AdamVec_AdamVecIdeal : Prop :=
  True

def algebraic_AdamVecIdeal_AdamVecRefIdeal [hAdamVecIdeal : Cert.AdamVecIdeal.Facts] [hAdamVecRefIdeal : Cert.AdamVecRefIdeal.Facts] : Prop :=
  ∀ (m : (ℓ : Loc Cert.AdamVecIdeal.nD Cert.AdamVecIdeal.τ Cert.AdamVecIdeal.sig) → Buf (Elt Ideal) ℓ) (g : Dev Cert.AdamVecIdeal.nD → PrngReg)
    (m' : (ℓ : Loc Cert.AdamVecRefIdeal.nD Cert.AdamVecRefIdeal.τ Cert.AdamVecRefIdeal.sig) → Buf (Elt Ideal) ℓ) (g' : Dev Cert.AdamVecRefIdeal.nD → PrngReg), Pre_AdamVecIdeal m →
    (∀ c : Dev Cert.AdamVecIdeal.nD,
      m' ((c.tc : Thread Cert.AdamVecRefIdeal.nD Cert.AdamVecRefIdeal.τ).loc Cert.AdamVecRefIdeal.main_arg0) = m ((c.tc : Thread Cert.AdamVecIdeal.nD Cert.AdamVecIdeal.τ).loc Cert.AdamVecIdeal.main_arg0)
      ∧ m' ((c.tc : Thread Cert.AdamVecRefIdeal.nD Cert.AdamVecRefIdeal.τ).loc Cert.AdamVecRefIdeal.main_arg1) = m ((c.tc : Thread Cert.AdamVecIdeal.nD Cert.AdamVecIdeal.τ).loc Cert.AdamVecIdeal.main_arg1)
      ∧ m' ((c.tc : Thread Cert.AdamVecRefIdeal.nD Cert.AdamVecRefIdeal.τ).loc Cert.AdamVecRefIdeal.main_arg2) = m ((c.tc : Thread Cert.AdamVecIdeal.nD Cert.AdamVecIdeal.τ).loc Cert.AdamVecIdeal.main_arg2)
      ∧ m' ((c.tc : Thread Cert.AdamVecRefIdeal.nD Cert.AdamVecRefIdeal.τ).loc Cert.AdamVecRefIdeal.main_arg3) = m ((c.tc : Thread Cert.AdamVecIdeal.nD Cert.AdamVecIdeal.τ).loc Cert.AdamVecIdeal.main_arg3)) →
    ∃ (v0 : (c : Dev Cert.AdamVecIdeal.nD) → Buf (Elt Ideal) ((c.tc : Thread Cert.AdamVecIdeal.nD Cert.AdamVecIdeal.τ).loc Cert.AdamVecIdeal.main_v0_0)) (v1 : (c : Dev Cert.AdamVecIdeal.nD) → Buf (Elt Ideal) ((c.tc : Thread Cert.AdamVecIdeal.nD Cert.AdamVecIdeal.τ).loc Cert.AdamVecIdeal.main_v0_1)) (v2 : (c : Dev Cert.AdamVecIdeal.nD) → Buf (Elt Ideal) ((c.tc : Thread Cert.AdamVecIdeal.nD Cert.AdamVecIdeal.τ).loc Cert.AdamVecIdeal.main_v0_2)),
      θ_run (Cert.AdamVecIdeal.defs (F := Ideal)) (onTc (τ := Cert.AdamVecIdeal.τ) (Cert.AdamVecIdeal.main (F := Ideal))) ⟨m, fun _ => 0, g⟩ (fun r => ∀ c : Dev Cert.AdamVecIdeal.nD,
          r.2.mem ((c.tc : Thread Cert.AdamVecIdeal.nD Cert.AdamVecIdeal.τ).loc Cert.AdamVecIdeal.main_v0_0) = v0 c
          ∧ r.2.mem ((c.tc : Thread Cert.AdamVecIdeal.nD Cert.AdamVecIdeal.τ).loc Cert.AdamVecIdeal.main_v0_1) = v1 c
          ∧ r.2.mem ((c.tc : Thread Cert.AdamVecIdeal.nD Cert.AdamVecIdeal.τ).loc Cert.AdamVecIdeal.main_v0_2) = v2 c
          ∧ r.2.mem ((c.tc : Thread Cert.AdamVecIdeal.nD Cert.AdamVecIdeal.τ).loc Cert.AdamVecIdeal.main_arg0) = m ((c.tc : Thread Cert.AdamVecIdeal.nD Cert.AdamVecIdeal.τ).loc Cert.AdamVecIdeal.main_arg0)
          ∧ r.2.mem ((c.tc : Thread Cert.AdamVecIdeal.nD Cert.AdamVecIdeal.τ).loc Cert.AdamVecIdeal.main_arg1) = m ((c.tc : Thread Cert.AdamVecIdeal.nD Cert.AdamVecIdeal.τ).loc Cert.AdamVecIdeal.main_arg1)
          ∧ r.2.mem ((c.tc : Thread Cert.AdamVecIdeal.nD Cert.AdamVecIdeal.τ).loc Cert.AdamVecIdeal.main_arg2) = m ((c.tc : Thread Cert.AdamVecIdeal.nD Cert.AdamVecIdeal.τ).loc Cert.AdamVecIdeal.main_arg2)
          ∧ r.2.mem ((c.tc : Thread Cert.AdamVecIdeal.nD Cert.AdamVecIdeal.τ).loc Cert.AdamVecIdeal.main_arg3) = m ((c.tc : Thread Cert.AdamVecIdeal.nD Cert.AdamVecIdeal.τ).loc Cert.AdamVecIdeal.main_arg3))
      ∧ θ_run (Cert.AdamVecRefIdeal.defs (F := Ideal)) (onTc (τ := Cert.AdamVecRefIdeal.τ) (Cert.AdamVecRefIdeal.main (F := Ideal))) ⟨m', fun _ => 0, g'⟩ (fun r => ∀ c : Dev Cert.AdamVecRefIdeal.nD,
          r.2.mem ((c.tc : Thread Cert.AdamVecRefIdeal.nD Cert.AdamVecRefIdeal.τ).loc Cert.AdamVecRefIdeal.main_v23) = v0 c
          ∧ r.2.mem ((c.tc : Thread Cert.AdamVecRefIdeal.nD Cert.AdamVecRefIdeal.τ).loc Cert.AdamVecRefIdeal.main_v4) = v1 c
          ∧ r.2.mem ((c.tc : Thread Cert.AdamVecRefIdeal.nD Cert.AdamVecRefIdeal.τ).loc Cert.AdamVecRefIdeal.main_v10) = v2 c
          ∧ r.2.mem ((c.tc : Thread Cert.AdamVecRefIdeal.nD Cert.AdamVecRefIdeal.τ).loc Cert.AdamVecRefIdeal.main_arg0) = m' ((c.tc : Thread Cert.AdamVecRefIdeal.nD Cert.AdamVecRefIdeal.τ).loc Cert.AdamVecRefIdeal.main_arg0)
          ∧ r.2.mem ((c.tc : Thread Cert.AdamVecRefIdeal.nD Cert.AdamVecRefIdeal.τ).loc Cert.AdamVecRefIdeal.main_arg1) = m' ((c.tc : Thread Cert.AdamVecRefIdeal.nD Cert.AdamVecRefIdeal.τ).loc Cert.AdamVecRefIdeal.main_arg1)
          ∧ r.2.mem ((c.tc : Thread Cert.AdamVecRefIdeal.nD Cert.AdamVecRefIdeal.τ).loc Cert.AdamVecRefIdeal.main_arg2) = m' ((c.tc : Thread Cert.AdamVecRefIdeal.nD Cert.AdamVecRefIdeal.τ).loc Cert.AdamVecRefIdeal.main_arg2)
          ∧ r.2.mem ((c.tc : Thread Cert.AdamVecRefIdeal.nD Cert.AdamVecRefIdeal.τ).loc Cert.AdamVecRefIdeal.main_arg3) = m' ((c.tc : Thread Cert.AdamVecRefIdeal.nD Cert.AdamVecRefIdeal.τ).loc Cert.AdamVecRefIdeal.main_arg3))

def preserves_AttnFwd_AttnFwdIdeal : Prop :=
  IdealRules.named_const.Statement Cert.AttnFwdIdeal.κ "mask" .f32 0xF149F2CA#32 ⊥

def algebraic_AttnFwdIdeal_AttnFwdRefIdeal [hAttnFwdIdeal : Cert.AttnFwdIdeal.Facts] [hAttnFwdRefIdeal : Cert.AttnFwdRefIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)) →
    ∃ (v0 : (c : Dev Cert.AttnFwdIdeal.nD) → Buf (Elt Ideal) ((c.tc : Thread Cert.AttnFwdIdeal.nD Cert.AttnFwdIdeal.τ).loc Cert.AttnFwdIdeal.main_v65_0)) (v1 : (c : Dev Cert.AttnFwdIdeal.nD) → Buf (Elt Ideal) ((c.tc : Thread Cert.AttnFwdIdeal.nD Cert.AttnFwdIdeal.τ).loc Cert.AttnFwdIdeal.main_v65_1)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v65_0) = v0 c
          ∧ r.2.mem ((c.tc : Thread Cert.AttnFwdIdeal.nD Cert.AttnFwdIdeal.τ).loc Cert.AttnFwdIdeal.main_v65_1) = v1 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v145) = v0 c
          ∧ r.2.mem ((c.tc : Thread Cert.AttnFwdRefIdeal.nD Cert.AttnFwdRefIdeal.τ).loc Cert.AttnFwdRefIdeal.main_v146) = v1 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1))

def preserves_S5Par_S5ParIdeal : Prop :=
  True

def algebraic_S5ParIdeal_S5ParRefIdeal [hS5ParIdeal : Cert.S5ParIdeal.Facts] [hS5ParRefIdeal : Cert.S5ParRefIdeal.Facts] : Prop :=
  ∀ (m : (ℓ : Loc Cert.S5ParIdeal.nD Cert.S5ParIdeal.τ Cert.S5ParIdeal.sig) → Buf (Elt Ideal) ℓ) (g : Dev Cert.S5ParIdeal.nD → PrngReg)
    (m' : (ℓ : Loc Cert.S5ParRefIdeal.nD Cert.S5ParRefIdeal.τ Cert.S5ParRefIdeal.sig) → Buf (Elt Ideal) ℓ) (g' : Dev Cert.S5ParRefIdeal.nD → PrngReg), Pre_S5ParIdeal m →
    (∀ c : Dev Cert.S5ParIdeal.nD,
      m' ((c.tc : Thread Cert.S5ParRefIdeal.nD Cert.S5ParRefIdeal.τ).loc Cert.S5ParRefIdeal.main_arg0) = m ((c.tc : Thread Cert.S5ParIdeal.nD Cert.S5ParIdeal.τ).loc Cert.S5ParIdeal.main_arg0)
      ∧ m' ((c.tc : Thread Cert.S5ParRefIdeal.nD Cert.S5ParRefIdeal.τ).loc Cert.S5ParRefIdeal.main_arg1) = m ((c.tc : Thread Cert.S5ParIdeal.nD Cert.S5ParIdeal.τ).loc Cert.S5ParIdeal.main_arg1)
      ∧ m' ((c.tc : Thread Cert.S5ParRefIdeal.nD Cert.S5ParRefIdeal.τ).loc Cert.S5ParRefIdeal.main_arg2) = m ((c.tc : Thread Cert.S5ParIdeal.nD Cert.S5ParIdeal.τ).loc Cert.S5ParIdeal.main_arg2)
      ∧ m' ((c.tc : Thread Cert.S5ParRefIdeal.nD Cert.S5ParRefIdeal.τ).loc Cert.S5ParRefIdeal.main_arg3) = m ((c.tc : Thread Cert.S5ParIdeal.nD Cert.S5ParIdeal.τ).loc Cert.S5ParIdeal.main_arg3)
      ∧ m' ((c.tc : Thread Cert.S5ParRefIdeal.nD Cert.S5ParRefIdeal.τ).loc Cert.S5ParRefIdeal.main_arg4) = m ((c.tc : Thread Cert.S5ParIdeal.nD Cert.S5ParIdeal.τ).loc Cert.S5ParIdeal.main_arg4)) →
    ∃ (v0 : (c : Dev Cert.S5ParIdeal.nD) → Buf (Elt Ideal) ((c.tc : Thread Cert.S5ParIdeal.nD Cert.S5ParIdeal.τ).loc Cert.S5ParIdeal.main_v3_0)) (v1 : (c : Dev Cert.S5ParIdeal.nD) → Buf (Elt Ideal) ((c.tc : Thread Cert.S5ParIdeal.nD Cert.S5ParIdeal.τ).loc Cert.S5ParIdeal.main_v3_1)) (v2 : (c : Dev Cert.S5ParIdeal.nD) → Buf (Elt Ideal) ((c.tc : Thread Cert.S5ParIdeal.nD Cert.S5ParIdeal.τ).loc Cert.S5ParIdeal.main_v3_2)) (v3 : (c : Dev Cert.S5ParIdeal.nD) → Buf (Elt Ideal) ((c.tc : Thread Cert.S5ParIdeal.nD Cert.S5ParIdeal.τ).loc Cert.S5ParIdeal.main_v3_3)),
      θ_run (Cert.S5ParIdeal.defs (F := Ideal)) (onTc (τ := Cert.S5ParIdeal.τ) (Cert.S5ParIdeal.main (F := Ideal))) ⟨m, fun _ => 0, g⟩ (fun r => ∀ c : Dev Cert.S5ParIdeal.nD,
          r.2.mem ((c.tc : Thread Cert.S5ParIdeal.nD Cert.S5ParIdeal.τ).loc Cert.S5ParIdeal.main_v3_0) = v0 c
          ∧ r.2.mem ((c.tc : Thread Cert.S5ParIdeal.nD Cert.S5ParIdeal.τ).loc Cert.S5ParIdeal.main_v3_1) = v1 c
          ∧ r.2.mem ((c.tc : Thread Cert.S5ParIdeal.nD Cert.S5ParIdeal.τ).loc Cert.S5ParIdeal.main_v3_2) = v2 c
          ∧ r.2.mem ((c.tc : Thread Cert.S5ParIdeal.nD Cert.S5ParIdeal.τ).loc Cert.S5ParIdeal.main_v3_3) = v3 c
          ∧ r.2.mem ((c.tc : Thread Cert.S5ParIdeal.nD Cert.S5ParIdeal.τ).loc Cert.S5ParIdeal.main_arg0) = m ((c.tc : Thread Cert.S5ParIdeal.nD Cert.S5ParIdeal.τ).loc Cert.S5ParIdeal.main_arg0)
          ∧ r.2.mem ((c.tc : Thread Cert.S5ParIdeal.nD Cert.S5ParIdeal.τ).loc Cert.S5ParIdeal.main_arg1) = m ((c.tc : Thread Cert.S5ParIdeal.nD Cert.S5ParIdeal.τ).loc Cert.S5ParIdeal.main_arg1)
          ∧ r.2.mem ((c.tc : Thread Cert.S5ParIdeal.nD Cert.S5ParIdeal.τ).loc Cert.S5ParIdeal.main_arg2) = m ((c.tc : Thread Cert.S5ParIdeal.nD Cert.S5ParIdeal.τ).loc Cert.S5ParIdeal.main_arg2)
          ∧ r.2.mem ((c.tc : Thread Cert.S5ParIdeal.nD Cert.S5ParIdeal.τ).loc Cert.S5ParIdeal.main_arg3) = m ((c.tc : Thread Cert.S5ParIdeal.nD Cert.S5ParIdeal.τ).loc Cert.S5ParIdeal.main_arg3)
          ∧ r.2.mem ((c.tc : Thread Cert.S5ParIdeal.nD Cert.S5ParIdeal.τ).loc Cert.S5ParIdeal.main_arg4) = m ((c.tc : Thread Cert.S5ParIdeal.nD Cert.S5ParIdeal.τ).loc Cert.S5ParIdeal.main_arg4))
      ∧ θ_run (Cert.S5ParRefIdeal.defs (F := Ideal)) (onTc (τ := Cert.S5ParRefIdeal.τ) (Cert.S5ParRefIdeal.main (F := Ideal))) ⟨m', fun _ => 0, g'⟩ (fun r => ∀ c : Dev Cert.S5ParRefIdeal.nD,
          r.2.mem ((c.tc : Thread Cert.S5ParRefIdeal.nD Cert.S5ParRefIdeal.τ).loc Cert.S5ParRefIdeal.main_v8) = v0 c
          ∧ r.2.mem ((c.tc : Thread Cert.S5ParRefIdeal.nD Cert.S5ParRefIdeal.τ).loc Cert.S5ParRefIdeal.main_v10) = v1 c
          ∧ r.2.mem ((c.tc : Thread Cert.S5ParRefIdeal.nD Cert.S5ParRefIdeal.τ).loc Cert.S5ParRefIdeal.main_v36) = v2 c
          ∧ r.2.mem ((c.tc : Thread Cert.S5ParRefIdeal.nD Cert.S5ParRefIdeal.τ).loc Cert.S5ParRefIdeal.main_v37) = v3 c
          ∧ r.2.mem ((c.tc : Thread Cert.S5ParRefIdeal.nD Cert.S5ParRefIdeal.τ).loc Cert.S5ParRefIdeal.main_arg0) = m' ((c.tc : Thread Cert.S5ParRefIdeal.nD Cert.S5ParRefIdeal.τ).loc Cert.S5ParRefIdeal.main_arg0)
          ∧ r.2.mem ((c.tc : Thread Cert.S5ParRefIdeal.nD Cert.S5ParRefIdeal.τ).loc Cert.S5ParRefIdeal.main_arg1) = m' ((c.tc : Thread Cert.S5ParRefIdeal.nD Cert.S5ParRefIdeal.τ).loc Cert.S5ParRefIdeal.main_arg1)
          ∧ r.2.mem ((c.tc : Thread Cert.S5ParRefIdeal.nD Cert.S5ParRefIdeal.τ).loc Cert.S5ParRefIdeal.main_arg2) = m' ((c.tc : Thread Cert.S5ParRefIdeal.nD Cert.S5ParRefIdeal.τ).loc Cert.S5ParRefIdeal.main_arg2)
          ∧ r.2.mem ((c.tc : Thread Cert.S5ParRefIdeal.nD Cert.S5ParRefIdeal.τ).loc Cert.S5ParRefIdeal.main_arg3) = m' ((c.tc : Thread Cert.S5ParRefIdeal.nD Cert.S5ParRefIdeal.τ).loc Cert.S5ParRefIdeal.main_arg3)
          ∧ r.2.mem ((c.tc : Thread Cert.S5ParRefIdeal.nD Cert.S5ParRefIdeal.τ).loc Cert.S5ParRefIdeal.main_arg4) = m' ((c.tc : Thread Cert.S5ParRefIdeal.nD Cert.S5ParRefIdeal.τ).loc Cert.S5ParRefIdeal.main_arg4))

def preserves_S5ParBwd_S5ParBwdIdeal : Prop :=
  True

def algebraic_S5ParBwdIdeal_S5ParBwdRefIdeal [hS5ParBwdIdeal : Cert.S5ParBwdIdeal.Facts] [hS5ParBwdRefIdeal : Cert.S5ParBwdRefIdeal.Facts] : Prop :=
  ∀ (m : (ℓ : Loc Cert.S5ParBwdIdeal.nD Cert.S5ParBwdIdeal.τ Cert.S5ParBwdIdeal.sig) → Buf (Elt Ideal) ℓ) (g : Dev Cert.S5ParBwdIdeal.nD → PrngReg)
    (m' : (ℓ : Loc Cert.S5ParBwdRefIdeal.nD Cert.S5ParBwdRefIdeal.τ Cert.S5ParBwdRefIdeal.sig) → Buf (Elt Ideal) ℓ) (g' : Dev Cert.S5ParBwdRefIdeal.nD → PrngReg), Pre_S5ParBwdIdeal m →
    (∀ c : Dev Cert.S5ParBwdIdeal.nD,
      m' ((c.tc : Thread Cert.S5ParBwdRefIdeal.nD Cert.S5ParBwdRefIdeal.τ).loc Cert.S5ParBwdRefIdeal.main_arg0) = m ((c.tc : Thread Cert.S5ParBwdIdeal.nD Cert.S5ParBwdIdeal.τ).loc Cert.S5ParBwdIdeal.main_arg0)
      ∧ m' ((c.tc : Thread Cert.S5ParBwdRefIdeal.nD Cert.S5ParBwdRefIdeal.τ).loc Cert.S5ParBwdRefIdeal.main_arg1) = m ((c.tc : Thread Cert.S5ParBwdIdeal.nD Cert.S5ParBwdIdeal.τ).loc Cert.S5ParBwdIdeal.main_arg1)
      ∧ m' ((c.tc : Thread Cert.S5ParBwdRefIdeal.nD Cert.S5ParBwdRefIdeal.τ).loc Cert.S5ParBwdRefIdeal.main_arg2) = m ((c.tc : Thread Cert.S5ParBwdIdeal.nD Cert.S5ParBwdIdeal.τ).loc Cert.S5ParBwdIdeal.main_arg2)
      ∧ m' ((c.tc : Thread Cert.S5ParBwdRefIdeal.nD Cert.S5ParBwdRefIdeal.τ).loc Cert.S5ParBwdRefIdeal.main_arg3) = m ((c.tc : Thread Cert.S5ParBwdIdeal.nD Cert.S5ParBwdIdeal.τ).loc Cert.S5ParBwdIdeal.main_arg3)
      ∧ m' ((c.tc : Thread Cert.S5ParBwdRefIdeal.nD Cert.S5ParBwdRefIdeal.τ).loc Cert.S5ParBwdRefIdeal.main_arg4) = m ((c.tc : Thread Cert.S5ParBwdIdeal.nD Cert.S5ParBwdIdeal.τ).loc Cert.S5ParBwdIdeal.main_arg4)
      ∧ m' ((c.tc : Thread Cert.S5ParBwdRefIdeal.nD Cert.S5ParBwdRefIdeal.τ).loc Cert.S5ParBwdRefIdeal.main_arg5) = m ((c.tc : Thread Cert.S5ParBwdIdeal.nD Cert.S5ParBwdIdeal.τ).loc Cert.S5ParBwdIdeal.main_arg5)
      ∧ m' ((c.tc : Thread Cert.S5ParBwdRefIdeal.nD Cert.S5ParBwdRefIdeal.τ).loc Cert.S5ParBwdRefIdeal.main_arg6) = m ((c.tc : Thread Cert.S5ParBwdIdeal.nD Cert.S5ParBwdIdeal.τ).loc Cert.S5ParBwdIdeal.main_arg6)
      ∧ m' ((c.tc : Thread Cert.S5ParBwdRefIdeal.nD Cert.S5ParBwdRefIdeal.τ).loc Cert.S5ParBwdRefIdeal.main_arg7) = m ((c.tc : Thread Cert.S5ParBwdIdeal.nD Cert.S5ParBwdIdeal.τ).loc Cert.S5ParBwdIdeal.main_arg7)
      ∧ m' ((c.tc : Thread Cert.S5ParBwdRefIdeal.nD Cert.S5ParBwdRefIdeal.τ).loc Cert.S5ParBwdRefIdeal.main_arg8) = m ((c.tc : Thread Cert.S5ParBwdIdeal.nD Cert.S5ParBwdIdeal.τ).loc Cert.S5ParBwdIdeal.main_arg8)) →
    ∃ (v0 : (c : Dev Cert.S5ParBwdIdeal.nD) → Buf (Elt Ideal) ((c.tc : Thread Cert.S5ParBwdIdeal.nD Cert.S5ParBwdIdeal.τ).loc Cert.S5ParBwdIdeal.main_v3_0)) (v1 : (c : Dev Cert.S5ParBwdIdeal.nD) → Buf (Elt Ideal) ((c.tc : Thread Cert.S5ParBwdIdeal.nD Cert.S5ParBwdIdeal.τ).loc Cert.S5ParBwdIdeal.main_v3_1)) (v2 : (c : Dev Cert.S5ParBwdIdeal.nD) → Buf (Elt Ideal) ((c.tc : Thread Cert.S5ParBwdIdeal.nD Cert.S5ParBwdIdeal.τ).loc Cert.S5ParBwdIdeal.main_v3_2)) (v3 : (c : Dev Cert.S5ParBwdIdeal.nD) → Buf (Elt Ideal) ((c.tc : Thread Cert.S5ParBwdIdeal.nD Cert.S5ParBwdIdeal.τ).loc Cert.S5ParBwdIdeal.main_v3_3)) (v4 : (c : Dev Cert.S5ParBwdIdeal.nD) → Buf (Elt Ideal) ((c.tc : Thread Cert.S5ParBwdIdeal.nD Cert.S5ParBwdIdeal.τ).loc Cert.S5ParBwdIdeal.main_v3_4)),
      θ_run (Cert.S5ParBwdIdeal.defs (F := Ideal)) (onTc (τ := Cert.S5ParBwdIdeal.τ) (Cert.S5ParBwdIdeal.main (F := Ideal))) ⟨m, fun _ => 0, g⟩ (fun r => ∀ c : Dev Cert.S5ParBwdIdeal.nD,
          r.2.mem ((c.tc : Thread Cert.S5ParBwdIdeal.nD Cert.S5ParBwdIdeal.τ).loc Cert.S5ParBwdIdeal.main_v3_0) = v0 c
          ∧ r.2.mem ((c.tc : Thread Cert.S5ParBwdIdeal.nD Cert.S5ParBwdIdeal.τ).loc Cert.S5ParBwdIdeal.main_v3_1) = v1 c
          ∧ r.2.mem ((c.tc : Thread Cert.S5ParBwdIdeal.nD Cert.S5ParBwdIdeal.τ).loc Cert.S5ParBwdIdeal.main_v3_2) = v2 c
          ∧ r.2.mem ((c.tc : Thread Cert.S5ParBwdIdeal.nD Cert.S5ParBwdIdeal.τ).loc Cert.S5ParBwdIdeal.main_v3_3) = v3 c
          ∧ r.2.mem ((c.tc : Thread Cert.S5ParBwdIdeal.nD Cert.S5ParBwdIdeal.τ).loc Cert.S5ParBwdIdeal.main_v3_4) = v4 c
          ∧ r.2.mem ((c.tc : Thread Cert.S5ParBwdIdeal.nD Cert.S5ParBwdIdeal.τ).loc Cert.S5ParBwdIdeal.main_arg0) = m ((c.tc : Thread Cert.S5ParBwdIdeal.nD Cert.S5ParBwdIdeal.τ).loc Cert.S5ParBwdIdeal.main_arg0)
          ∧ r.2.mem ((c.tc : Thread Cert.S5ParBwdIdeal.nD Cert.S5ParBwdIdeal.τ).loc Cert.S5ParBwdIdeal.main_arg1) = m ((c.tc : Thread Cert.S5ParBwdIdeal.nD Cert.S5ParBwdIdeal.τ).loc Cert.S5ParBwdIdeal.main_arg1)
          ∧ r.2.mem ((c.tc : Thread Cert.S5ParBwdIdeal.nD Cert.S5ParBwdIdeal.τ).loc Cert.S5ParBwdIdeal.main_arg2) = m ((c.tc : Thread Cert.S5ParBwdIdeal.nD Cert.S5ParBwdIdeal.τ).loc Cert.S5ParBwdIdeal.main_arg2)
          ∧ r.2.mem ((c.tc : Thread Cert.S5ParBwdIdeal.nD Cert.S5ParBwdIdeal.τ).loc Cert.S5ParBwdIdeal.main_arg3) = m ((c.tc : Thread Cert.S5ParBwdIdeal.nD Cert.S5ParBwdIdeal.τ).loc Cert.S5ParBwdIdeal.main_arg3)
          ∧ r.2.mem ((c.tc : Thread Cert.S5ParBwdIdeal.nD Cert.S5ParBwdIdeal.τ).loc Cert.S5ParBwdIdeal.main_arg4) = m ((c.tc : Thread Cert.S5ParBwdIdeal.nD Cert.S5ParBwdIdeal.τ).loc Cert.S5ParBwdIdeal.main_arg4)
          ∧ r.2.mem ((c.tc : Thread Cert.S5ParBwdIdeal.nD Cert.S5ParBwdIdeal.τ).loc Cert.S5ParBwdIdeal.main_arg5) = m ((c.tc : Thread Cert.S5ParBwdIdeal.nD Cert.S5ParBwdIdeal.τ).loc Cert.S5ParBwdIdeal.main_arg5)
          ∧ r.2.mem ((c.tc : Thread Cert.S5ParBwdIdeal.nD Cert.S5ParBwdIdeal.τ).loc Cert.S5ParBwdIdeal.main_arg6) = m ((c.tc : Thread Cert.S5ParBwdIdeal.nD Cert.S5ParBwdIdeal.τ).loc Cert.S5ParBwdIdeal.main_arg6)
          ∧ r.2.mem ((c.tc : Thread Cert.S5ParBwdIdeal.nD Cert.S5ParBwdIdeal.τ).loc Cert.S5ParBwdIdeal.main_arg7) = m ((c.tc : Thread Cert.S5ParBwdIdeal.nD Cert.S5ParBwdIdeal.τ).loc Cert.S5ParBwdIdeal.main_arg7)
          ∧ r.2.mem ((c.tc : Thread Cert.S5ParBwdIdeal.nD Cert.S5ParBwdIdeal.τ).loc Cert.S5ParBwdIdeal.main_arg8) = m ((c.tc : Thread Cert.S5ParBwdIdeal.nD Cert.S5ParBwdIdeal.τ).loc Cert.S5ParBwdIdeal.main_arg8))
      ∧ θ_run (Cert.S5ParBwdRefIdeal.defs (F := Ideal)) (onTc (τ := Cert.S5ParBwdRefIdeal.τ) (Cert.S5ParBwdRefIdeal.main (F := Ideal))) ⟨m', fun _ => 0, g'⟩ (fun r => ∀ c : Dev Cert.S5ParBwdRefIdeal.nD,
          r.2.mem ((c.tc : Thread Cert.S5ParBwdRefIdeal.nD Cert.S5ParBwdRefIdeal.τ).loc Cert.S5ParBwdRefIdeal.main_v129) = v0 c
          ∧ r.2.mem ((c.tc : Thread Cert.S5ParBwdRefIdeal.nD Cert.S5ParBwdRefIdeal.τ).loc Cert.S5ParBwdRefIdeal.main_v122) = v1 c
          ∧ r.2.mem ((c.tc : Thread Cert.S5ParBwdRefIdeal.nD Cert.S5ParBwdRefIdeal.τ).loc Cert.S5ParBwdRefIdeal.main_v132) = v2 c
          ∧ r.2.mem ((c.tc : Thread Cert.S5ParBwdRefIdeal.nD Cert.S5ParBwdRefIdeal.τ).loc Cert.S5ParBwdRefIdeal.main_v133) = v3 c
          ∧ r.2.mem ((c.tc : Thread Cert.S5ParBwdRefIdeal.nD Cert.S5ParBwdRefIdeal.τ).loc Cert.S5ParBwdRefIdeal.main_v134) = v4 c
          ∧ r.2.mem ((c.tc : Thread Cert.S5ParBwdRefIdeal.nD Cert.S5ParBwdRefIdeal.τ).loc Cert.S5ParBwdRefIdeal.main_arg0) = m' ((c.tc : Thread Cert.S5ParBwdRefIdeal.nD Cert.S5ParBwdRefIdeal.τ).loc Cert.S5ParBwdRefIdeal.main_arg0)
          ∧ r.2.mem ((c.tc : Thread Cert.S5ParBwdRefIdeal.nD Cert.S5ParBwdRefIdeal.τ).loc Cert.S5ParBwdRefIdeal.main_arg1) = m' ((c.tc : Thread Cert.S5ParBwdRefIdeal.nD Cert.S5ParBwdRefIdeal.τ).loc Cert.S5ParBwdRefIdeal.main_arg1)
          ∧ r.2.mem ((c.tc : Thread Cert.S5ParBwdRefIdeal.nD Cert.S5ParBwdRefIdeal.τ).loc Cert.S5ParBwdRefIdeal.main_arg2) = m' ((c.tc : Thread Cert.S5ParBwdRefIdeal.nD Cert.S5ParBwdRefIdeal.τ).loc Cert.S5ParBwdRefIdeal.main_arg2)
          ∧ r.2.mem ((c.tc : Thread Cert.S5ParBwdRefIdeal.nD Cert.S5ParBwdRefIdeal.τ).loc Cert.S5ParBwdRefIdeal.main_arg3) = m' ((c.tc : Thread Cert.S5ParBwdRefIdeal.nD Cert.S5ParBwdRefIdeal.τ).loc Cert.S5ParBwdRefIdeal.main_arg3)
          ∧ r.2.mem ((c.tc : Thread Cert.S5ParBwdRefIdeal.nD Cert.S5ParBwdRefIdeal.τ).loc Cert.S5ParBwdRefIdeal.main_arg4) = m' ((c.tc : Thread Cert.S5ParBwdRefIdeal.nD Cert.S5ParBwdRefIdeal.τ).loc Cert.S5ParBwdRefIdeal.main_arg4)
          ∧ r.2.mem ((c.tc : Thread Cert.S5ParBwdRefIdeal.nD Cert.S5ParBwdRefIdeal.τ).loc Cert.S5ParBwdRefIdeal.main_arg5) = m' ((c.tc : Thread Cert.S5ParBwdRefIdeal.nD Cert.S5ParBwdRefIdeal.τ).loc Cert.S5ParBwdRefIdeal.main_arg5)
          ∧ r.2.mem ((c.tc : Thread Cert.S5ParBwdRefIdeal.nD Cert.S5ParBwdRefIdeal.τ).loc Cert.S5ParBwdRefIdeal.main_arg6) = m' ((c.tc : Thread Cert.S5ParBwdRefIdeal.nD Cert.S5ParBwdRefIdeal.τ).loc Cert.S5ParBwdRefIdeal.main_arg6)
          ∧ r.2.mem ((c.tc : Thread Cert.S5ParBwdRefIdeal.nD Cert.S5ParBwdRefIdeal.τ).loc Cert.S5ParBwdRefIdeal.main_arg7) = m' ((c.tc : Thread Cert.S5ParBwdRefIdeal.nD Cert.S5ParBwdRefIdeal.τ).loc Cert.S5ParBwdRefIdeal.main_arg7)
          ∧ r.2.mem ((c.tc : Thread Cert.S5ParBwdRefIdeal.nD Cert.S5ParBwdRefIdeal.τ).loc Cert.S5ParBwdRefIdeal.main_arg8) = m' ((c.tc : Thread Cert.S5ParBwdRefIdeal.nD Cert.S5ParBwdRefIdeal.τ).loc Cert.S5ParBwdRefIdeal.main_arg8))

def preserves_AdamBr_AdamBrIdeal : Prop :=
  True

def algebraic_AdamBrIdeal_AdamBrRefIdeal [hAdamBrIdeal : Cert.AdamBrIdeal.Facts] [hAdamBrRefIdeal : Cert.AdamBrRefIdeal.Facts] : Prop :=
  ∀ (m : (ℓ : Loc Cert.AdamBrIdeal.nD Cert.AdamBrIdeal.τ Cert.AdamBrIdeal.sig) → Buf (Elt Ideal) ℓ) (g : Dev Cert.AdamBrIdeal.nD → PrngReg)
    (m' : (ℓ : Loc Cert.AdamBrRefIdeal.nD Cert.AdamBrRefIdeal.τ Cert.AdamBrRefIdeal.sig) → Buf (Elt Ideal) ℓ) (g' : Dev Cert.AdamBrRefIdeal.nD → PrngReg), Pre_AdamBrIdeal m →
    (∀ c : Dev Cert.AdamBrIdeal.nD,
      m' ((c.tc : Thread Cert.AdamBrRefIdeal.nD Cert.AdamBrRefIdeal.τ).loc Cert.AdamBrRefIdeal.main_arg0) = m ((c.tc : Thread Cert.AdamBrIdeal.nD Cert.AdamBrIdeal.τ).loc Cert.AdamBrIdeal.main_arg0)
      ∧ m' ((c.tc : Thread Cert.AdamBrRefIdeal.nD Cert.AdamBrRefIdeal.τ).loc Cert.AdamBrRefIdeal.main_arg1) = m ((c.tc : Thread Cert.AdamBrIdeal.nD Cert.AdamBrIdeal.τ).loc Cert.AdamBrIdeal.main_arg1)
      ∧ m' ((c.tc : Thread Cert.AdamBrRefIdeal.nD Cert.AdamBrRefIdeal.τ).loc Cert.AdamBrRefIdeal.main_arg2) = m ((c.tc : Thread Cert.AdamBrIdeal.nD Cert.AdamBrIdeal.τ).loc Cert.AdamBrIdeal.main_arg2)
      ∧ m' ((c.tc : Thread Cert.AdamBrRefIdeal.nD Cert.AdamBrRefIdeal.τ).loc Cert.AdamBrRefIdeal.main_arg3) = m ((c.tc : Thread Cert.AdamBrIdeal.nD Cert.AdamBrIdeal.τ).loc Cert.AdamBrIdeal.main_arg3)
      ∧ m' ((c.tc : Thread Cert.AdamBrRefIdeal.nD Cert.AdamBrRefIdeal.τ).loc Cert.AdamBrRefIdeal.main_arg4) = m ((c.tc : Thread Cert.AdamBrIdeal.nD Cert.AdamBrIdeal.τ).loc Cert.AdamBrIdeal.main_arg4)) →
    ∃ (v0 : (c : Dev Cert.AdamBrIdeal.nD) → Buf (Elt Ideal) ((c.tc : Thread Cert.AdamBrIdeal.nD Cert.AdamBrIdeal.τ).loc Cert.AdamBrIdeal.main_v1_0)) (v1 : (c : Dev Cert.AdamBrIdeal.nD) → Buf (Elt Ideal) ((c.tc : Thread Cert.AdamBrIdeal.nD Cert.AdamBrIdeal.τ).loc Cert.AdamBrIdeal.main_v1_1)) (v2 : (c : Dev Cert.AdamBrIdeal.nD) → Buf (Elt Ideal) ((c.tc : Thread Cert.AdamBrIdeal.nD Cert.AdamBrIdeal.τ).loc Cert.AdamBrIdeal.main_v1_2)) (v3 : (c : Dev Cert.AdamBrIdeal.nD) → Buf (Elt Ideal) ((c.tc : Thread Cert.AdamBrIdeal.nD Cert.AdamBrIdeal.τ).loc Cert.AdamBrIdeal.main_v1_3)),
      θ_run (Cert.AdamBrIdeal.defs (F := Ideal)) (onTc (τ := Cert.AdamBrIdeal.τ) (Cert.AdamBrIdeal.main (F := Ideal))) ⟨m, fun _ => 0, g⟩ (fun r => ∀ c : Dev Cert.AdamBrIdeal.nD,
          r.2.mem ((c.tc : Thread Cert.AdamBrIdeal.nD Cert.AdamBrIdeal.τ).loc Cert.AdamBrIdeal.main_v1_0) = v0 c
          ∧ r.2.mem ((c.tc : Thread Cert.AdamBrIdeal.nD Cert.AdamBrIdeal.τ).loc Cert.AdamBrIdeal.main_v1_1) = v1 c
          ∧ r.2.mem ((c.tc : Thread Cert.AdamBrIdeal.nD Cert.AdamBrIdeal.τ).loc Cert.AdamBrIdeal.main_v1_2) = v2 c
          ∧ r.2.mem ((c.tc : Thread Cert.AdamBrIdeal.nD Cert.AdamBrIdeal.τ).loc Cert.AdamBrIdeal.main_v1_3) = v3 c
          ∧ r.2.mem ((c.tc : Thread Cert.AdamBrIdeal.nD Cert.AdamBrIdeal.τ).loc Cert.AdamBrIdeal.main_arg0) = m ((c.tc : Thread Cert.AdamBrIdeal.nD Cert.AdamBrIdeal.τ).loc Cert.AdamBrIdeal.main_arg0)
          ∧ r.2.mem ((c.tc : Thread Cert.AdamBrIdeal.nD Cert.AdamBrIdeal.τ).loc Cert.AdamBrIdeal.main_arg1) = m ((c.tc : Thread Cert.AdamBrIdeal.nD Cert.AdamBrIdeal.τ).loc Cert.AdamBrIdeal.main_arg1)
          ∧ r.2.mem ((c.tc : Thread Cert.AdamBrIdeal.nD Cert.AdamBrIdeal.τ).loc Cert.AdamBrIdeal.main_arg2) = m ((c.tc : Thread Cert.AdamBrIdeal.nD Cert.AdamBrIdeal.τ).loc Cert.AdamBrIdeal.main_arg2)
          ∧ r.2.mem ((c.tc : Thread Cert.AdamBrIdeal.nD Cert.AdamBrIdeal.τ).loc Cert.AdamBrIdeal.main_arg3) = m ((c.tc : Thread Cert.AdamBrIdeal.nD Cert.AdamBrIdeal.τ).loc Cert.AdamBrIdeal.main_arg3)
          ∧ r.2.mem ((c.tc : Thread Cert.AdamBrIdeal.nD Cert.AdamBrIdeal.τ).loc Cert.AdamBrIdeal.main_arg4) = m ((c.tc : Thread Cert.AdamBrIdeal.nD Cert.AdamBrIdeal.τ).loc Cert.AdamBrIdeal.main_arg4))
      ∧ θ_run (Cert.AdamBrRefIdeal.defs (F := Ideal)) (onTc (τ := Cert.AdamBrRefIdeal.τ) (Cert.AdamBrRefIdeal.main (F := Ideal))) ⟨m', fun _ => 0, g'⟩ (fun r => ∀ c : Dev Cert.AdamBrRefIdeal.nD,
          r.2.mem ((c.tc : Thread Cert.AdamBrRefIdeal.nD Cert.AdamBrRefIdeal.τ).loc Cert.AdamBrRefIdeal.main_v2) = v0 c
          ∧ r.2.mem ((c.tc : Thread Cert.AdamBrRefIdeal.nD Cert.AdamBrRefIdeal.τ).loc Cert.AdamBrRefIdeal.main_v26) = v1 c
          ∧ r.2.mem ((c.tc : Thread Cert.AdamBrRefIdeal.nD Cert.AdamBrRefIdeal.τ).loc Cert.AdamBrRefIdeal.main_v7) = v2 c
          ∧ r.2.mem ((c.tc : Thread Cert.AdamBrRefIdeal.nD Cert.AdamBrRefIdeal.τ).loc Cert.AdamBrRefIdeal.main_v13) = v3 c
          ∧ r.2.mem ((c.tc : Thread Cert.AdamBrRefIdeal.nD Cert.AdamBrRefIdeal.τ).loc Cert.AdamBrRefIdeal.main_arg0) = m' ((c.tc : Thread Cert.AdamBrRefIdeal.nD Cert.AdamBrRefIdeal.τ).loc Cert.AdamBrRefIdeal.main_arg0)
          ∧ r.2.mem ((c.tc : Thread Cert.AdamBrRefIdeal.nD Cert.AdamBrRefIdeal.τ).loc Cert.AdamBrRefIdeal.main_arg1) = m' ((c.tc : Thread Cert.AdamBrRefIdeal.nD Cert.AdamBrRefIdeal.τ).loc Cert.AdamBrRefIdeal.main_arg1)
          ∧ r.2.mem ((c.tc : Thread Cert.AdamBrRefIdeal.nD Cert.AdamBrRefIdeal.τ).loc Cert.AdamBrRefIdeal.main_arg2) = m' ((c.tc : Thread Cert.AdamBrRefIdeal.nD Cert.AdamBrRefIdeal.τ).loc Cert.AdamBrRefIdeal.main_arg2)
          ∧ r.2.mem ((c.tc : Thread Cert.AdamBrRefIdeal.nD Cert.AdamBrRefIdeal.τ).loc Cert.AdamBrRefIdeal.main_arg3) = m' ((c.tc : Thread Cert.AdamBrRefIdeal.nD Cert.AdamBrRefIdeal.τ).loc Cert.AdamBrRefIdeal.main_arg3)
          ∧ r.2.mem ((c.tc : Thread Cert.AdamBrRefIdeal.nD Cert.AdamBrRefIdeal.τ).loc Cert.AdamBrRefIdeal.main_arg4) = m' ((c.tc : Thread Cert.AdamBrRefIdeal.nD Cert.AdamBrRefIdeal.τ).loc Cert.AdamBrRefIdeal.main_arg4))

def Claim : Prop :=
  ∃ (hSgBwd : Cert.SgBwd.Facts) (hSgBwdIdeal : Cert.SgBwdIdeal.Facts) (hSgRefIdeal : Cert.SgRefIdeal.Facts) (hDWin : Cert.DWin.Facts) (hDWinIdeal : Cert.DWinIdeal.Facts) (hDWinRefIdeal : Cert.DWinRefIdeal.Facts) (hDH : Cert.DH.Facts) (hDHIdeal : Cert.DHIdeal.Facts) (hDHRefIdeal : Cert.DHRefIdeal.Facts) (hDMerged : Cert.DMerged.Facts) (hDMergedIdeal : Cert.DMergedIdeal.Facts) (hDMergedRefIdeal : Cert.DMergedRefIdeal.Facts) (hDWout : Cert.DWout.Facts) (hDWoutIdeal : Cert.DWoutIdeal.Facts) (hDWoutRefIdeal : Cert.DWoutRefIdeal.Facts) (hDY : Cert.DY.Facts) (hDYIdeal : Cert.DYIdeal.Facts) (hDYRefIdeal : Cert.DYRefIdeal.Facts) (hDWb : Cert.DWb.Facts) (hDWbIdeal : Cert.DWbIdeal.Facts) (hDWbRefIdeal : Cert.DWbRefIdeal.Facts) (hBranch : Cert.Branch.Facts) (hBranchIdeal : Cert.BranchIdeal.Facts) (hBranchRefIdeal : Cert.BranchRefIdeal.Facts) (hOutProj : Cert.OutProj.Facts) (hOutProjIdeal : Cert.OutProjIdeal.Facts) (hOutProjRefIdeal : Cert.OutProjRefIdeal.Facts) (hMergeBwd : Cert.MergeBwd.Facts) (hMergeBwdIdeal : Cert.MergeBwdIdeal.Facts) (hMergeBwdRefIdeal : Cert.MergeBwdRefIdeal.Facts) (hRmsBwd : Cert.RmsBwd.Facts) (hRmsBwdIdeal : Cert.RmsBwdIdeal.Facts) (hRmsBwdRefIdeal : Cert.RmsBwdRefIdeal.Facts) (hLossHead : Cert.LossHead.Facts) (hLossHeadIdeal : Cert.LossHeadIdeal.Facts) (hLossHeadRefIdeal : Cert.LossHeadRefIdeal.Facts) (hGluBwd : Cert.GluBwd.Facts) (hGluBwdIdeal : Cert.GluBwdIdeal.Facts) (hGluBwdRefIdeal : Cert.GluBwdRefIdeal.Facts) (hMergeFwd : Cert.MergeFwd.Facts) (hMergeFwdIdeal : Cert.MergeFwdIdeal.Facts) (hMergeFwdRefIdeal : Cert.MergeFwdRefIdeal.Facts) (hRmsFwd : Cert.RmsFwd.Facts) (hRmsFwdIdeal : Cert.RmsFwdIdeal.Facts) (hRmsFwdRefIdeal : Cert.RmsFwdRefIdeal.Facts) (hGluFwd : Cert.GluFwd.Facts) (hGluFwdIdeal : Cert.GluFwdIdeal.Facts) (hGluFwdRefIdeal : Cert.GluFwdRefIdeal.Facts) (hInProj : Cert.InProj.Facts) (hInProjIdeal : Cert.InProjIdeal.Facts) (hInProjRefIdeal : Cert.InProjRefIdeal.Facts) (hSgFwd : Cert.SgFwd.Facts) (hSgFwdIdeal : Cert.SgFwdIdeal.Facts) (hSgFwdRefIdeal : Cert.SgFwdRefIdeal.Facts) (hAdamA : Cert.AdamA.Facts) (hAdamAIdeal : Cert.AdamAIdeal.Facts) (hAdamARefIdeal : Cert.AdamARefIdeal.Facts) (hAdamC : Cert.AdamC.Facts) (hAdamCIdeal : Cert.AdamCIdeal.Facts) (hAdamCRefIdeal : Cert.AdamCRefIdeal.Facts) (hAdamMix : Cert.AdamMix.Facts) (hAdamMixIdeal : Cert.AdamMixIdeal.Facts) (hAdamMixRefIdeal : Cert.AdamMixRefIdeal.Facts) (hAdamVec : Cert.AdamVec.Facts) (hAdamVecIdeal : Cert.AdamVecIdeal.Facts) (hAdamVecRefIdeal : Cert.AdamVecRefIdeal.Facts) (hAttnFwd : Cert.AttnFwd.Facts) (hAttnFwdIdeal : Cert.AttnFwdIdeal.Facts) (hAttnFwdRefIdeal : Cert.AttnFwdRefIdeal.Facts) (hS5Par : Cert.S5Par.Facts) (hS5ParIdeal : Cert.S5ParIdeal.Facts) (hS5ParRefIdeal : Cert.S5ParRefIdeal.Facts) (hS5ParBwd : Cert.S5ParBwd.Facts) (hS5ParBwdIdeal : Cert.S5ParBwdIdeal.Facts) (hS5ParBwdRefIdeal : Cert.S5ParBwdRefIdeal.Facts) (hAdamBr : Cert.AdamBr.Facts) (hAdamBrIdeal : Cert.AdamBrIdeal.Facts) (hAdamBrRefIdeal : Cert.AdamBrRefIdeal.Facts) (hPre_every_tile_once : Cert.Pre_every_tile_once.Facts),
    quiescent_SgBwd (hSgBwd := hSgBwd)
    ∧ quiescent_SgBwdIdeal (hSgBwdIdeal := hSgBwdIdeal)
    ∧ quiescent_SgRefIdeal (hSgRefIdeal := hSgRefIdeal)
    ∧ quiescent_DWin (hDWin := hDWin)
    ∧ quiescent_DWinIdeal (hDWinIdeal := hDWinIdeal)
    ∧ quiescent_DWinRefIdeal (hDWinRefIdeal := hDWinRefIdeal)
    ∧ quiescent_DH (hDH := hDH)
    ∧ quiescent_DHIdeal (hDHIdeal := hDHIdeal)
    ∧ quiescent_DHRefIdeal (hDHRefIdeal := hDHRefIdeal)
    ∧ quiescent_DMerged (hDMerged := hDMerged)
    ∧ quiescent_DMergedIdeal (hDMergedIdeal := hDMergedIdeal)
    ∧ quiescent_DMergedRefIdeal (hDMergedRefIdeal := hDMergedRefIdeal)
    ∧ quiescent_DWout (hDWout := hDWout)
    ∧ quiescent_DWoutIdeal (hDWoutIdeal := hDWoutIdeal)
    ∧ quiescent_DWoutRefIdeal (hDWoutRefIdeal := hDWoutRefIdeal)
    ∧ quiescent_DY (hDY := hDY)
    ∧ quiescent_DYIdeal (hDYIdeal := hDYIdeal)
    ∧ quiescent_DYRefIdeal (hDYRefIdeal := hDYRefIdeal)
    ∧ quiescent_DWb (hDWb := hDWb)
    ∧ quiescent_DWbIdeal (hDWbIdeal := hDWbIdeal)
    ∧ quiescent_DWbRefIdeal (hDWbRefIdeal := hDWbRefIdeal)
    ∧ quiescent_Branch (hBranch := hBranch)
    ∧ quiescent_BranchIdeal (hBranchIdeal := hBranchIdeal)
    ∧ quiescent_BranchRefIdeal (hBranchRefIdeal := hBranchRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_RmsBwd (hRmsBwd := hRmsBwd)
    ∧ quiescent_RmsBwdIdeal (hRmsBwdIdeal := hRmsBwdIdeal)
    ∧ quiescent_RmsBwdRefIdeal (hRmsBwdRefIdeal := hRmsBwdRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_GluBwd (hGluBwd := hGluBwd)
    ∧ quiescent_GluBwdIdeal (hGluBwdIdeal := hGluBwdIdeal)
    ∧ quiescent_GluBwdRefIdeal (hGluBwdRefIdeal := hGluBwdRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_GluFwd (hGluFwd := hGluFwd)
    ∧ quiescent_GluFwdIdeal (hGluFwdIdeal := hGluFwdIdeal)
    ∧ quiescent_GluFwdRefIdeal (hGluFwdRefIdeal := hGluFwdRefIdeal)
    ∧ quiescent_InProj (hInProj := hInProj) (hPre_every_tile_once := hPre_every_tile_once)
    ∧ quiescent_InProjIdeal (hInProjIdeal := hInProjIdeal) (hPre_every_tile_once := hPre_every_tile_once)
    ∧ quiescent_InProjRefIdeal (hInProjRefIdeal := hInProjRefIdeal)
    ∧ quiescent_InProjRefIdeal_pre_every_tile_once (hInProjRefIdeal := hInProjRefIdeal) (hPre_every_tile_once := hPre_every_tile_once)
    ∧ quiescent_SgFwd (hSgFwd := hSgFwd)
    ∧ quiescent_SgFwdIdeal (hSgFwdIdeal := hSgFwdIdeal)
    ∧ quiescent_SgFwdRefIdeal (hSgFwdRefIdeal := hSgFwdRefIdeal)
    ∧ quiescent_AdamA (hAdamA := hAdamA)
    ∧ quiescent_AdamAIdeal (hAdamAIdeal := hAdamAIdeal)
    ∧ quiescent_AdamARefIdeal (hAdamARefIdeal := hAdamARefIdeal)
    ∧ quiescent_AdamC (hAdamC := hAdamC)
    ∧ quiescent_AdamCIdeal (hAdamCIdeal := hAdamCIdeal)
    ∧ quiescent_AdamCRefIdeal (hAdamCRefIdeal := hAdamCRefIdeal)
    ∧ quiescent_AdamMix (hAdamMix := hAdamMix)
    ∧ quiescent_AdamMixIdeal (hAdamMixIdeal := hAdamMixIdeal)
    ∧ quiescent_AdamMixRefIdeal (hAdamMixRefIdeal := hAdamMixRefIdeal)
    ∧ quiescent_AdamVec (hAdamVec := hAdamVec)
    ∧ quiescent_AdamVecIdeal (hAdamVecIdeal := hAdamVecIdeal)
    ∧ quiescent_AdamVecRefIdeal (hAdamVecRefIdeal := hAdamVecRefIdeal)
    ∧ quiescent_AttnFwd (hAttnFwd := hAttnFwd)
    ∧ quiescent_AttnFwdIdeal (hAttnFwdIdeal := hAttnFwdIdeal)
    ∧ quiescent_AttnFwdRefIdeal (hAttnFwdRefIdeal := hAttnFwdRefIdeal)
    ∧ quiescent_S5Par (hS5Par := hS5Par)
    ∧ quiescent_S5ParIdeal (hS5ParIdeal := hS5ParIdeal)
    ∧ quiescent_S5ParRefIdeal (hS5ParRefIdeal := hS5ParRefIdeal)
    ∧ quiescent_S5ParBwd (hS5ParBwd := hS5ParBwd)
    ∧ quiescent_S5ParBwdIdeal (hS5ParBwdIdeal := hS5ParBwdIdeal)
    ∧ quiescent_S5ParBwdRefIdeal (hS5ParBwdRefIdeal := hS5ParBwdRefIdeal)
    ∧ quiescent_AdamBr (hAdamBr := hAdamBr)
    ∧ quiescent_AdamBrIdeal (hAdamBrIdeal := hAdamBrIdeal)
    ∧ quiescent_AdamBrRefIdeal (hAdamBrRefIdeal := hAdamBrRefIdeal)
    ∧ preserves_SgBwd_SgBwdIdeal
    ∧ algebraic_SgBwdIdeal_SgRefIdeal (hSgBwdIdeal := hSgBwdIdeal) (hSgRefIdeal := hSgRefIdeal)
    ∧ preserves_DWin_DWinIdeal
    ∧ algebraic_DWinIdeal_DWinRefIdeal (hDWinIdeal := hDWinIdeal) (hDWinRefIdeal := hDWinRefIdeal)
    ∧ preserves_DH_DHIdeal
    ∧ algebraic_DHIdeal_DHRefIdeal (hDHIdeal := hDHIdeal) (hDHRefIdeal := hDHRefIdeal)
    ∧ preserves_DMerged_DMergedIdeal
    ∧ algebraic_DMergedIdeal_DMergedRefIdeal (hDMergedIdeal := hDMergedIdeal) (hDMergedRefIdeal := hDMergedRefIdeal)
    ∧ preserves_DWout_DWoutIdeal
    ∧ algebraic_DWoutIdeal_DWoutRefIdeal (hDWoutIdeal := hDWoutIdeal) (hDWoutRefIdeal := hDWoutRefIdeal)
    ∧ preserves_DY_DYIdeal
    ∧ algebraic_DYIdeal_DYRefIdeal (hDYIdeal := hDYIdeal) (hDYRefIdeal := hDYRefIdeal)
    ∧ preserves_DWb_DWbIdeal
    ∧ algebraic_DWbIdeal_DWbRefIdeal (hDWbIdeal := hDWbIdeal) (hDWbRefIdeal := hDWbRefIdeal)
    ∧ preserves_Branch_BranchIdeal
    ∧ algebraic_BranchIdeal_BranchRefIdeal (hBranchIdeal := hBranchIdeal) (hBranchRefIdeal := hBranchRefIdeal)
    ∧ preserves_OutProj_OutProjIdeal
    ∧ algebraic_OutProjIdeal_OutProjRefIdeal (hOutProjIdeal := hOutProjIdeal) (hOutProjRefIdeal := hOutProjRefIdeal)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_RmsBwd_RmsBwdIdeal
    ∧ algebraic_RmsBwdIdeal_RmsBwdRefIdeal (hRmsBwdIdeal := hRmsBwdIdeal) (hRmsBwdRefIdeal := hRmsBwdRefIdeal)
    ∧ preserves_LossHead_LossHeadIdeal
    ∧ algebraic_LossHeadIdeal_LossHeadRefIdeal (hLossHeadIdeal := hLossHeadIdeal) (hLossHeadRefIdeal := hLossHeadRefIdeal)
    ∧ preserves_GluBwd_GluBwdIdeal
    ∧ algebraic_GluBwdIdeal_GluBwdRefIdeal (hGluBwdIdeal := hGluBwdIdeal) (hGluBwdRefIdeal := hGluBwdRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_GluFwd_GluFwdIdeal
    ∧ algebraic_GluFwdIdeal_GluFwdRefIdeal (hGluFwdIdeal := hGluFwdIdeal) (hGluFwdRefIdeal := hGluFwdRefIdeal)
    ∧ preserves_InProj_InProjIdeal
    ∧ algebraic_InProjIdeal_InProjRefIdeal (hInProjIdeal := hInProjIdeal) (hInProjRefIdeal := hInProjRefIdeal) (hPre_every_tile_once := hPre_every_tile_once)
    ∧ preserves_SgFwd_SgFwdIdeal
    ∧ algebraic_SgFwdIdeal_SgFwdRefIdeal (hSgFwdIdeal := hSgFwdIdeal) (hSgFwdRefIdeal := hSgFwdRefIdeal)
    ∧ preserves_AdamA_AdamAIdeal
    ∧ algebraic_AdamAIdeal_AdamARefIdeal (hAdamAIdeal := hAdamAIdeal) (hAdamARefIdeal := hAdamARefIdeal)
    ∧ preserves_AdamC_AdamCIdeal
    ∧ algebraic_AdamCIdeal_AdamCRefIdeal (hAdamCIdeal := hAdamCIdeal) (hAdamCRefIdeal := hAdamCRefIdeal)
    ∧ preserves_AdamMix_AdamMixIdeal
    ∧ algebraic_AdamMixIdeal_AdamMixRefIdeal (hAdamMixIdeal := hAdamMixIdeal) (hAdamMixRefIdeal := hAdamMixRefIdeal)
    ∧ preserves_AdamVec_AdamVecIdeal
    ∧ algebraic_AdamVecIdeal_AdamVecRefIdeal (hAdamVecIdeal := hAdamVecIdeal) (hAdamVecRefIdeal := hAdamVecRefIdeal)
    ∧ preserves_AttnFwd_AttnFwdIdeal
    ∧ algebraic_AttnFwdIdeal_AttnFwdRefIdeal (hAttnFwdIdeal := hAttnFwdIdeal) (hAttnFwdRefIdeal := hAttnFwdRefIdeal)
    ∧ preserves_S5Par_S5ParIdeal
    ∧ algebraic_S5ParIdeal_S5ParRefIdeal (hS5ParIdeal := hS5ParIdeal) (hS5ParRefIdeal := hS5ParRefIdeal)
    ∧ preserves_S5ParBwd_S5ParBwdIdeal
    ∧ algebraic_S5ParBwdIdeal_S5ParBwdRefIdeal (hS5ParBwdIdeal := hS5ParBwdIdeal) (hS5ParBwdRefIdeal := hS5ParBwdRefIdeal)
    ∧ preserves_AdamBr_AdamBrIdeal
    ∧ algebraic_AdamBrIdeal_AdamBrRefIdeal (hAdamBrIdeal := hAdamBrIdeal) (hAdamBrRefIdeal := hAdamBrRefIdeal)
-- ==== Pre_every_tile_once.lean ====
abbrev S2048x2048 : Shape := ⟨2, ![2048, 2048]⟩
abbrev S13568x2048 : Shape := ⟨2, ![13568, 2048]⟩
abbrev S39 : Shape := ⟨1, ![39]⟩
abbrev S14 : Shape := ⟨1, ![14]⟩
abbrev S53 : Shape := ⟨1, ![53]⟩
abbrev S_ : Shape := ⟨0, ![]⟩
abbrev S53x1 : Shape := ⟨2, ![53, 1]⟩
abbrev S1x53 : Shape := ⟨2, ![1, 53]⟩
abbrev S53x53 : Shape := ⟨2, ![53, 53]⟩

class Facts : Prop where
  concatenates_S39_S14_S53_d0 : Shape.Concatenates [S39, S14] S53 0
  bcast_S_S53 : S_.BroadcastsInDim S53 (![] : Fin 0 → Fin S53.rank)
  bcast_S53_S53x1_0 : S53.BroadcastsInDim S53x1 (![0] : Fin 1 → Fin S53x1.rank)
  bcast_S53_S1x53_1 : S53.BroadcastsInDim S1x53 (![1] : Fin 1 → Fin S1x53.rank)
  bcast_S53x1_S53x53_0_1 : S53x1.BroadcastsInDim S53x53 (![0, 1] : Fin 2 → Fin S53x53.rank)
  bcast_S1x53_S53x53_0_1 : S1x53.BroadcastsInDim S53x53 (![0, 1] : Fin 2 → Fin S53x53.rank)

variable [Facts]

def fn {F : FTy → Type} [FloatOps F] (main_arg0 : FVec F S2048x2048 .bf16) (main_arg1 : FVec F S13568x2048 .bf16) (main_arg2 : IVec S39 32) (main_arg3 : IVec S14 32) : IVec S53x53 1 :=
  let main_v0 : IVec S53 32 := (fun a b => concatenate S53 0 [⟨S39, a⟩, ⟨S14, b⟩] concatenates_S39_S14_S53_d0) main_arg2 main_arg3
  let main_v1 : IVec S53 32 := iotaInDim S53 32 0
  let main_c : IVec S_ 32 := constantI S_ 32 0#32
  let main_v2 : IVec S53 32 := broadcastInDim S53 ![] bcast_S_S53 main_c
  let main_v3 : IVec S53 1 := cmpi .sge main_v0 main_v2
  let main_c_0 : IVec S_ 32 := constantI S_ 32 53#32
  let main_v4 : IVec S53 32 := broadcastInDim S53 ![] bcast_S_S53 main_c_0
  let main_v5 : IVec S53 1 := cmpi .slt main_v0 main_v4
  let main_v6 : IVec S53 1 := andi main_v3 main_v5
  let main_v7 : IVec S53x1 32 := broadcastInDim S53x1 ![0] bcast_S53_S53x1_0 main_v0
  let main_v8 : IVec S1x53 32 := broadcastInDim S1x53 ![1] bcast_S53_S1x53_1 main_v0
  let main_v9 : IVec S53x53 32 := broadcastInDim S53x53 ![0, 1] bcast_S53x1_S53x53_0_1 main_v7
  let main_v10 : IVec S53x53 32 := broadcastInDim S53x53 ![0, 1] bcast_S1x53_S53x53_0_1 main_v8
  let main_v11 : IVec S53x53 1 := cmpi .ne main_v9 main_v10
  let main_v12 : IVec S53x1 32 := broadcastInDim S53x1 ![0] bcast_S53_S53x1_0 main_v1
  let main_v13 : IVec S1x53 32 := broadcastInDim S1x53 ![1] bcast_S53_S1x53_1 main_v1
  let main_v14 : IVec S53x53 32 := broadcastInDim S53x53 ![0, 1] bcast_S53x1_S53x53_0_1 main_v12
  let main_v15 : IVec S53x53 32 := broadcastInDim S53x53 ![0, 1] bcast_S1x53_S53x53_0_1 main_v13
  let main_v16 : IVec S53x53 1 := cmpi .eq main_v14 main_v15
  let main_v17 : IVec S53x53 1 := ori main_v11 main_v16
  let main_v18 : IVec S53x1 1 := broadcastInDim S53x1 ![0] bcast_S53_S53x1_0 main_v6
  let main_v19 : IVec S53x53 1 := broadcastInDim S53x53 ![0, 1] bcast_S53x1_S53x53_0_1 main_v18
  let main_v20 : IVec S53x53 1 := andi main_v19 main_v17
  main_v20
-- ==== SgBwd.lean ====
abbrev S2048x13568 : Shape := ⟨2, ![2048, 13568]⟩
abbrev S1024 : Shape := ⟨1, ![1024]⟩
abbrev S8x128x128 : Shape := ⟨3, ![8, 128, 128]⟩
abbrev S8x128 : Shape := ⟨2, ![8, 128]⟩
abbrev S2048x1024 : Shape := ⟨2, ![2048, 1024]⟩
abbrev S1x1024 : Shape := ⟨2, ![1, 1024]⟩
abbrev S8x128x1 : Shape := ⟨3, ![8, 128, 1]⟩
abbrev S128x1024 : Shape := ⟨2, ![128, 1024]⟩
abbrev S128x128 : Shape := ⟨2, ![128, 128]⟩
abbrev S1x128x128 : Shape := ⟨3, ![1, 128, 128]⟩
abbrev S128 : Shape := ⟨1, ![128]⟩
abbrev S128x1 : Shape := ⟨2, ![128, 1]⟩
abbrev S1x128x1 : Shape := ⟨3, ![1, 128, 1]⟩

abbrev nBuf : Space → Nat
  | .hbm => 16
  | .vmem => 22
  | .smem => 0
  | _ => 0

abbrev bufTy : (tb : Table) → Fin (tcTables nBuf tb) → BufTy
  | .hbm, ⟨0, _⟩ => ⟨S2048x13568, .bf16⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S2048x1024, .bf16⟩
  | .hbm, ⟨6, _⟩ => ⟨S1x1024, .f32⟩
  | .hbm, ⟨7, _⟩ => ⟨S1x1024, .f32⟩
  | .hbm, ⟨8, _⟩ => ⟨S8x128x1, .f32⟩
  | .hbm, ⟨9, _⟩ => ⟨S2048x1024, .bf16⟩
  | .hbm, ⟨10, _⟩ => ⟨S2048x1024, .bf16⟩
  | .hbm, ⟨11, _⟩ => ⟨S2048x1024, .bf16⟩
  | .hbm, ⟨12, _⟩ => ⟨S1x1024, .f32⟩
  | .hbm, ⟨13, _⟩ => ⟨S1x1024, .f32⟩
  | .hbm, ⟨14, _⟩ => ⟨S8x128x128, .f32⟩
  | .hbm, ⟨15, _⟩ => ⟨S8x128x1, .f32⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S1x1024, .f32⟩
  | .local _ .vmem, ⟨7, _⟩ => ⟨S1x1024, .f32⟩
  | .local _ .vmem, ⟨8, _⟩ => ⟨S8x128x128, .f32⟩
  | .local _ .vmem, ⟨9, _⟩ => ⟨S8x128x1, .f32⟩
  | .local _ .vmem, ⟨10, _⟩ => ⟨S128x1024, .bf16⟩
  | .local _ .vmem, ⟨11, _⟩ => ⟨S128x1024, .bf16⟩
  | .local _ .vmem, ⟨12, _⟩ => ⟨S128x1024, .bf16⟩
  | .local _ .vmem, ⟨13, _⟩ => ⟨S128x1024, .bf16⟩
  | .local _ .vmem, ⟨14, _⟩ => ⟨S128x1024, .bf16⟩
  | .local _ .vmem, ⟨15, _⟩ => ⟨S128x1024, .bf16⟩
  | .local _ .vmem, ⟨16, _⟩ => ⟨S128x1024, .bf16⟩
  | .local _ .vmem, ⟨17, _⟩ => ⟨S128x1024, .bf16⟩
  | .local _ .vmem, ⟨18, _⟩ => ⟨S1x1024, .f32⟩
  | .local _ .vmem, ⟨19, _⟩ => ⟨S1x1024, .f32⟩
  | .local _ .vmem, ⟨20, _⟩ => ⟨S8x128x128, .f32⟩
  | .local _ .vmem, ⟨21, _⟩ => ⟨S8x128x1, .f32⟩
  | _, _ => ⟨S2048x13568, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev main_v3_6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem14_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x128x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== SgRefIdeal.lean ====
abbrev S2048x13568 : Shape := ⟨2, ![2048, 13568]⟩
abbrev S1024 : Shape := ⟨1, ![1024]⟩
abbrev S8x128x128 : Shape := ⟨3, ![8, 128, 128]⟩
abbrev S8x128 : Shape := ⟨2, ![8, 128]⟩
abbrev S2048x1024 : Shape := ⟨2, ![2048, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S16x128x8x128 : Shape := ⟨4, ![16, 128, 8, 128]⟩
abbrev S128x128 : Shape := ⟨2, ![128, 128]⟩
abbrev S1x128x128 : Shape := ⟨3, ![1, 128, 128]⟩
abbrev S8x16x128x128 : Shape := ⟨4, ![8, 16, 128, 128]⟩
abbrev S128x8 : Shape := ⟨2, ![128, 8]⟩
abbrev S128x8x1 : Shape := ⟨3, ![128, 8, 1]⟩
abbrev S1x128x8x1 : Shape := ⟨4, ![1, 128, 8, 1]⟩
abbrev S8x128x1 : Shape := ⟨3, ![8, 128, 1]⟩

abbrev nBuf : Space → Nat
  | .hbm => 251
  | .vmem => 0
  | .smem => 0
  | _ => 0

abbrev hbmTy0_0 (i : Nat) : BufTy := match i % 128 with
  | 0 => ⟨S2048x13568, .bf16⟩
  | 1 => ⟨S1024, .f32⟩
  | 2 => ⟨S1024, .f32⟩
  | 3 => ⟨S8x128x128, .f32⟩
  | 4 => ⟨S8x128, .f32⟩
  | 5 => ⟨S2048x1024, .bf16⟩
  | 6 => ⟨S2048x13568, .f32⟩
  | 7 => ⟨S2048x1024, .f32⟩
  | 8 => ⟨S2048x1024, .f32⟩
  | 9 => ⟨S2048x1024, .f32⟩
  | 10 => ⟨S2048x1024, .f32⟩
  | 11 => ⟨S2048x1024, .f32⟩
  | 12 => ⟨S2048x1024, .f32⟩
  | 13 => ⟨S_, .f32⟩
  | 14 => ⟨S2048x1024, .f32⟩
  | 15 => ⟨S2048x1024, .f32⟩
  | 16 => ⟨S_, .f32⟩
  | 17 => ⟨S2048x1024, .f32⟩
  | 18 => ⟨S2048x1024, .f32⟩
  | 19 => ⟨S2048x1024, .f32⟩
  | 20 => ⟨S_, .f32⟩
  | 21 => ⟨S2048x1024, .f32⟩
  | 22 => ⟨S2048x1024, .f32⟩
  | 23 => ⟨S2048x1024, .f32⟩
  | 24 => ⟨S_, .f32⟩
  | 25 => ⟨S2048x1024, .f32⟩
  | 26 => ⟨S2048x1024, .f32⟩
  | 27 => ⟨S_, .f32⟩
  | 28 => ⟨S2048x1024, .f32⟩
  | 29 => ⟨S2048x1024, .f32⟩
  | 30 => ⟨S2048x1024, .f32⟩
  | 31 => ⟨S_, .f32⟩
  | 32 => ⟨S2048x1024, .f32⟩
  | 33 => ⟨S2048x1024, .f32⟩
  | 34 => ⟨S_, .f32⟩
  | 35 => ⟨S2048x1024, .f32⟩
  | 36 => ⟨S2048x1024, .f32⟩
  | 37 => ⟨S2048x1024, .f32⟩
  | 38 => ⟨S2048x1024, .f32⟩
  | 39 => ⟨S2048x1024, .f32⟩
  | 40 => ⟨S2048x1024, .f32⟩
  | 41 => ⟨S_, .f32⟩
  | 42 => ⟨S2048x1024, .f32⟩
  | 43 => ⟨S2048x1024, .f32⟩
  | 44 => ⟨S_, .f32⟩
  | 45 => ⟨S2048x1024, .f32⟩
  | 46 => ⟨S2048x1024, .f32⟩
  | 47 => ⟨S2048x1024, .f32⟩
  | 48 => ⟨S_, .f32⟩
  | 49 => ⟨S2048x1024, .f32⟩
  | 50 => ⟨S2048x1024, .f32⟩
  | 51 => ⟨S2048x1024, .f32⟩
  | 52 => ⟨S_, .f32⟩
  | 53 => ⟨S2048x1024, .f32⟩
  | 54 => ⟨S2048x1024, .f32⟩
  | 55 => ⟨S_, .f32⟩
  | 56 => ⟨S2048x1024, .f32⟩
  | 57 => ⟨S2048x1024, .f32⟩
  | 58 => ⟨S2048x1024, .f32⟩
  | 59 => ⟨S_, .f32⟩
  | 60 => ⟨S2048x1024, .f32⟩
  | 61 => ⟨S2048x1024, .f32⟩
  | 62 => ⟨S_, .f32⟩
  | 63 => ⟨S2048x1024, .f32⟩
  | 64 => ⟨S2048x1024, .f32⟩
  | 65 => ⟨S2048x1024, .f32⟩
  | 66 => ⟨S_, .f32⟩
  | 67 => ⟨S2048, .f32⟩
  | 68 => ⟨S2048x1, .f32⟩
  | 69 => ⟨S_, .f32⟩
  | 70 => ⟨S2048x1, .f32⟩
  | 71 => ⟨S2048x1, .f32⟩
  | 72 => ⟨S2048x1024, .f32⟩
  | 73 => ⟨S2048x1024, .f32⟩
  | 74 => ⟨S2048x1024, .f32⟩
  | 75 => ⟨S_, .f32⟩
  | 76 => ⟨S2048x1024, .f32⟩
  | 77 => ⟨S2048x1024, .f32⟩
  | 78 => ⟨S_, .f32⟩
  | 79 => ⟨S2048, .f32⟩
  | 80 => ⟨S2048x1, .f32⟩
  | 81 => ⟨S_, .f32⟩
  | 82 => ⟨S2048x1, .f32⟩
  | 83 => ⟨S2048x1, .f32⟩
  | 84 => ⟨S2048x1024, .f32⟩
  | 85 => ⟨S2048x1024, .f32⟩
  | 86 => ⟨S_, .f32⟩
  | 87 => ⟨S2048x1, .f32⟩
  | 88 => ⟨S2048x1, .f32⟩
  | 89 => ⟨S2048x1, .f32⟩
  | 90 => ⟨S2048x1, .f32⟩
  | 91 => ⟨S_, .f32⟩
  | 92 => ⟨S2048x1, .f32⟩
  | 93 => ⟨S2048x1, .f32⟩
  | 94 => ⟨S2048x1024, .f32⟩
  | 95 => ⟨S2048x1024, .f32⟩
  | 96 => ⟨S1x1024, .f32⟩
  | 97 => ⟨S2048x1024, .f32⟩
  | 98 => ⟨S2048x1024, .f32⟩
  | 99 => ⟨S1x1024, .f32⟩
  | 100 => ⟨S2048x1024, .f32⟩
  | 101 => ⟨S2048x1024, .f32⟩
  | 102 => ⟨S16x128x8x128, .f32⟩
  | 103 => ⟨S_, .i1⟩
  | 104 => ⟨S128x128, .i1⟩
  | 105 => ⟨S128x128, .i32⟩
  | 106 => ⟨S_, .i32⟩
  | 107 => ⟨S128x128, .i32⟩
  | 108 => ⟨S128x128, .i32⟩
  | 109 => ⟨S128x128, .i32⟩
  | 110 => ⟨S128x128, .i1⟩
  | 111 => ⟨S_, .i1⟩
  | 112 => ⟨S128x128, .i1⟩
  | 113 => ⟨S128x128, .i1⟩
  | 114 => ⟨S1x128x128, .i1⟩
  | 115 => ⟨S_, .f32⟩
  | 116 => ⟨S8x128x128, .f32⟩
  | 117 => ⟨S8x128x128, .i1⟩
  | 118 => ⟨S8x128x128, .f32⟩
  | 119 => ⟨S_, .f32⟩
  | 120 => ⟨S8x128x128, .f32⟩
  | 121 => ⟨S8x16x128x128, .f32⟩
  | 122 => ⟨S16x128x8x128, .f32⟩
  | 123 => ⟨S128x8, .f32⟩
  | 124 => ⟨S128x8x1, .f32⟩
  | 125 => ⟨S1x128x8x1, .f32⟩
  | 126 => ⟨S16x128x8x128, .f32⟩
  | 127 => ⟨S16x128x8x128, .f32⟩
  | _ => ⟨S2048x13568, .bf16⟩

abbrev hbmTy0_1 (i : Nat) : BufTy := match i % 128 with
  | 0 => ⟨S2048x1024, .f32⟩
  | 1 => ⟨S2048x1024, .f32⟩
  | 2 => ⟨S2048x1024, .f32⟩
  | 3 => ⟨S2048x1024, .f32⟩
  | 4 => ⟨S_, .f32⟩
  | 5 => ⟨S2048x1024, .f32⟩
  | 6 => ⟨S2048x1024, .f32⟩
  | 7 => ⟨S_, .f32⟩
  | 8 => ⟨S2048x1024, .f32⟩
  | 9 => ⟨S2048x1024, .f32⟩
  | 10 => ⟨S_, .f32⟩
  | 11 => ⟨S2048x1024, .f32⟩
  | 12 => ⟨S2048x1024, .f32⟩
  | 13 => ⟨S2048x1024, .f32⟩
  | 14 => ⟨S2048x1024, .f32⟩
  | 15 => ⟨S2048x1024, .f32⟩
  | 16 => ⟨S2048x1024, .f32⟩
  | 17 => ⟨S2048x1024, .f32⟩
  | 18 => ⟨S2048x1024, .f32⟩
  | 19 => ⟨S2048x1024, .f32⟩
  | 20 => ⟨S2048x1024, .f32⟩
  | 21 => ⟨S2048x1024, .f32⟩
  | 22 => ⟨S2048x1024, .f32⟩
  | 23 => ⟨S2048x1024, .f32⟩
  | 24 => ⟨S2048x1024, .f32⟩
  | 25 => ⟨S16x128x8x128, .f32⟩
  | 26 => ⟨S_, .f32⟩
  | 27 => ⟨S128x8, .f32⟩
  | 28 => ⟨S1x128x8x1, .f32⟩
  | 29 => ⟨S_, .f32⟩
  | 30 => ⟨S128x8, .f32⟩
  | 31 => ⟨S128x8x1, .f32⟩
  | 32 => ⟨S_, .f32⟩
  | 33 => ⟨S128x8, .f32⟩
  | 34 => ⟨S8x128, .f32⟩
  | 35 => ⟨S8x16x128x128, .f32⟩
  | 36 => ⟨S8x128x128, .f32⟩
  | 37 => ⟨S8x16x128x128, .f32⟩
  | 38 => ⟨S16x128x8x128, .f32⟩
  | 39 => ⟨S_, .f32⟩
  | 40 => ⟨S8x128x128, .f32⟩
  | 41 => ⟨S8x128x128, .f32⟩
  | 42 => ⟨S2048x1024, .f32⟩
  | 43 => ⟨S_, .f32⟩
  | 44 => ⟨S1024, .f32⟩
  | 45 => ⟨S1x1024, .f32⟩
  | 46 => ⟨S_, .f32⟩
  | 47 => ⟨S1024, .f32⟩
  | 48 => ⟨S2048x1024, .f32⟩
  | 49 => ⟨S_, .f32⟩
  | 50 => ⟨S1024, .f32⟩
  | 51 => ⟨S1x1024, .f32⟩
  | 52 => ⟨S2048x1024, .f32⟩
  | 53 => ⟨S2048x1024, .f32⟩
  | 54 => ⟨S_, .f32⟩
  | 55 => ⟨S1024, .f32⟩
  | 56 => ⟨S2048x1024, .f32⟩
  | 57 => ⟨S_, .f32⟩
  | 58 => ⟨S2048, .f32⟩
  | 59 => ⟨S2048x1, .f32⟩
  | 60 => ⟨S2048x1024, .f32⟩
  | 61 => ⟨S2048x1024, .f32⟩
  | 62 => ⟨S2048x1, .f32⟩
  | 63 => ⟨S2048x1024, .f32⟩
  | 64 => ⟨S_, .f32⟩
  | 65 => ⟨S2048, .f32⟩
  | 66 => ⟨S2048x1, .f32⟩
  | 67 => ⟨S_, .f32⟩
  | 68 => ⟨S2048x1, .f32⟩
  | 69 => ⟨S2048x1, .f32⟩
  | 70 => ⟨S_, .f32⟩
  | 71 => ⟨S2048, .f32⟩
  | 72 => ⟨S2048x1024, .f32⟩
  | 73 => ⟨S2048x1024, .f32⟩
  | 74 => ⟨S2048x1024, .f32⟩
  | 75 => ⟨S_, .f32⟩
  | 76 => ⟨S2048, .f32⟩
  | 77 => ⟨S2048x1, .f32⟩
  | 78 => ⟨S2048x1024, .f32⟩
  | 79 => ⟨S2048x1, .f32⟩
  | 80 => ⟨S_, .f32⟩
  | 81 => ⟨S2048x1, .f32⟩
  | 82 => ⟨S2048x1, .f32⟩
  | 83 => ⟨S_, .f32⟩
  | 84 => ⟨S2048, .f32⟩
  | 85 => ⟨S2048x1024, .f32⟩
  | 86 => ⟨S2048x1024, .f32⟩
  | 87 => ⟨S2048x1024, .f32⟩
  | 88 => ⟨S2048x1024, .f32⟩
  | 89 => ⟨S_, .f32⟩
  | 90 => ⟨S2048x1024, .f32⟩
  | 91 => ⟨S2048x1024, .f32⟩
  | 92 => ⟨S2048x1024, .f32⟩
  | 93 => ⟨S_, .f32⟩
  | 94 => ⟨S2048x1024, .f32⟩
  | 95 => ⟨S2048x1024, .f32⟩
  | 96 => ⟨S2048x1024, .f32⟩
  | 97 => ⟨S_, .f32⟩
  | 98 => ⟨S2048x1024, .f32⟩
  | 99 => ⟨S2048x1024, .f32⟩
  | 100 => ⟨S2048x1024, .f32⟩
  | 101 => ⟨S2048x1024, .f32⟩
  | 102 => ⟨S2048x1024, .f32⟩
  | 103 => ⟨S2048x1024, .f32⟩
  | 104 => ⟨S_, .f32⟩
  | 105 => ⟨S2048x1024, .f32⟩
  | 106 => ⟨S2048x1024, .f32⟩
  | 107 => ⟨S2048x1024, .f32⟩
  | 108 => ⟨S_, .f32⟩
  | 109 => ⟨S2048x1024, .f32⟩
  | 110 => ⟨S2048x1024, .f32⟩
  | 111 => ⟨S2048x1024, .f32⟩
  | 112 => ⟨S_, .f32⟩
  | 113 => ⟨S2048x1024, .f32⟩
  | 114 => ⟨S2048x1024, .f32⟩
  | 115 => ⟨S2048x1024, .f32⟩
  | 116 => ⟨S2048x1024, .f32⟩
  | 117 => ⟨S2048x1024, .bf16⟩
  | 118 => ⟨S2048x1024, .bf16⟩
  | 119 => ⟨S2048x1024, .bf16⟩
  | 120 => ⟨S1x1024, .f32⟩
  | 121 => ⟨S1x1024, .f32⟩
  | 122 => ⟨S8x128x1, .f32⟩
  | _ => ⟨S2048x13568, .bf16⟩

abbrev hbmTy (i : Nat) : BufTy := match i / 128 with
  | 0 => hbmTy0_0 i
  | 1 => hbmTy0_1 i
  | _ => ⟨S2048x13568, .bf16⟩

abbrev bufTy : (tb : Table) → Fin (tcTables nBuf tb) → BufTy
  | .hbm, ⟨i, _⟩ => hbmTy i
  | _, _ => ⟨S2048x13568, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_8 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_cst_10 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_11 : Ref sig .tc := ⟨.hbm, 59, rfl⟩
abbrev main_v41 : Ref sig .tc := ⟨.hbm, 60, rfl⟩
abbrev main_v42 : Ref sig .tc := ⟨.hbm, 61, rfl⟩
abbrev main_cst_12 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_13 : Ref sig .tc := ⟨.hbm, 66, rfl⟩
abbrev main_v46 : Ref sig .tc := ⟨.hbm, 67, rfl⟩
abbrev main_v47 : Ref sig .tc := ⟨.hbm, 68, rfl⟩
abbrev main_cst_14 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_15 : Ref sig .tc := ⟨.hbm, 75, rfl⟩
abbrev main_v53 : Ref sig .tc := ⟨.hbm, 76, rfl⟩
abbrev main_v54 : Ref sig .tc := ⟨.hbm, 77, rfl⟩
abbrev main_cst_16 : Ref sig .tc := ⟨.hbm, 78, rfl⟩
abbrev main_v55 : Ref sig .tc := ⟨.hbm, 79, rfl⟩
abbrev main_v56 : Ref sig .tc := ⟨.hbm, 80, rfl⟩
abbrev main_cst_17 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_18 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_19 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_c : Ref sig .tc := ⟨.hbm, 103, rfl⟩
abbrev main_v76 : Ref sig .tc := ⟨.hbm, 104, rfl⟩
abbrev main_call0_v0 : Ref sig .tc := ⟨.hbm, 105, rfl⟩
abbrev main_call0_c : Ref sig .tc := ⟨.hbm, 106, rfl⟩
abbrev main_call0_v1 : Ref sig .tc := ⟨.hbm, 107, rfl⟩
abbrev main_call0_v2 : Ref sig .tc := ⟨.hbm, 108, rfl⟩
abbrev main_call0_v3 : Ref sig .tc := ⟨.hbm, 109, rfl⟩
abbrev main_call0_v4 : Ref sig .tc := ⟨.hbm, 110, rfl⟩
abbrev main_call0_c_0 : Ref sig .tc := ⟨.hbm, 111, rfl⟩
abbrev main_call0_v5 : Ref sig .tc := ⟨.hbm, 112, rfl⟩
abbrev main_v77 : Ref sig .tc := ⟨.hbm, 113, rfl⟩
abbrev main_v78 : Ref sig .tc := ⟨.hbm, 114, rfl⟩
abbrev main_cst_20 : Ref sig .tc := ⟨.hbm, 115, rfl⟩
abbrev main_v79 : Ref sig .tc := ⟨.hbm, 116, rfl⟩
abbrev main_v80_1 : Ref sig .tc := ⟨.hbm, 117, rfl⟩
abbrev main_v80_0 : Ref sig .tc := ⟨.hbm, 118, rfl⟩
abbrev main_call1_cst : Ref sig .tc := ⟨.hbm, 119, rfl⟩
abbrev main_v80_2 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_call2_v0 : Ref sig .tc := ⟨.hbm, 130, rfl⟩
abbrev main_call2_v1 : Ref sig .tc := ⟨.hbm, 131, rfl⟩
abbrev main_call2_cst : Ref sig .tc := ⟨.hbm, 132, rfl⟩
abbrev main_call2_v2 : Ref sig .tc := ⟨.hbm, 133, rfl⟩
abbrev main_call2_v3 : Ref sig .tc := ⟨.hbm, 134, rfl⟩
abbrev main_call2_cst_0 : Ref sig .tc := ⟨.hbm, 135, rfl⟩
abbrev main_call2_v4 : Ref sig .tc := ⟨.hbm, 136, rfl⟩
abbrev main_v90_2 : Ref sig .tc := ⟨.hbm, 137, rfl⟩
abbrev main_call2_cst_1 : Ref sig .tc := ⟨.hbm, 138, rfl⟩
abbrev main_call2_v6 : Ref sig .tc := ⟨.hbm, 139, rfl⟩
abbrev main_call2_v7 : Ref sig .tc := ⟨.hbm, 140, rfl⟩
abbrev main_v90_1 : Ref sig .tc := ⟨.hbm, 141, rfl⟩
abbrev main_v90_0 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_call3_v0 : Ref sig .tc := ⟨.hbm, 147, rfl⟩
abbrev main_call3_v1 : Ref sig .tc := ⟨.hbm, 148, rfl⟩
abbrev main_call3_v2 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_cst_21 : Ref sig .tc := ⟨.hbm, 154, rfl⟩
abbrev main_v99 : Ref sig .tc := ⟨.hbm, 155, rfl⟩
abbrev main_v100 : Ref sig .tc := ⟨.hbm, 156, rfl⟩
abbrev main_cst_22 : Ref sig .tc := ⟨.hbm, 157, rfl⟩
abbrev main_v101 : Ref sig .tc := ⟨.hbm, 158, rfl⟩
abbrev main_v102 : Ref sig .tc := ⟨.hbm, 159, rfl⟩
abbrev main_cst_23 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_call4_cst : Ref sig .tc := ⟨.hbm, 167, rfl⟩
abbrev main_call4_v0 : Ref sig .tc := ⟨.hbm, 168, rfl⟩
abbrev main_v109 : Ref sig .tc := ⟨.hbm, 169, rfl⟩
abbrev main_v110 : Ref sig .tc := ⟨.hbm, 170, rfl⟩
abbrev main_cst_24 : Ref sig .tc := ⟨.hbm, 171, rfl⟩
abbrev main_v111 : Ref sig .tc := ⟨.hbm, 172, rfl⟩
abbrev main_v112 : Ref sig .tc := ⟨.hbm, 173, rfl⟩
abbrev main_cst_25 : Ref sig .tc := ⟨.hbm, 174, rfl⟩
abbrev main_v113 : Ref sig .tc := ⟨.hbm, 175, rfl⟩
abbrev main_v114 : Ref sig .tc := ⟨.hbm, 176, rfl⟩
abbrev main_cst_26 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_cst_27 : Ref sig .tc := ⟨.hbm, 182, rfl⟩
abbrev main_v119 : Ref sig .tc := ⟨.hbm, 183, rfl⟩
abbrev main_v120 : Ref sig .tc := ⟨.hbm, 184, rfl⟩
abbrev main_cst_28 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_cst_29 : Ref sig .tc := ⟨.hbm, 192, rfl⟩
abbrev main_v127 : Ref sig .tc := ⟨.hbm, 193, rfl⟩
abbrev main_v128 : Ref sig .tc := ⟨.hbm, 194, rfl⟩
abbrev main_cst_30 : Ref sig .tc := ⟨.hbm, 195, rfl⟩
abbrev main_v129 : Ref sig .tc := ⟨.hbm, 196, rfl⟩
abbrev main_v130 : Ref sig .tc := ⟨.hbm, 197, rfl⟩
abbrev main_cst_31 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_cst_32 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_cst_33 : Ref sig .tc := ⟨.hbm, 208, rfl⟩
abbrev main_v139 : Ref sig .tc := ⟨.hbm, 209, rfl⟩
abbrev main_v140 : Ref sig .tc := ⟨.hbm, 210, rfl⟩
abbrev main_cst_34 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_cst_35 : Ref sig .tc := ⟨.hbm, 217, rfl⟩
abbrev main_v146 : Ref sig .tc := ⟨.hbm, 218, rfl⟩
abbrev main_v147 : Ref sig .tc := ⟨.hbm, 219, rfl⟩
abbrev main_v148 : Ref sig .tc := ⟨.hbm, 220, rfl⟩
abbrev main_cst_36 : Ref sig .tc := ⟨.hbm, 221, rfl⟩
abbrev main_v149 : Ref sig .tc := ⟨.hbm, 222, rfl⟩
abbrev main_v150 : Ref sig .tc := ⟨.hbm, 223, rfl⟩
abbrev main_v151 : Ref sig .tc := ⟨.hbm, 224, rfl⟩
abbrev main_cst_37 : Ref sig .tc := ⟨.hbm, 225, rfl⟩
abbrev main_v152 : Ref sig .tc := ⟨.hbm, 226, rfl⟩
abbrev main_v153 : Ref sig .tc := ⟨.hbm, 227, rfl⟩
abbrev main_v154 : Ref sig .tc := ⟨.hbm, 228, rfl⟩
abbrev main_v155 : Ref sig .tc := ⟨.hbm, 229, rfl⟩
abbrev main_v156 : Ref sig .tc := ⟨.hbm, 230, rfl⟩
abbrev main_v157 : Ref sig .tc := ⟨.hbm, 231, rfl⟩
abbrev main_cst_38 : Ref sig .tc := ⟨.hbm, 232, rfl⟩
abbrev main_v158 : Ref sig .tc := ⟨.hbm, 233, rfl⟩
abbrev main_v159 : Ref sig .tc := ⟨.hbm, 234, rfl⟩
abbrev main_v160 : Ref sig .tc := ⟨.hbm, 235, rfl⟩
abbrev main_cst_39 : Ref sig .tc := ⟨.hbm, 236, rfl⟩
abbrev main_v161 : Ref sig .tc := ⟨.hbm, 237, rfl⟩
abbrev main_v162 : Ref sig .tc := ⟨.hbm, 238, rfl⟩
abbrev main_v163 : Ref sig .tc := ⟨.hbm, 239, rfl⟩
abbrev main_cst_40 : Ref sig .tc := ⟨.hbm, 240, rfl⟩
abbrev main_v164 : Ref sig .tc := ⟨.hbm, 241, rfl⟩
abbrev main_v165 : Ref sig .tc := ⟨.hbm, 242, rfl⟩
abbrev main_v166 : Ref sig .tc := ⟨.hbm, 243, rfl⟩
abbrev main_v167 : Ref sig .tc := ⟨.hbm, 244, rfl⟩
abbrev main_v168 : Ref sig .tc := ⟨.hbm, 245, rfl⟩
abbrev main_v169 : Ref sig .tc := ⟨.hbm, 246, rfl⟩
abbrev main_v170 : Ref sig .tc := ⟨.hbm, 247, rfl⟩
abbrev main_v171 : Ref sig .tc := ⟨.hbm, 248, rfl⟩
abbrev main_v172 : Ref sig .tc := ⟨.hbm, 249, rfl⟩
abbrev main_v173 : Ref sig .tc := ⟨.hbm, 250, rfl⟩

abbrev nD : Nat := 1
abbrev τ : Topo := Topo.v7x

variable {F : FTy → Type} [FloatOps F]
-- ==== DWin.lean ====
abbrev S2048x2048 : Shape := ⟨2, ![2048, 2048]⟩
abbrev S2048x13568 : Shape := ⟨2, ![2048, 13568]⟩
abbrev S13568x2048 : Shape := ⟨2, ![13568, 2048]⟩
abbrev S2048x256 : Shape := ⟨2, ![2048, 256]⟩
abbrev S256x2048 : Shape := ⟨2, ![256, 2048]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x13568, .bf16⟩
  | .hbm, ⟨2, _⟩ => ⟨S13568x2048, .bf16⟩
  | .local _ .vmem, ⟨0, _⟩ => ⟨S2048x256, .bf16⟩
  | .local _ .vmem, ⟨1, _⟩ => ⟨S2048x256, .bf16⟩
  | .local _ .vmem, ⟨2, _⟩ => ⟨S2048x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![53, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWinRefIdeal.lean ====
abbrev S2048x2048 : Shape := ⟨2, ![2048, 2048]⟩
abbrev S2048x13568 : Shape := ⟨2, ![2048, 13568]⟩
abbrev S_ : Shape := ⟨0, ![]⟩
abbrev S13568x2048 : Shape := ⟨2, ![13568, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x13568, .bf16⟩
  | .hbm, ⟨2, _⟩ => ⟨S2048x2048, .f32⟩
  | .hbm, ⟨3, _⟩ => ⟨S_, .f32⟩
  | .hbm, ⟨4, _⟩ => ⟨S2048x13568, .f32⟩
  | .hbm, ⟨5, _⟩ => ⟨S2048x13568, .f32⟩
  | .hbm, ⟨6, _⟩ => ⟨S2048x13568, .f32⟩
  | .hbm, ⟨7, _⟩ => ⟨S13568x2048, .f32⟩
  | .hbm, ⟨8, _⟩ => ⟨S2048x13568, .f32⟩
  | .hbm, ⟨9, _⟩ => ⟨S13568x2048, .f32⟩
  | .hbm, ⟨10, _⟩ => ⟨S13568x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DH.lean ====
abbrev S13568x2048 : Shape := ⟨2, ![13568, 2048]⟩
abbrev S2048x13568 : Shape := ⟨2, ![2048, 13568]⟩
abbrev S2048x2048 : Shape := ⟨2, ![2048, 2048]⟩
abbrev S2048x256 : Shape := ⟨2, ![2048, 256]⟩
abbrev S256x2048 : Shape := ⟨2, ![256, 2048]⟩

abbrev nBuf : Space → Nat
  | .hbm => 3
  | .vmem => 5
  | .smem => 0
  | _ => 0

abbrev bufTy : (tb : Table) → Fin (tcTables nBuf tb) → BufTy
  | .hbm, ⟨0, _⟩ => ⟨S13568x2048, .bf16⟩
  | .hbm, ⟨1, _⟩ => ⟨S2048x13568, .bf16⟩
  | .hbm, ⟨2, _⟩ => ⟨S2048x2048, .f32⟩
  | .local _ .vmem, ⟨0, _⟩ => ⟨S2048x256, .bf16⟩
  | .local _ .vmem, ⟨1, _⟩ => ⟨S2048x256, .bf16⟩
  | .local _ .vmem, ⟨2, _⟩ => ⟨S256x2048, .bf16⟩
  | .local _ .vmem, ⟨3, _⟩ => ⟨S256x2048, .bf16⟩
  | .local _ .vmem, ⟨4, _⟩ => ⟨S2048x2048, .f32⟩
  | _, _ => ⟨S13568x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 53], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DHRefIdeal.lean ====
abbrev S13568x2048 : Shape := ⟨2, ![13568, 2048]⟩
abbrev S2048x13568 : Shape := ⟨2, ![2048, 13568]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S13568x2048, .bf16⟩
  | .hbm, ⟨1, _⟩ => ⟨S2048x13568, .bf16⟩
  | .hbm, ⟨2, _⟩ => ⟨S13568x2048, .f32⟩
  | .hbm, ⟨3, _⟩ => ⟨S2048x13568, .f32⟩
  | .hbm, ⟨4, _⟩ => ⟨S_, .f32⟩
  | .hbm, ⟨5, _⟩ => ⟨S2048x2048, .f32⟩
  | .hbm, ⟨6, _⟩ => ⟨S2048x13568, .f32⟩
  | .hbm, ⟨7, _⟩ => ⟨S2048x13568, .f32⟩
  | .hbm, ⟨8, _⟩ => ⟨S2048x2048, .f32⟩
  | _, _ => ⟨S13568x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DMerged.lean ====
abbrev S2048x2048 : Shape := ⟨2, ![2048, 2048]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .bf16⟩
  | .local _ .vmem, ⟨0, _⟩ => ⟨S1024x2048, .f32⟩
  | .local _ .vmem, ⟨1, _⟩ => ⟨S1024x2048, .f32⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DMergedRefIdeal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DWout.lean ====
abbrev S2048x2048 : Shape := ⟨2, ![2048, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .f32⟩
  | .local _ .vmem, ⟨3, _⟩ => ⟨S2048x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWoutRefIdeal.lean ====
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DY.lean ====
abbrev S2048x1024 : Shape := ⟨2, ![2048, 1024]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S2048x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DYRefIdeal.lean ====
abbrev S2048x1024 : Shape := ⟨2, ![2048, 1024]⟩
abbrev S2048x2048 : Shape := ⟨2, ![2048, 2048]⟩
abbrev S1024x2048 : Shape := ⟨2, ![1024, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S2048x1024, .f32⟩
  | .hbm, ⟨3, _⟩ => ⟨S1024x2048, .f32⟩
  | .hbm, ⟨4, _⟩ => ⟨S_, .f32⟩
  | .hbm, ⟨5, _⟩ => ⟨S2048x1024, .f32⟩
  | .hbm, ⟨6, _⟩ => ⟨S2048x2048, .f32⟩
  | .hbm, ⟨7, _⟩ => ⟨S2048x2048, .f32⟩
  | .hbm, ⟨8, _⟩ => ⟨S2048x1024, .f32⟩
  | .hbm, ⟨9, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DWb.lean ====
abbrev S2048x1024 : Shape := ⟨2, ![2048, 1024]⟩
abbrev S2048x2048 : Shape := ⟨2, ![2048, 2048]⟩
abbrev S2048x512 : Shape := ⟨2, ![2048, 512]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S2048x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWbRefIdeal.lean ====
abbrev S2048x1024 : Shape := ⟨2, ![2048, 1024]⟩
abbrev S2048x2048 : Shape := ⟨2, ![2048, 2048]⟩
abbrev S_ : Shape := ⟨0, ![]⟩
abbrev S1024x2048 : Shape := ⟨2, ![1024, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S2048x1024, .f32⟩
  | .hbm, ⟨3, _⟩ => ⟨S_, .f32⟩
  | .hbm, ⟨4, _⟩ => ⟨S1024x2048, .f32⟩
  | .hbm, ⟨5, _⟩ => ⟨S2048x2048, .f32⟩
  | .hbm, ⟨6, _⟩ => ⟨S2048x2048, .f32⟩
  | .hbm, ⟨7, _⟩ => ⟨S2048x1024, .f32⟩
  | .hbm, ⟨8, _⟩ => ⟨S1024x2048, .f32⟩
  | .hbm, ⟨9, _⟩ => ⟨S2048x1024, .f32⟩
  | .hbm, ⟨10, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Branch.lean ====
abbrev S2048x1024 : Shape := ⟨2, ![2048, 1024]⟩
abbrev S2048x2048 : Shape := ⟨2, ![2048, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchRefIdeal.lean ====
abbrev S2048x1024 : Shape := ⟨2, ![2048, 1024]⟩
abbrev S1024x2048 : Shape := ⟨2, ![1024, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .f32⟩
  | .hbm, ⟨3, _⟩ => ⟨S2048x1024, .f32⟩
  | .hbm, ⟨4, _⟩ => ⟨S1024x2048, .f32⟩
  | .hbm, ⟨5, _⟩ => ⟨S2048x2048, .f32⟩
  | .hbm, ⟨6, _⟩ => ⟨S2048x2048, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== OutProj.lean ====
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .bf16⟩
  | .hbm, ⟨3, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjRefIdeal.lean ====
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .bf16⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MergeBwd.lean ====
abbrev S2048x2048 : Shape := ⟨2, ![2048, 2048]⟩
abbrev S2048x13568 : Shape := ⟨2, ![2048, 13568]⟩
abbrev S1024x256 : Shape := ⟨2, ![1024, 256]⟩

abbrev nBuf : Space → Nat
  | .hbm => 11
  | .vmem => 26
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S2048x13568, .bf16⟩
  | .hbm, ⟨4, _⟩ => ⟨S2048x2048, .bf16⟩
  | .hbm, ⟨5, _⟩ => ⟨S2048x2048, .bf16⟩
  | .hbm, ⟨6, _⟩ => ⟨S2048x2048, .bf16⟩
  | .hbm, ⟨7, _⟩ => ⟨S2048x2048, .bf16⟩
  | .hbm, ⟨8, _⟩ => ⟨S2048x2048, .bf16⟩
  | .hbm, ⟨9, _⟩ => ⟨S2048x2048, .bf16⟩
  | .hbm, ⟨10, _⟩ => ⟨S2048x2048, .bf16⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S1024x256, .bf16⟩
  | .local _ .vmem, ⟨14, _⟩ => ⟨S1024x256, .bf16⟩
  | .local _ .vmem, ⟨15, _⟩ => ⟨S1024x256, .bf16⟩
  | .local _ .vmem, ⟨16, _⟩ => ⟨S1024x256, .bf16⟩
  | .local _ .vmem, ⟨17, _⟩ => ⟨S1024x256, .bf16⟩
  | .local _ .vmem, ⟨18, _⟩ => ⟨S1024x256, .bf16⟩
  | .local _ .vmem, ⟨19, _⟩ => ⟨S1024x256, .bf16⟩
  | .local _ .vmem, ⟨20, _⟩ => ⟨S1024x256, .bf16⟩
  | .local _ .vmem, ⟨21, _⟩ => ⟨S1024x256, .bf16⟩
  | .local _ .vmem, ⟨22, _⟩ => ⟨S1024x256, .bf16⟩
  | .local _ .vmem, ⟨23, _⟩ => ⟨S1024x256, .bf16⟩
  | .local _ .vmem, ⟨24, _⟩ => ⟨S1024x256, .bf16⟩
  | .local _ .vmem, ⟨25, _⟩ => ⟨S1024x256, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c29_i32 : BitVec 32 := 29#32
  let v0 : BitVec 32 := Scalar.addi c29_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c37_i32 : BitVec 32 := 37#32
  let v0 : BitVec 32 := Scalar.addi c37_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c45_i32 : BitVec 32 := 45#32
  let v0 : BitVec 32 := Scalar.addi c45_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== MergeBwdRefIdeal.lean ====
abbrev S2048x2048 : Shape := ⟨2, ![2048, 2048]⟩
abbrev S2048x13568 : Shape := ⟨2, ![2048, 13568]⟩
abbrev S_ : Shape := ⟨0, ![]⟩

abbrev nBuf : Space → Nat
  | .hbm => 69
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S2048x13568, .bf16⟩
  | .hbm, ⟨4, _⟩ => ⟨S2048x2048, .bf16⟩
  | .hbm, ⟨5, _⟩ => ⟨S2048x13568, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S_, .f32⟩
  | .hbm, ⟨18, _⟩ => ⟨S2048x2048, .f32⟩
  | .hbm, ⟨19, _⟩ => ⟨S2048x2048, .f32⟩
  | .hbm, ⟨20, _⟩ => ⟨S_, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S_, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S_, .f32⟩
  | .hbm, ⟨42, _⟩ => ⟨S2048x2048, .f32⟩
  | .hbm, ⟨43, _⟩ => ⟨S2048x2048, .f32⟩
  | .hbm, ⟨44, _⟩ => ⟨S_, .f32⟩
  | .hbm, ⟨45, _⟩ => ⟨S2048x2048, .f32⟩
  | .hbm, ⟨46, _⟩ => ⟨S2048x2048, .f32⟩
  | .hbm, ⟨47, _⟩ => ⟨S_, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S2048x2048, .f32⟩
  | .hbm, ⟨55, _⟩ => ⟨S2048x2048, .f32⟩
  | .hbm, ⟨56, _⟩ => ⟨S2048x2048, .f32⟩
  | .hbm, ⟨57, _⟩ => ⟨S2048x2048, .f32⟩
  | .hbm, ⟨58, _⟩ => ⟨S2048x2048, .f32⟩
  | .hbm, ⟨59, _⟩ => ⟨S2048x2048, .f32⟩
  | .hbm, ⟨60, _⟩ => ⟨S2048x2048, .f32⟩
  | .hbm, ⟨61, _⟩ => ⟨S2048x2048, .f32⟩
  | .hbm, ⟨62, _⟩ => ⟨S2048x2048, .f32⟩
  | .hbm, ⟨63, _⟩ => ⟨S2048x2048, .bf16⟩
  | .hbm, ⟨64, _⟩ => ⟨S2048x2048, .bf16⟩
  | .hbm, ⟨65, _⟩ => ⟨S2048x2048, .bf16⟩
  | .hbm, ⟨66, _⟩ => ⟨S2048x2048, .bf16⟩
  | .hbm, ⟨67, _⟩ => ⟨S2048x2048, .bf16⟩
  | .hbm, ⟨68, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩

abbrev nD : Nat := 1
abbrev τ : Topo := Topo.v7x

variable {F : FTy → Type} [FloatOps F]
-- ==== RmsBwd.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S2048x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RmsBwdRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x2048, .f32⟩
  | .hbm, ⟨37, _⟩ => ⟨S2048x2048, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S_, .f32⟩
  | .hbm, ⟨43, _⟩ => ⟨S2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== LossHead.lean ====
abbrev S2048x2048 : Shape := ⟨2, ![2048, 2048]⟩
abbrev S2048 : Shape := ⟨1, ![2048]⟩
abbrev S1x2048 : Shape := ⟨2, ![1, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1x256x2048 : Shape := ⟨3, ![1, 256, 2048]⟩
abbrev S1 : Shape := ⟨1, ![1]⟩
abbrev S1x1x1 : Shape := ⟨3, ![1, 1, 1]⟩

abbrev nBuf : Space → Nat
  | .hbm => 7
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S1x2048, .f32⟩
  | .hbm, ⟨4, _⟩ => ⟨S8x128, .f32⟩
  | .hbm, ⟨5, _⟩ => ⟨S2048x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S8x128, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossHeadRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S8x128 : Shape := ⟨2, ![8, 128]⟩

abbrev nBuf : Space → Nat
  | .hbm => 73
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x2048, .f32⟩
  | .hbm, ⟨19, _⟩ => ⟨S2048x2048, .f32⟩
  | .hbm, ⟨20, _⟩ => ⟨S1x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2048, .f32⟩
  | .hbm, ⟨41, _⟩ => ⟨S_, .f32⟩
  | .hbm, ⟨42, _⟩ => ⟨S2048, .f32⟩
  | .hbm, ⟨43, _⟩ => ⟨S2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S2048x2048, .f32⟩
  | .hbm, ⟨51, _⟩ => ⟨S2048x2048, .f32⟩
  | .hbm, ⟨52, _⟩ => ⟨S_, .f32⟩
  | .hbm, ⟨53, _⟩ => ⟨S2048, .f32⟩
  | .hbm, ⟨54, _⟩ => ⟨S2048x2048, .f32⟩
  | .hbm, ⟨55, _⟩ => ⟨S_, .f32⟩
  | .hbm, ⟨56, _⟩ => ⟨S2048, .f32⟩
  | .hbm, ⟨57, _⟩ => ⟨S2048x1, .f32⟩
  | .hbm, ⟨58, _⟩ => ⟨S2048x2048, .f32⟩
  | .hbm, ⟨59, _⟩ => ⟨S2048x2048, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S_, .f32⟩
  | .hbm, ⟨65, _⟩ => ⟨S2048, .f32⟩
  | .hbm, ⟨66, _⟩ => ⟨S2048x2048, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S8x128, .f32⟩
  | .hbm, ⟨72, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== GluBwd.lean ====
abbrev S2048x1024 : Shape := ⟨2, ![2048, 1024]⟩
abbrev S2048x13568 : Shape := ⟨2, ![2048, 13568]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩

abbrev nBuf : Space → Nat
  | .hbm => 10
  | .vmem => 14
  | .smem => 0
  | _ => 0

abbrev bufTy : (tb : Table) → Fin (tcTables nBuf tb) → BufTy
  | .hbm, ⟨0, _⟩ => ⟨S2048x1024, .bf16⟩
  | .hbm, ⟨1, _⟩ => ⟨S2048x13568, .bf16⟩
  | .hbm, ⟨2, _⟩ => ⟨S1024x1024, .bf16⟩
  | .hbm, ⟨3, _⟩ => ⟨S1024, .f32⟩
  | .hbm, ⟨4, _⟩ => ⟨S2048x1024, .bf16⟩
  | .hbm, ⟨5, _⟩ => ⟨S1x1024, .f32⟩
  | .hbm, ⟨6, _⟩ => ⟨S2048x1024, .bf16⟩
  | .hbm, ⟨7, _⟩ => ⟨S2048x1024, .bf16⟩
  | .hbm, ⟨8, _⟩ => ⟨S1024x1024, .f32⟩
  | .hbm, ⟨9, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .f32⟩
  | .local _ .vmem, ⟨13, _⟩ => ⟨S1x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== GluBwdRefIdeal.lean ====
abbrev S2048x1024 : Shape := ⟨2, ![2048, 1024]⟩
abbrev S2048x13568 : Shape := ⟨2, ![2048, 13568]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩

abbrev nBuf : Space → Nat
  | .hbm => 62
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x13568, .bf16⟩
  | .hbm, ⟨2, _⟩ => ⟨S1024x1024, .bf16⟩
  | .hbm, ⟨3, _⟩ => ⟨S1024, .f32⟩
  | .hbm, ⟨4, _⟩ => ⟨S2048x1024, .bf16⟩
  | .hbm, ⟨5, _⟩ => ⟨S2048x1024, .f32⟩
  | .hbm, ⟨6, _⟩ => ⟨S2048x13568, .f32⟩
  | .hbm, ⟨7, _⟩ => ⟨S2048x1024, .f32⟩
  | .hbm, ⟨8, _⟩ => ⟨S1024x1024, .f32⟩
  | .hbm, ⟨9, _⟩ => ⟨S2048x1024, .f32⟩
  | .hbm, ⟨10, _⟩ => ⟨S1x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S_, .f32⟩
  | .hbm, ⟨54, _⟩ => ⟨S1024, .f32⟩
  | .hbm, ⟨55, _⟩ => ⟨S1024x1024, .f32⟩
  | .hbm, ⟨56, _⟩ => ⟨S1024x1024, .f32⟩
  | .hbm, ⟨57, _⟩ => ⟨S2048x1024, .f32⟩
  | .hbm, ⟨58, _⟩ => ⟨S2048x1024, .f32⟩
  | .hbm, ⟨59, _⟩ => ⟨S2048x1024, .bf16⟩
  | .hbm, ⟨60, _⟩ => ⟨S2048x1024, .bf16⟩
  | .hbm, ⟨61, _⟩ => ⟨S1x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_v18_2 : Ref sig .tc := ⟨.hbm, 33, rfl⟩
abbrev main_call0_cst_1 : Ref sig .tc := ⟨.hbm, 34, rfl⟩
abbrev main_call0_v6 : Ref sig .tc := ⟨.hbm, 35, rfl⟩
abbrev main_call0_v7 : Ref sig .tc := ⟨.hbm, 36, rfl⟩
abbrev main_v18_1 : Ref sig .tc := ⟨.hbm, 37, rfl⟩
abbrev main_v18_0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_2 : Ref sig .tc := ⟨.hbm, 50, rfl⟩
abbrev main_v27 : Ref sig .tc := ⟨.hbm, 51, rfl⟩
abbrev main_v28 : Ref sig .tc := ⟨.hbm, 52, rfl⟩
abbrev main_cst_3 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩

abbrev nD : Nat := 1
abbrev τ : Topo := Topo.v7x

variable {F : FTy → Type} [FloatOps F]
-- ==== MergeFwd.lean ====
abbrev S2048x2048 : Shape := ⟨2, ![2048, 2048]⟩
abbrev S2048x13568 : Shape := ⟨2, ![2048, 13568]⟩
abbrev S1024x256 : Shape := ⟨2, ![1024, 256]⟩

abbrev nBuf : Space → Nat
  | .hbm => 5
  | .vmem => 14
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S2048x13568, .bf16⟩
  | .hbm, ⟨4, _⟩ => ⟨S2048x2048, .bf16⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S1024x256, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c29_i32 : BitVec 32 := 29#32
  let v0 : BitVec 32 := Scalar.addi c29_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c37_i32 : BitVec 32 := 37#32
  let v0 : BitVec 32 := Scalar.addi c37_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c45_i32 : BitVec 32 := 45#32
  let v0 : BitVec 32 := Scalar.addi c45_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeFwdRefIdeal.lean ====
abbrev S2048x2048 : Shape := ⟨2, ![2048, 2048]⟩
abbrev S2048x13568 : Shape := ⟨2, ![2048, 13568]⟩
abbrev S2048x6144 : Shape := ⟨2, ![2048, 6144]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S2048x13568, .bf16⟩
  | .hbm, ⟨4, _⟩ => ⟨S2048x13568, .f32⟩
  | .hbm, ⟨5, _⟩ => ⟨S2048x6144, .f32⟩
  | .hbm, ⟨6, _⟩ => ⟨S2048x6144, .f32⟩
  | .hbm, ⟨7, _⟩ => ⟨S2048x6144, .f32⟩
  | .hbm, ⟨8, _⟩ => ⟨S_, .f32⟩
  | .hbm, ⟨9, _⟩ => ⟨S2048x6144, .f32⟩
  | .hbm, ⟨10, _⟩ => ⟨S2048x6144, .f32⟩
  | .hbm, ⟨11, _⟩ => ⟨S_, .f32⟩
  | .hbm, ⟨12, _⟩ => ⟨S2048x6144, .f32⟩
  | .hbm, ⟨13, _⟩ => ⟨S2048x6144, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== RmsFwd.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S1x2048, .f32⟩
  | .hbm, ⟨3, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S1x2048, .f32⟩
  | .hbm, ⟨16, _⟩ => ⟨S2048x2048, .f32⟩
  | .hbm, ⟨17, _⟩ => ⟨S2048x2048, .f32⟩
  | .hbm, ⟨18, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== GluFwd.lean ====
abbrev S2048x1024 : Shape := ⟨2, ![2048, 1024]⟩
abbrev S2048x13568 : Shape := ⟨2, ![2048, 13568]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩

abbrev nBuf : Space → Nat
  | .hbm => 6
  | .vmem => 8
  | .smem => 0
  | _ => 0

abbrev bufTy : (tb : Table) → Fin (tcTables nBuf tb) → BufTy
  | .hbm, ⟨0, _⟩ => ⟨S2048x1024, .bf16⟩
  | .hbm, ⟨1, _⟩ => ⟨S2048x13568, .bf16⟩
  | .hbm, ⟨2, _⟩ => ⟨S1024x1024, .bf16⟩
  | .hbm, ⟨3, _⟩ => ⟨S1024, .f32⟩
  | .hbm, ⟨4, _⟩ => ⟨S1x1024, .f32⟩
  | .hbm, ⟨5, _⟩ => ⟨S2048x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GluFwdRefIdeal.lean ====
abbrev S2048x1024 : Shape := ⟨2, ![2048, 1024]⟩
abbrev S2048x13568 : Shape := ⟨2, ![2048, 13568]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x13568, .bf16⟩
  | .hbm, ⟨2, _⟩ => ⟨S1024x1024, .bf16⟩
  | .hbm, ⟨3, _⟩ => ⟨S1024, .f32⟩
  | .hbm, ⟨4, _⟩ => ⟨S2048x1024, .f32⟩
  | .hbm, ⟨5, _⟩ => ⟨S1024x1024, .f32⟩
  | .hbm, ⟨6, _⟩ => ⟨S2048x1024, .f32⟩
  | .hbm, ⟨7, _⟩ => ⟨S1x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x13568, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩

abbrev nD : Nat := 1
abbrev τ : Topo := Topo.v7x

variable {F : FTy → Type} [FloatOps F]
-- ==== InProj.lean ====
abbrev S2048x2048 : Shape := ⟨2, ![2048, 2048]⟩
abbrev S13568x2048 : Shape := ⟨2, ![13568, 2048]⟩
abbrev S39 : Shape := ⟨1, ![39]⟩
abbrev S14 : Shape := ⟨1, ![14]⟩
abbrev S2048x13568 : Shape := ⟨2, ![2048, 13568]⟩
abbrev S256x2048 : Shape := ⟨2, ![256, 2048]⟩
abbrev S1 : Shape := ⟨1, ![1]⟩
abbrev S2048x256 : Shape := ⟨2, ![2048, 256]⟩

abbrev nBuf : Space → Nat
  | .hbm => 4
  | .vmem => 10
  | .smem => 2
  | _ => 0

abbrev bufTy : (tb : Table) → Fin (tcTables nBuf tb) → BufTy
  | .hbm, ⟨0, _⟩ => ⟨S2048x2048, .bf16⟩
  | .hbm, ⟨1, _⟩ => ⟨S13568x2048, .bf16⟩
  | .hbm, ⟨2, _⟩ => ⟨S2048x13568, .bf16⟩
  | .hbm, ⟨3, _⟩ => ⟨S2048x13568, .bf16⟩
  | .local _ .vmem, ⟨0, _⟩ => ⟨S2048x2048, .bf16⟩
  | .local _ .vmem, ⟨1, _⟩ => ⟨S256x2048, .bf16⟩
  | .local _ .vmem, ⟨2, _⟩ => ⟨S256x2048, .bf16⟩
  | .local _ .vmem, ⟨3, _⟩ => ⟨S2048x256, .bf16⟩
  | .local _ .vmem, ⟨4, _⟩ => ⟨S2048x256, .bf16⟩
  | .local _ .vmem, ⟨5, _⟩ => ⟨S2048x2048, .bf16⟩
  | .local _ .vmem, ⟨6, _⟩ => ⟨S256x2048, .bf16⟩
  | .local _ .vmem, ⟨7, _⟩ => ⟨S256x2048, .bf16⟩
  | .local _ .vmem, ⟨8, _⟩ => ⟨S2048x256, .bf16⟩
  | .local _ .vmem, ⟨9, _⟩ => ⟨S2048x256, .bf16⟩
  | .local _ .smem, ⟨0, _⟩ => ⟨S39, .i32⟩
  | .local _ .smem, ⟨1, _⟩ => ⟨S14, .i32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![39], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (k0_off1_inb : ∀ i : grid0.Coords, ∀ a, (k0_off1 i) a + S1.size a ≤ S39.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S39) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S39.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S39) ![v0.toNat] S1.size (k0_off1_inb i)) numel1_S1
  let c0_i32 : BitVec 32 := 0#32
  let c0_i32_0 : BitVec 32 := 0#32
  ![c0_i32.toNat, v1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![14], ![false]⟩

abbrev pre1 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (k1_off1_inb : ∀ i : grid1.Coords, ∀ a, (k1_off1 i) a + S1.size a ≤ S14.size a) (numel1_S1 : S1.numel = 1) (pf : pre1.Contents (Elt F)) (i : grid1.Coords) : Fin 2 → Nat :=
  let arg0 : BitVec 32 := BitVec.ofNat 32 (i 0).val
  let v0 : Index := Scalar.indexCast arg0
  let v1 : BitVec 32 := pf.at 0 (Rect.unit (s := S14) ![v0.toNat] S1.size (k1_off1_inb i)) numel1_S1
  let c0_i32 : BitVec 32 := 0#32
  let c0_i32_0 : BitVec 32 := 0#32
  ![v1.toNat, c0_i32.toNat]

def cc1_transform_3 (k1_off1_inb : ∀ i : grid1.Coords, ∀ a, (k1_off1 i) a + S1.size a ≤ S14.size a) (numel1_S1 : S1.numel = 1) (pf : pre1.Contents (Elt F)) (i : grid1.Coords) : Fin 2 → Nat :=
  let arg0 : BitVec 32 := BitVec.ofNat 32 (i 0).val
  let v0 : Index := Scalar.indexCast arg0
  let v1 : BitVec 32 := pf.at 0 (Rect.unit (s := S14) ![v0.toNat] S1.size (k1_off1_inb i)) numel1_S1
  let c0_i32 : BitVec 32 := 0#32
  let c0_i32_0 : BitVec 32 := 0#32
  ![c0_i32.toNat, v1.toNat]

abbrev stage1_0 : Fin 1 → Memref sig .tc .vmem S2048x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== InProjRefIdeal.lean ====
abbrev S2048x2048 : Shape := ⟨2, ![2048, 2048]⟩
abbrev S13568x2048 : Shape := ⟨2, ![13568, 2048]⟩
abbrev S39 : Shape := ⟨1, ![39]⟩
abbrev S14 : Shape := ⟨1, ![14]⟩
abbrev S2048x13568 : Shape := ⟨2, ![2048, 13568]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S13568x2048, .bf16⟩
  | .hbm, ⟨2, _⟩ => ⟨S39, .i32⟩
  | .hbm, ⟨3, _⟩ => ⟨S14, .i32⟩
  | .hbm, ⟨4, _⟩ => ⟨S2048x2048, .f32⟩
  | .hbm, ⟨5, _⟩ => ⟨S13568x2048, .f32⟩
  | .hbm, ⟨6, _⟩ => ⟨S2048x13568, .f32⟩
  | .hbm, ⟨7, _⟩ => ⟨S2048x13568, .f32⟩
  | .hbm, ⟨8, _⟩ => ⟨S2048x13568, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== SgFwd.lean ====
abbrev S2048x13568 : Shape := ⟨2, ![2048, 13568]⟩
abbrev S1024 : Shape := ⟨1, ![1024]⟩
abbrev S8x128x128 : Shape := ⟨3, ![8, 128, 128]⟩
abbrev S8x128 : Shape := ⟨2, ![8, 128]⟩
abbrev S1x1024 : Shape := ⟨2, ![1, 1024]⟩
abbrev S8x128x1 : Shape := ⟨3, ![8, 128, 1]⟩
abbrev S2048x1024 : Shape := ⟨2, ![2048, 1024]⟩
abbrev S128x1024 : Shape := ⟨2, ![128, 1024]⟩
abbrev S128x128 : Shape := ⟨2, ![128, 128]⟩
abbrev S1x128x128 : Shape := ⟨3, ![1, 128, 128]⟩
abbrev S128 : Shape := ⟨1, ![128]⟩
abbrev S128x1 : Shape := ⟨2, ![128, 1]⟩
abbrev S1x128x1 : Shape := ⟨3, ![1, 128, 1]⟩

abbrev nBuf : Space → Nat
  | .hbm => 9
  | .vmem => 12
  | .smem => 0
  | _ => 0

abbrev bufTy : (tb : Table) → Fin (tcTables nBuf tb) → BufTy
  | .hbm, ⟨0, _⟩ => ⟨S2048x13568, .bf16⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S1x1024, .f32⟩
  | .hbm, ⟨6, _⟩ => ⟨S1x1024, .f32⟩
  | .hbm, ⟨7, _⟩ => ⟨S8x128x1, .f32⟩
  | .hbm, ⟨8, _⟩ => ⟨S2048x1024, .bf16⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S1x1024, .f32⟩
  | .local _ .vmem, ⟨7, _⟩ => ⟨S1x1024, .f32⟩
  | .local _ .vmem, ⟨8, _⟩ => ⟨S8x128x128, .f32⟩
  | .local _ .vmem, ⟨9, _⟩ => ⟨S8x128x1, .f32⟩
  | .local _ .vmem, ⟨10, _⟩ => ⟨S128x1024, .bf16⟩
  | .local _ .vmem, ⟨11, _⟩ => ⟨S128x1024, .bf16⟩
  | _, _ => ⟨S2048x13568, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== SgFwdRefIdeal.lean ====
abbrev S2048x13568 : Shape := ⟨2, ![2048, 13568]⟩
abbrev S1024 : Shape := ⟨1, ![1024]⟩
abbrev S8x128x128 : Shape := ⟨3, ![8, 128, 128]⟩
abbrev S8x128 : Shape := ⟨2, ![8, 128]⟩
abbrev S2048x1024 : Shape := ⟨2, ![2048, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S16x128x8x128 : Shape := ⟨4, ![16, 128, 8, 128]⟩
abbrev S128x128 : Shape := ⟨2, ![128, 128]⟩
abbrev S1x128x128 : Shape := ⟨3, ![1, 128, 128]⟩
abbrev S8x16x128x128 : Shape := ⟨4, ![8, 16, 128, 128]⟩
abbrev S128x8 : Shape := ⟨2, ![128, 8]⟩
abbrev S128x8x1 : Shape := ⟨3, ![128, 8, 1]⟩
abbrev S1x128x8x1 : Shape := ⟨4, ![1, 128, 8, 1]⟩

abbrev nBuf : Space → Nat
  | .hbm => 109
  | .vmem => 0
  | .smem => 0
  | _ => 0

abbrev bufTy : (tb : Table) → Fin (tcTables nBuf tb) → BufTy
  | .hbm, ⟨0, _⟩ => ⟨S2048x13568, .bf16⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S2048x13568, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S2048, .f32⟩
  | .hbm, ⟨44, _⟩ => ⟨S2048x1, .f32⟩
  | .hbm, ⟨45, _⟩ => ⟨S_, .f32⟩
  | .hbm, ⟨46, _⟩ => ⟨S2048x1, .f32⟩
  | .hbm, ⟨47, _⟩ => ⟨S2048x1, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S_, .f32⟩
  | .hbm, ⟨52, _⟩ => ⟨S2048, .f32⟩
  | .hbm, ⟨53, _⟩ => ⟨S2048x1, .f32⟩
  | .hbm, ⟨54, _⟩ => ⟨S_, .f32⟩
  | .hbm, ⟨55, _⟩ => ⟨S2048x1, .f32⟩
  | .hbm, ⟨56, _⟩ => ⟨S2048x1, .f32⟩
  | .hbm, ⟨57, _⟩ => ⟨S2048x1024, .f32⟩
  | .hbm, ⟨58, _⟩ => ⟨S2048x1024, .f32⟩
  | .hbm, ⟨59, _⟩ => ⟨S_, .f32⟩
  | .hbm, ⟨60, _⟩ => ⟨S2048x1, .f32⟩
  | .hbm, ⟨61, _⟩ => ⟨S2048x1, .f32⟩
  | .hbm, ⟨62, _⟩ => ⟨S2048x1, .f32⟩
  | .hbm, ⟨63, _⟩ => ⟨S2048x1024, .f32⟩
  | .hbm, ⟨64, _⟩ => ⟨S2048x1024, .f32⟩
  | .hbm, ⟨65, _⟩ => ⟨S1x1024, .f32⟩
  | .hbm, ⟨66, _⟩ => ⟨S2048x1024, .f32⟩
  | .hbm, ⟨67, _⟩ => ⟨S2048x1024, .f32⟩
  | .hbm, ⟨68, _⟩ => ⟨S1x1024, .f32⟩
  | .hbm, ⟨69, _⟩ => ⟨S2048x1024, .f32⟩
  | .hbm, ⟨70, _⟩ => ⟨S2048x1024, .f32⟩
  | .hbm, ⟨71, _⟩ => ⟨S16x128x8x128, .f32⟩
  | .hbm, ⟨72, _⟩ => ⟨S_, .i1⟩
  | .hbm, ⟨73, _⟩ => ⟨S128x128, .i1⟩
  | .hbm, ⟨74, _⟩ => ⟨S128x128, .i32⟩
  | .hbm, ⟨75, _⟩ => ⟨S_, .i32⟩
  | .hbm, ⟨76, _⟩ => ⟨S128x128, .i32⟩
  | .hbm, ⟨77, _⟩ => ⟨S128x128, .i32⟩
  | .hbm, ⟨78, _⟩ => ⟨S128x128, .i32⟩
  | .hbm, ⟨79, _⟩ => ⟨S128x128, .i1⟩
  | .hbm, ⟨80, _⟩ => ⟨S_, .i1⟩
  | .hbm, ⟨81, _⟩ => ⟨S128x128, .i1⟩
  | .hbm, ⟨82, _⟩ => ⟨S128x128, .i1⟩
  | .hbm, ⟨83, _⟩ => ⟨S1x128x128, .i1⟩
  | .hbm, ⟨84, _⟩ => ⟨S_, .f32⟩
  | .hbm, ⟨85, _⟩ => ⟨S8x128x128, .f32⟩
  | .hbm, ⟨86, _⟩ => ⟨S8x128x128, .i1⟩
  | .hbm, ⟨87, _⟩ => ⟨S8x128x128, .f32⟩
  | .hbm, ⟨88, _⟩ => ⟨S8x16x128x128, .f32⟩
  | .hbm, ⟨89, _⟩ => ⟨S16x128x8x128, .f32⟩
  | .hbm, ⟨90, _⟩ => ⟨S128x8, .f32⟩
  | .hbm, ⟨91, _⟩ => ⟨S128x8x1, .f32⟩
  | .hbm, ⟨92, _⟩ => ⟨S1x128x8x1, .f32⟩
  | .hbm, ⟨93, _⟩ => ⟨S16x128x8x128, .f32⟩
  | .hbm, ⟨94, _⟩ => ⟨S16x128x8x128, .f32⟩
  | .hbm, ⟨95, _⟩ => ⟨S2048x1024, .f32⟩
  | .hbm, ⟨96, _⟩ => ⟨S2048x1024, .f32⟩
  | .hbm, ⟨97, _⟩ => ⟨S2048x1024, .f32⟩
  | .hbm, ⟨98, _⟩ => ⟨S2048x1024, .f32⟩
  | .hbm, ⟨99, _⟩ => ⟨S2048x1024, .f32⟩
  | .hbm, ⟨100, _⟩ => ⟨S_, .f32⟩
  | .hbm, ⟨101, _⟩ => ⟨S2048x1024, .f32⟩
  | .hbm, ⟨102, _⟩ => ⟨S2048x1024, .f32⟩
  | .hbm, ⟨103, _⟩ => ⟨S_, .f32⟩
  | .hbm, ⟨104, _⟩ => ⟨S2048x1024, .f32⟩
  | .hbm, ⟨105, _⟩ => ⟨S2048x1024, .f32⟩
  | .hbm, ⟨106, _⟩ => ⟨S2048x1024, .f32⟩
  | .hbm, ⟨107, _⟩ => ⟨S2048x1024, .f32⟩
  | .hbm, ⟨108, _⟩ => ⟨S2048x1024, .bf16⟩
  | _, _ => ⟨S2048x13568, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_9 : Ref sig .tc := ⟨.hbm, 51, rfl⟩
abbrev main_v36 : Ref sig .tc := ⟨.hbm, 52, rfl⟩
abbrev main_v37 : Ref sig .tc := ⟨.hbm, 53, rfl⟩
abbrev main_cst_10 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_11 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c : Ref sig .tc := ⟨.hbm, 72, rfl⟩
abbrev main_v54 : Ref sig .tc := ⟨.hbm, 73, rfl⟩
abbrev main_call0_v0 : Ref sig .tc := ⟨.hbm, 74, rfl⟩
abbrev main_call0_c : Ref sig .tc := ⟨.hbm, 75, rfl⟩
abbrev main_call0_v1 : Ref sig .tc := ⟨.hbm, 76, rfl⟩
abbrev main_call0_v2 : Ref sig .tc := ⟨.hbm, 77, rfl⟩
abbrev main_call0_v3 : Ref sig .tc := ⟨.hbm, 78, rfl⟩
abbrev main_call0_v4 : Ref sig .tc := ⟨.hbm, 79, rfl⟩
abbrev main_call0_c_0 : Ref sig .tc := ⟨.hbm, 80, rfl⟩
abbrev main_call0_v5 : Ref sig .tc := ⟨.hbm, 81, rfl⟩
abbrev main_v55 : Ref sig .tc := ⟨.hbm, 82, rfl⟩
abbrev main_v56 : Ref sig .tc := ⟨.hbm, 83, rfl⟩
abbrev main_cst_12 : Ref sig .tc := ⟨.hbm, 84, rfl⟩
abbrev main_v57 : Ref sig .tc := ⟨.hbm, 85, rfl⟩
abbrev main_call1_v0 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_call2_v0 : Ref sig .tc := ⟨.hbm, 98, rfl⟩
abbrev main_call2_v1 : Ref sig .tc := ⟨.hbm, 99, rfl⟩
abbrev main_call2_cst : Ref sig .tc := ⟨.hbm, 100, rfl⟩
abbrev main_call2_v2 : Ref sig .tc := ⟨.hbm, 101, rfl⟩
abbrev main_call2_v3 : Ref sig .tc := ⟨.hbm, 102, rfl⟩
abbrev main_call2_cst_0 : Ref sig .tc := ⟨.hbm, 103, rfl⟩
abbrev main_call2_v4 : Ref sig .tc := ⟨.hbm, 104, rfl⟩
abbrev main_call2_v5 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩

abbrev nD : Nat := 1
abbrev τ : Topo := Topo.v7x

variable {F : FTy → Type} [FloatOps F]
-- ==== AdamA.lean ====
abbrev S128x64 : Shape := ⟨2, ![128, 64]⟩

abbrev nBuf : Space → Nat
  | .hbm => 7
  | .vmem => 7
  | .smem => 0
  | _ => 0

abbrev bufTy : (tb : Table) → Fin (tcTables nBuf tb) → BufTy
  | .hbm, ⟨0, _⟩ => ⟨S128x64, .f32⟩
  | .hbm, ⟨1, _⟩ => ⟨S128x64, .f32⟩
  | .hbm, ⟨2, _⟩ => ⟨S128x64, .f32⟩
  | .hbm, ⟨3, _⟩ => ⟨S128x64, .f32⟩
  | .hbm, ⟨4, _⟩ => ⟨S128x64, .f32⟩
  | .hbm, ⟨5, _⟩ => ⟨S128x64, .f32⟩
  | .hbm, ⟨6, _⟩ => ⟨S128x64, .f32⟩
  | .local _ .vmem, ⟨0, _⟩ => ⟨S128x64, .f32⟩
  | .local _ .vmem, ⟨1, _⟩ => ⟨S128x64, .f32⟩
  | .local _ .vmem, ⟨2, _⟩ => ⟨S128x64, .f32⟩
  | .local _ .vmem, ⟨3, _⟩ => ⟨S128x64, .f32⟩
  | .local _ .vmem, ⟨4, _⟩ => ⟨S128x64, .f32⟩
  | .local _ .vmem, ⟨5, _⟩ => ⟨S128x64, .f32⟩
  | .local _ .vmem, ⟨6, _⟩ => ⟨S128x64, .f32⟩
  | _, _ => ⟨S128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

abbrev stage0_0 : Fin 1 → Memref sig .tc .vmem S128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, true]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, true]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, true]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, true]
-- ==== AdamAIdeal.lean ====
abbrev S128x64 : Shape := ⟨2, ![128, 64]⟩

abbrev nBuf : Space → Nat
  | .hbm => 7
  | .vmem => 7
  | .smem => 0
  | _ => 0

abbrev bufTy : (tb : Table) → Fin (tcTables nBuf tb) → BufTy
  | .hbm, ⟨0, _⟩ => ⟨S128x64, .f32⟩
  | .hbm, ⟨1, _⟩ => ⟨S128x64, .f32⟩
  | .hbm, ⟨2, _⟩ => ⟨S128x64, .f32⟩
  | .hbm, ⟨3, _⟩ => ⟨S128x64, .f32⟩
  | .hbm, ⟨4, _⟩ => ⟨S128x64, .f32⟩
  | .hbm, ⟨5, _⟩ => ⟨S128x64, .f32⟩
  | .hbm, ⟨6, _⟩ => ⟨S128x64, .f32⟩
  | .local _ .vmem, ⟨0, _⟩ => ⟨S128x64, .f32⟩
  | .local _ .vmem, ⟨1, _⟩ => ⟨S128x64, .f32⟩
  | .local _ .vmem, ⟨2, _⟩ => ⟨S128x64, .f32⟩
  | .local _ .vmem, ⟨3, _⟩ => ⟨S128x64, .f32⟩
  | .local _ .vmem, ⟨4, _⟩ => ⟨S128x64, .f32⟩
  | .local _ .vmem, ⟨5, _⟩ => ⟨S128x64, .f32⟩
  | .local _ .vmem, ⟨6, _⟩ => ⟨S128x64, .f32⟩
  | _, _ => ⟨S128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

abbrev stage0_0 : Fin 1 → Memref sig .tc .vmem S128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, true]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, true]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, true]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, true]
-- ==== AdamARefIdeal.lean ====
abbrev S128x64 : Shape := ⟨2, ![128, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S128x64, .f32⟩
  | .hbm, ⟨1, _⟩ => ⟨S128x64, .f32⟩
  | .hbm, ⟨2, _⟩ => ⟨S128x64, .f32⟩
  | .hbm, ⟨3, _⟩ => ⟨S128x64, .f32⟩
  | .hbm, ⟨4, _⟩ => ⟨S_, .f32⟩
  | .hbm, ⟨5, _⟩ => ⟨S128x64, .f32⟩
  | .hbm, ⟨6, _⟩ => ⟨S128x64, .f32⟩
  | .hbm, ⟨7, _⟩ => ⟨S_, .f32⟩
  | .hbm, ⟨8, _⟩ => ⟨S128x64, .f32⟩
  | .hbm, ⟨9, _⟩ => ⟨S128x64, .f32⟩
  | .hbm, ⟨10, _⟩ => ⟨S128x64, .f32⟩
  | .hbm, ⟨11, _⟩ => ⟨S_, .f32⟩
  | .hbm, ⟨12, _⟩ => ⟨S128x64, .f32⟩
  | .hbm, ⟨13, _⟩ => ⟨S128x64, .f32⟩
  | .hbm, ⟨14, _⟩ => ⟨S128x64, .f32⟩
  | .hbm, ⟨15, _⟩ => ⟨S_, .f32⟩
  | .hbm, ⟨16, _⟩ => ⟨S128x64, .f32⟩
  | .hbm, ⟨17, _⟩ => ⟨S128x64, .f32⟩
  | .hbm, ⟨18, _⟩ => ⟨S128x64, .f32⟩
  | .hbm, ⟨19, _⟩ => ⟨S_, .f32⟩
  | .hbm, ⟨20, _⟩ => ⟨S128x64, .f32⟩
  | .hbm, ⟨21, _⟩ => ⟨S128x64, .f32⟩
  | .hbm, ⟨22, _⟩ => ⟨S_, .f32⟩
  | .hbm, ⟨23, _⟩ => ⟨S128x64, .f32⟩
  | .hbm, ⟨24, _⟩ => ⟨S128x64, .f32⟩
  | .hbm, ⟨25, _⟩ => ⟨S128x64, .f32⟩
  | .hbm, ⟨26, _⟩ => ⟨S_, .f32⟩
  | .hbm, ⟨27, _⟩ => ⟨S128x64, .f32⟩
  | .hbm, ⟨28, _⟩ => ⟨S128x64, .f32⟩
  | .hbm, ⟨29, _⟩ => ⟨S128x64, .f32⟩
  | .hbm, ⟨30, _⟩ => ⟨S_, .f32⟩
  | .hbm, ⟨31, _⟩ => ⟨S128x64, .f32⟩
  | .hbm, ⟨32, _⟩ => ⟨S128x64, .f32⟩
  | .hbm, ⟨33, _⟩ => ⟨S128x64, .f32⟩
  | .hbm, ⟨34, _⟩ => ⟨S_, .f32⟩
  | .hbm, ⟨35, _⟩ => ⟨S128x64, .f32⟩
  | .hbm, ⟨36, _⟩ => ⟨S128x64, .f32⟩
  | _, _ => ⟨S128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamC.lean ====
abbrev S2048x64 : Shape := ⟨2, ![2048, 64]⟩

abbrev nBuf : Space → Nat
  | .hbm => 7
  | .vmem => 7
  | .smem => 0
  | _ => 0

abbrev bufTy : (tb : Table) → Fin (tcTables nBuf tb) → BufTy
  | .hbm, ⟨0, _⟩ => ⟨S2048x64, .f32⟩
  | .hbm, ⟨1, _⟩ => ⟨S2048x64, .f32⟩
  | .hbm, ⟨2, _⟩ => ⟨S2048x64, .f32⟩
  | .hbm, ⟨3, _⟩ => ⟨S2048x64, .f32⟩
  | .hbm, ⟨4, _⟩ => ⟨S2048x64, .f32⟩
  | .hbm, ⟨5, _⟩ => ⟨S2048x64, .f32⟩
  | .hbm, ⟨6, _⟩ => ⟨S2048x64, .f32⟩
  | .local _ .vmem, ⟨0, _⟩ => ⟨S2048x64, .f32⟩
  | .local _ .vmem, ⟨1, _⟩ => ⟨S2048x64, .f32⟩
  | .local _ .vmem, ⟨2, _⟩ => ⟨S2048x64, .f32⟩
  | .local _ .vmem, ⟨3, _⟩ => ⟨S2048x64, .f32⟩
  | .local _ .vmem, ⟨4, _⟩ => ⟨S2048x64, .f32⟩
  | .local _ .vmem, ⟨5, _⟩ => ⟨S2048x64, .f32⟩
  | .local _ .vmem, ⟨6, _⟩ => ⟨S2048x64, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

abbrev stage0_0 : Fin 1 → Memref sig .tc .vmem S2048x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 1 → Memref sig .tc .vmem S2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, true]

abbrev stage0_3 : Fin 1 → Memref sig .tc .vmem S2048x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, true]

abbrev stage0_4 : Fin 1 → Memref sig .tc .vmem S2048x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, true]

abbrev stage0_5 : Fin 1 → Memref sig .tc .vmem S2048x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, true]

abbrev stage0_6 : Fin 1 → Memref sig .tc .vmem S2048x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, true]
-- ==== AdamCIdeal.lean ====
abbrev S2048x64 : Shape := ⟨2, ![2048, 64]⟩

abbrev nBuf : Space → Nat
  | .hbm => 7
  | .vmem => 7
  | .smem => 0
  | _ => 0

abbrev bufTy : (tb : Table) → Fin (tcTables nBuf tb) → BufTy
  | .hbm, ⟨0, _⟩ => ⟨S2048x64, .f32⟩
  | .hbm, ⟨1, _⟩ => ⟨S2048x64, .f32⟩
  | .hbm, ⟨2, _⟩ => ⟨S2048x64, .f32⟩
  | .hbm, ⟨3, _⟩ => ⟨S2048x64, .f32⟩
  | .hbm, ⟨4, _⟩ => ⟨S2048x64, .f32⟩
  | .hbm, ⟨5, _⟩ => ⟨S2048x64, .f32⟩
  | .hbm, ⟨6, _⟩ => ⟨S2048x64, .f32⟩
  | .local _ .vmem, ⟨0, _⟩ => ⟨S2048x64, .f32⟩
  | .local _ .vmem, ⟨1, _⟩ => ⟨S2048x64, .f32⟩
  | .local _ .vmem, ⟨2, _⟩ => ⟨S2048x64, .f32⟩
  | .local _ .vmem, ⟨3, _⟩ => ⟨S2048x64, .f32⟩
  | .local _ .vmem, ⟨4, _⟩ => ⟨S2048x64, .f32⟩
  | .local _ .vmem, ⟨5, _⟩ => ⟨S2048x64, .f32⟩
  | .local _ .vmem, ⟨6, _⟩ => ⟨S2048x64, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

abbrev stage0_0 : Fin 1 → Memref sig .tc .vmem S2048x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 1 → Memref sig .tc .vmem S2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, true]

abbrev stage0_3 : Fin 1 → Memref sig .tc .vmem S2048x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, true]

abbrev stage0_4 : Fin 1 → Memref sig .tc .vmem S2048x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, true]

abbrev stage0_5 : Fin 1 → Memref sig .tc .vmem S2048x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, true]

abbrev stage0_6 : Fin 1 → Memref sig .tc .vmem S2048x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, true]
-- ==== AdamCRefIdeal.lean ====
abbrev S2048x64 : Shape := ⟨2, ![2048, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x64, .f32⟩
  | .hbm, ⟨1, _⟩ => ⟨S2048x64, .f32⟩
  | .hbm, ⟨2, _⟩ => ⟨S2048x64, .f32⟩
  | .hbm, ⟨3, _⟩ => ⟨S2048x64, .f32⟩
  | .hbm, ⟨4, _⟩ => ⟨S_, .f32⟩
  | .hbm, ⟨5, _⟩ => ⟨S2048x64, .f32⟩
  | .hbm, ⟨6, _⟩ => ⟨S2048x64, .f32⟩
  | .hbm, ⟨7, _⟩ => ⟨S_, .f32⟩
  | .hbm, ⟨8, _⟩ => ⟨S2048x64, .f32⟩
  | .hbm, ⟨9, _⟩ => ⟨S2048x64, .f32⟩
  | .hbm, ⟨10, _⟩ => ⟨S2048x64, .f32⟩
  | .hbm, ⟨11, _⟩ => ⟨S_, .f32⟩
  | .hbm, ⟨12, _⟩ => ⟨S2048x64, .f32⟩
  | .hbm, ⟨13, _⟩ => ⟨S2048x64, .f32⟩
  | .hbm, ⟨14, _⟩ => ⟨S2048x64, .f32⟩
  | .hbm, ⟨15, _⟩ => ⟨S_, .f32⟩
  | .hbm, ⟨16, _⟩ => ⟨S2048x64, .f32⟩
  | .hbm, ⟨17, _⟩ => ⟨S2048x64, .f32⟩
  | .hbm, ⟨18, _⟩ => ⟨S2048x64, .f32⟩
  | .hbm, ⟨19, _⟩ => ⟨S_, .f32⟩
  | .hbm, ⟨20, _⟩ => ⟨S2048x64, .f32⟩
  | .hbm, ⟨21, _⟩ => ⟨S2048x64, .f32⟩
  | .hbm, ⟨22, _⟩ => ⟨S_, .f32⟩
  | .hbm, ⟨23, _⟩ => ⟨S2048x64, .f32⟩
  | .hbm, ⟨24, _⟩ => ⟨S2048x64, .f32⟩
  | .hbm, ⟨25, _⟩ => ⟨S2048x64, .f32⟩
  | .hbm, ⟨26, _⟩ => ⟨S_, .f32⟩
  | .hbm, ⟨27, _⟩ => ⟨S2048x64, .f32⟩
  | .hbm, ⟨28, _⟩ => ⟨S2048x64, .f32⟩
  | .hbm, ⟨29, _⟩ => ⟨S2048x64, .f32⟩
  | .hbm, ⟨30, _⟩ => ⟨S_, .f32⟩
  | .hbm, ⟨31, _⟩ => ⟨S2048x64, .f32⟩
  | .hbm, ⟨32, _⟩ => ⟨S2048x64, .f32⟩
  | .hbm, ⟨33, _⟩ => ⟨S2048x64, .f32⟩
  | .hbm, ⟨34, _⟩ => ⟨S_, .f32⟩
  | .hbm, ⟨35, _⟩ => ⟨S2048x64, .f32⟩
  | .hbm, ⟨36, _⟩ => ⟨S2048x64, .f32⟩
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamMix.lean ====
abbrev S2048x128 : Shape := ⟨2, ![2048, 128]⟩

abbrev nBuf : Space → Nat
  | .hbm => 7
  | .vmem => 7
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S2048x128, .f32⟩
  | .hbm, ⟨6, _⟩ => ⟨S2048x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, true]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, true]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, true]
-- ==== AdamMixIdeal.lean ====
abbrev S2048x128 : Shape := ⟨2, ![2048, 128]⟩

abbrev nBuf : Space → Nat
  | .hbm => 7
  | .vmem => 7
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S2048x128, .f32⟩
  | .hbm, ⟨6, _⟩ => ⟨S2048x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, true]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, true]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, true]
-- ==== AdamMixRefIdeal.lean ====
abbrev S2048x128 : Shape := ⟨2, ![2048, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S_, .f32⟩
  | .hbm, ⟨5, _⟩ => ⟨S2048x128, .f32⟩
  | .hbm, ⟨6, _⟩ => ⟨S2048x128, .f32⟩
  | .hbm, ⟨7, _⟩ => ⟨S_, .f32⟩
  | .hbm, ⟨8, _⟩ => ⟨S2048x128, .f32⟩
  | .hbm, ⟨9, _⟩ => ⟨S2048x128, .f32⟩
  | .hbm, ⟨10, _⟩ => ⟨S2048x128, .f32⟩
  | .hbm, ⟨11, _⟩ => ⟨S_, .f32⟩
  | .hbm, ⟨12, _⟩ => ⟨S2048x128, .f32⟩
  | .hbm, ⟨13, _⟩ => ⟨S2048x128, .f32⟩
  | .hbm, ⟨14, _⟩ => ⟨S2048x128, .f32⟩
  | .hbm, ⟨15, _⟩ => ⟨S_, .f32⟩
  | .hbm, ⟨16, _⟩ => ⟨S2048x128, .f32⟩
  | .hbm, ⟨17, _⟩ => ⟨S2048x128, .f32⟩
  | .hbm, ⟨18, _⟩ => ⟨S2048x128, .f32⟩
  | .hbm, ⟨19, _⟩ => ⟨S_, .f32⟩
  | .hbm, ⟨20, _⟩ => ⟨S2048x128, .f32⟩
  | .hbm, ⟨21, _⟩ => ⟨S2048x128, .f32⟩
  | .hbm, ⟨22, _⟩ => ⟨S_, .f32⟩
  | .hbm, ⟨23, _⟩ => ⟨S2048x128, .f32⟩
  | .hbm, ⟨24, _⟩ => ⟨S2048x128, .f32⟩
  | .hbm, ⟨25, _⟩ => ⟨S2048x128, .f32⟩
  | .hbm, ⟨26, _⟩ => ⟨S_, .f32⟩
  | .hbm, ⟨27, _⟩ => ⟨S2048x128, .f32⟩
  | .hbm, ⟨28, _⟩ => ⟨S2048x128, .f32⟩
  | .hbm, ⟨29, _⟩ => ⟨S2048x128, .f32⟩
  | .hbm, ⟨30, _⟩ => ⟨S_, .f32⟩
  | .hbm, ⟨31, _⟩ => ⟨S2048x128, .f32⟩
  | .hbm, ⟨32, _⟩ => ⟨S2048x128, .f32⟩
  | .hbm, ⟨33, _⟩ => ⟨S2048x128, .f32⟩
  | .hbm, ⟨34, _⟩ => ⟨S_, .f32⟩
  | .hbm, ⟨35, _⟩ => ⟨S2048x128, .f32⟩
  | .hbm, ⟨36, _⟩ => ⟨S2048x128, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamVec.lean ====
abbrev S64x1024 : Shape := ⟨2, ![64, 1024]⟩

abbrev nBuf : Space → Nat
  | .hbm => 7
  | .vmem => 7
  | .smem => 0
  | _ => 0

abbrev bufTy : (tb : Table) → Fin (tcTables nBuf tb) → BufTy
  | .hbm, ⟨0, _⟩ => ⟨S64x1024, .f32⟩
  | .hbm, ⟨1, _⟩ => ⟨S64x1024, .f32⟩
  | .hbm, ⟨2, _⟩ => ⟨S64x1024, .f32⟩
  | .hbm, ⟨3, _⟩ => ⟨S64x1024, .f32⟩
  | .hbm, ⟨4, _⟩ => ⟨S64x1024, .f32⟩
  | .hbm, ⟨5, _⟩ => ⟨S64x1024, .f32⟩
  | .hbm, ⟨6, _⟩ => ⟨S64x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, true]

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, true]

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, true]

abbrev stage0_5 : Fin 1 → Memref sig .tc .vmem S64x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, true]

abbrev stage0_6 : Fin 1 → Memref sig .tc .vmem S64x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, true]
-- ==== AdamVecRefIdeal.lean ====
abbrev S64x1024 : Shape := ⟨2, ![64, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S64x1024, .f32⟩
  | .hbm, ⟨2, _⟩ => ⟨S64x1024, .f32⟩
  | .hbm, ⟨3, _⟩ => ⟨S64x1024, .f32⟩
  | .hbm, ⟨4, _⟩ => ⟨S_, .f32⟩
  | .hbm, ⟨5, _⟩ => ⟨S64x1024, .f32⟩
  | .hbm, ⟨6, _⟩ => ⟨S64x1024, .f32⟩
  | .hbm, ⟨7, _⟩ => ⟨S_, .f32⟩
  | .hbm, ⟨8, _⟩ => ⟨S64x1024, .f32⟩
  | .hbm, ⟨9, _⟩ => ⟨S64x1024, .f32⟩
  | .hbm, ⟨10, _⟩ => ⟨S64x1024, .f32⟩
  | .hbm, ⟨11, _⟩ => ⟨S_, .f32⟩
  | .hbm, ⟨12, _⟩ => ⟨S64x1024, .f32⟩
  | .hbm, ⟨13, _⟩ => ⟨S64x1024, .f32⟩
  | .hbm, ⟨14, _⟩ => ⟨S64x1024, .f32⟩
  | .hbm, ⟨15, _⟩ => ⟨S_, .f32⟩
  | .hbm, ⟨16, _⟩ => ⟨S64x1024, .f32⟩
  | .hbm, ⟨17, _⟩ => ⟨S64x1024, .f32⟩
  | .hbm, ⟨18, _⟩ => ⟨S64x1024, .f32⟩
  | .hbm, ⟨19, _⟩ => ⟨S_, .f32⟩
  | .hbm, ⟨20, _⟩ => ⟨S64x1024, .f32⟩
  | .hbm, ⟨21, _⟩ => ⟨S64x1024, .f32⟩
  | .hbm, ⟨22, _⟩ => ⟨S_, .f32⟩
  | .hbm, ⟨23, _⟩ => ⟨S64x1024, .f32⟩
  | .hbm, ⟨24, _⟩ => ⟨S64x1024, .f32⟩
  | .hbm, ⟨25, _⟩ => ⟨S64x1024, .f32⟩
  | .hbm, ⟨26, _⟩ => ⟨S_, .f32⟩
  | .hbm, ⟨27, _⟩ => ⟨S64x1024, .f32⟩
  | .hbm, ⟨28, _⟩ => ⟨S64x1024, .f32⟩
  | .hbm, ⟨29, _⟩ => ⟨S64x1024, .f32⟩
  | .hbm, ⟨30, _⟩ => ⟨S_, .f32⟩
  | .hbm, ⟨31, _⟩ => ⟨S64x1024, .f32⟩
  | .hbm, ⟨32, _⟩ => ⟨S64x1024, .f32⟩
  | .hbm, ⟨33, _⟩ => ⟨S64x1024, .f32⟩
  | .hbm, ⟨34, _⟩ => ⟨S_, .f32⟩
  | .hbm, ⟨35, _⟩ => ⟨S64x1024, .f32⟩
  | .hbm, ⟨36, _⟩ => ⟨S64x1024, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AttnFwd.lean ====
abbrev S2048x13568 : Shape := ⟨2, ![2048, 13568]⟩
abbrev S16 : Shape := ⟨1, ![16]⟩
abbrev S8 : Shape := ⟨1, ![8]⟩
abbrev S_ : Shape := ⟨0, ![]⟩
abbrev S2048 : Shape := ⟨1, ![2048]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S2x2 : Shape := ⟨2, ![2, 2]⟩
abbrev S2x1x2x1 : Shape := ⟨4, ![2, 1, 2, 1]⟩
abbrev S1x64x1x64 : Shape := ⟨4, ![1, 64, 1, 64]⟩
abbrev S2x64x2x64 : Shape := ⟨4, ![2, 64, 2, 64]⟩
abbrev S128x128 : Shape := ⟨2, ![128, 128]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S2048x1024 : Shape := ⟨2, ![2048, 1024]⟩
abbrev S128x1024 : Shape := ⟨2, ![128, 1024]⟩
abbrev S128x256 : Shape := ⟨2, ![128, 256]⟩
abbrev S256x128 : Shape := ⟨2, ![256, 128]⟩
abbrev S1 : Shape := ⟨1, ![1]⟩
abbrev S128 : Shape := ⟨1, ![128]⟩
abbrev S128x1 : Shape := ⟨2, ![128, 1]⟩

abbrev nBuf : Space → Nat
  | .hbm => 86
  | .vmem => 27
  | .smem => 1
  | _ => 0

abbrev bufTy : (tb : Table) → Fin (tcTables nBuf tb) → BufTy
  | .hbm, ⟨0, _⟩ => ⟨S2048x13568, .bf16⟩
  | .hbm, ⟨1, _⟩ => ⟨S16, .f32⟩
  | .hbm, ⟨2, _⟩ => ⟨S8, .f32⟩
  | .hbm, ⟨3, _⟩ => ⟨S_, .f32⟩
  | .hbm, ⟨4, _⟩ => ⟨S8, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S2048, .f32⟩
  | .hbm, ⟨17, _⟩ => ⟨S2048x1, .f32⟩
  | .hbm, ⟨18, _⟩ => ⟨S1x8, .f32⟩
  | .hbm, ⟨19, _⟩ => ⟨S2048x8, .f32⟩
  | .hbm, ⟨20, _⟩ => ⟨S2048x8, .f32⟩
  | .hbm, ⟨21, _⟩ => ⟨S2048x8, .f32⟩
  | .hbm, ⟨22, _⟩ => ⟨S2048x8, .f32⟩
  | .hbm, ⟨23, _⟩ => ⟨S2048x8, .f32⟩
  | .hbm, ⟨24, _⟩ => ⟨S_, .f32⟩
  | .hbm, ⟨25, _⟩ => ⟨S2048x48, .f32⟩
  | .hbm, ⟨26, _⟩ => ⟨S2048x64, .f32⟩
  | .hbm, ⟨27, _⟩ => ⟨S2048x8, .f32⟩
  | .hbm, ⟨28, _⟩ => ⟨S_, .f32⟩
  | .hbm, ⟨29, _⟩ => ⟨S2048x48, .f32⟩
  | .hbm, ⟨30, _⟩ => ⟨S2048x48, .f32⟩
  | .hbm, ⟨31, _⟩ => ⟨S2048x64, .f32⟩
  | .hbm, ⟨32, _⟩ => ⟨S64, .i32⟩
  | .hbm, ⟨33, _⟩ => ⟨S64x1, .i32⟩
  | .hbm, ⟨34, _⟩ => ⟨S64, .i32⟩
  | .hbm, ⟨35, _⟩ => ⟨S1x64, .i32⟩
  | .hbm, ⟨36, _⟩ => ⟨S_, .i32⟩
  | .hbm, ⟨37, _⟩ => ⟨S1x64, .i32⟩
  | .hbm, ⟨38, _⟩ => ⟨S1x64, .i1⟩
  | .hbm, ⟨39, _⟩ => ⟨S_, .i32⟩
  | .hbm, ⟨40, _⟩ => ⟨S1x64, .i32⟩
  | .hbm, ⟨41, _⟩ => ⟨S1x64, .i32⟩
  | .hbm, ⟨42, _⟩ => ⟨S64x64, .i32⟩
  | .hbm, ⟨43, _⟩ => ⟨S64x64, .i32⟩
  | .hbm, ⟨44, _⟩ => ⟨S64x64, .i1⟩
  | .hbm, ⟨45, _⟩ => ⟨S64x64, .i1⟩
  | .hbm, ⟨46, _⟩ => ⟨S64x64, .i1⟩
  | .hbm, ⟨47, _⟩ => ⟨S_, .i32⟩
  | .hbm, ⟨48, _⟩ => ⟨S1x64, .i32⟩
  | .hbm, ⟨49, _⟩ => ⟨S1x64, .i1⟩
  | .hbm, ⟨50, _⟩ => ⟨S_, .i32⟩
  | .hbm, ⟨51, _⟩ => ⟨S1x64, .i32⟩
  | .hbm, ⟨52, _⟩ => ⟨S1x64, .i1⟩
  | .hbm, ⟨53, _⟩ => ⟨S1x64, .i1⟩
  | .hbm, ⟨54, _⟩ => ⟨S_, .i32⟩
  | .hbm, ⟨55, _⟩ => ⟨S1x64, .i32⟩
  | .hbm, ⟨56, _⟩ => ⟨S1x64, .i32⟩
  | .hbm, ⟨57, _⟩ => ⟨S64x64, .i32⟩
  | .hbm, ⟨58, _⟩ => ⟨S64x64, .i32⟩
  | .hbm, ⟨59, _⟩ => ⟨S64x64, .i1⟩
  | .hbm, ⟨60, _⟩ => ⟨S64x64, .i1⟩
  | .hbm, ⟨61, _⟩ => ⟨S64x64, .i1⟩
  | .hbm, ⟨62, _⟩ => ⟨S64x64, .i1⟩
  | .hbm, ⟨63, _⟩ => ⟨S64x64, .f32⟩
  | .hbm, ⟨64, _⟩ => ⟨S2x2, .i32⟩
  | .hbm, ⟨65, _⟩ => ⟨S2x2, .i32⟩
  | .hbm, ⟨66, _⟩ => ⟨S_, .i32⟩
  | .hbm, ⟨67, _⟩ => ⟨S2x2, .i32⟩
  | .hbm, ⟨68, _⟩ => ⟨S2x2, .i32⟩
  | .hbm, ⟨69, _⟩ => ⟨S2x2, .i1⟩
  | .hbm, ⟨70, _⟩ => ⟨S2x2, .f32⟩
  | .hbm, ⟨71, _⟩ => ⟨S2x1x2x1, .f32⟩
  | .hbm, ⟨72, _⟩ => ⟨S1x64x1x64, .f32⟩
  | .hbm, ⟨73, _⟩ => ⟨S2x64x2x64, .f32⟩
  | .hbm, ⟨74, _⟩ => ⟨S2x64x2x64, .f32⟩
  | .hbm, ⟨75, _⟩ => ⟨S2x64x2x64, .f32⟩
  | .hbm, ⟨76, _⟩ => ⟨S128x128, .f32⟩
  | .hbm, ⟨77, _⟩ => ⟨S128x128, .bf16⟩
  | .hbm, ⟨78, _⟩ => ⟨S1x2048x1x64, .f32⟩
  | .hbm, ⟨79, _⟩ => ⟨S1x2048x2x64, .f32⟩
  | .hbm, ⟨80, _⟩ => ⟨S2048x128, .f32⟩
  | .hbm, ⟨81, _⟩ => ⟨S1x2048x1x64, .f32⟩
  | .hbm, ⟨82, _⟩ => ⟨S1x2048x2x64, .f32⟩
  | .hbm, ⟨83, _⟩ => ⟨S2048x128, .f32⟩
  | .hbm, ⟨84, _⟩ => ⟨S2048x1024, .bf16⟩
  | .hbm, ⟨85, _⟩ => ⟨S2048x1024, .bf16⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S128x256, .bf16⟩
  | .local _ .vmem, ⟨11, _⟩ => ⟨S128x256, .bf16⟩
  | .local _ .vmem, ⟨12, _⟩ => ⟨S128x256, .bf16⟩
  | .local _ .vmem, ⟨13, _⟩ => ⟨S128x256, .bf16⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S128x128, .bf16⟩
  | .local _ .vmem, ⟨23, _⟩ => ⟨S128x1024, .bf16⟩
  | .local _ .vmem, ⟨24, _⟩ => ⟨S128x1024, .bf16⟩
  | .local _ .vmem, ⟨25, _⟩ => ⟨S128x1024, .bf16⟩
  | .local _ .vmem, ⟨26, _⟩ => ⟨S128x1024, .bf16⟩
  | .local _ .smem, ⟨0, _⟩ => ⟨S16, .f32⟩
  | _, _ => ⟨S2048x13568, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c : Ref sig .tc := ⟨.hbm, 36, rfl⟩
abbrev main_v28 : Ref sig .tc := ⟨.hbm, 37, rfl⟩
abbrev main_v29 : Ref sig .tc := ⟨.hbm, 38, rfl⟩
abbrev main_c_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_c_6 : Ref sig .tc := ⟨.hbm, 47, rfl⟩
abbrev main_v37 : Ref sig .tc := ⟨.hbm, 48, rfl⟩
abbrev main_v38 : Ref sig .tc := ⟨.hbm, 49, rfl⟩
abbrev main_c_7 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_c_8 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_c_9 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_call0_v0 : Ref sig .tc := ⟨.hbm, 71, rfl⟩
abbrev main_call0_v1 : Ref sig .tc := ⟨.hbm, 72, rfl⟩
abbrev main_call0_v2 : Ref sig .tc := ⟨.hbm, 73, rfl⟩
abbrev main_call0_v3 : Ref sig .tc := ⟨.hbm, 74, rfl⟩
abbrev main_call0_v4 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65_0 : Ref sig .tc := ⟨.hbm, 84, rfl⟩
abbrev main_v65_1 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg12_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c24_i32 : BitVec 32 := 24#32
  let c0_i32 : BitVec 32 := 0#32
  ![arg0.toNat, c24_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c24_i32 : BitVec 32 := 24#32
  let c0_i32_0 : BitVec 32 := 0#32
  ![v1.toNat, c24_i32.toNat]

def cc0_transform_3 (i : grid0.Coords) : Fin 2 → Nat :=
  let arg0 : BitVec 32 := BitVec.ofNat 32 (i 0).val
  let c25_i32 : BitVec 32 := 25#32
  let c0_i32 : BitVec 32 := 0#32
  ![arg0.toNat, c25_i32.toNat]

def cc0_transform_4 (i : grid0.Coords) : Fin 2 → Nat :=
  let arg0 : BitVec 32 := BitVec.ofNat 32 (i 0).val
  let c26_i32 : BitVec 32 := 26#32
  let c0_i32 : BitVec 32 := 0#32
  ![arg0.toNat, c26_i32.toNat]

def cc0_transform_5 (i : grid0.Coords) : Fin 2 → Nat :=
  let arg0 : BitVec 32 := BitVec.ofNat 32 (i 0).val
  let c27_i32 : BitVec 32 := 27#32
  let c0_i32 : BitVec 32 := 0#32
  ![arg0.toNat, c27_i32.toNat]

def cc0_transform_6 (i : grid0.Coords) : Fin 2 → Nat :=
  let arg0 : BitVec 32 := BitVec.ofNat 32 (i 0).val
  let c28_i32 : BitVec 32 := 28#32
  let c0_i32 : BitVec 32 := 0#32
  ![arg0.toNat, c28_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .smem S16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S128x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== AttnFwdIdeal.lean ====
variable {F : FTy → Type} [FloatOps F] [Named F]
def κ : String → Option EReal := fun
  | "mask" => some ⊥
  | _ => none
-- ==== AttnFwdRefIdeal.lean ====
abbrev S2048x13568 : Shape := ⟨2, ![2048, 13568]⟩
abbrev S16 : Shape := ⟨1, ![16]⟩
abbrev S2048x1024 : Shape := ⟨2, ![2048, 1024]⟩
abbrev S2048x128 : Shape := ⟨2, ![2048, 128]⟩
abbrev S2048 : Shape := ⟨1, ![2048]⟩
abbrev S2048x16x64 : Shape := ⟨3, ![2048, 16, 64]⟩
abbrev S8 : Shape := ⟨1, ![8]⟩
abbrev S_ : Shape := ⟨0, ![]⟩
abbrev S2048x1 : Shape := ⟨2, ![2048, 1]⟩
abbrev S1x8 : Shape := ⟨2, ![1, 8]⟩
abbrev S2048x8 : Shape := ⟨2, ![2048, 8]⟩
abbrev S2048x1x8 : Shape := ⟨3, ![2048, 1, 8]⟩
abbrev S2048x16x8 : Shape := ⟨3, ![2048, 16, 8]⟩
abbrev S2048x16x48 : Shape := ⟨3, ![2048, 16, 48]⟩
abbrev S2048x2x64 : Shape := ⟨3, ![2048, 2, 64]⟩
abbrev S2048x2x8 : Shape := ⟨3, ![2048, 2, 8]⟩
abbrev S2048x2x48 : Shape := ⟨3, ![2048, 2, 48]⟩
abbrev S2176x2x64 : Shape := ⟨3, ![2176, 2, 64]⟩
abbrev S16x128x2x64 : Shape := ⟨4, ![16, 128, 2, 64]⟩
abbrev S16x256x2x64 : Shape := ⟨4, ![16, 256, 2, 64]⟩
abbrev S16x128x2x8x64 : Shape := ⟨5, ![16, 128, 2, 8, 64]⟩
abbrev S16x2x256x128x8 : Shape := ⟨5, ![16, 2, 256, 128, 8]⟩
abbrev S16x2x8x128x256 : Shape := ⟨5, ![16, 2, 8, 128, 256]⟩
abbrev S16x1x1 : Shape := ⟨3, ![16, 1, 1]⟩
abbrev S128 : Shape := ⟨1, ![128]⟩
abbrev S1x128x1 : Shape := ⟨3, ![1, 128, 1]⟩
abbrev S16x128x1 : Shape := ⟨3, ![16, 128, 1]⟩
abbrev S256 : Shape := ⟨1, ![256]⟩
abbrev S1x1x256 : Shape := ⟨3, ![1, 1, 256]⟩
abbrev S16x1x256 : Shape := ⟨3, ![16, 1, 256]⟩
abbrev S16x128x256 : Shape := ⟨3, ![16, 128, 256]⟩
abbrev S16x1x1x128x256 : Shape := ⟨5, ![16, 1, 1, 128, 256]⟩
abbrev S2x8 : Shape := ⟨2, ![2, 8]⟩
abbrev S1x2x8x1x1 : Shape := ⟨5, ![1, 2, 8, 1, 1]⟩
abbrev S16x2x8x128x1 : Shape := ⟨5, ![16, 2, 8, 128, 1]⟩
abbrev S16x2x8x128x257 : Shape := ⟨5, ![16, 2, 8, 128, 257]⟩
abbrev S16x2x8x128 : Shape := ⟨4, ![16, 2, 8, 128]⟩
abbrev S16x2x64x8x128 : Shape := ⟨5, ![16, 2, 64, 8, 128]⟩

abbrev nBuf : Space → Nat
  | .hbm => 183
  | .vmem => 0
  | .smem => 0
  | _ => 0

abbrev hbmTy0_0 (i : Nat) : BufTy := match i % 128 with
  | 0 => ⟨S2048x13568, .bf16⟩
  | 1 => ⟨S16, .f32⟩
  | 2 => ⟨S2048x13568, .f32⟩
  | 3 => ⟨S2048x1024, .f32⟩
  | 4 => ⟨S2048x128, .f32⟩
  | 5 => ⟨S2048x128, .f32⟩
  | 6 => ⟨S2048, .i32⟩
  | 7 => ⟨S2048x16x64, .f32⟩
  | 8 => ⟨S8, .f32⟩
  | 9 => ⟨S_, .f32⟩
  | 10 => ⟨S8, .f32⟩
  | 11 => ⟨S8, .f32⟩
  | 12 => ⟨S_, .f32⟩
  | 13 => ⟨S8, .f32⟩
  | 14 => ⟨S8, .f32⟩
  | 15 => ⟨S8, .f32⟩
  | 16 => ⟨S_, .f32⟩
  | 17 => ⟨S8, .f32⟩
  | 18 => ⟨S8, .f32⟩
  | 19 => ⟨S_, .f32⟩
  | 20 => ⟨S8, .f32⟩
  | 21 => ⟨S8, .f32⟩
  | 22 => ⟨S2048, .f32⟩
  | 23 => ⟨S2048x1, .f32⟩
  | 24 => ⟨S1x8, .f32⟩
  | 25 => ⟨S2048x8, .f32⟩
  | 26 => ⟨S2048x8, .f32⟩
  | 27 => ⟨S2048x8, .f32⟩
  | 28 => ⟨S2048x8, .f32⟩
  | 29 => ⟨S2048x1x8, .f32⟩
  | 30 => ⟨S2048x8, .f32⟩
  | 31 => ⟨S2048x1x8, .f32⟩
  | 32 => ⟨S2048x16x8, .f32⟩
  | 33 => ⟨S2048x16x8, .f32⟩
  | 34 => ⟨S2048x16x8, .f32⟩
  | 35 => ⟨S2048x16x8, .f32⟩
  | 36 => ⟨S2048x16x8, .f32⟩
  | 37 => ⟨S2048x16x8, .f32⟩
  | 38 => ⟨S2048x16x8, .f32⟩
  | 39 => ⟨S2048x16x8, .f32⟩
  | 40 => ⟨S2048x16x8, .f32⟩
  | 41 => ⟨S2048x16x8, .f32⟩
  | 42 => ⟨S2048x16x8, .f32⟩
  | 43 => ⟨S2048x16x8, .f32⟩
  | 44 => ⟨S2048x16x48, .f32⟩
  | 45 => ⟨S2048x16x64, .f32⟩
  | 46 => ⟨S2048x2x64, .f32⟩
  | 47 => ⟨S8, .f32⟩
  | 48 => ⟨S_, .f32⟩
  | 49 => ⟨S8, .f32⟩
  | 50 => ⟨S8, .f32⟩
  | 51 => ⟨S_, .f32⟩
  | 52 => ⟨S8, .f32⟩
  | 53 => ⟨S8, .f32⟩
  | 54 => ⟨S8, .f32⟩
  | 55 => ⟨S_, .f32⟩
  | 56 => ⟨S8, .f32⟩
  | 57 => ⟨S8, .f32⟩
  | 58 => ⟨S_, .f32⟩
  | 59 => ⟨S8, .f32⟩
  | 60 => ⟨S8, .f32⟩
  | 61 => ⟨S2048, .f32⟩
  | 62 => ⟨S2048x1, .f32⟩
  | 63 => ⟨S1x8, .f32⟩
  | 64 => ⟨S2048x8, .f32⟩
  | 65 => ⟨S2048x8, .f32⟩
  | 66 => ⟨S2048x8, .f32⟩
  | 67 => ⟨S2048x8, .f32⟩
  | 68 => ⟨S2048x1x8, .f32⟩
  | 69 => ⟨S2048x8, .f32⟩
  | 70 => ⟨S2048x1x8, .f32⟩
  | 71 => ⟨S2048x2x8, .f32⟩
  | 72 => ⟨S2048x2x8, .f32⟩
  | 73 => ⟨S2048x2x8, .f32⟩
  | 74 => ⟨S2048x2x8, .f32⟩
  | 75 => ⟨S2048x2x8, .f32⟩
  | 76 => ⟨S2048x2x8, .f32⟩
  | 77 => ⟨S2048x2x8, .f32⟩
  | 78 => ⟨S2048x2x8, .f32⟩
  | 79 => ⟨S2048x2x8, .f32⟩
  | 80 => ⟨S2048x2x8, .f32⟩
  | 81 => ⟨S2048x2x8, .f32⟩
  | 82 => ⟨S2048x2x8, .f32⟩
  | 83 => ⟨S2048x2x48, .f32⟩
  | 84 => ⟨S2048x2x64, .f32⟩
  | 85 => ⟨S2048x2x64, .f32⟩
  | 86 => ⟨S_, .i32⟩
  | 87 => ⟨S_, .f32⟩
  | 88 => ⟨S2176x2x64, .f32⟩
  | 89 => ⟨S2048x2x64, .f32⟩
  | 90 => ⟨S16x128x2x64, .f32⟩
  | 91 => ⟨S16x128x2x64, .f32⟩
  | 92 => ⟨S16x256x2x64, .f32⟩
  | 93 => ⟨S_, .i32⟩
  | 94 => ⟨S_, .f32⟩
  | 95 => ⟨S2176x2x64, .f32⟩
  | 96 => ⟨S2048x2x64, .f32⟩
  | 97 => ⟨S16x128x2x64, .f32⟩
  | 98 => ⟨S16x128x2x64, .f32⟩
  | 99 => ⟨S16x256x2x64, .f32⟩
  | 100 => ⟨S16x128x2x8x64, .f32⟩
  | 101 => ⟨S16x2x256x128x8, .f32⟩
  | 102 => ⟨S16x2x8x128x256, .f32⟩
  | 103 => ⟨S_, .f32⟩
  | 104 => ⟨S16x2x8x128x256, .f32⟩
  | 105 => ⟨S16x2x8x128x256, .f32⟩
  | 106 => ⟨S16, .i32⟩
  | 107 => ⟨S16x1x1, .i32⟩
  | 108 => ⟨S_, .i32⟩
  | 109 => ⟨S16x1x1, .i32⟩
  | 110 => ⟨S16x1x1, .i32⟩
  | 111 => ⟨S128, .i32⟩
  | 112 => ⟨S1x128x1, .i32⟩
  | 113 => ⟨S16x128x1, .i32⟩
  | 114 => ⟨S16x128x1, .i32⟩
  | 115 => ⟨S16x128x1, .i32⟩
  | 116 => ⟨S_, .i32⟩
  | 117 => ⟨S16x1x1, .i32⟩
  | 118 => ⟨S16x1x1, .i32⟩
  | 119 => ⟨S_, .i32⟩
  | 120 => ⟨S16x1x1, .i32⟩
  | 121 => ⟨S16x1x1, .i32⟩
  | 122 => ⟨S256, .i32⟩
  | 123 => ⟨S1x1x256, .i32⟩
  | 124 => ⟨S16x1x256, .i32⟩
  | 125 => ⟨S16x1x256, .i32⟩
  | 126 => ⟨S16x1x256, .i32⟩
  | 127 => ⟨S16x128x256, .i32⟩
  | _ => ⟨S2048x13568, .bf16⟩

abbrev hbmTy0_1 (i : Nat) : BufTy := match i % 128 with
  | 0 => ⟨S16x128x256, .i32⟩
  | 1 => ⟨S16x128x256, .i32⟩
  | 2 => ⟨S_, .i32⟩
  | 3 => ⟨S16x128x256, .i32⟩
  | 4 => ⟨S16x128x256, .i1⟩
  | 5 => ⟨S_, .i32⟩
  | 6 => ⟨S16x128x256, .i32⟩
  | 7 => ⟨S16x128x256, .i1⟩
  | 8 => ⟨S16x128x256, .i1⟩
  | 9 => ⟨S_, .i32⟩
  | 10 => ⟨S16x1x256, .i32⟩
  | 11 => ⟨S16x1x256, .i1⟩
  | 12 => ⟨S16x128x256, .i1⟩
  | 13 => ⟨S16x128x256, .i1⟩
  | 14 => ⟨S16x1x1x128x256, .i1⟩
  | 15 => ⟨S_, .f32⟩
  | 16 => ⟨S_, .f32⟩
  | 17 => ⟨S16x2x8x128x256, .i1⟩
  | 18 => ⟨S16x2x8x128x256, .f32⟩
  | 19 => ⟨S16x2x8x128x256, .f32⟩
  | 20 => ⟨S2x8, .f32⟩
  | 21 => ⟨S1x2x8x1x1, .f32⟩
  | 22 => ⟨S16x2x8x128x1, .f32⟩
  | 23 => ⟨S16x2x8x128x257, .f32⟩
  | 24 => ⟨S_, .f32⟩
  | 25 => ⟨S16x2x8x128, .f32⟩
  | 26 => ⟨S16x2x8x128x1, .f32⟩
  | 27 => ⟨S16x2x8x128x257, .f32⟩
  | 28 => ⟨S16x2x8x128x257, .f32⟩
  | 29 => ⟨S16x2x8x128x257, .f32⟩
  | 30 => ⟨S_, .f32⟩
  | 31 => ⟨S16x2x8x128, .f32⟩
  | 32 => ⟨S16x2x8x128x1, .f32⟩
  | 33 => ⟨S_, .f32⟩
  | 34 => ⟨S16x2x8x128x1, .f32⟩
  | 35 => ⟨S16x2x8x128x1, .f32⟩
  | 36 => ⟨S16x2x8x128x257, .f32⟩
  | 37 => ⟨S16x2x8x128x257, .f32⟩
  | 38 => ⟨S16x2x8x128x256, .f32⟩
  | 39 => ⟨S16x2x64x8x128, .f32⟩
  | 40 => ⟨S16x128x2x8x64, .f32⟩
  | 41 => ⟨S2048x1024, .f32⟩
  | 42 => ⟨S2048x1024, .f32⟩
  | 43 => ⟨S2048x1024, .f32⟩
  | 44 => ⟨S2048x1024, .f32⟩
  | 45 => ⟨S_, .f32⟩
  | 46 => ⟨S2048x1024, .f32⟩
  | 47 => ⟨S2048x1024, .f32⟩
  | 48 => ⟨S_, .f32⟩
  | 49 => ⟨S2048x1024, .f32⟩
  | 50 => ⟨S2048x1024, .f32⟩
  | 51 => ⟨S2048x1024, .f32⟩
  | 52 => ⟨S2048x1024, .f32⟩
  | 53 => ⟨S2048x1024, .bf16⟩
  | 54 => ⟨S2048x1024, .bf16⟩
  | _ => ⟨S2048x13568, .bf16⟩

abbrev hbmTy (i : Nat) : BufTy := match i / 128 with
  | 0 => hbmTy0_0 i
  | 1 => hbmTy0_1 i
  | _ => ⟨S2048x13568, .bf16⟩

abbrev bufTy : (tb : Table) → Fin (tcTables nBuf tb) → BufTy
  | .hbm, ⟨i, _⟩ => hbmTy i
  | _, _ => ⟨S2048x13568, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_cst_3 : Ref sig .tc := ⟨.hbm, 48, rfl⟩
abbrev main_v42 : Ref sig .tc := ⟨.hbm, 49, rfl⟩
abbrev main_v43 : Ref sig .tc := ⟨.hbm, 50, rfl⟩
abbrev main_cst_4 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_cst_5 : Ref sig .tc := ⟨.hbm, 55, rfl⟩
abbrev main_v47 : Ref sig .tc := ⟨.hbm, 56, rfl⟩
abbrev main_v48 : Ref sig .tc := ⟨.hbm, 57, rfl⟩
abbrev main_cst_6 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_c : Ref sig .tc := ⟨.hbm, 86, rfl⟩
abbrev main_call0_v0 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_c_7 : Ref sig .tc := ⟨.hbm, 93, rfl⟩
abbrev main_call1_v0 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_cst_8 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_c_9 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_c_10 : Ref sig .tc := ⟨.hbm, 116, rfl⟩
abbrev main_v100 : Ref sig .tc := ⟨.hbm, 117, rfl⟩
abbrev main_v101 : Ref sig .tc := ⟨.hbm, 118, rfl⟩
abbrev main_c_11 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_c_12 : Ref sig .tc := ⟨.hbm, 130, rfl⟩
abbrev main_v112 : Ref sig .tc := ⟨.hbm, 131, rfl⟩
abbrev main_v113 : Ref sig .tc := ⟨.hbm, 132, rfl⟩
abbrev main_c_13 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_c_14 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_cst_15 : Ref sig .tc := ⟨.hbm, 143, rfl⟩
abbrev main_call2_v0 : Ref sig .tc := ⟨.hbm, 144, rfl⟩
abbrev main_call2_v1 : Ref sig .tc := ⟨.hbm, 145, rfl⟩
abbrev main_call2_v2 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_cst_16 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_cst_17 : Ref sig .tc := ⟨.hbm, 158, rfl⟩
abbrev main_v132 : Ref sig .tc := ⟨.hbm, 159, rfl⟩
abbrev main_v133 : Ref sig .tc := ⟨.hbm, 160, rfl⟩
abbrev main_cst_18 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_call3_v0 : Ref sig .tc := ⟨.hbm, 171, rfl⟩
abbrev main_call3_v1 : Ref sig .tc := ⟨.hbm, 172, rfl⟩
abbrev main_call3_cst : Ref sig .tc := ⟨.hbm, 173, rfl⟩
abbrev main_call3_v2 : Ref sig .tc := ⟨.hbm, 174, rfl⟩
abbrev main_call3_v3 : Ref sig .tc := ⟨.hbm, 175, rfl⟩
abbrev main_call3_cst_0 : Ref sig .tc := ⟨.hbm, 176, rfl⟩
abbrev main_call3_v4 : Ref sig .tc := ⟨.hbm, 177, rfl⟩
abbrev main_call3_v5 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩

abbrev nD : Nat := 1
abbrev τ : Topo := Topo.v7x

variable {F : FTy → Type} [FloatOps F]
-- ==== S5Par.lean ====
abbrev S64x64 : Shape := ⟨2, ![64, 64]⟩
abbrev S64 : Shape := ⟨1, ![64]⟩
abbrev S64x64x16 : Shape := ⟨3, ![64, 64, 16]⟩
abbrev S64x1 : Shape := ⟨2, ![64, 1]⟩
abbrev S16x64x64 : Shape := ⟨3, ![16, 64, 64]⟩
abbrev S1x64x64 : Shape := ⟨3, ![1, 64, 64]⟩

abbrev nBuf : Space → Nat
  | .hbm => 12
  | .vmem => 9
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64x1, .f32⟩
  | .hbm, ⟨6, _⟩ => ⟨S16x64x64, .f32⟩
  | .hbm, ⟨7, _⟩ => ⟨S16x64x64, .f32⟩
  | .hbm, ⟨8, _⟩ => ⟨S64x64, .f32⟩
  | .hbm, ⟨9, _⟩ => ⟨S64x64, .f32⟩
  | .hbm, ⟨10, _⟩ => ⟨S16x64x64, .f32⟩
  | .hbm, ⟨11, _⟩ => ⟨S16x64x64, .f32⟩
  | .local _ .vmem, ⟨0, _⟩ => ⟨S64x64, .f32⟩
  | .local _ .vmem, ⟨1, _⟩ => ⟨S64x64, .f32⟩
  | .local _ .vmem, ⟨2, _⟩ => ⟨S64x1, .f32⟩
  | .local _ .vmem, ⟨3, _⟩ => ⟨S16x64x64, .f32⟩
  | .local _ .vmem, ⟨4, _⟩ => ⟨S16x64x64, .f32⟩
  | .local _ .vmem, ⟨5, _⟩ => ⟨S64x64, .f32⟩
  | .local _ .vmem, ⟨6, _⟩ => ⟨S64x64, .f32⟩
  | .local _ .vmem, ⟨7, _⟩ => ⟨S16x64x64, .f32⟩
  | .local _ .vmem, ⟨8, _⟩ => ⟨S16x64x64, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== S5ParRefIdeal.lean ====
abbrev S64x64 : Shape := ⟨2, ![64, 64]⟩
abbrev S64 : Shape := ⟨1, ![64]⟩
abbrev S64x64x16 : Shape := ⟨3, ![64, 64, 16]⟩
abbrev S64x1 : Shape := ⟨2, ![64, 1]⟩
abbrev S_ : Shape := ⟨0, ![]⟩
abbrev S64x64x1 : Shape := ⟨3, ![64, 64, 1]⟩
abbrev S16x64x64 : Shape := ⟨3, ![16, 64, 64]⟩

abbrev nBuf : Space → Nat
  | .hbm => 44
  | .vmem => 0
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64, .f32⟩
  | .hbm, ⟨6, _⟩ => ⟨S64x1, .f32⟩
  | .hbm, ⟨7, _⟩ => ⟨S64x64, .f32⟩
  | .hbm, ⟨8, _⟩ => ⟨S64x64, .f32⟩
  | .hbm, ⟨9, _⟩ => ⟨S64x64, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S_, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S64x64x1, .f32⟩
  | .hbm, ⟨31, _⟩ => ⟨S64x64x1, .f32⟩
  | .hbm, ⟨32, _⟩ => ⟨S64x64x16, .f32⟩
  | .hbm, ⟨33, _⟩ => ⟨S64x64x16, .f32⟩
  | .hbm, ⟨34, _⟩ => ⟨S64x64x16, .f32⟩
  | .hbm, ⟨35, _⟩ => ⟨S64x64x16, .f32⟩
  | .hbm, ⟨36, _⟩ => ⟨S64x64x16, .f32⟩
  | .hbm, ⟨37, _⟩ => ⟨S64x64x16, .f32⟩
  | .hbm, ⟨38, _⟩ => ⟨S64x64x16, .f32⟩
  | .hbm, ⟨39, _⟩ => ⟨S64x64x16, .f32⟩
  | .hbm, ⟨40, _⟩ => ⟨S64x64x16, .f32⟩
  | .hbm, ⟨41, _⟩ => ⟨S64x64x16, .f32⟩
  | .hbm, ⟨42, _⟩ => ⟨S16x64x64, .f32⟩
  | .hbm, ⟨43, _⟩ => ⟨S16x64x64, .f32⟩
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩

abbrev nD : Nat := 1
abbrev τ : Topo := Topo.v7x

variable {F : FTy → Type} [FloatOps F]
-- ==== S5ParBwd.lean ====
abbrev S64x64 : Shape := ⟨2, ![64, 64]⟩
abbrev S64 : Shape := ⟨1, ![64]⟩
abbrev S64x64x16 : Shape := ⟨3, ![64, 64, 16]⟩
abbrev S16x64x64 : Shape := ⟨3, ![16, 64, 64]⟩
abbrev S64x1 : Shape := ⟨2, ![64, 1]⟩
abbrev S1x64x64 : Shape := ⟨3, ![1, 64, 64]⟩

abbrev nBuf : Space → Nat
  | .hbm => 17
  | .vmem => 14
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64x64, .f32⟩
  | .hbm, ⟨6, _⟩ => ⟨S64x64, .f32⟩
  | .hbm, ⟨7, _⟩ => ⟨S16x64x64, .f32⟩
  | .hbm, ⟨8, _⟩ => ⟨S16x64x64, .f32⟩
  | .hbm, ⟨9, _⟩ => ⟨S64x1, .f32⟩
  | .hbm, ⟨10, _⟩ => ⟨S16x64x64, .f32⟩
  | .hbm, ⟨11, _⟩ => ⟨S16x64x64, .f32⟩
  | .hbm, ⟨12, _⟩ => ⟨S64x64, .f32⟩
  | .hbm, ⟨13, _⟩ => ⟨S64x64, .f32⟩
  | .hbm, ⟨14, _⟩ => ⟨S64x1, .f32⟩
  | .hbm, ⟨15, _⟩ => ⟨S16x64x64, .f32⟩
  | .hbm, ⟨16, _⟩ => ⟨S16x64x64, .f32⟩
  | .local _ .vmem, ⟨0, _⟩ => ⟨S64x64, .f32⟩
  | .local _ .vmem, ⟨1, _⟩ => ⟨S64x64, .f32⟩
  | .local _ .vmem, ⟨2, _⟩ => ⟨S64x1, .f32⟩
  | .local _ .vmem, ⟨3, _⟩ => ⟨S16x64x64, .f32⟩
  | .local _ .vmem, ⟨4, _⟩ => ⟨S16x64x64, .f32⟩
  | .local _ .vmem, ⟨5, _⟩ => ⟨S64x64, .f32⟩
  | .local _ .vmem, ⟨6, _⟩ => ⟨S64x64, .f32⟩
  | .local _ .vmem, ⟨7, _⟩ => ⟨S16x64x64, .f32⟩
  | .local _ .vmem, ⟨8, _⟩ => ⟨S16x64x64, .f32⟩
  | .local _ .vmem, ⟨9, _⟩ => ⟨S64x64, .f32⟩
  | .local _ .vmem, ⟨10, _⟩ => ⟨S64x64, .f32⟩
  | .local _ .vmem, ⟨11, _⟩ => ⟨S64x1, .f32⟩
  | .local _ .vmem, ⟨12, _⟩ => ⟨S16x64x64, .f32⟩
  | .local _ .vmem, ⟨13, _⟩ => ⟨S16x64x64, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev main_v3_4 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S64x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S16x64x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S16x64x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== S5ParBwdRefIdeal.lean ====
abbrev S64x64 : Shape := ⟨2, ![64, 64]⟩
abbrev S64 : Shape := ⟨1, ![64]⟩
abbrev S64x64x16 : Shape := ⟨3, ![64, 64, 16]⟩
abbrev S16x64x64 : Shape := ⟨3, ![16, 64, 64]⟩
abbrev S64x1 : Shape := ⟨2, ![64, 1]⟩
abbrev S_ : Shape := ⟨0, ![]⟩
abbrev S64x64x1 : Shape := ⟨3, ![64, 64, 1]⟩

abbrev nBuf : Space → Nat
  | .hbm => 156
  | .vmem => 0
  | .smem => 0
  | _ => 0

abbrev hbmTy0_0 (i : Nat) : BufTy := match i % 128 with
  | 0 => ⟨S64x64, .f32⟩
  | 1 => ⟨S64x64, .f32⟩
  | 2 => ⟨S64, .f32⟩
  | 3 => ⟨S64x64x16, .f32⟩
  | 4 => ⟨S64x64x16, .f32⟩
  | 5 => ⟨S64x64, .f32⟩
  | 6 => ⟨S64x64, .f32⟩
  | 7 => ⟨S16x64x64, .f32⟩
  | 8 => ⟨S16x64x64, .f32⟩
  | 9 => ⟨S64, .f32⟩
  | 10 => ⟨S64x1, .f32⟩
  | 11 => ⟨S64x64, .f32⟩
  | 12 => ⟨S64x64, .f32⟩
  | 13 => ⟨S64x64, .f32⟩
  | 14 => ⟨S64x64, .f32⟩
  | 15 => ⟨S64x64, .f32⟩
  | 16 => ⟨S64x64, .f32⟩
  | 17 => ⟨S64x64, .f32⟩
  | 18 => ⟨S64x64, .f32⟩
  | 19 => ⟨S64x64, .f32⟩
  | 20 => ⟨S64x64, .f32⟩
  | 21 => ⟨S64x64, .f32⟩
  | 22 => ⟨S_, .f32⟩
  | 23 => ⟨S64x64, .f32⟩
  | 24 => ⟨S64x64, .f32⟩
  | 25 => ⟨S64x64, .f32⟩
  | 26 => ⟨S64x64, .f32⟩
  | 27 => ⟨S64x64, .f32⟩
  | 28 => ⟨S64x64, .f32⟩
  | 29 => ⟨S64x64, .f32⟩
  | 30 => ⟨S64x64, .f32⟩
  | 31 => ⟨S64x64, .f32⟩
  | 32 => ⟨S64x64, .f32⟩
  | 33 => ⟨S_, .f32⟩
  | 34 => ⟨S64x64, .f32⟩
  | 35 => ⟨S64x64, .f32⟩
  | 36 => ⟨S64x64, .f32⟩
  | 37 => ⟨S64x64, .f32⟩
  | 38 => ⟨S64x64, .f32⟩
  | 39 => ⟨S64x64, .f32⟩
  | 40 => ⟨S64x64, .f32⟩
  | 41 => ⟨S_, .f32⟩
  | 42 => ⟨S64x64, .f32⟩
  | 43 => ⟨S64x64, .f32⟩
  | 44 => ⟨S64x64x1, .f32⟩
  | 45 => ⟨S64x64x1, .f32⟩
  | 46 => ⟨S64x64x16, .f32⟩
  | 47 => ⟨S64x64x16, .f32⟩
  | 48 => ⟨S64x64x16, .f32⟩
  | 49 => ⟨S64x64x16, .f32⟩
  | 50 => ⟨S64x64x16, .f32⟩
  | 51 => ⟨S64x64x16, .f32⟩
  | 52 => ⟨S64x64x16, .f32⟩
  | 53 => ⟨S64x64x16, .f32⟩
  | 54 => ⟨S64x64x16, .f32⟩
  | 55 => ⟨S64x64x16, .f32⟩
  | 56 => ⟨S16x64x64, .f32⟩
  | 57 => ⟨S16x64x64, .f32⟩
  | 58 => ⟨S64x64x16, .f32⟩
  | 59 => ⟨S64x64x16, .f32⟩
  | 60 => ⟨S64x64x16, .f32⟩
  | 61 => ⟨S64x64x16, .f32⟩
  | 62 => ⟨S64x64x16, .f32⟩
  | 63 => ⟨S_, .f32⟩
  | 64 => ⟨S64x64, .f32⟩
  | 65 => ⟨S64x64x1, .f32⟩
  | 66 => ⟨S64x64x16, .f32⟩
  | 67 => ⟨S64x64x16, .f32⟩
  | 68 => ⟨S64x64x16, .f32⟩
  | 69 => ⟨S_, .f32⟩
  | 70 => ⟨S64x64, .f32⟩
  | 71 => ⟨S64x64x1, .f32⟩
  | 72 => ⟨S64x64x16, .f32⟩
  | 73 => ⟨S64x64x16, .f32⟩
  | 74 => ⟨S64x64x16, .f32⟩
  | 75 => ⟨S64x64x16, .f32⟩
  | 76 => ⟨S64x64x16, .f32⟩
  | 77 => ⟨S_, .f32⟩
  | 78 => ⟨S64x64, .f32⟩
  | 79 => ⟨S64x64x1, .f32⟩
  | 80 => ⟨S64x64x1, .f32⟩
  | 81 => ⟨S64x64x16, .f32⟩
  | 82 => ⟨S64x64x16, .f32⟩
  | 83 => ⟨S64x64x16, .f32⟩
  | 84 => ⟨S64x64x16, .f32⟩
  | 85 => ⟨S_, .f32⟩
  | 86 => ⟨S64x64, .f32⟩
  | 87 => ⟨S64x64x1, .f32⟩
  | 88 => ⟨S64x64x1, .f32⟩
  | 89 => ⟨S_, .f32⟩
  | 90 => ⟨S64x64, .f32⟩
  | 91 => ⟨S_, .f32⟩
  | 92 => ⟨S64x64, .f32⟩
  | 93 => ⟨S64x64, .f32⟩
  | 94 => ⟨S64x64, .f32⟩
  | 95 => ⟨S64x64, .f32⟩
  | 96 => ⟨S64x64, .f32⟩
  | 97 => ⟨S64x64, .f32⟩
  | 98 => ⟨S64x64, .f32⟩
  | 99 => ⟨S64x64, .f32⟩
  | 100 => ⟨S64x64, .f32⟩
  | 101 => ⟨S64x64, .f32⟩
  | 102 => ⟨S64x64, .f32⟩
  | 103 => ⟨S64x64, .f32⟩
  | 104 => ⟨S64x64, .f32⟩
  | 105 => ⟨S64x64, .f32⟩
  | 106 => ⟨S64x64, .f32⟩
  | 107 => ⟨S64x64, .f32⟩
  | 108 => ⟨S64x64, .f32⟩
  | 109 => ⟨S64x64, .f32⟩
  | 110 => ⟨S64x64, .f32⟩
  | 111 => ⟨S64x64, .f32⟩
  | 112 => ⟨S64x64, .f32⟩
  | 113 => ⟨S64x64, .f32⟩
  | 114 => ⟨S64x64, .f32⟩
  | 115 => ⟨S64x64, .f32⟩
  | 116 => ⟨S64x64, .f32⟩
  | 117 => ⟨S64x64, .f32⟩
  | 118 => ⟨S64x64, .f32⟩
  | 119 => ⟨S64x64, .f32⟩
  | 120 => ⟨S64x64, .f32⟩
  | 121 => ⟨S64x64, .f32⟩
  | 122 => ⟨S64x64, .f32⟩
  | 123 => ⟨S64x64, .f32⟩
  | 124 => ⟨S64x64, .f32⟩
  | 125 => ⟨S64x64, .f32⟩
  | 126 => ⟨S64x64, .f32⟩
  | 127 => ⟨S64x64, .f32⟩
  | _ => ⟨S64x64, .f32⟩

abbrev hbmTy0_1 (i : Nat) : BufTy := match i % 128 with
  | 0 => ⟨S64x64, .f32⟩
  | 1 => ⟨S64x64, .f32⟩
  | 2 => ⟨S64x64, .f32⟩
  | 3 => ⟨S64x64, .f32⟩
  | 4 => ⟨S64x64, .f32⟩
  | 5 => ⟨S64x64, .f32⟩
  | 6 => ⟨S64x64, .f32⟩
  | 7 => ⟨S64x64, .f32⟩
  | 8 => ⟨S_, .f32⟩
  | 9 => ⟨S64, .f32⟩
  | 10 => ⟨S64x1, .f32⟩
  | 11 => ⟨S64x64, .f32⟩
  | 12 => ⟨S64x64, .f32⟩
  | 13 => ⟨S64x64, .f32⟩
  | 14 => ⟨S64x64, .f32⟩
  | 15 => ⟨S_, .f32⟩
  | 16 => ⟨S64, .f32⟩
  | 17 => ⟨S64x1, .f32⟩
  | 18 => ⟨S64x1, .f32⟩
  | 19 => ⟨S64x64, .f32⟩
  | 20 => ⟨S64x64, .f32⟩
  | 21 => ⟨S64x64, .f32⟩
  | 22 => ⟨S_, .f32⟩
  | 23 => ⟨S64, .f32⟩
  | 24 => ⟨S64, .f32⟩
  | 25 => ⟨S64x1, .f32⟩
  | 26 => ⟨S16x64x64, .f32⟩
  | 27 => ⟨S16x64x64, .f32⟩
  | _ => ⟨S64x64, .f32⟩

abbrev hbmTy (i : Nat) : BufTy := match i / 128 with
  | 0 => hbmTy0_0 i
  | 1 => hbmTy0_1 i
  | _ => ⟨S64x64, .f32⟩

abbrev bufTy : (tb : Table) → Fin (tcTables nBuf tb) → BufTy
  | .hbm, ⟨i, _⟩ => hbmTy i
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_1 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_2 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_3 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_4 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_cst_5 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_6 : Ref sig .tc := ⟨.hbm, 89, rfl⟩
abbrev main_v73 : Ref sig .tc := ⟨.hbm, 90, rfl⟩
abbrev main_cst_7 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_cst_8 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_cst_9 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_cst_10 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩

abbrev nD : Nat := 1
abbrev τ : Topo := Topo.v7x

variable {F : FTy → Type} [FloatOps F]
-- ==== AdamBr.lean ====
abbrev S2x1024x256 : Shape := ⟨3, ![2, 1024, 256]⟩
abbrev S1024x256 : Shape := ⟨2, ![1024, 256]⟩
abbrev S1x1024x256 : Shape := ⟨3, ![1, 1024, 256]⟩

abbrev nBuf : Space → Nat
  | .hbm => 13
  | .vmem => 16
  | .smem => 0
  | _ => 0

abbrev bufTy : (tb : Table) → Fin (tcTables nBuf tb) → BufTy
  | .hbm, ⟨0, _⟩ => ⟨S2x1024x256, .f32⟩
  | .hbm, ⟨1, _⟩ => ⟨S1024x256, .f32⟩
  | .hbm, ⟨2, _⟩ => ⟨S1024x256, .f32⟩
  | .hbm, ⟨3, _⟩ => ⟨S2x1024x256, .f32⟩
  | .hbm, ⟨4, _⟩ => ⟨S2x1024x256, .f32⟩
  | .hbm, ⟨5, _⟩ => ⟨S2x1024x256, .f32⟩
  | .hbm, ⟨6, _⟩ => ⟨S2x1024x256, .f32⟩
  | .hbm, ⟨7, _⟩ => ⟨S2x1024x256, .f32⟩
  | .hbm, ⟨8, _⟩ => ⟨S2x1024x256, .f32⟩
  | .hbm, ⟨9, _⟩ => ⟨S2x1024x256, .f32⟩
  | .hbm, ⟨10, _⟩ => ⟨S2x1024x256, .f32⟩
  | .hbm, ⟨11, _⟩ => ⟨S2x1024x256, .f32⟩
  | .hbm, ⟨12, _⟩ => ⟨S2x1024x256, .f32⟩
  | .local _ .vmem, ⟨0, _⟩ => ⟨S1x1024x256, .f32⟩
  | .local _ .vmem, ⟨1, _⟩ => ⟨S1024x256, .f32⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x1024x256, .f32⟩
  | .local _ .vmem, ⟨7, _⟩ => ⟨S1x1024x256, .f32⟩
  | .local _ .vmem, ⟨8, _⟩ => ⟨S1x1024x256, .f32⟩
  | .local _ .vmem, ⟨9, _⟩ => ⟨S1024x256, .f32⟩
  | .local _ .vmem, ⟨10, _⟩ => ⟨S1x1024x256, .f32⟩
  | .local _ .vmem, ⟨11, _⟩ => ⟨S1x1024x256, .f32⟩
  | .local _ .vmem, ⟨12, _⟩ => ⟨S1x1024x256, .f32⟩
  | .local _ .vmem, ⟨13, _⟩ => ⟨S1x1024x256, .f32⟩
  | .local _ .vmem, ⟨14, _⟩ => ⟨S1x1024x256, .f32⟩
  | .local _ .vmem, ⟨15, _⟩ => ⟨S1x1024x256, .f32⟩
  | _, _ => ⟨S2x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

abbrev stage0_0 : Fin 1 → Memref sig .tc .vmem S1x1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev grid1 : Pipeline.Grid := ⟨2, ![1, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage1_0 : Fin 1 → Memref sig .tc .vmem S1x1024x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, true]

abbrev stage1_1 : Fin 1 → Memref sig .tc .vmem S1024x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, true]

abbrev stage1_2 : Fin 1 → Memref sig .tc .vmem S1x1024x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true]

abbrev stage1_3 : Fin 1 → Memref sig .tc .vmem S1x1024x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, true]

abbrev stage1_4 : Fin 1 → Memref sig .tc .vmem S1x1024x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, true]

abbrev stage1_5 : Fin 1 → Memref sig .tc .vmem S1x1024x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true, true]

abbrev stage1_6 : Fin 1 → Memref sig .tc .vmem S1x1024x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true, true]

abbrev stage1_7 : Fin 1 → Memref sig .tc .vmem S1x1024x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true, true]
-- ==== AdamBrRefIdeal.lean ====
abbrev S2x1024x256 : Shape := ⟨3, ![2, 1024, 256]⟩
abbrev S1024x256 : Shape := ⟨2, ![1024, 256]⟩
abbrev S1x1024x256 : Shape := ⟨3, ![1, 1024, 256]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x1024x256, .f32⟩
  | .hbm, ⟨1, _⟩ => ⟨S1024x256, .f32⟩
  | .hbm, ⟨2, _⟩ => ⟨S1024x256, .f32⟩
  | .hbm, ⟨3, _⟩ => ⟨S2x1024x256, .f32⟩
  | .hbm, ⟨4, _⟩ => ⟨S2x1024x256, .f32⟩
  | .hbm, ⟨5, _⟩ => ⟨S1x1024x256, .f32⟩
  | .hbm, ⟨6, _⟩ => ⟨S1x1024x256, .f32⟩
  | .hbm, ⟨7, _⟩ => ⟨S2x1024x256, .f32⟩
  | .hbm, ⟨8, _⟩ => ⟨S_, .f32⟩
  | .hbm, ⟨9, _⟩ => ⟨S2x1024x256, .f32⟩
  | .hbm, ⟨10, _⟩ => ⟨S2x1024x256, .f32⟩
  | .hbm, ⟨11, _⟩ => ⟨S_, .f32⟩
  | .hbm, ⟨12, _⟩ => ⟨S2x1024x256, .f32⟩
  | .hbm, ⟨13, _⟩ => ⟨S2x1024x256, .f32⟩
  | .hbm, ⟨14, _⟩ => ⟨S2x1024x256, .f32⟩
  | .hbm, ⟨15, _⟩ => ⟨S_, .f32⟩
  | .hbm, ⟨16, _⟩ => ⟨S2x1024x256, .f32⟩
  | .hbm, ⟨17, _⟩ => ⟨S2x1024x256, .f32⟩
  | .hbm, ⟨18, _⟩ => ⟨S2x1024x256, .f32⟩
  | .hbm, ⟨19, _⟩ => ⟨S_, .f32⟩
  | .hbm, ⟨20, _⟩ => ⟨S2x1024x256, .f32⟩
  | .hbm, ⟨21, _⟩ => ⟨S2x1024x256, .f32⟩
  | .hbm, ⟨22, _⟩ => ⟨S2x1024x256, .f32⟩
  | .hbm, ⟨23, _⟩ => ⟨S_, .f32⟩
  | .hbm, ⟨24, _⟩ => ⟨S2x1024x256, .f32⟩
  | .hbm, ⟨25, _⟩ => ⟨S2x1024x256, .f32⟩
  | .hbm, ⟨26, _⟩ => ⟨S_, .f32⟩
  | .hbm, ⟨27, _⟩ => ⟨S2x1024x256, .f32⟩
  | .hbm, ⟨28, _⟩ => ⟨S2x1024x256, .f32⟩
  | .hbm, ⟨29, _⟩ => ⟨S2x1024x256, .f32⟩
  | .hbm, ⟨30, _⟩ => ⟨S_, .f32⟩
  | .hbm, ⟨31, _⟩ => ⟨S2x1024x256, .f32⟩
  | .hbm, ⟨32, _⟩ => ⟨S2x1024x256, .f32⟩
  | .hbm, ⟨33, _⟩ => ⟨S2x1024x256, .f32⟩
  | .hbm, ⟨34, _⟩ => ⟨S_, .f32⟩
  | .hbm, ⟨35, _⟩ => ⟨S2x1024x256, .f32⟩
  | .hbm, ⟨36, _⟩ => ⟨S2x1024x256, .f32⟩
  | .hbm, ⟨37, _⟩ => ⟨S2x1024x256, .f32⟩
  | .hbm, ⟨38, _⟩ => ⟨S_, .f32⟩
  | .hbm, ⟨39, _⟩ => ⟨S2x1024x256, .f32⟩
  | .hbm, ⟨40, _⟩ => ⟨S2x1024x256, .f32⟩
  | _, _ => ⟨S2x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Proof.S5Params.lean ====
/-
  The discretised parameters of the state space mixer, forward: each payload of the body against the reference's
  value of the same name, and the four results whole.
-/
module

public import proofs.«01_k».proof.Proof.Gen.S5ParIdeal.Value
public import proofs.«01_k».proof.Proof.Gen.S5ParRefIdeal.Read
public import Idealize.ShloMosaic.Lib.Pipeline.ValueKit

@[expose] public section

set_option maxRecDepth 16384

noncomputable section

namespace Cert.S5Params

open Idealize.ShloMosaic Idealize.ShloMosaic.TcCoe Idealize.ShloMosaic.Tactic Idealize.SL.Sem
open Idealize.ShloMosaic.Pipeline (Dat)
open Cert.S5ParIdeal Cert.S5ParIdeal.Gen
open Cert.S5ParRefIdeal.Read

/-! ## The payloads -/

section
variable (x0 x1 : Vec Ideal S64x64 .f32) (x2 : Vec Ideal S64 .f32) (x3 x4 : Vec Ideal S64x64x16 .f32)
variable (L : Vec Ideal S64x1 .f32) (B C : Vec Ideal S16x64x64 .f32)
variable (hL : ∀ g : Fin 64, L (ix2 g 0) = x2 (ix1 g))
variable (hB : ∀ (h : Fin 16) (g p : Fin 64), B (ix3 h g p) = x3 (ix3 g p h))
variable (hC : ∀ (h : Fin 16) (g p : Fin 64), C (ix3 h g p) = x4 (ix3 g p h))

include hL in
theorem angle : k0_pay4 x1 L = val_main_v5 x1 x2 := by
  have h (g p : Fin 64) : k0_pay4 x1 L (ix2 g p) = val_main_v5 x1 x2 (ix2 g p) := by
    pointwise [k0_pay4, k0_pay3, val_main_v5, val_main_v4, val_main_v1, val_main_v0]
    rw [hL]
  funext i
  rw [eq_ix2 i]
  exact h _ _

include hL in
theorem decay : k0_pay5 x0 L = val_main_v6 x0 x2 := by
  have h (g p : Fin 64) : k0_pay5 x0 L (ix2 g p) = val_main_v6 x0 x2 (ix2 g p) := by
    pointwise [k0_pay5, k0_pay3, val_main_v6, val_main_v3, val_main_v2, val_main_v1, val_main_v0]
    rw [hL]
  funext i
  rw [eq_ix2 i]
  exact h _ _

include hL in
theorem real_part : k0_pay6 x0 x1 L = val_main_v8 x0 x1 x2 := by
  unfold k0_pay6
  rw [angle x1 x2 L hL, decay x0 x2 L hL]
  rfl

include hL in
theorem imag_part : k0_pay7 x0 x1 L = val_main_v10 x0 x1 x2 := by
  unfold k0_pay7
  rw [angle x1 x2 L hL, decay x0 x2 L hL]
  rfl

include hL in
theorem real_less_one : k0_pay8 x0 x1 L = val_main_v12 x0 x1 x2 := by
  unfold k0_pay8
  rw [real_part x0 x1 x2 L hL]
  rfl

include hL in
theorem real_quotient : k0_pay10 x0 x1 L = val_main_v19 x0 x1 x2 := by
  unfold k0_pay10
  rw [real_less_one x0 x1 x2 L hL, imag_part x0 x1 x2 L hL]
  rfl

include hL in
theorem imag_quotient : k0_pay11 x0 x1 L = val_main_v23 x0 x1 x2 := by
  unfold k0_pay11
  rw [real_less_one x0 x1 x2 L hL, imag_part x0 x1 x2 L hL]
  rfl

include hL hB hC in
theorem real_input : k0_pay12 x0 x1 L B C = val_main_v36 x0 x1 x2 x3 x4 := by
  have e (h : Fin 16) (g p : Fin 64) : k0_pay12 x0 x1 L B C (ix3 h g p) = val_main_v36 x0 x1 x2 x3 x4 (ix3 h g p) := by
    pointwise [k0_pay12, k0_pay1, k0_pay2, val_main_v36, val_main_v30, val_main_v29, val_main_v28, val_main_v27, val_main_v26, val_main_v25, val_main_v24]
    rw [real_quotient x0 x1 x2 L hL, imag_quotient x0 x1 x2 L hL, hB, hC]
  funext i
  rw [eq_ix3 i]
  exact e _ _ _

include hL hB hC in
theorem imag_input : k0_pay13 x0 x1 L B C = val_main_v37 x0 x1 x2 x3 x4 := by
  have e (h : Fin 16) (g p : Fin 64) : k0_pay13 x0 x1 L B C (ix3 h g p) = val_main_v37 x0 x1 x2 x3 x4 (ix3 h g p) := by
    pointwise [k0_pay13, k0_pay1, k0_pay2, val_main_v37, val_main_v35, val_main_v34, val_main_v33, val_main_v32, val_main_v31, val_main_v25, val_main_v24]
    rw [real_quotient x0 x1 x2 L hL, imag_quotient x0 x1 x2 L hL, hB, hC]
  funext i
  rw [eq_ix3 i]
  exact e _ _ _
end

/-! ## The results -/

variable (m : (ℓ : Loc nD τ sig) → Buf (Elt Ideal) ℓ)

abbrev arg0 (c : Dev nD) : Vec Ideal S64x64 .f32 := m ((c : Thread nD τ).loc main_arg0)
abbrev arg1 (c : Dev nD) : Vec Ideal S64x64 .f32 := m ((c : Thread nD τ).loc main_arg1)
abbrev arg2 (c : Dev nD) : Vec Ideal S64 .f32 := m ((c : Thread nD τ).loc main_arg2)
abbrev arg3 (c : Dev nD) : Vec Ideal S64x64x16 .f32 := m ((c : Thread nD τ).loc main_arg3)
abbrev arg4 (c : Dev nD) : Vec Ideal S64x64x16 .f32 := m ((c : Thread nD τ).loc main_arg4)

/-- Every window's one block is its whole array: a place of the block is the same place of the array. -/
theorem offset (n k : Nat) : 0 * n + 1 * k = k := by omega

theorem blk0 (c : Dev nD) (t : Fin cfg0.N) : iblk m c 0 t = arg0 m c := by
  funext y
  exact (congrArg (V m c main_arg0) (funext fun a => Fin.ext (offset _ _))).trans (congrFun (V_main_arg0 m c) y)

theorem blk1 (c : Dev nD) (t : Fin cfg0.N) : iblk m c 1 t = arg1 m c := by
  funext y
  exact (congrArg (V m c main_arg1) (funext fun a => Fin.ext (offset _ _))).trans (congrFun (V_main_arg1 m c) y)

theorem blk2 (c : Dev nD) (t : Fin cfg0.N) (g : Fin 64) : iblk m c 2 t (ix2 g 0) = arg2 m c (ix1 g) := by
  have e : V m c main_v0 (ix2 g 0) = arg2 m c (ix1 g) := by
    entry_read
    pointwise
  exact (congrArg (V m c main_v0) (funext fun a => Fin.ext (offset _ _))).trans e

theorem blk3 (c : Dev nD) (t : Fin cfg0.N) (h : Fin 16) (g p : Fin 64) : iblk m c 3 t (ix3 h g p) = arg3 m c (ix3 g p h) := by
  have e : V m c main_v1 (ix3 h g p) = arg3 m c (ix3 g p h) := by
    entry_read
    pointwise
  exact (congrArg (V m c main_v1) (funext fun a => Fin.ext (offset _ _))).trans e

theorem blk4 (c : Dev nD) (t : Fin cfg0.N) (h : Fin 16) (g p : Fin 64) : iblk m c 4 t (ix3 h g p) = arg4 m c (ix3 g p h) := by
  have e : V m c main_v2 (ix3 h g p) = arg4 m c (ix3 g p h) := by
    entry_read
    pointwise
  exact (congrArg (V m c main_v2) (funext fun a => Fin.ext (offset _ _))).trans e

theorem final5 (c : Dev nD) : (dats m 0 c).arrAt 5 cfg0.N = val_main_v8 (arg0 m c) (arg1 m c) (arg2 m c) := by
  refine (dats m 0 c).arrAt_eq_of_covers 5 _ (by decide +kernel) fun t hf y => ?_
  blk_simp
  rw [after0_5, blk0, blk1]
  frame_out
  rw [real_part (arg0 m c) (arg1 m c) (arg2 m c) _ (blk2 m c t)]
  exact congrArg _ (funext fun a => Fin.ext (offset _ _).symm)

theorem final6 (c : Dev nD) : (dats m 0 c).arrAt 6 cfg0.N = val_main_v10 (arg0 m c) (arg1 m c) (arg2 m c) := by
  refine (dats m 0 c).arrAt_eq_of_covers 6 _ (by decide +kernel) fun t hf y => ?_
  blk_simp
  rw [after0_6, blk0, blk1]
  frame_out
  rw [imag_part (arg0 m c) (arg1 m c) (arg2 m c) _ (blk2 m c t)]
  exact congrArg _ (funext fun a => Fin.ext (offset _ _).symm)

theorem final7 (c : Dev nD) :
    (dats m 0 c).arrAt 7 cfg0.N = val_main_v36 (arg0 m c) (arg1 m c) (arg2 m c) (arg3 m c) (arg4 m c) := by
  refine (dats m 0 c).arrAt_eq_of_covers 7 _ (by decide +kernel) fun t hf y => ?_
  blk_simp
  rw [after0_7, blk0, blk1]
  frame_out
  rw [real_input (arg0 m c) (arg1 m c) (arg2 m c) (arg3 m c) (arg4 m c) _ _ _ (blk2 m c t) (blk3 m c t) (blk4 m c t)]
  exact congrArg _ (funext fun a => Fin.ext (offset _ _).symm)

theorem final8 (c : Dev nD) :
    (dats m 0 c).arrAt 8 cfg0.N = val_main_v37 (arg0 m c) (arg1 m c) (arg2 m c) (arg3 m c) (arg4 m c) := by
  refine (dats m 0 c).arrAt_eq_of_covers 8 _ (by decide +kernel) fun t hf y => ?_
  blk_simp
  rw [after0_8, blk0, blk1]
  frame_out
  rw [imag_input (arg0 m c) (arg1 m c) (arg2 m c) (arg3 m c) (arg4 m c) _ _ _ (blk2 m c t) (blk3 m c t) (blk4 m c t)]
  exact congrArg _ (funext fun a => Fin.ext (offset _ _).symm)

end Cert.S5Params
-- ==== Proof.S5ParamsBack.lean ====
/-
  The discretised parameters of the state space mixer, backward: each payload of the body against the reference's
  value of the same name, and the five results whole.
-/
module

public import proofs.«01_k».proof.Proof.Gen.S5ParBwdIdeal.Frame
public import proofs.«01_k».proof.Proof.Gen.S5ParBwdRefIdeal.Read
public import proofs.«01_k».proof.Proof.S5Params
public import Idealize.ShloMosaic.Lib.Pipeline.ValueKit

@[expose] public section

set_option maxRecDepth 16384

noncomputable section

namespace Cert.S5ParamsBack

open Idealize.ShloMosaic Idealize.ShloMosaic.TcCoe Idealize.ShloMosaic.Tactic Idealize.SL.Sem
open Idealize.ShloMosaic.Pipeline (Dat)
open Cert.S5ParBwdIdeal Cert.S5ParBwdIdeal.Gen
open Cert.S5ParBwdRefIdeal.Read
open Cert.S5Params (offset)

/-! ## The payloads -/

/-- A difference from zero is the negation. -/
theorem zero_less {s : Shape} (x : FVec Ideal s .f32) : subf (broadcast s (Scalar.ofBits .f32 0x00000000#32)) x = Host.negf x := by
  funext i
  pointwise
  exact zero_sub _

section
variable (x0 x1 : Vec Ideal S64x64 .f32) (x2 : Vec Ideal S64 .f32) (x3 x4 : Vec Ideal S64x64x16 .f32)
variable (x5 x6 : Vec Ideal S64x64 .f32) (x7 x8 : Vec Ideal S16x64x64 .f32)
variable (L : Vec Ideal S64x1 .f32) (B C : Vec Ideal S16x64x64 .f32)
variable (hL : ∀ g : Fin 64, L (ix2 g 0) = x2 (ix1 g))
variable (hB : ∀ (h : Fin 16) (g p : Fin 64), B (ix3 h g p) = x3 (ix3 g p h))
variable (hC : ∀ (h : Fin 16) (g p : Fin 64), C (ix3 h g p) = x4 (ix3 g p h))

include hL in
theorem step : broadcastTo S64x64 (k0_pay3 L) broadcasts_S64x1_S64x64 = val_main_v2 x2 := by
  have h (g p : Fin 64) : broadcastTo S64x64 (k0_pay3 L) broadcasts_S64x1_S64x64 (ix2 g p) = val_main_v2 x2 (ix2 g p) := by
    pointwise [k0_pay3, val_main_v2, val_main_v1, val_main_v0]
    rw [hL]
  funext i
  rw [eq_ix2 i]
  exact h _ _

include hL in
theorem angle : k0_pay4 x1 L = val_main_v5 x1 x2 := by
  unfold k0_pay4
  rw [step x2 L hL]
  rfl

include hL in
theorem decay : k0_pay5 x0 L = val_main_v6 x0 x2 := by
  unfold k0_pay5
  rw [step x2 L hL]
  rfl

include hL in
theorem angle_cos : k0_pay6 x1 L = val_main_v7 x1 x2 := by
  unfold k0_pay6
  rw [angle x1 x2 L hL]
  rfl

include hL in
theorem angle_sin : k0_pay8 x1 L = val_main_v10 x1 x2 := by
  unfold k0_pay8
  rw [angle x1 x2 L hL]
  rfl

include hL in
theorem imag_part : k0_pay10 x0 x1 L = val_main_v12 x0 x1 x2 := by
  unfold k0_pay10
  rw [angle_sin x1 x2 L hL, decay x0 x2 L hL]
  rfl

include hL in
theorem real_less_one : k0_pay11 x0 x1 L = val_main_v14 x0 x1 x2 := by
  unfold k0_pay11
  rw [angle_cos x1 x2 L hL, decay x0 x2 L hL]
  rfl

theorem size : k0_pay12 x0 x1 = val_main_v17 x0 x1 := rfl

include hL in
theorem real_top : k0_pay13 x0 x1 L = val_main_v20 x0 x1 x2 := by
  unfold k0_pay13
  rw [real_less_one x0 x1 x2 L hL, imag_part x0 x1 x2 L hL]
  rfl

include hL in
theorem real_quotient : k0_pay14 x0 x1 L = val_main_v21 x0 x1 x2 := by
  unfold k0_pay14
  rw [real_top x0 x1 x2 L hL]
  rfl

theorem size_inverse : k0_pay15 x0 x1 = val_main_v24 x0 x1 := rfl

include hL in
theorem imag_top : k0_pay16 x0 x1 L = val_main_v27 x0 x1 x2 := by
  unfold k0_pay16
  rw [real_less_one x0 x1 x2 L hL, imag_part x0 x1 x2 L hL]
  rfl

include hL in
theorem imag_quotient : k0_pay17 x0 x1 L = val_main_v28 x0 x1 x2 := by
  unfold k0_pay17
  rw [imag_top x0 x1 x2 L hL]
  rfl

theorem size_inverse' : k0_pay18 x0 x1 = val_main_v31 x0 x1 := rfl

/-! ### The gradients of the input matrices -/

include hL in
theorem real_input : k0_pay29 (k0_pay19 x0 x1 L) (k0_pay22 x0 x1 L) x7 x8 = val_main_v133 x0 x1 x2 x7 x8 := by
  have e (h : Fin 16) (g p : Fin 64) :
      k0_pay29 (k0_pay19 x0 x1 L) (k0_pay22 x0 x1 L) x7 x8 (ix3 h g p) = val_main_v133 x0 x1 x2 x7 x8 (ix3 h g p) := by
    pointwise [k0_pay29, k0_pay19, k0_pay22, k0_pay24, k0_pay25, val_main_v133, val_main_v68, val_main_v67, val_main_v66, val_main_v49, val_main_v48, val_main_v47, val_main_v46, val_main_v33, val_main_v32]
    rw [real_quotient x0 x1 x2 L hL, imag_quotient x0 x1 x2 L hL]
  funext i
  rw [eq_ix3 i]
  exact e _ _ _

include hL in
theorem imag_input : k0_pay27 (k0_pay20 x0 x1 L) (k0_pay21 x0 x1 L) x7 x8 = val_main_v134 x0 x1 x2 x7 x8 := by
  have e (h : Fin 16) (g p : Fin 64) :
      k0_pay27 (k0_pay20 x0 x1 L) (k0_pay21 x0 x1 L) x7 x8 (ix3 h g p) = val_main_v134 x0 x1 x2 x7 x8 (ix3 h g p) := by
    pointwise [k0_pay27, k0_pay20, k0_pay21, k0_pay23, k0_pay26, val_main_v134, val_main_v61, val_main_v60, val_main_v59, val_main_v58, val_main_v54, val_main_v53, val_main_v47, val_main_v46, val_main_v33, val_main_v32]
    rw [real_quotient x0 x1 x2 L hL, imag_quotient x0 x1 x2 L hL, zero_sub]
  funext i
  rw [eq_ix3 i]
  exact e _ _ _

/-! ### The gradients of the quotient -/

include hB hC in
theorem imag_sum : k0_pay28 (k0_pay1 B) (k0_pay2 C) x7 x8 = val_main_v73 x3 x4 x7 x8 := by
  have e (g p : Fin 64) : k0_pay28 (k0_pay1 B) (k0_pay2 C) x7 x8 (ix2 g p) = val_main_v73 x3 x4 x7 x8 (ix2 g p) := by
    pointwise [k0_pay28, k0_pay1, k0_pay2, k0_pay24, k0_pay26, val_main_v73, val_main_v65, val_main_v64, val_main_v63, val_main_v62, val_main_v58, val_main_v52, val_main_v51, val_main_v50, val_main_v47, val_main_v46, val_main_cst_2, val_main_cst_4, val_main_cst_6]
    simp only [hB, hC, Fin.sum_univ_one, zero_sub]
  funext i
  rw [eq_ix2 i]
  exact e _ _

include hB hC in
theorem real_sum : k0_pay30 (k0_pay1 B) (k0_pay2 C) x7 x8 = val_main_v74 x3 x4 x7 x8 := by
  have e (g p : Fin 64) : k0_pay30 (k0_pay1 B) (k0_pay2 C) x7 x8 (ix2 g p) = val_main_v74 x3 x4 x7 x8 (ix2 g p) := by
    pointwise [k0_pay30, k0_pay1, k0_pay2, k0_pay23, k0_pay25, val_main_v74, val_main_v72, val_main_v71, val_main_v70, val_main_v69, val_main_v57, val_main_v56, val_main_v55, val_main_v47, val_main_v46, val_main_cst_3, val_main_cst_5, val_main_cst_7]
    simp only [hB, hC, Fin.sum_univ_one]
  funext i
  rw [eq_ix2 i]
  exact e _ _

include hB hC in
theorem imag_over : k0_pay32 (k0_pay1 B) (k0_pay2 C) (k0_pay12 x0 x1) x7 x8 = val_main_v78 x0 x1 x3 x4 x7 x8 := by
  unfold k0_pay32
  rw [imag_sum x3 x4 x7 x8 B C hB hC]
  rfl

theorem real_over : k0_pay35 (k0_pay12 x0 x1) (val_main_v74 x3 x4 x7 x8) = val_main_v90 x0 x1 x3 x4 x7 x8 := rfl

theorem imag_neg : k0_pay33 (val_main_v78 x0 x1 x3 x4 x7 x8) = val_main_v79 x0 x1 x3 x4 x7 x8 := zero_less _

include hL hB hC in
theorem imag_size : k0_pay31 (k0_pay1 B) (k0_pay2 C) (k0_pay16 x0 x1 L) (k0_pay18 x0 x1) x7 x8 = val_main_v77 x0 x1 x2 x3 x4 x7 x8 := by
  unfold k0_pay31
  rw [imag_sum x3 x4 x7 x8 B C hB hC, imag_top x0 x1 x2 L hL, size_inverse']
  dsimp only
  rw [zero_less]
  rfl

theorem size_grad : k0_pay34 (val_main_v20 x0 x1 x2) (val_main_v24 x0 x1) (val_main_v74 x3 x4 x7 x8) (val_main_v77 x0 x1 x2 x3 x4 x7 x8) = val_main_v89 x0 x1 x2 x3 x4 x7 x8 := by
  unfold k0_pay34
  dsimp only
  rw [zero_less]
  rfl

/-! ### The gradients of the exponential -/

theorem imag_exp : k0_pay36 x0 x1 (k0_pay12 x0 x1) x6 (val_main_v74 x3 x4 x7 x8) (val_main_v78 x0 x1 x3 x4 x7 x8) = val_main_v94 x0 x1 x3 x4 x6 x7 x8 := by
  unfold k0_pay36
  rw [real_over]
  rfl

theorem real_exp : k0_pay37 x0 x1 (k0_pay12 x0 x1) x5 (val_main_v74 x3 x4 x7 x8) (val_main_v78 x0 x1 x3 x4 x7 x8) = val_main_v98 x0 x1 x3 x4 x5 x7 x8 := by
  unfold k0_pay37
  rw [real_over, imag_neg]
  rfl

include hL in
theorem angle_grad : k0_pay38 x0 x1 (k0_pay5 x0 L) (k0_pay7 x1 L) (k0_pay9 x1 L) (k0_pay12 x0 x1) x5 x6 (val_main_v74 x3 x4 x7 x8) (val_main_v78 x0 x1 x3 x4 x7 x8)
    = val_main_v115 x0 x1 x2 x3 x4 x5 x6 x7 x8 := by
  unfold k0_pay38 k0_pay7 k0_pay9
  rw [imag_exp, real_exp, decay x0 x2 L hL, angle x1 x2 L hL]
  dsimp only
  rw [zero_less]
  rfl

include hL in
theorem decay_grad : k0_pay39 x0 x1 (k0_pay5 x0 L) (k0_pay6 x1 L) (k0_pay8 x1 L) (k0_pay12 x0 x1) x5 x6 (val_main_v74 x3 x4 x7 x8) (val_main_v78 x0 x1 x3 x4 x7 x8)
    = val_main_v116 x0 x1 x2 x3 x4 x5 x6 x7 x8 := by
  unfold k0_pay39
  rw [imag_exp, real_exp, decay x0 x2 L hL, angle_cos x1 x2 L hL, angle_sin x1 x2 L hL]
  rfl

/-! ### The gradients of the parameters -/

include hL hB hC in
theorem imag_grad : k0_pay40 x0 x1 (k0_pay3 L) (k0_pay5 x0 L) (k0_pay7 x1 L) (k0_pay9 x1 L) (k0_pay10 x0 x1 L) (k0_pay11 x0 x1 L) (k0_pay12 x0 x1) (k0_pay13 x0 x1 L) (k0_pay15 x0 x1) x5 x6
      (k0_pay30 (k0_pay1 B) (k0_pay2 C) x7 x8) (k0_pay31 (k0_pay1 B) (k0_pay2 C) (k0_pay16 x0 x1 L) (k0_pay18 x0 x1) x7 x8) (k0_pay32 (k0_pay1 B) (k0_pay2 C) (k0_pay12 x0 x1) x7 x8)
    = val_main_v122 x0 x1 x2 x3 x4 x5 x6 x7 x8 := by
  rw [real_sum x3 x4 x7 x8 B C hB hC, imag_over x0 x1 x3 x4 x7 x8 B C hB hC, imag_size x0 x1 x2 x3 x4 x7 x8 L B C hL hB hC]
  unfold k0_pay40
  rw [angle_grad x0 x1 x2 x3 x4 x5 x6 x7 x8 L hL, real_over, imag_neg, real_top x0 x1 x2 L hL, size_inverse, size_grad, step x2 L hL, imag_part x0 x1 x2 L hL, real_less_one x0 x1 x2 L hL]
  rfl

include hL hB hC in
theorem real_grad : k0_pay41 x0 x1 (k0_pay3 L) (k0_pay5 x0 L) (k0_pay6 x1 L) (k0_pay8 x1 L) (k0_pay10 x0 x1 L) (k0_pay11 x0 x1 L) (k0_pay12 x0 x1) (k0_pay13 x0 x1 L) (k0_pay15 x0 x1) x5 x6
      (k0_pay30 (k0_pay1 B) (k0_pay2 C) x7 x8) (k0_pay31 (k0_pay1 B) (k0_pay2 C) (k0_pay16 x0 x1 L) (k0_pay18 x0 x1) x7 x8) (k0_pay32 (k0_pay1 B) (k0_pay2 C) (k0_pay12 x0 x1) x7 x8)
    = val_main_v129 x0 x1 x2 x3 x4 x5 x6 x7 x8 := by
  rw [real_sum x3 x4 x7 x8 B C hB hC, imag_over x0 x1 x3 x4 x7 x8 B C hB hC, imag_size x0 x1 x2 x3 x4 x7 x8 L B C hL hB hC]
  unfold k0_pay41
  rw [decay_grad x0 x1 x2 x3 x4 x5 x6 x7 x8 L hL, real_over, real_top x0 x1 x2 L hL, size_inverse, size_grad, step x2 L hL, imag_part x0 x1 x2 L hL, real_less_one x0 x1 x2 L hL]
  rfl

include hL hB hC in
theorem step_grad : k0_pay42 x0 x1 (k0_pay3 L) (k0_pay5 x0 L) (k0_pay6 x1 L) (k0_pay7 x1 L) (k0_pay8 x1 L) (k0_pay9 x1 L) (k0_pay12 x0 x1) x5 x6
      (k0_pay30 (k0_pay1 B) (k0_pay2 C) x7 x8) (k0_pay32 (k0_pay1 B) (k0_pay2 C) (k0_pay12 x0 x1) x7 x8)
    = val_main_v132 x0 x1 x2 x3 x4 x5 x6 x7 x8 := by
  rw [real_sum x3 x4 x7 x8 B C hB hC, imag_over x0 x1 x3 x4 x7 x8 B C hB hC]
  unfold k0_pay42
  rw [angle_grad x0 x1 x2 x3 x4 x5 x6 x7 x8 L hL, decay_grad x0 x1 x2 x3 x4 x5 x6 x7 x8 L hL]
  have e (g : Fin 64) (z : Fin 1) : mulf (addf (shapeCast S64x1 (multiReduction .add [1] S64 (mulf x1 (val_main_v115 x0 x1 x2 x3 x4 x5 x6 x7 x8)) 0x00000000#32 reduces_S64x64_S64 (.inl rfl) rfl) shapeCasts_S64_S64x1)
      (shapeCast S64x1 (multiReduction .add [1] S64 (mulf x0 (val_main_v116 x0 x1 x2 x3 x4 x5 x6 x7 x8)) 0x00000000#32 reduces_S64x64_S64 (.inl rfl) rfl) shapeCasts_S64_S64x1)) (k0_pay3 L) (ix2 g z)
      = val_main_v132 x0 x1 x2 x3 x4 x5 x6 x7 x8 (ix2 g z) := by
    obtain rfl : z = 0 := Subsingleton.elim _ _
    pointwise [k0_pay3, val_main_v132, val_main_v131, val_main_v130, val_main_cst_10, val_main_v126, val_main_v125, val_main_v124, val_main_cst_9, val_main_v123, val_main_v119, val_main_v118, val_main_cst_8, val_main_v117, val_main_v0]
    simp only [hL, Fin.sum_univ_one]
  funext i
  rw [eq_ix2 i]
  exact e _ _
/-! ### What the body leaves of each result -/

include hL hB hC in
theorem out9 : out0_9 x0 x1 L B C x5 x6 x7 x8 = val_main_v129 x0 x1 x2 x3 x4 x5 x6 x7 x8 := by
  unfold_out out0_9
  frame_out
  exact real_grad x0 x1 x2 x3 x4 x5 x6 x7 x8 L B C hL hB hC

include hL hB hC in
theorem out10 : out0_10 x0 x1 L B C x5 x6 x7 x8 = val_main_v122 x0 x1 x2 x3 x4 x5 x6 x7 x8 := by
  unfold_out out0_10
  frame_out
  exact imag_grad x0 x1 x2 x3 x4 x5 x6 x7 x8 L B C hL hB hC

include hL hB hC in
theorem out11 : out0_11 x0 x1 L B C x5 x6 x7 x8 = val_main_v132 x0 x1 x2 x3 x4 x5 x6 x7 x8 := by
  unfold_out out0_11
  frame_out
  exact step_grad x0 x1 x2 x3 x4 x5 x6 x7 x8 L B C hL hB hC

include hL in
theorem out12 : out0_12 x0 x1 L B C x5 x6 x7 x8 = val_main_v133 x0 x1 x2 x7 x8 := by
  frame_out
  exact real_input x0 x1 x2 x7 x8 L hL

include hL in
theorem out13 : out0_13 x0 x1 L B C x5 x6 x7 x8 = val_main_v134 x0 x1 x2 x7 x8 := by
  frame_out
  exact imag_input x0 x1 x2 x7 x8 L hL
end

/-! ## The results -/

variable (m : (ℓ : Loc nD τ sig) → Buf (Elt Ideal) ℓ) (ρ : Dev nD → PrngReg)

abbrev arg0 (c : Dev nD) : Vec Ideal S64x64 .f32 := m ((c : Thread nD τ).loc main_arg0)
abbrev arg1 (c : Dev nD) : Vec Ideal S64x64 .f32 := m ((c : Thread nD τ).loc main_arg1)
abbrev arg2 (c : Dev nD) : Vec Ideal S64 .f32 := m ((c : Thread nD τ).loc main_arg2)
abbrev arg3 (c : Dev nD) : Vec Ideal S64x64x16 .f32 := m ((c : Thread nD τ).loc main_arg3)
abbrev arg4 (c : Dev nD) : Vec Ideal S64x64x16 .f32 := m ((c : Thread nD τ).loc main_arg4)
abbrev arg5 (c : Dev nD) : Vec Ideal S64x64 .f32 := m ((c : Thread nD τ).loc main_arg5)
abbrev arg6 (c : Dev nD) : Vec Ideal S64x64 .f32 := m ((c : Thread nD τ).loc main_arg6)
abbrev arg7 (c : Dev nD) : Vec Ideal S16x64x64 .f32 := m ((c : Thread nD τ).loc main_arg7)
abbrev arg8 (c : Dev nD) : Vec Ideal S16x64x64 .f32 := m ((c : Thread nD τ).loc main_arg8)

theorem blk0 (c : Dev nD) (t : Fin cfg0.N) : iblk m c 0 t = arg0 m c :=
  funext fun y => (congrArg (V m c main_arg0) (funext fun a => Fin.ext (offset _ _))).trans (congrFun (V_main_arg0 m c) y)
theorem blk1 (c : Dev nD) (t : Fin cfg0.N) : iblk m c 1 t = arg1 m c :=
  funext fun y => (congrArg (V m c main_arg1) (funext fun a => Fin.ext (offset _ _))).trans (congrFun (V_main_arg1 m c) y)
theorem blk5 (c : Dev nD) (t : Fin cfg0.N) : iblk m c 5 t = arg5 m c :=
  funext fun y => (congrArg (V m c main_arg5) (funext fun a => Fin.ext (offset _ _))).trans (congrFun (V_main_arg5 m c) y)
theorem blk6 (c : Dev nD) (t : Fin cfg0.N) : iblk m c 6 t = arg6 m c :=
  funext fun y => (congrArg (V m c main_arg6) (funext fun a => Fin.ext (offset _ _))).trans (congrFun (V_main_arg6 m c) y)
theorem blk7 (c : Dev nD) (t : Fin cfg0.N) : iblk m c 7 t = arg7 m c :=
  funext fun y => (congrArg (V m c main_arg7) (funext fun a => Fin.ext (offset _ _))).trans (congrFun (V_main_arg7 m c) y)
theorem blk8 (c : Dev nD) (t : Fin cfg0.N) : iblk m c 8 t = arg8 m c :=
  funext fun y => (congrArg (V m c main_arg8) (funext fun a => Fin.ext (offset _ _))).trans (congrFun (V_main_arg8 m c) y)

theorem blk2 (c : Dev nD) (t : Fin cfg0.N) (g : Fin 64) : iblk m c 2 t (ix2 g 0) = arg2 m c (ix1 g) := by
  have e : V m c main_v0 (ix2 g 0) = arg2 m c (ix1 g) := by
    entry_read
    pointwise
  exact (congrArg (V m c main_v0) (funext fun a => Fin.ext (offset _ _))).trans e

theorem blk3 (c : Dev nD) (t : Fin cfg0.N) (h : Fin 16) (g p : Fin 64) : iblk m c 3 t (ix3 h g p) = arg3 m c (ix3 g p h) := by
  have e : V m c main_v1 (ix3 h g p) = arg3 m c (ix3 g p h) := by
    entry_read
    pointwise
  exact (congrArg (V m c main_v1) (funext fun a => Fin.ext (offset _ _))).trans e

theorem blk4 (c : Dev nD) (t : Fin cfg0.N) (h : Fin 16) (g p : Fin 64) : iblk m c 4 t (ix3 h g p) = arg4 m c (ix3 g p h) := by
  have e : V m c main_v2 (ix3 h g p) = arg4 m c (ix3 g p h) := by
    entry_read
    pointwise
  exact (congrArg (V m c main_v2) (funext fun a => Fin.ext (offset _ _))).trans e

theorem final9 (c : Dev nD) : (dats m 0 c).arrAt 9 cfg0.N
    = val_main_v129 (arg0 m c) (arg1 m c) (arg2 m c) (arg3 m c) (arg4 m c) (arg5 m c) (arg6 m c) (arg7 m c) (arg8 m c) := by
  refine (dats m 0 c).arrAt_eq_of_covers 9 _ (by decide +kernel) fun t hf y => ?_
  blk_simp
  rw [after0_9, blk0, blk1, blk5, blk6, blk7, blk8, out9 (arg0 m c) (arg1 m c) (arg2 m c) (arg3 m c) (arg4 m c) (arg5 m c) (arg6 m c) (arg7 m c) (arg8 m c) _ _ _ (blk2 m c t) (blk3 m c t) (blk4 m c t)]
  exact congrArg _ (funext fun a => Fin.ext (offset _ _).symm)

theorem final10 (c : Dev nD) : (dats m 0 c).arrAt 10 cfg0.N
    = val_main_v122 (arg0 m c) (arg1 m c) (arg2 m c) (arg3 m c) (arg4 m c) (arg5 m c) (arg6 m c) (arg7 m c) (arg8 m c) := by
  refine (dats m 0 c).arrAt_eq_of_covers 10 _ (by decide +kernel) fun t hf y => ?_
  blk_simp
  rw [after0_10, blk0, blk1, blk5, blk6, blk7, blk8, out10 (arg0 m c) (arg1 m c) (arg2 m c) (arg3 m c) (arg4 m c) (arg5 m c) (arg6 m c) (arg7 m c) (arg8 m c) _ _ _ (blk2 m c t) (blk3 m c t) (blk4 m c t)]
  exact congrArg _ (funext fun a => Fin.ext (offset _ _).symm)

theorem final11 (c : Dev nD) : (dats m 0 c).arrAt 11 cfg0.N
    = val_main_v132 (arg0 m c) (arg1 m c) (arg2 m c) (arg3 m c) (arg4 m c) (arg5 m c) (arg6 m c) (arg7 m c) (arg8 m c) := by
  refine (dats m 0 c).arrAt_eq_of_covers 11 _ (by decide +kernel) fun t hf y => ?_
  blk_simp
  rw [after0_11, blk0, blk1, blk5, blk6, blk7, blk8, out11 (arg0 m c) (arg1 m c) (arg2 m c) (arg3 m c) (arg4 m c) (arg5 m c) (arg6 m c) (arg7 m c) (arg8 m c) _ _ _ (blk2 m c t) (blk3 m c t) (blk4 m c t)]
  exact congrArg _ (funext fun a => Fin.ext (offset _ _).symm)

theorem final12 (c : Dev nD) : (dats m 0 c).arrAt 12 cfg0.N = val_main_v133 (arg0 m c) (arg1 m c) (arg2 m c) (arg7 m c) (arg8 m c) := by
  refine (dats m 0 c).arrAt_eq_of_covers 12 _ (by decide +kernel) fun t hf y => ?_
  blk_simp
  rw [after0_12, blk0, blk1, blk5, blk6, blk7, blk8, out12 (arg0 m c) (arg1 m c) (arg2 m c) (arg5 m c) (arg6 m c) (arg7 m c) (arg8 m c) _ _ _ (blk2 m c t)]
  exact congrArg _ (funext fun a => Fin.ext (offset _ _).symm)

theorem final13 (c : Dev nD) : (dats m 0 c).arrAt 13 cfg0.N = val_main_v134 (arg0 m c) (arg1 m c) (arg2 m c) (arg7 m c) (arg8 m c) := by
  refine (dats m 0 c).arrAt_eq_of_covers 13 _ (by decide +kernel) fun t hf y => ?_
  blk_simp
  rw [after0_13, blk0, blk1, blk5, blk6, blk7, blk8, out13 (arg0 m c) (arg1 m c) (arg2 m c) (arg5 m c) (arg6 m c) (arg7 m c) (arg8 m c) _ _ _ (blk2 m c t)]
  exact congrArg _ (funext fun a => Fin.ext (offset _ _).symm)

/-- After the run the five results hold the reference's values and the arguments are as launched. -/
theorem run : θ_run defs (onTc (τ := τ) (main (F := Ideal))) ⟨m, fun _ => 0, ρ⟩ fun r => ∀ c : Dev nD,
      r.2.mem ((c : Thread nD τ).loc main_v3_0) = val_main_v129 (arg0 m c) (arg1 m c) (arg2 m c) (arg3 m c) (arg4 m c) (arg5 m c) (arg6 m c) (arg7 m c) (arg8 m c)
      ∧ r.2.mem ((c : Thread nD τ).loc main_v3_1) = val_main_v122 (arg0 m c) (arg1 m c) (arg2 m c) (arg3 m c) (arg4 m c) (arg5 m c) (arg6 m c) (arg7 m c) (arg8 m c)
      ∧ r.2.mem ((c : Thread nD τ).loc main_v3_2) = val_main_v132 (arg0 m c) (arg1 m c) (arg2 m c) (arg3 m c) (arg4 m c) (arg5 m c) (arg6 m c) (arg7 m c) (arg8 m c)
      ∧ r.2.mem ((c : Thread nD τ).loc main_v3_3) = val_main_v133 (arg0 m c) (arg1 m c) (arg2 m c) (arg7 m c) (arg8 m c)
      ∧ r.2.mem ((c : Thread nD τ).loc main_v3_4) = val_main_v134 (arg0 m c) (arg1 m c) (arg2 m c) (arg7 m c) (arg8 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) := by
  have staged (r : PUnit × MemSt nD τ sig (Elt Ideal)) (h : Pipeline.FramePost cfgs (dats m) 0 (V m) r) (c : Dev nD) (w : Fin cfg0.W)
      (hw : (cfg0.win w).isOut = false) : r.2.mem _ = V m c (Pipeline.arrRef spec0 w) :=
    ((h c).1 w).trans (((dats m 0 c).arrAt_in w hw _).trans (A_eq m c w))
  refine (θ_run defs _ _).mono (fun r h c => ⟨((h c).1 9).trans (final9 m c), ((h c).1 10).trans (final10 m c), ((h c).1 11).trans (final11 m c),
    ((h c).1 12).trans (final12 m c), ((h c).1 13).trans (final13 m c),
    (staged r h c 0 rfl).trans (V_main_arg0 m c), (staged r h c 1 rfl).trans (V_main_arg1 m c), ?_, ?_, ?_,
    (staged r h c 5 rfl).trans (V_main_arg5 m c), (staged r h c 6 rfl).trans (V_main_arg6 m c),
    (staged r h c 7 rfl).trans (V_main_arg7 m c), (staged r h c 8 rfl).trans (V_main_arg8 m c)⟩) (run_main m ρ)
  · exact ((h c).2 main_arg2 (Pipeline.mem_restRefs_of main_arg2 (by decide) (by decide))).trans (V_main_arg2 m c)
  · exact ((h c).2 main_arg3 (Pipeline.mem_restRefs_of main_arg3 (by decide) (by decide))).trans (V_main_arg3 m c)
  · exact ((h c).2 main_arg4 (Pipeline.mem_restRefs_of main_arg4 (by decide) (by decide))).trans (V_main_arg4 m c)

end Cert.S5ParamsBack
-- ==== Proof.S5ParamsClaims.lean ====
/-
  The claims about the discretisation of the state space parameters and its gradient.
-/
module

public import proofs.«01_k».proof.Defs
public import proofs.«01_k».proof.Proof.Gen.S5Par.Frame
public import proofs.«01_k».proof.Proof.Gen.S5ParBwd.Frame
public import proofs.«01_k».proof.Proof.S5Params
public import proofs.«01_k».proof.Proof.S5ParamsBack
public import proofs.«01_k».proof.Proof.Gen.S5ParRefIdeal.Run
public import proofs.«01_k».proof.Proof.Gen.S5ParBwdRefIdeal.Run

@[expose] public section

noncomputable section

namespace Cert.Proof

open Idealize.ShloMosaic Idealize.ShloMosaic.TcCoe

namespace S5Par

open Cert.S5Params Cert.S5ParRefIdeal.Read

theorem frame : Cert.quiescent_S5Par := fun m ρ _ => Cert.S5Par.Gen.frame m ρ

theorem frame_ideal : Cert.quiescent_S5ParIdeal := fun m ρ _ => Cert.S5ParIdeal.Gen.frame m ρ

theorem frame_ref : Cert.quiescent_S5ParRefIdeal := fun m ρ _ =>
  (θ_run Cert.S5ParRefIdeal.defs _ _).mono (fun r h => ⟨fun c => (h c).2.2.2.2,
      Idealize.ShloMosaic.sem_eq_zero_of_no_sems (by decide) r.2⟩)
    (Cert.S5ParRefIdeal.Value.run (F := Ideal) m ρ)

theorem preserves : Cert.preserves_S5Par_S5ParIdeal := trivial

theorem algebraic : Cert.algebraic_S5ParIdeal_S5ParRefIdeal := by
  intro m ρ m' ρ' _ hag
  refine ⟨fun c => val_main_v8 (arg0 m c) (arg1 m c) (arg2 m c),
    fun c => val_main_v10 (arg0 m c) (arg1 m c) (arg2 m c),
    fun c => val_main_v36 (arg0 m c) (arg1 m c) (arg2 m c) (arg3 m c) (arg4 m c),
    fun c => val_main_v37 (arg0 m c) (arg1 m c) (arg2 m c) (arg3 m c) (arg4 m c),
    (θ_run Cert.S5ParIdeal.defs _ _).mono (fun r h c => ⟨(h c).1.trans (final5 m c), (h c).2.1.trans (final6 m c),
      (h c).2.2.1.trans (final7 m c), (h c).2.2.2.1.trans (final8 m c), (h c).2.2.2.2⟩) (Cert.S5ParIdeal.Value.run_blocks m ρ),
    (θ_run Cert.S5ParRefIdeal.defs _ _).mono (fun r h c => ?_) (Cert.S5ParRefIdeal.Value.run (F := Ideal) m' ρ')⟩
  obtain ⟨h0, h1, h2, h3, hr⟩ := h c
  obtain ⟨a0, a1, a2, a3, a4⟩ := hag c
  refine ⟨h0.trans ((val_main_v8_eq _ _ _).trans ?_), h1.trans ((val_main_v10_eq _ _ _).trans ?_),
    h2.trans ((val_main_v36_eq _ _ _ _ _).trans ?_), h3.trans ((val_main_v37_eq _ _ _ _ _).trans ?_), hr⟩
  · rw [a0, a1, a2]
  · rw [a0, a1, a2]
  · rw [a0, a1, a2, a3, a4]
  · rw [a0, a1, a2, a3, a4]

end S5Par

namespace S5ParBwd

open Cert.S5ParamsBack Cert.S5ParBwdRefIdeal.Read

theorem frame : Cert.quiescent_S5ParBwd := fun m ρ _ => Cert.S5ParBwd.Gen.frame m ρ

theorem frame_ideal : Cert.quiescent_S5ParBwdIdeal := fun m ρ _ => Cert.S5ParBwdIdeal.Gen.frame m ρ

theorem frame_ref : Cert.quiescent_S5ParBwdRefIdeal := fun m ρ _ =>
  (θ_run Cert.S5ParBwdRefIdeal.defs _ _).mono (fun r h => ⟨fun c => (h c).2.2.2.2.2,
      Idealize.ShloMosaic.sem_eq_zero_of_no_sems (by decide) r.2⟩)
    (Cert.S5ParBwdRefIdeal.Value.run (F := Ideal) m ρ)

theorem preserves : Cert.preserves_S5ParBwd_S5ParBwdIdeal := trivial

theorem algebraic : Cert.algebraic_S5ParBwdIdeal_S5ParBwdRefIdeal := by
  intro m ρ m' ρ' _ hag
  refine ⟨fun c => val_main_v129 (arg0 m c) (arg1 m c) (arg2 m c) (arg3 m c) (arg4 m c) (arg5 m c) (arg6 m c) (arg7 m c) (arg8 m c),
    fun c => val_main_v122 (arg0 m c) (arg1 m c) (arg2 m c) (arg3 m c) (arg4 m c) (arg5 m c) (arg6 m c) (arg7 m c) (arg8 m c),
    fun c => val_main_v132 (arg0 m c) (arg1 m c) (arg2 m c) (arg3 m c) (arg4 m c) (arg5 m c) (arg6 m c) (arg7 m c) (arg8 m c),
    fun c => val_main_v133 (arg0 m c) (arg1 m c) (arg2 m c) (arg7 m c) (arg8 m c),
    fun c => val_main_v134 (arg0 m c) (arg1 m c) (arg2 m c) (arg7 m c) (arg8 m c),
    Cert.S5ParamsBack.run m ρ,
    (θ_run Cert.S5ParBwdRefIdeal.defs _ _).mono (fun r h c => ?_) (Cert.S5ParBwdRefIdeal.Value.run (F := Ideal) m' ρ')⟩
  obtain ⟨h0, h1, h2, h3, h4, hr⟩ := h c
  obtain ⟨a0, a1, a2, a3, a4, a5, a6, a7, a8⟩ := hag c
  refine ⟨h0.trans ((val_main_v129_eq m' c).trans ?_), h1.trans ((val_main_v122_eq m' c).trans ?_),
    h2.trans ((val_main_v132_eq m' c).trans ?_), h3.trans ((val_main_v133_eq _ _ _ _ _).trans ?_),
    h4.trans ((val_main_v134_eq _ _ _ _ _).trans ?_), hr⟩
  · rw [a0, a1, a2, a3, a4, a5, a6, a7, a8]
  · rw [a0, a1, a2, a3, a4, a5, a6, a7, a8]
  · rw [a0, a1, a2, a3, a4, a5, a6, a7, a8]
  · rw [a0, a1, a2, a7, a8]
  · rw [a0, a1, a2, a7, a8]

end S5ParBwd

end Cert.Proof

end
-- ==== Proof.AdamLayers.lean ====
/-
  The optimiser's update of a branch's weight, both layers: the second call writes layer 0 over what the first left, which
  holds layer 1.
-/
module

public import proofs.«01_k».proof.Proof.Gen.AdamBrIdeal.Frame
public import proofs.«01_k».proof.Proof.Gen.AdamBrRefIdeal.Read
public import Idealize.ShloMosaic.Lib.Pipeline.ValueKit

@[expose] public section

set_option maxRecDepth 16384

noncomputable section

namespace Cert.AdamLayers

open Idealize.ShloMosaic Idealize.ShloMosaic.TcCoe Idealize.ShloMosaic.Tactic Idealize.SL.Sem
open Idealize.ShloMosaic.Pipeline (Dat)
open Cert.AdamBrIdeal Cert.AdamBrIdeal.Gen
open Cert.AdamBrRefIdeal.Read

/-! ## One layer's block -/

section
variable (w mo ve : Vec Ideal S2x1024x256 .f32) (g1 g0 : Vec Ideal S1024x256 .f32)
variable (l : Fin 2) (W M V : Vec Ideal S1x1024x256 .f32) (G : Vec Ideal S1024x256 .f32)

theorem grad_one (r : Fin 1024) (q : Fin 256) : val_main_v2 g1 g0 (ix3 (1 : Fin 2) r q) = g1 (ix2 r q) := by
  pointwise [val_main_v2, val_main_v0, val_main_v1]

theorem grad_zero (r : Fin 1024) (q : Fin 256) : val_main_v2 g1 g0 (ix3 (0 : Fin 2) r q) = g0 (ix2 r q) := by
  pointwise [val_main_v2, val_main_v0, val_main_v1]

/-- The blocks are layer `l` of the arrays. -/
structure Layer : Prop where
  grad : ∀ (r : Fin 1024) (q : Fin 256), G (ix2 r q) = val_main_v2 g1 g0 (ix3 l r q)
  weight : ∀ (r : Fin 1024) (q : Fin 256), W (ix3 (0 : Fin 1) r q) = w (ix3 l r q)
  mean : ∀ (r : Fin 1024) (q : Fin 256), M (ix3 (0 : Fin 1) r q) = mo (ix3 l r q)
  square : ∀ (r : Fin 1024) (q : Fin 256), V (ix3 (0 : Fin 1) r q) = ve (ix3 l r q)

variable (h : Layer w mo ve g1 g0 l W M V G)
include h

theorem grad_at (r : Fin 1024) (q : Fin 256) : k0_pay4 G (ix3 (0 : Fin 1) r q) = val_main_v2 g1 g0 (ix3 l r q) := by
  rw [← h.grad r q]
  pointwise [k0_pay4]

theorem mean_at (r : Fin 1024) (q : Fin 256) : k0_pay5 G M (ix2 r q) = val_main_v7 g1 g0 mo (ix3 l r q) := by
  pointwise [k0_pay5, val_main_v7, val_main_v6, val_main_v5, val_main_v4, val_main_v3, val_main_cst, val_main_cst_0]
  rw [h.grad, h.mean]

theorem square_at (r : Fin 1024) (q : Fin 256) : k0_pay6 G V (ix2 r q) = val_main_v13 g1 g0 ve (ix3 l r q) := by
  pointwise [k0_pay6, val_main_v13, val_main_v12, val_main_v11, val_main_v10, val_main_v9, val_main_v8, val_main_cst_1, val_main_cst_2]
  rw [h.grad, h.square]

theorem delta_at (r : Fin 1024) (q : Fin 256) : k0_pay7 G W M V (ix2 r q) = val_main_v26 w g1 g0 mo ve (ix3 l r q) := by
  pointwise [k0_pay7, val_main_v26, val_main_v25, val_main_v24, val_main_v23, val_main_v22, val_main_v21, val_main_v20, val_main_v19, val_main_v18, val_main_v17, val_main_v16, val_main_v15, val_main_v14, val_main_cst_3, val_main_cst_4, val_main_cst_5, val_main_cst_6, val_main_cst_7]
  rw [mean_at _ _ _ _ _ _ _ _ _ _ h, square_at _ _ _ _ _ _ _ _ _ _ h, h.weight]

theorem delta_block (r : Fin 1024) (q : Fin 256) : k0_pay1 (k0_pay7 G W M V) (ix3 (0 : Fin 1) r q) = val_main_v26 w g1 g0 mo ve (ix3 l r q) := by
  rw [← delta_at _ _ _ _ _ _ _ _ _ _ h]
  pointwise [k0_pay1]

theorem mean_block (r : Fin 1024) (q : Fin 256) : k0_pay2 (k0_pay5 G M) (ix3 (0 : Fin 1) r q) = val_main_v7 g1 g0 mo (ix3 l r q) := by
  rw [← mean_at _ _ _ _ _ _ _ _ _ _ h]
  pointwise [k0_pay2]

theorem square_block (r : Fin 1024) (q : Fin 256) : k0_pay3 (k0_pay6 G V) (ix3 (0 : Fin 1) r q) = val_main_v13 g1 g0 ve (ix3 l r q) := by
  rw [← square_at _ _ _ _ _ _ _ _ _ _ h]
  pointwise [k0_pay3]

end

/-! ## The two calls -/

variable (m : (ℓ : Loc nD τ sig) → Buf (Elt Ideal) ℓ) (ρ : Dev nD → PrngReg)

abbrev arg0 (c : Dev nD) : Vec Ideal S2x1024x256 .f32 := m ((c : Thread nD τ).loc main_arg0)
abbrev arg1 (c : Dev nD) : Vec Ideal S1024x256 .f32 := m ((c : Thread nD τ).loc main_arg1)
abbrev arg2 (c : Dev nD) : Vec Ideal S1024x256 .f32 := m ((c : Thread nD τ).loc main_arg2)
abbrev arg3 (c : Dev nD) : Vec Ideal S2x1024x256 .f32 := m ((c : Thread nD τ).loc main_arg3)
abbrev arg4 (c : Dev nD) : Vec Ideal S2x1024x256 .f32 := m ((c : Thread nD τ).loc main_arg4)

theorem offset (n k : Nat) : 0 * n + 1 * k = k := by omega

theorem other_layer (j : S2x1024x256.Idx) (hj : ¬(j 0).val / 1 = 0) : (j 0).val = 1 := by
  have : (j 0).val < 2 := (j 0).isLt
  omega

/-- An index whose coordinates are a block's, shifted to layer `l`. -/
theorem index_eq (l : Fin 2) (e : S2x1024x256.Idx) (r : Fin 1024) (q : Fin 256) (h0 : (e 0).val = l.val) (h1 : (e 1).val = r.val) (h2 : (e 2).val = q.val) :
    e = ix3 l r q :=
  funext fun a => match a with
    | ⟨0, _⟩ => Fin.ext h0
    | ⟨1, _⟩ => Fin.ext h1
    | ⟨2, _⟩ => Fin.ext h2

/-- A block equal to layer `l` of an array entry by entry equals it at every index of the block. -/
theorem at_layer (l : Fin 2) (f : Vec Ideal S1x1024x256 .f32) (g : Vec Ideal S2x1024x256 .f32)
    (h : ∀ (r : Fin 1024) (q : Fin 256), f (ix3 (0 : Fin 1) r q) = g (ix3 l r q)) (y : S1x1024x256.Idx) (e : S2x1024x256.Idx)
    (h0 : (e 0).val = l.val) (h1 : (e 1).val = (y 1).val) (h2 : (e 2).val = (y 2).val) : f y = g e := by
  have hy : y = ix3 (0 : Fin 1) (y 1) (y 2) := funext fun a => match a with
    | ⟨0, _⟩ => Subsingleton.elim (α := Fin 1) _ _
    | ⟨1, _⟩ => rfl
    | ⟨2, _⟩ => rfl
  exact (congrArg f hy).trans ((h _ _).trans (congrArg g (index_eq l e (y 1) (y 2) h0 h1 h2).symm))

/-- Either call's grid has the one point. -/
theorem point0 (t : Fin cfg0.N) : t = ⟨0, by decide⟩ := Fin.ext (Nat.lt_one_iff.mp (lt_of_lt_of_eq t.isLt (by decide)))
theorem point1 (t : Fin cfg1.N) : t = ⟨0, by decide⟩ := Fin.ext (Nat.lt_one_iff.mp (lt_of_lt_of_eq t.isLt (by decide)))

theorem grad_block_one (c : Dev nD) (t : Fin cfg0.N) (r : Fin 1024) (q : Fin 256) : iblk0 (V0 m ρ) c 1 t (ix2 r q) = arg1 m c (ix2 r q) := by
  rw [point0 t]
  exact congrArg (arg1 m c) (funext fun a => match a with
    | ⟨0, _⟩ => Fin.ext (offset _ _)
    | ⟨1, _⟩ => Fin.ext (offset _ _))

theorem layer_one (c : Dev nD) (t : Fin cfg0.N) : Layer (arg0 m c) (arg3 m c) (arg4 m c) (arg1 m c) (arg2 m c) 1
    (iblk0 (V0 m ρ) c 0 t) (iblk0 (V0 m ρ) c 2 t) (iblk0 (V0 m ρ) c 3 t) (iblk0 (V0 m ρ) c 1 t) := by
  rw [point0 t]
  exact {
    grad := fun r q => (grad_block_one m ρ c _ r q).trans (grad_one _ _ _ _).symm
    weight := fun r q => congrArg (arg0 m c) (index_eq 1 _ r q rfl (offset _ _) (offset _ _))
    mean := fun r q => congrArg (arg3 m c) (index_eq 1 _ r q rfl (offset _ _) (offset _ _))
    square := fun r q => congrArg (arg4 m c) (index_eq 1 _ r q rfl (offset _ _) (offset _ _)) }

theorem entry_arg (c : Dev nD) (a : Ref sig .tc) (ha : a ∈ argRefs) : V2 m ρ c a = m ((c : Thread nD τ).loc a) := W2_args m ρ c a ha

theorem layer_zero (c : Dev nD) (t : Fin cfg1.N) : Layer (arg0 m c) (arg3 m c) (arg4 m c) (arg1 m c) (arg2 m c) 0
    (iblk1 (V2 m ρ) c 0 t) (iblk1 (V2 m ρ) c 2 t) (iblk1 (V2 m ρ) c 3 t) (iblk1 (V2 m ρ) c 1 t) := by
  rw [point1 t]
  exact {
    grad := fun r q => (congrFun (entry_arg m ρ c main_arg2 (by decide)) _).trans ((congrArg (arg2 m c) (funext fun a => match a with
    | ⟨0, _⟩ => Fin.ext (offset _ _)
    | ⟨1, _⟩ => Fin.ext (offset _ _))).trans (grad_zero _ _ _ _).symm)
    weight := fun r q => (congrFun (entry_arg m ρ c main_arg0 (by decide)) _).trans (congrArg (arg0 m c) (index_eq 0 _ r q rfl (offset _ _) (offset _ _)))
    mean := fun r q => (congrFun (entry_arg m ρ c main_arg3 (by decide)) _).trans (congrArg (arg3 m c) (index_eq 0 _ r q rfl (offset _ _) (offset _ _)))
    square := fun r q => (congrFun (entry_arg m ρ c main_arg4 (by decide)) _).trans (congrArg (arg4 m c) (index_eq 0 _ r q rfl (offset _ _) (offset _ _))) }

theorem shift_one (k : Nat) (h : k < 1) : 1 * 1 + 1 * k = 1 := by omega
theorem shift_zero (k : Nat) (h : k < 1) : 0 * 1 + 1 * k = 0 := by omega

theorem fst0 (t : Fin cfg0.N) (y : S1x1024x256.Idx) : (((View.whole main_v0_0).slice (win0_4.rect t)).emb y 0).val = 1 := by
  obtain rfl := point0 t
  have h : (y 0).val < 1 := (y 0).isLt
  exact shift_one _ h
theorem fst1 (t : Fin cfg0.N) (y : S1x1024x256.Idx) : (((View.whole main_v0_0).slice (win0_4.rect t)).emb y 1).val = (y 1).val := by
  obtain rfl := point0 t
  exact offset _ _
theorem fst2 (t : Fin cfg0.N) (y : S1x1024x256.Idx) : (((View.whole main_v0_0).slice (win0_4.rect t)).emb y 2).val = (y 2).val := by
  obtain rfl := point0 t
  exact offset _ _
theorem snd0 (t : Fin cfg1.N) (y : S1x1024x256.Idx) : (((View.whole main_v1_0).slice (win1_4.rect t)).emb y 0).val = 0 := by
  obtain rfl := point1 t
  have h : (y 0).val < 1 := (y 0).isLt
  exact shift_zero _ h
theorem snd1 (t : Fin cfg1.N) (y : S1x1024x256.Idx) : (((View.whole main_v1_0).slice (win1_4.rect t)).emb y 1).val = (y 1).val := by
  obtain rfl := point1 t
  exact offset _ _
theorem snd2 (t : Fin cfg1.N) (y : S1x1024x256.Idx) : (((View.whole main_v1_0).slice (win1_4.rect t)).emb y 2).val = (y 2).val := by
  obtain rfl := point1 t
  exact offset _ _

theorem first4 (c : Dev nD) (i : S2x1024x256.Idx) : (i 0).val = 1 →
    (dat0 (V0 m ρ) c).arrAt 4 cfg0.N i = val_main_v2 (arg1 m c) (arg2 m c) i := by
  refine (dat0 (V0 m ρ) c).arrAt_forall_of_coversWhere 4 (fun i v => (i 0).val = 1 → v = val_main_v2 (arg1 m c) (arg2 m c) i)
    (fun β => β 0 = 1) (by decide +kernel) (fun t _ y _ => ?_) (fun j hj h1 => ?_) i
  · blk_simp
    rw [after0_4]
    unfold out0_4
    frame_out
    exact at_layer 1 _ _ (grad_at _ _ _ _ _ _ _ _ _ _ (layer_one m ρ c _)) y _ (fst0 t y) (fst1 t y) (fst2 t y)
  · blk_simp [Pipeline.Window.cell_apply] at hj
    exact absurd ((Nat.div_one _).trans h1) hj

theorem first5 (c : Dev nD) (i : S2x1024x256.Idx) : (i 0).val = 1 →
    (dat0 (V0 m ρ) c).arrAt 5 cfg0.N i = val_main_v26 (arg0 m c) (arg1 m c) (arg2 m c) (arg3 m c) (arg4 m c) i := by
  refine (dat0 (V0 m ρ) c).arrAt_forall_of_coversWhere 5 (fun i v => (i 0).val = 1 → v = val_main_v26 (arg0 m c) (arg1 m c) (arg2 m c) (arg3 m c) (arg4 m c) i)
    (fun β => β 0 = 1) (by decide +kernel) (fun t _ y _ => ?_) (fun j hj h1 => ?_) i
  · blk_simp
    rw [after0_5]
    unfold out0_5
    frame_out
    exact at_layer 1 _ _ (delta_block _ _ _ _ _ _ _ _ _ _ (layer_one m ρ c _)) y _ (fst0 t y) (fst1 t y) (fst2 t y)
  · blk_simp [Pipeline.Window.cell_apply] at hj
    exact absurd ((Nat.div_one _).trans h1) hj

theorem first6 (c : Dev nD) (i : S2x1024x256.Idx) : (i 0).val = 1 →
    (dat0 (V0 m ρ) c).arrAt 6 cfg0.N i = val_main_v7 (arg1 m c) (arg2 m c) (arg3 m c) i := by
  refine (dat0 (V0 m ρ) c).arrAt_forall_of_coversWhere 6 (fun i v => (i 0).val = 1 → v = val_main_v7 (arg1 m c) (arg2 m c) (arg3 m c) i)
    (fun β => β 0 = 1) (by decide +kernel) (fun t _ y _ => ?_) (fun j hj h1 => ?_) i
  · blk_simp
    rw [after0_6]
    unfold out0_6
    frame_out
    exact at_layer 1 _ _ (mean_block _ _ _ _ _ _ _ _ _ _ (layer_one m ρ c _)) y _ (fst0 t y) (fst1 t y) (fst2 t y)
  · blk_simp [Pipeline.Window.cell_apply] at hj
    exact absurd ((Nat.div_one _).trans h1) hj

theorem first7 (c : Dev nD) (i : S2x1024x256.Idx) : (i 0).val = 1 →
    (dat0 (V0 m ρ) c).arrAt 7 cfg0.N i = val_main_v13 (arg1 m c) (arg2 m c) (arg4 m c) i := by
  refine (dat0 (V0 m ρ) c).arrAt_forall_of_coversWhere 7 (fun i v => (i 0).val = 1 → v = val_main_v13 (arg1 m c) (arg2 m c) (arg4 m c) i)
    (fun β => β 0 = 1) (by decide +kernel) (fun t _ y _ => ?_) (fun j hj h1 => ?_) i
  · blk_simp
    rw [after0_7]
    unfold out0_7
    frame_out
    exact at_layer 1 _ _ (square_block _ _ _ _ _ _ _ _ _ _ (layer_one m ρ c _)) y _ (fst0 t y) (fst1 t y) (fst2 t y)
  · blk_simp [Pipeline.Window.cell_apply] at hj
    exact absurd ((Nat.div_one _).trans h1) hj

/-- The four copies between the calls. -/
theorem copies (c : Dev nD) : V2 m ρ c main_v1_0 = V1 m ρ c main_v0_0 ∧ V2 m ρ c main_v1_1 = V1 m ρ c main_v0_1
    ∧ V2 m ρ c main_v1_2 = V1 m ρ c main_v0_2 ∧ V2 m ρ c main_v1_3 = V1 m ρ c main_v0_3 := by
  have h (b : Ref sig .tc) : V2 m ρ c b = StableHlo.after hostOps1 (W1 m ρ c) (Proc.devRef .tc b) := rfl
  rw [h, h, h, h]
  unfold hostOps1
  rw [StableHlo.after_cons, StableHlo.after_cons, StableHlo.after_cons, StableHlo.after_cons, StableHlo.after_nil]
  refine ⟨?_, ?_, ?_, ?_⟩
  · rw [StableHlo.unary_result_ne _ _ _ _ _ _ (by decide), StableHlo.unary_result_ne _ _ _ _ _ _ (by decide), StableHlo.unary_result_ne _ _ _ _ _ _ (by decide)]
    exact StableHlo.unary_result _ _ _ _ _ _
  · rw [StableHlo.unary_result_ne _ _ _ _ _ _ (by decide), StableHlo.unary_result_ne _ _ _ _ _ _ (by decide), StableHlo.unary_result]
    exact StableHlo.unary_result_ne _ _ _ _ _ _ (by decide)
  · rw [StableHlo.unary_result_ne _ _ _ _ _ _ (by decide), StableHlo.unary_result]
    exact (StableHlo.unary_result_ne _ _ _ _ _ _ (by decide)).trans (StableHlo.unary_result_ne _ _ _ _ _ _ (by decide))
  · rw [StableHlo.unary_result]
    exact (StableHlo.unary_result_ne _ _ _ _ _ _ (by decide)).trans ((StableHlo.unary_result_ne _ _ _ _ _ _ (by decide)).trans
      (StableHlo.unary_result_ne _ _ _ _ _ _ (by decide)))

/-- The second call's results start out as the first call's. -/
theorem copied4 (c : Dev nD) : V2 m ρ c main_v1_0 = (dat0 (V0 m ρ) c).arrAt 4 cfg0.N := (copies m ρ c).1.trans (W1_arr m ρ c 4)
theorem copied5 (c : Dev nD) : V2 m ρ c main_v1_1 = (dat0 (V0 m ρ) c).arrAt 5 cfg0.N := (copies m ρ c).2.1.trans (W1_arr m ρ c 5)
theorem copied6 (c : Dev nD) : V2 m ρ c main_v1_2 = (dat0 (V0 m ρ) c).arrAt 6 cfg0.N := (copies m ρ c).2.2.1.trans (W1_arr m ρ c 6)
theorem copied7 (c : Dev nD) : V2 m ρ c main_v1_3 = (dat0 (V0 m ρ) c).arrAt 7 cfg0.N := (copies m ρ c).2.2.2.trans (W1_arr m ρ c 7)

theorem second4 (c : Dev nD) : (dat1 (V2 m ρ) c).arrAt 4 cfg1.N = val_main_v2 (arg1 m c) (arg2 m c) := by
  refine (dat1 (V2 m ρ) c).arrAt_eq_of_coversWhere_of_agree 4 _ (fun β => β 0 = 0) (by decide +kernel) (fun t _ y => ?_) (fun j hj => ?_)
  · blk_simp
    rw [after1_4]
    unfold outsAt1
    frame_out
    exact at_layer 0 _ _ (grad_at _ _ _ _ _ _ _ _ _ _ (layer_zero m ρ c _)) y _ (snd0 t y) (snd1 t y) (snd2 t y)
  · blk_simp [Pipeline.Window.cell_apply] at hj
    rw [A_eq1]
    exact (congrFun (copied4 m ρ c) _).trans (first4 m ρ c j (other_layer j hj))

theorem second5 (c : Dev nD) : (dat1 (V2 m ρ) c).arrAt 5 cfg1.N = val_main_v26 (arg0 m c) (arg1 m c) (arg2 m c) (arg3 m c) (arg4 m c) := by
  refine (dat1 (V2 m ρ) c).arrAt_eq_of_coversWhere_of_agree 5 _ (fun β => β 0 = 0) (by decide +kernel) (fun t _ y => ?_) (fun j hj => ?_)
  · blk_simp
    rw [after1_5]
    unfold outsAt1
    frame_out
    exact at_layer 0 _ _ (delta_block _ _ _ _ _ _ _ _ _ _ (layer_zero m ρ c _)) y _ (snd0 t y) (snd1 t y) (snd2 t y)
  · blk_simp [Pipeline.Window.cell_apply] at hj
    rw [A_eq1]
    exact (congrFun (copied5 m ρ c) _).trans (first5 m ρ c j (other_layer j hj))

theorem second6 (c : Dev nD) : (dat1 (V2 m ρ) c).arrAt 6 cfg1.N = val_main_v7 (arg1 m c) (arg2 m c) (arg3 m c) := by
  refine (dat1 (V2 m ρ) c).arrAt_eq_of_coversWhere_of_agree 6 _ (fun β => β 0 = 0) (by decide +kernel) (fun t _ y => ?_) (fun j hj => ?_)
  · blk_simp
    rw [after1_6]
    unfold outsAt1
    frame_out
    exact at_layer 0 _ _ (mean_block _ _ _ _ _ _ _ _ _ _ (layer_zero m ρ c _)) y _ (snd0 t y) (snd1 t y) (snd2 t y)
  · blk_simp [Pipeline.Window.cell_apply] at hj
    rw [A_eq1]
    exact (congrFun (copied6 m ρ c) _).trans (first6 m ρ c j (other_layer j hj))

theorem second7 (c : Dev nD) : (dat1 (V2 m ρ) c).arrAt 7 cfg1.N = val_main_v13 (arg1 m c) (arg2 m c) (arg4 m c) := by
  refine (dat1 (V2 m ρ) c).arrAt_eq_of_coversWhere_of_agree 7 _ (fun β => β 0 = 0) (by decide +kernel) (fun t _ y => ?_) (fun j hj => ?_)
  · blk_simp
    rw [after1_7]
    unfold outsAt1
    frame_out
    exact at_layer 0 _ _ (square_block _ _ _ _ _ _ _ _ _ _ (layer_zero m ρ c _)) y _ (snd0 t y) (snd1 t y) (snd2 t y)
  · blk_simp [Pipeline.Window.cell_apply] at hj
    rw [A_eq1]
    exact (congrFun (copied7 m ρ c) _).trans (first7 m ρ c j (other_layer j hj))

section
open Idealize.SL Idealize.SL.RA Idealize.SL.BI
open scoped Idealize.SL.BI
open Idealize.SL.BI.BIBase Idealize.SL.BI.Laws Idealize.SL.ProofMode
open Idealize.ShloMosaic.Rounds

/-- The resource the launch is stated over. -/
abbrev World := MT nD τ sig Unit (Elt Ideal) ℕ (UR sig nD τ) ℕ

set_option backward.isDefEq.respectTransparency.types false in
/-- What @main leaves: every buffer that outlives the calls, as the second call's exit has it. -/
theorem run_all : θ_run defs (onTc (τ := τ) (main (F := Ideal))) ⟨m, fun _ => 0, ρ⟩ fun r =>
    ∀ c : Dev nD, ∀ b ∈ Pipeline.ucRefs τ sig, r.2.mem (((c : Thread nD τ)).1, b) = W3 m ρ c b :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp World)
            ⊢ BI.own (emb₁ (initOf (Pipeline.cells cfgs cellOf_inj) (Pipeline.launchToks cfgs cellOf_inj))) from .rfl)
        iexact Hu
      · iapply (show (BI.emp : sProp World) ⊢ bigSep Finset.univ (fun _ : Dev nD => (BI.emp : sProp World)) from by rw [BI.bigSep_emp_const])
        iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]
      · iexact Hh
      isplitl [Hp]
      · iexists _
        iexact Hp
      · iexists ∅
        iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c => h c)

end

/-- After the run the four results hold the reference's values and the arguments are as launched. -/
theorem run : θ_run defs (onTc (τ := τ) (main (F := Ideal))) ⟨m, fun _ => 0, ρ⟩ fun r => ∀ c : Dev nD,
      r.2.mem ((c : Thread nD τ).loc main_v1_0) = val_main_v2 (arg1 m c) (arg2 m c)
      ∧ r.2.mem ((c : Thread nD τ).loc main_v1_1) = val_main_v26 (arg0 m c) (arg1 m c) (arg2 m c) (arg3 m c) (arg4 m c)
      ∧ r.2.mem ((c : Thread nD τ).loc main_v1_2) = val_main_v7 (arg1 m c) (arg2 m c) (arg3 m c)
      ∧ r.2.mem ((c : Thread nD τ).loc main_v1_3) = val_main_v13 (arg1 m c) (arg2 m c) (arg4 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  have ends (r : PUnit × MemSt nD τ sig (Elt Ideal)) (h : ∀ c : Dev nD, ∀ b ∈ Pipeline.ucRefs τ sig, r.2.mem (((c : Thread nD τ)).1, b) = W3 m ρ c b)
      (c : Dev nD) (a : Ref sig .tc) (ha : a ∈ argRefs) (hu : ¬(Proc.devRef (τ := τ) .tc a).isScoped = true) : r.2.mem ((c : Thread nD τ).loc a) = m ((c : Thread nD τ).loc a) :=
    (h c _ (mem_uc a hu)).trans (W3_args m ρ c a ha)
  refine (θ_run defs _ _).mono (fun r h c => ⟨((h c _ (mem_uc main_v1_0 (by decide))).trans (W3_arr m ρ c 4)).trans (second4 m ρ c),
    ((h c _ (mem_uc main_v1_1 (by decide))).trans (W3_arr m ρ c 5)).trans (second5 m ρ c),
    ((h c _ (mem_uc main_v1_2 (by decide))).trans (W3_arr m ρ c 6)).trans (second6 m ρ c),
    ((h c _ (mem_uc main_v1_3 (by decide))).trans (W3_arr m ρ c 7)).trans (second7 m ρ c),
    ends r h c main_arg0 (by decide) (by decide), ends r h c main_arg1 (by decide) (by decide), ends r h c main_arg2 (by decide) (by decide),
    ends r h c main_arg3 (by decide) (by decide), ends r h c main_arg4 (by decide) (by decide)⟩) (run_all m ρ)

end Cert.AdamLayers

end
-- ==== Proof.AdamLayersClaims.lean ====
/-
  The claims about the optimiser's two calls on a branch's weight.
-/
module

public import proofs.«01_k».proof.Defs
public import proofs.«01_k».proof.Proof.Gen.AdamBr.Frame
public import proofs.«01_k».proof.Proof.AdamLayers
public import proofs.«01_k».proof.Proof.Gen.AdamBrRefIdeal.Run

@[expose] public section

noncomputable section

namespace Cert.Proof

open Idealize.ShloMosaic Idealize.ShloMosaic.TcCoe

namespace AdamBr

open Cert.AdamLayers Cert.AdamBrRefIdeal.Read

theorem frame : Cert.quiescent_AdamBr := fun m ρ _ => Cert.AdamBr.Gen.frame m ρ

theorem frame_ideal : Cert.quiescent_AdamBrIdeal := fun m ρ _ => Cert.AdamBrIdeal.Gen.frame m ρ

theorem frame_ref : Cert.quiescent_AdamBrRefIdeal := fun m ρ _ =>
  (θ_run Cert.AdamBrRefIdeal.defs _ _).mono (fun r h => ⟨fun c => (h c).2.2.2.2,
      Idealize.ShloMosaic.sem_eq_zero_of_no_sems (by decide) r.2⟩)
    (Cert.AdamBrRefIdeal.Value.run (F := Ideal) m ρ)

theorem preserves : Cert.preserves_AdamBr_AdamBrIdeal := trivial

theorem algebraic : Cert.algebraic_AdamBrIdeal_AdamBrRefIdeal := by
  intro m ρ m' ρ' _ hag
  refine ⟨fun c => val_main_v2 (arg1 m c) (arg2 m c),
    fun c => val_main_v26 (arg0 m c) (arg1 m c) (arg2 m c) (arg3 m c) (arg4 m c),
    fun c => val_main_v7 (arg1 m c) (arg2 m c) (arg3 m c),
    fun c => val_main_v13 (arg1 m c) (arg2 m c) (arg4 m c),
    Cert.AdamLayers.run m ρ,
    (θ_run Cert.AdamBrRefIdeal.defs _ _).mono (fun r h c => ?_) (Cert.AdamBrRefIdeal.Value.run (F := Ideal) m' ρ')⟩
  obtain ⟨h0, h1, h2, h3, hr⟩ := h c
  obtain ⟨a0, a1, a2, a3, a4⟩ := hag c
  refine ⟨h0.trans ((val_main_v2_eq _ _).trans ?_), h1.trans ((val_main_v26_eq _ _ _ _ _).trans ?_),
    h2.trans ((val_main_v7_eq _ _ _).trans ?_), h3.trans ((val_main_v13_eq _ _ _).trans ?_), hr⟩
  · rw [a1, a2]
  · rw [a0, a1, a2, a3, a4]
  · rw [a1, a2, a3]
  · rw [a1, a2, a4]

end AdamBr

end Cert.Proof

end
-- ==== Proof.SgElem.lean ====
/-
  The gradient of the spatial gating mixer, stage by stage: what the kernel's body computes on one block of 128 rows is
  what the reference computes on those rows of the whole arrays.  This module has the stages that come before the
  mixing products: the activations, the layer norm and its row statistics.
-/
module

public import proofs.«01_k».proof.Proof.Gen.SgBwdIdeal.Skeleton
public import proofs.«01_k».proof.Proof.Gen.SgRefIdeal.Read
public import Idealize.ShloMosaic.Lib.Pointwise

@[expose] public section

set_option maxRecDepth 16384

noncomputable section

namespace Cert.SgStage

open Idealize.ShloMosaic Idealize.ShloMosaic.TcCoe
open Cert.SgBwdIdeal Cert.SgBwdIdeal.Gen
open Cert.SgRefIdeal.Read

/-- Row `r` of block `t` as a row of the whole array. -/
def row (t : Fin 16) (r : Fin 128) : Fin 2048 := ⟨t.val * 128 + r.val, by have := t.isLt; have := r.isLt; omega⟩

/-- Where the three inputs of the mixer sit among the columns of the projections. -/
abbrev ucol (c : Fin 1024) : Fin 13568 := ⟨2048 + c.val, by have := c.isLt; omega⟩
abbrev vcol (c : Fin 1024) : Fin 13568 := ⟨3072 + c.val, by have := c.isLt; omega⟩
abbrev zcol (c : Fin 1024) : Fin 13568 := ⟨4096 + c.val, by have := c.isLt; omega⟩

variable (t : Fin 16)
variable (x0 : (⟨Cert.SgRefIdeal.S2048x13568, .bf16⟩ : BufTy).Contents (Elt Ideal))
variable (V : Vec Ideal S128x1024 .bf16)
variable (hV : ∀ (r : Fin 128) (c : Fin 1024), V (ix2 r c) = x0 (ix2 (row t r) (vcol c)))

include hV in
theorem act_v (r : Fin 128) (c : Fin 1024) : k0_pay11 V (ix2 r c) = val_main_v2 x0 (ix2 (row t r) c) := by
  pointwise [k0_pay11, val_main_v2, val_main_v0]
  rw [hV]

include hV in
theorem tanh_v (r : Fin 128) (c : Fin 1024) : k0_pay15 V (ix2 r c) = val_main_v35 x0 (ix2 (row t r) c) := by
  pointwise [k0_pay15, val_main_v35, val_main_v34, val_main_v33, val_main_v32, val_main_v31, val_main_v30, val_main_v26, val_main_v25, val_main_cst_7, val_main_cst_8]
  rw [act_v t x0 V hV, mul_comm (val_main_v2 x0 (ix2 (row t r) c)) (val_main_v2 x0 (ix2 (row t r) c) * val_main_v2 x0 (ix2 (row t r) c))]

include hV in
theorem triple_v (r : Fin 128) (c : Fin 1024) : k0_pay14 V (ix2 r c) = val_main_v29 x0 (ix2 (row t r) c) := by
  pointwise [k0_pay14, val_main_v29, val_main_v28, val_main_v27, val_main_cst_6]
  rw [act_v t x0 V hV]

include hV in
theorem sech_v (r : Fin 128) (c : Fin 1024) : k0_pay16 V (ix2 r c) = val_main_v40 x0 (ix2 (row t r) c) := by
  pointwise [k0_pay16, val_main_v40, val_main_v39, val_main_v38, val_main_v37, val_main_v36, val_main_cst_9, val_main_cst_10]
  rw [tanh_v t x0 V hV]

include hV in
theorem half_v (r : Fin 128) (c : Fin 1024) : k0_pay17 V (ix2 r c) = val_main_v44 x0 (ix2 (row t r) c) := by
  pointwise [k0_pay17, val_main_v44, val_main_v43, val_main_v42, val_main_v41, val_main_cst_11, val_main_cst_12]
  rw [tanh_v t x0 V hV]

include hV in
theorem gelu_v (r : Fin 128) (c : Fin 1024) : k0_pay18 V (ix2 r c) = val_main_v45 x0 (ix2 (row t r) c) := by
  pointwise [k0_pay18, val_main_v45]
  rw [act_v t x0 V hV, half_v t x0 V hV]

-- the count of columns, as the body passes it from one of its parts to the next
variable (q : Ideal .f32) (hq : q = Ideal.ofBits .f32 0x44800000#32)

include hV in
theorem sum_v (r : Fin 128) : k0_pay19 V (ix2 r 0) = val_main_v47 x0 (ix2 (row t r) 0) := by
  pointwise [k0_pay19, val_main_v47, val_main_v46, val_main_cst_13]
  simp only [gelu_v t x0 V hV]

include hV hq in
theorem mean_v (r : Fin 128) : k0_pay20 (k0_pay19 V) q (ix2 r 0) = val_main_v49 x0 (ix2 (row t r) 0) := by
  pointwise [k0_pay20, val_main_v49, val_main_v48, val_main_cst_14]
  rw [sum_v t x0 V hV, hq]

include hV hq in
theorem cen_v (r : Fin 128) (c : Fin 1024) : k0_pay21 (k0_pay18 V) (k0_pay19 V) q (ix2 r c) = val_main_v51 x0 (ix2 (row t r) c) := by
  pointwise [k0_pay21, val_main_v51, val_main_v50]
  rw [gelu_v t x0 V hV, mean_v t x0 V hV q hq]

include hV hq in
theorem cen2_v (r : Fin 128) (c : Fin 1024) : k0_pay23 (k0_pay18 V) (k0_pay19 V) q (ix2 r c) = val_main_v60 x0 (ix2 (row t r) c) := by
  pointwise [k0_pay23, val_main_v60, val_main_v59]
  rw [gelu_v t x0 V hV, mean_v t x0 V hV q hq]

include hV hq in
theorem dbl_v (r : Fin 128) (c : Fin 1024) : k0_pay22 (k0_pay18 V) (k0_pay19 V) q (ix2 r c) = val_main_v54 x0 (ix2 (row t r) c) := by
  pointwise [k0_pay22, val_main_v54, val_main_v53, val_main_cst_15]
  rw [cen_v t x0 V hV q hq]

include hV hq in
theorem var_v (r : Fin 128) : k0_pay24 (k0_pay18 V) (k0_pay19 V) q (ix2 r 0) = val_main_v62 x0 (ix2 (row t r) 0) := by
  pointwise [k0_pay24, val_main_v62, val_main_v61, val_main_v58, val_main_v57, val_main_v56, val_main_v55, val_main_v52, val_main_cst_16, val_main_cst_17, val_main_cst_18]
  simp only [cen_v t x0 V hV q hq]

include hV hq in
theorem rstd_v (r : Fin 128) : k0_pay25 (k0_pay18 V) (k0_pay19 V) q (ix2 r 0) = val_main_v63 x0 (ix2 (row t r) 0) := by
  pointwise [k0_pay25, val_main_v63]
  rw [var_v t x0 V hV q hq]

include hV hq in
theorem drstd_v (r : Fin 128) : k0_pay26 (k0_pay18 V) (k0_pay19 V) q (ix2 r 0) = val_main_v66 x0 (ix2 (row t r) 0) := by
  pointwise [k0_pay26, val_main_v66, val_main_v65, val_main_v64, val_main_cst_19]
  rw [var_v t x0 V hV q hq, rstd_v t x0 V hV q hq]

include hV hq in
theorem norm_v (r : Fin 128) (c : Fin 1024) : k0_pay27 (k0_pay18 V) (k0_pay19 V) q (ix2 r c) = val_main_v68 x0 (ix2 (row t r) c) := by
  pointwise [k0_pay27, val_main_v68, val_main_v67]
  rw [cen2_v t x0 V hV q hq, rstd_v t x0 V hV q hq]

variable (x1 x2 : (⟨Cert.SgRefIdeal.S1024, .f32⟩ : BufTy).Contents (Elt Ideal))
variable (LW LB : Vec Ideal S1x1024 .f32)
variable (hLW : ∀ c : Fin 1024, LW (ix2 0 c) = x1 (ix1 c)) (hLB : ∀ c : Fin 1024, LB (ix2 0 c) = x2 (ix1 c))

include hV hLW hLB hq in
theorem ln_v (r : Fin 128) (c : Fin 1024) :
    k0_pay28 (k0_pay12 LW) (k0_pay13 LB) (k0_pay18 V) (k0_pay19 V) q (ix2 r c) = val_main_v74 x0 x1 x2 (ix2 (row t r) c) := by
  pointwise [k0_pay28, k0_pay12, k0_pay13, val_main_v74, val_main_v73, val_main_v72, val_main_v71, val_main_v70, val_main_v69]
  rw [norm_v t x0 V hV q hq, hLW, hLB]

variable (U Z G : Vec Ideal S128x1024 .bf16)
variable (hU : ∀ (r : Fin 128) (c : Fin 1024), U (ix2 r c) = x0 (ix2 (row t r) (ucol c)))
variable (hZ : ∀ (r : Fin 128) (c : Fin 1024), Z (ix2 r c) = x0 (ix2 (row t r) (zcol c)))
variable (x5 : (⟨Cert.SgRefIdeal.S2048x1024, .bf16⟩ : BufTy).Contents (Elt Ideal))
variable (hG : ∀ (r : Fin 128) (c : Fin 1024), G (ix2 r c) = x5 (ix2 (row t r) c))

include hU in
theorem act_u (r : Fin 128) (c : Fin 1024) : k0_pay34 U (ix2 r c) = val_main_v1 x0 (ix2 (row t r) c) := by
  pointwise [k0_pay34, val_main_v1, val_main_v0]
  rw [hU]

include hU in
theorem tanh_u (r : Fin 128) (c : Fin 1024) : k0_pay37 (k0_pay34 U) (ix2 r c) = val_main_v14 x0 (ix2 (row t r) c) := by
  pointwise [k0_pay37, val_main_v14, val_main_v13, val_main_v12, val_main_v11, val_main_v10, val_main_v9, val_main_v5, val_main_v4, val_main_cst_0, val_main_cst_1]
  rw [act_u t x0 U hU, mul_comm (val_main_v1 x0 (ix2 (row t r) c)) (val_main_v1 x0 (ix2 (row t r) c) * val_main_v1 x0 (ix2 (row t r) c))]

include hU in
theorem triple_u (r : Fin 128) (c : Fin 1024) : k0_pay36 (k0_pay34 U) (ix2 r c) = val_main_v8 x0 (ix2 (row t r) c) := by
  pointwise [k0_pay36, val_main_v8, val_main_v7, val_main_v6, val_main_cst]
  rw [act_u t x0 U hU]

include hU in
theorem half_u (r : Fin 128) (c : Fin 1024) : k0_pay38 (k0_pay34 U) (ix2 r c) = val_main_v23 x0 (ix2 (row t r) c) := by
  pointwise [k0_pay38, val_main_v23, val_main_v22, val_main_v21, val_main_v20, val_main_cst_4, val_main_cst_5]
  rw [tanh_u t x0 U hU]

include hU in
theorem gelu_u (r : Fin 128) (c : Fin 1024) : k0_pay39 (k0_pay34 U) (ix2 r c) = val_main_v24 x0 (ix2 (row t r) c) := by
  pointwise [k0_pay39, val_main_v24]
  rw [act_u t x0 U hU, half_u t x0 U hU]

include hZ in
theorem act_z (r : Fin 128) (c : Fin 1024) : k0_pay35 Z (ix2 r c) = val_main_v3 x0 (ix2 (row t r) c) := by
  pointwise [k0_pay35, val_main_v3, val_main_v0]
  rw [hZ]

include hZ in
theorem sig_z (r : Fin 128) (c : Fin 1024) : k0_pay40 (k0_pay35 Z) (ix2 r c) = val_main_v90_2 x0 (ix2 (row t r) c) := by
  pointwise [k0_pay40, val_main_v90_2, val_main_call2_v4, val_main_call2_cst_0, val_main_call2_v3, val_main_call2_v2, val_main_call2_cst, val_main_call2_v1, val_main_call2_v0]
  rw [act_z t x0 Z hZ]
  rfl

include hG in
theorem ct_g (r : Fin 128) (c : Fin 1024) : k0_pay41 G (ix2 r c) = val_main_v92 x5 (ix2 (row t r) c) := by
  pointwise [k0_pay41, val_main_v92]
  rw [hG]

include hZ hG in
theorem gz (r : Fin 128) (c : Fin 1024) : k0_pay42 (k0_pay35 Z) G (ix2 r c) = val_main_v94 x0 x5 (ix2 (row t r) c) := by
  pointwise [k0_pay42, val_main_v94, val_main_v90_0]
  rw [ct_g t G x5 hG, act_z t x0 Z hZ, sig_z t x0 Z hZ]

include hU hZ hG in
theorem dmixed (r : Fin 128) (c : Fin 1024) : k0_pay44 (k0_pay34 U) (k0_pay35 Z) G (ix2 r c) = val_main_v96 x0 x5 (ix2 (row t r) c) := by
  pointwise [k0_pay44, val_main_v96]
  rw [gelu_u t x0 U hU, gz t x0 Z G hZ x5 hG]

end Cert.SgStage

end
-- ==== Proof.SgHeads.lean ====
/-
  The gradient of the spatial gating mixer, the stages of the mixing products: on one block of 128 rows and for each of
  the eight heads, the kernel's masked weights, mixed values and the gradients of both are the reference's.
-/
module

public import proofs.«01_k».proof.Proof.SgElem

@[expose] public section

set_option maxRecDepth 16384

noncomputable section

namespace Cert.SgStage

open Idealize.ShloMosaic Idealize.ShloMosaic.TcCoe
open Cert.SgBwdIdeal Cert.SgBwdIdeal.Gen
open Cert.SgRefIdeal.Read

/-- Column `d` of head `h` as a column of the whole array. -/
def col (h : Fin 8) (d : Fin 128) : Fin 1024 := ⟨h.val * 128 + d.val, by have := h.isLt; have := d.isLt; omega⟩

theorem row_div (t : Fin 16) (r : Fin 128) (p) : (⟨(row t r).val / 128, p⟩ : Fin 16) = t :=
  Fin.ext (by have := r.isLt; show (t.val * 128 + r.val) / 128 = t.val; omega)
theorem row_mod (t : Fin 16) (r : Fin 128) (p) : (⟨(row t r).val % 128, p⟩ : Fin 128) = r :=
  Fin.ext (by have := r.isLt; show (t.val * 128 + r.val) % 128 = r.val; omega)
theorem col_div (h : Fin 8) (d : Fin 128) (p) : (⟨(col h d).val / 128, p⟩ : Fin 8) = h :=
  Fin.ext (by have := d.isLt; show (h.val * 128 + d.val) / 128 = h.val; omega)
theorem col_mod (h : Fin 8) (d : Fin 128) (p) : (⟨(col h d).val % 128, p⟩ : Fin 128) = d :=
  Fin.ext (by have := d.isLt; show (h.val * 128 + d.val) % 128 = d.val; omega)

theorem col_zero (d : Fin 128) (p) : (⟨d.val, p⟩ : Fin 1024) = col 0 d := Fin.ext (by show d.val = 0 * 128 + d.val; omega)
theorem col_at (n : Nat) (h : Fin 8) (hn : n = h.val * 128) (d : Fin 128) (p) : (⟨n + d.val, p⟩ : Fin 1024) = col h d :=
  Fin.ext (by show n + d.val = h.val * 128 + d.val; omega)

/-- Every column is some column of some head. -/
theorem col_surj (c : Fin 1024) : ∃ h d, c = col h d :=
  ⟨⟨c.val / 128, by have := c.isLt; omega⟩, ⟨c.val % 128, by omega⟩, Fin.ext (by show c.val = c.val / 128 * 128 + c.val % 128; omega)⟩

/-- Eight square pieces side by side, read at column `d` of head `h`: the piece of that head. -/
theorem concat8 {e : EltTy} (A : Fin 8 → Vec Ideal S128x128 e) (hc) (r : Fin 128) (h : Fin 8) (d : Fin 128) :
    concatenate S128x1024 1 [⟨S128x128, A 0⟩, ⟨S128x128, A 1⟩, ⟨S128x128, A 2⟩, ⟨S128x128, A 3⟩, ⟨S128x128, A 4⟩,
      ⟨S128x128, A 5⟩, ⟨S128x128, A 6⟩, ⟨S128x128, A 7⟩] hc (ix2 r (col h d)) = A h (ix2 r d) := by
  have hd := d.isLt
  have hh := h.isLt
  refine concatenate_ofFn_apply (N := 8) (t := S128x1024) (s₁ := S128x128) 1 A hc rfl 128 rfl (ix2 r (col h d)) h ?_ (ix2 r d) ?_ ?_
  · show (h.val * 128 + d.val) / 128 = h.val
    omega
  · show d.val = (h.val * 128 + d.val) % 128
    omega
  · intro b hb
    fin_cases b
    · rfl
    · exact absurd rfl hb

theorem concat8' (a0 a1 a2 a3 a4 a5 a6 a7 : Vec Ideal S128x128 .f32) (hc) (r : Fin 128) (h : Fin 8) (d : Fin 128) :
    concatenate S128x1024 1 [⟨S128x128, a0⟩, ⟨S128x128, a1⟩, ⟨S128x128, a2⟩, ⟨S128x128, a3⟩, ⟨S128x128, a4⟩,
      ⟨S128x128, a5⟩, ⟨S128x128, a6⟩, ⟨S128x128, a7⟩] hc (ix2 r (col h d)) = ![a0, a1, a2, a3, a4, a5, a6, a7] h (ix2 r d) :=
  concat8 ![a0, a1, a2, a3, a4, a5, a6, a7] hc r h d

variable (t : Fin 16)
variable (x0 : (⟨Cert.SgRefIdeal.S2048x13568, .bf16⟩ : BufTy).Contents (Elt Ideal))
variable (V : Vec Ideal S128x1024 .bf16)
variable (hV : ∀ (r : Fin 128) (c : Fin 1024), V (ix2 r c) = x0 (ix2 (row t r) (vcol c)))
variable (q : Ideal .f32) (hq : q = Ideal.ofBits .f32 0x44800000#32)
variable (x1 x2 : (⟨Cert.SgRefIdeal.S1024, .f32⟩ : BufTy).Contents (Elt Ideal))
variable (LW LB : Vec Ideal S1x1024 .f32)
variable (hLW : ∀ c : Fin 1024, LW (ix2 0 c) = x1 (ix1 c)) (hLB : ∀ c : Fin 1024, LB (ix2 0 c) = x2 (ix1 c))
variable (U Z G : Vec Ideal S128x1024 .bf16)
variable (hU : ∀ (r : Fin 128) (c : Fin 1024), U (ix2 r c) = x0 (ix2 (row t r) (ucol c)))
variable (hZ : ∀ (r : Fin 128) (c : Fin 1024), Z (ix2 r c) = x0 (ix2 (row t r) (zcol c)))
variable (x5 : (⟨Cert.SgRefIdeal.S2048x1024, .bf16⟩ : BufTy).Contents (Elt Ideal))
variable (hG : ∀ (r : Fin 128) (c : Fin 1024), G (ix2 r c) = x5 (ix2 (row t r) c))
variable (x3 : (⟨Cert.SgRefIdeal.S8x128x128, .f32⟩ : BufTy).Contents (Elt Ideal))
variable (x4 : (⟨Cert.SgRefIdeal.S8x128, .f32⟩ : BufTy).Contents (Elt Ideal))
variable (Wh : Fin 8 → Vec Ideal S1x128x128 .f32) (hW : ∀ (h : Fin 8) (r m : Fin 128), Wh h (ix3 0 r m) = x3 (ix3 h r m))
variable (Bh : Fin 8 → Vec Ideal S1x128x1 .f32) (hB : ∀ (h : Fin 8) (r : Fin 128), Bh h (ix3 0 r 0) = x4 (ix2 h r))

/-- The two triangular masks are one. -/
theorem tri_eq (r m : Fin 128) : val_main_v77 (F := Ideal) (ix2 r m) = k0_pay2 (ix2 r m) := by
  pointwise [val_main_v77, val_main_v76, val_main_c, val_main_call0_v5, val_main_call0_v4, val_main_call0_v3, val_main_call0_v2, val_main_call0_v1, val_main_call0_v0, val_main_call0_c, val_main_call0_c_0, k0_pay2]
  revert r m
  decide +kernel

theorem mask_eq (h : Fin 8) (r m : Fin 128) :
    val_main_v80_0 (F := Ideal) x3 (ix3 h r m) = Scalar.select (k0_pay2 (ix2 r m)) (x3 (ix3 h r m)) 0 := by
  pointwise [val_main_v80_0, val_main_v80_1, val_main_v80_2, val_main_v79, val_main_v78, val_main_cst_20]
  rw [tri_eq]

/-- The masked weights of the eight heads, as the kernel holds them. -/
def kw : Fin 8 → FVec Ideal S128x128 .bf16 := ![k0_pay3 (Wh 0), k0_pay4 (Wh 1), k0_pay5 (Wh 2), k0_pay6 (Wh 3), k0_pay7 (Wh 4), k0_pay8 (Wh 5), k0_pay9 k0_pay2 (Wh 6), k0_pay10 k0_pay2 (Wh 7)]

include hW in
theorem kw_eq (h : Fin 8) (r m : Fin 128) : kw Wh h (ix2 r m) = val_main_v80_0 (F := Ideal) x3 (ix3 h r m) := by
  rw [mask_eq, ← hW]
  fin_cases h
  · show k0_pay3 (Wh 0) (ix2 r m) = _
    pointwise [k0_pay3]
  · show k0_pay4 (Wh 1) (ix2 r m) = _
    pointwise [k0_pay4]
  · show k0_pay5 (Wh 2) (ix2 r m) = _
    pointwise [k0_pay5]
  · show k0_pay6 (Wh 3) (ix2 r m) = _
    pointwise [k0_pay6]
  · show k0_pay7 (Wh 4) (ix2 r m) = _
    pointwise [k0_pay7]
  · show k0_pay8 (Wh 5) (ix2 r m) = _
    pointwise [k0_pay8]
  · show k0_pay9 k0_pay2 (Wh 6) (ix2 r m) = _
    pointwise [k0_pay9]
  · show k0_pay10 k0_pay2 (Wh 7) (ix2 r m) = _
    pointwise [k0_pay10]

/-- The normalised values of a block, as the kernel feeds them to the mixing products. -/
def kvn : FVec Ideal S128x1024 .bf16 := k0_pay28 (k0_pay12 LW) (k0_pay13 LB) (k0_pay18 V) (k0_pay19 V) q

/-- The mixed values of a block, as the kernel puts them together. -/
def kmixed : FVec Ideal S128x1024 .f32 :=
  k0_pay33 (k0_pay6 (Wh 3)) (k0_pay7 (Wh 4)) (k0_pay8 (Wh 5)) (k0_pay9 k0_pay2 (Wh 6)) (k0_pay10 k0_pay2 (Wh 7))
    (k0_pay28 (k0_pay12 LW) (k0_pay13 LB) (k0_pay18 V) (k0_pay19 V) q)
    (k0_pay29 (k0_pay3 (Wh 0)) (k0_pay12 LW) (k0_pay13 LB) (k0_pay18 V) (k0_pay19 V) q (Bh 0))
    (k0_pay30 (k0_pay4 (Wh 1)) (k0_pay12 LW) (k0_pay13 LB) (k0_pay18 V) (k0_pay19 V) q (Bh 1))
    (k0_pay31 (k0_pay5 (Wh 2)) (k0_pay12 LW) (k0_pay13 LB) (k0_pay18 V) (k0_pay19 V) q)
    (k0_pay32 (Bh 2)) (Bh 3) (Bh 4) (Bh 5) (Bh 6) (Bh 7)

theorem kmixed_eq (r : Fin 128) (h : Fin 8) (d : Fin 128) : kmixed V q LW LB Wh Bh (ix2 r (col h d)) = ∑ m : Fin 128, kw Wh h (ix2 r m) * kvn V q LW LB (ix2 m (col h d)) + Bh h (ix3 0 r 0) := by
  unfold kmixed k0_pay33
  refine Eq.trans (concat8' _ _ _ _ _ _ _ _ _ r h d) ?_
  fin_cases h
  · show k0_pay29 _ _ _ _ _ _ _ _ = _
    pointwise [k0_pay29]
    rw [Finset.sum_congr rfl fun x _ => by rw [col_zero d]]
    rfl
  · show k0_pay30 _ _ _ _ _ _ _ _ = _
    pointwise [k0_pay30]
    rw [Finset.sum_congr rfl fun x _ => by rw [col_at 128 1 rfl d]]
    rfl
  · pointwise [k0_pay31, k0_pay32]
    rw [Finset.sum_congr rfl fun x _ => by rw [col_at 256 2 rfl d]]
    rfl
  · pointwise [k0_pay31, k0_pay32]
    rw [Finset.sum_congr rfl fun x _ => by rw [col_at 384 3 rfl d]]
    rfl
  · pointwise [k0_pay31, k0_pay32]
    rw [Finset.sum_congr rfl fun x _ => by rw [col_at 512 4 rfl d]]
    rfl
  · pointwise [k0_pay31, k0_pay32]
    rw [Finset.sum_congr rfl fun x _ => by rw [col_at 640 5 rfl d]]
    rfl
  · pointwise [k0_pay31, k0_pay32]
    rw [Finset.sum_congr rfl fun x _ => by rw [col_at 768 6 rfl d]]
    rfl
  · pointwise [k0_pay31, k0_pay32]
    rw [Finset.sum_congr rfl fun x _ => by rw [col_at 896 7 rfl d]]
    rfl

include hV hq hLW hLB in
theorem kvn_eq (r : Fin 128) (c : Fin 1024) : kvn V q LW LB (ix2 r c) = val_main_v74 x0 x1 x2 (ix2 (row t r) c) :=
  ln_v t x0 V hV q hq x1 x2 LW LB hLW hLB r c

theorem ref_vn (n : Fin 16) (m : Fin 128) (h : Fin 8) (d : Fin 128) :
    val_main_v75 x0 x1 x2 (ix4 n m h d) = val_main_v74 x0 x1 x2 (ix2 (row n m) (col h d)) := by
  pointwise [val_main_v75]
  rfl

theorem ref_mix (h : Fin 8) (n : Fin 16) (d r : Fin 128) :
    val_main_v81 x0 x1 x2 x3 (ix4 h n d r)
      = ∑ m : Fin 128, val_main_v74 x0 x1 x2 (ix2 (row n m) (col h d)) * val_main_v80_0 x3 (ix3 h r m) := by
  pointwise [val_main_v81]
  rw [Finset.sum_congr rfl fun x _ => by rw [ref_vn]]

theorem ref_mixed (r : Fin 128) (h : Fin 8) (d : Fin 128) :
    val_main_v88 x0 x1 x2 x3 x4 (ix2 (row t r) (col h d))
      = ∑ m : Fin 128, val_main_v74 x0 x1 x2 (ix2 (row t m) (col h d)) * val_main_v80_0 x3 (ix3 h r m) + x4 (ix2 h r) := by
  have e : val_main_v88 x0 x1 x2 x3 x4 (ix2 (row t r) (col h d)) = val_main_v87 x0 x1 x2 x3 x4 (ix4 t r h d) := by
    pointwise [val_main_v88]
    rw [row_div t r, row_mod t r, col_div h d, col_mod h d]
  rw [e]
  pointwise [val_main_v87, val_main_v86, val_main_v85, val_main_v84, val_main_v83, val_main_v82]
  rw [ref_mix]

include hV hq hLW hLB hW hB in
theorem mixed (r : Fin 128) (c : Fin 1024) :
    kmixed V q LW LB Wh Bh (ix2 r c) = val_main_v88 x0 x1 x2 x3 x4 (ix2 (row t r) c) := by
  obtain ⟨h, d, rfl⟩ := col_surj c
  rw [kmixed_eq, hB, ref_mixed]
  refine congrArg₂ (· + ·) (Finset.sum_congr rfl fun m _ => ?_) rfl
  exact (congrArg₂ (· * ·) (kw_eq x3 Wh hW h r m) (kvn_eq t x0 V hV q hq x1 x2 LW LB hLW hLB m (col h d))).trans (mul_comm _ _)

variable (M : FVec Ideal S128x1024 .f32) (hM : ∀ (r : Fin 128) (c : Fin 1024), M (ix2 r c) = val_main_v88 x0 x1 x2 x3 x4 (ix2 (row t r) c))

include hU hZ hG hM in
theorem dz (r : Fin 128) (c : Fin 1024) :
    k0_pay50 (k0_pay43 M (k0_pay34 U) (k0_pay35 Z) G) (ix2 r c) = val_main_v170 x0 x1 x2 x3 x4 x5 (ix2 (row t r) c) := by
  pointwise [k0_pay50, k0_pay43, val_main_v170, val_main_v95, val_main_v93, val_main_v89, val_main_v90_1, val_main_call3_v0, val_main_call3_v1, val_main_call3_v2, val_main_call2_v6, val_main_call2_v7, val_main_call2_cst_1]
  rw [gelu_u t x0 U hU, hM, ct_g t G x5 hG, sig_z t x0 Z hZ, act_z t x0 Z hZ]

include hU hZ hG hM in
theorem du (r : Fin 128) (c : Fin 1024) :
    k0_pay49 (k0_pay36 (k0_pay34 U)) (k0_pay47 M (k0_pay34 U) (k0_pay35 Z) G) (k0_pay48 M (k0_pay34 U) (k0_pay35 Z) G) (ix2 r c) = val_main_v168 x0 x1 x2 x3 x4 x5 (ix2 (row t r) c) := by
  pointwise [k0_pay49, k0_pay47, k0_pay48, k0_pay46, k0_pay45, val_main_v168, val_main_v167, val_main_v166, val_main_v165, val_main_v164, val_main_v163, val_main_v162, val_main_v161, val_main_v160, val_main_v159, val_main_v158, val_main_v157, val_main_v156, val_main_v97, val_main_v19, val_main_v18, val_main_v17, val_main_v16, val_main_v15, val_main_cst_2, val_main_cst_3, val_main_cst_38, val_main_cst_39, val_main_cst_40]
  rw [gz t x0 Z G hZ x5 hG, hM, half_u t x0 U hU, act_u t x0 U hU, tanh_u t x0 U hU, triple_u t x0 U hU]

/-- The gradient of the normalised values of a block, as the kernel puts it together from the gradient `A` of the mixed values. -/
def kdvn (A : FVec Ideal S128x1024 .f32) : FVec Ideal S128x1024 .f32 :=
  k0_pay100 (k0_pay10 k0_pay2 (Wh 7)) (k0_pay59 (k0_pay3 (Wh 0)) A) (k0_pay64 (k0_pay4 (Wh 1)) (k0_pay61 A))
    (k0_pay71 (k0_pay5 (Wh 2)) (k0_pay66 A)) (k0_pay76 (k0_pay6 (Wh 3)) A) (k0_pay81 (k0_pay7 (Wh 4)) (k0_pay78 A))
    (k0_pay88 (k0_pay8 (Wh 5)) (k0_pay83 A)) (k0_pay93 (k0_pay9 k0_pay2 (Wh 6)) A) (k0_pay95 A)

theorem kdvn_eq (A : FVec Ideal S128x1024 .f32) (m : Fin 128) (h : Fin 8) (d : Fin 128) :
    kdvn Wh A (ix2 m (col h d)) = ∑ r : Fin 128, kw Wh h (ix2 r m) * A (ix2 r (col h d)) := by
  unfold kdvn k0_pay100
  refine Eq.trans (concat8' _ _ _ _ _ _ _ _ _ m h d) ?_
  fin_cases h
  · show k0_pay59 _ _ _ = _
    pointwise [k0_pay59, k0_pay56, k0_pay55]
    rw [Finset.sum_congr rfl fun x _ => by rw [col_zero d]]
    rfl
  · show k0_pay64 _ _ _ = _
    pointwise [k0_pay64, k0_pay61, k0_pay60]
    rw [Finset.sum_congr rfl fun x _ => by rw [col_at 128 1 rfl d]]
    rfl
  · show k0_pay71 _ _ _ = _
    pointwise [k0_pay71, k0_pay66, k0_pay65]
    rw [Finset.sum_congr rfl fun x _ => by rw [col_at 256 2 rfl d]]
    rfl
  · show k0_pay76 _ _ _ = _
    pointwise [k0_pay76, k0_pay73, k0_pay72]
    rw [Finset.sum_congr rfl fun x _ => by rw [col_at 384 3 rfl d]]
    rfl
  · show k0_pay81 _ _ _ = _
    pointwise [k0_pay81, k0_pay78, k0_pay77]
    rw [Finset.sum_congr rfl fun x _ => by rw [col_at 512 4 rfl d]]
    rfl
  · show k0_pay88 _ _ _ = _
    pointwise [k0_pay88, k0_pay83, k0_pay82]
    rw [Finset.sum_congr rfl fun x _ => by rw [col_at 640 5 rfl d]]
    rfl
  · show k0_pay93 _ _ _ = _
    pointwise [k0_pay93, k0_pay90, k0_pay89]
    rw [Finset.sum_congr rfl fun x _ => by rw [col_at 768 6 rfl d]]
    rfl
  · pointwise [k0_pay95, k0_pay94]
    rw [Finset.sum_congr rfl fun x _ => by rw [col_at 896 7 rfl d]]
    rfl

theorem ref_dm (n : Fin 16) (m : Fin 128) (h : Fin 8) (d : Fin 128) :
    val_main_v98 x0 x5 (ix4 n m h d) = val_main_v96 x0 x5 (ix2 (row n m) (col h d)) := by
  pointwise [val_main_v98]
  rfl

theorem ref_dmix (h : Fin 8) (n : Fin 16) (d m : Fin 128) :
    val_main_v107 x0 x3 x5 (ix4 h n d m)
      = ∑ r : Fin 128, val_main_v96 x0 x5 (ix2 (row n r) (col h d)) * val_main_v80_0 x3 (ix3 h r m) := by
  pointwise [val_main_v107, val_main_v105]
  rw [Finset.sum_congr rfl fun x _ => by rw [ref_dm]]

variable (A : FVec Ideal S128x1024 .f32) (hA : ∀ (r : Fin 128) (c : Fin 1024), A (ix2 r c) = val_main_v96 x0 x5 (ix2 (row t r) c))

include hA hW in
theorem dvn (r : Fin 128) (c : Fin 1024) : kdvn Wh A (ix2 r c) = val_main_v110 x0 x3 x5 (ix2 (row t r) c) := by
  obtain ⟨h, d, rfl⟩ := col_surj c
  rw [kdvn_eq]
  pointwise [val_main_v110, val_main_v108]
  rw [row_div t r, row_mod t r, col_div h d, col_mod h d, ref_dmix]
  refine Finset.sum_congr rfl fun m _ => ?_
  rw [kw_eq x3 Wh hW, hA, mul_comm]

/-- What the kernel leaves of the mixing weights' gradient after a block, head by head, from what was there. -/
def kdw (vn : FVec Ideal S128x1024 .bf16) : Fin 8 → Vec Ideal S1x128x128 .f32 → Vec Ideal S1x128x128 .f32 :=
  ![fun o => k0_pay58 k0_pay2 vn A o, fun o => k0_pay63 k0_pay2 vn (k0_pay61 A) o,
    fun o => k0_pay70 k0_pay2 (k0_pay66 A) (k0_pay68 o) (k0_pay69 vn), fun o => k0_pay75 k0_pay2 vn A o,
    fun o => k0_pay80 k0_pay2 vn (k0_pay78 A) o, fun o => k0_pay87 k0_pay2 (k0_pay85 o) (k0_pay86 vn A) (FloatOps.ofBits FTy.f32 0#32),
    fun o => k0_pay92 k0_pay2 vn A o, fun o => k0_pay99 k0_pay2 vn (k0_pay95 A) o]

theorem kdw_eq (vn : FVec Ideal S128x1024 .bf16) (h : Fin 8) (o : Vec Ideal S1x128x128 .f32) (r m : Fin 128) :
    kdw A vn h o (ix3 0 r m) = o (ix3 0 r m) + Scalar.select (k0_pay2 (ix2 r m)) (∑ x : Fin 128, A (ix2 r (col h x)) * vn (ix2 m (col h x))) 0 := by
  fin_cases h
  · show k0_pay58 _ _ _ _ _ = _
    pointwise [k0_pay58, k0_pay56, k0_pay55]
    rfl
  · show k0_pay63 _ _ _ _ _ = _
    pointwise [k0_pay63, k0_pay61, k0_pay60]
    rfl
  · show k0_pay70 _ _ _ _ _ = _
    pointwise [k0_pay70, k0_pay66, k0_pay68, k0_pay69, k0_pay65]
    rfl
  · show k0_pay75 _ _ _ _ _ = _
    pointwise [k0_pay75, k0_pay73, k0_pay72]
    rfl
  · show k0_pay80 _ _ _ _ _ = _
    pointwise [k0_pay80, k0_pay78, k0_pay77]
    rfl
  · show k0_pay87 _ _ _ _ _ = _
    pointwise [k0_pay87, k0_pay85, k0_pay86, k0_pay83, k0_pay82]
    rfl
  · show k0_pay92 _ _ _ _ _ = _
    pointwise [k0_pay92, k0_pay90, k0_pay89]
    rfl
  · show k0_pay99 _ _ _ _ _ = _
    pointwise [k0_pay99, k0_pay95, k0_pay94]
    rfl

/-- What the kernel leaves of the mixing bias' gradient after a block, head by head, from what was there. -/
def kdb : Fin 8 → Vec Ideal S1x128x1 .f32 → Vec Ideal S1x128x1 .f32 :=
  ![fun o => k0_pay57 A o, fun o => k0_pay62 (k0_pay60 A) o, fun o => k0_pay67 A o, fun o => k0_pay74 A o,
    fun o => k0_pay79 (k0_pay77 A) o, fun o => k0_pay84 A o, fun o => k0_pay91 A o, fun o => k0_pay98 (k0_pay96 o) (k0_pay97 A)]

theorem kdb_eq (h : Fin 8) (o : Vec Ideal S1x128x1 .f32) (r : Fin 128) :
    kdb A h o (ix3 0 r 0) = o (ix3 0 r 0) + ∑ x : Fin 128, A (ix2 r (col h x)) := by
  fin_cases h
  · show k0_pay57 _ _ _ = _
    pointwise [k0_pay57, k0_pay55]
    rfl
  · show k0_pay62 _ _ _ = _
    pointwise [k0_pay62, k0_pay60]
    rfl
  · show k0_pay67 _ _ _ = _
    pointwise [k0_pay67, k0_pay65]
    rfl
  · show k0_pay74 _ _ _ = _
    pointwise [k0_pay74, k0_pay72]
    rfl
  · show k0_pay79 _ _ _ = _
    pointwise [k0_pay79, k0_pay77]
    rfl
  · show k0_pay84 _ _ _ = _
    pointwise [k0_pay84, k0_pay82]
    rfl
  · show k0_pay91 _ _ _ = _
    pointwise [k0_pay91, k0_pay89]
    rfl
  · show k0_pay98 _ _ _ = _
    pointwise [k0_pay98, k0_pay96, k0_pay97, k0_pay94]
    rfl

end Cert.SgStage
end
-- ==== Proof.AttnRef.lean ====
/-
  The reference attention in closed form: the turned queries and keys, the window of keys of a block of rows, which of
  them a row may see, and the probabilities.
-/
module

public import proofs.«01_k».proof.Proof.Gen.AttnFwdRefIdeal.Read
public import proofs.«01_k».proof.Proof.SgHeads
public import Idealize.ShloMosaic.Lib.Pipeline.ValueKit

@[expose] public section

set_option maxRecDepth 16384

noncomputable section

namespace Cert.AttnRef

open Idealize.ShloMosaic Idealize.ShloMosaic.TcCoe Idealize.ShloMosaic.Tactic Idealize.SL.Sem
open Cert.AttnFwdRefIdeal.Read
open Cert.SgStage (row row_div row_mod)

/-! ## Turning a pair of lanes by a position's angle -/

/-- The angle of lane pair `j` at position `i`. -/
def ang (i j : Nat) : EReal :=
  FloatOps.sitofp (F := Ideal) .f32 (BitVec.ofNat 32 i) * Ideal.pow (Ideal.ofBits .f32 0x48F42400#32)
    (Ideal.div (-(Ideal.ofBits .f32 0x40000000#32 * FloatOps.sitofp (F := Ideal) .f32 (BitVec.ofNat 32 j))) (Ideal.ofBits .f32 0x41800000#32))

/-- Lane `d` of the 64 lanes `T`, turned at position `i`. -/
def turn (i : Nat) (T : Nat → EReal) (d : Nat) : EReal :=
  if d < 8 then T d * Ideal.cos (ang i d) - T (8 + d) * Ideal.sin (ang i d)
  else if d < 16 then T d * Ideal.cos (ang i (d - 8)) + T (d - 8) * Ideal.sin (ang i (d - 8))
  else T d

/-! ## Maxima and sums over one more place -/

theorem fold_last (n : Nat) (b : EReal) (f : Fin (n + 1) → EReal) :
    Finset.univ.fold max b f = max (Finset.univ.fold max b fun k : Fin n => f k.castSucc) (f (Fin.last n)) := by
  rw [Fin.univ_castSuccEmb, Finset.fold_cons, Finset.fold_map, max_comm]
  rfl

/-- The probabilities of the scores `S` beside the sink `b`. -/
def soft (S : Fin 256 → EReal) (b : EReal) (s : Fin 256) : EReal :=
  Ideal.exp (S s - max (Finset.univ.fold max (Ideal.ofBits .f32 0xFF800000#32) S) b) *
    Ideal.div 1 (∑ k, Ideal.exp (S k - max (Finset.univ.fold max (Ideal.ofBits .f32 0xFF800000#32) S) b) +
      Ideal.exp (b - max (Finset.univ.fold max (Ideal.ofBits .f32 0xFF800000#32) S) b))

theorem soft_masked (S : Fin 256 → EReal) (b : EReal) (s : Fin 256) (h : S s = ⊥) : soft S b s = 0 := by
  unfold soft
  rw [h, EReal.bot_sub]
  exact zero_mul (_ : EReal)

/-! ## The reference's stages -/

variable (x0 : (⟨Cert.AttnFwdRefIdeal.S2048x13568, .bf16⟩ : BufTy).Contents (Elt Ideal))
variable (x1 : (⟨Cert.AttnFwdRefIdeal.S16, .f32⟩ : BufTy).Contents (Elt Ideal))

/-- A row of the projection at a column. -/
def rd (i : Fin 2048) (n : Nat) : EReal := if h : n < 13568 then x0 (ix2 i ⟨n, h⟩) else 0

theorem rd_eq (i : Fin 2048) (n n' : Nat) (h : n < 13568) (e : n = n') : x0 (ix2 i ⟨n, h⟩) = rd x0 i n' := by
  subst e
  unfold rd
  rw [dif_pos h]

theorem ref_q (i : Fin 2048) (h : Fin 16) (d : Fin 64) :
    val_main_v39 x0 (ix3 i h d) = turn i.val (fun k => rd x0 i (5120 + (h.val * 64 + k))) d.val := by
  pointwise [val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_cst_2, val_main_v13, val_main_v12, val_main_cst_1, val_main_v11, val_main_v10, val_main_v9, val_main_cst_0, val_main_v8, val_main_v7, val_main_cst, val_main_v6, val_main_v5, val_main_v4, val_main_v1, val_main_v0]
  unfold turn
  by_cases a : d.val < 8
  · rw [dif_pos a, if_pos a]
    exact congrArg₂ (fun u v => u * Ideal.cos (ang i.val d.val) - v * Ideal.sin (ang i.val d.val)) (rd_eq x0 _ _ _ _ rfl) (rd_eq x0 _ _ _ _ rfl)
  · rw [dif_neg a, if_neg a]
    by_cases b : d.val - 8 < 8
    · rw [dif_pos b, if_pos (show d.val < 16 by omega)]
      exact congrArg₂ (fun u v => u * Ideal.cos (ang i.val (d.val - 8)) + v * Ideal.sin (ang i.val (d.val - 8))) (rd_eq x0 _ _ _ _ (by omega)) (rd_eq x0 _ _ _ _ rfl)
    · rw [dif_neg b, if_neg (show ¬ d.val < 16 by omega)]
      exact rd_eq x0 _ _ _ _ (by omega)

theorem ref_k (i : Fin 2048) (g : Fin 2) (d : Fin 64) :
    val_main_v74 x0 (ix3 i g d) = turn i.val (fun k => rd x0 i (6144 + (g.val * 64 + k))) d.val := by
  pointwise [val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_cst_6, val_main_v48, val_main_v47, val_main_cst_5, val_main_v46, val_main_v45, val_main_v44, val_main_cst_4, val_main_v43, val_main_v42, val_main_cst_3, val_main_v41, val_main_v40, val_main_v4, val_main_v2, val_main_v0]
  unfold turn
  by_cases a : d.val < 8
  · rw [dif_pos a, if_pos a]
    exact congrArg₂ (fun u v => u * Ideal.cos (ang i.val d.val) - v * Ideal.sin (ang i.val d.val)) (rd_eq x0 _ _ _ _ rfl) (rd_eq x0 _ _ _ _ rfl)
  · rw [dif_neg a, if_neg a]
    by_cases b : d.val - 8 < 8
    · rw [dif_pos b, if_pos (show d.val < 16 by omega)]
      exact congrArg₂ (fun u v => u * Ideal.cos (ang i.val (d.val - 8)) + v * Ideal.sin (ang i.val (d.val - 8))) (rd_eq x0 _ _ _ _ (by omega)) (rd_eq x0 _ _ _ _ rfl)
    · rw [dif_neg b, if_neg (show ¬ d.val < 16 by omega)]
      exact rd_eq x0 _ _ _ _ (by omega)

/-- The row that place `s` of the window of block `t` stands for; before the first block, the block's own rows. -/
def krow (t : Fin 16) (s : Fin 256) : Fin 2048 :=
  ⟨if 128 ≤ t.val * 128 + s.val then t.val * 128 + s.val - 128 else s.val, by have := t.isLt; have := s.isLt; split <;> omega⟩

theorem krow_eq (t : Fin 16) (s : Fin 256) (n : Nat) (h : n < 2048) (a : 128 ≤ t.val * 128 + s.val) (e : n = t.val * 128 + s.val - 128) :
    (⟨n, h⟩ : Fin 2048) = krow t s := Fin.ext (by show n = if _ then _ else _; rw [if_pos a, e])

theorem zero_word : FloatOps.sitofp (F := Ideal) .f32 0#32 = 0 := by
  show (((0#32 : BitVec 32).toInt : ℝ) : EReal) = 0
  simp

theorem ref_kw (t : Fin 16) (s : Fin 256) (g : Fin 2) (d : Fin 64) :
    val_main_v80 x0 (ix4 t s g d) = if 128 ≤ t.val * 128 + s.val then val_main_v74 x0 (ix3 (krow t s) g d) else 0 := by
  have := t.isLt
  have := s.isLt
  pointwise [val_main_v80, val_main_v79, val_main_v78, val_main_v77, val_main_v76, val_main_call0_v0, val_main_c]
  rw [zero_word]
  by_cases a : s.val < 128
  · rw [dif_pos a]
    by_cases b : 128 ≤ t.val * 128 + s.val
    · refine (dif_pos ⟨b, by omega⟩).trans (Eq.trans ?_ (if_pos b).symm)
      exact congrArg (fun i => val_main_v74 x0 (ix3 i g d)) (krow_eq t s _ _ b rfl)
    · rw [dif_neg (fun h => b h.1), if_neg b]
  · refine (dif_neg a).trans (Eq.trans ?_ (if_pos (show 128 ≤ t.val * 128 + s.val by omega)).symm)
    exact congrArg (fun i => val_main_v74 x0 (ix3 i g d)) (krow_eq t s _ _ (by omega) (by omega))

theorem ref_v (i : Fin 2048) (g : Fin 2) (d : Fin 64) :
    val_main_v75 x0 (ix3 i g d) = rd x0 i (6272 + (g.val * 64 + d.val)) := by
  pointwise [val_main_v75, val_main_v3, val_main_v0]
  exact rd_eq x0 _ _ _ _ rfl

theorem ref_vw (t : Fin 16) (s : Fin 256) (g : Fin 2) (d : Fin 64) :
    val_main_v85 x0 (ix4 t s g d) = if 128 ≤ t.val * 128 + s.val then val_main_v75 x0 (ix3 (krow t s) g d) else 0 := by
  have := t.isLt
  have := s.isLt
  pointwise [val_main_v85, val_main_v84, val_main_v83, val_main_v82, val_main_v81, val_main_call1_v0, val_main_c_7]
  rw [zero_word]
  by_cases a : s.val < 128
  · rw [dif_pos a]
    by_cases b : 128 ≤ t.val * 128 + s.val
    · refine (dif_pos ⟨b, by omega⟩).trans (Eq.trans ?_ (if_pos b).symm)
      exact congrArg (fun i => val_main_v75 x0 (ix3 i g d)) (krow_eq t s _ _ b rfl)
    · rw [dif_neg (fun h => b h.1), if_neg b]
  · refine (dif_neg a).trans (Eq.trans ?_ (if_pos (show 128 ≤ t.val * 128 + s.val by omega)).symm)
    exact congrArg (fun i => val_main_v75 x0 (ix3 i g d)) (krow_eq t s _ _ (by omega) (by omega))

/-- Row `r` of block `t` may see place `s` of the block's window. -/
abbrev sees (t : Fin 16) (r : Fin 128) (s : Fin 256) : Prop := 128 ≤ t.val * 128 + s.val ∧ r.val < s.val ∧ s.val ≤ r.val + 128

theorem word_gap (b r s k : BitVec 32) : IntOp.subi (IntOp.addi b r) (IntOp.addi (IntOp.subi b k) s) = IntOp.subi (IntOp.addi r k) s := by
  show b + r - (b - k + s) = r + k - s
  rw [BitVec.sub_eq_add_neg, BitVec.sub_eq_add_neg, BitVec.sub_eq_add_neg, BitVec.neg_add, BitVec.sub_eq_add_neg, BitVec.neg_add, BitVec.sub_eq_add_neg, BitVec.neg_neg,
    BitVec.add_comm b r, BitVec.add_assoc r b, ← BitVec.add_assoc b, ← BitVec.add_assoc b, BitVec.add_right_neg, BitVec.zero_add, ← BitVec.add_assoc]

theorem word_back : ∀ t : Fin 16,
    IntOp.muli (IntOp.subi (BitVec.ofNat 32 t.val) 1#32) 128#32 = IntOp.subi (IntOp.muli (BitVec.ofNat 32 t.val) 128#32) 128#32 := by
  decide +kernel

theorem gap_words : ∀ (r : Fin 128) (s : Fin 256),
    IntOp.andi (IntOp.cmpi .sge (IntOp.subi (IntOp.addi (BitVec.ofNat 32 r.val) 128#32) (BitVec.ofNat 32 s.val)) 0#32)
      (IntOp.cmpi .slt (IntOp.subi (IntOp.addi (BitVec.ofNat 32 r.val) 128#32) (BitVec.ofNat 32 s.val)) 128#32)
      = if r.val < s.val ∧ s.val ≤ r.val + 128 then 1#1 else 0#1 := by
  decide +kernel

theorem start_words : ∀ (t : Fin 16) (s : Fin 256),
    IntOp.cmpi .sge (IntOp.addi (IntOp.subi (IntOp.muli (BitVec.ofNat 32 t.val) 128#32) 128#32) (BitVec.ofNat 32 s.val)) 0#32
      = if 128 ≤ t.val * 128 + s.val then 1#1 else 0#1 := by
  decide +kernel

theorem ref_mask (t : Fin 16) (r : Fin 128) (s : Fin 256) : val_main_v120 (F := Ideal) (ix3 t r s) = if sees t r s then 1#1 else 0#1 := by
  pointwise [val_main_v120, val_main_v119, val_main_v118, val_main_v117, val_main_c_14, val_main_v116, val_main_v115, val_main_v114, val_main_c_13, val_main_v113, val_main_v112, val_main_c_12, val_main_v111, val_main_v110, val_main_v109, val_main_v108, val_main_v107, val_main_v106, val_main_v105, val_main_v104, val_main_v103, val_main_v102, val_main_c_11, val_main_v101, val_main_v100, val_main_c_10, val_main_v99, val_main_v98, val_main_v97, val_main_v96, val_main_v95, val_main_v94, val_main_v93, val_main_c_9, val_main_v92, val_main_v91]
  rw [word_back, word_gap, gap_words, start_words]
  by_cases a : 128 ≤ t.val * 128 + s.val <;> by_cases b : r.val < s.val ∧ s.val ≤ r.val + 128
  · rw [if_pos a, if_pos b, if_pos ⟨a, b⟩]; rfl
  · rw [if_pos a, if_neg b, if_neg (fun h => b h.2)]; rfl
  · rw [if_neg a, if_pos b, if_neg (fun h => a h.1)]; rfl
  · rw [if_neg a, if_neg b, if_neg (fun h => a h.1)]; rfl

theorem low_word : Ideal.ofBits .f32 0xFF800000#32 = ⊥ := by
  rfl

theorem pick_one (a b : EReal) : Scalar.select 1#1 a b = a := rfl
theorem pick_zero (a b : EReal) : Scalar.select 0#1 a b = b := rfl

/-- The reference's masked scores. -/
theorem ref_score (t : Fin 16) (g : Fin 2) (h : Fin 8) (r : Fin 128) (s : Fin 256) :
    val_main_v122 x0 (ix5 t g h r s) = Scalar.select (if sees t r s then 1#1 else 0#1)
      ((∑ d : Fin 64, val_main_v39 x0 (ix3 (row t r) ⟨g.val * 8 + h.val, by have := g.isLt; have := h.isLt; omega⟩ d) * val_main_v74 x0 (ix3 (krow t s) g d)) * Ideal.ofBits .f32 0x3E000000#32) ⊥ := by
  pointwise [val_main_v122, val_main_call2_v2, val_main_call2_v1, val_main_call2_v0, val_main_cst_15, val_main_v121, val_main_v90, val_main_v89, val_main_cst_8, val_main_v88, val_main_v87, val_main_v86]
  rw [ref_mask, show id (constant (F := Ideal) AttnFwdRefIdeal.S_ .f32 4286578688#32) ix0 = (⊥ : EReal) from low_word]
  by_cases a : sees t r s
  · rw [if_pos a, pick_one, pick_one]
    exact congrArg (· * _) (Finset.sum_congr rfl fun x _ => by rw [ref_kw, if_pos a.1, mul_comm]; rfl)
  · rw [if_neg a, pick_zero, pick_zero]

theorem ref_cat (t : Fin 16) (g : Fin 2) (h : Fin 8) (r : Fin 128) (x : Fin 257) :
    val_main_v126 x0 x1 (ix5 t g h r x) = if hx : x.val < 256 then val_main_v122 x0 (ix5 t g h r ⟨x.val, hx⟩)
      else x1 (ix1 ⟨g.val * 8 + h.val, by have := g.isLt; have := h.isLt; omega⟩) := by
  pointwise [val_main_v126, val_main_v125, val_main_v124, val_main_v123]

/-- The reference's probabilities. -/
theorem ref_soft (t : Fin 16) (g : Fin 2) (h : Fin 8) (r : Fin 128) (s : Fin 256) :
    val_main_v138 x0 x1 (ix5 t g h r s) = soft (fun k => val_main_v122 x0 (ix5 t g h r k)) (x1 (ix1 ⟨g.val * 8 + h.val, by have := g.isLt; have := h.isLt; omega⟩)) s := by
  pointwise [val_main_v138, val_main_v137, val_main_v136, val_main_v135, val_main_v134, val_main_cst_18, val_main_v133, val_main_v132, val_main_cst_17, val_main_v131, val_main_v130, val_main_v129, val_main_v128, val_main_v127, val_main_cst_16]
  have e1 (k : Fin 256) : val_main_v126 x0 x1 (ix5 t g h r k.castSucc) = val_main_v122 x0 (ix5 t g h r k) := by
    exact (ref_cat x0 x1 t g h r k.castSucc).trans (dif_pos k.isLt)
  have e2 : val_main_v126 x0 x1 (ix5 t g h r (Fin.last 256)) = x1 (ix1 ⟨g.val * 8 + h.val, by have := g.isLt; have := h.isLt; omega⟩) := by
    exact (ref_cat x0 x1 t g h r (Fin.last 256)).trans (dif_neg (by show ¬ 256 < 256; omega))
  have e3 : val_main_v126 x0 x1 (ix5 t g h r ⟨s.val, by omega⟩) = val_main_v122 x0 (ix5 t g h r s) := e1 s
  rw [fold_last, Fin.sum_univ_castSucc, e2, e3]
  simp only [e1]
  rfl

/-- Column `d` of head `h` of group `g`. -/
def lane (g : Fin 2) (h : Fin 8) (d : Fin 64) : Fin 1024 :=
  ⟨g.val * 512 + h.val * 64 + d.val, by have := g.isLt; have := h.isLt; have := d.isLt; omega⟩

/-- The reference's outputs, head by head. -/
theorem ref_out (t : Fin 16) (r : Fin 128) (g : Fin 2) (h : Fin 8) (d : Fin 64) :
    val_main_v141 x0 x1 (ix2 (row t r) (lane g h d)) = ∑ s : Fin 256, val_main_v138 x0 x1 (ix5 t g h r s) * val_main_v85 x0 (ix4 t s g d) := by
  pointwise [val_main_v141, val_main_v140, val_main_v139]
  have := g.isLt
  have := h.isLt
  have := d.isLt
  have eg (p) : (⟨(lane g h d).val / 512, p⟩ : Fin 2) = g := Fin.ext (by show (g.val * 512 + h.val * 64 + d.val) / 512 = g.val; omega)
  have eh (p) : (⟨(lane g h d).val / 64 % 8, p⟩ : Fin 8) = h := Fin.ext (by show (g.val * 512 + h.val * 64 + d.val) / 64 % 8 = h.val; omega)
  have ed (p) : (⟨(lane g h d).val % 64, p⟩ : Fin 64) = d := Fin.ext (by show (g.val * 512 + h.val * 64 + d.val) % 64 = d.val; omega)
  rw [row_div t r, row_mod t r, eg, eh, ed]
  exact Finset.sum_congr rfl fun s _ => mul_comm _ _

end Cert.AttnRef

end
-- ==== Proof.AttnHeads.lean ====
/-
  The forward attention, head by head: on one block of rows the kernel's masked scores, probabilities and outputs of
  each head are the reference's.
-/
module

public import proofs.«01_k».proof.Proof.Gen.AttnFwdIdeal.Skeleton
public import proofs.«01_k».proof.Proof.AttnRef
public import Idealize.ShloMosaic.Lib.Pipeline.ValueKit

@[expose] public section

set_option maxRecDepth 16384

noncomputable section

namespace Cert.AttnHeads

open Idealize.ShloMosaic Idealize.ShloMosaic.TcCoe Idealize.ShloMosaic.Tactic Idealize.SL.Sem
open Cert.AttnFwdIdeal Cert.AttnFwdIdeal.Gen
open Cert.AttnFwdRefIdeal.Read
open Cert.SgStage (row)
open Cert.AttnRef

/-! ## The stages of a head -/

/-- One head's query: the lanes of the other head of its pair are zero. -/
def half (M : IVec S128x128 1) (P : FVec Ideal S128x128 .bf16) : FVec Ideal S128x128 .bf16 :=
  select M P (broadcast S128x128 (Scalar.ofBits .bf16 0x0000#16))

/-- The masked scores of a head. -/
def score (A : IVec S128x256 1) (Q : FVec Ideal S128x128 .bf16) (K : FVec Ideal S256x128 .bf16) : FVec Ideal S128x256 .f32 :=
  select A (mulf (matmul dot_S128x128_S256x128_S128x256_1_1_0_0_n_n none Q K (constant S128x256 .f32 0x00000000#32)) (broadcast S128x256 (Scalar.ofBits .f32 0x3E000000#32)))
    (broadcast S128x256 (Named.named κ "mask" 0xF149F2CA#32))

/-- The greatest of a row's scores and the sink. -/
def top (S : FVec Ideal S128x256 .f32) (b : Elt Ideal .f32) : FVec Ideal S128x1 .f32 :=
  maximumf (shapeCast S128x1 (multiReduction .maximumf [1] S128 S 0xFF800000#32 reduces_S128x256_S128 (.inl rfl) rfl) shapeCasts_S128_S128x1) (broadcast S128x1 b)

/-- The exponentials of a row's scores. -/
def weight (S : FVec Ideal S128x256 .f32) (b : Elt Ideal .f32) : FVec Ideal S128x256 .f32 :=
  exp (subf S (broadcastTo S128x256 (top S b) broadcasts_S128x1_S128x256))

/-- The probabilities of a head. -/
def prob (S : FVec Ideal S128x256 .f32) (b : Elt Ideal .f32) : FVec Ideal S128x256 .bf16 :=
  truncf .bf16 (mulf (weight S b) (broadcastTo S128x256 (divf (broadcast S128x1 (Scalar.ofBits .f32 0x3F800000#32))
    (addf (shapeCast S128x1 (multiReduction .add [1] S128 (weight S b) 0x00000000#32 reduces_S128x256_S128 (.inl rfl) rfl) shapeCasts_S128_S128x1)
      (exp (subf (broadcast S128x1 b) (top S b))))) broadcasts_S128x1_S128x256)) bitsLt_bf16_f32

/-- The outputs of a pair of heads, side by side. -/
def pair (lo : IVec S128x128 1) (P0 P1 : FVec Ideal S128x256 .bf16) (W : FVec Ideal S256x128 .bf16) : FVec Ideal S128x128 .bf16 :=
  truncf .bf16 (select lo (matmul dot_S128x256_S256x128_S128x128_1_0_0_1_n_n none P0 W (constant S128x128 .f32 0x00000000#32))
    (matmul dot_S128x256_S256x128_S128x128_1_0_0_1_n_n none P1 W (constant S128x128 .f32 0x00000000#32))) bitsLt_bf16_f32

theorem half_apply (M : IVec S128x128 1) (P : FVec Ideal S128x128 .bf16) (r l : Fin 128) :
    half M P (ix2 r l) = Scalar.select (M (ix2 r l)) (P (ix2 r l)) 0 := by
  pointwise [half]

theorem prob_apply (S : FVec Ideal S128x256 .f32) (b : Elt Ideal .f32) (r : Fin 128) (s : Fin 256) :
    prob S b (ix2 r s) = soft (fun k => S (ix2 r k)) b s := by
  pointwise [prob, weight, top]
  rfl

theorem mask_named : (Named.named κ "mask" (0xF149F2CA#32 : BitVec (FTy.bits .f32)) : Ideal .f32) = (⊥ : EReal) :=
  IdealRules.named_const.ideal_named_scalar _ _ _ _ rfl

theorem score_apply (A : IVec S128x256 1) (Q : FVec Ideal S128x128 .bf16) (K : FVec Ideal S256x128 .bf16) (r : Fin 128) (s : Fin 256) :
    score A Q K (ix2 r s) = Scalar.select (A (ix2 r s)) ((∑ x : Fin 128, Q (ix2 r x) * K (ix2 s x)) * Ideal.ofBits .f32 0x3E000000#32) ⊥ := by
  pointwise [score]
  exact congrArg _ mask_named

theorem pair_apply (lo : IVec S128x128 1) (P0 P1 : FVec Ideal S128x256 .bf16) (W : FVec Ideal S256x128 .bf16) (r l : Fin 128) :
    pair lo P0 P1 W (ix2 r l) = Scalar.select (lo (ix2 r l)) (∑ x : Fin 256, P0 (ix2 r x) * W (ix2 x l)) (∑ x : Fin 256, P1 (ix2 r x) * W (ix2 x l)) := by
  pointwise [pair]

/-! ## Two heads side by side -/

/-- Lane `d` of head `e` of a pair. -/
def lane2 (e : Fin 2) (d : Fin 64) : Fin 128 := ⟨e.val * 64 + d.val, by have := e.isLt; have := d.isLt; omega⟩

theorem lane2_surj (l : Fin 128) : ∃ e d, l = lane2 e d :=
  ⟨⟨l.val / 64, by have := l.isLt; omega⟩, ⟨l.val % 64, by omega⟩, Fin.ext (by show l.val = l.val / 64 * 64 + l.val % 64; omega)⟩

theorem sum_lanes (f : Fin 128 → EReal) : ∑ l, f l = ∑ d : Fin 64, f (lane2 0 d) + ∑ d : Fin 64, f (lane2 1 d) := by
  refine (Fin.sum_univ_add (a := 64) (b := 64) f).trans ?_
  refine congrArg₂ (· + ·) (Finset.sum_congr rfl fun d _ => congrArg f (Fin.ext ?_)) (Finset.sum_congr rfl fun d _ => congrArg f (Fin.ext ?_))
  · show d.val = 0 * 64 + d.val
    omega
  · show 64 + d.val = 1 * 64 + d.val
    omega

/-- The place of head `e` of pair `q` in its group. -/
def hd (q : Fin 4) (e : Fin 2) : Fin 8 := ⟨q.val * 2 + e.val, by have := q.isLt; have := e.isLt; omega⟩

/-- The same head among all sixteen. -/
def hd16 (g : Fin 2) (h : Fin 8) : Fin 16 := ⟨g.val * 8 + h.val, by have := g.isLt; have := h.isLt; omega⟩

/-- The bit of a proposition. -/
abbrev bit (p : Prop) [Decidable p] : BitVec 1 := if p then 1#1 else 0#1

/-! ## A head against the reference -/

variable (t : Fin 16)
variable (x0 : (⟨Cert.AttnFwdRefIdeal.S2048x13568, .bf16⟩ : BufTy).Contents (Elt Ideal))
variable (x1 : (⟨Cert.AttnFwdRefIdeal.S16, .f32⟩ : BufTy).Contents (Elt Ideal))
variable (A : IVec S128x256 1) (hA : ∀ (r : Fin 128) (s : Fin 256), A (ix2 r s) = bit (sees t r s))
variable (lo hi : IVec S128x128 1)
variable (hlo : ∀ (r : Fin 128) (e : Fin 2) (d : Fin 64), lo (ix2 r (lane2 e d)) = bit (e = 0))
variable (hhi : ∀ (r : Fin 128) (e : Fin 2) (d : Fin 64), hi (ix2 r (lane2 e d)) = bit (e = 1))
variable (g : Fin 2) (q : Fin 4)
variable (P : FVec Ideal S128x128 .bf16)
variable (hP : ∀ (r : Fin 128) (e : Fin 2) (d : Fin 64), P (ix2 r (lane2 e d)) = val_main_v39 x0 (ix3 (row t r) (hd16 g (hd q e)) d))
variable (K W : FVec Ideal S256x128 .bf16)
variable (hK : ∀ (s : Fin 256) (e : Fin 2) (d : Fin 64), K (ix2 s (lane2 e d)) = val_main_v74 x0 (ix3 (krow t s) g d))
variable (hW : ∀ (s : Fin 256) (e : Fin 2) (d : Fin 64), W (ix2 s (lane2 e d)) = val_main_v75 x0 (ix3 (krow t s) g d))

include hP hK in
/-- A head's products run over its own lanes alone. -/
theorem dot_eq (M : IVec S128x128 1) (e : Fin 2) (hM : ∀ (r : Fin 128) (e' : Fin 2) (d : Fin 64), M (ix2 r (lane2 e' d)) = bit (e' = e)) (r : Fin 128) (s : Fin 256) :
    ∑ x : Fin 128, half M P (ix2 r x) * K (ix2 s x) = ∑ d : Fin 64, val_main_v39 x0 (ix3 (row t r) (hd16 g (hd q e)) d) * val_main_v74 x0 (ix3 (krow t s) g d) := by
  have on (d : Fin 64) : half M P (ix2 r (lane2 e d)) * K (ix2 s (lane2 e d)) = val_main_v39 x0 (ix3 (row t r) (hd16 g (hd q e)) d) * val_main_v74 x0 (ix3 (krow t s) g d) := by
    rw [half_apply, hM, bit, if_pos rfl, pick_one, hP, hK]
  have off (e' : Fin 2) (ne : ¬ e' = e) (d : Fin 64) : half M P (ix2 r (lane2 e' d)) * K (ix2 s (lane2 e' d)) = 0 := by
    rw [half_apply, hM, bit, if_neg ne, pick_zero]
    exact zero_mul (_ : EReal)
  rw [sum_lanes]
  match e, on, off with
  | 0, on, off => rw [Finset.sum_congr rfl fun d _ => on d, Finset.sum_congr rfl fun d _ => off 1 (by decide) d, Finset.sum_const_zero, add_zero]
  | 1, on, off => rw [Finset.sum_congr rfl fun d _ => on d, Finset.sum_congr rfl fun d _ => off 0 (by decide) d, Finset.sum_const_zero, zero_add]

include hA hP hK in
theorem score_eq (M : IVec S128x128 1) (e : Fin 2) (hM : ∀ (r : Fin 128) (e' : Fin 2) (d : Fin 64), M (ix2 r (lane2 e' d)) = bit (e' = e)) (r : Fin 128) (s : Fin 256) :
    score A (half M P) K (ix2 r s) = val_main_v122 x0 (ix5 t g (hd q e) r s) := by
  rw [score_apply, hA, dot_eq t x0 g q P hP K hK M e hM, ref_score]
  rfl

include hA hP hK in
theorem head_eq (M : IVec S128x128 1) (e : Fin 2) (hM : ∀ (r : Fin 128) (e' : Fin 2) (d : Fin 64), M (ix2 r (lane2 e' d)) = bit (e' = e))
    (b : Elt Ideal .f32) (hb : b = x1 (ix1 (hd16 g (hd q e)))) (r : Fin 128) (s : Fin 256) :
    prob (score A (half M P) K) b (ix2 r s) = val_main_v138 x0 x1 (ix5 t g (hd q e) r s) := by
  rw [prob_apply, ref_soft, hb]
  exact congrArg (fun S => soft S _ s) (funext fun k => score_eq t x0 A hA g q P hP K hK M e hM r k)

include hW in
/-- The products with the values, at lane `d` of head `e`. -/
theorem out_sum (e : Fin 2) (R : FVec Ideal S128x256 .bf16) (hR : ∀ (r : Fin 128) (s : Fin 256), R (ix2 r s) = val_main_v138 x0 x1 (ix5 t g (hd q e) r s))
    (r : Fin 128) (d : Fin 64) : ∑ s : Fin 256, R (ix2 r s) * W (ix2 s (lane2 e d)) = val_main_v141 x0 x1 (ix2 (row t r) (lane g (hd q e) d)) := by
  rw [ref_out]
  refine Finset.sum_congr rfl fun s _ => ?_
  rw [hR, hW, ref_vw]
  by_cases a : 128 ≤ t.val * 128 + s.val
  · rw [if_pos a]
  · rw [if_neg a, ref_soft, soft_masked _ _ _ (by rw [ref_score, if_neg (fun h : sees t r s => a h.1), pick_zero])]
    exact (zero_mul (_ : EReal)).trans (zero_mul (_ : EReal)).symm

include hA hlo hhi hP hK hW in
/-- The outputs of a pair of heads. -/
theorem pair_eq (b0 b1 : Elt Ideal .f32) (h0 : b0 = x1 (ix1 (hd16 g (hd q 0)))) (h1 : b1 = x1 (ix1 (hd16 g (hd q 1)))) (r : Fin 128) (e : Fin 2) (d : Fin 64) :
    pair lo (prob (score A (half lo P) K) b0) (prob (score A (half hi P) K) b1) W (ix2 r (lane2 e d)) = val_main_v141 x0 x1 (ix2 (row t r) (lane g (hd q e) d)) := by
  rw [pair_apply, hlo]
  match e with
  | 0 => rw [bit, if_pos rfl, pick_one]; exact out_sum t x0 x1 g q W hW 0 _ (fun r s => head_eq t x0 x1 A hA g q P hP K hK lo 0 hlo b0 h0 r s) r d
  | 1 => rw [bit, if_neg (by decide), pick_zero]; exact out_sum t x0 x1 g q W hW 1 _ (fun r s => head_eq t x0 x1 A hA g q P hP K hK hi 1 hhi b1 h1 r s) r d

/-! ## The body's masks and lanes -/

theorem within_words : ∀ (r : Fin 128) (s : Fin 256) (b : BitVec 1),
    IntOp.ori (IntOp.andi (IntOp.andi (IntOp.cmpi .slt (BitVec.ofNat 32 s.val) 128#32) (IntOp.cmpi .sgt (BitVec.ofNat 32 s.val) (BitVec.ofNat 32 r.val))) b)
      (IntOp.andi (IntOp.cmpi .sge (BitVec.ofNat 32 s.val) 128#32) (IntOp.cmpi .sle (IntOp.subi (BitVec.ofNat 32 s.val) 128#32) (BitVec.ofNat 32 r.val)))
      = bit (r.val < s.val ∧ s.val ≤ r.val + 128 ∧ (b = 1#1 ∨ 128 ≤ s.val)) := by
  have h : ∀ (b : Fin 2) (r : Fin 128) (s : Fin 256),
    IntOp.ori (IntOp.andi (IntOp.andi (IntOp.cmpi .slt (BitVec.ofNat 32 s.val) 128#32) (IntOp.cmpi .sgt (BitVec.ofNat 32 s.val) (BitVec.ofNat 32 r.val))) (BitVec.ofFin b))
      (IntOp.andi (IntOp.cmpi .sge (BitVec.ofNat 32 s.val) 128#32) (IntOp.cmpi .sle (IntOp.subi (BitVec.ofNat 32 s.val) 128#32) (BitVec.ofNat 32 r.val)))
      = bit (r.val < s.val ∧ s.val ≤ r.val + 128 ∧ (BitVec.ofFin b = 1#1 ∨ 128 ≤ s.val)) := by decide +kernel
  exact fun r s b => h b.toFin r s

theorem first_word : ∀ t : Fin 16, Scalar.cmpi .sgt (BitVec.ofNat 32 t.val) 0#32 = bit (0 < t.val) := by
  decide +kernel

theorem mask_apply (r : Fin 128) (s : Fin 256) : k0_pay7 (BitVec.ofNat 32 t.val) (ix2 r s) = bit (sees t r s) := by
  pointwise [k0_pay7]
  rw [within_words, first_word]
  have e : (r.val < s.val ∧ s.val ≤ r.val + 128 ∧ (bit (0 < t.val) = 1#1 ∨ 128 ≤ s.val)) ↔ sees t r s := by
    unfold sees bit
    by_cases a : 0 < t.val
    · rw [if_pos a]
      constructor
      · rintro ⟨x, y, z⟩
        exact ⟨by omega, x, y⟩
      · rintro ⟨x, y, z⟩
        exact ⟨y, z, Or.inl rfl⟩
    · rw [if_neg a]
      constructor
      · rintro ⟨x, y, z⟩
        rcases z with z | z
        · exact absurd z (by decide)
        · exact ⟨by omega, x, y⟩
      · rintro ⟨x, y, z⟩
        exact ⟨y, z, Or.inr (by omega)⟩
  exact if_congr e rfl rfl

theorem lo_apply (r : Fin 128) (e : Fin 2) (d : Fin 64) : k0_pay16 (iota Kind.tc S128x128 32 [1] iota_S128x128_d1_w32) 128#32 (ix2 r (lane2 e d)) = bit (e = 0) := by
  pointwise [k0_pay16]
  revert e d
  decide +kernel

/-- The lanes of a key or value row, the second head's first. -/
theorem rolled_val : ∀ (e : Fin 2) (d : Fin 64), ((lane2 e d).val + 128 - 64) % 128 = (lane2 (1 - e) d).val := by
  decide +kernel

theorem rolled (e : Fin 2) (d : Fin 64) (p) : (⟨((lane2 e d).val + 128 - 64) % 128, p⟩ : Fin 128) = lane2 (1 - e) d :=
  Fin.ext (rolled_val e d)

theorem k0_apply (X Y : FVec Ideal S256x128 .bf16) (s : Fin 256) (e : Fin 2) (d : Fin 64) :
    k0_pay10 X Y (iota Kind.tc S256x128 32 [1] iota_S256x128_d1_w32) 128#32 0#1 (ix2 s (lane2 e d)) = Scalar.select (bit (e = 0)) (X (ix2 s (lane2 e d))) (Y (ix2 s (lane2 e d))) := by
  pointwise [k0_pay10, k0_pay9]
  refine congrArg (fun w => Scalar.select w _ _) ?_
  revert e d
  decide +kernel

theorem k1_apply (X Y : FVec Ideal S256x128 .bf16) (s : Fin 256) (e : Fin 2) (d : Fin 64) :
    k0_pay11 X Y (iota Kind.tc S256x128 32 [1] iota_S256x128_d1_w32) 128#32 0#1 (ix2 s (lane2 e d)) = Scalar.select (bit (e = 0)) (Y (ix2 s (lane2 e d))) (X (ix2 s (lane2 e d))) := by
  pointwise [k0_pay11, k0_pay9]
  refine congrArg (fun w => Scalar.select w _ _) ?_
  revert e d
  decide +kernel

theorem v0_apply (X : FVec Ideal S256x128 .bf16) (s : Fin 256) (e : Fin 2) (d : Fin 64) :
    k0_pay14 X (ix2 s (lane2 e d)) = X (ix2 s (lane2 0 d)) := by
  pointwise [k0_pay14, k0_pay13, k0_pay12]
  refine (congrArg₂ (fun w l => Scalar.select w (X (ix2 s (lane2 e d))) (X (ix2 s l))) (?_ : _ = bit (e = 0)) (rolled e d _)).trans ?_
  · revert e d
    decide +kernel
  · match e with
    | 0 => rfl
    | 1 => rfl

theorem v1_apply (X : FVec Ideal S256x128 .bf16) (s : Fin 256) (e : Fin 2) (d : Fin 64) :
    k0_pay15 X (ix2 s (lane2 e d)) = X (ix2 s (lane2 1 d)) := by
  pointwise [k0_pay15, k0_pay13, k0_pay12]
  refine (congrArg₂ (fun w l => Scalar.select w (X (ix2 s l)) (X (ix2 s (lane2 e d)))) (?_ : _ = bit (e = 0)) (rolled e d _)).trans ?_
  · revert e d
    decide +kernel
  · match e with
    | 0 => rfl
    | 1 => rfl

end Cert.AttnHeads

end
-- ==== Proof.AttnTabs.lean ====
/-
  The forward attention's tables: the cosines, sines and the exchange of the two halves of the turned lanes, which the
  host computes once; with them a row of queries or keys is turned by its position.
-/
module

public import proofs.«01_k».proof.Proof.Gen.AttnFwdIdeal.Value
public import proofs.«01_k».proof.Proof.AttnHeads
public import Idealize.ShloMosaic.Lib.Pipeline.ValueKit
public import Idealize.ShloMosaic.Lib.StableHlo.ReadAt

@[expose] public section

set_option maxRecDepth 16384

noncomputable section

namespace Cert.AttnTabs

open Idealize.ShloMosaic Idealize.ShloMosaic.TcCoe Idealize.ShloMosaic.Tactic Idealize.SL.Sem
open Idealize.ShloMosaic.Pipeline (Dat)
open Idealize.ShloMosaic.StableHlo
open Cert.AttnFwdIdeal Cert.AttnFwdIdeal.Gen
open Cert.AttnRef
open Cert.AttnHeads (bit lane2)

/-- Lanes `k` and `l` are exchanged before the sines multiply them. -/
abbrev swaps (k l : Nat) : Prop := l / 64 = k / 64 ∧ ((l % 64 < 8 ∧ k % 64 = l % 64 + 8) ∨ (8 ≤ l % 64 ∧ l % 64 < 16 ∧ k % 64 + 8 = l % 64))

/-- The cosines and the signed sines of lane `d` at position `i`. -/
def ctab (i d : Nat) : EReal := if d < 8 then Ideal.cos (ang i d) else if d - 8 < 8 then Ideal.cos (ang i (d - 8)) else 1
def stab (i d : Nat) : EReal := if d < 8 then -Ideal.sin (ang i d) else if d - 8 < 8 then Ideal.sin (ang i (d - 8)) else 0

theorem bit_val (p : Prop) [Decidable p] : FloatOps.uitofp (F := Ideal) .f32 (bit p) = if p then (1 : EReal) else 0 := by
  by_cases h : p
  · rw [bit, if_pos h, if_pos h]
    show (((1#1 : BitVec 1).toNat : ℝ) : EReal) = 1
    simp
  · rw [bit, if_neg h, if_neg h]
    show (((0#1 : BitVec 1).toNat : ℝ) : EReal) = 0
    simp

variable (m : (ℓ : Loc nD τ sig) → Buf (Elt Ideal) ℓ)

theorem same_head : ∀ k l : Fin 128,
    IntOp.cmpi .eq (IntOp.addi (BitVec.ofNat 32 (k.val / 64)) 0#32) (BitVec.ofNat 32 (l.val / 64)) = bit (l.val / 64 = k.val / 64) := by
  decide +kernel

theorem other_half : ∀ k l : Fin 64,
    IntOp.ori (IntOp.andi (IntOp.cmpi .slt (BitVec.ofNat 32 l.val) 8#32) (IntOp.cmpi .eq (BitVec.ofNat 32 k.val) (IntOp.addi (BitVec.ofNat 32 l.val) 8#32)))
      (IntOp.andi (IntOp.andi (IntOp.cmpi .sge (BitVec.ofNat 32 l.val) 8#32) (IntOp.cmpi .slt (BitVec.ofNat 32 l.val) 16#32)) (IntOp.cmpi .eq (BitVec.ofNat 32 k.val) (IntOp.subi (BitVec.ofNat 32 l.val) 8#32)))
      = bit ((l.val < 8 ∧ k.val = l.val + 8) ∨ (8 ≤ l.val ∧ l.val < 16 ∧ k.val + 8 = l.val)) := by
  decide +kernel

theorem tab_swap (c : Dev nD) (k l : Fin 128) : V m c main_v58 (ix2 k l) = if swaps k.val l.val then (1 : EReal) else 0 := by
  unfold V
  simp only [List.flatten_cons, List.flatten_nil, List.append_nil, List.cons_append, List.nil_append]
  after_reads_at
  refine (congrArg₂ (fun u v => FloatOps.uitofp (F := Ideal) .f32 u * FloatOps.uitofp (F := Ideal) .f32 v) (same_head k l)
    (other_half ⟨k.val % 64, by omega⟩ ⟨l.val % 64, by omega⟩)).trans ?_
  simp only [bit_val]
  by_cases a : l.val / 64 = k.val / 64
  · by_cases b : (l.val % 64 < 8 ∧ k.val % 64 = l.val % 64 + 8) ∨ (8 ≤ l.val % 64 ∧ l.val % 64 < 16 ∧ k.val % 64 + 8 = l.val % 64)
    · rw [if_pos a, if_pos b, if_pos ⟨a, b⟩, one_mul]
    · rw [if_pos a, if_neg b, if_neg (fun h : swaps k.val l.val => b h.2), mul_zero]
  · rw [if_neg a, if_neg (fun h : swaps k.val l.val => a h.1), zero_mul]

theorem tab_cos (c : Dev nD) (r : Fin 2048) (l : Fin 128) : V m c main_v61 (ix2 r l) = ctab r.val (l.val % 64) := by
  unfold V
  simp only [List.flatten_cons, List.flatten_nil, List.append_nil, List.cons_append, List.nil_append]
  after_reads_at
  after_reads_at
  rfl

theorem tab_sin (c : Dev nD) (r : Fin 2048) (l : Fin 128) : V m c main_v64 (ix2 r l) = stab r.val (l.val % 64) := by
  unfold V
  simp only [List.flatten_cons, List.flatten_nil, List.append_nil, List.cons_append, List.nil_append]
  after_reads_at
  after_reads_at
  rfl

/-! ## Turning with the tables -/

theorem swap_sum (T P : Fin 128 → EReal) (e : Fin 2) (d : Fin 64) (hP : ∀ k : Fin 128, P k = if swaps k.val (lane2 e d).val then (1 : EReal) else 0)
    (d' : Fin 64) (h : (d.val < 8 ∧ d'.val = d.val + 8) ∨ (8 ≤ d.val ∧ d.val < 16 ∧ d'.val + 8 = d.val)) :
    ∑ k, T k * P k = T (lane2 e d') := by
  have hl : (lane2 e d).val = e.val * 64 + d.val := rfl
  have hl' : (lane2 e d').val = e.val * 64 + d'.val := rfl
  have := d.isLt
  have := d'.isLt
  have := e.isLt
  rw [Finset.sum_eq_single (lane2 e d')]
  · rw [hP, if_pos, mul_one]
    rw [hl, hl']
    unfold swaps
    omega
  · intro k _ ne
    rw [hP, if_neg, mul_zero]
    intro hk
    apply ne
    apply Fin.ext
    rw [hl']
    rw [hl] at hk
    unfold swaps at hk
    omega
  · intro h
    exact absurd (Finset.mem_univ _) h

theorem rope (i : Nat) (T : Fin 128 → EReal) (U : Nat → EReal) (e : Fin 2) (hT : ∀ d : Fin 64, T (lane2 e d) = U d.val) (d : Fin 64) (P : Fin 128 → EReal)
    (hP : ∀ k : Fin 128, P k = if swaps k.val (lane2 e d).val then (1 : EReal) else 0) (C S : EReal)
    (hC : C = ctab i ((lane2 e d).val % 64)) (hS : S = stab i ((lane2 e d).val % 64)) :
    T (lane2 e d) * C + (∑ k, T k * P k) * S = turn i U d.val := by
  have hd := d.isLt
  have hm : (lane2 e d).val % 64 = d.val := by
    show (e.val * 64 + d.val) % 64 = d.val
    omega
  rw [hm] at hC hS
  unfold turn
  by_cases a : d.val < 8
  · rw [if_pos a, swap_sum T P e d hP ⟨8 + d.val, by omega⟩ (Or.inl ⟨a, by show 8 + d.val = d.val + 8; omega⟩), hT, hT, hC, hS, ctab, stab, if_pos a, if_pos a, mul_neg, ← sub_eq_add_neg]
  · rw [if_neg a]
    by_cases b : d.val < 16
    · have b' : d.val - 8 < 8 := by omega
      rw [if_pos b, swap_sum T P e d hP ⟨d.val - 8, by omega⟩ (Or.inr ⟨by omega, b, by show d.val - 8 + 8 = d.val; omega⟩), hT, hT, hC, hS, ctab, stab, if_neg a, if_neg a, if_pos b', if_pos b']
    · have b' : ¬ d.val - 8 < 8 := by omega
      rw [if_neg b, hC, hS, ctab, stab, if_neg a, if_neg a, if_neg b', if_neg b', mul_one, mul_zero, add_zero, hT]

end Cert.AttnTabs

end
-- ==== Proof.AttnBlock.lean ====
/-
  The forward attention, one block of rows: what the kernel reads at each point, and the turned queries, turned keys
  and values it forms of them.
-/
module

public import proofs.«01_k».proof.Proof.AttnTabs

@[expose] public section

set_option maxRecDepth 16384

noncomputable section

namespace Cert.AttnBlock

open Idealize.ShloMosaic Idealize.ShloMosaic.TcCoe Idealize.ShloMosaic.Tactic Idealize.SL.Sem
open Idealize.ShloMosaic.Pipeline (Dat)
open Cert.AttnFwdIdeal Cert.AttnFwdIdeal.Gen
open Cert.AttnFwdRefIdeal.Read
open Cert.SgStage (row col)
open Cert.AttnRef Cert.AttnHeads Cert.AttnTabs

/-! ## Eight pieces side by side, and their parts -/

theorem cuts : ∀ p : Fin 8, S128x1024.Slices ![0, p.val * 128] S128x128
  | 0 => slices_S128x1024_o0_0_S128x128
  | 1 => slices_S128x1024_o0_128_S128x128
  | 2 => slices_S128x1024_o0_256_S128x128
  | 3 => slices_S128x1024_o0_384_S128x128
  | 4 => slices_S128x1024_o0_512_S128x128
  | 5 => slices_S128x1024_o0_640_S128x128
  | 6 => slices_S128x1024_o0_768_S128x128
  | 7 => slices_S128x1024_o0_896_S128x128

/-- The columns of pair `p`. -/
def cut (p : Fin 8) (X : FVec Ideal S128x1024 .bf16) : FVec Ideal S128x128 .bf16 :=
  extractStridedSlice S128x128 ![0, p.val * 128] X (cuts p)

theorem cut_apply (p : Fin 8) (X : FVec Ideal S128x1024 .bf16) (r l : Fin 128) : cut p X (ix2 r l) = X (ix2 r (col p l)) := by
  unfold cut
  refine extractStridedSlice_apply _ X (cuts p) (ix2 r l) (ix2 r (col p l)) fun a => ?_
  match a with
  | ⟨0, _⟩ => show r.val = 0 + r.val; omega
  | ⟨1, _⟩ => show p.val * 128 + l.val = p.val * 128 + l.val; rfl

/-- A square times a square. -/
def times (X Y : FVec Ideal S128x128 .bf16) : FVec Ideal S128x128 .f32 :=
  matmul dot_S128x128_S128x128_S128x128_1_0_0_1_n_n none X Y (constant S128x128 .f32 0x00000000#32)

theorem times_apply (X Y : FVec Ideal S128x128 .bf16) (r l : Fin 128) : times X Y (ix2 r l) = ∑ x : Fin 128, X (ix2 r x) * Y (ix2 x l) := by
  pointwise [times]

/-- Eight squares side by side. -/
def beside (A : Fin 8 → Vec Ideal S128x128 .f32) : FVec Ideal S128x1024 .f32 :=
  concatenate S128x1024 1 [⟨S128x128, A 0⟩, ⟨S128x128, A 1⟩, ⟨S128x128, A 2⟩, ⟨S128x128, A 3⟩, ⟨S128x128, A 4⟩, ⟨S128x128, A 5⟩, ⟨S128x128, A 6⟩, ⟨S128x128, A 7⟩]
    concatenates_S128x128_S128x128_S128x128_S128x128_S128x128_S128x128_S128x128_S128x128_S128x1024_d1

theorem beside_apply (A : Fin 8 → Vec Ideal S128x128 .f32) (r : Fin 128) (p : Fin 8) (l : Fin 128) : beside A (ix2 r (col p l)) = A p (ix2 r l) :=
  Cert.SgStage.concat8 A _ r p l

theorem query_def (v0 : Vec Ideal S128x128 .bf16) (v2 : Vec Ideal S128x1024 .bf16) (v4 v6 : Vec Ideal S128x128 .f32) :
    k0_pay2 v0 v2 v4 v6 = truncf .bf16 (addf (mulf (extf .f32 v2 bitsLt_bf16_f32) (beside fun _ => shapeCast S128x128 v4 shapeCasts_S128x128_S128x128))
      (mulf (beside fun p => times (cut p (truncf .bf16 (extf .f32 v2 bitsLt_bf16_f32) bitsLt_bf16_f32)) (k0_pay1 v0)) (beside fun _ => shapeCast S128x128 v6 shapeCasts_S128x128_S128x128))) bitsLt_bf16_f32 := rfl

/-- The turned queries of a block. -/
theorem query_apply (v0 : Vec Ideal S128x128 .bf16) (v2 : Vec Ideal S128x1024 .bf16) (v4 v6 : Vec Ideal S128x128 .f32) (r : Fin 128) (p : Fin 8) (l : Fin 128) :
    k0_pay2 v0 v2 v4 v6 (ix2 r (col p l)) = v2 (ix2 r (col p l)) * v4 (ix2 r l) + (∑ x : Fin 128, v2 (ix2 r (col p x)) * v0 (ix2 x l)) * v6 (ix2 r l) := by
  rw [query_def]
  have e4 : beside (fun _ => shapeCast S128x128 v4 shapeCasts_S128x128_S128x128) (ix2 r (col p l)) = v4 (ix2 r l) := by
    rw [beside_apply]
    pointwise
  have e6 : beside (fun _ => shapeCast S128x128 v6 shapeCasts_S128x128_S128x128) (ix2 r (col p l)) = v6 (ix2 r l) := by
    rw [beside_apply]
    pointwise
  have e0 : beside (fun p => times (cut p (truncf .bf16 (extf .f32 v2 bitsLt_bf16_f32) bitsLt_bf16_f32)) (k0_pay1 v0)) (ix2 r (col p l)) = ∑ x : Fin 128, v2 (ix2 r (col p x)) * v0 (ix2 x l) := by
    rw [beside_apply, times_apply]
    refine Finset.sum_congr rfl fun x _ => congrArg₂ (· * ·) ?_ ?_
    · rw [cut_apply]
      rfl
    · pointwise [k0_pay1]
  exact congrArg₂ (· + ·) (congrArg (v2 (ix2 r (col p l)) * ·) e4) (congrArg₂ (· * ·) e0 e6)

/-! ## What the kernel reads at each point -/

variable (m : (ℓ : Loc nD τ sig) → Buf (Elt Ideal) ℓ)

/-- A grid point as the number of its block of rows. -/
def pt (t : Fin cfg0.N) : Fin 16 := ⟨t.val, lt_of_lt_of_eq t.isLt N_0⟩

/-- A row of the block before; before the first block, a row of the first block. -/
def prow (t : Fin 16) (r : Fin 128) : Fin 2048 := ⟨(t.val - 1) * 128 + r.val, by have := t.isLt; have := r.isLt; omega⟩

theorem krow_prev (t : Fin 16) (s : Fin 256) (h : s.val < 128) : prow t ⟨s.val, h⟩ = krow t s := by
  apply Fin.ext
  show (t.val - 1) * 128 + s.val = if 128 ≤ t.val * 128 + s.val then t.val * 128 + s.val - 128 else s.val
  split <;> omega

theorem krow_cur (t : Fin 16) (s : Fin 256) (h : ¬ s.val < 128) (p) : row t ⟨s.val - 128, p⟩ = krow t s := by
  apply Fin.ext
  show t.val * 128 + (s.val - 128) = if 128 ≤ t.val * 128 + s.val then t.val * 128 + s.val - 128 else s.val
  rw [if_pos (show 128 ≤ t.val * 128 + s.val by omega)]
  omega

theorem at_arg : ∀ t : Fin cfg0.N, win0_0.index t = ![t.val, 5] ∧ win0_1.index t = ![t.val, 24] ∧ win0_2.index t = ![t.val - 1, 24] ∧ win0_3.index t = ![t.val, 25] ∧ win0_4.index t = ![t.val, 26] ∧ win0_5.index t = ![t.val, 27] ∧ win0_6.index t = ![t.val, 28] :=
  (by decide +kernel : ∀ t : Fin grid0.N, win0_0.index t = ![t.val, 5] ∧ win0_1.index t = ![t.val, 24] ∧ win0_2.index t = ![t.val - 1, 24] ∧ win0_3.index t = ![t.val, 25] ∧ win0_4.index t = ![t.val, 26] ∧ win0_5.index t = ![t.val, 27] ∧ win0_6.index t = ![t.val, 28])
theorem at_tab : ∀ t : Fin cfg0.N, win0_7.index t = ![t.val, 0] ∧ win0_8.index t = ![t.val, 0] ∧ win0_9.index t = ![t.val - 1, 0] ∧ win0_10.index t = ![t.val - 1, 0] ∧ win0_11.index t = ![0, 0] ∧ win0_12.index t = ![0] ∧ win0_13.index t = ![t.val, 0] ∧ win0_14.index t = ![t.val, 0] :=
  (by decide +kernel : ∀ t : Fin grid0.N, win0_7.index t = ![t.val, 0] ∧ win0_8.index t = ![t.val, 0] ∧ win0_9.index t = ![t.val - 1, 0] ∧ win0_10.index t = ![t.val - 1, 0] ∧ win0_11.index t = ![0, 0] ∧ win0_12.index t = ![0] ∧ win0_13.index t = ![t.val, 0] ∧ win0_14.index t = ![t.val, 0])
theorem coord : ∀ t : Fin cfg0.N, (grid0.coords t 0).val = t.val :=
  (by decide +kernel : ∀ t : Fin grid0.N, (grid0.coords t 0).val = t.val)

/-- The projection and the sinks. -/
abbrev arg0 (c : Dev nD) : (⟨Cert.AttnFwdRefIdeal.S2048x13568, .bf16⟩ : BufTy).Contents (Elt Ideal) := m ((c : Thread nD τ).loc main_arg0)
abbrev arg1 (c : Dev nD) : (⟨Cert.AttnFwdRefIdeal.S16, .f32⟩ : BufTy).Contents (Elt Ideal) := m ((c : Thread nD τ).loc main_arg1)

theorem arg0_at (c : Dev nD) (i : S2048x13568.Idx) (r : Fin 2048) (n : Nat) (h0 : (i 0).val = r.val) (h1 : (i 1).val = n) :
    V m c main_arg0 i = rd (arg0 m c) r n := by
  rw [V_main_arg0]
  have hn : n < 13568 := by rw [← h1]; exact (i 1).isLt
  unfold rd
  rw [dif_pos hn]
  congr 1
  funext a
  apply Fin.ext
  match a with
  | ⟨0, _⟩ => exact h0
  | ⟨1, _⟩ => exact h1

theorem read_q (c : Dev nD) (t : Fin cfg0.N) (r : Fin 128) (k : Fin 1024) :
    X0_0 m c t (ix2 r k) = rd (arg0 m c) (row (pt t) r) (5120 + k.val) := by
  unfold X0_0 Pipeline.Window.fill
  rw [dif_pos (moved0_0 t _)]
  unfold iblk
  rw [View.read_apply]
  refine arg0_at m c _ _ _ ?_ ?_
  · show win0_0.index t 0 * 128 + 1 * r.val = t.val * 128 + r.val
    rw [(at_arg t).1]
    show t.val * 128 + 1 * r.val = t.val * 128 + r.val
    omega
  · show win0_0.index t 1 * 1024 + 1 * k.val = 5120 + k.val
    rw [(at_arg t).1]
    show 5 * 1024 + 1 * k.val = 5120 + k.val
    omega

theorem read_cur (c : Dev nD) (t : Fin cfg0.N) (r : Fin 128) (k : Fin 256) :
    (iblk m c 1 t : Vec Ideal S128x256 .bf16) (ix2 r k) = rd (arg0 m c) (row (pt t) r) (6144 + k.val) := by
  unfold iblk
  rw [View.read_apply]
  refine arg0_at m c _ _ _ ?_ ?_
  · show win0_1.index t 0 * 128 + 1 * r.val = t.val * 128 + r.val
    rw [(at_arg t).2.1]
    show t.val * 128 + 1 * r.val = t.val * 128 + r.val
    omega
  · show win0_1.index t 1 * 256 + 1 * k.val = 6144 + k.val
    rw [(at_arg t).2.1]
    show 24 * 256 + 1 * k.val = 6144 + k.val
    omega

theorem read_prev (c : Dev nD) (t : Fin cfg0.N) (r : Fin 128) (k : Fin 256) :
    (iblk m c 2 t : Vec Ideal S128x256 .bf16) (ix2 r k) = rd (arg0 m c) (prow (pt t) r) (6144 + k.val) := by
  unfold iblk
  rw [View.read_apply]
  refine arg0_at m c _ _ _ ?_ ?_
  · show win0_2.index t 0 * 128 + 1 * r.val = (t.val - 1) * 128 + r.val
    rw [(at_arg t).2.2.1]
    show (t.val - 1) * 128 + 1 * r.val = (t.val - 1) * 128 + r.val
    omega
  · show win0_2.index t 1 * 256 + 1 * k.val = 6144 + k.val
    rw [(at_arg t).2.2.1]
    show 24 * 256 + 1 * k.val = 6144 + k.val
    omega

theorem read_z0 (c : Dev nD) (t : Fin cfg0.N) (r : Fin 128) (k : Fin 256) :
    (iblk m c 3 t : Vec Ideal S128x256 .bf16) (ix2 r k) = rd (arg0 m c) (row (pt t) r) (6400 + k.val) := by
  unfold iblk
  rw [View.read_apply]
  refine arg0_at m c _ _ _ ?_ ?_
  · show win0_3.index t 0 * 128 + 1 * r.val = t.val * 128 + r.val
    rw [(at_arg t).2.2.2.1]
    show t.val * 128 + 1 * r.val = t.val * 128 + r.val
    omega
  · show win0_3.index t 1 * 256 + 1 * k.val = 6400 + k.val
    rw [(at_arg t).2.2.2.1]
    show 25 * 256 + 1 * k.val = 6400 + k.val
    omega

theorem read_z1 (c : Dev nD) (t : Fin cfg0.N) (r : Fin 128) (k : Fin 256) :
    (iblk m c 4 t : Vec Ideal S128x256 .bf16) (ix2 r k) = rd (arg0 m c) (row (pt t) r) (6656 + k.val) := by
  unfold iblk
  rw [View.read_apply]
  refine arg0_at m c _ _ _ ?_ ?_
  · show win0_4.index t 0 * 128 + 1 * r.val = t.val * 128 + r.val
    rw [(at_arg t).2.2.2.2.1]
    show t.val * 128 + 1 * r.val = t.val * 128 + r.val
    omega
  · show win0_4.index t 1 * 256 + 1 * k.val = 6656 + k.val
    rw [(at_arg t).2.2.2.2.1]
    show 26 * 256 + 1 * k.val = 6656 + k.val
    omega

theorem read_z2 (c : Dev nD) (t : Fin cfg0.N) (r : Fin 128) (k : Fin 256) :
    (iblk m c 5 t : Vec Ideal S128x256 .bf16) (ix2 r k) = rd (arg0 m c) (row (pt t) r) (6912 + k.val) := by
  unfold iblk
  rw [View.read_apply]
  refine arg0_at m c _ _ _ ?_ ?_
  · show win0_5.index t 0 * 128 + 1 * r.val = t.val * 128 + r.val
    rw [(at_arg t).2.2.2.2.2.1]
    show t.val * 128 + 1 * r.val = t.val * 128 + r.val
    omega
  · show win0_5.index t 1 * 256 + 1 * k.val = 6912 + k.val
    rw [(at_arg t).2.2.2.2.2.1]
    show 27 * 256 + 1 * k.val = 6912 + k.val
    omega

theorem read_z3 (c : Dev nD) (t : Fin cfg0.N) (r : Fin 128) (k : Fin 256) :
    (iblk m c 6 t : Vec Ideal S128x256 .bf16) (ix2 r k) = rd (arg0 m c) (row (pt t) r) (7168 + k.val) := by
  unfold iblk
  rw [View.read_apply]
  refine arg0_at m c _ _ _ ?_ ?_
  · show win0_6.index t 0 * 128 + 1 * r.val = t.val * 128 + r.val
    rw [(at_arg t).2.2.2.2.2.2]
    show t.val * 128 + 1 * r.val = t.val * 128 + r.val
    omega
  · show win0_6.index t 1 * 256 + 1 * k.val = 7168 + k.val
    rw [(at_arg t).2.2.2.2.2.2]
    show 28 * 256 + 1 * k.val = 7168 + k.val
    omega

theorem read_cos (c : Dev nD) (t : Fin cfg0.N) (r l : Fin 128) :
    (iblk m c 7 t : Vec Ideal S128x128 .f32) (ix2 r l) = ctab (row (pt t) r).val (l.val % 64) := by
  unfold iblk
  rw [View.read_apply]
  refine Eq.trans (congrArg (V m c main_v61) (?_ : _ = ix2 (row (pt t) r) l)) (tab_cos m c _ l)
  funext a
  apply Fin.ext
  match a with
  | ⟨0, _⟩ => show win0_7.index t 0 * 128 + 1 * r.val = t.val * 128 + r.val; rw [(at_tab t).1]; show t.val * 128 + 1 * r.val = t.val * 128 + r.val; omega
  | ⟨1, _⟩ => show win0_7.index t 1 * 128 + 1 * l.val = l.val; rw [(at_tab t).1]; show 0 * 128 + 1 * l.val = l.val; omega

theorem read_sin (c : Dev nD) (t : Fin cfg0.N) (r l : Fin 128) :
    (iblk m c 8 t : Vec Ideal S128x128 .f32) (ix2 r l) = stab (row (pt t) r).val (l.val % 64) := by
  unfold iblk
  rw [View.read_apply]
  refine Eq.trans (congrArg (V m c main_v64) (?_ : _ = ix2 (row (pt t) r) l)) (tab_sin m c _ l)
  funext a
  apply Fin.ext
  match a with
  | ⟨0, _⟩ => show win0_8.index t 0 * 128 + 1 * r.val = t.val * 128 + r.val; rw [(at_tab t).2.1]; show t.val * 128 + 1 * r.val = t.val * 128 + r.val; omega
  | ⟨1, _⟩ => show win0_8.index t 1 * 128 + 1 * l.val = l.val; rw [(at_tab t).2.1]; show 0 * 128 + 1 * l.val = l.val; omega

theorem read_pcos (c : Dev nD) (t : Fin cfg0.N) (r l : Fin 128) :
    (iblk m c 9 t : Vec Ideal S128x128 .f32) (ix2 r l) = ctab (prow (pt t) r).val (l.val % 64) := by
  unfold iblk
  rw [View.read_apply]
  refine Eq.trans (congrArg (V m c main_v61) (?_ : _ = ix2 (prow (pt t) r) l)) (tab_cos m c _ l)
  funext a
  apply Fin.ext
  match a with
  | ⟨0, _⟩ => show win0_9.index t 0 * 128 + 1 * r.val = (t.val - 1) * 128 + r.val; rw [(at_tab t).2.2.1]; show (t.val - 1) * 128 + 1 * r.val = (t.val - 1) * 128 + r.val; omega
  | ⟨1, _⟩ => show win0_9.index t 1 * 128 + 1 * l.val = l.val; rw [(at_tab t).2.2.1]; show 0 * 128 + 1 * l.val = l.val; omega

theorem read_psin (c : Dev nD) (t : Fin cfg0.N) (r l : Fin 128) :
    (iblk m c 10 t : Vec Ideal S128x128 .f32) (ix2 r l) = stab (prow (pt t) r).val (l.val % 64) := by
  unfold iblk
  rw [View.read_apply]
  refine Eq.trans (congrArg (V m c main_v64) (?_ : _ = ix2 (prow (pt t) r) l)) (tab_sin m c _ l)
  funext a
  apply Fin.ext
  match a with
  | ⟨0, _⟩ => show win0_10.index t 0 * 128 + 1 * r.val = (t.val - 1) * 128 + r.val; rw [(at_tab t).2.2.2.1]; show (t.val - 1) * 128 + 1 * r.val = (t.val - 1) * 128 + r.val; omega
  | ⟨1, _⟩ => show win0_10.index t 1 * 128 + 1 * l.val = l.val; rw [(at_tab t).2.2.2.1]; show 0 * 128 + 1 * l.val = l.val; omega

theorem read_swap (c : Dev nD) (t : Fin cfg0.N) (r l : Fin 128) :
    (iblk m c 11 t : Vec Ideal S128x128 .bf16) (ix2 r l) = if swaps r.val l.val then (1 : EReal) else 0 := by
  unfold iblk
  rw [View.read_apply]
  refine Eq.trans (congrArg (V m c main_v58) (?_ : _ = ix2 r l)) (tab_swap m c r l)
  funext a
  apply Fin.ext
  match a with
  | ⟨0, _⟩ => show win0_11.index t 0 * 128 + 1 * r.val = r.val; rw [(at_tab t).2.2.2.2.1]; show 0 * 128 + 1 * r.val = r.val; omega
  | ⟨1, _⟩ => show win0_11.index t 1 * 128 + 1 * l.val = l.val; rw [(at_tab t).2.2.2.2.1]; show 0 * 128 + 1 * l.val = l.val; omega

theorem read_sink (c : Dev nD) (t : Fin cfg0.N) (h : Fin 16) (inb) (p) :
    View.ld (iblk m c 12 t : Vec Ideal S16 .f32) (Rect.unit ![h.val] ![1] inb) (Shape.Idx.first p) = arg1 m c (ix1 h) := by
  unfold View.ld iblk
  rw [View.read_apply]
  show V m c main_arg1 _ = _
  rw [V_main_arg1]
  congr 1
  funext a
  apply Fin.ext
  match a with
  | ⟨0, _⟩ => show win0_12.index t 0 * 16 + 1 * (h.val + 1 * 0) = h.val; rw [(at_tab t).2.2.2.2.2.1]; show 0 * 16 + 1 * (h.val + 1 * 0) = h.val; omega

/-- One half of a block's lanes, as the body loads it. -/
theorem ld_half {e : EltTy} (X : Vec Ideal S128x256 e) (b : Fin 2) (inb) (r l : Fin 128) :
    View.ld X (Rect.unit ![0, b.val * 128] ![128, 128] inb) (ix2 r l) = X (ix2 r ⟨b.val * 128 + l.val, by have := b.isLt; have := l.isLt; omega⟩) := by
  unfold View.ld
  congr 1
  funext a
  apply Fin.ext
  match a with
  | ⟨0, _⟩ => show 0 + 1 * r.val = r.val; omega
  | ⟨1, _⟩ => show b.val * 128 + 1 * l.val = b.val * 128 + l.val; omega

/-! ## Queries, keys and values of a block -/

/-- The pair `q` of group `g` among the eight pairs. -/
def pairNo (g : Fin 2) (q : Fin 4) : Fin 8 := ⟨g.val * 4 + q.val, by have := g.isLt; have := q.isLt; omega⟩

theorem query_eq (c : Dev nD) (t : Fin cfg0.N) (g : Fin 2) (q : Fin 4) (r : Fin 128) (e : Fin 2) (d : Fin 64) :
    k0_pay2 (iblk m c 11 t) (X0_0 m c t) (iblk m c 7 t) (iblk m c 8 t) (ix2 r (col (pairNo g q) (lane2 e d)))
      = val_main_v39 (arg0 m c) (ix3 (row (pt t) r) (hd16 g (hd q e)) d) := by
  rw [query_apply, ref_q]
  refine rope (row (pt t) r).val (fun l => X0_0 m c t (ix2 r (col (pairNo g q) l))) _ e (fun d => ?_) d (fun k => (iblk m c 11 t : Vec Ideal S128x128 .bf16) (ix2 k (lane2 e d)))
    (fun k => read_swap m c t k (lane2 e d)) _ _ (read_cos m c t r (lane2 e d)) (read_sin m c t r (lane2 e d))
  refine (read_q m c t r _).trans (congrArg (rd (arg0 m c) (row (pt t) r)) ?_)
  show 5120 + ((g.val * 4 + q.val) * 128 + (e.val * 64 + d.val)) = 5120 + ((g.val * 8 + (q.val * 2 + e.val)) * 64 + d.val)
  omega

/-- The turned keys of a block and the block before. -/
def keys (c : Dev nD) (t : Fin cfg0.N) : FVec Ideal S256x128 .bf16 :=
  k0_pay5 (k0_pay1 (iblk m c 11 t)) (k0_pay3 (View.ld (iblk m c 1 t) (Rect.unit ![0, 0] ![128, 128] inb_S128x256_S128x128_0_0))) (k0_pay4 (iblk m c 7 t)) (iblk m c 8 t)
    (View.ld (iblk m c 2 t) (Rect.unit ![0, 0] ![128, 128] inb_S128x256_S128x128_0_0)) (iblk m c 9 t) (iblk m c 10 t)

/-- The same keys, the lanes of the second group first. -/
def keys' (c : Dev nD) (t : Fin cfg0.N) : FVec Ideal S256x128 .bf16 :=
  k0_pay8 (k0_pay1 (iblk m c 11 t)) (k0_pay3 (View.ld (iblk m c 1 t) (Rect.unit ![0, 0] ![128, 128] inb_S128x256_S128x128_0_0))) (k0_pay4 (iblk m c 7 t)) (iblk m c 8 t)
    (View.ld (iblk m c 2 t) (Rect.unit ![0, 0] ![128, 128] inb_S128x256_S128x128_0_0)) (iblk m c 9 t) (iblk m c 10 t)

theorem key_apply (v0 : Vec Ideal S128x128 .bf16) (X : Vec Ideal S128x128 .bf16) (C S : Vec Ideal S128x128 .f32) (Y : Vec Ideal S128x128 .bf16) (C' S' : Vec Ideal S128x128 .f32)
    (s : Fin 256) (l : Fin 128) :
    k0_pay5 (k0_pay1 v0) (k0_pay3 X) (k0_pay4 C) S Y C' S' (ix2 s l) = if h : s.val < 128
      then Y (ix2 ⟨s.val, h⟩ l) * C' (ix2 ⟨s.val, h⟩ l) + (∑ x : Fin 128, Y (ix2 ⟨s.val, h⟩ x) * v0 (ix2 x l)) * S' (ix2 ⟨s.val, h⟩ l)
      else X (ix2 ⟨s.val - 128, by have := s.isLt; omega⟩ l) * C (ix2 ⟨s.val - 128, by have := s.isLt; omega⟩ l) +
        (∑ x : Fin 128, X (ix2 ⟨s.val - 128, by have := s.isLt; omega⟩ x) * v0 (ix2 x l)) * S (ix2 ⟨s.val - 128, by have := s.isLt; omega⟩ l) := by
  pointwise [k0_pay5, k0_pay1, k0_pay3, k0_pay4]

theorem key_eq (c : Dev nD) (t : Fin cfg0.N) (s : Fin 256) (e : Fin 2) (d : Fin 64) :
    keys m c t (ix2 s (lane2 e d)) = val_main_v74 (arg0 m c) (ix3 (krow (pt t) s) e d) := by
  unfold keys
  refine (key_apply _ _ _ _ _ _ _ s (lane2 e d)).trans ?_
  rw [ref_k]
  by_cases h : s.val < 128
  · refine (dif_pos h).trans ?_
    rw [← krow_prev (pt t) s h]
    refine rope (prow (pt t) ⟨s.val, h⟩).val (fun l => View.ld (iblk m c 2 t : Vec Ideal S128x256 .bf16) (Rect.unit ![0, (0 : Fin 2).val * 128] ![128, 128] inb_S128x256_S128x128_0_0) (ix2 ⟨s.val, h⟩ l)) _ e (fun d => ?_) d
      (fun k => (iblk m c 11 t : Vec Ideal S128x128 .bf16) (ix2 k (lane2 e d))) (fun k => read_swap m c t k (lane2 e d)) _ _ (read_pcos m c t ⟨s.val, h⟩ (lane2 e d)) (read_psin m c t ⟨s.val, h⟩ (lane2 e d))
    refine (ld_half _ 0 _ _ _).trans ((read_prev m c t _ _).trans (congrArg (rd (arg0 m c) (prow (pt t) ⟨s.val, h⟩)) ?_))
    show 6144 + (0 * 128 + (e.val * 64 + d.val)) = 6144 + (e.val * 64 + d.val)
    omega
  · refine (dif_neg h).trans ?_
    have hs : s.val - 128 < 128 := by have := s.isLt; omega
    rw [← krow_cur (pt t) s h hs]
    refine rope (row (pt t) ⟨s.val - 128, hs⟩).val (fun l => View.ld (iblk m c 1 t : Vec Ideal S128x256 .bf16) (Rect.unit ![0, (0 : Fin 2).val * 128] ![128, 128] inb_S128x256_S128x128_0_0) (ix2 ⟨s.val - 128, hs⟩ l)) _ e (fun d => ?_) d
      (fun k => (iblk m c 11 t : Vec Ideal S128x128 .bf16) (ix2 k (lane2 e d))) (fun k => read_swap m c t k (lane2 e d)) _ _ (read_cos m c t ⟨s.val - 128, hs⟩ (lane2 e d)) (read_sin m c t ⟨s.val - 128, hs⟩ (lane2 e d))
    refine (ld_half _ 0 _ _ _).trans ((read_cur m c t _ _).trans (congrArg (rd (arg0 m c) (row (pt t) ⟨s.val - 128, hs⟩)) ?_))
    show 6144 + (0 * 128 + (e.val * 64 + d.val)) = 6144 + (e.val * 64 + d.val)
    omega

theorem roll_apply (a : FVec Ideal S128x128 .bf16) (b c : FVec Ideal S128x128 .f32) (f : Vec Ideal S128x128 .f32) (g : Vec Ideal S128x128 .bf16) (p q : Vec Ideal S128x128 .f32)
    (s : Fin 256) (e : Fin 2) (d : Fin 64) : k0_pay8 a b c f g p q (ix2 s (lane2 e d)) = k0_pay5 a b c f g p q (ix2 s (lane2 (1 - e) d)) := by
  unfold k0_pay8
  generalize k0_pay5 a b c f g p q = X
  pointwise
  exact congrArg (fun l => X (ix2 s l)) (rolled e d _)

theorem key_eq' (c : Dev nD) (t : Fin cfg0.N) (s : Fin 256) (e : Fin 2) (d : Fin 64) :
    keys' m c t (ix2 s (lane2 e d)) = val_main_v74 (arg0 m c) (ix3 (krow (pt t) s) (1 - e) d) :=
  (roll_apply _ _ _ _ _ _ _ s e d).trans (key_eq m c t s (1 - e) d)

theorem key0_eq (c : Dev nD) (t : Fin cfg0.N) (s : Fin 256) (e : Fin 2) (d : Fin 64) :
    k0_pay10 (keys m c t) (keys' m c t) (iota Kind.tc S256x128 32 [1] iota_S256x128_d1_w32) 128#32 0#1 (ix2 s (lane2 e d)) = val_main_v74 (arg0 m c) (ix3 (krow (pt t) s) 0 d) := by
  rw [k0_apply, key_eq, key_eq']
  match e with
  | 0 => rfl
  | 1 => rfl

theorem key1_eq (c : Dev nD) (t : Fin cfg0.N) (s : Fin 256) (e : Fin 2) (d : Fin 64) :
    k0_pay11 (keys m c t) (keys' m c t) (iota Kind.tc S256x128 32 [1] iota_S256x128_d1_w32) 128#32 0#1 (ix2 s (lane2 e d)) = val_main_v74 (arg0 m c) (ix3 (krow (pt t) s) 1 d) := by
  rw [k1_apply, key_eq, key_eq']
  match e with
  | 0 => rfl
  | 1 => rfl

/-- The values of a block and the block before. -/
def vals (c : Dev nD) (t : Fin cfg0.N) : FVec Ideal S256x128 .bf16 :=
  k0_pay6 (View.ld (iblk m c 2 t) (Rect.unit ![0, 128] ![128, 128] inb_S128x256_S128x128_0_128)) (View.ld (iblk m c 1 t) (Rect.unit ![0, 128] ![128, 128] inb_S128x256_S128x128_0_128))

theorem stack_apply (X Y : Vec Ideal S128x128 .bf16) (s : Fin 256) (l : Fin 128) :
    k0_pay6 X Y (ix2 s l) = if h : s.val < 128 then X (ix2 ⟨s.val, h⟩ l) else Y (ix2 ⟨s.val - 128, by have := s.isLt; omega⟩ l) := by
  pointwise [k0_pay6]

theorem val_eq (c : Dev nD) (t : Fin cfg0.N) (s : Fin 256) (e : Fin 2) (d : Fin 64) :
    vals m c t (ix2 s (lane2 e d)) = val_main_v75 (arg0 m c) (ix3 (krow (pt t) s) e d) := by
  unfold vals
  rw [stack_apply, ref_v]
  by_cases h : s.val < 128
  · rw [dif_pos h, ← krow_prev (pt t) s h]
    refine (ld_half _ 1 _ _ _).trans ((read_prev m c t _ _).trans (congrArg (rd (arg0 m c) (prow (pt t) ⟨s.val, h⟩)) ?_))
    show 6144 + (1 * 128 + (e.val * 64 + d.val)) = 6272 + (e.val * 64 + d.val)
    omega
  · have hs : s.val - 128 < 128 := by have := s.isLt; omega
    rw [dif_neg h, ← krow_cur (pt t) s h hs]
    refine (ld_half _ 1 _ _ _).trans ((read_cur m c t _ _).trans (congrArg (rd (arg0 m c) (row (pt t) ⟨s.val - 128, hs⟩)) ?_))
    show 6144 + (1 * 128 + (e.val * 64 + d.val)) = 6272 + (e.val * 64 + d.val)
    omega

theorem val0_eq (c : Dev nD) (t : Fin cfg0.N) (s : Fin 256) (e : Fin 2) (d : Fin 64) :
    k0_pay14 (vals m c t) (ix2 s (lane2 e d)) = val_main_v75 (arg0 m c) (ix3 (krow (pt t) s) 0 d) :=
  (v0_apply _ s e d).trans (val_eq m c t s 0 d)

theorem val1_eq (c : Dev nD) (t : Fin cfg0.N) (s : Fin 256) (e : Fin 2) (d : Fin 64) :
    k0_pay15 (vals m c t) (ix2 s (lane2 e d)) = val_main_v75 (arg0 m c) (ix3 (krow (pt t) s) 1 d) :=
  (v1_apply _ s e d).trans (val_eq m c t s 1 d)

theorem sees_eq (t : Fin cfg0.N) (r : Fin 128) (s : Fin 256) : k0_pay7 (BitVec.ofNat 32 (grid0.coords t 0).val) (ix2 r s) = bit (sees (pt t) r s) := by
  rw [coord]
  exact mask_apply (pt t) r s

end Cert.AttnBlock

end
-- ==== Proof.AttnForward.lean ====
/-
  What the forward attention leaves in its two results: the attention output of every row, and that output times the
  gate's swish.
-/
module

public import proofs.«01_k».proof.Proof.AttnBlock
public import proofs.«01_k».proof.Proof.Gen.AttnFwdIdeal.Value

@[expose] public section

set_option maxRecDepth 16384

noncomputable section

namespace Cert.AttnForward

open Idealize.ShloMosaic Idealize.ShloMosaic.TcCoe Idealize.ShloMosaic.Tactic Idealize.SL.Sem
open Idealize.ShloMosaic.Pipeline (Dat)
open Cert.AttnFwdIdeal Cert.AttnFwdIdeal.Gen
open Cert.AttnFwdRefIdeal.Read
open Cert.SgStage (row col)
open Cert.AttnRef Cert.AttnHeads Cert.AttnTabs Cert.AttnBlock

/-- The lanes outside `M`. -/
def flip (M : IVec S128x128 1) : IVec S128x128 1 := xori M (constantI S128x128 1 1#1)

theorem flip_apply (M : IVec S128x128 1) (hM : ∀ (r : Fin 128) (e : Fin 2) (d : Fin 64), M (ix2 r (lane2 e d)) = bit (e = 0)) (r : Fin 128) (e : Fin 2) (d : Fin 64) :
    flip M (ix2 r (lane2 e d)) = bit (e = 1) := by
  pointwise [flip]
  rw [hM]
  match e with
  | 0 => rfl
  | 1 => rfl

/-- The gated output of a tile. -/
def gated (o z : FVec Ideal S128x128 .bf16) : FVec Ideal S128x128 .bf16 :=
  truncf .bf16 (mulf (extf .f32 o bitsLt_bf16_f32) (mulf (extf .f32 z bitsLt_bf16_f32) (logistic (extf .f32 z bitsLt_bf16_f32)))) bitsLt_bf16_f32

theorem logistic_eq (x : EReal) : Ideal.logistic x = Ideal.div 1 (1 + Ideal.exp (-x)) := rfl

section Tiles

variable (t : Fin 16)
variable (x0 : (⟨Cert.AttnFwdRefIdeal.S2048x13568, .bf16⟩ : BufTy).Contents (Elt Ideal))
variable (x1 : (⟨Cert.AttnFwdRefIdeal.S16, .f32⟩ : BufTy).Contents (Elt Ideal))

/-- The gate's column beside output column `j`. -/
theorem gate_col (i : Fin 2048) (j : Fin 1024) (z : EReal) (hz : z = rd x0 i (6400 + j.val)) (o : EReal) (ho : o = val_main_v141 x0 x1 (ix2 i j)) :
    o * (z * Ideal.logistic z) = val_main_v145 x0 x1 (ix2 i j) := by
  subst hz ho
  pointwise [val_main_v145, val_main_v144, val_main_v143, val_main_call3_v5, val_main_call3_v4, val_main_call3_cst_0, val_main_call3_v3, val_main_call3_v2, val_main_call3_cst,
    val_main_call3_v1, val_main_call3_v0, val_main_v142, val_main_v0]
  rw [rd_eq x0 i _ (6400 + j.val) (by have := j.isLt; omega) (by omega)]
  simp only [logistic_eq]

variable (A : IVec S128x256 1) (hA : ∀ (r : Fin 128) (s : Fin 256), A (ix2 r s) = bit (sees t r s))
variable (lo : IVec S128x128 1) (hlo : ∀ (r : Fin 128) (e : Fin 2) (d : Fin 64), lo (ix2 r (lane2 e d)) = bit (e = 0))
variable (Q : FVec Ideal S128x1024 .bf16)
variable (hQ : ∀ (g : Fin 2) (q : Fin 4) (r : Fin 128) (e : Fin 2) (d : Fin 64), Q (ix2 r (col (pairNo g q) (lane2 e d))) = val_main_v39 x0 (ix3 (row t r) (hd16 g (hd q e)) d))
variable (g : Fin 2) (q : Fin 4)
variable (K W : FVec Ideal S256x128 .bf16)
variable (hK : ∀ (s : Fin 256) (e : Fin 2) (d : Fin 64), K (ix2 s (lane2 e d)) = val_main_v74 x0 (ix3 (krow t s) g d))
variable (hW : ∀ (s : Fin 256) (e : Fin 2) (d : Fin 64), W (ix2 s (lane2 e d)) = val_main_v75 x0 (ix3 (krow t s) g d))

/-- The outputs of pair `q` of group `g` on a block. -/
def outs (A : IVec S128x256 1) (lo : IVec S128x128 1) (Q : FVec Ideal S128x1024 .bf16) (p : Fin 8) (K W : FVec Ideal S256x128 .bf16) (b0 b1 : Elt Ideal .f32) : FVec Ideal S128x128 .bf16 :=
  pair lo (prob (score A (half lo (cut p Q)) K) b0) (prob (score A (half (flip lo) (cut p Q)) K) b1) W

include hA hlo hQ hK hW in
theorem tile (b0 b1 : Elt Ideal .f32) (h0 : b0 = x1 (ix1 (hd16 g (hd q 0)))) (h1 : b1 = x1 (ix1 (hd16 g (hd q 1)))) (x : S128x128.Idx) (i : Fin 2048) (j : Fin 1024)
    (hi : i.val = t.val * 128 + (x 0).val) (hj : j.val = (g.val * 4 + q.val) * 128 + (x 1).val) :
    outs A lo Q (pairNo g q) K W b0 b1 x = val_main_v141 x0 x1 (ix2 i j) := by
  obtain ⟨e, d, he⟩ := lane2_surj (x 1)
  have hx : x = ix2 (x 0) (lane2 e d) := by
    funext a
    match a with
    | ⟨0, _⟩ => rfl
    | ⟨1, _⟩ => exact he
  have hi' : i = row t (x 0) := Fin.ext hi
  have hj' : j = lane g (hd q e) d := by
    apply Fin.ext
    rw [hj, he]
    show (g.val * 4 + q.val) * 128 + (e.val * 64 + d.val) = g.val * 512 + (q.val * 2 + e.val) * 64 + d.val
    omega
  rw [hi', hj']
  refine (congrArg (outs A lo Q (pairNo g q) K W b0 b1) hx).trans ?_
  exact pair_eq t x0 x1 A hA lo (flip lo) hlo (flip_apply lo hlo) g q _ (fun r e d => (cut_apply _ Q r _).trans (hQ g q r e d)) K W hK hW b0 b1 h0 h1 (x 0) e d

include hA hlo hQ hK hW in
theorem ytile (b0 b1 : Elt Ideal .f32) (h0 : b0 = x1 (ix1 (hd16 g (hd q 0)))) (h1 : b1 = x1 (ix1 (hd16 g (hd q 1)))) (Z : Vec Ideal S128x128 .bf16)
    (hZ : ∀ r l : Fin 128, Z (ix2 r l) = rd x0 (row t r) (6400 + ((g.val * 4 + q.val) * 128 + l.val))) (x : S128x128.Idx) (i : Fin 2048) (j : Fin 1024)
    (hi : i.val = t.val * 128 + (x 0).val) (hj : j.val = (g.val * 4 + q.val) * 128 + (x 1).val) :
    gated (outs A lo Q (pairNo g q) K W b0 b1) Z x = val_main_v145 x0 x1 (ix2 i j) := by
  refine gate_col x0 x1 i j (Z x) ?_ _ (tile t x0 x1 A hA lo hlo Q hQ g q K W hK hW b0 b1 h0 h1 x i j hi hj)
  have hx : x = ix2 (x 0) (x 1) := by
    funext a
    match a with
    | ⟨0, _⟩ => rfl
    | ⟨1, _⟩ => rfl
  have hi' : i = row t (x 0) := Fin.ext hi
  rw [hi', hj]
  exact (congrArg Z hx).trans (hZ (x 0) (x 1))

end Tiles

variable (m : (ℓ : Loc nD τ sig) → Buf (Elt Ideal) ℓ)

abbrev goal13 (c : Dev nD) : Vec Ideal S2048x1024 .bf16 := val_main_v145 (m ((c : Thread nD τ).loc main_arg0)) (m ((c : Thread nD τ).loc main_arg1))
abbrev goal14 (c : Dev nD) : Vec Ideal S2048x1024 .bf16 := val_main_v146 (m ((c : Thread nD τ).loc main_arg0)) (m ((c : Thread nD τ).loc main_arg1))

/-- The gate's columns of a tile, from the window that holds them. -/
theorem gate_read (c : Dev nD) (t : Fin cfg0.N) (X : Vec Ideal S128x256 .bf16) (base : Nat) (hX : ∀ (r : Fin 128) (k : Fin 256), X (ix2 r k) = rd (arg0 m c) (row (pt t) r) (base + k.val))
    (b : Fin 2) (inb) (g : Fin 2) (q : Fin 4) (hn : base + b.val * 128 = 6400 + (g.val * 4 + q.val) * 128) (r l : Fin 128) : View.ld X (Rect.unit ![0, b.val * 128] ![128, 128] inb) (ix2 r l) = rd (arg0 m c) (row (pt t) r) (6400 + ((g.val * 4 + q.val) * 128 + l.val)) := by
  refine (ld_half X b inb r l).trans ((hX r _).trans (congrArg (rd (arg0 m c) (row (pt t) r)) ?_))
  show base + (b.val * 128 + l.val) = 6400 + ((g.val * 4 + q.val) * 128 + l.val)
  omega

theorem half_mask (r : Fin 128) (e : Fin 2) (d : Fin 64) : k0_pay16 (iota Kind.tc S128x128 32 [1] iota_S128x128_d1_w32) 128#32 (ix2 r (lane2 e d)) = bit (e = 0) := lo_apply r e d

theorem final14 (c : Dev nD) : (dats m 0 c).arrAt 14 cfg0.N = goal14 m c := by
  refine (dats m 0 c).arrAt_eq_of_covers 14 _ (by decide +kernel) fun t hf y => ?_
  blk_simp
  rw [after0_14]
  have he : (win0_14.blk t).view.emb y = ix2 (row (pt t) (y 0)) (y 1) := by
    funext a
    apply Fin.ext
    match a with
    | ⟨0, _⟩ => show win0_14.index t 0 * 128 + 1 * (y 0).val = t.val * 128 + (y 0).val; rw [(at_tab t).2.2.2.2.2.2.2]; show t.val * 128 + 1 * (y 0).val = t.val * 128 + (y 0).val; omega
    | ⟨1, _⟩ => show win0_14.index t 1 * 1024 + 1 * (y 1).val = (y 1).val; rw [(at_tab t).2.2.2.2.2.2.2]; show 0 * 1024 + 1 * (y 1).val = (y 1).val; omega
  unfold outsAt0
  frame_out
  refine Eq.trans ?_ (congrArg (goal14 m c) he.symm)
  have hQ := query_eq m c t
  have hA := sees_eq t
  have hK0 := key0_eq m c t
  have hK1 := key1_eq m c t
  have hV0 := val0_eq m c t
  have hV1 := val1_eq m c t
  have hlo := half_mask
  unfold keys keys' at hK0 hK1
  unfold vals at hV0 hV1
  revert hQ hA hK0 hK1 hV0 hV1 hlo
  generalize k0_pay2 (iblk m c 11 t) (X0_0 m c t) (iblk m c 7 t) (iblk m c 8 t) = Q
  generalize k0_pay7 (BitVec.ofNat 32 (grid0.coords t 0).val) = A
  generalize k0_pay10 _ _ _ _ _ = K0
  generalize k0_pay11 _ _ _ _ _ = K1
  generalize k0_pay14 _ = V0
  generalize k0_pay15 _ = V1
  generalize iota Kind.tc S128x128 32 [1] iota_S128x128_d1_w32 = i
  intro hQ hA hK0 hK1 hV0 hV1 hlo
  have hi (x : S128x128.Idx) (h : (y 0).val = (x 0).val) : (row (pt t) (y 0)).val = (pt t).val * 128 + (x 0).val := congrArg (t.val * 128 + ·) h
  canon_tiles x h
  · exact tile (pt t) (arg0 m c) (arg1 m c) A hA (k0_pay16 i 128#32) hlo Q hQ 1 3 K1 V1 hK1 hV1 _ _ (read_sink m c t 14 _ _) (read_sink m c t 15 _ _) x _ _ (hi x h0) h1
  · exact tile (pt t) (arg0 m c) (arg1 m c) A hA (k0_pay16 i 128#32) hlo Q hQ 1 2 K1 V1 hK1 hV1 _ _ (read_sink m c t 12 _ _) (read_sink m c t 13 _ _) x _ _ (hi x h0) h1
  · exact tile (pt t) (arg0 m c) (arg1 m c) A hA (k0_pay16 i 128#32) hlo Q hQ 1 1 K1 V1 hK1 hV1 _ _ (read_sink m c t 10 _ _) (read_sink m c t 11 _ _) x _ _ (hi x h0) h1
  · exact tile (pt t) (arg0 m c) (arg1 m c) A hA (k0_pay16 i 128#32) hlo Q hQ 1 0 K1 V1 hK1 hV1 _ _ (read_sink m c t 8 _ _) (read_sink m c t 9 _ _) x _ _ (hi x h0) h1
  · exact tile (pt t) (arg0 m c) (arg1 m c) A hA (k0_pay16 i 128#32) hlo Q hQ 0 3 K0 V0 hK0 hV0 _ _ (read_sink m c t 6 _ _) (read_sink m c t 7 _ _) x _ _ (hi x h0) h1
  · exact tile (pt t) (arg0 m c) (arg1 m c) A hA (k0_pay16 i 128#32) hlo Q hQ 0 2 K0 V0 hK0 hV0 _ _ (read_sink m c t 4 _ _) (read_sink m c t 5 _ _) x _ _ (hi x h0) h1
  · exact tile (pt t) (arg0 m c) (arg1 m c) A hA (k0_pay16 i 128#32) hlo Q hQ 0 1 K0 V0 hK0 hV0 _ _ (read_sink m c t 2 _ _) (read_sink m c t 3 _ _) x _ _ (hi x h0) h1
  · exact tile (pt t) (arg0 m c) (arg1 m c) A hA (k0_pay16 i 128#32) hlo Q hQ 0 0 K0 V0 hK0 hV0 _ _ (read_sink m c t 0 _ _) (read_sink m c t 1 _ _) x _ _ (hi x h0) (h1.trans (Nat.zero_add _).symm)

theorem final13 (c : Dev nD) : (dats m 0 c).arrAt 13 cfg0.N = goal13 m c := by
  refine (dats m 0 c).arrAt_eq_of_covers 13 _ (by decide +kernel) fun t hf y => ?_
  blk_simp
  rw [after0_13]
  have he : (win0_13.blk t).view.emb y = ix2 (row (pt t) (y 0)) (y 1) := by
    funext a
    apply Fin.ext
    match a with
    | ⟨0, _⟩ => show win0_13.index t 0 * 128 + 1 * (y 0).val = t.val * 128 + (y 0).val; rw [(at_tab t).2.2.2.2.2.2.1]; show t.val * 128 + 1 * (y 0).val = t.val * 128 + (y 0).val; omega
    | ⟨1, _⟩ => show win0_13.index t 1 * 1024 + 1 * (y 1).val = (y 1).val; rw [(at_tab t).2.2.2.2.2.2.1]; show 0 * 1024 + 1 * (y 1).val = (y 1).val; omega
  unfold outsAt0
  frame_out
  refine Eq.trans ?_ (congrArg (goal13 m c) he.symm)
  have hQ := query_eq m c t
  have hA := sees_eq t
  have hK0 := key0_eq m c t
  have hK1 := key1_eq m c t
  have hV0 := val0_eq m c t
  have hV1 := val1_eq m c t
  have hlo := half_mask
  unfold keys keys' at hK0 hK1
  unfold vals at hV0 hV1
  revert hQ hA hK0 hK1 hV0 hV1 hlo
  generalize k0_pay2 (iblk m c 11 t) (X0_0 m c t) (iblk m c 7 t) (iblk m c 8 t) = Q
  generalize k0_pay7 (BitVec.ofNat 32 (grid0.coords t 0).val) = A
  generalize k0_pay10 _ _ _ _ _ = K0
  generalize k0_pay11 _ _ _ _ _ = K1
  generalize k0_pay14 _ = V0
  generalize k0_pay15 _ = V1
  generalize iota Kind.tc S128x128 32 [1] iota_S128x128_d1_w32 = i
  intro hQ hA hK0 hK1 hV0 hV1 hlo
  have hi (x : S128x128.Idx) (h : (y 0).val = (x 0).val) : (row (pt t) (y 0)).val = (pt t).val * 128 + (x 0).val := congrArg (t.val * 128 + ·) h
  canon_tiles x h
  · exact ytile (pt t) (arg0 m c) (arg1 m c) A hA (k0_pay16 i 128#32) hlo Q hQ 1 3 K1 V1 hK1 hV1 _ _ (read_sink m c t 14 _ _) (read_sink m c t 15 _ _) _ (gate_read m c t _ _ (read_z3 m c t) 1 _ 1 3 rfl) x _ _ (hi x h0) h1
  · exact ytile (pt t) (arg0 m c) (arg1 m c) A hA (k0_pay16 i 128#32) hlo Q hQ 1 2 K1 V1 hK1 hV1 _ _ (read_sink m c t 12 _ _) (read_sink m c t 13 _ _) _ (gate_read m c t _ _ (read_z3 m c t) 0 _ 1 2 rfl) x _ _ (hi x h0) h1
  · exact ytile (pt t) (arg0 m c) (arg1 m c) A hA (k0_pay16 i 128#32) hlo Q hQ 1 1 K1 V1 hK1 hV1 _ _ (read_sink m c t 10 _ _) (read_sink m c t 11 _ _) _ (gate_read m c t _ _ (read_z2 m c t) 1 _ 1 1 rfl) x _ _ (hi x h0) h1
  · exact ytile (pt t) (arg0 m c) (arg1 m c) A hA (k0_pay16 i 128#32) hlo Q hQ 1 0 K1 V1 hK1 hV1 _ _ (read_sink m c t 8 _ _) (read_sink m c t 9 _ _) _ (gate_read m c t _ _ (read_z2 m c t) 0 _ 1 0 rfl) x _ _ (hi x h0) h1
  · exact ytile (pt t) (arg0 m c) (arg1 m c) A hA (k0_pay16 i 128#32) hlo Q hQ 0 3 K0 V0 hK0 hV0 _ _ (read_sink m c t 6 _ _) (read_sink m c t 7 _ _) _ (gate_read m c t _ _ (read_z1 m c t) 1 _ 0 3 rfl) x _ _ (hi x h0) h1
  · exact ytile (pt t) (arg0 m c) (arg1 m c) A hA (k0_pay16 i 128#32) hlo Q hQ 0 2 K0 V0 hK0 hV0 _ _ (read_sink m c t 4 _ _) (read_sink m c t 5 _ _) _ (gate_read m c t _ _ (read_z1 m c t) 0 _ 0 2 rfl) x _ _ (hi x h0) h1
  · exact ytile (pt t) (arg0 m c) (arg1 m c) A hA (k0_pay16 i 128#32) hlo Q hQ 0 1 K0 V0 hK0 hV0 _ _ (read_sink m c t 2 _ _) (read_sink m c t 3 _ _) _ (gate_read m c t _ _ (read_z0 m c t) 1 _ 0 1 rfl) x _ _ (hi x h0) h1
  · exact ytile (pt t) (arg0 m c) (arg1 m c) A hA (k0_pay16 i 128#32) hlo Q hQ 0 0 K0 V0 hK0 hV0 _ _ (read_sink m c t 0 _ _) (read_sink m c t 1 _ _) _ (gate_read m c t _ _ (read_z0 m c t) 0 _ 0 0 rfl) x _ _ (hi x h0) (h1.trans (Nat.zero_add _).symm)

end Cert.AttnForward

end
-- ==== Proof.AttnForwardClaims.lean ====
/-
  The claims about the forward attention.
-/
module

public import proofs.«01_k».proof.Defs
public import proofs.«01_k».proof.Proof.Gen.AttnFwd.Frame
public import proofs.«01_k».proof.Proof.AttnForward
public import proofs.«01_k».proof.Proof.Gen.AttnFwdRefIdeal.Run

@[expose] public section

noncomputable section

namespace Cert.Proof.AttnFwd

open Idealize.ShloMosaic Idealize.ShloMosaic.TcCoe

theorem frame : Cert.quiescent_AttnFwd := fun m ρ _ => Cert.AttnFwd.Gen.frame m ρ

theorem frame_ideal : Cert.quiescent_AttnFwdIdeal := fun m ρ _ => Cert.AttnFwdIdeal.Gen.frame m ρ

theorem frame_ref : Cert.quiescent_AttnFwdRefIdeal := fun m ρ _ =>
  (θ_run Cert.AttnFwdRefIdeal.defs _ _).mono (fun r h => ⟨fun c => (h c).2.2,
      Idealize.ShloMosaic.sem_eq_zero_of_no_sems (by decide) r.2⟩)
    (Cert.AttnFwdRefIdeal.Value.run (F := Ideal) m ρ)

theorem preserves : Cert.preserves_AttnFwd_AttnFwdIdeal :=
  IdealRules.named_const.statement Cert.AttnFwdIdeal.κ "mask" .f32 0xF149F2CA#32 ⊥ rfl

theorem algebraic : Cert.algebraic_AttnFwdIdeal_AttnFwdRefIdeal := by
  intro m ρ m' ρ' _ hag
  refine ⟨fun c => AttnForward.goal13 m c, fun c => AttnForward.goal14 m c,
    (θ_run Cert.AttnFwdIdeal.defs _ _).mono (fun r h c => ⟨(h c).1.trans (AttnForward.final13 m c), (h c).2.1.trans (AttnForward.final14 m c), (h c).2.2⟩) (Cert.AttnFwdIdeal.Value.run_blocks m ρ),
    (θ_run Cert.AttnFwdRefIdeal.defs _ _).mono (fun r h c => ?_) (Cert.AttnFwdRefIdeal.Value.run (F := Ideal) m' ρ')⟩
  obtain ⟨h0, h1, hr⟩ := h c
  obtain ⟨a0, a1⟩ := hag c
  refine ⟨h0.trans ((Cert.AttnFwdRefIdeal.Read.val_main_v145_eq _).trans ?_), h1.trans ((Cert.AttnFwdRefIdeal.Read.val_main_v146_eq _).trans ?_), hr⟩
  · show Cert.AttnFwdRefIdeal.Read.val_main_v145 (m' ((c : Thread Cert.AttnFwdRefIdeal.nD Cert.AttnFwdRefIdeal.τ).loc Cert.AttnFwdRefIdeal.main_arg0)) (m' ((c : Thread Cert.AttnFwdRefIdeal.nD Cert.AttnFwdRefIdeal.τ).loc Cert.AttnFwdRefIdeal.main_arg1)) = _
    rw [a0, a1]
  · show Cert.AttnFwdRefIdeal.Read.val_main_v146 (m' ((c : Thread Cert.AttnFwdRefIdeal.nD Cert.AttnFwdRefIdeal.τ).loc Cert.AttnFwdRefIdeal.main_arg0)) (m' ((c : Thread Cert.AttnFwdRefIdeal.nD Cert.AttnFwdRefIdeal.τ).loc Cert.AttnFwdRefIdeal.main_arg1)) = _
    rw [a0, a1]

end Cert.Proof.AttnFwd

end
-- ==== Proof.SgGrad.lean ====
/-
  The gradient of the spatial gating mixer, the stages behind the mixing products: the gradient through the layer norm
  and the activation, and what one block adds to the gradients of the norm's scale and shift.
-/
module

public import proofs.«01_k».proof.Proof.SgHeads

@[expose] public section

set_option maxRecDepth 16384

noncomputable section

namespace Cert.SgStage

open Idealize.ShloMosaic Idealize.ShloMosaic.TcCoe
open Cert.SgBwdIdeal Cert.SgBwdIdeal.Gen
open Cert.SgRefIdeal.Read

/-- Of a rank-4 array, the sum over the first and the last axis. -/
theorem drop_03 {A B C D : Nat} (h : (⟨4, ![A, B, C, D]⟩ : Shape).ReducesTo [0, 3] ⟨2, ![B, C]⟩) (b : Fin B) (c : Fin C)
    (i : (⟨4, ![A, B, C, D]⟩ : Shape).Idx) : h.drop i = ix2 b c ↔ ∃ k : Fin A × Fin D, ix4 k.1 b c k.2 = i := by
  constructor
  · intro e
    refine ⟨(i 0, i 3), ?_⟩
    funext a; apply Fin.ext
    match a with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨k, rfl⟩
    funext x; apply Fin.ext
    match x with
    | ⟨0, _⟩ => rfl
    | ⟨1, _⟩ => rfl

theorem sum_03 {A B C D : Nat} (h : (⟨4, ![A, B, C, D]⟩ : Shape).ReducesTo [0, 3] ⟨2, ![B, C]⟩)
    (v : (⟨4, ![A, B, C, D]⟩ : Shape).Idx → EReal) (z : EReal) (b : Fin B) (c : Fin C) :
    Ideal.hostReduceAdd h v z (ix2 b c) = z + ∑ a : Fin A, ∑ d : Fin D, v (ix4 a b c d) := by
  unfold Ideal.hostReduceAdd
  rw [Finset.sum_filter_eq_sum_of_fiber _ (fun k : Fin A × Fin D => ix4 k.1 b c k.2)
    (fun _ _ e => Prod.ext (congrFun e 0) (congrFun e 3)) (drop_03 h b c) v, Fintype.sum_prod_type]

variable (t : Fin 16)
variable (x0 : (⟨Cert.SgRefIdeal.S2048x13568, .bf16⟩ : BufTy).Contents (Elt Ideal))
variable (V : Vec Ideal S128x1024 .bf16)
variable (hV : ∀ (r : Fin 128) (c : Fin 1024), V (ix2 r c) = x0 (ix2 (row t r) (vcol c)))
variable (q : Ideal .f32) (hq : q = Ideal.ofBits .f32 0x44800000#32)
variable (x1 x2 : (⟨Cert.SgRefIdeal.S1024, .f32⟩ : BufTy).Contents (Elt Ideal))
variable (LW LB : Vec Ideal S1x1024 .f32)
variable (hLW : ∀ c : Fin 1024, LW (ix2 0 c) = x1 (ix1 c)) (hLB : ∀ c : Fin 1024, LB (ix2 0 c) = x2 (ix1 c))
variable (U Z G : Vec Ideal S128x1024 .bf16)
variable (hU : ∀ (r : Fin 128) (c : Fin 1024), U (ix2 r c) = x0 (ix2 (row t r) (ucol c)))
variable (hZ : ∀ (r : Fin 128) (c : Fin 1024), Z (ix2 r c) = x0 (ix2 (row t r) (zcol c)))
variable (x5 : (⟨Cert.SgRefIdeal.S2048x1024, .bf16⟩ : BufTy).Contents (Elt Ideal))
variable (hG : ∀ (r : Fin 128) (c : Fin 1024), G (ix2 r c) = x5 (ix2 (row t r) c))
variable (x3 : (⟨Cert.SgRefIdeal.S8x128x128, .f32⟩ : BufTy).Contents (Elt Ideal))
variable (a8 : FVec Ideal S128x128 .bf16) (a1 a2 a3 a4 a5 a6 a7 : FVec Ideal S128x128 .f32) (a9 : FVec Ideal S128x128 .bf16)
variable (hD : ∀ (r : Fin 128) (c : Fin 1024), k0_pay100 a8 a1 a2 a3 a4 a5 a6 a7 a9 (ix2 r c) = val_main_v110 x0 x3 x5 (ix2 (row t r) c))

include hD in
theorem dlb_part (c : Fin 1024) : k0_pay101 a8 a1 a2 a3 a4 a5 a6 a7 a9 (ix2 0 c) = ∑ r : Fin 128, val_main_v110 x0 x3 x5 (ix2 (row t r) c) := by
  pointwise [k0_pay101]
  exact Finset.sum_congr rfl fun r _ => hD r c

include hV hq hD in
theorem dlw_part (c : Fin 1024) :
    k0_pay102 a8 (k0_pay27 (k0_pay18 V) (k0_pay19 V) q) a1 a2 a3 a4 a5 a6 a7 a9 (ix2 0 c) = ∑ r : Fin 128, val_main_v114 x0 x3 x5 (ix2 (row t r) c) := by
  pointwise [k0_pay102, val_main_v114]
  exact Finset.sum_congr rfl fun r _ => congrArg₂ (· * ·) (norm_v t x0 V hV q hq r c) (hD r c)

include hD hLW in
theorem dln (r : Fin 128) (c : Fin 1024) :
    k0_pay103 a8 (k0_pay12 LW) a1 a2 a3 a4 a5 a6 a7 a9 (ix2 r c) = val_main_v118 x0 x1 x3 x5 (ix2 (row t r) c) := by
  pointwise [k0_pay103, k0_pay12, val_main_v118, val_main_v117, val_main_v69]
  rw [hD, hLW]

include hV hq hD hLW in
theorem dcen (r : Fin 128) (c : Fin 1024) :
    k0_pay104 a8 (k0_pay12 LW) (k0_pay25 (k0_pay18 V) (k0_pay19 V) q) a1 a2 a3 a4 a5 a6 a7 a9 (ix2 r c) = val_main_v124 x0 x1 x3 x5 (ix2 (row t r) c) := by
  pointwise [k0_pay104, val_main_v124, val_main_v123]
  exact congrArg₂ (· * ·) (dln t x0 x1 LW hLW x5 x3 a8 a1 a2 a3 a4 a5 a6 a7 a9 hD r c) (rstd_v t x0 V hV q hq r)

include hV hq hD hLW in
theorem dmean1 (r : Fin 128) :
    k0_pay105 a8 (k0_pay12 LW) (k0_pay25 (k0_pay18 V) (k0_pay19 V) q) a1 a2 a3 a4 a5 a6 a7 a9 (ix2 r 0) = val_main_v128 x0 x1 x3 x5 (ix2 (row t r) 0) := by
  pointwise [k0_pay105, val_main_v128, val_main_v127, val_main_v126, val_main_cst_28, val_main_cst_29, val_main_cst_30, val_main_cst_31, val_main_cst_32, val_main_cst_33, val_main_cst_34]
  simp only [zero_sub]
  simp only [dcen t x0 V hV q hq x1 LW hLW x5 x3 a8 a1 a2 a3 a4 a5 a6 a7 a9 hD]

include hV hq hD hLW in
theorem dvar (r : Fin 128) (c : Fin 1024) :
    k0_pay106 a8 (k0_pay12 LW) (k0_pay23 (k0_pay18 V) (k0_pay19 V) q) (k0_pay26 (k0_pay18 V) (k0_pay19 V) q) a1 a2 a3 a4 a5 a6 a7 a9 (ix2 r c)
      = val_main_v132 x0 x1 x3 x5 (ix2 (row t r) c) := by
  pointwise [k0_pay106, val_main_v132, val_main_v131, val_main_v130, val_main_v129, val_main_v125, val_main_v122, val_main_v121, val_main_v120, val_main_cst_28, val_main_cst_29, val_main_cst_30, val_main_cst_31, val_main_cst_32, val_main_cst_33, val_main_cst_34]
  simp only [Fin.sum_univ_one, zero_sub]
  simp only [cen2_v t x0 V hV q hq, dln t x0 x1 LW hLW x5 x3 a8 a1 a2 a3 a4 a5 a6 a7 a9 hD, drstd_v t x0 V hV q hq]

variable (E : FVec Ideal S128x1024 .f32) (hE : ∀ (r : Fin 128) (c : Fin 1024), E (ix2 r c) = val_main_v124 x0 x1 x3 x5 (ix2 (row t r) c))
variable (N : FVec Ideal S128x1 .f32) (hN : ∀ (r : Fin 128), N (ix2 r 0) = val_main_v128 x0 x1 x3 x5 (ix2 (row t r) 0))
variable (S : FVec Ideal S128x1024 .f32) (hS : ∀ (r : Fin 128) (c : Fin 1024), S (ix2 r c) = val_main_v132 x0 x1 x3 x5 (ix2 (row t r) c))

include hV hq hE hN hS in
theorem dv (r : Fin 128) (c : Fin 1024) :
    k0_pay107 (k0_pay11 V) (k0_pay14 V) (k0_pay16 V) (k0_pay17 V) (k0_pay22 (k0_pay18 V) (k0_pay19 V) q) E N S (ix2 r c)
      = val_main_v169 x0 x1 x3 x5 (ix2 (row t r) c) := by
  pointwise [k0_pay107, val_main_v169, val_main_v155, val_main_v154, val_main_v153, val_main_v152, val_main_v151, val_main_v150, val_main_v149, val_main_v148, val_main_v147, val_main_v146, val_main_v145, val_main_v144, val_main_v143, val_main_v142, val_main_v141, val_main_v140, val_main_v139, val_main_v138, val_main_v137, val_main_v136, val_main_v135, val_main_v134, val_main_v133, val_main_cst_30, val_main_cst_31, val_main_cst_32, val_main_cst_33, val_main_cst_34, val_main_cst_35, val_main_cst_36, val_main_cst_37]
  simp only [Fin.sum_univ_one, zero_sub]
  simp only [hE, hN, hS, act_v t x0 V hV, triple_v t x0 V hV, sech_v t x0 V hV, half_v t x0 V hV, dbl_v t x0 V hV q hq]

/-- The whole gradients of the norm's scale and shift: the sum over all rows. -/
theorem ref_dlb (c : Fin 1024) : val_main_v172 x0 x3 x5 (ix2 0 c) = ∑ n : Fin 2048, val_main_v110 x0 x3 x5 (ix2 n c) := by
  pointwise [val_main_v172, val_main_v113, val_main_v112, val_main_v111, val_main_cst_24, val_main_cst_25]
  exact Fin.sum_univ_one _

theorem ref_dlw (c : Fin 1024) : val_main_v171 x0 x3 x5 (ix2 0 c) = ∑ n : Fin 2048, val_main_v114 x0 x3 x5 (ix2 n c) := by
  pointwise [val_main_v171, val_main_v119, val_main_v116, val_main_v115, val_main_cst_26, val_main_cst_27]
  exact Fin.sum_univ_one _

/-- The whole gradient of a mixing weight: over all blocks and the columns of its head. -/
theorem ref_dw (h : Fin 8) (r m : Fin 128) : val_main_v109 x0 x1 x2 x5 (ix3 h r m)
    = Scalar.select (k0_pay2 (ix2 r m)) (∑ n : Fin 16, ∑ d : Fin 128, val_main_v96 x0 x5 (ix2 (row n r) (col h d)) * val_main_v74 x0 x1 x2 (ix2 (row n m) (col h d))) 0 := by
  pointwise [val_main_v109, val_main_v80_1, val_main_v78, val_main_v106, val_main_v105, val_main_call4_v0, val_main_cst_20, val_main_call4_cst]
  simp only [ref_dm, ref_vn, tri_eq]

/-- The whole gradient of a mixing bias: over all blocks and the columns of its head. -/
theorem ref_db (h : Fin 8) (r : Fin 128) : val_main_v173 x0 x5 (ix3 h r 0) = ∑ n : Fin 16, ∑ d : Fin 128, val_main_v96 x0 x5 (ix2 (row n r) (col h d)) := by
  pointwise [val_main_v173, val_main_v104, val_main_v103, val_main_v102, val_main_v101, val_main_v100, val_main_cst_22, val_main_cst_23]
  simp only [sum_03, Fin.sum_univ_one]
  pointwise [val_main_v99, val_main_cst_21]
  rw [sum_03, zero_add]
  simp only [ref_dm]

end Cert.SgStage
end
-- ==== Proof.SgInput.lean ====
/-
  What the gradient kernel of the spatial gating mixer reads at each grid point: the entries of its staged blocks as
  entries of the arrays it was launched with.
-/
module

public import proofs.«01_k».proof.Proof.Gen.SgBwdIdeal.Value
public import proofs.«01_k».proof.Proof.SgElem

@[expose] public section

set_option maxRecDepth 16384

noncomputable section

namespace Cert.SgStage

open Idealize.ShloMosaic Idealize.ShloMosaic.TcCoe Idealize.SL.Sem
open Cert.SgBwdIdeal Cert.SgBwdIdeal.Gen

variable (m : (ℓ : Loc nD τ sig) → Buf (Elt Ideal) ℓ)

/-- A grid point as the number of its block of rows. -/
def pt (t : Fin cfg0.N) : Fin 16 := ⟨t.val, lt_of_lt_of_eq t.isLt N_0⟩

theorem at_u : ∀ t : Fin cfg0.N, win0_0.index t 0 = t.val ∧ win0_0.index t 1 = 2 :=
  (by decide +kernel : ∀ t : Fin grid0.N, win0_0.index t 0 = t.val ∧ win0_0.index t 1 = 2)

theorem read_u (c : Dev nD) (t : Fin cfg0.N) (r : Fin 128) (k : Fin 1024) :
    X0_0 m c t (ix2 r k) = m ((c : Thread nD τ).loc main_arg0) (ix2 (row (pt t) r) (ucol k)) := by
  unfold X0_0 Pipeline.Window.fill
  rw [dif_pos (moved0_0 t _)]
  unfold iblk
  rw [View.read_apply]
  show V m c main_arg0 _ = _
  rw [V_main_arg0]
  congr 1
  funext a
  apply Fin.ext
  match a with
  | ⟨0, _⟩ => show win0_0.index t 0 * 128 + 1 * r.val = t.val * 128 + r.val; rw [(at_u t).1]; omega
  | ⟨1, _⟩ => show win0_0.index t 1 * 1024 + 1 * k.val = 2048 + k.val; rw [(at_u t).2]; omega

theorem at_v : ∀ t : Fin cfg0.N, win0_1.index t 0 = t.val ∧ win0_1.index t 1 = 3 :=
  (by decide +kernel : ∀ t : Fin grid0.N, win0_1.index t 0 = t.val ∧ win0_1.index t 1 = 3)

theorem read_v (c : Dev nD) (t : Fin cfg0.N) (r : Fin 128) (k : Fin 1024) :
    X0_1 m c t (ix2 r k) = m ((c : Thread nD τ).loc main_arg0) (ix2 (row (pt t) r) (vcol k)) := by
  unfold X0_1 Pipeline.Window.fill
  rw [dif_pos (moved0_1 t _)]
  unfold iblk
  rw [View.read_apply]
  show V m c main_arg0 _ = _
  rw [V_main_arg0]
  congr 1
  funext a
  apply Fin.ext
  match a with
  | ⟨0, _⟩ => show win0_1.index t 0 * 128 + 1 * r.val = t.val * 128 + r.val; rw [(at_v t).1]; omega
  | ⟨1, _⟩ => show win0_1.index t 1 * 1024 + 1 * k.val = 3072 + k.val; rw [(at_v t).2]; omega

theorem at_z : ∀ t : Fin cfg0.N, win0_2.index t 0 = t.val ∧ win0_2.index t 1 = 4 :=
  (by decide +kernel : ∀ t : Fin grid0.N, win0_2.index t 0 = t.val ∧ win0_2.index t 1 = 4)

theorem read_z (c : Dev nD) (t : Fin cfg0.N) (r : Fin 128) (k : Fin 1024) :
    X0_2 m c t (ix2 r k) = m ((c : Thread nD τ).loc main_arg0) (ix2 (row (pt t) r) (zcol k)) := by
  unfold X0_2 Pipeline.Window.fill
  rw [dif_pos (moved0_2 t _)]
  unfold iblk
  rw [View.read_apply]
  show V m c main_arg0 _ = _
  rw [V_main_arg0]
  congr 1
  funext a
  apply Fin.ext
  match a with
  | ⟨0, _⟩ => show win0_2.index t 0 * 128 + 1 * r.val = t.val * 128 + r.val; rw [(at_z t).1]; omega
  | ⟨1, _⟩ => show win0_2.index t 1 * 1024 + 1 * k.val = 4096 + k.val; rw [(at_z t).2]; omega

theorem at_g : ∀ t : Fin cfg0.N, win0_7.index t 0 = t.val ∧ win0_7.index t 1 = 0 :=
  (by decide +kernel : ∀ t : Fin grid0.N, win0_7.index t 0 = t.val ∧ win0_7.index t 1 = 0)

theorem read_g (c : Dev nD) (t : Fin cfg0.N) (r : Fin 128) (k : Fin 1024) :
    (iblk m c 7 t : Vec Ideal S128x1024 .bf16) (ix2 r k) = m ((c : Thread nD τ).loc main_arg5) (ix2 (row (pt t) r) k) := by
  unfold iblk
  rw [View.read_apply]
  show V m c main_arg5 _ = _
  rw [V_main_arg5]
  congr 1
  funext a
  apply Fin.ext
  match a with
  | ⟨0, _⟩ => show win0_7.index t 0 * 128 + 1 * r.val = t.val * 128 + r.val; rw [(at_g t).1]; omega
  | ⟨1, _⟩ => show win0_7.index t 1 * 1024 + 1 * k.val = k.val; rw [(at_g t).2]; omega

theorem host_lw (c : Dev nD) : V m c main_v0 = broadcastInDim S1x1024 ![1] bcast_S1024_S1x1024_1 (m ((c : Thread nD τ).loc main_arg1)) := rfl

theorem at_lw : ∀ t : Fin cfg0.N, win0_3.index t 0 = 0 ∧ win0_3.index t 1 = 0 :=
  (by decide +kernel : ∀ t : Fin grid0.N, win0_3.index t 0 = 0 ∧ win0_3.index t 1 = 0)

theorem read_lw (c : Dev nD) (t : Fin cfg0.N) (k : Fin 1024) :
    (iblk m c 3 t : Vec Ideal S1x1024 .f32) (ix2 0 k) = m ((c : Thread nD τ).loc main_arg1) (ix1 k) := by
  unfold iblk
  rw [View.read_apply]
  show V m c main_v0 _ = _
  rw [host_lw]
  unfold broadcastInDim
  congr 1
  funext a
  apply Fin.ext
  match a with
  | ⟨0, _⟩ => show win0_3.index t 1 * 1024 + 1 * k.val = k.val; rw [(at_lw t).2]; omega

theorem host_lb (c : Dev nD) : V m c main_v1 = broadcastInDim S1x1024 ![1] bcast_S1024_S1x1024_1 (m ((c : Thread nD τ).loc main_arg2)) := rfl

theorem at_lb : ∀ t : Fin cfg0.N, win0_4.index t 0 = 0 ∧ win0_4.index t 1 = 0 :=
  (by decide +kernel : ∀ t : Fin grid0.N, win0_4.index t 0 = 0 ∧ win0_4.index t 1 = 0)

theorem read_lb (c : Dev nD) (t : Fin cfg0.N) (k : Fin 1024) :
    (iblk m c 4 t : Vec Ideal S1x1024 .f32) (ix2 0 k) = m ((c : Thread nD τ).loc main_arg2) (ix1 k) := by
  unfold iblk
  rw [View.read_apply]
  show V m c main_v1 _ = _
  rw [host_lb]
  unfold broadcastInDim
  congr 1
  funext a
  apply Fin.ext
  match a with
  | ⟨0, _⟩ => show win0_4.index t 1 * 1024 + 1 * k.val = k.val; rw [(at_lb t).2]; omega

theorem at_w : ∀ t : Fin cfg0.N, win0_5.index t 0 = 0 ∧ win0_5.index t 1 = 0 ∧ win0_5.index t 2 = 0 :=
  (by decide +kernel : ∀ t : Fin grid0.N, win0_5.index t 0 = 0 ∧ win0_5.index t 1 = 0 ∧ win0_5.index t 2 = 0)

theorem read_w (c : Dev nD) (t : Fin cfg0.N) (h : Fin 8) (r k : Fin 128) :
    (iblk m c 5 t : Vec Ideal S8x128x128 .f32) (ix3 h r k) = m ((c : Thread nD τ).loc main_arg3) (ix3 h r k) := by
  unfold iblk
  rw [View.read_apply]
  show V m c main_arg3 _ = _
  rw [V_main_arg3]
  congr 1
  funext a
  apply Fin.ext
  match a with
  | ⟨0, _⟩ => show win0_5.index t 0 * 8 + 1 * h.val = h.val; rw [(at_w t).1]; omega
  | ⟨1, _⟩ => show win0_5.index t 1 * 128 + 1 * r.val = r.val; rw [(at_w t).2.1]; omega
  | ⟨2, _⟩ => show win0_5.index t 2 * 128 + 1 * k.val = k.val; rw [(at_w t).2.2]; omega

theorem host_b (c : Dev nD) : V m c main_v2 = broadcastInDim S8x128x1 ![0, 1] bcast_S8x128_S8x128x1_0_1 (m ((c : Thread nD τ).loc main_arg4)) := rfl

theorem at_b : ∀ t : Fin cfg0.N, win0_6.index t 0 = 0 ∧ win0_6.index t 1 = 0 ∧ win0_6.index t 2 = 0 :=
  (by decide +kernel : ∀ t : Fin grid0.N, win0_6.index t 0 = 0 ∧ win0_6.index t 1 = 0 ∧ win0_6.index t 2 = 0)

theorem read_b (c : Dev nD) (t : Fin cfg0.N) (h : Fin 8) (r : Fin 128) :
    (iblk m c 6 t : Vec Ideal S8x128x1 .f32) (ix3 h r 0) = m ((c : Thread nD τ).loc main_arg4) (ix2 h r) := by
  unfold iblk
  rw [View.read_apply]
  show V m c main_v2 _ = _
  rw [host_b]
  unfold broadcastInDim
  congr 1
  funext a
  apply Fin.ext
  match a with
  | ⟨0, _⟩ => show win0_6.index t 0 * 8 + 1 * h.val = h.val; rw [(at_b t).1]; omega
  | ⟨1, _⟩ => show win0_6.index t 1 * 128 + 1 * r.val = r.val; rw [(at_b t).2.1]; omega

/-- The weights and biases of one head, as the body loads them. -/
noncomputable def wh (c : Dev nD) (t : Fin cfg0.N) : Fin 8 → Vec Ideal S1x128x128 .f32 := fun h => match h with
  | 0 => View.ld (iblk m c 5 t : Vec Ideal S8x128x128 .f32) (Rect.unit ![0, 0, 0] ![1, 128, 128] inb_S8x128x128_S1x128x128_0_0_0)
  | 1 => View.ld (iblk m c 5 t : Vec Ideal S8x128x128 .f32) (Rect.unit ![1, 0, 0] ![1, 128, 128] inb_S8x128x128_S1x128x128_1_0_0)
  | 2 => View.ld (iblk m c 5 t : Vec Ideal S8x128x128 .f32) (Rect.unit ![2, 0, 0] ![1, 128, 128] inb_S8x128x128_S1x128x128_2_0_0)
  | 3 => View.ld (iblk m c 5 t : Vec Ideal S8x128x128 .f32) (Rect.unit ![3, 0, 0] ![1, 128, 128] inb_S8x128x128_S1x128x128_3_0_0)
  | 4 => View.ld (iblk m c 5 t : Vec Ideal S8x128x128 .f32) (Rect.unit ![4, 0, 0] ![1, 128, 128] inb_S8x128x128_S1x128x128_4_0_0)
  | 5 => View.ld (iblk m c 5 t : Vec Ideal S8x128x128 .f32) (Rect.unit ![5, 0, 0] ![1, 128, 128] inb_S8x128x128_S1x128x128_5_0_0)
  | 6 => View.ld (iblk m c 5 t : Vec Ideal S8x128x128 .f32) (Rect.unit ![6, 0, 0] ![1, 128, 128] inb_S8x128x128_S1x128x128_6_0_0)
  | 7 => View.ld (iblk m c 5 t : Vec Ideal S8x128x128 .f32) (Rect.unit ![7, 0, 0] ![1, 128, 128] inb_S8x128x128_S1x128x128_7_0_0)

noncomputable def bh (c : Dev nD) (t : Fin cfg0.N) : Fin 8 → Vec Ideal S1x128x1 .f32 := fun h => match h with
  | 0 => View.ld (iblk m c 6 t : Vec Ideal S8x128x1 .f32) (Rect.unit ![0, 0, 0] ![1, 128, 1] inb_S8x128x1_S1x128x1_0_0_0)
  | 1 => View.ld (iblk m c 6 t : Vec Ideal S8x128x1 .f32) (Rect.unit ![1, 0, 0] ![1, 128, 1] inb_S8x128x1_S1x128x1_1_0_0)
  | 2 => View.ld (iblk m c 6 t : Vec Ideal S8x128x1 .f32) (Rect.unit ![2, 0, 0] ![1, 128, 1] inb_S8x128x1_S1x128x1_2_0_0)
  | 3 => View.ld (iblk m c 6 t : Vec Ideal S8x128x1 .f32) (Rect.unit ![3, 0, 0] ![1, 128, 1] inb_S8x128x1_S1x128x1_3_0_0)
  | 4 => View.ld (iblk m c 6 t : Vec Ideal S8x128x1 .f32) (Rect.unit ![4, 0, 0] ![1, 128, 1] inb_S8x128x1_S1x128x1_4_0_0)
  | 5 => View.ld (iblk m c 6 t : Vec Ideal S8x128x1 .f32) (Rect.unit ![5, 0, 0] ![1, 128, 1] inb_S8x128x1_S1x128x1_5_0_0)
  | 6 => View.ld (iblk m c 6 t : Vec Ideal S8x128x1 .f32) (Rect.unit ![6, 0, 0] ![1, 128, 1] inb_S8x128x1_S1x128x1_6_0_0)
  | 7 => View.ld (iblk m c 6 t : Vec Ideal S8x128x1 .f32) (Rect.unit ![7, 0, 0] ![1, 128, 1] inb_S8x128x1_S1x128x1_7_0_0)

theorem ld_head {e : EltTy} (X : Vec Ideal S8x128x128 e) (h : Fin 8) (o : Fin 3 → Nat) (ho : o = ![h.val, 0, 0])
    (inb) (r k : Fin 128) : View.ld X (Rect.unit o ![1, 128, 128] inb) (ix3 0 r k) = X (ix3 h r k) := by
  subst ho
  unfold View.ld
  congr 1
  funext a
  apply Fin.ext
  match a with
  | ⟨0, _⟩ => show h.val + 1 * 0 = h.val; omega
  | ⟨1, _⟩ => show 0 + 1 * r.val = r.val; omega
  | ⟨2, _⟩ => show 0 + 1 * k.val = k.val; omega

theorem ld_bias {e : EltTy} (X : Vec Ideal S8x128x1 e) (h : Fin 8) (o : Fin 3 → Nat) (ho : o = ![h.val, 0, 0])
    (inb) (r : Fin 128) : View.ld X (Rect.unit o ![1, 128, 1] inb) (ix3 0 r 0) = X (ix3 h r 0) := by
  subst ho
  unfold View.ld
  congr 1
  funext a
  apply Fin.ext
  match a with
  | ⟨0, _⟩ => show h.val + 1 * 0 = h.val; omega
  | ⟨1, _⟩ => show 0 + 1 * r.val = r.val; omega
  | ⟨2, _⟩ => rfl

theorem read_wh (c : Dev nD) (t : Fin cfg0.N) (h : Fin 8) (r k : Fin 128) :
    wh m c t h (ix3 0 r k) = m ((c : Thread nD τ).loc main_arg3) (ix3 h r k) := by
  rw [← read_w m c t]
  match h with
  | 0 => exact ld_head (iblk m c 5 t) 0 ![0, 0, 0] rfl _ r k
  | 1 => exact ld_head (iblk m c 5 t) 1 ![1, 0, 0] rfl _ r k
  | 2 => exact ld_head (iblk m c 5 t) 2 ![2, 0, 0] rfl _ r k
  | 3 => exact ld_head (iblk m c 5 t) 3 ![3, 0, 0] rfl _ r k
  | 4 => exact ld_head (iblk m c 5 t) 4 ![4, 0, 0] rfl _ r k
  | 5 => exact ld_head (iblk m c 5 t) 5 ![5, 0, 0] rfl _ r k
  | 6 => exact ld_head (iblk m c 5 t) 6 ![6, 0, 0] rfl _ r k
  | 7 => exact ld_head (iblk m c 5 t) 7 ![7, 0, 0] rfl _ r k

theorem read_bh (c : Dev nD) (t : Fin cfg0.N) (h : Fin 8) (r : Fin 128) :
    bh m c t h (ix3 0 r 0) = m ((c : Thread nD τ).loc main_arg4) (ix2 h r) := by
  rw [← read_b m c t]
  match h with
  | 0 => exact ld_bias (iblk m c 6 t) 0 ![0, 0, 0] rfl _ r
  | 1 => exact ld_bias (iblk m c 6 t) 1 ![1, 0, 0] rfl _ r
  | 2 => exact ld_bias (iblk m c 6 t) 2 ![2, 0, 0] rfl _ r
  | 3 => exact ld_bias (iblk m c 6 t) 3 ![3, 0, 0] rfl _ r
  | 4 => exact ld_bias (iblk m c 6 t) 4 ![4, 0, 0] rfl _ r
  | 5 => exact ld_bias (iblk m c 6 t) 5 ![5, 0, 0] rfl _ r
  | 6 => exact ld_bias (iblk m c 6 t) 6 ![6, 0, 0] rfl _ r
  | 7 => exact ld_bias (iblk m c 6 t) 7 ![7, 0, 0] rfl _ r

end Cert.SgStage
end
-- ==== Proof.SgRun.lean ====
/-
  What the gradient kernel of the spatial gating mixer leaves in its result blocks at each grid point: the blocks it
  writes once hold the reference's rows, and the blocks it carries from point to point gain that point's share.
-/
module

public import proofs.«01_k».proof.Proof.SgGrad
public import proofs.«01_k».proof.Proof.SgInput

@[expose] public section

set_option maxRecDepth 16384

noncomputable section

namespace Cert.SgStage

open Idealize.ShloMosaic Idealize.ShloMosaic.TcCoe Idealize.ShloMosaic.Tactic Idealize.SL.Sem
open Cert.SgBwdIdeal Cert.SgBwdIdeal.Gen
open Cert.SgRefIdeal.Read

/-! ## Reading lists of pieces that are the slabs of one head each -/

theorem off2 : (![0, 0] : Fin 2 → Nat) = fun _ => 0 := funext fun a => by fin_cases a <;> rfl
theorem off3 : (![0, 0, 0] : Fin 3 → Nat) = fun _ => 0 := funext fun a => by fin_cases a <;> rfl

theorem ld_rows {e : EltTy} (X : Vec Ideal S128x1024 e) (inb) : View.ld X (Rect.unit ![0, 0] ![128, 1024] inb) = X :=
  View.ld_unit_zero (S := S128x1024) off2 inb X
theorem ld_line {e : EltTy} (X : Vec Ideal S1x1024 e) (inb) : View.ld X (Rect.unit ![0, 0] ![1, 1024] inb) = X :=
  View.ld_unit_zero (S := S1x1024) off2 inb X

theorem emb_w (h : Fin 8) (r k : Fin 128) (o : Fin 3 → Nat) (ho : o = ![h.val, 0, 0]) (inb) :
    (Rect.unit (s := S8x128x128) o ![1, 128, 128] inb).emb (ix3 0 r k) = (ix3 h r k) := by
  subst ho
  funext a
  apply Fin.ext
  match a with
  | ⟨0, _⟩ => show h.val + 1 * 0 = h.val; omega
  | ⟨1, _⟩ => show 0 + 1 * r.val = r.val; omega
  | ⟨2, _⟩ => show 0 + 1 * k.val = k.val; omega

theorem hit_w (h : Fin 8) (r k : Fin 128) (o : Fin 3 → Nat) (ho : o = ![h.val, 0, 0]) (inb) (w : S1x128x128.Idx → Elt Ideal .f32)
    (L : List (View.Piece (Elt Ideal) S8x128x128 .f32)) :
    View.canon ((⟨Rect.unit (s := S8x128x128) o ![1, 128, 128] inb, w⟩ : View.Piece (Elt Ideal) S8x128x128 .f32) :: L) (ix3 h r k) = w (ix3 0 r k) := by
  rw [← emb_w h r k o ho inb]
  exact View.canon_cons_emb (Rect.unit (s := S8x128x128) o ![1, 128, 128] inb) w L (ix3 0 r k)

theorem miss_w (h : Fin 8) (r k : Fin 128) (n : Nat) (hn : n ≠ h.val) (inb) (w : S1x128x128.Idx → Elt Ideal .f32)
    (L : List (View.Piece (Elt Ideal) S8x128x128 .f32)) :
    View.canon ((⟨Rect.unit (s := S8x128x128) ![n, 0, 0] ![1, 128, 128] inb, w⟩ : View.Piece (Elt Ideal) S8x128x128 .f32) :: L) (ix3 h r k) = View.canon L (ix3 h r k) := by
  refine View.canon_cons_of_not_mem _ _ fun hm => hn ?_
  dsimp only at hm
  rw [Rect.mem_set_unit] at hm
  have h1 : n ≤ h.val ∧ h.val < n + 1 := hm 0
  omega

theorem cov_w {sig : RefSig} {κ : Kind} {sp : Space} (v : View sig κ sp S8x128x128 .f32) (h : Fin 8) (r k : Fin 128) (o : Fin 3 → Nat)
    (ho : o = ![h.val, 0, 0]) (inb) (L : List (View.Piece (Elt Ideal) S8x128x128 .f32)) :
    v.readCov L (Rect.unit (s := S8x128x128) o ![1, 128, 128] inb).toLoadRect (ix3 0 r k) = View.canon L (ix3 h r k) := by
  rw [View.readCov_eq_canon']
  exact congrArg (View.canon L) (emb_w h r k o ho inb)

theorem emb_b (h : Fin 8) (r : Fin 128) (o : Fin 3 → Nat) (ho : o = ![h.val, 0, 0]) (inb) :
    (Rect.unit (s := S8x128x1) o ![1, 128, 1] inb).emb (ix3 0 r 0) = (ix3 h r 0) := by
  subst ho
  funext a
  apply Fin.ext
  match a with
  | ⟨0, _⟩ => show h.val + 1 * 0 = h.val; omega
  | ⟨1, _⟩ => show 0 + 1 * r.val = r.val; omega
  | ⟨2, _⟩ => rfl

theorem hit_b (h : Fin 8) (r : Fin 128) (o : Fin 3 → Nat) (ho : o = ![h.val, 0, 0]) (inb) (w : S1x128x1.Idx → Elt Ideal .f32)
    (L : List (View.Piece (Elt Ideal) S8x128x1 .f32)) :
    View.canon ((⟨Rect.unit (s := S8x128x1) o ![1, 128, 1] inb, w⟩ : View.Piece (Elt Ideal) S8x128x1 .f32) :: L) (ix3 h r 0) = w (ix3 0 r 0) := by
  rw [← emb_b h r o ho inb]
  exact View.canon_cons_emb (Rect.unit (s := S8x128x1) o ![1, 128, 1] inb) w L (ix3 0 r 0)

theorem miss_b (h : Fin 8) (r : Fin 128) (n : Nat) (hn : n ≠ h.val) (inb) (w : S1x128x1.Idx → Elt Ideal .f32)
    (L : List (View.Piece (Elt Ideal) S8x128x1 .f32)) :
    View.canon ((⟨Rect.unit (s := S8x128x1) ![n, 0, 0] ![1, 128, 1] inb, w⟩ : View.Piece (Elt Ideal) S8x128x1 .f32) :: L) (ix3 h r 0) = View.canon L (ix3 h r 0) := by
  refine View.canon_cons_of_not_mem _ _ fun hm => hn ?_
  dsimp only at hm
  rw [Rect.mem_set_unit] at hm
  have h1 : n ≤ h.val ∧ h.val < n + 1 := hm 0
  omega

theorem cov_b {sig : RefSig} {κ : Kind} {sp : Space} (v : View sig κ sp S8x128x1 .f32) (h : Fin 8) (r : Fin 128) (o : Fin 3 → Nat)
    (ho : o = ![h.val, 0, 0]) (inb) (L : List (View.Piece (Elt Ideal) S8x128x1 .f32)) :
    v.readCov L (Rect.unit (s := S8x128x1) o ![1, 128, 1] inb).toLoadRect (ix3 0 r 0) = View.canon L (ix3 h r 0) := by
  rw [View.readCov_eq_canon']
  exact congrArg (View.canon L) (emb_b h r o ho inb)

/-! ## The blocks at one point -/

variable (m : (ℓ : Loc nD τ sig) → Buf (Elt Ideal) ℓ)

/-- The number of columns, as the body passes it on. -/
abbrev cnt : Ideal .f32 := FloatOps.ofBits FTy.f32 1149239296#32

/-- The gradient of the mixed values of the block at point `t`, as the body computes it. -/
def gmix (c : Dev nD) (t : Fin cfg0.N) : FVec Ideal S128x1024 .f32 :=
  k0_pay44 (k0_pay34 (X0_0 m c t)) (k0_pay35 (X0_2 m c t)) (iblk m c 7 t)

theorem gmix_eq (c : Dev nD) (t : Fin cfg0.N) (r : Fin 128) (k : Fin 1024) : gmix m c t (ix2 r k)
    = val_main_v96 (m ((c : Thread nD τ).loc main_arg0)) (m ((c : Thread nD τ).loc main_arg5)) (ix2 (row (pt t) r) k) :=
  dmixed (hU := read_u m c t) (hZ := read_z m c t) (hG := read_g m c t) ..

/-- The normalised values of the block at point `t`, as the body computes them. -/
def vnorm (c : Dev nD) (t : Fin cfg0.N) : FVec Ideal S128x1024 .bf16 := kvn (X0_1 m c t) cnt (iblk m c 3 t) (iblk m c 4 t)

theorem vnorm_eq (c : Dev nD) (t : Fin cfg0.N) (r : Fin 128) (k : Fin 1024) : vnorm m c t (ix2 r k)
    = val_main_v74 (m ((c : Thread nD τ).loc main_arg0)) (m ((c : Thread nD τ).loc main_arg1)) (m ((c : Thread nD τ).loc main_arg2)) (ix2 (row (pt t) r) k) :=
  kvn_eq (hV := read_v m c t) (hq := rfl) (hLW := read_lw m c t) (hLB := read_lb m c t) ..

/-- The mixed values of the block at point `t`. -/
def vmix (c : Dev nD) (t : Fin cfg0.N) : FVec Ideal S128x1024 .f32 := kmixed (X0_1 m c t) cnt (iblk m c 3 t) (iblk m c 4 t) (wh m c t) (bh m c t)

theorem vmix_eq (c : Dev nD) (t : Fin cfg0.N) (r : Fin 128) (k : Fin 1024) : vmix m c t (ix2 r k)
    = val_main_v88 (m ((c : Thread nD τ).loc main_arg0)) (m ((c : Thread nD τ).loc main_arg1)) (m ((c : Thread nD τ).loc main_arg2)) (m ((c : Thread nD τ).loc main_arg3)) (m ((c : Thread nD τ).loc main_arg4)) (ix2 (row (pt t) r) k) :=
  mixed (hV := read_v m c t) (hq := rfl) (hLW := read_lw m c t) (hLB := read_lb m c t) (hW := read_wh m c t) (hB := read_bh m c t) ..

theorem dnorm_eq (c : Dev nD) (t : Fin cfg0.N) (r : Fin 128) (k : Fin 1024) : kdvn (wh m c t) (gmix m c t) (ix2 r k)
    = val_main_v110 (m ((c : Thread nD τ).loc main_arg0)) (m ((c : Thread nD τ).loc main_arg3)) (m ((c : Thread nD τ).loc main_arg5)) (ix2 (row (pt t) r) k) :=
  dvn (hA := gmix_eq m c t) (hW := read_wh m c t) ..

theorem block8 (c : Dev nD) (t : Fin cfg0.N) : (outsAt0 m c t.val t.isLt).1 = k0_pay49 (k0_pay36 (k0_pay34 (X0_0 m c t))) (k0_pay47 (vmix m c t) (k0_pay34 (X0_0 m c t)) (k0_pay35 (X0_2 m c t)) (iblk m c 7 t)) (k0_pay48 (vmix m c t) (k0_pay34 (X0_0 m c t)) (k0_pay35 (X0_2 m c t)) (iblk m c 7 t)) := by
  by_cases h0 : t.val % 16 = 0
  · skip
    rw [outsAt0_A m c t h0]
    dsimp only
    unfold out0_A_8
    rw [View.read_writes_eq_canon _ _ _ (cover0_A_8 c _ _ _ _ _ _ _ _ _ _ _ _ _ _ _ _ _ _ _ _ _ _ _ _ _ _ _ _ _ _ _ _ _ _ _ _ _ _ _ _ )]
    unfold kernelRun0_A
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_11 t).read_unread, (hs0_12 t).read_unread, (hs0_13 t).read_unread, (hs0_14 t).read_unread, ld_rows, ld_line]
    rw [View.canon_unit_zero off2]
    rfl
  · skip
    rw [outsAt0_B m c t h0]
    dsimp only
    unfold out0_B_8
    rw [View.read_writes_eq_canon _ _ _ (cover0_B_8 c _ _ _ _ _ _ _ _ _ _ _ _ _ _ _ _ _ _ _ _ _ _ _ _ _ _ _ _ _ _ _ _ _ _ _ _ _ _ _ _ _ _ _ _ )]
    unfold kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_11 t).read_unread, (hs0_12 t).read_unread, (hs0_13 t).read_unread, (hs0_14 t).read_unread, ld_rows, ld_line]
    rw [View.canon_unit_zero off2]
    rfl

/-- Rows of the result block at a point are the reference's rows. -/
theorem block8_eq (c : Dev nD) (t : Fin cfg0.N) (r : Fin 128) (k : Fin 1024) : (outsAt0 m c t.val t.isLt).1 (ix2 r k)
    = val_main_v168 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (row (pt t) r) k) := by
  rw [block8]
  exact du (hU := read_u m c t) (hZ := read_z m c t) (hG := read_g m c t) (hM := vmix_eq m c t) ..

theorem block10 (c : Dev nD) (t : Fin cfg0.N) : (outsAt0 m c t.val t.isLt).2.2.1 = k0_pay50 (k0_pay43 (vmix m c t) (k0_pay34 (X0_0 m c t)) (k0_pay35 (X0_2 m c t)) (iblk m c 7 t)) := by
  by_cases h0 : t.val % 16 = 0
  · skip
    rw [outsAt0_A m c t h0]
    dsimp only
    unfold out0_A_10
    rw [View.read_writes_eq_canon _ _ _ (cover0_A_10 c _ _ _ _ _ _ _ _ _ _ _ _ _ _ _ _ _ _ _ _ _ _ _ _ _ _ _ _ _ _ _ _ _ _ _ _ _ _ _ _ )]
    unfold kernelRun0_A
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_11 t).read_unread, (hs0_12 t).read_unread, (hs0_13 t).read_unread, (hs0_14 t).read_unread, ld_rows, ld_line]
    rw [View.canon_unit_zero off2]
    rfl
  · skip
    rw [outsAt0_B m c t h0]
    dsimp only
    unfold out0_B_10
    rw [View.read_writes_eq_canon _ _ _ (cover0_B_10 c _ _ _ _ _ _ _ _ _ _ _ _ _ _ _ _ _ _ _ _ _ _ _ _ _ _ _ _ _ _ _ _ _ _ _ _ _ _ _ _ _ _ _ _ )]
    unfold kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_11 t).read_unread, (hs0_12 t).read_unread, (hs0_13 t).read_unread, (hs0_14 t).read_unread, ld_rows, ld_line]
    rw [View.canon_unit_zero off2]
    rfl

/-- Rows of the result block at a point are the reference's rows. -/
theorem block10_eq (c : Dev nD) (t : Fin cfg0.N) (r : Fin 128) (k : Fin 1024) : (outsAt0 m c t.val t.isLt).2.2.1 (ix2 r k)
    = val_main_v170 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (row (pt t) r) k) := by
  rw [block10]
  exact dz (hU := read_u m c t) (hZ := read_z m c t) (hG := read_g m c t) (hM := vmix_eq m c t) ..

theorem block9 (c : Dev nD) (t : Fin cfg0.N) : (outsAt0 m c t.val t.isLt).2.1 = k0_pay107 (k0_pay11 (X0_1 m c t)) (k0_pay14 (X0_1 m c t)) (k0_pay16 (X0_1 m c t)) (k0_pay17 (X0_1 m c t)) (k0_pay22 (k0_pay18 (X0_1 m c t)) (k0_pay19 (X0_1 m c t)) cnt)
    (k0_pay104 (k0_pay10 k0_pay2 (wh m c t 7)) (k0_pay12 (iblk m c 3 t)) (k0_pay25 (k0_pay18 (X0_1 m c t)) (k0_pay19 (X0_1 m c t)) cnt) (k0_pay59 (k0_pay3 (wh m c t 0)) (gmix m c t)) (k0_pay64 (k0_pay4 (wh m c t 1)) (k0_pay61 (gmix m c t)))
    (k0_pay71 (k0_pay5 (wh m c t 2)) (k0_pay66 (gmix m c t))) (k0_pay76 (k0_pay6 (wh m c t 3)) (gmix m c t)) (k0_pay81 (k0_pay7 (wh m c t 4)) (k0_pay78 (gmix m c t)))
    (k0_pay88 (k0_pay8 (wh m c t 5)) (k0_pay83 (gmix m c t))) (k0_pay93 (k0_pay9 k0_pay2 (wh m c t 6)) (gmix m c t)) (k0_pay95 (gmix m c t)))
    (k0_pay105 (k0_pay10 k0_pay2 (wh m c t 7)) (k0_pay12 (iblk m c 3 t)) (k0_pay25 (k0_pay18 (X0_1 m c t)) (k0_pay19 (X0_1 m c t)) cnt) (k0_pay59 (k0_pay3 (wh m c t 0)) (gmix m c t)) (k0_pay64 (k0_pay4 (wh m c t 1)) (k0_pay61 (gmix m c t)))
    (k0_pay71 (k0_pay5 (wh m c t 2)) (k0_pay66 (gmix m c t))) (k0_pay76 (k0_pay6 (wh m c t 3)) (gmix m c t)) (k0_pay81 (k0_pay7 (wh m c t 4)) (k0_pay78 (gmix m c t)))
    (k0_pay88 (k0_pay8 (wh m c t 5)) (k0_pay83 (gmix m c t))) (k0_pay93 (k0_pay9 k0_pay2 (wh m c t 6)) (gmix m c t)) (k0_pay95 (gmix m c t)))
    (k0_pay106 (k0_pay10 k0_pay2 (wh m c t 7)) (k0_pay12 (iblk m c 3 t)) (k0_pay23 (k0_pay18 (X0_1 m c t)) (k0_pay19 (X0_1 m c t)) cnt) (k0_pay26 (k0_pay18 (X0_1 m c t)) (k0_pay19 (X0_1 m c t)) cnt) (k0_pay59 (k0_pay3 (wh m c t 0)) (gmix m c t)) (k0_pay64 (k0_pay4 (wh m c t 1)) (k0_pay61 (gmix m c t)))
    (k0_pay71 (k0_pay5 (wh m c t 2)) (k0_pay66 (gmix m c t))) (k0_pay76 (k0_pay6 (wh m c t 3)) (gmix m c t)) (k0_pay81 (k0_pay7 (wh m c t 4)) (k0_pay78 (gmix m c t)))
    (k0_pay88 (k0_pay8 (wh m c t 5)) (k0_pay83 (gmix m c t))) (k0_pay93 (k0_pay9 k0_pay2 (wh m c t 6)) (gmix m c t)) (k0_pay95 (gmix m c t))) := by
  by_cases h0 : t.val % 16 = 0
  · skip
    rw [outsAt0_A m c t h0]
    dsimp only
    unfold out0_A_9
    rw [View.read_writes_eq_canon _ _ _ (cover0_A_9 c _ _ _ _ _ _ _ _ _ _ _ _ _ _ _ _ _ _ _ _ _ _ _ _ _ _ _ _ _ _ _ _ _ _ _ _ _ _ _ _ )]
    unfold kernelRun0_A
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_11 t).read_unread, (hs0_12 t).read_unread, (hs0_13 t).read_unread, (hs0_14 t).read_unread, ld_rows, ld_line]
    rw [View.canon_unit_zero off2]
    rfl
  · skip
    rw [outsAt0_B m c t h0]
    dsimp only
    unfold out0_B_9
    rw [View.read_writes_eq_canon _ _ _ (cover0_B_9 c _ _ _ _ _ _ _ _ _ _ _ _ _ _ _ _ _ _ _ _ _ _ _ _ _ _ _ _ _ _ _ _ _ _ _ _ _ _ _ _ _ _ _ _ )]
    unfold kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_11 t).read_unread, (hs0_12 t).read_unread, (hs0_13 t).read_unread, (hs0_14 t).read_unread, ld_rows, ld_line]
    rw [View.canon_unit_zero off2]
    rfl

/-- Rows of the result block at a point are the reference's rows. -/
theorem block9_eq (c : Dev nD) (t : Fin cfg0.N) (r : Fin 128) (k : Fin 1024) : (outsAt0 m c t.val t.isLt).2.1 (ix2 r k)
    = val_main_v169 (m ((c : Thread nD τ).loc main_arg0)) (m ((c : Thread nD τ).loc main_arg1)) (m ((c : Thread nD τ).loc main_arg3)) (m ((c : Thread nD τ).loc main_arg5)) (ix2 (row (pt t) r) k) := by
  rw [block9]
  exact dv (hV := read_v m c t) (hq := rfl)
    (hE := fun r k => dcen (hV := read_v m c t) (hq := rfl) (hLW := read_lw m c t) (hD := dnorm_eq m c t) ..)
    (hN := fun r => dmean1 (hV := read_v m c t) (hq := rfl) (hLW := read_lw m c t) (hD := dnorm_eq m c t) ..)
    (hS := fun r k => dvar (hV := read_v m c t) (hq := rfl) (hLW := read_lw m c t) (hD := dnorm_eq m c t) ..) ..

theorem part11 (c : Dev nD) (t : Fin cfg0.N) (k : Fin 1024) : (k0_pay102 (k0_pay10 k0_pay2 (wh m c t 7)) (k0_pay27 (k0_pay18 (X0_1 m c t)) (k0_pay19 (X0_1 m c t)) cnt) (k0_pay59 (k0_pay3 (wh m c t 0)) (gmix m c t)) (k0_pay64 (k0_pay4 (wh m c t 1)) (k0_pay61 (gmix m c t)))
    (k0_pay71 (k0_pay5 (wh m c t 2)) (k0_pay66 (gmix m c t))) (k0_pay76 (k0_pay6 (wh m c t 3)) (gmix m c t)) (k0_pay81 (k0_pay7 (wh m c t 4)) (k0_pay78 (gmix m c t)))
    (k0_pay88 (k0_pay8 (wh m c t 5)) (k0_pay83 (gmix m c t))) (k0_pay93 (k0_pay9 k0_pay2 (wh m c t 6)) (gmix m c t)) (k0_pay95 (gmix m c t))) (ix2 0 k)
    = ∑ r : Fin 128, val_main_v114 (m ((c : Thread nD τ).loc main_arg0)) (m ((c : Thread nD τ).loc main_arg3)) (m ((c : Thread nD τ).loc main_arg5)) (ix2 (row (pt t) r) k) :=
  dlw_part (hV := read_v m c t) (hq := rfl) (hD := dnorm_eq m c t) ..

/-- The carried line at the first point is that point's column sums, -/
theorem line11_A (c : Dev nD) (t : Fin cfg0.N) (h0 : t.val % 16 = 0) (k : Fin 1024) : (outsAt0 m c t.val t.isLt).2.2.2.1 (ix2 0 k)
    = ∑ r : Fin 128, val_main_v114 (m ((c : Thread nD τ).loc main_arg0)) (m ((c : Thread nD τ).loc main_arg3)) (m ((c : Thread nD τ).loc main_arg5)) (ix2 (row (pt t) r) k) := by
  rw [outsAt0_A m c t h0]
  dsimp only
  unfold out0_A_11
  rw [View.read_writes_eq_canon _ _ _ (cover0_A_11 c _ _ _ _ _ _ _ _ _ _ _ _ _ _ _ _ _ _ _ _ _ _ _ _ _ _ _ _ _ _ _ _ _ _ _ _ _ _ _ _ )]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_11 t).read_unread, (hs0_12 t).read_unread, (hs0_13 t).read_unread, (hs0_14 t).read_unread, ld_rows, ld_line]
  rw [View.canon_cons_unit_zero off2, View.readCov_unit_zero (S := S1x1024) _ off2, ← part11 m c t k]
  pointwise [k0_pay108, k0_pay51]
  rfl

/-- and at a later point what the point before left with that point's column sums added. -/
theorem line11_B (c : Dev nD) (t : Fin cfg0.N) (h0 : ¬t.val % 16 = 0) (k : Fin 1024) : (outsAt0 m c t.val t.isLt).2.2.2.1 (ix2 0 k)
    = (outsAt0 m c (t.val - 1) (lt_of_le_of_lt (Nat.sub_le _ _) t.isLt)).2.2.2.1 (ix2 0 k)
      + ∑ r : Fin 128, val_main_v114 (m ((c : Thread nD τ).loc main_arg0)) (m ((c : Thread nD τ).loc main_arg3)) (m ((c : Thread nD τ).loc main_arg5)) (ix2 (row (pt t) r) k) := by
  rw [outsAt0_B m c t h0]
  dsimp only
  unfold out0_B_11
  rw [View.read_writes_eq_canon _ _ _ (cover0_B_11 c _ _ _ _ _ _ _ _ _ _ _ _ _ _ _ _ _ _ _ _ _ _ _ _ _ _ _ _ _ _ _ _ _ _ _ _ _ _ _ _ _ _ _ _ )]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_11 t).read_unread, (hs0_12 t).read_unread, (hs0_13 t).read_unread, (hs0_14 t).read_unread, ld_rows, ld_line]
  rw [View.canon_unit_zero off2, ← part11 m c t k]
  pointwise [k0_pay108]
  rfl

theorem part12 (c : Dev nD) (t : Fin cfg0.N) (k : Fin 1024) : (k0_pay101 (k0_pay10 k0_pay2 (wh m c t 7)) (k0_pay59 (k0_pay3 (wh m c t 0)) (gmix m c t)) (k0_pay64 (k0_pay4 (wh m c t 1)) (k0_pay61 (gmix m c t)))
    (k0_pay71 (k0_pay5 (wh m c t 2)) (k0_pay66 (gmix m c t))) (k0_pay76 (k0_pay6 (wh m c t 3)) (gmix m c t)) (k0_pay81 (k0_pay7 (wh m c t 4)) (k0_pay78 (gmix m c t)))
    (k0_pay88 (k0_pay8 (wh m c t 5)) (k0_pay83 (gmix m c t))) (k0_pay93 (k0_pay9 k0_pay2 (wh m c t 6)) (gmix m c t)) (k0_pay95 (gmix m c t))) (ix2 0 k)
    = ∑ r : Fin 128, val_main_v110 (m ((c : Thread nD τ).loc main_arg0)) (m ((c : Thread nD τ).loc main_arg3)) (m ((c : Thread nD τ).loc main_arg5)) (ix2 (row (pt t) r) k) :=
  dlb_part (hD := dnorm_eq m c t) ..

/-- The carried line at the first point is that point's column sums, -/
theorem line12_A (c : Dev nD) (t : Fin cfg0.N) (h0 : t.val % 16 = 0) (k : Fin 1024) : (outsAt0 m c t.val t.isLt).2.2.2.2.1 (ix2 0 k)
    = ∑ r : Fin 128, val_main_v110 (m ((c : Thread nD τ).loc main_arg0)) (m ((c : Thread nD τ).loc main_arg3)) (m ((c : Thread nD τ).loc main_arg5)) (ix2 (row (pt t) r) k) := by
  rw [outsAt0_A m c t h0]
  dsimp only
  unfold out0_A_12
  rw [View.read_writes_eq_canon _ _ _ (cover0_A_12 c _ _ _ _ _ _ _ _ _ _ _ _ _ _ _ _ _ _ _ _ _ _ _ _ _ _ _ _ _ _ _ _ _ _ _ _ _ _ _ _ )]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_11 t).read_unread, (hs0_12 t).read_unread, (hs0_13 t).read_unread, (hs0_14 t).read_unread, ld_rows, ld_line]
  rw [View.canon_cons_unit_zero off2, View.readCov_unit_zero (S := S1x1024) _ off2, ← part12 m c t k]
  pointwise [k0_pay1, k0_pay52]
  rfl

/-- and at a later point what the point before left with that point's column sums added. -/
theorem line12_B (c : Dev nD) (t : Fin cfg0.N) (h0 : ¬t.val % 16 = 0) (k : Fin 1024) : (outsAt0 m c t.val t.isLt).2.2.2.2.1 (ix2 0 k)
    = (outsAt0 m c (t.val - 1) (lt_of_le_of_lt (Nat.sub_le _ _) t.isLt)).2.2.2.2.1 (ix2 0 k)
      + ∑ r : Fin 128, val_main_v110 (m ((c : Thread nD τ).loc main_arg0)) (m ((c : Thread nD τ).loc main_arg3)) (m ((c : Thread nD τ).loc main_arg5)) (ix2 (row (pt t) r) k) := by
  rw [outsAt0_B m c t h0]
  dsimp only
  unfold out0_B_12
  rw [View.read_writes_eq_canon _ _ _ (cover0_B_12 c _ _ _ _ _ _ _ _ _ _ _ _ _ _ _ _ _ _ _ _ _ _ _ _ _ _ _ _ _ _ _ _ _ _ _ _ _ _ _ _ _ _ _ _ )]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_11 t).read_unread, (hs0_12 t).read_unread, (hs0_13 t).read_unread, (hs0_14 t).read_unread, ld_rows, ld_line]
  rw [View.canon_unit_zero off2, ← part12 m c t k]
  pointwise [k0_pay1]
  rfl

theorem zero13 (i : S8x128x128.Idx) : k0_pay53 (F := Ideal) i = 0 := by
  pointwise [k0_pay53]

/-- The carried slabs of one head each, at the first point, -/
theorem slab13_A (c : Dev nD) (t : Fin cfg0.N) (h0 : t.val % 16 = 0) (h : Fin 8) (r k : Fin 128) : (outsAt0 m c t.val t.isLt).2.2.2.2.2.1 (ix3 h r k)
    = Scalar.select (k0_pay2 (ix2 r k)) (∑ x : Fin 128, gmix m c t (ix2 r (col h x)) * vnorm m c t (ix2 k (col h x))) 0 := by
  rw [outsAt0_A m c t h0]
  dsimp only
  unfold out0_A_13
  rw [View.read_writes_eq_canon _ _ _ (cover0_A_13 c _ _ _ _ _ _ _ _ _ _ _ _ _ _ _ _ _ _ _ _ _ _ _ _ _ _ _ _ _ _ _ _ _ _ _ _ _ _ _ _ )]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_11 t).read_unread, (hs0_12 t).read_unread, (hs0_13 t).read_unread, (hs0_14 t).read_unread, ld_rows, ld_line]
  match h with
  | 0 =>
    rw [miss_w 0 r k 7 (by decide)]
    rw [miss_w 0 r k 6 (by decide)]
    rw [miss_w 0 r k 5 (by decide)]
    rw [miss_w 0 r k 4 (by decide)]
    rw [miss_w 0 r k 3 (by decide)]
    rw [miss_w 0 r k 2 (by decide)]
    rw [miss_w 0 r k 1 (by decide)]
    rw [hit_w 0 r k ![0, 0, 0] rfl]
    refine (kdw_eq (gmix m c t) (vnorm m c t) 0 _ r k).trans ?_
    rw [cov_w _ 0 r k ![0, 0, 0] rfl]
    rw [View.canon_unit_zero off3]
    exact (congrArg (· + _) (zero13 (ix3 0 r k))).trans (zero_add _)
  | 1 =>
    rw [miss_w 1 r k 7 (by decide)]
    rw [miss_w 1 r k 6 (by decide)]
    rw [miss_w 1 r k 5 (by decide)]
    rw [miss_w 1 r k 4 (by decide)]
    rw [miss_w 1 r k 3 (by decide)]
    rw [miss_w 1 r k 2 (by decide)]
    rw [hit_w 1 r k ![1, 0, 0] rfl]
    refine (kdw_eq (gmix m c t) (vnorm m c t) 1 _ r k).trans ?_
    rw [cov_w _ 1 r k ![1, 0, 0] rfl]
    rw [miss_w 1 r k 0 (by decide)]
    rw [View.canon_unit_zero off3]
    exact (congrArg (· + _) (zero13 (ix3 1 r k))).trans (zero_add _)
  | 2 =>
    rw [miss_w 2 r k 7 (by decide)]
    rw [miss_w 2 r k 6 (by decide)]
    rw [miss_w 2 r k 5 (by decide)]
    rw [miss_w 2 r k 4 (by decide)]
    rw [miss_w 2 r k 3 (by decide)]
    rw [hit_w 2 r k ![2, 0, 0] rfl]
    refine (kdw_eq (gmix m c t) (vnorm m c t) 2 _ r k).trans ?_
    rw [cov_w _ 2 r k ![2, 0, 0] rfl]
    rw [miss_w 2 r k 1 (by decide)]
    rw [miss_w 2 r k 0 (by decide)]
    rw [View.canon_unit_zero off3]
    exact (congrArg (· + _) (zero13 (ix3 2 r k))).trans (zero_add _)
  | 3 =>
    rw [miss_w 3 r k 7 (by decide)]
    rw [miss_w 3 r k 6 (by decide)]
    rw [miss_w 3 r k 5 (by decide)]
    rw [miss_w 3 r k 4 (by decide)]
    rw [hit_w 3 r k ![3, 0, 0] rfl]
    refine (kdw_eq (gmix m c t) (vnorm m c t) 3 _ r k).trans ?_
    rw [cov_w _ 3 r k ![3, 0, 0] rfl]
    rw [miss_w 3 r k 2 (by decide)]
    rw [miss_w 3 r k 1 (by decide)]
    rw [miss_w 3 r k 0 (by decide)]
    rw [View.canon_unit_zero off3]
    exact (congrArg (· + _) (zero13 (ix3 3 r k))).trans (zero_add _)
  | 4 =>
    rw [miss_w 4 r k 7 (by decide)]
    rw [miss_w 4 r k 6 (by decide)]
    rw [miss_w 4 r k 5 (by decide)]
    rw [hit_w 4 r k ![4, 0, 0] rfl]
    refine (kdw_eq (gmix m c t) (vnorm m c t) 4 _ r k).trans ?_
    rw [cov_w _ 4 r k ![4, 0, 0] rfl]
    rw [miss_w 4 r k 3 (by decide)]
    rw [miss_w 4 r k 2 (by decide)]
    rw [miss_w 4 r k 1 (by decide)]
    rw [miss_w 4 r k 0 (by decide)]
    rw [View.canon_unit_zero off3]
    exact (congrArg (· + _) (zero13 (ix3 4 r k))).trans (zero_add _)
  | 5 =>
    rw [miss_w 5 r k 7 (by decide)]
    rw [miss_w 5 r k 6 (by decide)]
    rw [hit_w 5 r k ![5, 0, 0] rfl]
    refine (kdw_eq (gmix m c t) (vnorm m c t) 5 _ r k).trans ?_
    rw [cov_w _ 5 r k ![5, 0, 0] rfl]
    rw [miss_w 5 r k 4 (by decide)]
    rw [miss_w 5 r k 3 (by decide)]
    rw [miss_w 5 r k 2 (by decide)]
    rw [miss_w 5 r k 1 (by decide)]
    rw [miss_w 5 r k 0 (by decide)]
    rw [View.canon_unit_zero off3]
    exact (congrArg (· + _) (zero13 (ix3 5 r k))).trans (zero_add _)
  | 6 =>
    rw [miss_w 6 r k 7 (by decide)]
    rw [hit_w 6 r k ![6, 0, 0] rfl]
    refine (kdw_eq (gmix m c t) (vnorm m c t) 6 _ r k).trans ?_
    rw [cov_w _ 6 r k ![6, 0, 0] rfl]
    rw [miss_w 6 r k 5 (by decide)]
    rw [miss_w 6 r k 4 (by decide)]
    rw [miss_w 6 r k 3 (by decide)]
    rw [miss_w 6 r k 2 (by decide)]
    rw [miss_w 6 r k 1 (by decide)]
    rw [miss_w 6 r k 0 (by decide)]
    rw [View.canon_unit_zero off3]
    exact (congrArg (· + _) (zero13 (ix3 6 r k))).trans (zero_add _)
  | 7 =>
    rw [hit_w 7 r k ![7, 0, 0] rfl]
    refine (kdw_eq (gmix m c t) (vnorm m c t) 7 _ r k).trans ?_
    rw [cov_w _ 7 r k ![7, 0, 0] rfl]
    rw [miss_w 7 r k 6 (by decide)]
    rw [miss_w 7 r k 5 (by decide)]
    rw [miss_w 7 r k 4 (by decide)]
    rw [miss_w 7 r k 3 (by decide)]
    rw [miss_w 7 r k 2 (by decide)]
    rw [miss_w 7 r k 1 (by decide)]
    rw [miss_w 7 r k 0 (by decide)]
    rw [View.canon_unit_zero off3]
    exact (congrArg (· + _) (zero13 (ix3 7 r k))).trans (zero_add _)

/-- and at a later point what the point before left with that point's share added. -/
theorem slab13_B (c : Dev nD) (t : Fin cfg0.N) (h0 : ¬t.val % 16 = 0) (h : Fin 8) (r k : Fin 128) : (outsAt0 m c t.val t.isLt).2.2.2.2.2.1 (ix3 h r k)
    = (outsAt0 m c (t.val - 1) (lt_of_le_of_lt (Nat.sub_le _ _) t.isLt)).2.2.2.2.2.1 (ix3 h r k) + Scalar.select (k0_pay2 (ix2 r k)) (∑ x : Fin 128, gmix m c t (ix2 r (col h x)) * vnorm m c t (ix2 k (col h x))) 0 := by
  rw [outsAt0_B m c t h0]
  dsimp only
  unfold out0_B_13
  rw [View.read_writes_eq_canon _ _ _ (cover0_B_13 c _ _ _ _ _ _ _ _ _ _ _ _ _ _ _ _ _ _ _ _ _ _ _ _ _ _ _ _ _ _ _ _ _ _ _ _ _ _ _ _ _ _ _ _ )]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_11 t).read_unread, (hs0_12 t).read_unread, (hs0_13 t).read_unread, (hs0_14 t).read_unread, ld_rows, ld_line]
  match h with
  | 0 =>
    rw [miss_w 0 r k 7 (by decide)]
    rw [miss_w 0 r k 6 (by decide)]
    rw [miss_w 0 r k 5 (by decide)]
    rw [miss_w 0 r k 4 (by decide)]
    rw [miss_w 0 r k 3 (by decide)]
    rw [miss_w 0 r k 2 (by decide)]
    rw [miss_w 0 r k 1 (by decide)]
    rw [hit_w 0 r k ![0, 0, 0] rfl]
    refine (kdw_eq (gmix m c t) (vnorm m c t) 0 _ r k).trans ?_
    exact congrArg (· + _) (ld_head _ 0 _ rfl _ r k)
  | 1 =>
    rw [miss_w 1 r k 7 (by decide)]
    rw [miss_w 1 r k 6 (by decide)]
    rw [miss_w 1 r k 5 (by decide)]
    rw [miss_w 1 r k 4 (by decide)]
    rw [miss_w 1 r k 3 (by decide)]
    rw [miss_w 1 r k 2 (by decide)]
    rw [hit_w 1 r k ![1, 0, 0] rfl]
    refine (kdw_eq (gmix m c t) (vnorm m c t) 1 _ r k).trans ?_
    exact congrArg (· + _) (ld_head _ 1 _ rfl _ r k)
  | 2 =>
    rw [miss_w 2 r k 7 (by decide)]
    rw [miss_w 2 r k 6 (by decide)]
    rw [miss_w 2 r k 5 (by decide)]
    rw [miss_w 2 r k 4 (by decide)]
    rw [miss_w 2 r k 3 (by decide)]
    rw [hit_w 2 r k ![2, 0, 0] rfl]
    refine (kdw_eq (gmix m c t) (vnorm m c t) 2 _ r k).trans ?_
    exact congrArg (· + _) (ld_head _ 2 _ rfl _ r k)
  | 3 =>
    rw [miss_w 3 r k 7 (by decide)]
    rw [miss_w 3 r k 6 (by decide)]
    rw [miss_w 3 r k 5 (by decide)]
    rw [miss_w 3 r k 4 (by decide)]
    rw [hit_w 3 r k ![3, 0, 0] rfl]
    refine (kdw_eq (gmix m c t) (vnorm m c t) 3 _ r k).trans ?_
    exact congrArg (· + _) (ld_head _ 3 _ rfl _ r k)
  | 4 =>
    rw [miss_w 4 r k 7 (by decide)]
    rw [miss_w 4 r k 6 (by decide)]
    rw [miss_w 4 r k 5 (by decide)]
    rw [hit_w 4 r k ![4, 0, 0] rfl]
    refine (kdw_eq (gmix m c t) (vnorm m c t) 4 _ r k).trans ?_
    exact congrArg (· + _) (ld_head _ 4 _ rfl _ r k)
  | 5 =>
    rw [miss_w 5 r k 7 (by decide)]
    rw [miss_w 5 r k 6 (by decide)]
    rw [hit_w 5 r k ![5, 0, 0] rfl]
    refine (kdw_eq (gmix m c t) (vnorm m c t) 5 _ r k).trans ?_
    exact congrArg (· + _) (ld_head _ 5 _ rfl _ r k)
  | 6 =>
    rw [miss_w 6 r k 7 (by decide)]
    rw [hit_w 6 r k ![6, 0, 0] rfl]
    refine (kdw_eq (gmix m c t) (vnorm m c t) 6 _ r k).trans ?_
    exact congrArg (· + _) (ld_head _ 6 _ rfl _ r k)
  | 7 =>
    rw [hit_w 7 r k ![7, 0, 0] rfl]
    refine (kdw_eq (gmix m c t) (vnorm m c t) 7 _ r k).trans ?_
    exact congrArg (· + _) (ld_head _ 7 _ rfl _ r k)

theorem zero14 (i : S8x128x1.Idx) : k0_pay54 (F := Ideal) i = 0 := by
  pointwise [k0_pay54]

/-- The carried slabs of one head each, at the first point, -/
theorem slab14_A (c : Dev nD) (t : Fin cfg0.N) (h0 : t.val % 16 = 0) (h : Fin 8) (r : Fin 128) : (outsAt0 m c t.val t.isLt).2.2.2.2.2.2 (ix3 h r 0)
    = ∑ x : Fin 128, gmix m c t (ix2 r (col h x)) := by
  rw [outsAt0_A m c t h0]
  dsimp only
  unfold out0_A_14
  rw [View.read_writes_eq_canon _ _ _ (cover0_A_14 c _ _ _ _ _ _ _ _ _ _ _ _ _ _ _ _ _ _ _ _ _ _ _ _ _ _ _ _ _ _ _ _ _ _ _ _ _ _ _ _ )]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_11 t).read_unread, (hs0_12 t).read_unread, (hs0_13 t).read_unread, (hs0_14 t).read_unread, ld_rows, ld_line]
  match h with
  | 0 =>
    rw [miss_b 0 r 7 (by decide)]
    rw [miss_b 0 r 6 (by decide)]
    rw [miss_b 0 r 5 (by decide)]
    rw [miss_b 0 r 4 (by decide)]
    rw [miss_b 0 r 3 (by decide)]
    rw [miss_b 0 r 2 (by decide)]
    rw [miss_b 0 r 1 (by decide)]
    rw [hit_b 0 r ![0, 0, 0] rfl]
    refine (kdb_eq (gmix m c t) 0 _ r).trans ?_
    rw [cov_b _ 0 r ![0, 0, 0] rfl]
    rw [View.canon_unit_zero off3]
    exact (congrArg (· + _) (zero14 (ix3 0 r 0))).trans (zero_add _)
  | 1 =>
    rw [miss_b 1 r 7 (by decide)]
    rw [miss_b 1 r 6 (by decide)]
    rw [miss_b 1 r 5 (by decide)]
    rw [miss_b 1 r 4 (by decide)]
    rw [miss_b 1 r 3 (by decide)]
    rw [miss_b 1 r 2 (by decide)]
    rw [hit_b 1 r ![1, 0, 0] rfl]
    refine (kdb_eq (gmix m c t) 1 _ r).trans ?_
    rw [cov_b _ 1 r ![1, 0, 0] rfl]
    rw [miss_b 1 r 0 (by decide)]
    rw [View.canon_unit_zero off3]
    exact (congrArg (· + _) (zero14 (ix3 1 r 0))).trans (zero_add _)
  | 2 =>
    rw [miss_b 2 r 7 (by decide)]
    rw [miss_b 2 r 6 (by decide)]
    rw [miss_b 2 r 5 (by decide)]
    rw [miss_b 2 r 4 (by decide)]
    rw [miss_b 2 r 3 (by decide)]
    rw [hit_b 2 r ![2, 0, 0] rfl]
    refine (kdb_eq (gmix m c t) 2 _ r).trans ?_
    rw [cov_b _ 2 r ![2, 0, 0] rfl]
    rw [miss_b 2 r 1 (by decide)]
    rw [miss_b 2 r 0 (by decide)]
    rw [View.canon_unit_zero off3]
    exact (congrArg (· + _) (zero14 (ix3 2 r 0))).trans (zero_add _)
  | 3 =>
    rw [miss_b 3 r 7 (by decide)]
    rw [miss_b 3 r 6 (by decide)]
    rw [miss_b 3 r 5 (by decide)]
    rw [miss_b 3 r 4 (by decide)]
    rw [hit_b 3 r ![3, 0, 0] rfl]
    refine (kdb_eq (gmix m c t) 3 _ r).trans ?_
    rw [cov_b _ 3 r ![3, 0, 0] rfl]
    rw [miss_b 3 r 2 (by decide)]
    rw [miss_b 3 r 1 (by decide)]
    rw [miss_b 3 r 0 (by decide)]
    rw [View.canon_unit_zero off3]
    exact (congrArg (· + _) (zero14 (ix3 3 r 0))).trans (zero_add _)
  | 4 =>
    rw [miss_b 4 r 7 (by decide)]
    rw [miss_b 4 r 6 (by decide)]
    rw [miss_b 4 r 5 (by decide)]
    rw [hit_b 4 r ![4, 0, 0] rfl]
    refine (kdb_eq (gmix m c t) 4 _ r).trans ?_
    rw [cov_b _ 4 r ![4, 0, 0] rfl]
    rw [miss_b 4 r 3 (by decide)]
    rw [miss_b 4 r 2 (by decide)]
    rw [miss_b 4 r 1 (by decide)]
    rw [miss_b 4 r 0 (by decide)]
    rw [View.canon_unit_zero off3]
    exact (congrArg (· + _) (zero14 (ix3 4 r 0))).trans (zero_add _)
  | 5 =>
    rw [miss_b 5 r 7 (by decide)]
    rw [miss_b 5 r 6 (by decide)]
    rw [hit_b 5 r ![5, 0, 0] rfl]
    refine (kdb_eq (gmix m c t) 5 _ r).trans ?_
    rw [cov_b _ 5 r ![5, 0, 0] rfl]
    rw [miss_b 5 r 4 (by decide)]
    rw [miss_b 5 r 3 (by decide)]
    rw [miss_b 5 r 2 (by decide)]
    rw [miss_b 5 r 1 (by decide)]
    rw [miss_b 5 r 0 (by decide)]
    rw [View.canon_unit_zero off3]
    exact (congrArg (· + _) (zero14 (ix3 5 r 0))).trans (zero_add _)
  | 6 =>
    rw [miss_b 6 r 7 (by decide)]
    rw [hit_b 6 r ![6, 0, 0] rfl]
    refine (kdb_eq (gmix m c t) 6 _ r).trans ?_
    rw [cov_b _ 6 r ![6, 0, 0] rfl]
    rw [miss_b 6 r 5 (by decide)]
    rw [miss_b 6 r 4 (by decide)]
    rw [miss_b 6 r 3 (by decide)]
    rw [miss_b 6 r 2 (by decide)]
    rw [miss_b 6 r 1 (by decide)]
    rw [miss_b 6 r 0 (by decide)]
    rw [View.canon_unit_zero off3]
    exact (congrArg (· + _) (zero14 (ix3 6 r 0))).trans (zero_add _)
  | 7 =>
    rw [hit_b 7 r ![7, 0, 0] rfl]
    refine (kdb_eq (gmix m c t) 7 _ r).trans ?_
    rw [cov_b _ 7 r ![7, 0, 0] rfl]
    rw [miss_b 7 r 6 (by decide)]
    rw [miss_b 7 r 5 (by decide)]
    rw [miss_b 7 r 4 (by decide)]
    rw [miss_b 7 r 3 (by decide)]
    rw [miss_b 7 r 2 (by decide)]
    rw [miss_b 7 r 1 (by decide)]
    rw [miss_b 7 r 0 (by decide)]
    rw [View.canon_unit_zero off3]
    exact (congrArg (· + _) (zero14 (ix3 7 r 0))).trans (zero_add _)

/-- and at a later point what the point before left with that point's share added. -/
theorem slab14_B (c : Dev nD) (t : Fin cfg0.N) (h0 : ¬t.val % 16 = 0) (h : Fin 8) (r : Fin 128) : (outsAt0 m c t.val t.isLt).2.2.2.2.2.2 (ix3 h r 0)
    = (outsAt0 m c (t.val - 1) (lt_of_le_of_lt (Nat.sub_le _ _) t.isLt)).2.2.2.2.2.2 (ix3 h r 0) + ∑ x : Fin 128, gmix m c t (ix2 r (col h x)) := by
  rw [outsAt0_B m c t h0]
  dsimp only
  unfold out0_B_14
  rw [View.read_writes_eq_canon _ _ _ (cover0_B_14 c _ _ _ _ _ _ _ _ _ _ _ _ _ _ _ _ _ _ _ _ _ _ _ _ _ _ _ _ _ _ _ _ _ _ _ _ _ _ _ _ _ _ _ _ )]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_11 t).read_unread, (hs0_12 t).read_unread, (hs0_13 t).read_unread, (hs0_14 t).read_unread, ld_rows, ld_line]
  match h with
  | 0 =>
    rw [miss_b 0 r 7 (by decide)]
    rw [miss_b 0 r 6 (by decide)]
    rw [miss_b 0 r 5 (by decide)]
    rw [miss_b 0 r 4 (by decide)]
    rw [miss_b 0 r 3 (by decide)]
    rw [miss_b 0 r 2 (by decide)]
    rw [miss_b 0 r 1 (by decide)]
    rw [hit_b 0 r ![0, 0, 0] rfl]
    refine (kdb_eq (gmix m c t) 0 _ r).trans ?_
    exact congrArg (· + _) (ld_bias _ 0 _ rfl _ r)
  | 1 =>
    rw [miss_b 1 r 7 (by decide)]
    rw [miss_b 1 r 6 (by decide)]
    rw [miss_b 1 r 5 (by decide)]
    rw [miss_b 1 r 4 (by decide)]
    rw [miss_b 1 r 3 (by decide)]
    rw [miss_b 1 r 2 (by decide)]
    rw [hit_b 1 r ![1, 0, 0] rfl]
    refine (kdb_eq (gmix m c t) 1 _ r).trans ?_
    exact congrArg (· + _) (ld_bias _ 1 _ rfl _ r)
  | 2 =>
    rw [miss_b 2 r 7 (by decide)]
    rw [miss_b 2 r 6 (by decide)]
    rw [miss_b 2 r 5 (by decide)]
    rw [miss_b 2 r 4 (by decide)]
    rw [miss_b 2 r 3 (by decide)]
    rw [hit_b 2 r ![2, 0, 0] rfl]
    refine (kdb_eq (gmix m c t) 2 _ r).trans ?_
    exact congrArg (· + _) (ld_bias _ 2 _ rfl _ r)
  | 3 =>
    rw [miss_b 3 r 7 (by decide)]
    rw [miss_b 3 r 6 (by decide)]
    rw [miss_b 3 r 5 (by decide)]
    rw [miss_b 3 r 4 (by decide)]
    rw [hit_b 3 r ![3, 0, 0] rfl]
    refine (kdb_eq (gmix m c t) 3 _ r).trans ?_
    exact congrArg (· + _) (ld_bias _ 3 _ rfl _ r)
  | 4 =>
    rw [miss_b 4 r 7 (by decide)]
    rw [miss_b 4 r 6 (by decide)]
    rw [miss_b 4 r 5 (by decide)]
    rw [hit_b 4 r ![4, 0, 0] rfl]
    refine (kdb_eq (gmix m c t) 4 _ r).trans ?_
    exact congrArg (· + _) (ld_bias _ 4 _ rfl _ r)
  | 5 =>
    rw [miss_b 5 r 7 (by decide)]
    rw [miss_b 5 r 6 (by decide)]
    rw [hit_b 5 r ![5, 0, 0] rfl]
    refine (kdb_eq (gmix m c t) 5 _ r).trans ?_
    exact congrArg (· + _) (ld_bias _ 5 _ rfl _ r)
  | 6 =>
    rw [miss_b 6 r 7 (by decide)]
    rw [hit_b 6 r ![6, 0, 0] rfl]
    refine (kdb_eq (gmix m c t) 6 _ r).trans ?_
    exact congrArg (· + _) (ld_bias _ 6 _ rfl _ r)
  | 7 =>
    rw [hit_b 7 r ![7, 0, 0] rfl]
    refine (kdb_eq (gmix m c t) 7 _ r).trans ?_
    exact congrArg (· + _) (ld_bias _ 7 _ rfl _ r)

end Cert.SgStage
end
-- ==== Proof.SgFinal.lean ====
/-
  What the gradient kernel of the spatial gating mixer leaves in its result arrays: the seven gradients the reference
  computes.  Three of them are written block by block; the other four are carried from point to point, so that they
  hold the sum of all points' shares when they are written back after the last point.
-/
module

public import proofs.«01_k».proof.Proof.SgRun

@[expose] public section

set_option maxRecDepth 16384

noncomputable section

namespace Cert.SgStage

open Idealize.ShloMosaic Idealize.ShloMosaic.TcCoe Idealize.ShloMosaic.Tactic Idealize.SL.Sem
open Idealize.ShloMosaic.Pipeline (Dat)
open Cert.SgBwdIdeal Cert.SgBwdIdeal.Gen
open Cert.SgRefIdeal.Read

/-- A quantity that starts at the first point's share and gains each later point's share holds, after a point, the sum
of the shares so far. -/
theorem carried (v : (n : ℕ) → n < 16 → EReal) (S : Fin 16 → EReal) (h0 : ∀ (n : ℕ) (h : n < 16), n = 0 → v n h = S ⟨n, h⟩)
    (hs : ∀ (n : ℕ) (h : n < 16), n ≠ 0 → v n h = v (n - 1) (lt_of_le_of_lt (Nat.sub_le n 1) h) + S ⟨n, h⟩) :
    ∀ (n : ℕ) (h : n < 16), v n h = ∑ j : Fin (n + 1), S ⟨j.val, lt_of_lt_of_le j.isLt h⟩
  | 0, h => by rw [h0 0 h rfl, Fin.sum_univ_one]; rfl
  | n + 1, h => by
    have e : v (n + 1 - 1) (lt_of_le_of_lt (Nat.sub_le (n + 1) 1) h) = v n (Nat.lt_of_succ_lt h) := rfl
    rw [hs (n + 1) h (Nat.succ_ne_zero n), e, carried v S h0 hs n, Fin.sum_univ_castSucc (n := n + 1)]
    rfl

/-- After the last point it holds the sum of all shares. -/
theorem carried_last (v : (n : ℕ) → n < 16 → EReal) (S : Fin 16 → EReal) (h0 : ∀ (n : ℕ) (h : n < 16), n = 0 → v n h = S ⟨n, h⟩)
    (hs : ∀ (n : ℕ) (h : n < 16), n ≠ 0 → v n h = v (n - 1) (lt_of_le_of_lt (Nat.sub_le n 1) h) + S ⟨n, h⟩)
    (n : ℕ) (h : n < 16) (hn : n = 15) : v n h = ∑ t : Fin 16, S t := by
  subst hn
  exact carried v S h0 hs 15 h

/-- A sum over all rows, block by block. -/
theorem sum_rows (f : Fin 2048 → EReal) : ∑ n : Fin 2048, f n = ∑ t : Fin 16, ∑ r : Fin 128, f (row t r) :=
  Fin.sum_univ_tiles 16 128 (by decide) f

/-- A masked sum is the sum of the masked terms. -/
theorem select_sum (b : BitVec 1) (f : Fin 16 → EReal) :
    (Scalar.select b (∑ t, f t) 0 : EReal) = ∑ t, (Scalar.select b (f t) 0 : EReal) := by
  unfold Scalar.select
  split
  · rfl
  · exact Finset.sum_const_zero.symm

variable (m : (ℓ : Loc nD τ sig) → Buf (Elt Ideal) ℓ)

/-- The gradient result 8 ends with, as the reference's array. -/
abbrev goal8 (c : Dev nD) : Vec Ideal S2048x1024 .bf16 := val_main_v168 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

theorem at8 : ∀ t : Fin cfg0.N, win0_8.index t 0 = t.val ∧ win0_8.index t 1 = 0 :=
  (by decide +kernel : ∀ t : Fin grid0.N, win0_8.index t 0 = t.val ∧ win0_8.index t 1 = 0)

theorem span8 : ∀ t : Fin cfg0.N, win0_8.index t 0 * win0_8.size 0 = t.val * 128 ∧ win0_8.xsize (grid0.coords t) 0 = 128
    ∧ win0_8.index t 1 * win0_8.size 1 = 0 ∧ win0_8.xsize (grid0.coords t) 1 = 1024 :=
  (by decide +kernel : ∀ t : Fin grid0.N, win0_8.index t 0 * win0_8.size 0 = t.val * 128 ∧ win0_8.xsize (grid0.coords t) 0 = 128
    ∧ win0_8.index t 1 * win0_8.size 1 = 0 ∧ win0_8.xsize (grid0.coords t) 1 = 1024)

theorem wrote8 (c : Dev nD) (t : Fin cfg0.N) :
    (dats m 0 c).flushed 8 t = ((cfg0.win 8).blk t).view.read (Elt Ideal) (goal8 m c) := by
  rw [Value.flushed8]
  funext j
  rw [View.read_apply]
  have e : (j : S128x1024.Idx) = ix2 (j 0) (j 1) := funext fun a => match a with | ⟨0, _⟩ => rfl | ⟨1, _⟩ => rfl
  refine Eq.trans (congrArg (outsAt0 m c t.val t.isLt).1 e) ((block8_eq m c t (j 0) (j 1)).trans ?_)
  show goal8 m c _ = goal8 m c _
  congr 1
  funext a
  apply Fin.ext
  match a with
  | ⟨0, _⟩ => show t.val * 128 + (j 0).val = win0_8.index t 0 * 128 + 1 * (j 0).val; rw [(at8 t).1]; omega
  | ⟨1, _⟩ => show (j 1).val = win0_8.index t 1 * 1024 + 1 * (j 1).val; rw [(at8 t).2]; omega

theorem covers8 (i : S2048x1024.Idx) : ∃ t : Fin cfg0.N, (cfg0.win 8).flush t = true ∧ i ∈ ((cfg0.win 8).blk t).view.set := by
  have h0 : (i 0 : Nat) < 2048 := (i 0).isLt
  have h1 : (i 1 : Nat) < 1024 := (i 1).isLt
  have hN : cfg0.N = 16 := N_0
  obtain ⟨t, ht⟩ : ∃ t : Fin cfg0.N, t.val = (i 0 : Nat) / 128 := ⟨⟨(i 0 : Nat) / 128, by omega⟩, rfl⟩
  refine ⟨t, flush0_8 t, ?_⟩
  show i ∈ ((View.whole main_v3_0).slice (win0_8.rect t)).set
  rw [View.set_slice_whole, Rect.mem_set_unit]
  obtain ⟨e1, e2, e3, e4⟩ := span8 t
  intro a
  match a with
  | ⟨0, _⟩ => show win0_8.index t 0 * win0_8.size 0 ≤ (i 0 : Nat) ∧ (i 0 : Nat) < win0_8.index t 0 * win0_8.size 0 + win0_8.xsize (grid0.coords t) 0
              rw [e1, e2]; omega
  | ⟨1, _⟩ => show win0_8.index t 1 * win0_8.size 1 ≤ (i 1 : Nat) ∧ (i 1 : Nat) < win0_8.index t 1 * win0_8.size 1 + win0_8.xsize (grid0.coords t) 1
              rw [e3, e4]; omega

theorem final8 (c : Dev nD) : (dats m 0 c).arrAt 8 cfg0.N = goal8 m c :=
  (dats m 0 c).arrAt_eq_of_cover 8 (goal8 m c) (fun t _ => wrote8 m c t) covers8

/-- The gradient result 9 ends with, as the reference's array. -/
abbrev goal9 (c : Dev nD) : Vec Ideal S2048x1024 .bf16 := val_main_v169 (m ((c : Thread nD τ).loc main_arg0)) (m ((c : Thread nD τ).loc main_arg1)) (m ((c : Thread nD τ).loc main_arg3)) (m ((c : Thread nD τ).loc main_arg5))

theorem at9 : ∀ t : Fin cfg0.N, win0_9.index t 0 = t.val ∧ win0_9.index t 1 = 0 :=
  (by decide +kernel : ∀ t : Fin grid0.N, win0_9.index t 0 = t.val ∧ win0_9.index t 1 = 0)

theorem span9 : ∀ t : Fin cfg0.N, win0_9.index t 0 * win0_9.size 0 = t.val * 128 ∧ win0_9.xsize (grid0.coords t) 0 = 128
    ∧ win0_9.index t 1 * win0_9.size 1 = 0 ∧ win0_9.xsize (grid0.coords t) 1 = 1024 :=
  (by decide +kernel : ∀ t : Fin grid0.N, win0_9.index t 0 * win0_9.size 0 = t.val * 128 ∧ win0_9.xsize (grid0.coords t) 0 = 128
    ∧ win0_9.index t 1 * win0_9.size 1 = 0 ∧ win0_9.xsize (grid0.coords t) 1 = 1024)

theorem wrote9 (c : Dev nD) (t : Fin cfg0.N) :
    (dats m 0 c).flushed 9 t = ((cfg0.win 9).blk t).view.read (Elt Ideal) (goal9 m c) := by
  rw [Value.flushed9]
  funext j
  rw [View.read_apply]
  have e : (j : S128x1024.Idx) = ix2 (j 0) (j 1) := funext fun a => match a with | ⟨0, _⟩ => rfl | ⟨1, _⟩ => rfl
  refine Eq.trans (congrArg (outsAt0 m c t.val t.isLt).2.1 e) ((block9_eq m c t (j 0) (j 1)).trans ?_)
  show goal9 m c _ = goal9 m c _
  congr 1
  funext a
  apply Fin.ext
  match a with
  | ⟨0, _⟩ => show t.val * 128 + (j 0).val = win0_9.index t 0 * 128 + 1 * (j 0).val; rw [(at9 t).1]; omega
  | ⟨1, _⟩ => show (j 1).val = win0_9.index t 1 * 1024 + 1 * (j 1).val; rw [(at9 t).2]; omega

theorem covers9 (i : S2048x1024.Idx) : ∃ t : Fin cfg0.N, (cfg0.win 9).flush t = true ∧ i ∈ ((cfg0.win 9).blk t).view.set := by
  have h0 : (i 0 : Nat) < 2048 := (i 0).isLt
  have h1 : (i 1 : Nat) < 1024 := (i 1).isLt
  have hN : cfg0.N = 16 := N_0
  obtain ⟨t, ht⟩ : ∃ t : Fin cfg0.N, t.val = (i 0 : Nat) / 128 := ⟨⟨(i 0 : Nat) / 128, by omega⟩, rfl⟩
  refine ⟨t, flush0_9 t, ?_⟩
  show i ∈ ((View.whole main_v3_1).slice (win0_9.rect t)).set
  rw [View.set_slice_whole, Rect.mem_set_unit]
  obtain ⟨e1, e2, e3, e4⟩ := span9 t
  intro a
  match a with
  | ⟨0, _⟩ => show win0_9.index t 0 * win0_9.size 0 ≤ (i 0 : Nat) ∧ (i 0 : Nat) < win0_9.index t 0 * win0_9.size 0 + win0_9.xsize (grid0.coords t) 0
              rw [e1, e2]; omega
  | ⟨1, _⟩ => show win0_9.index t 1 * win0_9.size 1 ≤ (i 1 : Nat) ∧ (i 1 : Nat) < win0_9.index t 1 * win0_9.size 1 + win0_9.xsize (grid0.coords t) 1
              rw [e3, e4]; omega

theorem final9 (c : Dev nD) : (dats m 0 c).arrAt 9 cfg0.N = goal9 m c :=
  (dats m 0 c).arrAt_eq_of_cover 9 (goal9 m c) (fun t _ => wrote9 m c t) covers9

/-- The gradient result 10 ends with, as the reference's array. -/
abbrev goal10 (c : Dev nD) : Vec Ideal S2048x1024 .bf16 := val_main_v170 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

theorem at10 : ∀ t : Fin cfg0.N, win0_10.index t 0 = t.val ∧ win0_10.index t 1 = 0 :=
  (by decide +kernel : ∀ t : Fin grid0.N, win0_10.index t 0 = t.val ∧ win0_10.index t 1 = 0)

theorem span10 : ∀ t : Fin cfg0.N, win0_10.index t 0 * win0_10.size 0 = t.val * 128 ∧ win0_10.xsize (grid0.coords t) 0 = 128
    ∧ win0_10.index t 1 * win0_10.size 1 = 0 ∧ win0_10.xsize (grid0.coords t) 1 = 1024 :=
  (by decide +kernel : ∀ t : Fin grid0.N, win0_10.index t 0 * win0_10.size 0 = t.val * 128 ∧ win0_10.xsize (grid0.coords t) 0 = 128
    ∧ win0_10.index t 1 * win0_10.size 1 = 0 ∧ win0_10.xsize (grid0.coords t) 1 = 1024)

theorem wrote10 (c : Dev nD) (t : Fin cfg0.N) :
    (dats m 0 c).flushed 10 t = ((cfg0.win 10).blk t).view.read (Elt Ideal) (goal10 m c) := by
  rw [Value.flushed10]
  funext j
  rw [View.read_apply]
  have e : (j : S128x1024.Idx) = ix2 (j 0) (j 1) := funext fun a => match a with | ⟨0, _⟩ => rfl | ⟨1, _⟩ => rfl
  refine Eq.trans (congrArg (outsAt0 m c t.val t.isLt).2.2.1 e) ((block10_eq m c t (j 0) (j 1)).trans ?_)
  show goal10 m c _ = goal10 m c _
  congr 1
  funext a
  apply Fin.ext
  match a with
  | ⟨0, _⟩ => show t.val * 128 + (j 0).val = win0_10.index t 0 * 128 + 1 * (j 0).val; rw [(at10 t).1]; omega
  | ⟨1, _⟩ => show (j 1).val = win0_10.index t 1 * 1024 + 1 * (j 1).val; rw [(at10 t).2]; omega

theorem covers10 (i : S2048x1024.Idx) : ∃ t : Fin cfg0.N, (cfg0.win 10).flush t = true ∧ i ∈ ((cfg0.win 10).blk t).view.set := by
  have h0 : (i 0 : Nat) < 2048 := (i 0).isLt
  have h1 : (i 1 : Nat) < 1024 := (i 1).isLt
  have hN : cfg0.N = 16 := N_0
  obtain ⟨t, ht⟩ : ∃ t : Fin cfg0.N, t.val = (i 0 : Nat) / 128 := ⟨⟨(i 0 : Nat) / 128, by omega⟩, rfl⟩
  refine ⟨t, flush0_10 t, ?_⟩
  show i ∈ ((View.whole main_v3_2).slice (win0_10.rect t)).set
  rw [View.set_slice_whole, Rect.mem_set_unit]
  obtain ⟨e1, e2, e3, e4⟩ := span10 t
  intro a
  match a with
  | ⟨0, _⟩ => show win0_10.index t 0 * win0_10.size 0 ≤ (i 0 : Nat) ∧ (i 0 : Nat) < win0_10.index t 0 * win0_10.size 0 + win0_10.xsize (grid0.coords t) 0
              rw [e1, e2]; omega
  | ⟨1, _⟩ => show win0_10.index t 1 * win0_10.size 1 ≤ (i 1 : Nat) ∧ (i 1 : Nat) < win0_10.index t 1 * win0_10.size 1 + win0_10.xsize (grid0.coords t) 1
              rw [e3, e4]; omega

theorem final10 (c : Dev nD) : (dats m 0 c).arrAt 10 cfg0.N = goal10 m c :=
  (dats m 0 c).arrAt_eq_of_cover 10 (goal10 m c) (fun t _ => wrote10 m c t) covers10

abbrev goal11 (c : Dev nD) : Vec Ideal S1x1024 .f32 := val_main_v171 (m ((c : Thread nD τ).loc main_arg0)) (m ((c : Thread nD τ).loc main_arg3)) (m ((c : Thread nD τ).loc main_arg5))

/-- The share of block `t` in carried result 11. -/
def share11 (c : Dev nD) (k : Fin 1024) (t : Fin 16) : EReal := ∑ r : Fin 128, val_main_v114 (m ((c : Thread nD τ).loc main_arg0)) (m ((c : Thread nD τ).loc main_arg3)) (m ((c : Thread nD τ).loc main_arg5)) (ix2 (row t r) k)

theorem all11 (c : Dev nD) (k : Fin 1024) : ∑ t : Fin 16, share11 m c k t = goal11 m c (ix2 0 k) := by
  show _ = val_main_v171 (m ((c : Thread nD τ).loc main_arg0)) (m ((c : Thread nD τ).loc main_arg3)) (m ((c : Thread nD τ).loc main_arg5)) (ix2 0 k)
  rw [ref_dlw, sum_rows]
  rfl

theorem carry11 (c : Dev nD) (k : Fin 1024) (t : Fin cfg0.N) (ht : t.val = 15) : (outsAt0 m c t.val t.isLt).2.2.2.1 (ix2 0 k) = goal11 m c (ix2 0 k) := by
  have hN : cfg0.N = 16 := N_0
  rw [← all11]
  refine carried_last (fun n hn => (outsAt0 m c n (lt_of_lt_of_eq hn N_0.symm)).2.2.2.1 (ix2 0 k)) (share11 m c k) ?_ ?_ t.val (lt_of_lt_of_eq t.isLt N_0) ht
  · intro n hn h0
    refine (line11_A m c ⟨n, lt_of_lt_of_eq hn N_0.symm⟩ (by show n % 16 = 0; omega) k).trans ?_
    skip
    rfl
  · intro n hn h0
    refine (line11_B m c ⟨n, lt_of_lt_of_eq hn N_0.symm⟩ (by show ¬n % 16 = 0; omega) k).trans ?_
    skip
    rfl

theorem span11 : ∀ t : Fin cfg0.N, win0_11.index t 0 * win0_11.size 0 = 0 ∧ win0_11.xsize (grid0.coords t) 0 = 1 ∧ win0_11.index t 1 * win0_11.size 1 = 0 ∧ win0_11.xsize (grid0.coords t) 1 = 1024 :=
  (by decide +kernel : ∀ t : Fin grid0.N, win0_11.index t 0 * win0_11.size 0 = 0 ∧ win0_11.xsize (grid0.coords t) 0 = 1 ∧ win0_11.index t 1 * win0_11.size 1 = 0 ∧ win0_11.xsize (grid0.coords t) 1 = 1024)

theorem at11 : ∀ t : Fin cfg0.N, ∀ a, win0_11.index t a = 0 :=
  (by decide +kernel : ∀ t : Fin grid0.N, ∀ a, win0_11.index t a = 0)

theorem wrote11 (c : Dev nD) (t : Fin cfg0.N) (hf : (cfg0.win 11).flush t = true) :
    (dats m 0 c).flushed 11 t = ((cfg0.win 11).blk t).view.read (Elt Ideal) (goal11 m c) := by
  have hN : cfg0.N = 16 := N_0
  have ht : t.val = 15 := by have := (flush0_11 t).mp hf; have := t.isLt; omega
  rw [Value.flushed11]
  funext j
  rw [View.read_apply]
  have eta : ∀ i : S1x1024.Idx, i = (ix2 0 (i 1) : S1x1024.Idx) := fun i => funext fun a => match a with | ⟨0, _⟩ => Fin.ext (by have := (i 0).isLt; have h : (i 0).val < 1 := (i 0).isLt; show (i 0).val = 0; omega) | ⟨1, _⟩ => rfl
  have e := fun i : S1x1024.Idx => (congrArg (outsAt0 m c t.val t.isLt).2.2.2.1 (eta i)).trans ((carry11 m c (i 1) t ht).trans (congrArg (goal11 m c) (eta i).symm))
  refine Eq.trans (e j) ?_
  show goal11 m c _ = goal11 m c _
  congr 1
  funext a
  apply Fin.ext
  match a with
  | ⟨0, _⟩ => show (j 0).val = win0_11.index t 0 * 1 + 1 * (j 0).val; rw [at11]; omega
  | ⟨1, _⟩ => show (j 1).val = win0_11.index t 1 * 1024 + 1 * (j 1).val; rw [at11]; omega

theorem covers11 (i : S1x1024.Idx) : ∃ t : Fin cfg0.N, (cfg0.win 11).flush t = true ∧ i ∈ ((cfg0.win 11).blk t).view.set := by
  have hN : cfg0.N = 16 := N_0
  obtain ⟨t, ht⟩ : ∃ t : Fin cfg0.N, t.val = 15 := ⟨⟨15, by omega⟩, rfl⟩
  refine ⟨t, (flush0_11 t).mpr (by omega), ?_⟩
  show i ∈ ((View.whole main_v3_3).slice (win0_11.rect t)).set
  rw [View.set_slice_whole, Rect.mem_set_unit]
  obtain ⟨e0, f0, e1, f1⟩ := span11 t
  have h0 : (i 0 : Nat) < 1 := (i 0).isLt
  have h1 : (i 1 : Nat) < 1024 := (i 1).isLt
  intro a
  match a with
  | ⟨0, _⟩ => show win0_11.index t 0 * win0_11.size 0 ≤ (i 0 : Nat) ∧ (i 0 : Nat) < win0_11.index t 0 * win0_11.size 0 + win0_11.xsize (grid0.coords t) 0
              rw [e0, f0]; omega
  | ⟨1, _⟩ => show win0_11.index t 1 * win0_11.size 1 ≤ (i 1 : Nat) ∧ (i 1 : Nat) < win0_11.index t 1 * win0_11.size 1 + win0_11.xsize (grid0.coords t) 1
              rw [e1, f1]; omega

theorem final11 (c : Dev nD) : (dats m 0 c).arrAt 11 cfg0.N = goal11 m c :=
  (dats m 0 c).arrAt_eq_of_cover 11 (goal11 m c) (wrote11 m c) covers11

abbrev goal12 (c : Dev nD) : Vec Ideal S1x1024 .f32 := val_main_v172 (m ((c : Thread nD τ).loc main_arg0)) (m ((c : Thread nD τ).loc main_arg3)) (m ((c : Thread nD τ).loc main_arg5))

/-- The share of block `t` in carried result 12. -/
def share12 (c : Dev nD) (k : Fin 1024) (t : Fin 16) : EReal := ∑ r : Fin 128, val_main_v110 (m ((c : Thread nD τ).loc main_arg0)) (m ((c : Thread nD τ).loc main_arg3)) (m ((c : Thread nD τ).loc main_arg5)) (ix2 (row t r) k)

theorem all12 (c : Dev nD) (k : Fin 1024) : ∑ t : Fin 16, share12 m c k t = goal12 m c (ix2 0 k) := by
  show _ = val_main_v172 (m ((c : Thread nD τ).loc main_arg0)) (m ((c : Thread nD τ).loc main_arg3)) (m ((c : Thread nD τ).loc main_arg5)) (ix2 0 k)
  rw [ref_dlb, sum_rows]
  rfl

theorem carry12 (c : Dev nD) (k : Fin 1024) (t : Fin cfg0.N) (ht : t.val = 15) : (outsAt0 m c t.val t.isLt).2.2.2.2.1 (ix2 0 k) = goal12 m c (ix2 0 k) := by
  have hN : cfg0.N = 16 := N_0
  rw [← all12]
  refine carried_last (fun n hn => (outsAt0 m c n (lt_of_lt_of_eq hn N_0.symm)).2.2.2.2.1 (ix2 0 k)) (share12 m c k) ?_ ?_ t.val (lt_of_lt_of_eq t.isLt N_0) ht
  · intro n hn h0
    refine (line12_A m c ⟨n, lt_of_lt_of_eq hn N_0.symm⟩ (by show n % 16 = 0; omega) k).trans ?_
    skip
    rfl
  · intro n hn h0
    refine (line12_B m c ⟨n, lt_of_lt_of_eq hn N_0.symm⟩ (by show ¬n % 16 = 0; omega) k).trans ?_
    skip
    rfl

theorem span12 : ∀ t : Fin cfg0.N, win0_12.index t 0 * win0_12.size 0 = 0 ∧ win0_12.xsize (grid0.coords t) 0 = 1 ∧ win0_12.index t 1 * win0_12.size 1 = 0 ∧ win0_12.xsize (grid0.coords t) 1 = 1024 :=
  (by decide +kernel : ∀ t : Fin grid0.N, win0_12.index t 0 * win0_12.size 0 = 0 ∧ win0_12.xsize (grid0.coords t) 0 = 1 ∧ win0_12.index t 1 * win0_12.size 1 = 0 ∧ win0_12.xsize (grid0.coords t) 1 = 1024)

theorem at12 : ∀ t : Fin cfg0.N, ∀ a, win0_12.index t a = 0 :=
  (by decide +kernel : ∀ t : Fin grid0.N, ∀ a, win0_12.index t a = 0)

theorem wrote12 (c : Dev nD) (t : Fin cfg0.N) (hf : (cfg0.win 12).flush t = true) :
    (dats m 0 c).flushed 12 t = ((cfg0.win 12).blk t).view.read (Elt Ideal) (goal12 m c) := by
  have hN : cfg0.N = 16 := N_0
  have ht : t.val = 15 := by have := (flush0_12 t).mp hf; have := t.isLt; omega
  rw [Value.flushed12]
  funext j
  rw [View.read_apply]
  have eta : ∀ i : S1x1024.Idx, i = (ix2 0 (i 1) : S1x1024.Idx) := fun i => funext fun a => match a with | ⟨0, _⟩ => Fin.ext (by have := (i 0).isLt; have h : (i 0).val < 1 := (i 0).isLt; show (i 0).val = 0; omega) | ⟨1, _⟩ => rfl
  have e := fun i : S1x1024.Idx => (congrArg (outsAt0 m c t.val t.isLt).2.2.2.2.1 (eta i)).trans ((carry12 m c (i 1) t ht).trans (congrArg (goal12 m c) (eta i).symm))
  refine Eq.trans (e j) ?_
  show goal12 m c _ = goal12 m c _
  congr 1
  funext a
  apply Fin.ext
  match a with
  | ⟨0, _⟩ => show (j 0).val = win0_12.index t 0 * 1 + 1 * (j 0).val; rw [at12]; omega
  | ⟨1, _⟩ => show (j 1).val = win0_12.index t 1 * 1024 + 1 * (j 1).val; rw [at12]; omega

theorem covers12 (i : S1x1024.Idx) : ∃ t : Fin cfg0.N, (cfg0.win 12).flush t = true ∧ i ∈ ((cfg0.win 12).blk t).view.set := by
  have hN : cfg0.N = 16 := N_0
  obtain ⟨t, ht⟩ : ∃ t : Fin cfg0.N, t.val = 15 := ⟨⟨15, by omega⟩, rfl⟩
  refine ⟨t, (flush0_12 t).mpr (by omega), ?_⟩
  show i ∈ ((View.whole main_v3_4).slice (win0_12.rect t)).set
  rw [View.set_slice_whole, Rect.mem_set_unit]
  obtain ⟨e0, f0, e1, f1⟩ := span12 t
  have h0 : (i 0 : Nat) < 1 := (i 0).isLt
  have h1 : (i 1 : Nat) < 1024 := (i 1).isLt
  intro a
  match a with
  | ⟨0, _⟩ => show win0_12.index t 0 * win0_12.size 0 ≤ (i 0 : Nat) ∧ (i 0 : Nat) < win0_12.index t 0 * win0_12.size 0 + win0_12.xsize (grid0.coords t) 0
              rw [e0, f0]; omega
  | ⟨1, _⟩ => show win0_12.index t 1 * win0_12.size 1 ≤ (i 1 : Nat) ∧ (i 1 : Nat) < win0_12.index t 1 * win0_12.size 1 + win0_12.xsize (grid0.coords t) 1
              rw [e1, f1]; omega

theorem final12 (c : Dev nD) : (dats m 0 c).arrAt 12 cfg0.N = goal12 m c :=
  (dats m 0 c).arrAt_eq_of_cover 12 (goal12 m c) (wrote12 m c) covers12

abbrev goal13 (c : Dev nD) : Vec Ideal S8x128x128 .f32 := val_main_v109 (m ((c : Thread nD τ).loc main_arg0)) (m ((c : Thread nD τ).loc main_arg1)) (m ((c : Thread nD τ).loc main_arg2)) (m ((c : Thread nD τ).loc main_arg5))

/-- The share of block `t` in carried result 13. -/
def share13 (c : Dev nD) (h : Fin 8) (r k : Fin 128) (t : Fin 16) : EReal := Scalar.select (k0_pay2 (ix2 r k)) (∑ x : Fin 128, val_main_v96 (m ((c : Thread nD τ).loc main_arg0)) (m ((c : Thread nD τ).loc main_arg5)) (ix2 (row t r) (col h x)) * val_main_v74 (m ((c : Thread nD τ).loc main_arg0)) (m ((c : Thread nD τ).loc main_arg1)) (m ((c : Thread nD τ).loc main_arg2)) (ix2 (row t k) (col h x))) 0

theorem all13 (c : Dev nD) (h : Fin 8) (r k : Fin 128) : ∑ t : Fin 16, share13 m c h r k t = goal13 m c (ix3 h r k) := by
  show _ = val_main_v109 (m ((c : Thread nD τ).loc main_arg0)) (m ((c : Thread nD τ).loc main_arg1)) (m ((c : Thread nD τ).loc main_arg2)) (m ((c : Thread nD τ).loc main_arg5)) (ix3 h r k)
  rw [ref_dw, select_sum]
  rfl

theorem carry13 (c : Dev nD) (h : Fin 8) (r k : Fin 128) (t : Fin cfg0.N) (ht : t.val = 15) : (outsAt0 m c t.val t.isLt).2.2.2.2.2.1 (ix3 h r k) = goal13 m c (ix3 h r k) := by
  have hN : cfg0.N = 16 := N_0
  rw [← all13]
  refine carried_last (fun n hn => (outsAt0 m c n (lt_of_lt_of_eq hn N_0.symm)).2.2.2.2.2.1 (ix3 h r k)) (share13 m c h r k) ?_ ?_ t.val (lt_of_lt_of_eq t.isLt N_0) ht
  · intro n hn h0
    refine (slab13_A m c ⟨n, lt_of_lt_of_eq hn N_0.symm⟩ (by show n % 16 = 0; omega) h r k).trans ?_
    simp only [gmix_eq, vnorm_eq]
    rfl
  · intro n hn h0
    refine (slab13_B m c ⟨n, lt_of_lt_of_eq hn N_0.symm⟩ (by show ¬n % 16 = 0; omega) h r k).trans ?_
    simp only [gmix_eq, vnorm_eq]
    rfl

theorem span13 : ∀ t : Fin cfg0.N, win0_13.index t 0 * win0_13.size 0 = 0 ∧ win0_13.xsize (grid0.coords t) 0 = 8 ∧ win0_13.index t 1 * win0_13.size 1 = 0 ∧ win0_13.xsize (grid0.coords t) 1 = 128 ∧ win0_13.index t 2 * win0_13.size 2 = 0 ∧ win0_13.xsize (grid0.coords t) 2 = 128 :=
  (by decide +kernel : ∀ t : Fin grid0.N, win0_13.index t 0 * win0_13.size 0 = 0 ∧ win0_13.xsize (grid0.coords t) 0 = 8 ∧ win0_13.index t 1 * win0_13.size 1 = 0 ∧ win0_13.xsize (grid0.coords t) 1 = 128 ∧ win0_13.index t 2 * win0_13.size 2 = 0 ∧ win0_13.xsize (grid0.coords t) 2 = 128)

theorem at13 : ∀ t : Fin cfg0.N, ∀ a, win0_13.index t a = 0 :=
  (by decide +kernel : ∀ t : Fin grid0.N, ∀ a, win0_13.index t a = 0)

theorem wrote13 (c : Dev nD) (t : Fin cfg0.N) (hf : (cfg0.win 13).flush t = true) :
    (dats m 0 c).flushed 13 t = ((cfg0.win 13).blk t).view.read (Elt Ideal) (goal13 m c) := by
  have hN : cfg0.N = 16 := N_0
  have ht : t.val = 15 := by have := (flush0_13 t).mp hf; have := t.isLt; omega
  rw [Value.flushed13]
  funext j
  rw [View.read_apply]
  have eta : ∀ i : S8x128x128.Idx, i = (ix3 (i 0) (i 1) (i 2) : S8x128x128.Idx) := fun i => funext fun a => match a with | ⟨0, _⟩ => rfl | ⟨1, _⟩ => rfl | ⟨2, _⟩ => rfl
  have e := fun i : S8x128x128.Idx => (congrArg (outsAt0 m c t.val t.isLt).2.2.2.2.2.1 (eta i)).trans ((carry13 m c (i 0) (i 1) (i 2) t ht).trans (congrArg (goal13 m c) (eta i).symm))
  refine Eq.trans (e j) ?_
  show goal13 m c _ = goal13 m c _
  congr 1
  funext a
  apply Fin.ext
  match a with
  | ⟨0, _⟩ => show (j 0).val = win0_13.index t 0 * 8 + 1 * (j 0).val; rw [at13]; omega
  | ⟨1, _⟩ => show (j 1).val = win0_13.index t 1 * 128 + 1 * (j 1).val; rw [at13]; omega
  | ⟨2, _⟩ => show (j 2).val = win0_13.index t 2 * 128 + 1 * (j 2).val; rw [at13]; omega

theorem covers13 (i : S8x128x128.Idx) : ∃ t : Fin cfg0.N, (cfg0.win 13).flush t = true ∧ i ∈ ((cfg0.win 13).blk t).view.set := by
  have hN : cfg0.N = 16 := N_0
  obtain ⟨t, ht⟩ : ∃ t : Fin cfg0.N, t.val = 15 := ⟨⟨15, by omega⟩, rfl⟩
  refine ⟨t, (flush0_13 t).mpr (by omega), ?_⟩
  show i ∈ ((View.whole main_v3_5).slice (win0_13.rect t)).set
  rw [View.set_slice_whole, Rect.mem_set_unit]
  obtain ⟨e0, f0, e1, f1, e2, f2⟩ := span13 t
  have h0 : (i 0 : Nat) < 8 := (i 0).isLt
  have h1 : (i 1 : Nat) < 128 := (i 1).isLt
  have h2 : (i 2 : Nat) < 128 := (i 2).isLt
  intro a
  match a with
  | ⟨0, _⟩ => show win0_13.index t 0 * win0_13.size 0 ≤ (i 0 : Nat) ∧ (i 0 : Nat) < win0_13.index t 0 * win0_13.size 0 + win0_13.xsize (grid0.coords t) 0
              rw [e0, f0]; omega
  | ⟨1, _⟩ => show win0_13.index t 1 * win0_13.size 1 ≤ (i 1 : Nat) ∧ (i 1 : Nat) < win0_13.index t 1 * win0_13.size 1 + win0_13.xsize (grid0.coords t) 1
              rw [e1, f1]; omega
  | ⟨2, _⟩ => show win0_13.index t 2 * win0_13.size 2 ≤ (i 2 : Nat) ∧ (i 2 : Nat) < win0_13.index t 2 * win0_13.size 2 + win0_13.xsize (grid0.coords t) 2
              rw [e2, f2]; omega

theorem final13 (c : Dev nD) : (dats m 0 c).arrAt 13 cfg0.N = goal13 m c :=
  (dats m 0 c).arrAt_eq_of_cover 13 (goal13 m c) (wrote13 m c) covers13

abbrev goal14 (c : Dev nD) : Vec Ideal S8x128x1 .f32 := val_main_v173 (m ((c : Thread nD τ).loc main_arg0)) (m ((c : Thread nD τ).loc main_arg5))

/-- The share of block `t` in carried result 14. -/
def share14 (c : Dev nD) (h : Fin 8) (r : Fin 128) (t : Fin 16) : EReal := ∑ x : Fin 128, val_main_v96 (m ((c : Thread nD τ).loc main_arg0)) (m ((c : Thread nD τ).loc main_arg5)) (ix2 (row t r) (col h x))

theorem all14 (c : Dev nD) (h : Fin 8) (r : Fin 128) : ∑ t : Fin 16, share14 m c h r t = goal14 m c (ix3 h r 0) := by
  show _ = val_main_v173 (m ((c : Thread nD τ).loc main_arg0)) (m ((c : Thread nD τ).loc main_arg5)) (ix3 h r 0)
  rw [ref_db]
  rfl

theorem carry14 (c : Dev nD) (h : Fin 8) (r : Fin 128) (t : Fin cfg0.N) (ht : t.val = 15) : (outsAt0 m c t.val t.isLt).2.2.2.2.2.2 (ix3 h r 0) = goal14 m c (ix3 h r 0) := by
  have hN : cfg0.N = 16 := N_0
  rw [← all14]
  refine carried_last (fun n hn => (outsAt0 m c n (lt_of_lt_of_eq hn N_0.symm)).2.2.2.2.2.2 (ix3 h r 0)) (share14 m c h r) ?_ ?_ t.val (lt_of_lt_of_eq t.isLt N_0) ht
  · intro n hn h0
    refine (slab14_A m c ⟨n, lt_of_lt_of_eq hn N_0.symm⟩ (by show n % 16 = 0; omega) h r).trans ?_
    simp only [gmix_eq]
    rfl
  · intro n hn h0
    refine (slab14_B m c ⟨n, lt_of_lt_of_eq hn N_0.symm⟩ (by show ¬n % 16 = 0; omega) h r).trans ?_
    simp only [gmix_eq]
    rfl

theorem span14 : ∀ t : Fin cfg0.N, win0_14.index t 0 * win0_14.size 0 = 0 ∧ win0_14.xsize (grid0.coords t) 0 = 8 ∧ win0_14.index t 1 * win0_14.size 1 = 0 ∧ win0_14.xsize (grid0.coords t) 1 = 128 ∧ win0_14.index t 2 * win0_14.size 2 = 0 ∧ win0_14.xsize (grid0.coords t) 2 = 1 :=
  (by decide +kernel : ∀ t : Fin grid0.N, win0_14.index t 0 * win0_14.size 0 = 0 ∧ win0_14.xsize (grid0.coords t) 0 = 8 ∧ win0_14.index t 1 * win0_14.size 1 = 0 ∧ win0_14.xsize (grid0.coords t) 1 = 128 ∧ win0_14.index t 2 * win0_14.size 2 = 0 ∧ win0_14.xsize (grid0.coords t) 2 = 1)

theorem at14 : ∀ t : Fin cfg0.N, ∀ a, win0_14.index t a = 0 :=
  (by decide +kernel : ∀ t : Fin grid0.N, ∀ a, win0_14.index t a = 0)

theorem wrote14 (c : Dev nD) (t : Fin cfg0.N) (hf : (cfg0.win 14).flush t = true) :
    (dats m 0 c).flushed 14 t = ((cfg0.win 14).blk t).view.read (Elt Ideal) (goal14 m c) := by
  have hN : cfg0.N = 16 := N_0
  have ht : t.val = 15 := by have := (flush0_14 t).mp hf; have := t.isLt; omega
  rw [Value.flushed14]
  funext j
  rw [View.read_apply]
  have eta : ∀ i : S8x128x1.Idx, i = (ix3 (i 0) (i 1) 0 : S8x128x1.Idx) := fun i => funext fun a => match a with | ⟨0, _⟩ => rfl | ⟨1, _⟩ => rfl | ⟨2, _⟩ => Fin.ext (by have h : (i 2).val < 1 := (i 2).isLt; show (i 2).val = 0; omega)
  have e := fun i : S8x128x1.Idx => (congrArg (outsAt0 m c t.val t.isLt).2.2.2.2.2.2 (eta i)).trans ((carry14 m c (i 0) (i 1) t ht).trans (congrArg (goal14 m c) (eta i).symm))
  refine Eq.trans (e j) ?_
  show goal14 m c _ = goal14 m c _
  congr 1
  funext a
  apply Fin.ext
  match a with
  | ⟨0, _⟩ => show (j 0).val = win0_14.index t 0 * 8 + 1 * (j 0).val; rw [at14]; omega
  | ⟨1, _⟩ => show (j 1).val = win0_14.index t 1 * 128 + 1 * (j 1).val; rw [at14]; omega
  | ⟨2, _⟩ => show (j 2).val = win0_14.index t 2 * 1 + 1 * (j 2).val; rw [at14]; omega

theorem covers14 (i : S8x128x1.Idx) : ∃ t : Fin cfg0.N, (cfg0.win 14).flush t = true ∧ i ∈ ((cfg0.win 14).blk t).view.set := by
  have hN : cfg0.N = 16 := N_0
  obtain ⟨t, ht⟩ : ∃ t : Fin cfg0.N, t.val = 15 := ⟨⟨15, by omega⟩, rfl⟩
  refine ⟨t, (flush0_14 t).mpr (by omega), ?_⟩
  show i ∈ ((View.whole main_v3_6).slice (win0_14.rect t)).set
  rw [View.set_slice_whole, Rect.mem_set_unit]
  obtain ⟨e0, f0, e1, f1, e2, f2⟩ := span14 t
  have h0 : (i 0 : Nat) < 8 := (i 0).isLt
  have h1 : (i 1 : Nat) < 128 := (i 1).isLt
  have h2 : (i 2 : Nat) < 1 := (i 2).isLt
  intro a
  match a with
  | ⟨0, _⟩ => show win0_14.index t 0 * win0_14.size 0 ≤ (i 0 : Nat) ∧ (i 0 : Nat) < win0_14.index t 0 * win0_14.size 0 + win0_14.xsize (grid0.coords t) 0
              rw [e0, f0]; omega
  | ⟨1, _⟩ => show win0_14.index t 1 * win0_14.size 1 ≤ (i 1 : Nat) ∧ (i 1 : Nat) < win0_14.index t 1 * win0_14.size 1 + win0_14.xsize (grid0.coords t) 1
              rw [e1, f1]; omega
  | ⟨2, _⟩ => show win0_14.index t 2 * win0_14.size 2 ≤ (i 2 : Nat) ∧ (i 2 : Nat) < win0_14.index t 2 * win0_14.size 2 + win0_14.xsize (grid0.coords t) 2
              rw [e2, f2]; omega

theorem final14 (c : Dev nD) : (dats m 0 c).arrAt 14 cfg0.N = goal14 m c :=
  (dats m 0 c).arrAt_eq_of_cover 14 (goal14 m c) (wrote14 m c) covers14

variable (ρ : Dev nD → PrngReg)

/-- The kernel's run: its seven results end holding the reference's gradients, its arguments as they were. -/
theorem sg_run : θ_run defs (onTc (τ := τ) (main (F := Ideal))) ⟨m, fun _ => 0, ρ⟩ fun r => ∀ c : Dev nD,
      r.2.mem ((c : Thread nD τ).loc main_v3_0) = goal8 m c
      ∧ r.2.mem ((c : Thread nD τ).loc main_v3_1) = goal9 m c
      ∧ r.2.mem ((c : Thread nD τ).loc main_v3_2) = goal10 m c
      ∧ r.2.mem ((c : Thread nD τ).loc main_v3_3) = goal11 m c
      ∧ r.2.mem ((c : Thread nD τ).loc main_v3_4) = goal12 m c
      ∧ r.2.mem ((c : Thread nD τ).loc main_v3_5) = goal13 m c
      ∧ r.2.mem ((c : Thread nD τ).loc main_v3_6) = goal14 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => by
    obtain ⟨h0, h1, h2, h3, h4, h5, h6, hr⟩ := h c
    exact ⟨h0.trans (final8 m c), h1.trans (final9 m c), h2.trans (final10 m c), h3.trans (final11 m c), h4.trans (final12 m c),
      h5.trans (final13 m c), h6.trans (final14 m c), hr⟩) (Value.run_blocks m ρ)

end Cert.SgStage
end
-- ==== Proof.SgClaims.lean ====
/-
  The claims about the gradient kernel of the spatial gating mixer.
-/
module

public import proofs.«01_k».proof.Defs
public import proofs.«01_k».proof.Proof.Gen.SgBwd.Frame
public import proofs.«01_k».proof.Proof.SgFinal
public import proofs.«01_k».proof.Proof.Gen.SgRefIdeal.Run

@[expose] public section

noncomputable section

namespace Cert.Proof.Sg

open Idealize.ShloMosaic Idealize.ShloMosaic.TcCoe Idealize.ShloMosaic.StableHlo Idealize.SL.Sem

/-- The kernel runs, keeps its arguments and leaves every counter at zero. -/
theorem frame : Cert.quiescent_SgBwd := fun m ρ _ => Cert.SgBwd.Gen.frame m ρ

/-- So does its idealization. -/
theorem frame_ideal : Cert.quiescent_SgBwdIdeal := fun m ρ _ => Cert.SgBwdIdeal.Gen.frame m ρ

/-- And so does the reference, a host program without semaphores. -/
theorem frame_ref : Cert.quiescent_SgRefIdeal := fun m ρ _ =>
  (θ_run Cert.SgRefIdeal.defs _ _).mono (fun r h => ⟨fun c => (h c).2.2.2.2.2.2.2,
      Idealize.ShloMosaic.sem_eq_zero_of_no_sems (by decide) r.2⟩)
    (Cert.SgRefIdeal.Value.run (F := Ideal) m ρ)

/-- The idealization rewrote nothing. -/
theorem preserves : Cert.preserves_SgBwd_SgBwdIdeal := trivial

open Cert.SgStage in
/-- The kernel's seven results are the seven gradients of the reference. -/
theorem algebraic : Cert.algebraic_SgBwdIdeal_SgRefIdeal := by
  intro m ρ m' ρ' _ hag
  refine ⟨fun c => goal8 m c, fun c => goal9 m c, fun c => goal10 m c, fun c => goal11 m c, fun c => goal12 m c, fun c => goal13 m c, fun c => goal14 m c,
    sg_run m ρ, (θ_run Cert.SgRefIdeal.defs _ _).mono (fun r h c => ?_) (Cert.SgRefIdeal.Value.run (F := Ideal) m' ρ')⟩
  obtain ⟨h0, h1, h2, h3, h4, h5, h6, hr⟩ := h c
  obtain ⟨a0, a1, a2, a3, a4, a5⟩ := hag c
  refine ⟨h0.trans ((Cert.SgRefIdeal.Read.val_main_v168_eq (launchContents m' c)).trans ?_), h1.trans ((Cert.SgRefIdeal.Read.val_main_v169_eq (launchContents m' c)).trans ?_), h2.trans ((Cert.SgRefIdeal.Read.val_main_v170_eq (launchContents m' c)).trans ?_), h3.trans ((Cert.SgRefIdeal.Read.val_main_v171_eq (launchContents m' c)).trans ?_), h4.trans ((Cert.SgRefIdeal.Read.val_main_v172_eq (launchContents m' c)).trans ?_), h5.trans ((Cert.SgRefIdeal.Read.val_main_v109_eq (launchContents m' c)).trans ?_), h6.trans ((Cert.SgRefIdeal.Read.val_main_v173_eq (launchContents m' c)).trans ?_), hr⟩
  · show Cert.SgRefIdeal.Read.val_main_v168 (m' ((c : Thread Cert.SgRefIdeal.nD Cert.SgRefIdeal.τ).loc Cert.SgRefIdeal.main_arg0)) (m' ((c : Thread Cert.SgRefIdeal.nD Cert.SgRefIdeal.τ).loc Cert.SgRefIdeal.main_arg1)) (m' ((c : Thread Cert.SgRefIdeal.nD Cert.SgRefIdeal.τ).loc Cert.SgRefIdeal.main_arg2)) (m' ((c : Thread Cert.SgRefIdeal.nD Cert.SgRefIdeal.τ).loc Cert.SgRefIdeal.main_arg3)) (m' ((c : Thread Cert.SgRefIdeal.nD Cert.SgRefIdeal.τ).loc Cert.SgRefIdeal.main_arg4)) (m' ((c : Thread Cert.SgRefIdeal.nD Cert.SgRefIdeal.τ).loc Cert.SgRefIdeal.main_arg5)) = _
    rw [a0, a1, a2, a3, a4, a5]
  · show Cert.SgRefIdeal.Read.val_main_v169 (m' ((c : Thread Cert.SgRefIdeal.nD Cert.SgRefIdeal.τ).loc Cert.SgRefIdeal.main_arg0)) (m' ((c : Thread Cert.SgRefIdeal.nD Cert.SgRefIdeal.τ).loc Cert.SgRefIdeal.main_arg1)) (m' ((c : Thread Cert.SgRefIdeal.nD Cert.SgRefIdeal.τ).loc Cert.SgRefIdeal.main_arg3)) (m' ((c : Thread Cert.SgRefIdeal.nD Cert.SgRefIdeal.τ).loc Cert.SgRefIdeal.main_arg5)) = _
    rw [a0, a1, a3, a5]
  · show Cert.SgRefIdeal.Read.val_main_v170 (m' ((c : Thread Cert.SgRefIdeal.nD Cert.SgRefIdeal.τ).loc Cert.SgRefIdeal.main_arg0)) (m' ((c : Thread Cert.SgRefIdeal.nD Cert.SgRefIdeal.τ).loc Cert.SgRefIdeal.main_arg1)) (m' ((c : Thread Cert.SgRefIdeal.nD Cert.SgRefIdeal.τ).loc Cert.SgRefIdeal.main_arg2)) (m' ((c : Thread Cert.SgRefIdeal.nD Cert.SgRefIdeal.τ).loc Cert.SgRefIdeal.main_arg3)) (m' ((c : Thread Cert.SgRefIdeal.nD Cert.SgRefIdeal.τ).loc Cert.SgRefIdeal.main_arg4)) (m' ((c : Thread Cert.SgRefIdeal.nD Cert.SgRefIdeal.τ).loc Cert.SgRefIdeal.main_arg5)) = _
    rw [a0, a1, a2, a3, a4, a5]
  · show Cert.SgRefIdeal.Read.val_main_v171 (m' ((c : Thread Cert.SgRefIdeal.nD Cert.SgRefIdeal.τ).loc Cert.SgRefIdeal.main_arg0)) (m' ((c : Thread Cert.SgRefIdeal.nD Cert.SgRefIdeal.τ).loc Cert.SgRefIdeal.main_arg3)) (m' ((c : Thread Cert.SgRefIdeal.nD Cert.SgRefIdeal.τ).loc Cert.SgRefIdeal.main_arg5)) = _
    rw [a0, a3, a5]
  · show Cert.SgRefIdeal.Read.val_main_v172 (m' ((c : Thread Cert.SgRefIdeal.nD Cert.SgRefIdeal.τ).loc Cert.SgRefIdeal.main_arg0)) (m' ((c : Thread Cert.SgRefIdeal.nD Cert.SgRefIdeal.τ).loc Cert.SgRefIdeal.main_arg3)) (m' ((c : Thread Cert.SgRefIdeal.nD Cert.SgRefIdeal.τ).loc Cert.SgRefIdeal.main_arg5)) = _
    rw [a0, a3, a5]
  · show Cert.SgRefIdeal.Read.val_main_v109 (m' ((c : Thread Cert.SgRefIdeal.nD Cert.SgRefIdeal.τ).loc Cert.SgRefIdeal.main_arg0)) (m' ((c : Thread Cert.SgRefIdeal.nD Cert.SgRefIdeal.τ).loc Cert.SgRefIdeal.main_arg1)) (m' ((c : Thread Cert.SgRefIdeal.nD Cert.SgRefIdeal.τ).loc Cert.SgRefIdeal.main_arg2)) (m' ((c : Thread Cert.SgRefIdeal.nD Cert.SgRefIdeal.τ).loc Cert.SgRefIdeal.main_arg5)) = _
    rw [a0, a1, a2, a5]
  · show Cert.SgRefIdeal.Read.val_main_v173 (m' ((c : Thread Cert.SgRefIdeal.nD Cert.SgRefIdeal.τ).loc Cert.SgRefIdeal.main_arg0)) (m' ((c : Thread Cert.SgRefIdeal.nD Cert.SgRefIdeal.τ).loc Cert.SgRefIdeal.main_arg5)) = _
    rw [a0, a5]

end Cert.Proof.Sg
end
-- ==== Proof.InWeight.lean ====
/-
  What the weight gradient kernel of the input projection leaves in its result: the array the reference computes.
-/
module

public import proofs.«01_k».proof.Proof.Gen.DWinIdeal.Value
public import proofs.«01_k».proof.Proof.Gen.DWinRefIdeal.Read
public import Idealize.ShloMosaic.Lib.Pointwise
public import Idealize.ShloMosaic.Lib.Pipeline.ValueKit

@[expose] public section

set_option maxRecDepth 16384

noncomputable section

namespace Cert.InWeight

open Idealize.ShloMosaic Idealize.ShloMosaic.TcCoe Idealize.ShloMosaic.Tactic Idealize.SL.Sem
open Idealize.ShloMosaic.Pipeline (Dat)
open Cert.DWinIdeal Cert.DWinIdeal.Gen
open Cert.DWinRefIdeal.Read

variable (m : (ℓ : Loc nD τ sig) → Buf (Elt Ideal) ℓ)

/-- The array the result ends with: the reference's, of the arguments the kernel was launched with. -/
abbrev goal (c : Dev nD) : Vec Ideal S13568x2048 .bf16 :=
  val_main_v7 (m ((c : Thread nD τ).loc main_arg0)) (m ((c : Thread nD τ).loc main_arg1))

theorem at0 : ∀ t : Fin cfg0.N, win0_0.index t = ![0, t.val] :=
  (by decide +kernel : ∀ t : Fin grid0.N, win0_0.index t = ![0, t.val])
theorem at1 : ∀ t : Fin cfg0.N, win0_1.index t = ![0, 0] :=
  (by decide +kernel : ∀ t : Fin grid0.N, win0_1.index t = ![0, 0])
theorem at2 : ∀ t : Fin cfg0.N, win0_2.index t = ![t.val, 0] :=
  (by decide +kernel : ∀ t : Fin grid0.N, win0_2.index t = ![t.val, 0])

/-- Each point writes its block of the reference's array, and the blocks fill the result. -/
theorem final (c : Dev nD) : (dats m 0 c).arrAt 2 cfg0.N = goal m c := by
  refine (dats m 0 c).arrAt_eq_of_covers 2 _ (by decide +kernel) fun t hf y => ?_
  blk_simp
  rw [after0_2]
  unfold outsAt0
  frame_out
  show _ = val_main_v7 (F := Ideal) _ _ _
  pointwise [k0_pay3, k0_pay2, k0_pay1, val_main_v7, val_main_v6, val_main_v5, val_main_v4, val_main_v3, val_main_v2, val_main_v1, val_main_v0]
  blk_point [iblk, V, at0, at1, at2]

end Cert.InWeight

end
-- ==== Proof.InputGrad.lean ====
/-
  What the kernel that carries the gradient back through the input projection leaves in its result: it adds up, tile by
  tile of the projection's columns, the array the reference computes in one product.
-/
module

public import proofs.«01_k».proof.Proof.Gen.DHIdeal.Value
public import proofs.«01_k».proof.Proof.Gen.DHRefIdeal.Read
public import Idealize.ShloMosaic.Lib.Pointwise
public import Idealize.ShloMosaic.Lib.Pipeline.ValueKit

@[expose] public section

set_option maxRecDepth 16384

noncomputable section

namespace Cert.InputGrad

open Idealize.ShloMosaic Idealize.ShloMosaic.TcCoe Idealize.ShloMosaic.Tactic Idealize.SL.Sem
open Idealize.ShloMosaic.Pipeline (Dat)
open Cert.DHIdeal Cert.DHIdeal.Gen
open Cert.DHRefIdeal.Read

variable (m : (ℓ : Loc nD τ sig) → Buf (Elt Ideal) ℓ)

/-- The array the result ends with: the reference's, of the arguments the kernel was launched with. -/
abbrev goal (c : Dev nD) : Vec Ideal S2048x2048 .f32 :=
  val_main_v5 (m ((c : Thread nD τ).loc main_arg0)) (m ((c : Thread nD τ).loc main_arg1))

/-- Column `q` of tile `n` of the projection. -/
def col (n : Fin 53) (q : Fin 256) : Fin 13568 := ⟨n.val * 256 + q.val, by omega⟩

/-- A sum of products along a row of the left array and a column of the right, over the columns of one block. -/
def along (x0 : Vec Ideal S2048x256 .bf16) (x1 : Vec Ideal S256x2048 .bf16) (r k : Fin 2048) : EReal :=
  ∑ q : Fin 256, x0 (ix2 r q) * x1 (ix2 q k)

/-- What one column of the projection adds to an entry of the product. -/
def times (A : Vec Ideal S2048x13568 .bf16) (B : Vec Ideal S13568x2048 .bf16) (r k : Fin 2048) (x : Fin 13568) : EReal :=
  A (ix2 r x) * B (ix2 x k)

/-- What one column of the projection adds to an entry of the result. -/
def term (c : Dev nD) (r k : Fin 2048) (x : Fin 13568) : EReal :=
  times (m ((c : Thread nD τ).loc main_arg1)) (m ((c : Thread nD τ).loc main_arg0)) r k x

/-- What tile `n` adds to an entry of the result. -/
def share (c : Dev nD) (n : ℕ) (i : S2048x2048.Idx) : EReal :=
  if h : n < 53 then ∑ q : Fin 256, term m c (i 0) (i 1) (col ⟨n, h⟩ q) else 0

theorem at0 : ∀ t : Fin cfg0.N, win0_0.index t = ![0, t.val] :=
  (by decide +kernel : ∀ t : Fin grid0.N, win0_0.index t = ![0, t.val])
theorem at1 : ∀ t : Fin cfg0.N, win0_1.index t = ![t.val, 0] :=
  (by decide +kernel : ∀ t : Fin grid0.N, win0_1.index t = ![t.val, 0])

theorem empty (i : S2048x2048.Idx) : (k0_pay1 (F := Ideal)) i = 0 := by
  pointwise [k0_pay1]

theorem adds (acc : Vec Ideal S2048x2048 .f32) (x0 : Vec Ideal S2048x256 .bf16) (x1 : Vec Ideal S256x2048 .bf16) (i : S2048x2048.Idx) :
    k0_pay2 acc x0 x1 i = acc i + along x0 x1 (i 0) (i 1) := by
  unfold along
  pointwise [k0_pay2]

/-- The product of the two blocks at a grid point is the tile's share. -/
theorem tile (c : Dev nD) (n : ℕ) (h : n < cfg0.N) (i : S2048x2048.Idx) :
    along (iblk m c 0 ⟨n, h⟩) (iblk m c 1 ⟨n, h⟩) (i 0) (i 1) = share m c n i := by
  have h' : n < 53 := lt_of_lt_of_eq h N_0
  unfold share term times along
  rw [dif_pos h']
  refine Finset.sum_congr rfl fun q _ => ?_
  obtain ⟨t, ht⟩ : ∃ t : Fin cfg0.N, t = ⟨n, h⟩ := ⟨_, rfl⟩
  have hv : t.val = n := by rw [ht]
  rw [← ht]
  congr 1
  · unfold iblk
    rw [View.read_apply]
    show V m c main_arg1 _ = _
    rw [V_main_arg1]
    congr 1
    funext a
    apply Fin.ext
    match a with
    | ⟨0, _⟩ => show win0_0.index t 0 * 2048 + 1 * (i 0).val = (i 0).val; rw [at0 t]; show 0 * 2048 + 1 * (i 0).val = _; omega
    | ⟨1, _⟩ => show win0_0.index t 1 * 256 + 1 * q.val = n * 256 + q.val; rw [at0 t]; show t.val * 256 + 1 * q.val = _; omega
  · unfold iblk
    rw [View.read_apply]
    show V m c main_arg0 _ = _
    rw [V_main_arg0]
    congr 1
    funext a
    apply Fin.ext
    match a with
    | ⟨0, _⟩ => show win0_1.index t 0 * 256 + 1 * q.val = n * 256 + q.val; rw [at1 t]; show t.val * 256 + 1 * q.val = _; omega
    | ⟨1, _⟩ => show win0_1.index t 1 * 2048 + 1 * (i 1).val = (i 1).val; rw [at1 t]; show 0 * 2048 + 1 * (i 1).val = _; omega

theorem start (c : Dev nD) (n : ℕ) (h : n < cfg0.N) (i : S2048x2048.Idx) :
    (Value.reset2 m c n h : Vec Ideal S2048x2048 .f32) i = 0 + share m c n i := by
  unfold Value.reset2
  rw [adds, empty, tile]

theorem next (c : Dev nD) (n : ℕ) (h : n < cfg0.N) (acc : Vec Ideal S2048x2048 .f32) (i : S2048x2048.Idx) :
    (Value.step2 m c n h acc : Vec Ideal S2048x2048 .f32) i = acc i + share m c n i := by
  unfold Value.step2
  rw [adds, tile]

/-- The tiles' shares add up to the whole product. -/
theorem total (c : Dev nD) (r k : Fin 2048) :
    ∑ s ∈ Finset.range 53, share m c s (ix2 r k) = ∑ x : Fin 13568, term m c r k x := by
  rw [Finset.sum_range, show (∑ x : Fin 13568, term m c r k x) = ∑ n : Fin 53, ∑ q : Fin 256, term m c r k (col n q) from
    Fin.sum_univ_tiles 53 256 (by decide) (term m c r k)]
  refine Finset.sum_congr rfl fun n _ => ?_
  unfold share
  rw [dif_pos n.isLt]
  rfl

theorem product (c : Dev nD) (r k : Fin 2048) : goal m c (ix2 r k) = ∑ x : Fin 13568, term m c r k x := by
  unfold term times
  show val_main_v5 (F := Ideal) _ _ _ = _
  pointwise [val_main_v5, val_main_v4, val_main_v3, val_main_v2, val_main_v1, val_main_v0]

/-- The array the kernel ends with is the reference's. -/
theorem final (c : Dev nD) : (Value.G2 m c : Vec Ideal S2048x2048 .f32) = goal m c := by
  funext i
  obtain ⟨r, k, rfl⟩ : ∃ (r k : Fin 2048), i = ix2 r k := ⟨i 0, i 1, funext fun a => match a with | ⟨0, _⟩ => rfl | ⟨1, _⟩ => rfl⟩
  have hr : Value.run2Of (ix2 r k : S2048x2048.Idx) = 0 := by
    show 1 * (r.val / 2048 - 0) + 1 * (k.val / 2048 - 0) = 0
    omega
  have hl : Value.loc2Of (ix2 r k : S2048x2048.Idx) = ix2 r k := funext fun a => Fin.ext (match a with
    | ⟨0, _⟩ => Nat.mod_eq_of_lt r.isLt
    | ⟨1, _⟩ => Nat.mod_eq_of_lt k.isLt)
  have hN : cfg0.N = 53 := N_0
  show Value.G2 m c (ix2 r k) = _
  unfold Value.G2
  rw [dif_pos (by rw [hr]; omega), hl]
  refine (Pipeline.accAt_add_apply (Value.reset2 m c) (Value.step2 m c) (fun _ => (0 : EReal)) (share m c) _ 52
    (fun h i => start m c _ h i) (fun n h acc i _ _ => next m c n h acc i) 52 (le_refl _) _ _).trans ?_
  rw [hr, product, ← total, zero_add]
  refine Finset.sum_congr rfl fun s _ => ?_
  rw [Nat.mul_zero, Nat.zero_add]

end Cert.InputGrad

end
-- ==== Proof.MergedGrad.lean ====
/-
  What the kernel that carries the gradient back through the output projection leaves in its result: the array the reference computes.
-/
module

public import proofs.«01_k».proof.Proof.Gen.DMergedIdeal.Value
public import proofs.«01_k».proof.Proof.Gen.DMergedRefIdeal.Read
public import Idealize.ShloMosaic.Lib.Pointwise
public import Idealize.ShloMosaic.Lib.Pipeline.ValueKit

@[expose] public section

set_option maxRecDepth 16384

noncomputable section

namespace Cert.MergedGrad

open Idealize.ShloMosaic Idealize.ShloMosaic.TcCoe Idealize.ShloMosaic.Tactic Idealize.SL.Sem
open Idealize.ShloMosaic.Pipeline (Dat)
open Cert.DMergedIdeal Cert.DMergedIdeal.Gen
open Cert.DMergedRefIdeal.Read

variable (m : (ℓ : Loc nD τ sig) → Buf (Elt Ideal) ℓ)

/-- The array the result ends with: the reference's, of the arguments the kernel was launched with. -/
abbrev goal (c : Dev nD) : Vec Ideal S2048x2048 .bf16 :=
  val_main_v4 (m ((c : Thread nD τ).loc main_arg0)) (m ((c : Thread nD τ).loc main_arg1))

theorem at0 : ∀ t : Fin cfg0.N, win0_0.index t = ![t.val / 4, 0] :=
  (by decide +kernel : ∀ t : Fin grid0.N, win0_0.index t = ![t.val / 4, 0])
theorem at1 : ∀ t : Fin cfg0.N, win0_1.index t = ![t.val % 4, 0] :=
  (by decide +kernel : ∀ t : Fin grid0.N, win0_1.index t = ![t.val % 4, 0])
theorem at2 : ∀ t : Fin cfg0.N, win0_2.index t = ![t.val / 4, t.val % 4] :=
  (by decide +kernel : ∀ t : Fin grid0.N, win0_2.index t = ![t.val / 4, t.val % 4])

/-- Each point writes its block of the reference's array, and the blocks fill the result. -/
theorem final (c : Dev nD) : (dats m 0 c).arrAt 2 cfg0.N = goal m c := by
  refine (dats m 0 c).arrAt_eq_of_covers 2 _ (by decide +kernel) fun t hf y => ?_
  blk_simp
  rw [after0_2]
  unfold outsAt0
  frame_out
  show _ = val_main_v4 (F := Ideal) _ _ _
  pointwise [k0_pay3, k0_pay2, k0_pay1, val_main_v4, val_main_v3, val_main_v2, val_main_v1, val_main_v0]
  blk_point [iblk, V, at0, at1, at2]

end Cert.MergedGrad

end
-- ==== Proof.OutWeight.lean ====
/-
  What the weight gradient kernel of the output projection leaves in its result: the array the reference computes.
-/
module

public import proofs.«01_k».proof.Proof.Gen.DWoutIdeal.Value
public import proofs.«01_k».proof.Proof.Gen.DWoutRefIdeal.Read
public import Idealize.ShloMosaic.Lib.Pointwise
public import Idealize.ShloMosaic.Lib.Pipeline.ValueKit

@[expose] public section

set_option maxRecDepth 16384

noncomputable section

namespace Cert.OutWeight

open Idealize.ShloMosaic Idealize.ShloMosaic.TcCoe Idealize.ShloMosaic.Tactic Idealize.SL.Sem
open Idealize.ShloMosaic.Pipeline (Dat)
open Cert.DWoutIdeal Cert.DWoutIdeal.Gen
open Cert.DWoutRefIdeal.Read

variable (m : (ℓ : Loc nD τ sig) → Buf (Elt Ideal) ℓ)

/-- The array the result ends with: the reference's, of the arguments the kernel was launched with. -/
abbrev goal (c : Dev nD) : Vec Ideal S2048x2048 .bf16 :=
  val_main_v5 (m ((c : Thread nD τ).loc main_arg0)) (m ((c : Thread nD τ).loc main_arg1))

theorem at0 : ∀ t : Fin cfg0.N, win0_0.index t = ![0, t.val / 2] :=
  (by decide +kernel : ∀ t : Fin grid0.N, win0_0.index t = ![0, t.val / 2])
theorem at1 : ∀ t : Fin cfg0.N, win0_1.index t = ![0, t.val % 2] :=
  (by decide +kernel : ∀ t : Fin grid0.N, win0_1.index t = ![0, t.val % 2])
theorem at2 : ∀ t : Fin cfg0.N, win0_2.index t = ![t.val / 2, t.val % 2] :=
  (by decide +kernel : ∀ t : Fin grid0.N, win0_2.index t = ![t.val / 2, t.val % 2])

/-- Each point writes its block of the reference's array, and the blocks fill the result. -/
theorem final (c : Dev nD) : (dats m 0 c).arrAt 2 cfg0.N = goal m c := by
  refine (dats m 0 c).arrAt_eq_of_covers 2 _ (by decide +kernel) fun t hf y => ?_
  blk_simp
  rw [after0_2]
  unfold outsAt0
  frame_out
  show _ = val_main_v5 (F := Ideal) _ _ _
  pointwise [k0_pay3, k0_pay2, k0_pay1, val_main_v5, val_main_v4, val_main_v3, val_main_v2, val_main_v1, val_main_v0]
  refine Finset.sum_congr rfl fun n _ => ?_
  rw [mul_comm]
  blk_point [iblk, V, at0, at1, at2]

end Cert.OutWeight

end
-- ==== Proof.BranchGrad.lean ====
/-
  What the kernel that carries the gradient back through a branch's weights leaves in its result: the array the reference computes.
-/
module

public import proofs.«01_k».proof.Proof.Gen.DYIdeal.Value
public import proofs.«01_k».proof.Proof.Gen.DYRefIdeal.Read
public import Idealize.ShloMosaic.Lib.Pointwise
public import Idealize.ShloMosaic.Lib.Pipeline.ValueKit

@[expose] public section

set_option maxRecDepth 16384

noncomputable section

namespace Cert.BranchGrad

open Idealize.ShloMosaic Idealize.ShloMosaic.TcCoe Idealize.ShloMosaic.Tactic Idealize.SL.Sem
open Idealize.ShloMosaic.Pipeline (Dat)
open Cert.DYIdeal Cert.DYIdeal.Gen
open Cert.DYRefIdeal.Read

variable (m : (ℓ : Loc nD τ sig) → Buf (Elt Ideal) ℓ)

/-- The array the result ends with: the reference's, of the arguments the kernel was launched with. -/
abbrev goal (c : Dev nD) : Vec Ideal S2048x1024 .bf16 :=
  val_main_v6 (m ((c : Thread nD τ).loc main_arg0)) (m ((c : Thread nD τ).loc main_arg1))

theorem at0 : ∀ t : Fin cfg0.N, win0_0.index t = ![t.val, 0] :=
  (by decide +kernel : ∀ t : Fin grid0.N, win0_0.index t = ![t.val, 0])
theorem at1 : ∀ t : Fin cfg0.N, win0_1.index t = ![0, 0] :=
  (by decide +kernel : ∀ t : Fin grid0.N, win0_1.index t = ![0, 0])
theorem at2 : ∀ t : Fin cfg0.N, win0_2.index t = ![t.val, 0] :=
  (by decide +kernel : ∀ t : Fin grid0.N, win0_2.index t = ![t.val, 0])

/-- Each point writes its block of the reference's array, and the blocks fill the result. -/
theorem final (c : Dev nD) : (dats m 0 c).arrAt 2 cfg0.N = goal m c := by
  refine (dats m 0 c).arrAt_eq_of_covers 2 _ (by decide +kernel) fun t hf y => ?_
  blk_simp
  rw [after0_2]
  unfold outsAt0
  frame_out
  show _ = val_main_v6 (F := Ideal) _ _ _
  pointwise [k0_pay3, k0_pay2, k0_pay1, val_main_v6, val_main_v5, val_main_v4, val_main_v3, val_main_v2, val_main_v1, val_main_v0]
  blk_point [iblk, V, at0, at1, at2]

end Cert.BranchGrad

end
-- ==== Proof.BranchWeight.lean ====
/-
  What the weight gradient kernel of a branch's weights leaves in its result: the array the reference computes.
-/
module

public import proofs.«01_k».proof.Proof.Gen.DWbIdeal.Value
public import proofs.«01_k».proof.Proof.Gen.DWbRefIdeal.Read
public import Idealize.ShloMosaic.Lib.Pointwise
public import Idealize.ShloMosaic.Lib.Pipeline.ValueKit

@[expose] public section

set_option maxRecDepth 16384

noncomputable section

namespace Cert.BranchWeight

open Idealize.ShloMosaic Idealize.ShloMosaic.TcCoe Idealize.ShloMosaic.Tactic Idealize.SL.Sem
open Idealize.ShloMosaic.Pipeline (Dat)
open Cert.DWbIdeal Cert.DWbIdeal.Gen
open Cert.DWbRefIdeal.Read

variable (m : (ℓ : Loc nD τ sig) → Buf (Elt Ideal) ℓ)

/-- The array the result ends with: the reference's, of the arguments the kernel was launched with. -/
abbrev goal (c : Dev nD) : Vec Ideal S2048x1024 .bf16 :=
  val_main_v7 (m ((c : Thread nD τ).loc main_arg0)) (m ((c : Thread nD τ).loc main_arg1))

theorem at0 : ∀ t : Fin cfg0.N, win0_0.index t = ![0, t.val] :=
  (by decide +kernel : ∀ t : Fin grid0.N, win0_0.index t = ![0, t.val])
theorem at1 : ∀ t : Fin cfg0.N, win0_1.index t = ![0, 0] :=
  (by decide +kernel : ∀ t : Fin grid0.N, win0_1.index t = ![0, 0])
theorem at2 : ∀ t : Fin cfg0.N, win0_2.index t = ![t.val, 0] :=
  (by decide +kernel : ∀ t : Fin grid0.N, win0_2.index t = ![t.val, 0])

/-- Each point writes its block of the reference's array, and the blocks fill the result. -/
theorem final (c : Dev nD) : (dats m 0 c).arrAt 2 cfg0.N = goal m c := by
  refine (dats m 0 c).arrAt_eq_of_covers 2 _ (by decide +kernel) fun t hf y => ?_
  blk_simp
  rw [after0_2]
  unfold outsAt0
  frame_out
  show _ = val_main_v7 (F := Ideal) _ _ _
  pointwise [k0_pay3, k0_pay2, k0_pay1, val_main_v7, val_main_v6, val_main_v5, val_main_v4, val_main_v3, val_main_v2, val_main_v1, val_main_v0]
  blk_point [iblk, V, at0, at1, at2]

end Cert.BranchWeight

end
-- ==== Proof.BranchStage.lean ====
/-
  What the forward kernel of a branch's weights leaves in its result: the array the reference computes.
-/
module

public import proofs.«01_k».proof.Proof.Gen.BranchIdeal.Value
public import proofs.«01_k».proof.Proof.Gen.BranchRefIdeal.Read
public import Idealize.ShloMosaic.Lib.Pointwise
public import Idealize.ShloMosaic.Lib.Pipeline.ValueKit

@[expose] public section

set_option maxRecDepth 16384

noncomputable section

namespace Cert.BranchStage

open Idealize.ShloMosaic Idealize.ShloMosaic.TcCoe Idealize.ShloMosaic.Tactic Idealize.SL.Sem
open Idealize.ShloMosaic.Pipeline (Dat)
open Cert.BranchIdeal Cert.BranchIdeal.Gen
open Cert.BranchRefIdeal.Read

variable (m : (ℓ : Loc nD τ sig) → Buf (Elt Ideal) ℓ)

/-- The array the result ends with: the reference's, of the arguments the kernel was launched with. -/
abbrev goal (c : Dev nD) : Vec Ideal S2048x2048 .bf16 :=
  val_main_v4 (m ((c : Thread nD τ).loc main_arg0)) (m ((c : Thread nD τ).loc main_arg1))

theorem at0 : ∀ t : Fin cfg0.N, win0_0.index t = ![t.val / 2, 0] :=
  (by decide +kernel : ∀ t : Fin grid0.N, win0_0.index t = ![t.val / 2, 0])
theorem at1 : ∀ t : Fin cfg0.N, win0_1.index t = ![t.val % 2, 0] :=
  (by decide +kernel : ∀ t : Fin grid0.N, win0_1.index t = ![t.val % 2, 0])
theorem at2 : ∀ t : Fin cfg0.N, win0_2.index t = ![t.val / 2, t.val % 2] :=
  (by decide +kernel : ∀ t : Fin grid0.N, win0_2.index t = ![t.val / 2, t.val % 2])

/-- Each point writes its block of the reference's array, and the blocks fill the result. -/
theorem final (c : Dev nD) : (dats m 0 c).arrAt 2 cfg0.N = goal m c := by
  refine (dats m 0 c).arrAt_eq_of_covers 2 _ (by decide +kernel) fun t hf y => ?_
  blk_simp
  rw [after0_2]
  unfold outsAt0
  frame_out
  show _ = val_main_v4 (F := Ideal) _ _ _
  pointwise [k0_pay3, k0_pay2, k0_pay1, val_main_v4, val_main_v3, val_main_v2, val_main_v1, val_main_v0]
  blk_point [iblk, V, at0, at1, at2]

end Cert.BranchStage

end
-- ==== Proof.OutStage.lean ====
/-
  What the forward kernel of the output projection, the residual added leaves in its result: the array the reference computes.
-/
module

public import proofs.«01_k».proof.Proof.Gen.OutProjIdeal.Value
public import proofs.«01_k».proof.Proof.Gen.OutProjRefIdeal.Read
public import Idealize.ShloMosaic.Lib.Pointwise
public import Idealize.ShloMosaic.Lib.Pipeline.ValueKit

@[expose] public section

set_option maxRecDepth 16384

noncomputable section

namespace Cert.OutStage

open Idealize.ShloMosaic Idealize.ShloMosaic.TcCoe Idealize.ShloMosaic.Tactic Idealize.SL.Sem
open Idealize.ShloMosaic.Pipeline (Dat)
open Cert.OutProjIdeal Cert.OutProjIdeal.Gen
open Cert.OutProjRefIdeal.Read

variable (m : (ℓ : Loc nD τ sig) → Buf (Elt Ideal) ℓ)

/-- The array the result ends with: the reference's, of the arguments the kernel was launched with. -/
abbrev goal (c : Dev nD) : Vec Ideal S2048x2048 .f32 :=
  val_main_v3 (m ((c : Thread nD τ).loc main_arg0)) (m ((c : Thread nD τ).loc main_arg1)) (m ((c : Thread nD τ).loc main_arg2))

theorem at0 : ∀ t : Fin cfg0.N, win0_0.index t = ![t.val / 4, 0] :=
  (by decide +kernel : ∀ t : Fin grid0.N, win0_0.index t = ![t.val / 4, 0])
theorem at1 : ∀ t : Fin cfg0.N, win0_1.index t = ![0, t.val % 4] :=
  (by decide +kernel : ∀ t : Fin grid0.N, win0_1.index t = ![0, t.val % 4])
theorem at2 : ∀ t : Fin cfg0.N, win0_2.index t = ![t.val / 4, t.val % 4] :=
  (by decide +kernel : ∀ t : Fin grid0.N, win0_2.index t = ![t.val / 4, t.val % 4])
theorem at3 : ∀ t : Fin cfg0.N, win0_3.index t = ![t.val / 4, t.val % 4] :=
  (by decide +kernel : ∀ t : Fin grid0.N, win0_3.index t = ![t.val / 4, t.val % 4])

/-- Each point writes its block of the reference's array, and the blocks fill the result. -/
theorem final (c : Dev nD) : (dats m 0 c).arrAt 3 cfg0.N = goal m c := by
  refine (dats m 0 c).arrAt_eq_of_covers 3 _ (by decide +kernel) fun t hf y => ?_
  blk_simp
  rw [after0_3]
  unfold outsAt0
  frame_out
  show _ = val_main_v3 (F := Ideal) _ _ _ _
  pointwise [k0_pay3, k0_pay2, k0_pay1, val_main_v3, val_main_v2, val_main_v1, val_main_v0]
  rw [add_comm]
  blk_point [iblk, V, at0, at1, at2, at3]

end Cert.OutStage

end
-- ==== Proof.ProductClaims.lean ====
/-
  The claims about the products that carry most of the step's arithmetic: for each, that it runs and keeps its
  arguments, and that what it computes is the reference's gradient or product.
-/
module

public import proofs.«01_k».proof.Defs
public import proofs.«01_k».proof.Proof.Gen.DWin.Frame
public import proofs.«01_k».proof.Proof.InWeight
public import proofs.«01_k».proof.Proof.Gen.DWinRefIdeal.Run
public import proofs.«01_k».proof.Proof.Gen.DH.Frame
public import proofs.«01_k».proof.Proof.InputGrad
public import proofs.«01_k».proof.Proof.Gen.DHRefIdeal.Run
public import proofs.«01_k».proof.Proof.Gen.DMerged.Frame
public import proofs.«01_k».proof.Proof.MergedGrad
public import proofs.«01_k».proof.Proof.Gen.DMergedRefIdeal.Run
public import proofs.«01_k».proof.Proof.Gen.DWout.Frame
public import proofs.«01_k».proof.Proof.OutWeight
public import proofs.«01_k».proof.Proof.Gen.DWoutRefIdeal.Run
public import proofs.«01_k».proof.Proof.Gen.DY.Frame
public import proofs.«01_k».proof.Proof.BranchGrad
public import proofs.«01_k».proof.Proof.Gen.DYRefIdeal.Run
public import proofs.«01_k».proof.Proof.Gen.DWb.Frame
public import proofs.«01_k».proof.Proof.BranchWeight
public import proofs.«01_k».proof.Proof.Gen.DWbRefIdeal.Run
public import proofs.«01_k».proof.Proof.Gen.Branch.Frame
public import proofs.«01_k».proof.Proof.BranchStage
public import proofs.«01_k».proof.Proof.Gen.BranchRefIdeal.Run
public import proofs.«01_k».proof.Proof.Gen.OutProj.Frame
public import proofs.«01_k».proof.Proof.OutStage
public import proofs.«01_k».proof.Proof.Gen.OutProjRefIdeal.Run

@[expose] public section

noncomputable section

namespace Cert.Proof

open Idealize.ShloMosaic Idealize.ShloMosaic.TcCoe Idealize.ShloMosaic.StableHlo Idealize.SL.Sem

/-! ## The weight gradient of the input projection -/

namespace DWin

theorem frame : Cert.quiescent_DWin := fun m ρ _ => Cert.DWin.Gen.frame m ρ

theorem frame_ideal : Cert.quiescent_DWinIdeal := fun m ρ _ => Cert.DWinIdeal.Gen.frame m ρ

theorem frame_ref : Cert.quiescent_DWinRefIdeal := fun m ρ _ =>
  (θ_run Cert.DWinRefIdeal.defs _ _).mono (fun r h => ⟨fun c => (h c).2,
      Idealize.ShloMosaic.sem_eq_zero_of_no_sems (by decide) r.2⟩)
    (Cert.DWinRefIdeal.Value.run (F := Ideal) m ρ)

theorem preserves : Cert.preserves_DWin_DWinIdeal := trivial

theorem algebraic : Cert.algebraic_DWinIdeal_DWinRefIdeal := by
  intro m ρ m' ρ' _ hag
  refine ⟨fun c => InWeight.goal m c,
    (θ_run Cert.DWinIdeal.defs _ _).mono (fun r h c => ⟨(h c).1.trans (InWeight.final m c), (h c).2⟩) (Cert.DWinIdeal.Value.run_blocks m ρ),
    (θ_run Cert.DWinRefIdeal.defs _ _).mono (fun r h c => ?_) (Cert.DWinRefIdeal.Value.run (F := Ideal) m' ρ')⟩
  obtain ⟨h0, hr⟩ := h c
  obtain ⟨a0, a1⟩ := hag c
  refine ⟨h0.trans ((Cert.DWinRefIdeal.Read.val_main_v7_eq (F := Ideal) _ _).trans ?_), hr⟩
  show Cert.DWinRefIdeal.Read.val_main_v7 (m' ((c : Thread Cert.DWinRefIdeal.nD Cert.DWinRefIdeal.τ).loc Cert.DWinRefIdeal.main_arg0)) (m' ((c : Thread Cert.DWinRefIdeal.nD Cert.DWinRefIdeal.τ).loc Cert.DWinRefIdeal.main_arg1)) = _
  rw [a0, a1]

end DWin

/-! ## The gradient carried back through the input projection -/

namespace DH

theorem frame : Cert.quiescent_DH := fun m ρ _ => Cert.DH.Gen.frame m ρ

theorem frame_ideal : Cert.quiescent_DHIdeal := fun m ρ _ => Cert.DHIdeal.Gen.frame m ρ

theorem frame_ref : Cert.quiescent_DHRefIdeal := fun m ρ _ =>
  (θ_run Cert.DHRefIdeal.defs _ _).mono (fun r h => ⟨fun c => (h c).2,
      Idealize.ShloMosaic.sem_eq_zero_of_no_sems (by decide) r.2⟩)
    (Cert.DHRefIdeal.Value.run (F := Ideal) m ρ)

theorem preserves : Cert.preserves_DH_DHIdeal := trivial

theorem algebraic : Cert.algebraic_DHIdeal_DHRefIdeal := by
  intro m ρ m' ρ' _ hag
  refine ⟨fun c => InputGrad.goal m c,
    (θ_run Cert.DHIdeal.defs _ _).mono (fun r h c => ⟨(h c).1.trans (InputGrad.final m c), (h c).2⟩) (Cert.DHIdeal.Value.run m ρ),
    (θ_run Cert.DHRefIdeal.defs _ _).mono (fun r h c => ?_) (Cert.DHRefIdeal.Value.run (F := Ideal) m' ρ')⟩
  obtain ⟨h0, hr⟩ := h c
  obtain ⟨a0, a1⟩ := hag c
  refine ⟨h0.trans ((Cert.DHRefIdeal.Read.val_main_v5_eq (F := Ideal) _ _).trans ?_), hr⟩
  show Cert.DHRefIdeal.Read.val_main_v5 (m' ((c : Thread Cert.DHRefIdeal.nD Cert.DHRefIdeal.τ).loc Cert.DHRefIdeal.main_arg0)) (m' ((c : Thread Cert.DHRefIdeal.nD Cert.DHRefIdeal.τ).loc Cert.DHRefIdeal.main_arg1)) = _
  rw [a0, a1]

end DH

/-! ## The gradient carried back through the output projection -/

namespace DMerged

theorem frame : Cert.quiescent_DMerged := fun m ρ _ => Cert.DMerged.Gen.frame m ρ

theorem frame_ideal : Cert.quiescent_DMergedIdeal := fun m ρ _ => Cert.DMergedIdeal.Gen.frame m ρ

theorem frame_ref : Cert.quiescent_DMergedRefIdeal := fun m ρ _ =>
  (θ_run Cert.DMergedRefIdeal.defs _ _).mono (fun r h => ⟨fun c => (h c).2,
      Idealize.ShloMosaic.sem_eq_zero_of_no_sems (by decide) r.2⟩)
    (Cert.DMergedRefIdeal.Value.run (F := Ideal) m ρ)

theorem preserves : Cert.preserves_DMerged_DMergedIdeal := trivial

theorem algebraic : Cert.algebraic_DMergedIdeal_DMergedRefIdeal := by
  intro m ρ m' ρ' _ hag
  refine ⟨fun c => MergedGrad.goal m c,
    (θ_run Cert.DMergedIdeal.defs _ _).mono (fun r h c => ⟨(h c).1.trans (MergedGrad.final m c), (h c).2⟩) (Cert.DMergedIdeal.Value.run_blocks m ρ),
    (θ_run Cert.DMergedRefIdeal.defs _ _).mono (fun r h c => ?_) (Cert.DMergedRefIdeal.Value.run (F := Ideal) m' ρ')⟩
  obtain ⟨h0, hr⟩ := h c
  obtain ⟨a0, a1⟩ := hag c
  refine ⟨h0.trans ((Cert.DMergedRefIdeal.Read.val_main_v4_eq (F := Ideal) _ _).trans ?_), hr⟩
  show Cert.DMergedRefIdeal.Read.val_main_v4 (m' ((c : Thread Cert.DMergedRefIdeal.nD Cert.DMergedRefIdeal.τ).loc Cert.DMergedRefIdeal.main_arg0)) (m' ((c : Thread Cert.DMergedRefIdeal.nD Cert.DMergedRefIdeal.τ).loc Cert.DMergedRefIdeal.main_arg1)) = _
  rw [a0, a1]

end DMerged

/-! ## The weight gradient of the output projection -/

namespace DWout

theorem frame : Cert.quiescent_DWout := fun m ρ _ => Cert.DWout.Gen.frame m ρ

theorem frame_ideal : Cert.quiescent_DWoutIdeal := fun m ρ _ => Cert.DWoutIdeal.Gen.frame m ρ

theorem frame_ref : Cert.quiescent_DWoutRefIdeal := fun m ρ _ =>
  (θ_run Cert.DWoutRefIdeal.defs _ _).mono (fun r h => ⟨fun c => (h c).2,
      Idealize.ShloMosaic.sem_eq_zero_of_no_sems (by decide) r.2⟩)
    (Cert.DWoutRefIdeal.Value.run (F := Ideal) m ρ)

theorem preserves : Cert.preserves_DWout_DWoutIdeal := trivial

theorem algebraic : Cert.algebraic_DWoutIdeal_DWoutRefIdeal := by
  intro m ρ m' ρ' _ hag
  refine ⟨fun c => OutWeight.goal m c,
    (θ_run Cert.DWoutIdeal.defs _ _).mono (fun r h c => ⟨(h c).1.trans (OutWeight.final m c), (h c).2⟩) (Cert.DWoutIdeal.Value.run_blocks m ρ),
    (θ_run Cert.DWoutRefIdeal.defs _ _).mono (fun r h c => ?_) (Cert.DWoutRefIdeal.Value.run (F := Ideal) m' ρ')⟩
  obtain ⟨h0, hr⟩ := h c
  obtain ⟨a0, a1⟩ := hag c
  refine ⟨h0.trans ((Cert.DWoutRefIdeal.Read.val_main_v5_eq (F := Ideal) _ _).trans ?_), hr⟩
  show Cert.DWoutRefIdeal.Read.val_main_v5 (m' ((c : Thread Cert.DWoutRefIdeal.nD Cert.DWoutRefIdeal.τ).loc Cert.DWoutRefIdeal.main_arg0)) (m' ((c : Thread Cert.DWoutRefIdeal.nD Cert.DWoutRefIdeal.τ).loc Cert.DWoutRefIdeal.main_arg1)) = _
  rw [a0, a1]

end DWout

/-! ## The gradient carried back through a branch's weights -/

namespace DY

theorem frame : Cert.quiescent_DY := fun m ρ _ => Cert.DY.Gen.frame m ρ

theorem frame_ideal : Cert.quiescent_DYIdeal := fun m ρ _ => Cert.DYIdeal.Gen.frame m ρ

theorem frame_ref : Cert.quiescent_DYRefIdeal := fun m ρ _ =>
  (θ_run Cert.DYRefIdeal.defs _ _).mono (fun r h => ⟨fun c => (h c).2,
      Idealize.ShloMosaic.sem_eq_zero_of_no_sems (by decide) r.2⟩)
    (Cert.DYRefIdeal.Value.run (F := Ideal) m ρ)

theorem preserves : Cert.preserves_DY_DYIdeal := trivial

theorem algebraic : Cert.algebraic_DYIdeal_DYRefIdeal := by
  intro m ρ m' ρ' _ hag
  refine ⟨fun c => BranchGrad.goal m c,
    (θ_run Cert.DYIdeal.defs _ _).mono (fun r h c => ⟨(h c).1.trans (BranchGrad.final m c), (h c).2⟩) (Cert.DYIdeal.Value.run_blocks m ρ),
    (θ_run Cert.DYRefIdeal.defs _ _).mono (fun r h c => ?_) (Cert.DYRefIdeal.Value.run (F := Ideal) m' ρ')⟩
  obtain ⟨h0, hr⟩ := h c
  obtain ⟨a0, a1⟩ := hag c
  refine ⟨h0.trans ((Cert.DYRefIdeal.Read.val_main_v6_eq (F := Ideal) _ _).trans ?_), hr⟩
  show Cert.DYRefIdeal.Read.val_main_v6 (m' ((c : Thread Cert.DYRefIdeal.nD Cert.DYRefIdeal.τ).loc Cert.DYRefIdeal.main_arg0)) (m' ((c : Thread Cert.DYRefIdeal.nD Cert.DYRefIdeal.τ).loc Cert.DYRefIdeal.main_arg1)) = _
  rw [a0, a1]

end DY

/-! ## The weight gradient of a branch -/

namespace DWb

theorem frame : Cert.quiescent_DWb := fun m ρ _ => Cert.DWb.Gen.frame m ρ

theorem frame_ideal : Cert.quiescent_DWbIdeal := fun m ρ _ => Cert.DWbIdeal.Gen.frame m ρ

theorem frame_ref : Cert.quiescent_DWbRefIdeal := fun m ρ _ =>
  (θ_run Cert.DWbRefIdeal.defs _ _).mono (fun r h => ⟨fun c => (h c).2,
      Idealize.ShloMosaic.sem_eq_zero_of_no_sems (by decide) r.2⟩)
    (Cert.DWbRefIdeal.Value.run (F := Ideal) m ρ)

theorem preserves : Cert.preserves_DWb_DWbIdeal := trivial

theorem algebraic : Cert.algebraic_DWbIdeal_DWbRefIdeal := by
  intro m ρ m' ρ' _ hag
  refine ⟨fun c => BranchWeight.goal m c,
    (θ_run Cert.DWbIdeal.defs _ _).mono (fun r h c => ⟨(h c).1.trans (BranchWeight.final m c), (h c).2⟩) (Cert.DWbIdeal.Value.run_blocks m ρ),
    (θ_run Cert.DWbRefIdeal.defs _ _).mono (fun r h c => ?_) (Cert.DWbRefIdeal.Value.run (F := Ideal) m' ρ')⟩
  obtain ⟨h0, hr⟩ := h c
  obtain ⟨a0, a1⟩ := hag c
  refine ⟨h0.trans ((Cert.DWbRefIdeal.Read.val_main_v7_eq (F := Ideal) _ _).trans ?_), hr⟩
  show Cert.DWbRefIdeal.Read.val_main_v7 (m' ((c : Thread Cert.DWbRefIdeal.nD Cert.DWbRefIdeal.τ).loc Cert.DWbRefIdeal.main_arg0)) (m' ((c : Thread Cert.DWbRefIdeal.nD Cert.DWbRefIdeal.τ).loc Cert.DWbRefIdeal.main_arg1)) = _
  rw [a0, a1]

end DWb

/-! ## The forward product of a branch -/

namespace Branch

theorem frame : Cert.quiescent_Branch := fun m ρ _ => Cert.Branch.Gen.frame m ρ

theorem frame_ideal : Cert.quiescent_BranchIdeal := fun m ρ _ => Cert.BranchIdeal.Gen.frame m ρ

theorem frame_ref : Cert.quiescent_BranchRefIdeal := fun m ρ _ =>
  (θ_run Cert.BranchRefIdeal.defs _ _).mono (fun r h => ⟨fun c => (h c).2,
      Idealize.ShloMosaic.sem_eq_zero_of_no_sems (by decide) r.2⟩)
    (Cert.BranchRefIdeal.Value.run (F := Ideal) m ρ)

theorem preserves : Cert.preserves_Branch_BranchIdeal := trivial

theorem algebraic : Cert.algebraic_BranchIdeal_BranchRefIdeal := by
  intro m ρ m' ρ' _ hag
  refine ⟨fun c => BranchStage.goal m c,
    (θ_run Cert.BranchIdeal.defs _ _).mono (fun r h c => ⟨(h c).1.trans (BranchStage.final m c), (h c).2⟩) (Cert.BranchIdeal.Value.run_blocks m ρ),
    (θ_run Cert.BranchRefIdeal.defs _ _).mono (fun r h c => ?_) (Cert.BranchRefIdeal.Value.run (F := Ideal) m' ρ')⟩
  obtain ⟨h0, hr⟩ := h c
  obtain ⟨a0, a1⟩ := hag c
  refine ⟨h0.trans ((Cert.BranchRefIdeal.Read.val_main_v4_eq (F := Ideal) _ _).trans ?_), hr⟩
  show Cert.BranchRefIdeal.Read.val_main_v4 (m' ((c : Thread Cert.BranchRefIdeal.nD Cert.BranchRefIdeal.τ).loc Cert.BranchRefIdeal.main_arg0)) (m' ((c : Thread Cert.BranchRefIdeal.nD Cert.BranchRefIdeal.τ).loc Cert.BranchRefIdeal.main_arg1)) = _
  rw [a0, a1]

end Branch

/-! ## The forward output projection with its residual -/

namespace OutProj

theorem frame : Cert.quiescent_OutProj := fun m ρ _ => Cert.OutProj.Gen.frame m ρ

theorem frame_ideal : Cert.quiescent_OutProjIdeal := fun m ρ _ => Cert.OutProjIdeal.Gen.frame m ρ

theorem frame_ref : Cert.quiescent_OutProjRefIdeal := fun m ρ _ =>
  (θ_run Cert.OutProjRefIdeal.defs _ _).mono (fun r h => ⟨fun c => (h c).2,
      Idealize.ShloMosaic.sem_eq_zero_of_no_sems (by decide) r.2⟩)
    (Cert.OutProjRefIdeal.Value.run (F := Ideal) m ρ)

theorem preserves : Cert.preserves_OutProj_OutProjIdeal := trivial

theorem algebraic : Cert.algebraic_OutProjIdeal_OutProjRefIdeal := by
  intro m ρ m' ρ' _ hag
  refine ⟨fun c => OutStage.goal m c,
    (θ_run Cert.OutProjIdeal.defs _ _).mono (fun r h c => ⟨(h c).1.trans (OutStage.final m c), (h c).2⟩) (Cert.OutProjIdeal.Value.run_blocks m ρ),
    (θ_run Cert.OutProjRefIdeal.defs _ _).mono (fun r h c => ?_) (Cert.OutProjRefIdeal.Value.run (F := Ideal) m' ρ')⟩
  obtain ⟨h0, hr⟩ := h c
  obtain ⟨a0, a1, a2⟩ := hag c
  refine ⟨h0.trans ((Cert.OutProjRefIdeal.Read.val_main_v3_eq (F := Ideal) _ _ _).trans ?_), hr⟩
  show Cert.OutProjRefIdeal.Read.val_main_v3 (m' ((c : Thread Cert.OutProjRefIdeal.nD Cert.OutProjRefIdeal.τ).loc Cert.OutProjRefIdeal.main_arg0)) (m' ((c : Thread Cert.OutProjRefIdeal.nD Cert.OutProjRefIdeal.τ).loc Cert.OutProjRefIdeal.main_arg1)) (m' ((c : Thread Cert.OutProjRefIdeal.nD Cert.OutProjRefIdeal.τ).loc Cert.OutProjRefIdeal.main_arg2)) = _
  rw [a0, a1, a2]

end OutProj

end Cert.Proof
end
-- ==== Proof.MergeBack.lean ====
/-
  What the kernel that carries the gradient back through the three merge gates leaves in its six results: the arrays
  the reference computes.
-/
module

public import proofs.«01_k».proof.Proof.Gen.MergeBwdIdeal.Value
public import proofs.«01_k».proof.Proof.Gen.MergeBwdRefIdeal.Read
public import Idealize.ShloMosaic.Lib.Pointwise
public import Idealize.ShloMosaic.Lib.Pipeline.ValueKit

@[expose] public section

set_option maxRecDepth 16384

noncomputable section

namespace Cert.MergeBack

open Idealize.ShloMosaic Idealize.ShloMosaic.TcCoe Idealize.ShloMosaic.Tactic Idealize.SL.Sem
open Idealize.ShloMosaic.Pipeline (Dat)
open Cert.MergeBwdIdeal Cert.MergeBwdIdeal.Gen
open Cert.MergeBwdRefIdeal.Read

variable (m : (ℓ : Loc nD τ sig) → Buf (Elt Ideal) ℓ)

theorem at0 : ∀ t : Fin cfg0.N, win0_0.index t = ![t.val / 8, t.val % 8] :=
  (by decide +kernel : ∀ t : Fin grid0.N, win0_0.index t = ![t.val / 8, t.val % 8])
theorem at1 : ∀ t : Fin cfg0.N, win0_1.index t = ![t.val / 8, t.val % 8] :=
  (by decide +kernel : ∀ t : Fin grid0.N, win0_1.index t = ![t.val / 8, t.val % 8])
theorem at2 : ∀ t : Fin cfg0.N, win0_2.index t = ![t.val / 8, t.val % 8] :=
  (by decide +kernel : ∀ t : Fin grid0.N, win0_2.index t = ![t.val / 8, t.val % 8])
theorem at6 : ∀ t : Fin cfg0.N, win0_6.index t = ![t.val / 8, t.val % 8] :=
  (by decide +kernel : ∀ t : Fin grid0.N, win0_6.index t = ![t.val / 8, t.val % 8])
theorem at7 : ∀ t : Fin cfg0.N, win0_7.index t = ![t.val / 8, t.val % 8] :=
  (by decide +kernel : ∀ t : Fin grid0.N, win0_7.index t = ![t.val / 8, t.val % 8])
theorem at8 : ∀ t : Fin cfg0.N, win0_8.index t = ![t.val / 8, t.val % 8] :=
  (by decide +kernel : ∀ t : Fin grid0.N, win0_8.index t = ![t.val / 8, t.val % 8])
theorem at9 : ∀ t : Fin cfg0.N, win0_9.index t = ![t.val / 8, t.val % 8] :=
  (by decide +kernel : ∀ t : Fin grid0.N, win0_9.index t = ![t.val / 8, t.val % 8])
theorem at10 : ∀ t : Fin cfg0.N, win0_10.index t = ![t.val / 8, t.val % 8] :=
  (by decide +kernel : ∀ t : Fin grid0.N, win0_10.index t = ![t.val / 8, t.val % 8])
theorem at11 : ∀ t : Fin cfg0.N, win0_11.index t = ![t.val / 8, t.val % 8] :=
  (by decide +kernel : ∀ t : Fin grid0.N, win0_11.index t = ![t.val / 8, t.val % 8])
theorem at12 : ∀ t : Fin cfg0.N, win0_12.index t = ![t.val / 8, t.val % 8] :=
  (by decide +kernel : ∀ t : Fin grid0.N, win0_12.index t = ![t.val / 8, t.val % 8])
theorem at3 : ∀ t : Fin cfg0.N, win0_3.index t = ![t.val / 8, 29 + t.val % 8] :=
  (by decide +kernel : ∀ t : Fin grid0.N, win0_3.index t = ![t.val / 8, 29 + t.val % 8])
theorem at4 : ∀ t : Fin cfg0.N, win0_4.index t = ![t.val / 8, 37 + t.val % 8] :=
  (by decide +kernel : ∀ t : Fin grid0.N, win0_4.index t = ![t.val / 8, 37 + t.val % 8])
theorem at5 : ∀ t : Fin cfg0.N, win0_5.index t = ![t.val / 8, 45 + t.val % 8] :=
  (by decide +kernel : ∀ t : Fin grid0.N, win0_5.index t = ![t.val / 8, 45 + t.val % 8])

/-- The logistic function, as the quotient the reference computes. -/
theorem logistic_eq (x : EReal) : Ideal.logistic x = Ideal.div 1 (1 + Ideal.exp (-x)) := rfl

/-- The gradient of the first branch: the reference's array, of the arguments the kernel was launched with. -/
abbrev goal7 (c : Dev nD) : Vec Ideal S2048x2048 .bf16 :=
  val_main_v49 (m ((c : Thread nD τ).loc main_arg3)) (m ((c : Thread nD τ).loc main_arg4))

/-- Each point writes its block of it, and the blocks fill the result. -/
theorem final7 (c : Dev nD) : (dats m 0 c).arrAt 7 cfg0.N = goal7 m c := by
  refine (dats m 0 c).arrAt_eq_of_covers 7 _ (by decide +kernel) fun t hf y => ?_
  blk_simp
  rw [after0_7]
  unfold out0_7
  frame_out
  show _ = val_main_v49 (F := Ideal) _ _ _
  pointwise [k0_pay14, k0_pay13, k0_pay12, k0_pay11, k0_pay10, k0_pay9, k0_pay8, k0_pay7, k0_pay6, k0_pay5, k0_pay4,
    k0_pay3, k0_pay2, k0_pay1, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_cst_7, val_main_v33, val_main_v32, val_main_cst_6, val_main_v31, val_main_v30, val_main_cst_5, val_main_v29, val_main_v28, val_main_v27, val_main_v26, val_main_v25, val_main_v24, val_main_v23, val_main_cst_4, val_main_v22, val_main_v21, val_main_cst_3, val_main_v20, val_main_v19, val_main_cst_2, val_main_v18, val_main_v17, val_main_v16, val_main_v15, val_main_v14, val_main_v13, val_main_cst_1, val_main_v12, val_main_v11, val_main_cst_0, val_main_v10, val_main_v9, val_main_cst, val_main_v8, val_main_v7, val_main_v6, val_main_v5, val_main_v4, val_main_v3, val_main_v2, val_main_v1, val_main_v0]
  simp only [logistic_eq]
  blk_point [iblk, V, at0, at1, at2, at3, at4, at5, at6, at7]

/-- The gradient of the second branch: the reference's array, of the arguments the kernel was launched with. -/
abbrev goal8 (c : Dev nD) : Vec Ideal S2048x2048 .bf16 :=
  val_main_v50 (m ((c : Thread nD τ).loc main_arg3)) (m ((c : Thread nD τ).loc main_arg4))

/-- Each point writes its block of it, and the blocks fill the result. -/
theorem final8 (c : Dev nD) : (dats m 0 c).arrAt 8 cfg0.N = goal8 m c := by
  refine (dats m 0 c).arrAt_eq_of_covers 8 _ (by decide +kernel) fun t hf y => ?_
  blk_simp
  rw [after0_8]
  unfold out0_8
  frame_out
  show _ = val_main_v50 (F := Ideal) _ _ _
  pointwise [k0_pay14, k0_pay13, k0_pay12, k0_pay11, k0_pay10, k0_pay9, k0_pay8, k0_pay7, k0_pay6, k0_pay5, k0_pay4,
    k0_pay3, k0_pay2, k0_pay1, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_cst_7, val_main_v33, val_main_v32, val_main_cst_6, val_main_v31, val_main_v30, val_main_cst_5, val_main_v29, val_main_v28, val_main_v27, val_main_v26, val_main_v25, val_main_v24, val_main_v23, val_main_cst_4, val_main_v22, val_main_v21, val_main_cst_3, val_main_v20, val_main_v19, val_main_cst_2, val_main_v18, val_main_v17, val_main_v16, val_main_v15, val_main_v14, val_main_v13, val_main_cst_1, val_main_v12, val_main_v11, val_main_cst_0, val_main_v10, val_main_v9, val_main_cst, val_main_v8, val_main_v7, val_main_v6, val_main_v5, val_main_v4, val_main_v3, val_main_v2, val_main_v1, val_main_v0]
  simp only [logistic_eq]
  blk_point [iblk, V, at0, at1, at2, at3, at4, at5, at6, at8]

/-- The gradient of the third branch: the reference's array, of the arguments the kernel was launched with. -/
abbrev goal9 (c : Dev nD) : Vec Ideal S2048x2048 .bf16 :=
  val_main_v51 (m ((c : Thread nD τ).loc main_arg3)) (m ((c : Thread nD τ).loc main_arg4))

/-- Each point writes its block of it, and the blocks fill the result. -/
theorem final9 (c : Dev nD) : (dats m 0 c).arrAt 9 cfg0.N = goal9 m c := by
  refine (dats m 0 c).arrAt_eq_of_covers 9 _ (by decide +kernel) fun t hf y => ?_
  blk_simp
  rw [after0_9]
  unfold out0_9
  frame_out
  show _ = val_main_v51 (F := Ideal) _ _ _
  pointwise [k0_pay14, k0_pay13, k0_pay12, k0_pay11, k0_pay10, k0_pay9, k0_pay8, k0_pay7, k0_pay6, k0_pay5, k0_pay4,
    k0_pay3, k0_pay2, k0_pay1, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_cst_7, val_main_v33, val_main_v32, val_main_cst_6, val_main_v31, val_main_v30, val_main_cst_5, val_main_v29, val_main_v28, val_main_v27, val_main_v26, val_main_v25, val_main_v24, val_main_v23, val_main_cst_4, val_main_v22, val_main_v21, val_main_cst_3, val_main_v20, val_main_v19, val_main_cst_2, val_main_v18, val_main_v17, val_main_v16, val_main_v15, val_main_v14, val_main_v13, val_main_cst_1, val_main_v12, val_main_v11, val_main_cst_0, val_main_v10, val_main_v9, val_main_cst, val_main_v8, val_main_v7, val_main_v6, val_main_v5, val_main_v4, val_main_v3, val_main_v2, val_main_v1, val_main_v0]
  simp only [logistic_eq]
  blk_point [iblk, V, at0, at1, at2, at3, at4, at5, at6, at9]

/-- The gradient of the first gate: the reference's array, of the arguments the kernel was launched with. -/
abbrev goal10 (c : Dev nD) : Vec Ideal S2048x2048 .bf16 :=
  val_main_v52 (m ((c : Thread nD τ).loc main_arg0)) (m ((c : Thread nD τ).loc main_arg3)) (m ((c : Thread nD τ).loc main_arg4))

/-- Each point writes its block of it, and the blocks fill the result. -/
theorem final10 (c : Dev nD) : (dats m 0 c).arrAt 10 cfg0.N = goal10 m c := by
  refine (dats m 0 c).arrAt_eq_of_covers 10 _ (by decide +kernel) fun t hf y => ?_
  blk_simp
  rw [after0_10]
  unfold out0_10
  frame_out
  show _ = val_main_v52 (F := Ideal) _ _ _ _
  pointwise [k0_pay14, k0_pay13, k0_pay12, k0_pay11, k0_pay10, k0_pay9, k0_pay8, k0_pay7, k0_pay6, k0_pay5, k0_pay4,
    k0_pay3, k0_pay2, k0_pay1, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_cst_7, val_main_v33, val_main_v32, val_main_cst_6, val_main_v31, val_main_v30, val_main_cst_5, val_main_v29, val_main_v28, val_main_v27, val_main_v26, val_main_v25, val_main_v24, val_main_v23, val_main_cst_4, val_main_v22, val_main_v21, val_main_cst_3, val_main_v20, val_main_v19, val_main_cst_2, val_main_v18, val_main_v17, val_main_v16, val_main_v15, val_main_v14, val_main_v13, val_main_cst_1, val_main_v12, val_main_v11, val_main_cst_0, val_main_v10, val_main_v9, val_main_cst, val_main_v8, val_main_v7, val_main_v6, val_main_v5, val_main_v4, val_main_v3, val_main_v2, val_main_v1, val_main_v0]
  simp only [logistic_eq]
  blk_point [iblk, V, at0, at1, at2, at3, at4, at5, at6, at10]

/-- The gradient of the second gate: the reference's array, of the arguments the kernel was launched with. -/
abbrev goal11 (c : Dev nD) : Vec Ideal S2048x2048 .bf16 :=
  val_main_v53 (m ((c : Thread nD τ).loc main_arg1)) (m ((c : Thread nD τ).loc main_arg3)) (m ((c : Thread nD τ).loc main_arg4))

/-- Each point writes its block of it, and the blocks fill the result. -/
theorem final11 (c : Dev nD) : (dats m 0 c).arrAt 11 cfg0.N = goal11 m c := by
  refine (dats m 0 c).arrAt_eq_of_covers 11 _ (by decide +kernel) fun t hf y => ?_
  blk_simp
  rw [after0_11]
  unfold out0_11
  frame_out
  show _ = val_main_v53 (F := Ideal) _ _ _ _
  pointwise [k0_pay14, k0_pay13, k0_pay12, k0_pay11, k0_pay10, k0_pay9, k0_pay8, k0_pay7, k0_pay6, k0_pay5, k0_pay4,
    k0_pay3, k0_pay2, k0_pay1, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_cst_7, val_main_v33, val_main_v32, val_main_cst_6, val_main_v31, val_main_v30, val_main_cst_5, val_main_v29, val_main_v28, val_main_v27, val_main_v26, val_main_v25, val_main_v24, val_main_v23, val_main_cst_4, val_main_v22, val_main_v21, val_main_cst_3, val_main_v20, val_main_v19, val_main_cst_2, val_main_v18, val_main_v17, val_main_v16, val_main_v15, val_main_v14, val_main_v13, val_main_cst_1, val_main_v12, val_main_v11, val_main_cst_0, val_main_v10, val_main_v9, val_main_cst, val_main_v8, val_main_v7, val_main_v6, val_main_v5, val_main_v4, val_main_v3, val_main_v2, val_main_v1, val_main_v0]
  simp only [logistic_eq]
  blk_point [iblk, V, at0, at1, at2, at3, at4, at5, at6, at11]

/-- The gradient of the third gate: the reference's array, of the arguments the kernel was launched with. -/
abbrev goal12 (c : Dev nD) : Vec Ideal S2048x2048 .bf16 :=
  val_main_v54 (m ((c : Thread nD τ).loc main_arg2)) (m ((c : Thread nD τ).loc main_arg3)) (m ((c : Thread nD τ).loc main_arg4))

/-- Each point writes its block of it, and the blocks fill the result. -/
theorem final12 (c : Dev nD) : (dats m 0 c).arrAt 12 cfg0.N = goal12 m c := by
  refine (dats m 0 c).arrAt_eq_of_covers 12 _ (by decide +kernel) fun t hf y => ?_
  blk_simp
  rw [after0_12]
  unfold out0_12
  frame_out
  show _ = val_main_v54 (F := Ideal) _ _ _ _
  pointwise [k0_pay14, k0_pay13, k0_pay12, k0_pay11, k0_pay10, k0_pay9, k0_pay8, k0_pay7, k0_pay6, k0_pay5, k0_pay4,
    k0_pay3, k0_pay2, k0_pay1, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_cst_7, val_main_v33, val_main_v32, val_main_cst_6, val_main_v31, val_main_v30, val_main_cst_5, val_main_v29, val_main_v28, val_main_v27, val_main_v26, val_main_v25, val_main_v24, val_main_v23, val_main_cst_4, val_main_v22, val_main_v21, val_main_cst_3, val_main_v20, val_main_v19, val_main_cst_2, val_main_v18, val_main_v17, val_main_v16, val_main_v15, val_main_v14, val_main_v13, val_main_cst_1, val_main_v12, val_main_v11, val_main_cst_0, val_main_v10, val_main_v9, val_main_cst, val_main_v8, val_main_v7, val_main_v6, val_main_v5, val_main_v4, val_main_v3, val_main_v2, val_main_v1, val_main_v0]
  simp only [logistic_eq]
  blk_point [iblk, V, at0, at1, at2, at3, at4, at5, at6, at12]

end Cert.MergeBack

end
-- ==== Proof.NormBack.lean ====
/-
  What the kernel of the norm's gradient leaves in its two results: the gradient of the rows, with the residual's
  gradient added, and the gradient of the scale, summed over all rows.
-/
module

public import proofs.«01_k».proof.Proof.Gen.RmsBwdIdeal.Value
public import proofs.«01_k».proof.Proof.Gen.RmsBwdRefIdeal.Read
public import Idealize.ShloMosaic.Lib.Pointwise
public import Idealize.ShloMosaic.Lib.Pipeline.ValueKit

@[expose] public section

set_option maxRecDepth 16384

noncomputable section

namespace Cert.NormBack

open Idealize.ShloMosaic Idealize.ShloMosaic.TcCoe Idealize.ShloMosaic.Tactic Idealize.SL.Sem
open Idealize.ShloMosaic.Pipeline (Dat)
open Cert.RmsBwdIdeal Cert.RmsBwdIdeal.Gen
open Cert.RmsBwdRefIdeal.Read

variable (m : (ℓ : Loc nD τ sig) → Buf (Elt Ideal) ℓ)

theorem at0 : ∀ t : Fin cfg0.N, win0_0.index t = ![t.val, 0] :=
  (by decide +kernel : ∀ t : Fin grid0.N, win0_0.index t = ![t.val, 0])
theorem at2 : ∀ t : Fin cfg0.N, win0_2.index t = ![t.val, 0] :=
  (by decide +kernel : ∀ t : Fin grid0.N, win0_2.index t = ![t.val, 0])
theorem at3 : ∀ t : Fin cfg0.N, win0_3.index t = ![t.val, 0] :=
  (by decide +kernel : ∀ t : Fin grid0.N, win0_3.index t = ![t.val, 0])
theorem at4 : ∀ t : Fin cfg0.N, win0_4.index t = ![t.val, 0] :=
  (by decide +kernel : ∀ t : Fin grid0.N, win0_4.index t = ![t.val, 0])
theorem at1 : ∀ t : Fin cfg0.N, win0_1.index t = ![0, 0] :=
  (by decide +kernel : ∀ t : Fin grid0.N, win0_1.index t = ![0, 0])
theorem at5 : ∀ t : Fin cfg0.N, win0_5.index t = ![0, 0] :=
  (by decide +kernel : ∀ t : Fin grid0.N, win0_5.index t = ![0, 0])

/-- The gradient of the rows: the reference's array, of the arguments the kernel was launched with. -/
abbrev goal4 (c : Dev nD) : Vec Ideal S2048x2048 .f32 :=
  val_main_v36 (m ((c : Thread nD τ).loc main_arg0)) (m ((c : Thread nD τ).loc main_arg1)) (m ((c : Thread nD τ).loc main_arg2)) (m ((c : Thread nD τ).loc main_arg3))

/-- The gradient of the scale. -/
abbrev goal5 (c : Dev nD) : Vec Ideal S1x2048 .f32 := val_main_v37 (m ((c : Thread nD τ).loc main_arg0)) (m ((c : Thread nD τ).loc main_arg2))

/-- At every point the row gradient's block is the same formula of the blocks read there. -/
theorem block4 (c : Dev nD) (t : Fin cfg0.N) :
    (outsAt0 m c t.val t.isLt).1 = k0_pay6 (iblk m c 0 t) (iblk m c 1 t) (iblk m c 2 t) (iblk m c 3 t) := by
  by_cases h0 : t.val % 8 = 0
  · rw [outsAt0_A m c t h0]
    frame_out
  · rw [outsAt0_B m c t h0]
    frame_out

/-- Each point writes its block of rows, and the blocks fill the result. -/
theorem final4 (c : Dev nD) : (dats m 0 c).arrAt 4 cfg0.N = goal4 m c := by
  refine (dats m 0 c).arrAt_eq_of_covers 4 _ (by decide +kernel) fun t hf y => ?_
  blk_simp
  rw [after0_4, block4]
  show _ = val_main_v36 (F := Ideal) _ _ _ _ _
  pointwise [k0_pay6, k0_pay5, k0_pay4, k0_pay3, k0_pay2, k0_pay1, val_main_v37, val_main_v36, val_main_v35, val_main_v34, val_main_v33, val_main_v32, val_main_v31, val_main_v30, val_main_cst_7, val_main_v29, val_main_v28, val_main_cst_6, val_main_v27, val_main_v26, val_main_v25, val_main_v24, val_main_v23, val_main_cst_5, val_main_v22, val_main_v21, val_main_cst_4, val_main_v20, val_main_v19, val_main_v18, val_main_v17, val_main_cst_3, val_main_v16, val_main_v15, val_main_v14, val_main_v13, val_main_v12, val_main_v11, val_main_v10, val_main_v9, val_main_cst_2, val_main_v8, val_main_v7, val_main_v6, val_main_v5, val_main_cst_1, val_main_v4, val_main_v3, val_main_cst_0, val_main_v2, val_main_v1, val_main_cst, val_main_v0]
  simp only [zero_sub, Fin.sum_univ_one]
  blk_point [iblk, V, at0, at1, at2, at3, at4]

/-- What a point adds to the carried line. -/
abbrev share (c : Dev nD) (t : Fin cfg0.N) : Vec Ideal S1x2048 .f32 := k0_pay5 (iblk m c 0 t) (iblk m c 2 t)

theorem add_line (x : FVec Ideal S1x2048 .f32) (y : Vec Ideal S1x2048 .f32) (j : S1x2048.Idx) : k0_pay2 x y j = y j + x j := by
  pointwise [k0_pay2]

/-- The carried line after the last point is the sum of all points' shares. -/
theorem line5 (c : Dev nD) (j : S1x2048.Idx) :
    (outsAt0 m c t0_7.val t0_7.isLt).2 j = ∑ t : Fin cfg0.N, share m c t j := by
  have h := Pipeline.eq_sum_fin_of_reset_step_apply_last (fun n h => (outsAt0 m c n h).2) 8 (fun _ => (0 : EReal)) (share m c)
    (fun t h j => by
      rw [outsAt0_A m c t h]
      frame_out
      rw [add_line]
      pointwise [k0_pay1])
    (fun t h j => by
      rw [outsAt0_B m c t h]
      frame_out
      rw [add_line])
    (le_of_eq N_0) t0_7 rfl j
  rw [h]
  exact zero_add _

theorem final5 (c : Dev nD) : (dats m 0 c).arrAt 5 cfg0.N = goal5 m c := by
  refine (dats m 0 c).arrAt_eq_of_after_last 5 t0_7 (by decide +kernel) _ fun j => ?_
  blk_simp
  rw [after0_5]
  refine (line5 m c _).trans ?_
  show _ = val_main_v37 (F := Ideal) _ _ _
  pointwise [share, k0_pay6, k0_pay5, k0_pay4, k0_pay3, k0_pay2, k0_pay1, val_main_v37, val_main_v36, val_main_v35, val_main_v34, val_main_v33, val_main_v32, val_main_v31, val_main_v30, val_main_cst_7, val_main_v29, val_main_v28, val_main_cst_6, val_main_v27, val_main_v26, val_main_v25, val_main_v24, val_main_v23, val_main_cst_5, val_main_v22, val_main_v21, val_main_cst_4, val_main_v20, val_main_v19, val_main_v18, val_main_v17, val_main_cst_3, val_main_v16, val_main_v15, val_main_v14, val_main_v13, val_main_v12, val_main_v11, val_main_v10, val_main_v9, val_main_cst_2, val_main_v8, val_main_v7, val_main_v6, val_main_v5, val_main_cst_1, val_main_v4, val_main_v3, val_main_cst_0, val_main_v2, val_main_v1, val_main_cst, val_main_v0]
  simp only [zero_sub, Fin.sum_univ_one]
  refine Fin.sum_mul_add_congr fun t r hl => ?_
  blk_point [iblk, V, at0, at1, at2, at3, at4]

end Cert.NormBack

end
-- ==== Proof.LossBack.lean ====
/-
  What the kernel of the last norm and the loss leaves in its three results: the loss, the gradient of the rows and the
  gradient of the norm's scale.
-/
module

public import proofs.«01_k».proof.Proof.Gen.LossHeadIdeal.Value
public import proofs.«01_k».proof.Proof.Gen.LossHeadRefIdeal.Read
public import Idealize.ShloMosaic.Lib.Pointwise
public import Idealize.ShloMosaic.Lib.Pipeline.ValueKit

@[expose] public section

set_option maxRecDepth 16384

noncomputable section

namespace Cert.LossBack

open Idealize.ShloMosaic Idealize.ShloMosaic.TcCoe Idealize.ShloMosaic.Tactic Idealize.SL.Sem
open Idealize.ShloMosaic.Pipeline (Dat)
open Cert.LossHeadIdeal Cert.LossHeadIdeal.Gen
open Cert.LossHeadRefIdeal.Read

variable (m : (ℓ : Loc nD τ sig) → Buf (Elt Ideal) ℓ)

theorem at0 : ∀ t : Fin cfg0.N, win0_0.index t = ![t.val, 0] :=
  (by decide +kernel : ∀ t : Fin grid0.N, win0_0.index t = ![t.val, 0])
theorem at2 : ∀ t : Fin cfg0.N, win0_2.index t = ![t.val, 0] :=
  (by decide +kernel : ∀ t : Fin grid0.N, win0_2.index t = ![t.val, 0])
theorem at4 : ∀ t : Fin cfg0.N, win0_4.index t = ![t.val, 0] :=
  (by decide +kernel : ∀ t : Fin grid0.N, win0_4.index t = ![t.val, 0])
theorem at1 : ∀ t : Fin cfg0.N, win0_1.index t = ![0, 0] :=
  (by decide +kernel : ∀ t : Fin grid0.N, win0_1.index t = ![0, 0])
theorem at3 : ∀ t : Fin cfg0.N, win0_3.index t = ![0, 0] :=
  (by decide +kernel : ∀ t : Fin grid0.N, win0_3.index t = ![0, 0])
theorem at5 : ∀ t : Fin cfg0.N, win0_5.index t = ![0, 0] :=
  (by decide +kernel : ∀ t : Fin grid0.N, win0_5.index t = ![0, 0])

/-- The numbers the two programs multiply and divide by. -/
theorem quarter : Ideal.ofBits .f32 964689920#32 = ((1 / 4096 : ℝ) : EReal) := by
  simp [Ideal.ofBits, Ideal.ieee, -EReal.coe_mul]; norm_num
theorem half : Ideal.ofBits .f32 1056964608#32 = ((1 / 2 : ℝ) : EReal) := by
  simp [Ideal.ofBits, Ideal.ieee, -EReal.coe_mul]; norm_num
theorem width : Ideal.ofBits .f32 1157627904#32 = ((2048 : ℝ) : EReal) := by
  simp [Ideal.ofBits, Ideal.ieee, -EReal.coe_mul]; norm_num
theorem two : Ideal.ofBits .f32 1073741824#32 = ((2 : ℝ) : EReal) := by
  simp [Ideal.ofBits, Ideal.ieee, -EReal.coe_mul]; norm_num

/-- The gradient of the square, added up twice by the kernel and doubled by the reference. -/
theorem twice (x : EReal) : x * Ideal.ofBits .f32 964689920#32 + Ideal.ofBits .f32 964689920#32 * x
    = Ideal.div (Ideal.ofBits .f32 1056964608#32) (Ideal.ofBits .f32 1157627904#32) * (Ideal.ofBits .f32 1073741824#32 * x) := by
  rw [quarter, half, width, two, Ideal.div_coe (by norm_num), ← mul_assoc, ← EReal.coe_mul, ← EReal.coe_mul, mul_comm x,
    ← EReal.right_distrib_of_nonneg (by exact_mod_cast (by norm_num : (0 : ℝ) ≤ 1 / 4096)) (by exact_mod_cast (by norm_num : (0 : ℝ) ≤ 1 / 4096)),
    ← EReal.coe_add]
  norm_num

/-- Times a positive number, as a map that keeps sums. -/
def times (k : ℝ) (hk : 0 ≤ k) : EReal →+ EReal where
  toFun x := (k : EReal) * x
  map_zero' := mul_zero _
  map_add' x y := EReal.left_distrib_of_nonneg_of_ne_top (by exact_mod_cast hk) (EReal.coe_ne_top k) x y

theorem times_sum {n : ℕ} (k : ℝ) (hk : 0 ≤ k) (f : Fin n → EReal) : (k : EReal) * ∑ i, f i = ∑ i, (k : EReal) * f i :=
  map_sum (times k hk) f Finset.univ

/-- The mean of each row halved, and each block's sum times its share: the same multiple of each row's sum. -/
theorem times_half (f : Fin 2048 → EReal) :
    Ideal.ofBits .f32 1056964608#32 * ∑ i, Ideal.div (f i) (Ideal.ofBits .f32 1157627904#32)
      = ∑ i, Ideal.ofBits .f32 964689920#32 * f i := by
  rw [quarter, half, width, times_sum _ (by norm_num)]
  refine Finset.sum_congr rfl fun i _ => ?_
  rw [Ideal.div_coe (by norm_num), mul_comm (f i), ← mul_assoc, ← EReal.coe_mul]
  norm_num

theorem times_quarter {n : ℕ} (f : Fin n → EReal) :
    (∑ i, f i) * Ideal.ofBits .f32 964689920#32 = ∑ i, Ideal.ofBits .f32 964689920#32 * f i := by
  rw [quarter, mul_comm, times_sum _ (by norm_num)]

/-- The three results, as the reference computes them of the arguments the kernel was launched with. -/
abbrev goal3 (c : Dev nD) : Vec Ideal S8x128 .f32 := val_main_v51 (m ((c : Thread nD τ).loc main_arg0)) (m ((c : Thread nD τ).loc main_arg1)) (m ((c : Thread nD τ).loc main_arg2))
abbrev goal4 (c : Dev nD) : Vec Ideal S2048x2048 .f32 := val_main_v50 (m ((c : Thread nD τ).loc main_arg0)) (m ((c : Thread nD τ).loc main_arg1)) (m ((c : Thread nD τ).loc main_arg2))
abbrev goal5 (c : Dev nD) : Vec Ideal S1x2048 .f32 := val_main_v52 (m ((c : Thread nD τ).loc main_arg0)) (m ((c : Thread nD τ).loc main_arg1)) (m ((c : Thread nD τ).loc main_arg2))

theorem block4 (c : Dev nD) (t : Fin cfg0.N) :
    (outsAt0 m c t.val t.isLt).2.1 = k0_pay1 (iblk m c 0 t) (k0_pay15 (iblk m c 2 t) (iblk m c 0 t) (iblk m c 1 t)) (k0_pay16 (iblk m c 2 t) (iblk m c 0 t) (iblk m c 1 t)) (Scalar.ofBits .f32 0x45000000#32) := by
  by_cases h0 : t.val % 8 = 0
  · rw [outsAt0_A m c t h0]
    frame_out
  · rw [outsAt0_B m c t h0]
    frame_out

theorem final4 (c : Dev nD) : (dats m 0 c).arrAt 4 cfg0.N = goal4 m c := by
  refine (dats m 0 c).arrAt_eq_of_covers 4 _ (by decide +kernel) fun t hf y => ?_
  blk_simp
  rw [after0_4, block4]
  show _ = val_main_v50 (F := Ideal) _ _ _ _
  pointwise [k0_pay16, k0_pay15, k0_pay14, k0_pay13, k0_pay12, k0_pay11, k0_pay10, k0_pay9, k0_pay8, k0_pay7, k0_pay6, k0_pay5, k0_pay4, k0_pay3, k0_pay2, k0_pay1, val_main_v52, val_main_v51, val_main_v50, val_main_v49, val_main_v48, val_main_v47, val_main_v46, val_main_v45, val_main_cst_15, val_main_v44, val_main_v43, val_main_cst_14, val_main_v42, val_main_v41, val_main_v40, val_main_v39, val_main_v38, val_main_cst_13, val_main_v37, val_main_v36, val_main_cst_12, val_main_v35, val_main_v34, val_main_v33, val_main_v32, val_main_cst_11, val_main_v31, val_main_v30, val_main_v29, val_main_v28, val_main_v27, val_main_cst_10, val_main_v26, val_main_v25, val_main_cst_9, val_main_cst_8, val_main_v24, val_main_cst_7, val_main_v23, val_main_cst_6, val_main_v22, val_main_v21, val_main_cst_5, val_main_v20, val_main_cst_4, val_main_v19, val_main_v18, val_main_cst_3, val_main_v17, val_main_v16, val_main_v15, val_main_v14, val_main_v13, val_main_v12, val_main_v11, val_main_v10, val_main_v9, val_main_cst_2, val_main_v8, val_main_v7, val_main_v6, val_main_v5, val_main_cst_1, val_main_v4, val_main_v3, val_main_cst_0, val_main_v2, val_main_v1, val_main_cst, val_main_v0]
  simp only [twice, zero_sub, Fin.sum_univ_one]
  blk_point [iblk, V, at0, at1, at2, at3, at4, at5]

abbrev share3 (c : Dev nD) (t : Fin cfg0.N) : EReal := k0_pay11 (iblk m c 2 t) (iblk m c 0 t) (iblk m c 1 t)
abbrev share5 (c : Dev nD) (t : Fin cfg0.N) : Vec Ideal S1x2048 .f32 := k0_pay13 (iblk m c 2 t) (iblk m c 0 t) (iblk m c 1 t)

theorem add3 (x : EReal) (z : Vec Ideal S8x128 .f32) (j : S8x128.Idx) : k0_pay5 (F := Ideal) x z j = z j + x := by
  pointwise [k0_pay5]

theorem add5 (x : FVec Ideal S1x2048 .f32) (z : Vec Ideal S1x2048 .f32) (j : S1x2048.Idx) : k0_pay4 x z j = z j + x j := by
  pointwise [k0_pay4]

theorem line3 (c : Dev nD) (j : S8x128.Idx) :
    (outsAt0 m c t0_7.val t0_7.isLt).1 j = ∑ t : Fin cfg0.N, share3 m c t := by
  have h := Pipeline.eq_sum_fin_of_reset_step_apply_last (fun n h => (outsAt0 m c n h).1) 8 (fun _ => (0 : EReal)) (fun t _ => share3 m c t)
    (fun t h j => by
      rw [outsAt0_A m c t h]
      frame_out
      rw [add3]
      pointwise [k0_pay3])
    (fun t h j => by
      rw [outsAt0_B m c t h]
      frame_out
      rw [add3])
    (le_of_eq N_0) t0_7 rfl j
  rw [h]
  exact zero_add _

theorem line5 (c : Dev nD) (j : S1x2048.Idx) :
    (outsAt0 m c t0_7.val t0_7.isLt).2.2 j = ∑ t : Fin cfg0.N, share5 m c t j := by
  have h := Pipeline.eq_sum_fin_of_reset_step_apply_last (fun n h => (outsAt0 m c n h).2.2) 8 (fun _ => (0 : EReal)) (share5 m c)
    (fun t h j => by
      rw [outsAt0_A m c t h]
      frame_out
      rw [add5]
      pointwise [k0_pay2])
    (fun t h j => by
      rw [outsAt0_B m c t h]
      frame_out
      rw [add5])
    (le_of_eq N_0) t0_7 rfl j
  rw [h]
  exact zero_add _

theorem final3 (c : Dev nD) : (dats m 0 c).arrAt 3 cfg0.N = goal3 m c := by
  refine (dats m 0 c).arrAt_eq_of_after_last 3 t0_7 (by decide +kernel) _ fun j => ?_
  blk_simp
  rw [after0_3]
  refine (line3 m c _).trans ?_
  show _ = val_main_v51 (F := Ideal) _ _ _ _
  pointwise [share3, k0_pay16, k0_pay15, k0_pay14, k0_pay13, k0_pay12, k0_pay11, k0_pay10, k0_pay9, k0_pay8, k0_pay7, k0_pay6, k0_pay5, k0_pay4, k0_pay3, k0_pay2, k0_pay1, val_main_v52, val_main_v51, val_main_v50, val_main_v49, val_main_v48, val_main_v47, val_main_v46, val_main_v45, val_main_cst_15, val_main_v44, val_main_v43, val_main_cst_14, val_main_v42, val_main_v41, val_main_v40, val_main_v39, val_main_v38, val_main_cst_13, val_main_v37, val_main_v36, val_main_cst_12, val_main_v35, val_main_v34, val_main_v33, val_main_v32, val_main_cst_11, val_main_v31, val_main_v30, val_main_v29, val_main_v28, val_main_v27, val_main_cst_10, val_main_v26, val_main_v25, val_main_cst_9, val_main_cst_8, val_main_v24, val_main_cst_7, val_main_v23, val_main_cst_6, val_main_v22, val_main_v21, val_main_cst_5, val_main_v20, val_main_cst_4, val_main_v19, val_main_v18, val_main_cst_3, val_main_v17, val_main_v16, val_main_v15, val_main_v14, val_main_v13, val_main_v12, val_main_v11, val_main_v10, val_main_v9, val_main_cst_2, val_main_v8, val_main_v7, val_main_v6, val_main_v5, val_main_cst_1, val_main_v4, val_main_v3, val_main_cst_0, val_main_v2, val_main_v1, val_main_cst, val_main_v0]
  simp only [times_quarter, times_half]
  refine Fin.sum_mul_add_congr fun t r hl => ?_
  blk_point [iblk, V, at0, at1, at2, at3, at4, at5]

theorem final5 (c : Dev nD) : (dats m 0 c).arrAt 5 cfg0.N = goal5 m c := by
  refine (dats m 0 c).arrAt_eq_of_after_last 5 t0_7 (by decide +kernel) _ fun j => ?_
  blk_simp
  rw [after0_5]
  refine (line5 m c _).trans ?_
  show _ = val_main_v52 (F := Ideal) _ _ _ _
  pointwise [share5, k0_pay16, k0_pay15, k0_pay14, k0_pay13, k0_pay12, k0_pay11, k0_pay10, k0_pay9, k0_pay8, k0_pay7, k0_pay6, k0_pay5, k0_pay4, k0_pay3, k0_pay2, k0_pay1, val_main_v52, val_main_v51, val_main_v50, val_main_v49, val_main_v48, val_main_v47, val_main_v46, val_main_v45, val_main_cst_15, val_main_v44, val_main_v43, val_main_cst_14, val_main_v42, val_main_v41, val_main_v40, val_main_v39, val_main_v38, val_main_cst_13, val_main_v37, val_main_v36, val_main_cst_12, val_main_v35, val_main_v34, val_main_v33, val_main_v32, val_main_cst_11, val_main_v31, val_main_v30, val_main_v29, val_main_v28, val_main_v27, val_main_cst_10, val_main_v26, val_main_v25, val_main_cst_9, val_main_cst_8, val_main_v24, val_main_cst_7, val_main_v23, val_main_cst_6, val_main_v22, val_main_v21, val_main_cst_5, val_main_v20, val_main_cst_4, val_main_v19, val_main_v18, val_main_cst_3, val_main_v17, val_main_v16, val_main_v15, val_main_v14, val_main_v13, val_main_v12, val_main_v11, val_main_v10, val_main_v9, val_main_cst_2, val_main_v8, val_main_v7, val_main_v6, val_main_v5, val_main_cst_1, val_main_v4, val_main_v3, val_main_cst_0, val_main_v2, val_main_v1, val_main_cst, val_main_v0]
  simp only [twice, Fin.sum_univ_one]
  refine Fin.sum_mul_add_congr fun t r hl => ?_
  blk_point [iblk, V, at0, at1, at2, at3, at4, at5]

end Cert.LossBack

end
-- ==== Proof.GluBack.lean ====
/-
  What the kernel of the gated unit's gradient leaves in its four results: the gradients of its input rows and of its
  gate rows, and those of its weight and its bias, summed over all rows.
-/
module

public import proofs.«01_k».proof.Proof.Gen.GluBwdIdeal.Value
public import proofs.«01_k».proof.Proof.Gen.GluBwdRefIdeal.Read
public import Idealize.ShloMosaic.Lib.Pointwise
public import Idealize.ShloMosaic.Lib.Pipeline.ValueKit

@[expose] public section

set_option maxRecDepth 16384

noncomputable section

namespace Cert.GluBack

open Idealize.ShloMosaic Idealize.ShloMosaic.TcCoe Idealize.ShloMosaic.Tactic Idealize.SL.Sem
open Idealize.ShloMosaic.Pipeline (Dat)
open Cert.GluBwdIdeal Cert.GluBwdIdeal.Gen
open Cert.GluBwdRefIdeal.Read

variable (m : (ℓ : Loc nD τ sig) → Buf (Elt Ideal) ℓ)

theorem at0 : ∀ t : Fin cfg0.N, win0_0.index t = ![t.val, 0] :=
  (by decide +kernel : ∀ t : Fin grid0.N, win0_0.index t = ![t.val, 0])
theorem at4 : ∀ t : Fin cfg0.N, win0_4.index t = ![t.val, 0] :=
  (by decide +kernel : ∀ t : Fin grid0.N, win0_4.index t = ![t.val, 0])
theorem at5 : ∀ t : Fin cfg0.N, win0_5.index t = ![t.val, 0] :=
  (by decide +kernel : ∀ t : Fin grid0.N, win0_5.index t = ![t.val, 0])
theorem at6 : ∀ t : Fin cfg0.N, win0_6.index t = ![t.val, 0] :=
  (by decide +kernel : ∀ t : Fin grid0.N, win0_6.index t = ![t.val, 0])
theorem at2 : ∀ t : Fin cfg0.N, win0_2.index t = ![0, 0] :=
  (by decide +kernel : ∀ t : Fin grid0.N, win0_2.index t = ![0, 0])
theorem at3 : ∀ t : Fin cfg0.N, win0_3.index t = ![0, 0] :=
  (by decide +kernel : ∀ t : Fin grid0.N, win0_3.index t = ![0, 0])
theorem at7 : ∀ t : Fin cfg0.N, win0_7.index t = ![0, 0] :=
  (by decide +kernel : ∀ t : Fin grid0.N, win0_7.index t = ![0, 0])
theorem at8 : ∀ t : Fin cfg0.N, win0_8.index t = ![0, 0] :=
  (by decide +kernel : ∀ t : Fin grid0.N, win0_8.index t = ![0, 0])

/-- The logistic function, as the quotient the reference computes. -/
theorem logistic_eq (x : EReal) : Ideal.logistic x = Ideal.div 1 (1 + Ideal.exp (-x)) := rfl

theorem at_gate : ∀ t : Fin cfg0.N, win0_1.index t 0 = t.val ∧ win0_1.index t 1 = 1 :=
  (by decide +kernel : ∀ t : Fin grid0.N, win0_1.index t 0 = t.val ∧ win0_1.index t 1 = 1)

/-- A row of all rows, and the column of the gate among all columns. -/
def row (t : Fin cfg0.N) (r : Fin 512) : Fin 2048 :=
  ⟨t.val * 512 + r.val, by have h := lt_of_lt_of_eq t.isLt N_0; have := r.isLt; omega⟩
def col (k : Fin 1024) : Fin 13568 := ⟨1024 + k.val, by have := k.isLt; omega⟩

/-- The block of gate rows read at a point. -/
theorem read_gate (c : Dev nD) (t : Fin cfg0.N) (r : Fin 512) (k : Fin 1024) :
    X0_1 m c t (ix2 r k) = m ((c : Thread nD τ).loc main_arg1) (ix2 (row t r) (col k)) := by
  unfold X0_1 Pipeline.Window.fill
  rw [dif_pos (moved0_1 t _)]
  unfold iblk
  rw [View.read_apply]
  show V m c main_arg1 _ = _
  rw [V_main_arg1]
  congr 1
  funext a
  apply Fin.ext
  match a with
  | ⟨0, _⟩ => show win0_1.index t 0 * 512 + 1 * r.val = t.val * 512 + r.val; rw [(at_gate t).1]; omega
  | ⟨1, _⟩ => show win0_1.index t 1 * 1024 + 1 * k.val = 1024 + k.val; rw [(at_gate t).2]; omega

/-- The same block as one array. -/
def gate (c : Dev nD) (t : Fin cfg0.N) : Vec Ideal S512x1024 .bf16 :=
  fun y => m ((c : Thread nD τ).loc main_arg1) (ix2 (row t (y 0)) (col (y 1)))

theorem gate_eq (c : Dev nD) (t : Fin cfg0.N) : X0_1 m c t = gate m c t := by
  funext y
  have hy : y = ix2 (y 0) (y 1) := by
    funext a
    match a with
    | ⟨0, _⟩ => rfl
    | ⟨1, _⟩ => rfl
  exact (congrArg (X0_1 m c t) hy).trans (read_gate m c t (y 0) (y 1))

/-- The gradient of the input rows: the reference's array, of the arguments the kernel was launched with. -/
abbrev goal5 (c : Dev nD) : Vec Ideal S2048x1024 .bf16 := val_main_v34 (m ((c : Thread nD τ).loc main_arg0)) (m ((c : Thread nD τ).loc main_arg1)) (m ((c : Thread nD τ).loc main_arg2)) (m ((c : Thread nD τ).loc main_arg3)) (m ((c : Thread nD τ).loc main_arg4))

/-- The gradient of the gate rows. -/
abbrev goal6 (c : Dev nD) : Vec Ideal S2048x1024 .bf16 := val_main_v35 (m ((c : Thread nD τ).loc main_arg0)) (m ((c : Thread nD τ).loc main_arg1)) (m ((c : Thread nD τ).loc main_arg2)) (m ((c : Thread nD τ).loc main_arg3)) (m ((c : Thread nD τ).loc main_arg4))

/-- The gradient of the weight. -/
abbrev goal7 (c : Dev nD) : Vec Ideal S1024x1024 .f32 := val_main_v31 (m ((c : Thread nD τ).loc main_arg0)) (m ((c : Thread nD τ).loc main_arg1)) (m ((c : Thread nD τ).loc main_arg2)) (m ((c : Thread nD τ).loc main_arg3)) (m ((c : Thread nD τ).loc main_arg4))

/-- The gradient of the bias. -/
abbrev goal8 (c : Dev nD) : Vec Ideal S1x1024 .f32 := val_main_v36 (m ((c : Thread nD τ).loc main_arg0)) (m ((c : Thread nD τ).loc main_arg1)) (m ((c : Thread nD τ).loc main_arg2)) (m ((c : Thread nD τ).loc main_arg3)) (m ((c : Thread nD τ).loc main_arg4))

/-- At every point the two written blocks are the same formulas of the blocks read there. -/
theorem block5 (c : Dev nD) (t : Fin cfg0.N) :
    (outsAt0 m c t.val t.isLt).1 = k0_pay16 (iblk m c 0 t) (iblk m c 2 t) (gate m c t) (iblk m c 3 t) (iblk m c 4 t) (iblk m c 2 t) := by
  by_cases h0 : t.val % 4 = 0
  · rw [outsAt0_A m c t h0, gate_eq]
    frame_out
  · rw [outsAt0_B m c t h0, gate_eq]
    frame_out

theorem block6 (c : Dev nD) (t : Fin cfg0.N) :
    (outsAt0 m c t.val t.isLt).2.1 = k0_pay1 (k0_pay12 (iblk m c 0 t) (iblk m c 2 t) (gate m c t) (iblk m c 3 t) (iblk m c 4 t)) := by
  by_cases h0 : t.val % 4 = 0
  · rw [outsAt0_A m c t h0, gate_eq]
    frame_out
  · rw [outsAt0_B m c t h0, gate_eq]
    frame_out

theorem final5 (c : Dev nD) : (dats m 0 c).arrAt 5 cfg0.N = goal5 m c := by
  refine (dats m 0 c).arrAt_eq_of_covers 5 _ (by decide +kernel) fun t hf y => ?_
  blk_simp
  rw [after0_5, block5]
  show _ = val_main_v34 (F := Ideal) _ _ _ _ _ _
  pointwise [gate, row, col, k0_pay16, k0_pay15, k0_pay14, k0_pay13, k0_pay12, k0_pay11, k0_pay10, k0_pay9, k0_pay8, k0_pay7, k0_pay6, k0_pay5, k0_pay4, k0_pay3, k0_pay2, k0_pay1, val_main_v36, val_main_v35, val_main_v34, val_main_v33, val_main_v32, val_main_v31, val_main_v30, val_main_v29, val_main_cst_3, val_main_v28, val_main_v27, val_main_cst_2, val_main_v26, val_main_v25, val_main_v24, val_main_v23, val_main_call1_v2, val_main_call1_v1, val_main_call1_v0, val_main_v22, val_main_v21, val_main_v20, val_main_v19, val_main_v18_0, val_main_v18_1, val_main_call0_v7, val_main_call0_v6, val_main_call0_cst_1, val_main_v18_2, val_main_call0_v4, val_main_call0_cst_0, val_main_call0_v3, val_main_call0_v2, val_main_call0_cst, val_main_call0_v1, val_main_call0_v0, val_main_v17, val_main_v16, val_main_v15, val_main_v14, val_main_cst_1, val_main_v13, val_main_v12, val_main_cst_0, val_main_v11, val_main_v10, val_main_cst, val_main_v9, val_main_v8, val_main_v7, val_main_v6, val_main_v5, val_main_v4, val_main_v3, val_main_v2, val_main_v1, val_main_v0]
  simp only [logistic_eq]
  blk_point [iblk, V, row, col, at0, at2, at3, at4, at5, at6, at7, at8]

theorem final6 (c : Dev nD) : (dats m 0 c).arrAt 6 cfg0.N = goal6 m c := by
  refine (dats m 0 c).arrAt_eq_of_covers 6 _ (by decide +kernel) fun t hf y => ?_
  blk_simp
  rw [after0_6, block6]
  show _ = val_main_v35 (F := Ideal) _ _ _ _ _ _
  pointwise [gate, row, col, k0_pay16, k0_pay15, k0_pay14, k0_pay13, k0_pay12, k0_pay11, k0_pay10, k0_pay9, k0_pay8, k0_pay7, k0_pay6, k0_pay5, k0_pay4, k0_pay3, k0_pay2, k0_pay1, val_main_v36, val_main_v35, val_main_v34, val_main_v33, val_main_v32, val_main_v31, val_main_v30, val_main_v29, val_main_cst_3, val_main_v28, val_main_v27, val_main_cst_2, val_main_v26, val_main_v25, val_main_v24, val_main_v23, val_main_call1_v2, val_main_call1_v1, val_main_call1_v0, val_main_v22, val_main_v21, val_main_v20, val_main_v19, val_main_v18_0, val_main_v18_1, val_main_call0_v7, val_main_call0_v6, val_main_call0_cst_1, val_main_v18_2, val_main_call0_v4, val_main_call0_cst_0, val_main_call0_v3, val_main_call0_v2, val_main_call0_cst, val_main_call0_v1, val_main_call0_v0, val_main_v17, val_main_v16, val_main_v15, val_main_v14, val_main_cst_1, val_main_v13, val_main_v12, val_main_cst_0, val_main_v11, val_main_v10, val_main_cst, val_main_v9, val_main_v8, val_main_v7, val_main_v6, val_main_v5, val_main_v4, val_main_v3, val_main_v2, val_main_v1, val_main_v0]
  simp only [logistic_eq]
  blk_point [iblk, V, row, col, at0, at2, at3, at4, at5, at6, at7, at8]

/-- What a point adds to the carried weight gradient and to the carried bias gradient. -/
abbrev share7 (c : Dev nD) (t : Fin cfg0.N) : Vec Ideal S1024x1024 .f32 :=
  matmul (φ₁ := .bf16) dot_S512x1024_S512x1024_S1024x1024_0_0_1_1_n_n none (iblk m c 0 t) (k0_pay15 (iblk m c 0 t) (iblk m c 2 t) (gate m c t) (iblk m c 3 t) (iblk m c 4 t)) (constant S1024x1024 .f32 0x00000000#32)
abbrev share8 (c : Dev nD) (t : Fin cfg0.N) : Vec Ideal S1x1024 .f32 := k0_pay14 (iblk m c 0 t) (iblk m c 2 t) (gate m c t) (iblk m c 3 t) (iblk m c 4 t)

theorem add7 (x : Vec Ideal S512x1024 .bf16) (y : FVec Ideal S512x1024 .bf16) (z : Vec Ideal S1024x1024 .f32) (j : S1024x1024.Idx) :
    k0_pay4 x y z j = z j + matmul (φ₁ := .bf16) dot_S512x1024_S512x1024_S1024x1024_0_0_1_1_n_n none x y (constant S1024x1024 .f32 0x00000000#32) j := by
  pointwise [k0_pay4]

theorem add8 (x : FVec Ideal S1x1024 .f32) (z : Vec Ideal S1x1024 .f32) (j : S1x1024.Idx) : k0_pay5 x z j = z j + x j := by
  pointwise [k0_pay5]

theorem line7 (c : Dev nD) (j : S1024x1024.Idx) :
    (outsAt0 m c t0_3.val t0_3.isLt).2.2.1 j = ∑ t : Fin cfg0.N, share7 m c t j := by
  have h := Pipeline.eq_sum_fin_of_reset_step_apply_last (fun n h => (outsAt0 m c n h).2.2.1) 4 (fun _ => (0 : EReal)) (share7 m c)
    (fun t h j => by
      rw [outsAt0_A m c t h, gate_eq]
      frame_out
      rw [add7]
      pointwise [k0_pay2])
    (fun t h j => by
      rw [outsAt0_B m c t h, gate_eq]
      frame_out
      rw [add7])
    (le_of_eq N_0) t0_3 rfl j
  rw [h]
  exact zero_add _

theorem line8 (c : Dev nD) (j : S1x1024.Idx) :
    (outsAt0 m c t0_3.val t0_3.isLt).2.2.2 j = ∑ t : Fin cfg0.N, share8 m c t j := by
  have h := Pipeline.eq_sum_fin_of_reset_step_apply_last (fun n h => (outsAt0 m c n h).2.2.2) 4 (fun _ => (0 : EReal)) (share8 m c)
    (fun t h j => by
      rw [outsAt0_A m c t h, gate_eq]
      frame_out
      rw [add8]
      pointwise [k0_pay3])
    (fun t h j => by
      rw [outsAt0_B m c t h, gate_eq]
      frame_out
      rw [add8])
    (le_of_eq N_0) t0_3 rfl j
  rw [h]
  exact zero_add _

theorem final7 (c : Dev nD) : (dats m 0 c).arrAt 7 cfg0.N = goal7 m c := by
  refine (dats m 0 c).arrAt_eq_of_after_last 7 t0_3 (by decide +kernel) _ fun j => ?_
  blk_simp
  rw [after0_7]
  refine (line7 m c _).trans ?_
  show _ = val_main_v31 (F := Ideal) _ _ _ _ _ _
  pointwise [share7, gate, row, col, k0_pay16, k0_pay15, k0_pay14, k0_pay13, k0_pay12, k0_pay11, k0_pay10, k0_pay9, k0_pay8, k0_pay7, k0_pay6, k0_pay5, k0_pay4, k0_pay3, k0_pay2, k0_pay1, val_main_v36, val_main_v35, val_main_v34, val_main_v33, val_main_v32, val_main_v31, val_main_v30, val_main_v29, val_main_cst_3, val_main_v28, val_main_v27, val_main_cst_2, val_main_v26, val_main_v25, val_main_v24, val_main_v23, val_main_call1_v2, val_main_call1_v1, val_main_call1_v0, val_main_v22, val_main_v21, val_main_v20, val_main_v19, val_main_v18_0, val_main_v18_1, val_main_call0_v7, val_main_call0_v6, val_main_call0_cst_1, val_main_v18_2, val_main_call0_v4, val_main_call0_cst_0, val_main_call0_v3, val_main_call0_v2, val_main_call0_cst, val_main_call0_v1, val_main_call0_v0, val_main_v17, val_main_v16, val_main_v15, val_main_v14, val_main_cst_1, val_main_v13, val_main_v12, val_main_cst_0, val_main_v11, val_main_v10, val_main_cst, val_main_v9, val_main_v8, val_main_v7, val_main_v6, val_main_v5, val_main_v4, val_main_v3, val_main_v2, val_main_v1, val_main_v0]
  simp only [logistic_eq]
  refine Fin.sum_mul_add_congr fun t r hl => ?_
  rw [mul_comm]
  blk_point [iblk, V, row, col, at0, at2, at3, at4, at5, at6, at7, at8]

theorem final8 (c : Dev nD) : (dats m 0 c).arrAt 8 cfg0.N = goal8 m c := by
  refine (dats m 0 c).arrAt_eq_of_after_last 8 t0_3 (by decide +kernel) _ fun j => ?_
  blk_simp
  rw [after0_8]
  refine (line8 m c _).trans ?_
  show _ = val_main_v36 (F := Ideal) _ _ _ _ _ _
  pointwise [share8, gate, row, col, k0_pay16, k0_pay15, k0_pay14, k0_pay13, k0_pay12, k0_pay11, k0_pay10, k0_pay9, k0_pay8, k0_pay7, k0_pay6, k0_pay5, k0_pay4, k0_pay3, k0_pay2, k0_pay1, val_main_v36, val_main_v35, val_main_v34, val_main_v33, val_main_v32, val_main_v31, val_main_v30, val_main_v29, val_main_cst_3, val_main_v28, val_main_v27, val_main_cst_2, val_main_v26, val_main_v25, val_main_v24, val_main_v23, val_main_call1_v2, val_main_call1_v1, val_main_call1_v0, val_main_v22, val_main_v21, val_main_v20, val_main_v19, val_main_v18_0, val_main_v18_1, val_main_call0_v7, val_main_call0_v6, val_main_call0_cst_1, val_main_v18_2, val_main_call0_v4, val_main_call0_cst_0, val_main_call0_v3, val_main_call0_v2, val_main_call0_cst, val_main_call0_v1, val_main_call0_v0, val_main_v17, val_main_v16, val_main_v15, val_main_v14, val_main_cst_1, val_main_v13, val_main_v12, val_main_cst_0, val_main_v11, val_main_v10, val_main_cst, val_main_v9, val_main_v8, val_main_v7, val_main_v6, val_main_v5, val_main_v4, val_main_v3, val_main_v2, val_main_v1, val_main_v0]
  simp only [logistic_eq, Fin.sum_univ_one]
  refine Fin.sum_mul_add_congr fun t r hl => ?_
  blk_point [iblk, V, row, col, at0, at2, at3, at4, at5, at6, at7, at8]

end Cert.GluBack

end
-- ==== Proof.MergeStage.lean ====
/-
  What the kernel of the merge leaves in its result: the three branches, each scaled by the logistic function of its
  gate, summed.
-/
module

public import proofs.«01_k».proof.Proof.Gen.MergeFwdIdeal.Value
public import proofs.«01_k».proof.Proof.Gen.MergeFwdRefIdeal.Read
public import Idealize.ShloMosaic.Lib.Pointwise
public import Idealize.ShloMosaic.Lib.Pipeline.ValueKit

@[expose] public section

set_option maxRecDepth 16384

noncomputable section

namespace Cert.MergeStage

open Idealize.ShloMosaic Idealize.ShloMosaic.TcCoe Idealize.ShloMosaic.Tactic Idealize.SL.Sem
open Idealize.ShloMosaic.Pipeline (Dat)
open Cert.MergeFwdIdeal Cert.MergeFwdIdeal.Gen
open Cert.MergeFwdRefIdeal.Read

variable (m : (ℓ : Loc nD τ sig) → Buf (Elt Ideal) ℓ)

theorem at0 : ∀ t : Fin cfg0.N, win0_0.index t = ![t.val / 8, t.val % 8] :=
  (by decide +kernel : ∀ t : Fin grid0.N, win0_0.index t = ![t.val / 8, t.val % 8])
theorem at1 : ∀ t : Fin cfg0.N, win0_1.index t = ![t.val / 8, t.val % 8] :=
  (by decide +kernel : ∀ t : Fin grid0.N, win0_1.index t = ![t.val / 8, t.val % 8])
theorem at2 : ∀ t : Fin cfg0.N, win0_2.index t = ![t.val / 8, t.val % 8] :=
  (by decide +kernel : ∀ t : Fin grid0.N, win0_2.index t = ![t.val / 8, t.val % 8])
theorem at6 : ∀ t : Fin cfg0.N, win0_6.index t = ![t.val / 8, t.val % 8] :=
  (by decide +kernel : ∀ t : Fin grid0.N, win0_6.index t = ![t.val / 8, t.val % 8])
theorem at3 : ∀ t : Fin cfg0.N, win0_3.index t = ![t.val / 8, 29 + t.val % 8] :=
  (by decide +kernel : ∀ t : Fin grid0.N, win0_3.index t = ![t.val / 8, 29 + t.val % 8])
theorem at4 : ∀ t : Fin cfg0.N, win0_4.index t = ![t.val / 8, 37 + t.val % 8] :=
  (by decide +kernel : ∀ t : Fin grid0.N, win0_4.index t = ![t.val / 8, 37 + t.val % 8])
theorem at5 : ∀ t : Fin cfg0.N, win0_5.index t = ![t.val / 8, 45 + t.val % 8] :=
  (by decide +kernel : ∀ t : Fin grid0.N, win0_5.index t = ![t.val / 8, 45 + t.val % 8])

/-- The logistic function, as the quotient the reference computes. -/
theorem logistic_eq (x : EReal) : Ideal.logistic x = Ideal.div 1 (1 + Ideal.exp (-x)) := rfl

/-- The merged rows: the reference's array, of the arguments the kernel was launched with. -/
abbrev goal6 (c : Dev nD) : Vec Ideal S2048x2048 .bf16 := val_main_v19 (m ((c : Thread nD τ).loc main_arg0)) (m ((c : Thread nD τ).loc main_arg1)) (m ((c : Thread nD τ).loc main_arg2)) (m ((c : Thread nD τ).loc main_arg3))

/-- Each point writes its block of it, and the blocks fill the result. -/
theorem final6 (c : Dev nD) : (dats m 0 c).arrAt 6 cfg0.N = goal6 m c := by
  refine (dats m 0 c).arrAt_eq_of_covers 6 _ (by decide +kernel) fun t hf y => ?_
  blk_simp
  rw [after0_6]
  unfold out0_6
  frame_out
  show _ = val_main_v19 (F := Ideal) _ _ _ _ _
  pointwise [k0_pay1, val_main_v19, val_main_v18, val_main_v17, val_main_v16, val_main_v15, val_main_v14, val_main_v13, val_main_v12, val_main_v11, val_main_v10, val_main_v9, val_main_v8, val_main_v7, val_main_v6, val_main_cst_0, val_main_v5, val_main_v4, val_main_cst, val_main_v3, val_main_v2, val_main_v1, val_main_v0]
  simp only [logistic_eq]
  blk_point [iblk, V, at0, at1, at2, at3, at4, at5, at6]

end Cert.MergeStage

end
-- ==== Proof.NormStage.lean ====
/-
  What the kernel of the norm leaves in its result: each row divided by the root of its mean square, times the scale.
-/
module

public import proofs.«01_k».proof.Proof.Gen.RmsFwdIdeal.Value
public import proofs.«01_k».proof.Proof.Gen.RmsFwdRefIdeal.Read
public import Idealize.ShloMosaic.Lib.Pointwise
public import Idealize.ShloMosaic.Lib.Pipeline.ValueKit

@[expose] public section

set_option maxRecDepth 16384

noncomputable section

namespace Cert.NormStage

open Idealize.ShloMosaic Idealize.ShloMosaic.TcCoe Idealize.ShloMosaic.Tactic Idealize.SL.Sem
open Idealize.ShloMosaic.Pipeline (Dat)
open Cert.RmsFwdIdeal Cert.RmsFwdIdeal.Gen
open Cert.RmsFwdRefIdeal.Read

variable (m : (ℓ : Loc nD τ sig) → Buf (Elt Ideal) ℓ)

theorem at0 : ∀ t : Fin cfg0.N, win0_0.index t = ![t.val, 0] :=
  (by decide +kernel : ∀ t : Fin grid0.N, win0_0.index t = ![t.val, 0])
theorem at2 : ∀ t : Fin cfg0.N, win0_2.index t = ![t.val, 0] :=
  (by decide +kernel : ∀ t : Fin grid0.N, win0_2.index t = ![t.val, 0])
theorem at1 : ∀ t : Fin cfg0.N, win0_1.index t = ![0, 0] :=
  (by decide +kernel : ∀ t : Fin grid0.N, win0_1.index t = ![0, 0])

/-- The scaled rows: the reference's array, of the arguments the kernel was launched with. -/
abbrev goal2 (c : Dev nD) : Vec Ideal S2048x2048 .bf16 := val_main_v13 (m ((c : Thread nD τ).loc main_arg0)) (m ((c : Thread nD τ).loc main_arg1))

/-- Each point writes its block of rows, and the blocks fill the result. -/
theorem final2 (c : Dev nD) : (dats m 0 c).arrAt 2 cfg0.N = goal2 m c := by
  refine (dats m 0 c).arrAt_eq_of_covers 2 _ (by decide +kernel) fun t hf y => ?_
  blk_simp
  rw [after0_2]
  unfold out0_2
  frame_out
  show _ = val_main_v13 (F := Ideal) _ _ _
  pointwise [k0_pay1, val_main_v13, val_main_v12, val_main_v11, val_main_v10, val_main_v9, val_main_v8, val_main_v7, val_main_v6, val_main_v5, val_main_cst_1, val_main_v4, val_main_v3, val_main_cst_0, val_main_v2, val_main_v1, val_main_cst, val_main_v0]
  blk_point [iblk, V, at0, at1, at2]

end Cert.NormStage

end
-- ==== Proof.GluStage.lean ====
/-
  What the kernel of the gated unit leaves in its result: the rows times the logistic function of their product with
  the weight, times the gate.
-/
module

public import proofs.«01_k».proof.Proof.Gen.GluFwdIdeal.Value
public import proofs.«01_k».proof.Proof.Gen.GluFwdRefIdeal.Read
public import Idealize.ShloMosaic.Lib.Pointwise
public import Idealize.ShloMosaic.Lib.Pipeline.ValueKit

@[expose] public section

set_option maxRecDepth 16384

noncomputable section

namespace Cert.GluStage

open Idealize.ShloMosaic Idealize.ShloMosaic.TcCoe Idealize.ShloMosaic.Tactic Idealize.SL.Sem
open Idealize.ShloMosaic.Pipeline (Dat)
open Cert.GluFwdIdeal Cert.GluFwdIdeal.Gen
open Cert.GluFwdRefIdeal.Read

variable (m : (ℓ : Loc nD τ sig) → Buf (Elt Ideal) ℓ)

theorem at0 : ∀ t : Fin cfg0.N, win0_0.index t = ![t.val, 0] :=
  (by decide +kernel : ∀ t : Fin grid0.N, win0_0.index t = ![t.val, 0])
theorem at4 : ∀ t : Fin cfg0.N, win0_4.index t = ![t.val, 0] :=
  (by decide +kernel : ∀ t : Fin grid0.N, win0_4.index t = ![t.val, 0])
theorem at2 : ∀ t : Fin cfg0.N, win0_2.index t = ![0, 0] :=
  (by decide +kernel : ∀ t : Fin grid0.N, win0_2.index t = ![0, 0])
theorem at3 : ∀ t : Fin cfg0.N, win0_3.index t = ![0, 0] :=
  (by decide +kernel : ∀ t : Fin grid0.N, win0_3.index t = ![0, 0])

/-- The logistic function, as the quotient the reference computes. -/
theorem logistic_eq (x : EReal) : Ideal.logistic x = Ideal.div 1 (1 + Ideal.exp (-x)) := rfl

theorem at_gate : ∀ t : Fin cfg0.N, win0_1.index t 0 = t.val ∧ win0_1.index t 1 = 1 :=
  (by decide +kernel : ∀ t : Fin grid0.N, win0_1.index t 0 = t.val ∧ win0_1.index t 1 = 1)

/-- A row of all rows, and the column of the gate among all columns. -/
def row (t : Fin cfg0.N) (r : Fin 512) : Fin 2048 :=
  ⟨t.val * 512 + r.val, by have h := lt_of_lt_of_eq t.isLt N_0; have := r.isLt; omega⟩
def col (k : Fin 1024) : Fin 13568 := ⟨1024 + k.val, by have := k.isLt; omega⟩

/-- The block of gate rows read at a point. -/
theorem read_gate (c : Dev nD) (t : Fin cfg0.N) (r : Fin 512) (k : Fin 1024) :
    X0_1 m c t (ix2 r k) = m ((c : Thread nD τ).loc main_arg1) (ix2 (row t r) (col k)) := by
  unfold X0_1 Pipeline.Window.fill
  rw [dif_pos (moved0_1 t _)]
  unfold iblk
  rw [View.read_apply]
  show V m c main_arg1 _ = _
  rw [V_main_arg1]
  congr 1
  funext a
  apply Fin.ext
  match a with
  | ⟨0, _⟩ => show win0_1.index t 0 * 512 + 1 * r.val = t.val * 512 + r.val; rw [(at_gate t).1]; omega
  | ⟨1, _⟩ => show win0_1.index t 1 * 1024 + 1 * k.val = 1024 + k.val; rw [(at_gate t).2]; omega

/-- The same block as one array. -/
def gate (c : Dev nD) (t : Fin cfg0.N) : Vec Ideal S512x1024 .bf16 :=
  fun y => m ((c : Thread nD τ).loc main_arg1) (ix2 (row t (y 0)) (col (y 1)))

theorem gate_eq (c : Dev nD) (t : Fin cfg0.N) : X0_1 m c t = gate m c t := by
  funext y
  have hy : y = ix2 (y 0) (y 1) := by
    funext a
    match a with
    | ⟨0, _⟩ => rfl
    | ⟨1, _⟩ => rfl
  exact (congrArg (X0_1 m c t) hy).trans (read_gate m c t (y 0) (y 1))

/-- The gated rows: the reference's array, of the arguments the kernel was launched with. -/
abbrev goal4 (c : Dev nD) : Vec Ideal S2048x1024 .bf16 := val_main_v17 (m ((c : Thread nD τ).loc main_arg0)) (m ((c : Thread nD τ).loc main_arg1)) (m ((c : Thread nD τ).loc main_arg2)) (m ((c : Thread nD τ).loc main_arg3))

/-- Each point writes its block of rows, and the blocks fill the result. -/
theorem final4 (c : Dev nD) : (dats m 0 c).arrAt 4 cfg0.N = goal4 m c := by
  refine (dats m 0 c).arrAt_eq_of_covers 4 _ (by decide +kernel) fun t hf y => ?_
  blk_simp
  rw [after0_4]
  unfold outsAt0
  rw [gate_eq]
  frame_out
  show _ = val_main_v17 (F := Ideal) _ _ _ _ _
  pointwise [gate, row, col, k0_pay1, val_main_v17, val_main_v16, val_main_v15, val_main_call0_v5, val_main_call0_v4, val_main_call0_cst_0, val_main_call0_v3, val_main_call0_v2, val_main_call0_cst, val_main_call0_v1, val_main_call0_v0, val_main_v14, val_main_v13, val_main_v12, val_main_v11, val_main_v10, val_main_cst_0, val_main_v9, val_main_v8, val_main_cst, val_main_v7, val_main_v6, val_main_v5, val_main_v4, val_main_v3, val_main_v2, val_main_v1, val_main_v0]
  simp only [logistic_eq]
  blk_point [iblk, V, row, col, at0, at2, at3, at4]

end Cert.GluStage

end
-- ==== Proof.GateClaims.lean ====
/-
  The claims about the gates, the norms and the loss: for each call, that it runs and keeps its arguments, and that what
  it computes is what the reference computes.
-/
module

public import proofs.«01_k».proof.Defs
public import proofs.«01_k».proof.Proof.Gen.MergeBwd.Frame
public import proofs.«01_k».proof.Proof.MergeBack
public import proofs.«01_k».proof.Proof.Gen.MergeBwdRefIdeal.Run
public import proofs.«01_k».proof.Proof.Gen.RmsBwd.Frame
public import proofs.«01_k».proof.Proof.NormBack
public import proofs.«01_k».proof.Proof.Gen.RmsBwdRefIdeal.Run
public import proofs.«01_k».proof.Proof.Gen.LossHead.Frame
public import proofs.«01_k».proof.Proof.LossBack
public import proofs.«01_k».proof.Proof.Gen.LossHeadRefIdeal.Run
public import proofs.«01_k».proof.Proof.Gen.GluBwd.Frame
public import proofs.«01_k».proof.Proof.GluBack
public import proofs.«01_k».proof.Proof.Gen.GluBwdRefIdeal.Run
public import proofs.«01_k».proof.Proof.Gen.MergeFwd.Frame
public import proofs.«01_k».proof.Proof.MergeStage
public import proofs.«01_k».proof.Proof.Gen.MergeFwdRefIdeal.Run
public import proofs.«01_k».proof.Proof.Gen.RmsFwd.Frame
public import proofs.«01_k».proof.Proof.NormStage
public import proofs.«01_k».proof.Proof.Gen.RmsFwdRefIdeal.Run
public import proofs.«01_k».proof.Proof.Gen.GluFwd.Frame
public import proofs.«01_k».proof.Proof.GluStage
public import proofs.«01_k».proof.Proof.Gen.GluFwdRefIdeal.Run

@[expose] public section

noncomputable section

namespace Cert.Proof

open Idealize.ShloMosaic Idealize.ShloMosaic.TcCoe Idealize.ShloMosaic.StableHlo Idealize.SL.Sem

/-! ## The gradient carried back through the merge gates -/

namespace MergeBwd

theorem frame : Cert.quiescent_MergeBwd := fun m ρ _ => Cert.MergeBwd.Gen.frame m ρ

theorem frame_ideal : Cert.quiescent_MergeBwdIdeal := fun m ρ _ => Cert.MergeBwdIdeal.Gen.frame m ρ

theorem frame_ref : Cert.quiescent_MergeBwdRefIdeal := fun m ρ _ =>
  (θ_run Cert.MergeBwdRefIdeal.defs _ _).mono (fun r h => ⟨fun c => (h c).2.2.2.2.2.2,
      Idealize.ShloMosaic.sem_eq_zero_of_no_sems (by decide) r.2⟩)
    (Cert.MergeBwdRefIdeal.Value.run (F := Ideal) m ρ)

theorem preserves : Cert.preserves_MergeBwd_MergeBwdIdeal := trivial

theorem algebraic : Cert.algebraic_MergeBwdIdeal_MergeBwdRefIdeal := by
  intro m ρ m' ρ' _ hag
  refine ⟨fun c => MergeBack.goal7 m c, fun c => MergeBack.goal8 m c, fun c => MergeBack.goal9 m c, fun c => MergeBack.goal10 m c, fun c => MergeBack.goal11 m c, fun c => MergeBack.goal12 m c,
    (θ_run Cert.MergeBwdIdeal.defs _ _).mono (fun r h c => ⟨(h c).1.trans (MergeBack.final7 m c), (h c).2.1.trans (MergeBack.final8 m c), (h c).2.2.1.trans (MergeBack.final9 m c), (h c).2.2.2.1.trans (MergeBack.final10 m c), (h c).2.2.2.2.1.trans (MergeBack.final11 m c), (h c).2.2.2.2.2.1.trans (MergeBack.final12 m c), (h c).2.2.2.2.2.2⟩) (Cert.MergeBwdIdeal.Value.run_blocks m ρ),
    (θ_run Cert.MergeBwdRefIdeal.defs _ _).mono (fun r h c => ?_) (Cert.MergeBwdRefIdeal.Value.run (F := Ideal) m' ρ')⟩
  obtain ⟨h0, h1, h2, h3, h4, h5, hr⟩ := h c
  obtain ⟨a0, a1, a2, a3, a4⟩ := hag c
  refine ⟨h0.trans ((Cert.MergeBwdRefIdeal.Read.val_main_v49_eq (F := Ideal) _ _).trans ?_), h1.trans ((Cert.MergeBwdRefIdeal.Read.val_main_v50_eq (F := Ideal) _ _).trans ?_), h2.trans ((Cert.MergeBwdRefIdeal.Read.val_main_v51_eq (F := Ideal) _ _).trans ?_), h3.trans ((Cert.MergeBwdRefIdeal.Read.val_main_v52_eq (F := Ideal) _ _ _).trans ?_), h4.trans ((Cert.MergeBwdRefIdeal.Read.val_main_v53_eq (F := Ideal) _ _ _).trans ?_), h5.trans ((Cert.MergeBwdRefIdeal.Read.val_main_v54_eq (F := Ideal) _ _ _).trans ?_), hr⟩
  · show Cert.MergeBwdRefIdeal.Read.val_main_v49 (m' ((c : Thread Cert.MergeBwdRefIdeal.nD Cert.MergeBwdRefIdeal.τ).loc Cert.MergeBwdRefIdeal.main_arg3)) (m' ((c : Thread Cert.MergeBwdRefIdeal.nD Cert.MergeBwdRefIdeal.τ).loc Cert.MergeBwdRefIdeal.main_arg4)) = _
    rw [a3, a4]
  · show Cert.MergeBwdRefIdeal.Read.val_main_v50 (m' ((c : Thread Cert.MergeBwdRefIdeal.nD Cert.MergeBwdRefIdeal.τ).loc Cert.MergeBwdRefIdeal.main_arg3)) (m' ((c : Thread Cert.MergeBwdRefIdeal.nD Cert.MergeBwdRefIdeal.τ).loc Cert.MergeBwdRefIdeal.main_arg4)) = _
    rw [a3, a4]
  · show Cert.MergeBwdRefIdeal.Read.val_main_v51 (m' ((c : Thread Cert.MergeBwdRefIdeal.nD Cert.MergeBwdRefIdeal.τ).loc Cert.MergeBwdRefIdeal.main_arg3)) (m' ((c : Thread Cert.MergeBwdRefIdeal.nD Cert.MergeBwdRefIdeal.τ).loc Cert.MergeBwdRefIdeal.main_arg4)) = _
    rw [a3, a4]
  · show Cert.MergeBwdRefIdeal.Read.val_main_v52 (m' ((c : Thread Cert.MergeBwdRefIdeal.nD Cert.MergeBwdRefIdeal.τ).loc Cert.MergeBwdRefIdeal.main_arg0)) (m' ((c : Thread Cert.MergeBwdRefIdeal.nD Cert.MergeBwdRefIdeal.τ).loc Cert.MergeBwdRefIdeal.main_arg3)) (m' ((c : Thread Cert.MergeBwdRefIdeal.nD Cert.MergeBwdRefIdeal.τ).loc Cert.MergeBwdRefIdeal.main_arg4)) = _
    rw [a0, a3, a4]
  · show Cert.MergeBwdRefIdeal.Read.val_main_v53 (m' ((c : Thread Cert.MergeBwdRefIdeal.nD Cert.MergeBwdRefIdeal.τ).loc Cert.MergeBwdRefIdeal.main_arg1)) (m' ((c : Thread Cert.MergeBwdRefIdeal.nD Cert.MergeBwdRefIdeal.τ).loc Cert.MergeBwdRefIdeal.main_arg3)) (m' ((c : Thread Cert.MergeBwdRefIdeal.nD Cert.MergeBwdRefIdeal.τ).loc Cert.MergeBwdRefIdeal.main_arg4)) = _
    rw [a1, a3, a4]
  · show Cert.MergeBwdRefIdeal.Read.val_main_v54 (m' ((c : Thread Cert.MergeBwdRefIdeal.nD Cert.MergeBwdRefIdeal.τ).loc Cert.MergeBwdRefIdeal.main_arg2)) (m' ((c : Thread Cert.MergeBwdRefIdeal.nD Cert.MergeBwdRefIdeal.τ).loc Cert.MergeBwdRefIdeal.main_arg3)) (m' ((c : Thread Cert.MergeBwdRefIdeal.nD Cert.MergeBwdRefIdeal.τ).loc Cert.MergeBwdRefIdeal.main_arg4)) = _
    rw [a2, a3, a4]

end MergeBwd

/-! ## The gradient of the norm -/

namespace RmsBwd

theorem frame : Cert.quiescent_RmsBwd := fun m ρ _ => Cert.RmsBwd.Gen.frame m ρ

theorem frame_ideal : Cert.quiescent_RmsBwdIdeal := fun m ρ _ => Cert.RmsBwdIdeal.Gen.frame m ρ

theorem frame_ref : Cert.quiescent_RmsBwdRefIdeal := fun m ρ _ =>
  (θ_run Cert.RmsBwdRefIdeal.defs _ _).mono (fun r h => ⟨fun c => (h c).2.2,
      Idealize.ShloMosaic.sem_eq_zero_of_no_sems (by decide) r.2⟩)
    (Cert.RmsBwdRefIdeal.Value.run (F := Ideal) m ρ)

theorem preserves : Cert.preserves_RmsBwd_RmsBwdIdeal := trivial

theorem algebraic : Cert.algebraic_RmsBwdIdeal_RmsBwdRefIdeal := by
  intro m ρ m' ρ' _ hag
  refine ⟨fun c => NormBack.goal4 m c, fun c => NormBack.goal5 m c,
    (θ_run Cert.RmsBwdIdeal.defs _ _).mono (fun r h c => ⟨(h c).1.trans (NormBack.final4 m c), (h c).2.1.trans (NormBack.final5 m c), (h c).2.2⟩) (Cert.RmsBwdIdeal.Value.run_blocks m ρ),
    (θ_run Cert.RmsBwdRefIdeal.defs _ _).mono (fun r h c => ?_) (Cert.RmsBwdRefIdeal.Value.run (F := Ideal) m' ρ')⟩
  obtain ⟨h0, h1, hr⟩ := h c
  obtain ⟨a0, a1, a2, a3⟩ := hag c
  refine ⟨h0.trans ((Cert.RmsBwdRefIdeal.Read.val_main_v36_eq (F := Ideal) _ _ _ _).trans ?_), h1.trans ((Cert.RmsBwdRefIdeal.Read.val_main_v37_eq (F := Ideal) _ _).trans ?_), hr⟩
  · show Cert.RmsBwdRefIdeal.Read.val_main_v36 (m' ((c : Thread Cert.RmsBwdRefIdeal.nD Cert.RmsBwdRefIdeal.τ).loc Cert.RmsBwdRefIdeal.main_arg0)) (m' ((c : Thread Cert.RmsBwdRefIdeal.nD Cert.RmsBwdRefIdeal.τ).loc Cert.RmsBwdRefIdeal.main_arg1)) (m' ((c : Thread Cert.RmsBwdRefIdeal.nD Cert.RmsBwdRefIdeal.τ).loc Cert.RmsBwdRefIdeal.main_arg2)) (m' ((c : Thread Cert.RmsBwdRefIdeal.nD Cert.RmsBwdRefIdeal.τ).loc Cert.RmsBwdRefIdeal.main_arg3)) = _
    rw [a0, a1, a2, a3]
  · show Cert.RmsBwdRefIdeal.Read.val_main_v37 (m' ((c : Thread Cert.RmsBwdRefIdeal.nD Cert.RmsBwdRefIdeal.τ).loc Cert.RmsBwdRefIdeal.main_arg0)) (m' ((c : Thread Cert.RmsBwdRefIdeal.nD Cert.RmsBwdRefIdeal.τ).loc Cert.RmsBwdRefIdeal.main_arg2)) = _
    rw [a0, a2]

end RmsBwd

/-! ## The last norm, the loss and their gradients -/

namespace LossHead

theorem frame : Cert.quiescent_LossHead := fun m ρ _ => Cert.LossHead.Gen.frame m ρ

theorem frame_ideal : Cert.quiescent_LossHeadIdeal := fun m ρ _ => Cert.LossHeadIdeal.Gen.frame m ρ

theorem frame_ref : Cert.quiescent_LossHeadRefIdeal := fun m ρ _ =>
  (θ_run Cert.LossHeadRefIdeal.defs _ _).mono (fun r h => ⟨fun c => (h c).2.2.2,
      Idealize.ShloMosaic.sem_eq_zero_of_no_sems (by decide) r.2⟩)
    (Cert.LossHeadRefIdeal.Value.run (F := Ideal) m ρ)

theorem preserves : Cert.preserves_LossHead_LossHeadIdeal := trivial

theorem algebraic : Cert.algebraic_LossHeadIdeal_LossHeadRefIdeal := by
  intro m ρ m' ρ' _ hag
  refine ⟨fun c => LossBack.goal3 m c, fun c => LossBack.goal4 m c, fun c => LossBack.goal5 m c,
    (θ_run Cert.LossHeadIdeal.defs _ _).mono (fun r h c => ⟨(h c).1.trans (LossBack.final3 m c), (h c).2.1.trans (LossBack.final4 m c), (h c).2.2.1.trans (LossBack.final5 m c), (h c).2.2.2⟩) (Cert.LossHeadIdeal.Value.run_blocks m ρ),
    (θ_run Cert.LossHeadRefIdeal.defs _ _).mono (fun r h c => ?_) (Cert.LossHeadRefIdeal.Value.run (F := Ideal) m' ρ')⟩
  obtain ⟨h0, h1, h2, hr⟩ := h c
  obtain ⟨a0, a1, a2⟩ := hag c
  refine ⟨h0.trans ((Cert.LossHeadRefIdeal.Read.val_main_v51_eq (F := Ideal) _ _ _).trans ?_), h1.trans ((Cert.LossHeadRefIdeal.Read.val_main_v50_eq (F := Ideal) m' c).trans ?_), h2.trans ((Cert.LossHeadRefIdeal.Read.val_main_v52_eq (F := Ideal) _ _ _).trans ?_), hr⟩
  · show Cert.LossHeadRefIdeal.Read.val_main_v51 (m' ((c : Thread Cert.LossHeadRefIdeal.nD Cert.LossHeadRefIdeal.τ).loc Cert.LossHeadRefIdeal.main_arg0)) (m' ((c : Thread Cert.LossHeadRefIdeal.nD Cert.LossHeadRefIdeal.τ).loc Cert.LossHeadRefIdeal.main_arg1)) (m' ((c : Thread Cert.LossHeadRefIdeal.nD Cert.LossHeadRefIdeal.τ).loc Cert.LossHeadRefIdeal.main_arg2)) = _
    rw [a0, a1, a2]
  · show Cert.LossHeadRefIdeal.Read.val_main_v50 (m' ((c : Thread Cert.LossHeadRefIdeal.nD Cert.LossHeadRefIdeal.τ).loc Cert.LossHeadRefIdeal.main_arg0)) (m' ((c : Thread Cert.LossHeadRefIdeal.nD Cert.LossHeadRefIdeal.τ).loc Cert.LossHeadRefIdeal.main_arg1)) (m' ((c : Thread Cert.LossHeadRefIdeal.nD Cert.LossHeadRefIdeal.τ).loc Cert.LossHeadRefIdeal.main_arg2)) = _
    rw [a0, a1, a2]
  · show Cert.LossHeadRefIdeal.Read.val_main_v52 (m' ((c : Thread Cert.LossHeadRefIdeal.nD Cert.LossHeadRefIdeal.τ).loc Cert.LossHeadRefIdeal.main_arg0)) (m' ((c : Thread Cert.LossHeadRefIdeal.nD Cert.LossHeadRefIdeal.τ).loc Cert.LossHeadRefIdeal.main_arg1)) (m' ((c : Thread Cert.LossHeadRefIdeal.nD Cert.LossHeadRefIdeal.τ).loc Cert.LossHeadRefIdeal.main_arg2)) = _
    rw [a0, a1, a2]

end LossHead

/-! ## The gradient of the gated unit -/

namespace GluBwd

theorem frame : Cert.quiescent_GluBwd := fun m ρ _ => Cert.GluBwd.Gen.frame m ρ

theorem frame_ideal : Cert.quiescent_GluBwdIdeal := fun m ρ _ => Cert.GluBwdIdeal.Gen.frame m ρ

theorem frame_ref : Cert.quiescent_GluBwdRefIdeal := fun m ρ _ =>
  (θ_run Cert.GluBwdRefIdeal.defs _ _).mono (fun r h => ⟨fun c => (h c).2.2.2.2,
      Idealize.ShloMosaic.sem_eq_zero_of_no_sems (by decide) r.2⟩)
    (Cert.GluBwdRefIdeal.Value.run (F := Ideal) m ρ)

theorem preserves : Cert.preserves_GluBwd_GluBwdIdeal := trivial

theorem algebraic : Cert.algebraic_GluBwdIdeal_GluBwdRefIdeal := by
  intro m ρ m' ρ' _ hag
  refine ⟨fun c => GluBack.goal5 m c, fun c => GluBack.goal6 m c, fun c => GluBack.goal7 m c, fun c => GluBack.goal8 m c,
    (θ_run Cert.GluBwdIdeal.defs _ _).mono (fun r h c => ⟨(h c).1.trans (GluBack.final5 m c), (h c).2.1.trans (GluBack.final6 m c), (h c).2.2.1.trans (GluBack.final7 m c), (h c).2.2.2.1.trans (GluBack.final8 m c), (h c).2.2.2.2⟩) (Cert.GluBwdIdeal.Value.run_blocks m ρ),
    (θ_run Cert.GluBwdRefIdeal.defs _ _).mono (fun r h c => ?_) (Cert.GluBwdRefIdeal.Value.run (F := Ideal) m' ρ')⟩
  obtain ⟨h0, h1, h2, h3, hr⟩ := h c
  obtain ⟨a0, a1, a2, a3, a4⟩ := hag c
  refine ⟨h0.trans ((Cert.GluBwdRefIdeal.Read.val_main_v34_eq (F := Ideal) _ _ _ _ _).trans ?_), h1.trans ((Cert.GluBwdRefIdeal.Read.val_main_v35_eq (F := Ideal) _ _ _ _ _).trans ?_), h2.trans ((Cert.GluBwdRefIdeal.Read.val_main_v31_eq (F := Ideal) _ _ _ _ _).trans ?_), h3.trans ((Cert.GluBwdRefIdeal.Read.val_main_v36_eq (F := Ideal) _ _ _ _ _).trans ?_), hr⟩
  · show Cert.GluBwdRefIdeal.Read.val_main_v34 (m' ((c : Thread Cert.GluBwdRefIdeal.nD Cert.GluBwdRefIdeal.τ).loc Cert.GluBwdRefIdeal.main_arg0)) (m' ((c : Thread Cert.GluBwdRefIdeal.nD Cert.GluBwdRefIdeal.τ).loc Cert.GluBwdRefIdeal.main_arg1)) (m' ((c : Thread Cert.GluBwdRefIdeal.nD Cert.GluBwdRefIdeal.τ).loc Cert.GluBwdRefIdeal.main_arg2)) (m' ((c : Thread Cert.GluBwdRefIdeal.nD Cert.GluBwdRefIdeal.τ).loc Cert.GluBwdRefIdeal.main_arg3)) (m' ((c : Thread Cert.GluBwdRefIdeal.nD Cert.GluBwdRefIdeal.τ).loc Cert.GluBwdRefIdeal.main_arg4)) = _
    rw [a0, a1, a2, a3, a4]
  · show Cert.GluBwdRefIdeal.Read.val_main_v35 (m' ((c : Thread Cert.GluBwdRefIdeal.nD Cert.GluBwdRefIdeal.τ).loc Cert.GluBwdRefIdeal.main_arg0)) (m' ((c : Thread Cert.GluBwdRefIdeal.nD Cert.GluBwdRefIdeal.τ).loc Cert.GluBwdRefIdeal.main_arg1)) (m' ((c : Thread Cert.GluBwdRefIdeal.nD Cert.GluBwdRefIdeal.τ).loc Cert.GluBwdRefIdeal.main_arg2)) (m' ((c : Thread Cert.GluBwdRefIdeal.nD Cert.GluBwdRefIdeal.τ).loc Cert.GluBwdRefIdeal.main_arg3)) (m' ((c : Thread Cert.GluBwdRefIdeal.nD Cert.GluBwdRefIdeal.τ).loc Cert.GluBwdRefIdeal.main_arg4)) = _
    rw [a0, a1, a2, a3, a4]
  · show Cert.GluBwdRefIdeal.Read.val_main_v31 (m' ((c : Thread Cert.GluBwdRefIdeal.nD Cert.GluBwdRefIdeal.τ).loc Cert.GluBwdRefIdeal.main_arg0)) (m' ((c : Thread Cert.GluBwdRefIdeal.nD Cert.GluBwdRefIdeal.τ).loc Cert.GluBwdRefIdeal.main_arg1)) (m' ((c : Thread Cert.GluBwdRefIdeal.nD Cert.GluBwdRefIdeal.τ).loc Cert.GluBwdRefIdeal.main_arg2)) (m' ((c : Thread Cert.GluBwdRefIdeal.nD Cert.GluBwdRefIdeal.τ).loc Cert.GluBwdRefIdeal.main_arg3)) (m' ((c : Thread Cert.GluBwdRefIdeal.nD Cert.GluBwdRefIdeal.τ).loc Cert.GluBwdRefIdeal.main_arg4)) = _
    rw [a0, a1, a2, a3, a4]
  · show Cert.GluBwdRefIdeal.Read.val_main_v36 (m' ((c : Thread Cert.GluBwdRefIdeal.nD Cert.GluBwdRefIdeal.τ).loc Cert.GluBwdRefIdeal.main_arg0)) (m' ((c : Thread Cert.GluBwdRefIdeal.nD Cert.GluBwdRefIdeal.τ).loc Cert.GluBwdRefIdeal.main_arg1)) (m' ((c : Thread Cert.GluBwdRefIdeal.nD Cert.GluBwdRefIdeal.τ).loc Cert.GluBwdRefIdeal.main_arg2)) (m' ((c : Thread Cert.GluBwdRefIdeal.nD Cert.GluBwdRefIdeal.τ).loc Cert.GluBwdRefIdeal.main_arg3)) (m' ((c : Thread Cert.GluBwdRefIdeal.nD Cert.GluBwdRefIdeal.τ).loc Cert.GluBwdRefIdeal.main_arg4)) = _
    rw [a0, a1, a2, a3, a4]

end GluBwd

/-! ## The merge of the three branches -/

namespace MergeFwd

theorem frame : Cert.quiescent_MergeFwd := fun m ρ _ => Cert.MergeFwd.Gen.frame m ρ

theorem frame_ideal : Cert.quiescent_MergeFwdIdeal := fun m ρ _ => Cert.MergeFwdIdeal.Gen.frame m ρ

theorem frame_ref : Cert.quiescent_MergeFwdRefIdeal := fun m ρ _ =>
  (θ_run Cert.MergeFwdRefIdeal.defs _ _).mono (fun r h => ⟨fun c => (h c).2,
      Idealize.ShloMosaic.sem_eq_zero_of_no_sems (by decide) r.2⟩)
    (Cert.MergeFwdRefIdeal.Value.run (F := Ideal) m ρ)

theorem preserves : Cert.preserves_MergeFwd_MergeFwdIdeal := trivial

theorem algebraic : Cert.algebraic_MergeFwdIdeal_MergeFwdRefIdeal := by
  intro m ρ m' ρ' _ hag
  refine ⟨fun c => MergeStage.goal6 m c,
    (θ_run Cert.MergeFwdIdeal.defs _ _).mono (fun r h c => ⟨(h c).1.trans (MergeStage.final6 m c), (h c).2⟩) (Cert.MergeFwdIdeal.Value.run_blocks m ρ),
    (θ_run Cert.MergeFwdRefIdeal.defs _ _).mono (fun r h c => ?_) (Cert.MergeFwdRefIdeal.Value.run (F := Ideal) m' ρ')⟩
  obtain ⟨h0, hr⟩ := h c
  obtain ⟨a0, a1, a2, a3⟩ := hag c
  refine ⟨h0.trans ((Cert.MergeFwdRefIdeal.Read.val_main_v19_eq (F := Ideal) _ _ _ _).trans ?_), hr⟩
  · show Cert.MergeFwdRefIdeal.Read.val_main_v19 (m' ((c : Thread Cert.MergeFwdRefIdeal.nD Cert.MergeFwdRefIdeal.τ).loc Cert.MergeFwdRefIdeal.main_arg0)) (m' ((c : Thread Cert.MergeFwdRefIdeal.nD Cert.MergeFwdRefIdeal.τ).loc Cert.MergeFwdRefIdeal.main_arg1)) (m' ((c : Thread Cert.MergeFwdRefIdeal.nD Cert.MergeFwdRefIdeal.τ).loc Cert.MergeFwdRefIdeal.main_arg2)) (m' ((c : Thread Cert.MergeFwdRefIdeal.nD Cert.MergeFwdRefIdeal.τ).loc Cert.MergeFwdRefIdeal.main_arg3)) = _
    rw [a0, a1, a2, a3]

end MergeFwd

/-! ## The norm -/

namespace RmsFwd

theorem frame : Cert.quiescent_RmsFwd := fun m ρ _ => Cert.RmsFwd.Gen.frame m ρ

theorem frame_ideal : Cert.quiescent_RmsFwdIdeal := fun m ρ _ => Cert.RmsFwdIdeal.Gen.frame m ρ

theorem frame_ref : Cert.quiescent_RmsFwdRefIdeal := fun m ρ _ =>
  (θ_run Cert.RmsFwdRefIdeal.defs _ _).mono (fun r h => ⟨fun c => (h c).2,
      Idealize.ShloMosaic.sem_eq_zero_of_no_sems (by decide) r.2⟩)
    (Cert.RmsFwdRefIdeal.Value.run (F := Ideal) m ρ)

theorem preserves : Cert.preserves_RmsFwd_RmsFwdIdeal := trivial

theorem algebraic : Cert.algebraic_RmsFwdIdeal_RmsFwdRefIdeal := by
  intro m ρ m' ρ' _ hag
  refine ⟨fun c => NormStage.goal2 m c,
    (θ_run Cert.RmsFwdIdeal.defs _ _).mono (fun r h c => ⟨(h c).1.trans (NormStage.final2 m c), (h c).2⟩) (Cert.RmsFwdIdeal.Value.run_blocks m ρ),
    (θ_run Cert.RmsFwdRefIdeal.defs _ _).mono (fun r h c => ?_) (Cert.RmsFwdRefIdeal.Value.run (F := Ideal) m' ρ')⟩
  obtain ⟨h0, hr⟩ := h c
  obtain ⟨a0, a1⟩ := hag c
  refine ⟨h0.trans ((Cert.RmsFwdRefIdeal.Read.val_main_v13_eq (F := Ideal) _ _).trans ?_), hr⟩
  · show Cert.RmsFwdRefIdeal.Read.val_main_v13 (m' ((c : Thread Cert.RmsFwdRefIdeal.nD Cert.RmsFwdRefIdeal.τ).loc Cert.RmsFwdRefIdeal.main_arg0)) (m' ((c : Thread Cert.RmsFwdRefIdeal.nD Cert.RmsFwdRefIdeal.τ).loc Cert.RmsFwdRefIdeal.main_arg1)) = _
    rw [a0, a1]

end RmsFwd

/-! ## The gated unit -/

namespace GluFwd

theorem frame : Cert.quiescent_GluFwd := fun m ρ _ => Cert.GluFwd.Gen.frame m ρ

theorem frame_ideal : Cert.quiescent_GluFwdIdeal := fun m ρ _ => Cert.GluFwdIdeal.Gen.frame m ρ

theorem frame_ref : Cert.quiescent_GluFwdRefIdeal := fun m ρ _ =>
  (θ_run Cert.GluFwdRefIdeal.defs _ _).mono (fun r h => ⟨fun c => (h c).2,
      Idealize.ShloMosaic.sem_eq_zero_of_no_sems (by decide) r.2⟩)
    (Cert.GluFwdRefIdeal.Value.run (F := Ideal) m ρ)

theorem preserves : Cert.preserves_GluFwd_GluFwdIdeal := trivial

theorem algebraic : Cert.algebraic_GluFwdIdeal_GluFwdRefIdeal := by
  intro m ρ m' ρ' _ hag
  refine ⟨fun c => GluStage.goal4 m c,
    (θ_run Cert.GluFwdIdeal.defs _ _).mono (fun r h c => ⟨(h c).1.trans (GluStage.final4 m c), (h c).2⟩) (Cert.GluFwdIdeal.Value.run_blocks m ρ),
    (θ_run Cert.GluFwdRefIdeal.defs _ _).mono (fun r h c => ?_) (Cert.GluFwdRefIdeal.Value.run (F := Ideal) m' ρ')⟩
  obtain ⟨h0, hr⟩ := h c
  obtain ⟨a0, a1, a2, a3⟩ := hag c
  refine ⟨h0.trans ((Cert.GluFwdRefIdeal.Read.val_main_v17_eq (F := Ideal) _ _ _ _).trans ?_), hr⟩
  · show Cert.GluFwdRefIdeal.Read.val_main_v17 (m' ((c : Thread Cert.GluFwdRefIdeal.nD Cert.GluFwdRefIdeal.τ).loc Cert.GluFwdRefIdeal.main_arg0)) (m' ((c : Thread Cert.GluFwdRefIdeal.nD Cert.GluFwdRefIdeal.τ).loc Cert.GluFwdRefIdeal.main_arg1)) (m' ((c : Thread Cert.GluFwdRefIdeal.nD Cert.GluFwdRefIdeal.τ).loc Cert.GluFwdRefIdeal.main_arg2)) (m' ((c : Thread Cert.GluFwdRefIdeal.nD Cert.GluFwdRefIdeal.τ).loc Cert.GluFwdRefIdeal.main_arg3)) = _
    rw [a0, a1, a2, a3]

end GluFwd

end Cert.Proof

end
-- ==== Proof.TileWords.lean ====
/-
  What the forward input projection's precondition says of the two tile tables: laid end to end, their 53 words name each of
  the 53 tiles once.
-/
module

public import proofs.«01_k».proof.Pre_every_tile_once
public import Idealize.ShloMosaic.Lib.StableHlo.Predicate
public import Idealize.ShloMosaic.Lib.Pipeline.Value

@[expose] public section

namespace Cert.TileWords

open Idealize.ShloMosaic Cert.Pre_every_tile_once
open Idealize.ShloMosaic.StableHlo.Predicate (ij cmpi_eq_iff bcast_rows bcast_cols bcast_scalar iota_apply)

/-- The two tables end to end. -/
def word (near : IVec S39 32) (far : IVec S14 32) (t : Fin 53) : BitVec 32 :=
  if h : t.val < 39 then near (Shape.Idx.ofFin ⟨t.val, h⟩) else far (Shape.Idx.ofFin ⟨t.val - 39, by omega⟩)

variable (near : IVec S39 32) (far : IVec S14 32)

theorem joined (h : Shape.Concatenates [S39, S14] S53 0) (t : Fin 53) :
    concatenate S53 0 [⟨S39, near⟩, ⟨S14, far⟩] h (Shape.Idx.ofFin t) = word near far t := by
  unfold word
  split
  · next ht => exact concatenate_pair_apply_left 0 near far h _ rfl _ fun b => by rw [Subsingleton.elim b 0]; rfl
  · next ht =>
    refine concatenate_pair_apply_right 0 near far h _ rfl rfl _ (fun b hb => absurd (Subsingleton.elim _ _) hb) ?_
    show t.val - 39 + 39 = t.val
    omega

theorem and_one {a b : BitVec 1} : a &&& b = 1#1 ↔ a = 1#1 ∧ b = 1#1 := by revert a b; decide
theorem or_one {a b : BitVec 1} : a ||| b = 1#1 ↔ a = 1#1 ∨ b = 1#1 := by revert a b; decide

theorem ge_iff {w : Nat} {a b : BitVec w} : IntOp.cmpi .sge a b = 1#1 ↔ b.toInt ≤ a.toInt := by
  show BitVec.ofBool (b.sle a) = 1#1 ↔ _
  rw [StableHlo.Predicate.ofBool_eq_one_iff, BitVec.sle_iff_toInt_le]
theorem lt_iff {w : Nat} {a b : BitVec w} : IntOp.cmpi .slt a b = 1#1 ↔ a.toInt < b.toInt := by
  show BitVec.ofBool (a.slt b) = 1#1 ↔ _
  rw [StableHlo.Predicate.ofBool_eq_one_iff, BitVec.slt_iff_toInt_lt]
theorem ne_iff {w : Nat} {a b : BitVec w} : IntOp.cmpi .ne a b = 1#1 ↔ a ≠ b := by
  show BitVec.ofBool (a != b) = 1#1 ↔ _
  rw [StableHlo.Predicate.ofBool_eq_one_iff, bne_iff_ne]

variable {near far}

/-- The precondition at a pair of positions. -/
theorem at_pair [Facts] {F : FTy → Type} [FloatOps F] (a0 : FVec F S2048x2048 .bf16) (a1 : FVec F S13568x2048 .bf16)
    (h : fn a0 a1 near far = fun _ => 1#1) (t t' : Fin 53) :
    ((0 ≤ (word near far t).toInt ∧ (word near far t).toInt < 53) ∧ (word near far t ≠ word near far t' ∨ t = t')) := by
  have e := congrFun h (ij t t')
  simp only [fn, andi, ori, cmpi] at e
  rw [bcast_rows, bcast_rows, bcast_cols, bcast_rows, bcast_cols] at e
  have hj := joined near far Facts.concatenates_S39_S14_S53_d0
  replace e : (IntOp.cmpi .sge (concatenate S53 0 [⟨S39, near⟩, ⟨S14, far⟩] Facts.concatenates_S39_S14_S53_d0 (Shape.Idx.ofFin t)) 0#32
      &&& IntOp.cmpi .slt (concatenate S53 0 [⟨S39, near⟩, ⟨S14, far⟩] Facts.concatenates_S39_S14_S53_d0 (Shape.Idx.ofFin t)) 53#32)
      &&& (IntOp.cmpi .ne (concatenate S53 0 [⟨S39, near⟩, ⟨S14, far⟩] Facts.concatenates_S39_S14_S53_d0 (Shape.Idx.ofFin t))
          (concatenate S53 0 [⟨S39, near⟩, ⟨S14, far⟩] Facts.concatenates_S39_S14_S53_d0 (Shape.Idx.ofFin t'))
        ||| IntOp.cmpi .eq (BitVec.ofNat 32 t.val) (BitVec.ofNat 32 t'.val)) = 1#1 := e
  rw [hj, hj, and_one, and_one, or_one, ge_iff, lt_iff, ne_iff, cmpi_eq_iff] at e
  refine ⟨e.1, e.2.imp_right fun h => ?_⟩
  have := congrArg BitVec.toNat h
  simp only [BitVec.toNat_ofNat] at this
  omega

/-- Every word names a tile, -/
theorem word_lt [Facts] {F : FTy → Type} [FloatOps F] (a0 : FVec F S2048x2048 .bf16) (a1 : FVec F S13568x2048 .bf16)
    (h : fn a0 a1 near far = fun _ => 1#1) (t : Fin 53) : (word near far t).toNat < 53 := by
  have := (at_pair a0 a1 h t t).1
  rw [BitVec.toInt_eq_toNat_cond] at this
  have hlt := (word near far t).isLt
  split at this <;> omega

/-- no two the same one, -/
theorem word_inj [Facts] {F : FTy → Type} [FloatOps F] (a0 : FVec F S2048x2048 .bf16) (a1 : FVec F S13568x2048 .bf16)
    (h : fn a0 a1 near far = fun _ => 1#1) {t t' : Fin 53} (e : (word near far t).toNat = (word near far t').toNat) : t = t' :=
  (at_pair a0 a1 h t t').2.resolve_left fun hne => hne (BitVec.eq_of_toNat_eq e)

/-- and so every tile is named. -/
theorem word_onto [Facts] {F : FTy → Type} [FloatOps F] (a0 : FVec F S2048x2048 .bf16) (a1 : FVec F S13568x2048 .bf16)
    (h : fn a0 a1 near far = fun _ => 1#1) (k : ℕ) (hk : k < 53) : ∃ t, (word near far t).toNat = k := by
  have hs : Function.Surjective (fun t : Fin 53 => (⟨(word near far t).toNat, word_lt a0 a1 h t⟩ : Fin 53)) :=
    Finite.injective_iff_surjective.mp fun t t' e => word_inj a0 a1 h (Fin.mk.inj_iff.mp e)
  obtain ⟨t, ht⟩ := hs ⟨k, hk⟩
  exact ⟨t, congrArg Fin.val ht⟩

/-! ## Table by table -/

theorem word_near (t : Fin 39) : word near far ⟨t.val, by omega⟩ = near (Shape.Idx.ofFin t) := dif_pos t.isLt
theorem word_far (t : Fin 14) : word near far ⟨t.val + 39, by omega⟩ = far (Shape.Idx.ofFin t) := by
  unfold word
  rw [dif_neg (by show ¬ t.val + 39 < 39; omega)]
  exact congrArg far (congrArg Shape.Idx.ofFin (Fin.ext (by show t.val + 39 - 39 = t.val; omega)))

/-- What the calls need of their tables. -/
structure Names (near : IVec S39 32) (far : IVec S14 32) : Prop where
  near_lt : ∀ t : Fin 39, (near (Shape.Idx.ofFin t)).toNat < 53
  far_lt : ∀ t : Fin 14, (far (Shape.Idx.ofFin t)).toNat < 53
  near_inj : ∀ t t' : Fin 39, (near (Shape.Idx.ofFin t)).toNat = (near (Shape.Idx.ofFin t')).toNat → t = t'
  far_inj : ∀ t t' : Fin 14, (far (Shape.Idx.ofFin t)).toNat = (far (Shape.Idx.ofFin t')).toNat → t = t'
  onto : ∀ k < 53, (∃ t : Fin 39, (near (Shape.Idx.ofFin t)).toNat = k) ∨ ∃ t : Fin 14, (far (Shape.Idx.ofFin t)).toNat = k

theorem names [Facts] {F : FTy → Type} [FloatOps F] (a0 : FVec F S2048x2048 .bf16) (a1 : FVec F S13568x2048 .bf16)
    (h : fn a0 a1 near far = fun _ => 1#1) : Names near far where
  near_lt t := by
    have := word_lt a0 a1 h ⟨t.val, by omega⟩
    rwa [word_near] at this
  far_lt t := by
    have := word_lt a0 a1 h ⟨t.val + 39, by omega⟩
    rwa [word_far] at this
  near_inj t t' e := by
    have := word_inj a0 a1 h (t := ⟨t.val, by omega⟩) (t' := ⟨t'.val, by omega⟩) (by rw [word_near, word_near]; exact e)
    exact Fin.ext (Fin.mk.inj_iff.mp this)
  far_inj t t' e := by
    have := word_inj a0 a1 h (t := ⟨t.val + 39, by omega⟩) (t' := ⟨t'.val + 39, by omega⟩) (by rw [word_far, word_far]; exact e)
    exact Fin.ext (Nat.add_right_cancel (Fin.mk.inj_iff.mp this))
  onto k hk := by
    obtain ⟨t, ht⟩ := word_onto a0 a1 h k hk
    by_cases h39 : t.val < 39
    · have := word_near (near := near) (far := far) ⟨t.val, h39⟩
      exact .inl ⟨⟨t.val, h39⟩, this ▸ ht⟩
    · have := word_far (near := near) (far := far) ⟨t.val - 39, by omega⟩
      rw [show (⟨(⟨t.val - 39, by omega⟩ : Fin 14).val + 39, by show t.val - 39 + 39 < 53; omega⟩ : Fin 53) = t from
        Fin.ext (by show t.val - 39 + 39 = t.val; omega)] at this
      exact .inr ⟨⟨t.val - 39, by omega⟩, this ▸ ht⟩

end Cert.TileWords
-- ==== Proof.TileRunIdeal.lean ====
/-
  The forward input projection's two calls, one after the other: what each leaves in its result's columns, read off the
  memory the program was started from, at any float values and any tile tables the calls accept.
-/
module

public import proofs.«01_k».proof.Proof.Gen.InProjIdeal
public import Idealize.ShloMosaic.Lib.Pipeline.FrameTail
public import Idealize.ShloMosaic.Lib.Pipeline.RegionArraysTS
public import Idealize.ShloMosaic.Lib.Pipeline.FrameBody
public import Idealize.ShloMosaic.Lib.Pipeline.Kit
public import Idealize.ShloMosaic.Lib.Pipeline.ValueKit
public import Idealize.ShloMosaic.Lib.Quiescent
public import Idealize.ShloMosaic.Lib.Ring
public import Idealize.ShloMosaic.Lib.Tactic

@[expose] public section

set_option maxRecDepth 16384

noncomputable section

namespace Cert.InProjIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation ucRefs afterRegion arrRef pin)
open Cert.InProjIdeal Cert.InProjIdeal.Gen

variable {F : FTy → Type} [FloatOps F]

/-- The resources a core's assertions are over. -/
abbrev Res (F : FTy → Type) : Type := MT nD τ sig Unit (Elt F) ℕ (UR sig nD τ) ℕ

/-! ## The body: one tile of the product -/

/-- A tile: the rows against 256 rows of the weight, rounded. -/
def tile (a : Vec F S2048x2048 .bf16) (b : Vec F S256x2048 .bf16) : Vec F S2048x256 .bf16 :=
  truncf .bf16 (matmul dot_S2048x2048_S256x2048_S2048x256_1_1_0_0_n_n none a b (constant S2048x256 .f32 0x00000000#32 : FVec F S2048x256 .f32)) bitsLt_bf16_f32

/-- Both calls' body, which reads no coordinate and no table. -/
def body (rows : Memref sig .tc .vmem S2048x2048 .bf16) (weight : Memref sig .tc .vmem S256x2048 .bf16)
    (out : Memref sig .tc .vmem S2048x256 .bf16) (hout : out.IsWhole) : Prog (TpuEff nD τ sig (Elt F) Λ₀ .tc) PUnit := do
  let a : Vec F S2048x2048 .bf16 ← Prog.lift (.load rows (Rect.unit (s := S2048x2048) ![0, 0] S2048x2048.size inb_S2048x2048_S2048x2048_0_0).toLoadRect (View.loadsAt_vmem h_S2048x2048))
  let b : Vec F S256x2048 .bf16 ← Prog.lift (.load weight (Rect.unit (s := S256x2048) ![0, 0] S256x2048.size inb_S256x2048_S256x2048_0_0).toLoadRect (View.loadsAt_vmem h_S256x2048))
  let _old : Vec F S2048x256 .bf16 ← Prog.lift (.load out (Rect.unit (s := S2048x256) ![0, 0] S2048x256.size inb_S2048x256_S2048x256_0_0).toLoadRect (View.loadsAt_vmem h_S2048x256))
  Prog.lift (.store out (Rect.unit (s := S2048x256) ![0, 0] S2048x256.size inb_S2048x256_S2048x256_0_0) (tile a b) Finset.univ (View.stores_vmem h_S2048x256 (hout.storeExact_slice rfl _ packedbf16_S2048x256_S2048x256_0_0) (fun _ => rfl)) (.inl rfl))
  pure ⟨⟩

set_option maxRecDepth 65536 in
theorem near_eq (i : grid0.Coords) (tb : Memref sig .tc .smem S39 .i32) (htb : tb.IsWhole) (rows : Memref sig .tc .vmem S2048x2048 .bf16)
    (hr : rows.IsWhole) (weight : Memref sig .tc .vmem S256x2048 .bf16) (hw : weight.IsWhole) (out : Memref sig .tc .vmem S2048x256 .bf16) (hout : out.IsWhole) :
    cc0_in_proj_l1_near (F := F) i tb htb rows hr weight hw out hout = body rows weight out hout := rfl

set_option maxRecDepth 65536 in
theorem far_eq (i : grid1.Coords) (tb : Memref sig .tc .smem S14 .i32) (htb : tb.IsWhole) (rows : Memref sig .tc .vmem S2048x2048 .bf16)
    (hr : rows.IsWhole) (weight : Memref sig .tc .vmem S256x2048 .bf16) (hw : weight.IsWhole) (al : Memref sig .tc .hbm S2048x13568 .bf16) (hal : al.IsWhole)
    (out : Memref sig .tc .vmem S2048x256 .bf16) (hout : out.IsWhole) :
    cc1_in_proj_l1_far (F := F) i tb htb rows hr weight hw al hal out hout = body rows weight out hout := rfl

set_option maxHeartbeats 1000000 in
/-- The body run on whole staging buffers: its inputs stay, its output holds the tile. -/
theorem body_run (c : Dev nD) (rows : Memref sig .tc .vmem S2048x2048 .bf16) (hr : rows.IsWhole)
    (weight : Memref sig .tc .vmem S256x2048 .bf16) (hw : weight.IsWhole) (out : Memref sig .tc .vmem S2048x256 .bf16) (hout : out.IsWhole)
    (a : Vec F S2048x2048 .bf16) (b : Vec F S256x2048 .bf16) (E : Set ℕ) (K : PUnit → sProp (Res F)) :
    iprop(owns (c : Thread nD τ) rows fullShare a ∗ owns (c : Thread nD τ) weight fullShare b ∗ (∃ d, owns (c : Thread nD τ) out fullShare d)
        ∗ (iprop(owns (c : Thread nD τ) rows fullShare a ∗ owns (c : Thread nD τ) weight fullShare b ∗ owns (c : Thread nD τ) out fullShare (tile a b)) -∗ K ⟨⟩))
      ⊢ wp frame (wpE (defs₀ (F := F)) Variants.none c none) E (body rows weight out hout) K := by
  unfold body
  unfold owns
  iintro ⟨⟨%f0, %hf0, H0⟩, ⟨%f1, %hf1, H1⟩, ⟨%d2, %f2, -, H2⟩, Hk⟩
  obtain rfl := hr.eq_unread hf0; obtain rfl := hw.eq_unread hf1
  sl_exec
  sl_step
  iapply Hk
  isplitl [H0]
  · iexists _; isplitr; · ipureintro; exact hr.read_unread _
    iexact H0
  isplitl [H1]
  · iexists _; isplitr; · ipureintro; exact hw.read_unread _
    iexact H1
  iexists _; isplitr
  swap
  · iexact H2
  ipureintro
  refine (View.read_writes_of_cover out.view f2 out.view out.view.junk _
    (fun y => View.cover_of_tiledL _ S2048x256.size (by sl_kernel_rfl) y)).trans ?_
  frame_out

/-! ## The tables and the contents between the calls -/

variable (m : (ℓ : Loc nD τ sig) → Buf (Elt F) ℓ) (ρ : Dev nD → PrngReg)

/-- Every buffer as launched. -/
abbrev V0 (c : Dev nD) : Valuation τ sig (Elt F) := StableHlo.launchContents m c

/-- The tile tables as launched (one device). -/
def near : pre0.Contents (Elt F) := fun j => V0 m 0 (Proc.devRef .tc (pre0.ref j))
def far : pre1.Contents (Elt F) := fun j => V0 m 0 (Proc.devRef .tc (pre1.ref j))

/-- Each call accepts its table. -/
abbrev Ok : Prop := ok0 (F := F) (near m) ∧ ok1 (F := F) (far m)

variable (hO : Ok m)

def adm : (p : Fin 2) → (pcfgs (F := F) p).Adm
  | 0 => ⟨near m, hO.1⟩
  | 1 => ⟨far m, hO.2⟩

abbrev nearCfg : Cfg sig Λ₀ := cfg0 (F := F) ⟨near m, hO.1⟩
abbrev farCfg : Cfg sig Λ₀ := cfg1 (F := F) ⟨far m, hO.2⟩

/-- A window's block at a point, of the contents `V`. -/
def nearBlk (V : Dev nD → Valuation τ sig (Elt F)) (c : Dev nD) (w : Fin 3) (t : Fin (nearCfg m hO).N) :
    (((nearCfg m hO).win w).xblock ((nearCfg m hO).grid.coords t)).Idx → Elt F ((nearCfg m hO).win w).elt :=
  (((nearCfg m hO).win w).blk t).view.read (Elt F) (V c (Proc.devRef .tc (arrRef spec0 w)))
def farBlk (V : Dev nD → Valuation τ sig (Elt F)) (c : Dev nD) (w : Fin 3) (t : Fin (farCfg m hO).N) :
    (((farCfg m hO).win w).xblock ((farCfg m hO).grid.coords t)).Idx → Elt F ((farCfg m hO).win w).elt :=
  (((farCfg m hO).win w).blk t).view.read (Elt F) (V c (Proc.devRef .tc (arrRef spec1 w)))

/-- The near call: its inputs' blocks stay, its output's holds the tile of them; the table and the other call's staging
    buffers pass through. -/
def nearDat (c : Dev nD) : Dat τ (Elt F) Unit ℕ (UR sig nD τ) ℕ (nearCfg m hO) c where
  A w := V0 m c (Proc.devRef .tc (arrRef spec0 w))
  after w t := match w with
    | ⟨0, _⟩ => nearBlk m hO (V0 m) c 0 t
    | ⟨1, _⟩ => nearBlk m hO (V0 m) c 1 t
    | ⟨2, _⟩ => tile (nearBlk m hO (V0 m) c 0 t) (nearBlk m hO (V0 m) c 1 t)
  Φ _ := iprop(iprop(Pipeline.scopedRest spec0 c ∗ emp) ∗ Pipeline.prefHeld pre0 c (fun _ => fullShare) (near m))
  q _ := fullShare
  owed _ := 0

/-- After the near call, -/
def V1 (c : Dev nD) : Valuation τ sig (Elt F) := afterRegion (nearDat m hO c) (V0 m c)
/-- the far call's result first a copy of the near call's, -/
abbrev copy : HloOp τ sig (Elt F) := StableHlo.unary main_v0 main_v1 id
def V2 (c : Dev nD) : Valuation τ sig (Elt F) := StableHlo.after [copy] (V1 m hO c)

/-- the far call over it, -/
def farDat (c : Dev nD) : Dat τ (Elt F) Unit ℕ (UR sig nD τ) ℕ (farCfg m hO) c where
  A w := V2 m hO c (Proc.devRef .tc (arrRef spec1 w))
  after w t := match w with
    | ⟨0, _⟩ => farBlk m hO (V2 m hO) c 0 t
    | ⟨1, _⟩ => farBlk m hO (V2 m hO) c 1 t
    | ⟨2, _⟩ => tile (farBlk m hO (V2 m hO) c 0 t) (farBlk m hO (V2 m hO) c 1 t)
  Φ _ := iprop(iprop(Pipeline.scopedRest spec1 c ∗ emp) ∗ Pipeline.prefHeld pre1 c (fun _ => fullShare) (far m))
  q _ := fullShare
  owed _ := 0

/-- and after it. -/
def V3 (c : Dev nD) : Valuation τ sig (Elt F) := afterRegion (farDat m hO c) (V2 m hO c)

def pdats : (p : Fin 2) → (c : Dev nD) → Dat τ (Elt F) Unit ℕ (UR sig nD τ) ℕ (pin (pcfgs (F := F)) (adm m hO) p) c
  | 0 => nearDat m hO
  | 1 => farDat m hO

/-! ## The body at a point -/

theorem three {M : Type} [URA M] (Φ : Fin 3 → sProp M) : bigSep Finset.univ Φ = iprop(Φ (0 : Fin 3) ∗ Φ (1 : Fin 3) ∗ Φ (2 : Fin 3)) :=
  bigSep_univ_eq_bigSepL [(0 : Fin 3), (1 : Fin 3), (2 : Fin 3)] (by decide) (by decide) Φ

theorem near_after0 (c : Dev nD) (t) : (nearDat m hO c).after 0 t = nearBlk m hO (V0 m) c 0 t := by dsimp only [nearDat]; try rfl
theorem near_after1 (c : Dev nD) (t) : (nearDat m hO c).after 1 t = nearBlk m hO (V0 m) c 1 t := by dsimp only [nearDat]; try rfl
theorem near_after2 (c : Dev nD) (t) : (nearDat m hO c).after 2 t = tile (nearBlk m hO (V0 m) c 0 t) (nearBlk m hO (V0 m) c 1 t) := by dsimp only [nearDat]; try rfl
theorem far_after0 (c : Dev nD) (t) : (farDat m hO c).after 0 t = farBlk m hO (V2 m hO) c 0 t := by dsimp only [farDat]; try rfl
theorem far_after1 (c : Dev nD) (t) : (farDat m hO c).after 1 t = farBlk m hO (V2 m hO) c 1 t := by dsimp only [farDat]; try rfl
theorem far_after2 (c : Dev nD) (t) : (farDat m hO c).after 2 t = tile (farBlk m hO (V2 m hO) c 0 t) (farBlk m hO (V2 m hO) c 1 t) := by dsimp only [farDat]; try rfl

theorem near_before0 (c : Dev nD) (t) (d) : (nearDat m hO c).before 0 t d = nearBlk m hO (V0 m) c 0 t :=
  ((nearDat m hO c).before_in_eq_fetched 0 rfl (fun _ => rfl) (fun _ _ _ => rfl) (fun t => by rw [near_after0]; rfl) t d).trans rfl
theorem near_before1 (c : Dev nD) (t) (d) : (nearDat m hO c).before 1 t d = nearBlk m hO (V0 m) c 1 t :=
  ((nearDat m hO c).before_in_eq_fetched 1 rfl (fun _ => rfl) (fun _ _ _ => rfl) (fun t => by rw [near_after1]; rfl) t d).trans rfl
theorem far_before0 (c : Dev nD) (t) (d) : (farDat m hO c).before 0 t d = farBlk m hO (V2 m hO) c 0 t :=
  ((farDat m hO c).before_in_eq_fetched 0 rfl (fun _ => rfl) (fun _ _ _ => rfl) (fun t => by rw [far_after0]; rfl) t d).trans rfl
theorem far_before1 (c : Dev nD) (t) (d) : (farDat m hO c).before 1 t d = farBlk m hO (V2 m hO) c 1 t :=
  ((farDat m hO c).before_in_eq_fetched 1 rfl (fun _ => rfl) (fun _ _ _ => rfl) (fun t => by rw [far_after1]; rfl) t d).trans rfl

/-- The staging buffers the pipelines pass the body. -/
abbrev nearStg (w : Fin 3) (t : Fin (nearCfg m hO).N) := ((nearCfg m hO).win w).stage ((nearCfg m hO).slots t w)
abbrev farStg (w : Fin 3) (t : Fin (farCfg m hO).N) := ((farCfg m hO).win w).stage ((farCfg m hO).slots t w)

theorem near_point (c : Dev nD) (t : Fin (nearCfg m hO).N) :
    iprop((nearDat m hO c).Φ t.castSucc ∗ (nearDat m hO c).owesAt () t.castSucc
        ∗ (∃ d, owns (c : Thread nD τ) (nearStg m hO 0 t) fullShare ((nearDat m hO c).before 0 t d))
        ∗ (∃ d, owns (c : Thread nD τ) (nearStg m hO 1 t) fullShare ((nearDat m hO c).before 1 t d))
        ∗ (∃ d, owns (c : Thread nD τ) (nearStg m hO 2 t) fullShare ((nearDat m hO c).before 2 t d)))
      ⊢ wp frame (wpE (defs₀ (F := F)) Variants.none c none) Set.univ
        (body (nearStg m hO 0 t) (nearStg m hO 1 t) (nearStg m hO 2 t) (hstage0_2 (((nearCfg m hO).slots t 2).cast nbuf0_2)))
        (fun _ => iprop((nearDat m hO c).Φ t.succ ∗ (nearDat m hO c).owesAt () t.succ
          ∗ owns (c : Thread nD τ) (nearStg m hO 0 t) fullShare ((nearDat m hO c).after 0 t)
          ∗ owns (c : Thread nD τ) (nearStg m hO 1 t) fullShare ((nearDat m hO c).after 1 t)
          ∗ owns (c : Thread nD τ) (nearStg m hO 2 t) fullShare ((nearDat m hO c).after 2 t))) := by
  simp only [near_before0, near_before1]
  rw [show (nearDat m hO c).Φ t.succ = (nearDat m hO c).Φ t.castSucc from rfl,
    show (nearDat m hO c).owesAt () t.succ = (nearDat m hO c).owesAt () t.castSucc from rfl, near_after0, near_after1, near_after2]
  iintro ⟨HΦ, Ho, ⟨%d0, H0⟩, ⟨%d1, H1⟩, ⟨%d2, H2⟩⟩
  iapply (body_run c _ (hstage0_0 (((nearCfg m hO).slots t 0).cast nbuf0_0)) _ (hstage0_1 (((nearCfg m hO).slots t 1).cast nbuf0_1)) _ _
    (nearBlk m hO (V0 m) c 0 t) (nearBlk m hO (V0 m) c 1 t) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem far_point (c : Dev nD) (t : Fin (farCfg m hO).N) :
    iprop((farDat m hO c).Φ t.castSucc ∗ (farDat m hO c).owesAt () t.castSucc
        ∗ (∃ d, owns (c : Thread nD τ) (farStg m hO 0 t) fullShare ((farDat m hO c).before 0 t d))
        ∗ (∃ d, owns (c : Thread nD τ) (farStg m hO 1 t) fullShare ((farDat m hO c).before 1 t d))
        ∗ (∃ d, owns (c : Thread nD τ) (farStg m hO 2 t) fullShare ((farDat m hO c).before 2 t d)))
      ⊢ wp frame (wpE (defs₀ (F := F)) Variants.none c none) Set.univ
        (body (farStg m hO 0 t) (farStg m hO 1 t) (farStg m hO 2 t) (hstage1_2 (((farCfg m hO).slots t 2).cast nbuf1_2)))
        (fun _ => iprop((farDat m hO c).Φ t.succ ∗ (farDat m hO c).owesAt () t.succ
          ∗ owns (c : Thread nD τ) (farStg m hO 0 t) fullShare ((farDat m hO c).after 0 t)
          ∗ owns (c : Thread nD τ) (farStg m hO 1 t) fullShare ((farDat m hO c).after 1 t)
          ∗ owns (c : Thread nD τ) (farStg m hO 2 t) fullShare ((farDat m hO c).after 2 t))) := by
  simp only [far_before0, far_before1]
  rw [show (farDat m hO c).Φ t.succ = (farDat m hO c).Φ t.castSucc from rfl,
    show (farDat m hO c).owesAt () t.succ = (farDat m hO c).owesAt () t.castSucc from rfl, far_after0, far_after1, far_after2]
  iintro ⟨HΦ, Ho, ⟨%d0, H0⟩, ⟨%d1, H1⟩, ⟨%d2, H2⟩⟩
  iapply (body_run c _ (hstage1_0 (((farCfg m hO).slots t 0).cast nbuf1_0)) _ (hstage1_1 (((farCfg m hO).slots t 1).cast nbuf1_1)) _ _
    (farBlk m hO (V2 m hO) c 0 t) (farBlk m hO (V2 m hO) c 1 t) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem near_row (t : Fin (nearCfg m hO).N) :
    defs₀ (F := F) .tc (nearCfg m hO).body ((nearCfg m hO).bodyArgs t ((nearCfg m hO).slots t))
      = body (nearStg m hO 0 t) (nearStg m hO 1 t) (nearStg m hO 2 t) (hstage0_2 (((nearCfg m hO).slots t 2).cast nbuf0_2)) := by
  unfold defs₀; rw [Defs.onTc_tc]; exact near_eq _ _ _ _ _ _ _ _ _
theorem far_row (t : Fin (farCfg m hO).N) :
    defs₀ (F := F) .tc (farCfg m hO).body ((farCfg m hO).bodyArgs t ((farCfg m hO).slots t))
      = body (farStg m hO 0 t) (farStg m hO 1 t) (farStg m hO 2 t) (hstage1_2 (((farCfg m hO).slots t 2).cast nbuf1_2)) := by
  unfold defs₀; rw [Defs.onTc_tc]; exact far_eq _ _ _ _ _ _ _ _ _ _ _

theorem near_body (c : Dev nD) : BodyObligation (nearDat (F := F) m hO c) (defs₀ (F := F)) Variants.none () Set.univ := fun t => by
  rw [three, three, near_row m hO]
  exact triple_restated (near_point m hO c t) rfl .rfl fun _ => .rfl
theorem far_body (c : Dev nD) : BodyObligation (farDat (F := F) m hO c) (defs₀ (F := F)) Variants.none () Set.univ := fun t => by
  rw [three, three, far_row m hO]
  exact triple_restated (far_point m hO c t) rfl .rfl fun _ => .rfl

/-! ## The layout -/

/-- Each call's staging semaphores. -/
abbrev semTab : Fin 2 → List (DmaSem sig)
  | 0 => Pipeline.specSems spec0
  | 1 => Pipeline.specSems spec1
theorem semsDistinct : ∀ p : Fin 2, (semTab p).Nodup := by decide
theorem semsDisjoint : ∀ p p' : Fin 2, p ≠ p' → (semTab p).Forall (· ∉ semTab p') := by decide
theorem cells_inj (a : (p : Fin 2) → (pcfgs (F := F) p).Adm) :
    Function.Injective (Pipeline.cellOf (nD := nD) (τ := τ) (pin (pcfgs (F := F)) a)) :=
  Pipeline.cellOf_injective_of_table (pin (pcfgs (F := F)) a) semTab (fun | 0 => rfl | 1 => rfl) semsDistinct semsDisjoint

theorem near_wins : Pipeline.WinFacts spec0 := by decide
theorem far_wins : Pipeline.WinFacts spec1 := by decide
theorem near_pre : Pipeline.PreFacts spec0 pre0 := by decide
theorem far_pre : Pipeline.PreFacts spec1 pre1 := by decide
theorem near_stages : ∀ (w : Fin 3) (s : Fin (spec0 w).nbuf), ((spec0 w).stage s).IsWhole
  | 0 => fun s => hstage0_0 (s.cast nbuf0_0)
  | 1 => fun s => hstage0_1 (s.cast nbuf0_1)
  | 2 => fun s => hstage0_2 (s.cast nbuf0_2)
theorem far_stages : ∀ (w : Fin 3) (s : Fin (spec1 w).nbuf), ((spec1 w).stage s).IsWhole
  | 0 => fun s => hstage1_0 (s.cast nbuf1_0)
  | 1 => fun s => hstage1_1 (s.cast nbuf1_1)
  | 2 => fun s => hstage1_2 (s.cast nbuf1_2)
theorem near_pos : ∀ w : Fin 3, 0 < (spec0 w).block.numel := by decide
theorem far_pos : ∀ w : Fin 3, 0 < (spec1 w).block.numel := by decide
theorem near_kit : Pipeline.PLaunchFacts (nD := nD) (τ := τ) (pcfgs (F := F)) 0 :=
  ⟨cells_inj, near_wins, near_pre, near_pos, harr0, near_stages⟩
theorem far_kit : Pipeline.PLaunchFacts (nD := nD) (τ := τ) (pcfgs (F := F)) 1 :=
  ⟨cells_inj, far_wins, far_pre, far_pos, harr1, far_stages⟩

/-! ## The program as its three segments -/

/-- Every TensorCore cell carries the one index, at level zero; nothing is owed. -/
abbrev ixs : GSem nD τ sig → Finset Unit := fun g => if g.1.2 = .tc then {()} else ∅
abbrev lvl : GSem nD τ sig → Unit → ℕ := fun _ _ => 0
abbrev noDebt : Dev nD → CellTallies nD τ sig Unit := fun _ => 0
abbrev nothing : Dev nD → sProp (Res F) := fun _ => iprop(emp)

theorem cut (p : Fin 2) : Pipeline.LevelCut (pcfgs (F := F)) (adm m hO) () ixs lvl p noDebt (fun _ => 0) where
  hι _ _ _ := by simp [ixs]
  hιb _ _ _ := le_rfl
  hD _ _ _ h := absurd h (lt_irrefl 0)

/-- The far table is untouched by the near call and the copy. -/
theorem far_kept (c : Dev nD) (k : Fin pre1.K) : V2 m hO c (Proc.devRef .tc (pre1.ref k)) = V0 m c (Proc.devRef .tc (pre1.ref k)) := by
  match k with
  | ⟨0, _⟩ =>
    show StableHlo.after [copy] (V1 m hO c) (Proc.devRef .tc main_arg3) = V0 m c (Proc.devRef .tc main_arg3)
    rw [StableHlo.after_cons, StableHlo.after_nil, StableHlo.unary_result_ne main_v0 main_v1 id _ _ _ (by decide)]
    exact Pipeline.afterRegion_of_not_arr (nearDat m hO c) (V0 m c) (show ∀ w : Fin 3, main_arg3 ≠ arrRef spec0 w by decide)

def nearReg : Pipeline.RegionSeg (pcfgs (F := F)) (adm m hO) (pdats m hO) () defs₀ Variants.none ixs lvl 0 :=
  Pipeline.RegionSeg.ofHeldInT (pcfgs (F := F)) (adm m hO) (pdats m hO) () defs₀ Variants.none ixs lvl 0 noDebt (ucRefs τ sig)
    nothing nothing near_kit (fun c => (near_body m hO c).loose) (fun _ _ => rfl) (fun _ => rfl)
    (fun c => (nearDat m hO c).share_full fun _ => rfl) (fun _ => .rfl) (fun _ => .rfl) (fun _ => 0) (cut m hO 0) nothing
    (V0 m) (fun _ _ => rfl) (fun c k => by rw [Subsingleton.elim c 0]; rfl)

def farReg : Pipeline.RegionSeg (pcfgs (F := F)) (adm m hO) (pdats m hO) () defs₀ Variants.none ixs lvl 1 :=
  Pipeline.RegionSeg.ofHeldInT (pcfgs (F := F)) (adm m hO) (pdats m hO) () defs₀ Variants.none ixs lvl 1 noDebt (ucRefs τ sig)
    nothing nothing far_kit (fun c => (far_body m hO c).loose) (fun _ _ => rfl) (fun _ => rfl)
    (fun c => (farDat m hO c).share_full fun _ => rfl) (fun _ => .rfl) (fun _ => .rfl) (fun _ => 0) (cut m hO 1) nothing
    (V2 m hO) (fun _ _ => rfl) (fun c k => by rw [Subsingleton.elim c 0]; exact (far_kept m hO 0 k).symm)

/-- What rides beside the buffers. -/
abbrev rest : Dev nD → sProp (Res F) := fun c =>
  iprop((∃ W, owes (c : Thread nD τ) (noDebt c) W) ∗ emp ∗ emp)

def copySeg : Pipeline.HostSeg (Name := ℕ) (U := UR sig nD τ) (pcfgs (F := F)) defs₀ Variants.none ixs lvl :=
  Pipeline.HostSeg.ofOps (pcfgs (F := F)) defs₀ Variants.none ixs lvl (ucRefs τ sig) [copy]
    (fun op h => by
      simp only [List.mem_singleton] at h; subst h
      exact Pipeline.sub_ucRefs _ (StableHlo.unary_bufs_sub ..))
    (fun op h => by simp only [List.mem_singleton] at h; subst h; rfl) (V1 m hO) rest

def segs : List (Pipeline.Seg (pcfgs (F := F)) (adm m hO) (pdats m hO) () defs₀ Variants.none ixs lvl) :=
  [.region (nearReg m hO), .host (copySeg m hO), .region (farReg m hO)]

theorem main_eq (c : Dev nD) : main (F := F) c = Pipeline.Seg.run (segs m hO) := by
  simp only [segs, Pipeline.Seg.run]
  rfl

/-! ## The run -/

theorem all_scoped : ∀ sm : SemLoc sig, sm.isScoped .tc = true := by decide

theorem near_arrs : Pipeline.arrRefs (τ := τ) (pcfgs (F := F) 0).spec ⊆ ucRefs τ sig := Pipeline.arrRefs_sub_ucRefs spec0 near_wins.arr_unscoped
theorem far_arrs : Pipeline.arrRefs (τ := τ) (pcfgs (F := F) 1).spec ⊆ ucRefs τ sig := Pipeline.arrRefs_sub_ucRefs spec1 far_wins.arr_unscoped
theorem near_tbls : Pipeline.tblRefs (τ := τ) (pcfgs (F := F) 0).pre ⊆ ucRefs τ sig := Pipeline.tblRefs_sub_ucRefs pre0 near_pre.unscoped
theorem far_tbls : Pipeline.tblRefs (τ := τ) (pcfgs (F := F) 1).pre ⊆ ucRefs τ sig := Pipeline.tblRefs_sub_ucRefs pre1 far_pre.unscoped

theorem enter_near (c : Dev nD) : iprop(StableHlo.held (c.tc : Thread nD τ) (ucRefs τ sig) (V0 m c) ∗ rest c) ⊢ (nearReg m hO).pre c := by
  unfold nearReg
  exact Pipeline.RegionSeg.ofHeldInT_pre (pcs := pcfgs (F := F)) (p := (0 : Fin 2)) (W := V0 m) (X := nothing) (Y := nothing) (R := nothing) (D := noDebt) near_arrs near_tbls c
theorem leave_near (c : Dev nD) : (nearReg m hO).post c ⊢ iprop(StableHlo.held (c.tc : Thread nD τ) (ucRefs τ sig) (V1 m hO c) ∗ rest c) := by
  unfold nearReg
  exact Pipeline.RegionSeg.ofHeldInT_post (pcs := pcfgs (F := F)) (p := (0 : Fin 2)) (W := V0 m) (X := nothing) (Y := nothing) (R := nothing) (D := noDebt) near_arrs near_tbls c
theorem enter_far (c : Dev nD) : iprop(StableHlo.held (c.tc : Thread nD τ) (ucRefs τ sig) (V2 m hO c) ∗ rest c) ⊢ (farReg m hO).pre c := by
  unfold farReg
  exact Pipeline.RegionSeg.ofHeldInT_pre (pcs := pcfgs (F := F)) (p := (1 : Fin 2)) (W := V2 m hO) (X := nothing) (Y := nothing) (R := nothing) (D := noDebt) far_arrs far_tbls c
theorem leave_far (c : Dev nD) : (farReg m hO).post c ⊢ iprop(StableHlo.held (c.tc : Thread nD τ) (ucRefs τ sig) (V3 m hO c) ∗ rest c) := by
  unfold farReg
  exact Pipeline.RegionSeg.ofHeldInT_post (pcs := pcfgs (F := F)) (p := (1 : Fin 2)) (W := V2 m hO) (X := nothing) (Y := nothing) (R := nothing) (D := noDebt) far_arrs far_tbls c

abbrev first (c : Dev nD) : sProp (Res F) := iprop(StableHlo.held (c.tc : Thread nD τ) (ucRefs τ sig) (V0 m c) ∗ rest c)
abbrev final (c : Dev nD) : sProp (Res F) := StableHlo.held (c.tc : Thread nD τ) (ucRefs τ sig) (V3 m hO c)

theorem last (c : Dev nD) : (farReg m hO).post c ⊢ iprop(final m hO c ∗ ∃ W, owes (c.tc : Thread nD τ) (0 : CellTallies nD τ sig Unit) W) :=
  (leave_far m hO c).trans (by
    iintro ⟨Hh, HO, -⟩
    isplitl [Hh]; · iexact Hh
    iexact HO)

theorem chained : Pipeline.Seg.Chains (first m) (segs m hO)
    (fun c => iprop(final m hO c ∗ ∃ W, owes (c.tc : Thread nD τ) (0 : CellTallies nD τ sig Unit) W)) :=
  ⟨enter_near m hO, leave_near m hO, enter_far m hO, last m hO⟩

theorem begins : iprop((bigSep Finset.univ fun c : Dev nD => iprop(unscopedBufs c (fun b => m ((c.tc : Thread nD τ).loc b)) ∗ unscopedSems0 c
      ∗ owes (c.tc : Thread nD τ) ((0 : Dev nD → CellTallies nD τ sig Unit) c) ∅ ∗ Pipeline.launchCred (0 : Dev nD → CellTallies nD τ sig Unit) c ∗ prngReg c (ρ c) ∗ emp)) ∗ levAts ixs lvl)
    ⊢ |={Set.univ}=> bigSep Finset.univ (first (F := F) m) := by
  refine Pipeline.initEach ixs lvl fun c => ?_
  rw [show unscopedBufs c (fun b => m ((c.tc : Thread nD τ).loc b)) = StableHlo.held (c.tc : Thread nD τ) (ucRefs τ sig) (V0 m c)
      from Pipeline.unscopedBufs_held (Ix := Unit) (Name := ℕ) (U := UR sig nD τ) (Lvl := ℕ) c (V0 m c)]
  iintro ⟨⟨Hh, -, HO, -, -, -⟩, -⟩
  imodintro
  isplitl [Hh]; · iexact Hh
  isplitl [HO]; · iexists ∅; iexact HO
  isplitr; · iempintro
  iempintro

theorem read_all (c : Dev nD) (s' : Phys nD τ sig (Elt F)) :
    iprop(final m hO c ∗ SI s') ⊢ |={Set.univ}=> iprop(⌜∀ b ∈ ucRefs τ sig, s'.mem.mem ((c.tc : Thread nD τ).1, b) = V3 m hO c b⌝ ∗ SI s') := by
  unfold final StableHlo.held
  iintro ⟨Hh, HSI⟩
  ihave Hr := (pointsTo_read_all (ucRefs τ sig) (fun b => ((c.tc : Thread nD τ).1, b)) (V3 m hO c) s') $$ [Hh HSI]
  · isplitl [Hh] <;> iassumption
  imodintro; iexact Hr

abbrev launch : UR sig nD τ :=
  initOf (Pipeline.cells (pin (pcfgs (F := F)) (adm m hO)) (cells_inj (adm m hO))) (Pipeline.launchToks (pin (pcfgs (F := F)) (adm m hO)) (cells_inj (adm m hO)))

theorem launched : (ownU (launch m hO) : sProp (Res F))
    ⊢ |={Set.univ}=> iprop(BI.own (emb₁ (launch m hO)) ∗ bigSep Finset.univ (fun _ : Dev nD => (BI.emp : sProp (Res F)))) := by
  iintro Hu; imodintro
  isplitl [Hu]
  · iapply (show (ownU _ : sProp (Res F)) ⊢ BI.own (emb₁ (launch m hO)) from .rfl)
    iexact Hu
  iapply (show (BI.emp : sProp (Res F)) ⊢ bigSep Finset.univ (fun _ : Dev nD => (BI.emp : sProp (Res F))) from by rw [BI.bigSep_emp_const])
  iempintro

set_option backward.isDefEq.respectTransparency.types false in
/-- Every weakly fair execution terminates with every buffer as the two calls and the copy between them left it, and no
    semaphore up. -/
theorem run : θ_run (defs (F := F)) (onTc (τ := τ) (main (F := F))) ⟨m, fun _ => 0, ρ⟩ (fun r =>
    (∀ (c : Dev nD) (b : Ref sig .tc), b.isScoped = false → r.2.mem ((c.tc : Thread nD τ).loc b) = V3 m hO c (Proc.devRef .tc b))
      ∧ r.2.sem = fun _ => 0) :=
  Pipeline.θ_run_regions_kit_sems (pcfgs (F := F)) (adm m hO) (pdats m hO) () (cells_inj (adm m hO)) emb₁ defs₀ Variants.none ixs lvl m ρ main
    (segs m hO) (fun c Q => by rw [main_eq m hO c])
    (by simp only [segs, Pipeline.Seg.pipes_host, Pipeline.Seg.pipes_region, Pipeline.Seg.pipes_nil]; decide)
    (O₀ := 0) (hL := fun g hg => if_neg hg) (G := fun _ => iprop(emp)) (u₀ := launch m hO) (hu₀ := launched m hO)
    (T₀ := first m) (Tₙ := final m hO) (hch := chained m hO) (hinit := begins m ρ)
    (QY := fun c s => ∀ b ∈ ucRefs τ sig, s.mem ((c.tc : Thread nD τ).1, b) = V3 m hO c b)
    (hfin := read_all m hO)
    (hQ := fun s h hs => ⟨fun c b hb => h c (Proc.devRef .tc b) (Pipeline.devRef_mem_ucRefs hb), sem_eq_zero_of_scoped all_scoped hs⟩)

end Cert.InProjIdeal.Tile

end
-- ==== Proof.TileFrameIdeal.lean ====
/-
  The forward input projection's frame: tables that name every tile once are tables both calls accept, and the run leaves
  the arguments as they were.
-/
module

public import proofs.«01_k».proof.Defs
public import proofs.«01_k».proof.Proof.TileRunIdeal
public import proofs.«01_k».proof.Proof.TileWords
public import proofs.«01_k».proof.Proof.Gen.Pre_every_tile_once

@[expose] public section

set_option maxRecDepth 16384

noncomputable section

namespace Cert.InProjIdeal.Tile

open Idealize.ShloMosaic Idealize.ShloMosaic.TcCoe
open Idealize.ShloMosaic.Pipeline (Dat Cfg ucRefs afterRegion arrRef pin)
open Cert.InProjIdeal Cert.InProjIdeal.Gen

variable {F : FTy → Type} [FloatOps F]
variable (m : (ℓ : Loc nD τ sig) → Buf (Elt F) ℓ)

/-- The tables as vectors, and the tile each call's point is at. -/
abbrev nearTbl : IVec S39 32 := m (((0 : Dev nD).tc : Thread nD τ).loc main_arg2)
abbrev farTbl : IVec S14 32 := m (((0 : Dev nD).tc : Thread nD τ).loc main_arg3)
def nearAt (t : Fin 39) : ℕ := (nearTbl m (Shape.Idx.ofFin t)).toNat
def farAt (t : Fin 14) : ℕ := (farTbl m (Shape.Idx.ofFin t)).toNat

theorem near_emb (i : grid0.Coords) (h1 : 0 < (⟨1, S1.size⟩ : Shape).numel) :
    (Rect.unit (s := S39) (k0_off1 i) S1.size (k0_off1_inb i)).emb (Shape.Idx.first h1) = (Shape.Idx.ofFin (i 0) : S39.Idx) := by
  funext a
  rw [Subsingleton.elim a 0]
  refine Fin.ext ?_
  show k0_off1 i 0 + 1 * 0 = (i 0).val
  rw [k0_off1_eq]; rfl

theorem near_ix1 (i : grid0.Coords) : cc0_transform_1 k0_off1_inb numel1_S1 (near m) i = ![nearAt m (i 0), 0] := by
  exact congrArg (fun x : S39.Idx => ![(nearTbl m x).toNat, 0]) (near_emb i (numel1_S1.symm ▸ Nat.one_pos))
theorem near_ix2 (i : grid0.Coords) : cc0_transform_2 k0_off1_inb numel1_S1 (near m) i = ![0, nearAt m (i 0)] := by
  exact congrArg (fun x : S39.Idx => ![0, (nearTbl m x).toNat]) (near_emb i (numel1_S1.symm ▸ Nat.one_pos))

theorem far_emb (i : grid1.Coords) (h1 : 0 < (⟨1, S1.size⟩ : Shape).numel) :
    (Rect.unit (s := S14) (k1_off1 i) S1.size (k1_off1_inb i)).emb (Shape.Idx.first h1) = (Shape.Idx.ofFin (i 0) : S14.Idx) := by
  funext a
  rw [Subsingleton.elim a 0]
  refine Fin.ext ?_
  show k1_off1 i 0 + 1 * 0 = (i 0).val
  rw [k1_off1_eq]; rfl

theorem far_ix1 (i : grid1.Coords) : cc1_transform_1 k1_off1_inb numel1_S1 (far m) i = ![farAt m (i 0), 0] := by
  exact congrArg (fun x : S14.Idx => ![(farTbl m x).toNat, 0]) (far_emb i (numel1_S1.symm ▸ Nat.one_pos))
theorem far_ix3 (i : grid1.Coords) : cc1_transform_3 k1_off1_inb numel1_S1 (far m) i = ![0, farAt m (i 0)] := by
  exact congrArg (fun x : S14.Idx => ![0, (farTbl m x).toNat]) (far_emb i (numel1_S1.symm ▸ Nat.one_pos))

/-- A weight tile, 256 whole rows, and a result tile, 256 columns of every row, lie inside their arrays in whole words. -/
theorem rows_ok {ix : Fin 2 → ℕ} {k : ℕ} (hk : k < 53) (e : ix = ![k, 0]) :
    ∃ h : (∀ a, (ix a + 1) * S256x2048.size a ≤ S13568x2048.size a),
      EltTy.bits .bf16 = 32 ∨ (Rect.block (s := S13568x2048) S256x2048.size ix h).WholeWords (EltTy.packing .bf16) := by
  subst e
  refine ⟨fun a => ?_, .inr (.inl (.inr ⟨by decide, rfl, .inl ⟨?_, ?_⟩⟩))⟩
  · match a with
    | ⟨0, _⟩ => show (k + 1) * 256 ≤ 13568; omega
    | ⟨1, _⟩ => show (0 + 1) * 2048 ≤ 2048; omega
  · show 2 ∣ k * 256; omega
  · show 2 ∣ 256; decide
theorem cols_ok {ix : Fin 2 → ℕ} {k : ℕ} (hk : k < 53) (e : ix = ![0, k]) :
    ∃ h : (∀ a, (ix a + 1) * S2048x256.size a ≤ S2048x13568.size a),
      EltTy.bits .bf16 = 32 ∨ (Rect.block (s := S2048x13568) S2048x256.size ix h).WholeWords (EltTy.packing .bf16) := by
  subst e
  refine ⟨fun a => ?_, .inr (.inl (.inr ⟨by decide, rfl, .inl ⟨?_, ?_⟩⟩))⟩
  · match a with
    | ⟨0, _⟩ => show (0 + 1) * 2048 ≤ 2048; omega
    | ⟨1, _⟩ => show (k + 1) * 256 ≤ 13568; omega
  · show 2 ∣ 0 * 2048; decide
  · show 2 ∣ 2048; decide

theorem ok_of_names (h : TileWords.Names (nearTbl m) (farTbl m)) : Ok m :=
  ⟨⟨fun i => rows_ok (h.near_lt (i 0)) (near_ix1 m i), fun i => cols_ok (h.near_lt (i 0)) (near_ix2 m i)⟩,
    fun i => rows_ok (h.far_lt (i 0)) (far_ix1 m i), fun i => cols_ok (h.far_lt (i 0)) (far_ix3 m i)⟩

/-! ## What the run leaves -/

variable (hO : Ok m)

/-- The copy writes the far call's result alone. -/
theorem copy_kept (c : Dev nD) {b : Ref sig .tc} (hb : main_v1 ≠ b) : V2 m hO c (Proc.devRef .tc b) = V1 m hO c (Proc.devRef .tc b) := by
  show StableHlo.after [copy] (V1 m hO c) (Proc.devRef .tc b) = _
  rw [StableHlo.after_cons, StableHlo.after_nil]
  exact StableHlo.unary_result_ne main_v0 main_v1 id _ _ _ hb.symm
theorem copy_v1 (c : Dev nD) : V2 m hO c (Proc.devRef .tc main_v1) = V1 m hO c (Proc.devRef .tc main_v0) := by
  show StableHlo.after [copy] (V1 m hO c) (Proc.devRef .tc main_v1) = _
  rw [StableHlo.after_cons, StableHlo.after_nil]
  exact StableHlo.unary_result main_v0 main_v1 id _ _ _

theorem near_in (c : Dev nD) (w : Fin 3) (hw : (spec0 w).isOut = false) :
    V1 m hO c (Proc.devRef .tc (arrRef spec0 w)) = V0 m c (Proc.devRef .tc (arrRef spec0 w)) :=
  (Pipeline.afterRegion_arr (nearDat m hO c) (V0 m c) near_wins.arr_inj w).trans ((nearDat m hO c).arrAt_in w hw _)
theorem far_in (c : Dev nD) (w : Fin 3) (hw : (spec1 w).isOut = false) :
    V3 m hO c (Proc.devRef .tc (arrRef spec1 w)) = V2 m hO c (Proc.devRef .tc (arrRef spec1 w)) :=
  (Pipeline.afterRegion_arr (farDat m hO c) (V2 m hO c) far_wins.arr_inj w).trans ((farDat m hO c).arrAt_in w hw _)

theorem end_arg0 (c : Dev nD) : V3 m hO c (Proc.devRef .tc main_arg0) = m ((c.tc : Thread nD τ).loc main_arg0) :=
  (far_in m hO c 0 rfl).trans ((copy_kept m hO c (by decide)).trans (near_in m hO c 0 rfl))
theorem end_arg1 (c : Dev nD) : V3 m hO c (Proc.devRef .tc main_arg1) = m ((c.tc : Thread nD τ).loc main_arg1) :=
  (far_in m hO c 1 rfl).trans ((copy_kept m hO c (by decide)).trans (near_in m hO c 1 rfl))
theorem end_arg2 (c : Dev nD) : V3 m hO c (Proc.devRef .tc main_arg2) = m ((c.tc : Thread nD τ).loc main_arg2) :=
  (Pipeline.afterRegion_of_not_arr (farDat m hO c) (V2 m hO c) (show ∀ w : Fin 3, main_arg2 ≠ arrRef spec1 w by decide)).trans
    ((copy_kept m hO c (by decide)).trans
      (Pipeline.afterRegion_of_not_arr (nearDat m hO c) (V0 m c) (show ∀ w : Fin 3, main_arg2 ≠ arrRef spec0 w by decide)))
theorem end_arg3 (c : Dev nD) : V3 m hO c (Proc.devRef .tc main_arg3) = m ((c.tc : Thread nD τ).loc main_arg3) :=
  (Pipeline.afterRegion_of_not_arr (farDat m hO c) (V2 m hO c) (show ∀ w : Fin 3, main_arg3 ≠ arrRef spec1 w by decide)).trans
    ((copy_kept m hO c (by decide)).trans
      (Pipeline.afterRegion_of_not_arr (nearDat m hO c) (V0 m c) (show ∀ w : Fin 3, main_arg3 ≠ arrRef spec0 w by decide)))

end Cert.InProjIdeal.Tile

namespace Cert.InProjIdeal.Tile

open Idealize.ShloMosaic Idealize.ShloMosaic.TcCoe
open Cert.InProjIdeal Cert.InProjIdeal.Gen

theorem names_of_pre (m : (ℓ : Loc nD τ sig) → Buf (Elt Ideal) ℓ) (h : Pre_InProjIdeal m) : TileWords.Names (nearTbl m) (farTbl m) :=
  TileWords.names _ _ (h 0)

/-- The frame. -/
theorem frame : quiescent_InProjIdeal := fun m g h =>
  have hO := ok_of_names m (names_of_pre m h)
  (θ_run (defs (F := Ideal)) (onTc (τ := τ) (main (F := Ideal))) ⟨m, fun _ => 0, g⟩).mono (fun r hr =>
    ⟨fun c => ⟨(hr.1 c main_arg0 rfl).trans (end_arg0 m hO c), (hr.1 c main_arg1 rfl).trans (end_arg1 m hO c),
      (hr.1 c main_arg2 rfl).trans (end_arg2 m hO c), (hr.1 c main_arg3 rfl).trans (end_arg3 m hO c)⟩, hr.2⟩) (run m g hO)

end Cert.InProjIdeal.Tile

end
-- ==== Proof.TileValue.lean ====
/-
  What the forward input projection's two calls leave in the result: each writes its tiles of the reference's product, and
  tables that name every tile once leave no column unwritten.
-/
module

public import proofs.«01_k».proof.Proof.TileFrameIdeal
public import proofs.«01_k».proof.Proof.Gen.InProjRefIdeal.Read
public import Idealize.ShloMosaic.Lib.Pointwise
public import Idealize.ShloMosaic.Lib.Pipeline.ValueKit

@[expose] public section

set_option maxRecDepth 16384

noncomputable section

namespace Cert.InProjIdeal.Tile

open Idealize.ShloMosaic Idealize.ShloMosaic.TcCoe
open Idealize.ShloMosaic.Pipeline (Dat Cfg ucRefs afterRegion arrRef pin)
open Cert.InProjIdeal Cert.InProjIdeal.Gen
open Cert.InProjRefIdeal.Read

variable (m : (ℓ : Loc nD τ sig) → Buf (Elt Ideal) ℓ) (hO : Ok m)

/-- The reference's array, of the arguments the program was started from. -/
abbrev goal (c : Dev nD) : Vec Ideal S2048x13568 .bf16 :=
  val_main_v4 (m ((c : Thread nD τ).loc main_arg0)) (m ((c : Thread nD τ).loc main_arg1))

/-- An entry of the product of the rows with the weight's rows. -/
def entry (x0 : Vec Ideal S2048x2048 .bf16) (x1 : Vec Ideal S13568x2048 .bf16) (r : Fin 2048) (x : Fin 13568) : EReal :=
  ∑ k : Fin 2048, x0 (ix2 r k) * x1 (ix2 x k)

theorem product (x0 : Vec Ideal S2048x2048 .bf16) (x1 : Vec Ideal S13568x2048 .bf16) (r : Fin 2048) (x : Fin 13568) :
    val_main_v4 (F := Ideal) x0 x1 (ix2 r x) = entry x0 x1 r x := by
  unfold entry
  pointwise [val_main_v4, val_main_v3, val_main_v2, val_main_v1, val_main_v0]

theorem tile_at (a : Vec Ideal S2048x2048 .bf16) (b : Vec Ideal S256x2048 .bf16) (r : Fin 2048) (q : Fin 256) :
    tile (F := Ideal) a b (ix2 r q) = (∑ k : Fin 2048, a (ix2 r k) * b (ix2 q k) : EReal) := by
  pointwise [tile]

/-! ## The tiles a call's points are at -/

theorem near_pt : ∀ t : Fin grid0.N, (grid0.coords t 0).val = t.val := by decide +kernel
theorem far_pt : ∀ t : Fin grid1.N, (grid1.coords t 0).val = t.val := by decide +kernel
theorem near_N : grid0.N = 39 := by decide +kernel
theorem far_N : grid1.N = 14 := by decide +kernel

def nearT (t : Fin grid0.N) : Fin 39 := t.cast near_N
def farT (t : Fin grid1.N) : Fin 14 := t.cast far_N
theorem near_c (t : Fin grid0.N) : grid0.coords t 0 = nearT t := Fin.ext (near_pt t)
theorem far_c (t : Fin grid1.N) : grid1.coords t 0 = farT t := Fin.ext (far_pt t)

theorem near_at1 (t : Fin (nearCfg m hO).N) : ((nearCfg m hO).win 1).index t = ![nearAt m (nearT t), 0] :=
  (near_ix1 m (grid0.coords t)).trans (by rw [near_c])
theorem near_at2 (t : Fin (nearCfg m hO).N) : ((nearCfg m hO).win 2).index t = ![0, nearAt m (nearT t)] :=
  (near_ix2 m (grid0.coords t)).trans (by rw [near_c])
theorem far_at1 (t : Fin (farCfg m hO).N) : ((farCfg m hO).win 1).index t = ![farAt m (farT t), 0] :=
  (far_ix1 m (grid1.coords t)).trans (by rw [far_c])
theorem far_at2 (t : Fin (farCfg m hO).N) : ((farCfg m hO).win 2).index t = ![0, farAt m (farT t)] :=
  (far_ix3 m (grid1.coords t)).trans (by rw [far_c])
theorem near_at0 (t : Fin (nearCfg m hO).N) : ((nearCfg m hO).win 0).index t = ![0, 0] := rfl
theorem far_at0 (t : Fin (farCfg m hO).N) : ((farCfg m hO).win 0).index t = ![0, 0] := rfl

/-! ## Each point writes its tile of the product -/

/-- Column `q` of tile `k`. -/
def col (k : ℕ) (hk : k < 53) (q : Fin 256) : Fin 13568 := ⟨k * 256 + q.val, by omega⟩

variable (hN : TileWords.Names (nearTbl m) (farTbl m))
include hN in
theorem near_lt (t : Fin 39) : nearAt m t < 53 := hN.near_lt t

include hN in
theorem far_lt (t : Fin 14) : farAt m t < 53 := hN.far_lt t

/-- Where a point's blocks lie in their arrays. -/
theorem near_off0 (t : Fin (nearCfg m hO).N) (y : S2048x2048.Idx) (a : Fin 2) :
    (((((nearCfg m hO).win 0).blk t).view.emb y : S2048x2048.Idx) a).val = ((nearCfg m hO).win 0).index t a * S2048x2048.size a + 1 * (y a).val := rfl
theorem near_emb0 (t : Fin (nearCfg m hO).N) (r k : Fin 2048) :
    (((nearCfg m hO).win 0).blk t).view.emb (ix2 r k : S2048x2048.Idx) = (ix2 r k : S2048x2048.Idx) := by
  refine funext fun a : Fin 2 => Fin.ext ((near_off0 m hO t (ix2 r k) a).trans ?_)
  rw [near_at0]
  match a with
  | ⟨0, _⟩ => show 0 * 2048 + 1 * r.val = r.val; omega
  | ⟨1, _⟩ => show 0 * 2048 + 1 * k.val = k.val; omega
theorem near_off1 (t : Fin (nearCfg m hO).N) (y : S256x2048.Idx) (a : Fin 2) :
    (((((nearCfg m hO).win 1).blk t).view.emb y : S13568x2048.Idx) a).val = ((nearCfg m hO).win 1).index t a * S256x2048.size a + 1 * (y a).val := rfl
include hN in
theorem near_emb1 (t : Fin (nearCfg m hO).N) (q : Fin 256) (k : Fin 2048) :
    (((nearCfg m hO).win 1).blk t).view.emb (ix2 q k : S256x2048.Idx) = (ix2 (col _ (near_lt m hN (nearT t)) q) k : S13568x2048.Idx) := by
  refine funext fun a : Fin 2 => Fin.ext ((near_off1 m hO t (ix2 q k) a).trans ?_)
  rw [near_at1]
  match a with
  | ⟨0, _⟩ => show nearAt m (nearT t) * 256 + 1 * q.val = nearAt m (nearT t) * 256 + q.val; omega
  | ⟨1, _⟩ => show 0 * 2048 + 1 * k.val = k.val; omega
theorem near_off2 (t : Fin (nearCfg m hO).N) (y : S2048x256.Idx) (a : Fin 2) :
    (((((nearCfg m hO).win 2).blk t).view.emb y : S2048x13568.Idx) a).val = ((nearCfg m hO).win 2).index t a * S2048x256.size a + 1 * (y a).val := rfl
include hN in
theorem near_emb2 (t : Fin (nearCfg m hO).N) (r : Fin 2048) (q : Fin 256) :
    (((nearCfg m hO).win 2).blk t).view.emb (ix2 r q : S2048x256.Idx) = (ix2 r (col _ (near_lt m hN (nearT t)) q) : S2048x13568.Idx) := by
  refine funext fun a : Fin 2 => Fin.ext ((near_off2 m hO t (ix2 r q) a).trans ?_)
  rw [near_at2]
  match a with
  | ⟨0, _⟩ => show 0 * 2048 + 1 * r.val = r.val; omega
  | ⟨1, _⟩ => show nearAt m (nearT t) * 256 + 1 * q.val = nearAt m (nearT t) * 256 + q.val; omega
theorem far_off0 (t : Fin (farCfg m hO).N) (y : S2048x2048.Idx) (a : Fin 2) :
    (((((farCfg m hO).win 0).blk t).view.emb y : S2048x2048.Idx) a).val = ((farCfg m hO).win 0).index t a * S2048x2048.size a + 1 * (y a).val := rfl
theorem far_emb0 (t : Fin (farCfg m hO).N) (r k : Fin 2048) :
    (((farCfg m hO).win 0).blk t).view.emb (ix2 r k : S2048x2048.Idx) = (ix2 r k : S2048x2048.Idx) := by
  refine funext fun a : Fin 2 => Fin.ext ((far_off0 m hO t (ix2 r k) a).trans ?_)
  rw [far_at0]
  match a with
  | ⟨0, _⟩ => show 0 * 2048 + 1 * r.val = r.val; omega
  | ⟨1, _⟩ => show 0 * 2048 + 1 * k.val = k.val; omega
theorem far_off1 (t : Fin (farCfg m hO).N) (y : S256x2048.Idx) (a : Fin 2) :
    (((((farCfg m hO).win 1).blk t).view.emb y : S13568x2048.Idx) a).val = ((farCfg m hO).win 1).index t a * S256x2048.size a + 1 * (y a).val := rfl
include hN in
theorem far_emb1 (t : Fin (farCfg m hO).N) (q : Fin 256) (k : Fin 2048) :
    (((farCfg m hO).win 1).blk t).view.emb (ix2 q k : S256x2048.Idx) = (ix2 (col _ (far_lt m hN (farT t)) q) k : S13568x2048.Idx) := by
  refine funext fun a : Fin 2 => Fin.ext ((far_off1 m hO t (ix2 q k) a).trans ?_)
  rw [far_at1]
  match a with
  | ⟨0, _⟩ => show farAt m (farT t) * 256 + 1 * q.val = farAt m (farT t) * 256 + q.val; omega
  | ⟨1, _⟩ => show 0 * 2048 + 1 * k.val = k.val; omega
theorem far_off2 (t : Fin (farCfg m hO).N) (y : S2048x256.Idx) (a : Fin 2) :
    (((((farCfg m hO).win 2).blk t).view.emb y : S2048x13568.Idx) a).val = ((farCfg m hO).win 2).index t a * S2048x256.size a + 1 * (y a).val := rfl
include hN in
theorem far_emb2 (t : Fin (farCfg m hO).N) (r : Fin 2048) (q : Fin 256) :
    (((farCfg m hO).win 2).blk t).view.emb (ix2 r q : S2048x256.Idx) = (ix2 r (col _ (far_lt m hN (farT t)) q) : S2048x13568.Idx) := by
  refine funext fun a : Fin 2 => Fin.ext ((far_off2 m hO t (ix2 r q) a).trans ?_)
  rw [far_at2]
  match a with
  | ⟨0, _⟩ => show 0 * 2048 + 1 * r.val = r.val; omega
  | ⟨1, _⟩ => show farAt m (farT t) * 256 + 1 * q.val = farAt m (farT t) * 256 + q.val; omega

/-- The far call's inputs are the program's arguments. -/
theorem far_arg0 (c : Dev nD) : V2 m hO c (Proc.devRef .tc main_arg0) = m ((c.tc : Thread nD τ).loc main_arg0) :=
  (copy_kept m hO c (by decide)).trans (near_in m hO c 0 rfl)
theorem far_arg1 (c : Dev nD) : V2 m hO c (Proc.devRef .tc main_arg1) = m ((c.tc : Thread nD τ).loc main_arg1) :=
  (copy_kept m hO c (by decide)).trans (near_in m hO c 1 rfl)

theorem near_blk0 (c : Dev nD) (t : Fin (nearCfg m hO).N) (r k : Fin 2048) :
    nearBlk m hO (V0 m) c 0 t (ix2 r k : S2048x2048.Idx) = (m ((c.tc : Thread nD τ).loc main_arg0) : Vec Ideal S2048x2048 .bf16) (ix2 r k) :=
  congrArg (m ((c.tc : Thread nD τ).loc main_arg0) : Vec Ideal S2048x2048 .bf16) (near_emb0 m hO t r k)
include hN in
theorem near_blk1 (c : Dev nD) (t : Fin (nearCfg m hO).N) (q : Fin 256) (k : Fin 2048) :
    nearBlk m hO (V0 m) c 1 t (ix2 q k : S256x2048.Idx)
      = (m ((c.tc : Thread nD τ).loc main_arg1) : Vec Ideal S13568x2048 .bf16) (ix2 (col _ (near_lt m hN (nearT t)) q) k) :=
  congrArg (m ((c.tc : Thread nD τ).loc main_arg1) : Vec Ideal S13568x2048 .bf16) (near_emb1 m hO hN t q k)
theorem far_blk0 (c : Dev nD) (t : Fin (farCfg m hO).N) (r k : Fin 2048) :
    farBlk m hO (V2 m hO) c 0 t (ix2 r k : S2048x2048.Idx) = (m ((c.tc : Thread nD τ).loc main_arg0) : Vec Ideal S2048x2048 .bf16) (ix2 r k) :=
  (congrArg (V2 m hO c (Proc.devRef .tc main_arg0) : Vec Ideal S2048x2048 .bf16) (far_emb0 m hO t r k)).trans
    (congrFun (far_arg0 m hO c) _)
include hN in
theorem far_blk1 (c : Dev nD) (t : Fin (farCfg m hO).N) (q : Fin 256) (k : Fin 2048) :
    farBlk m hO (V2 m hO) c 1 t (ix2 q k : S256x2048.Idx)
      = (m ((c.tc : Thread nD τ).loc main_arg1) : Vec Ideal S13568x2048 .bf16) (ix2 (col _ (far_lt m hN (farT t)) q) k) :=
  (congrArg (V2 m hO c (Proc.devRef .tc main_arg1) : Vec Ideal S13568x2048 .bf16) (far_emb1 m hO hN t q k)).trans
    (congrFun (far_arg1 m hO c) _)

theorem split (y : S2048x256.Idx) : ∃ (r : Fin 2048) (q : Fin 256), y = ix2 r q :=
  ⟨y 0, y 1, funext fun a => match a with | ⟨0, _⟩ => rfl | ⟨1, _⟩ => rfl⟩

include hN in
theorem near_writes (c : Dev nD) (t : Fin (nearCfg m hO).N) (y : (((nearCfg m hO).win 2).xblock ((nearCfg m hO).grid.coords t)).Idx) :
    _root_.cast (congrArg (Elt Ideal) (((nearCfg m hO).win 2).blk t).view.elt_eq.symm)
      ((nearDat m hO c).after 2 t (((nearCfg m hO).win 2).xinj ((nearCfg m hO).grid.coords t) y))
        = goal m c ((((nearCfg m hO).win 2).blk t).view.emb y) := by
  blk_simp
  rw [near_after2]
  obtain ⟨r, q, rfl⟩ := split y
  refine (tile_at _ _ r q).trans (Eq.trans ?_ (congrArg (goal m c) (near_emb2 m hO hN t r q)).symm)
  refine Eq.trans ?_ (product _ _ r _).symm
  unfold entry
  refine Finset.sum_congr rfl fun k _ => ?_
  rw [near_blk0 m hO c t r k, near_blk1 m hO hN c t q k]

include hN in
theorem far_writes (c : Dev nD) (t : Fin (farCfg m hO).N) (y : (((farCfg m hO).win 2).xblock ((farCfg m hO).grid.coords t)).Idx) :
    _root_.cast (congrArg (Elt Ideal) (((farCfg m hO).win 2).blk t).view.elt_eq.symm)
      ((farDat m hO c).after 2 t (((farCfg m hO).win 2).xinj ((farCfg m hO).grid.coords t) y))
        = goal m c ((((farCfg m hO).win 2).blk t).view.emb y) := by
  blk_simp
  rw [far_after2]
  obtain ⟨r, q, rfl⟩ := split y
  refine (tile_at _ _ r q).trans (Eq.trans ?_ (congrArg (goal m c) (far_emb2 m hO hN t r q)).symm)
  refine Eq.trans ?_ (product _ _ r _).symm
  unfold entry
  refine Finset.sum_congr rfl fun k _ => ?_
  rw [far_blk0 m hO c t r k, far_blk1 m hO hN c t q k]

/-! ## Every point writes its tile back, and the tiles cover the result -/

/-- A result's window writes at a point back when the next point's tile is another. -/
theorem flushes {sig : RefSig} {G : Pipeline.Grid} (w : Pipeline.Window sig G) (ho : w.isOut = true) (t : Fin G.N)
    (h : ∀ h : t.val + 1 < G.N, w.index ⟨t.val + 1, h⟩ ≠ w.index t) : w.flush t = true := by
  unfold Pipeline.Window.flush
  rw [ho, Bool.true_and, Bool.or_eq_true]
  by_cases ht : t.val + 1 = G.N
  · exact .inl (decide_eq_true ht)
  · exact .inr (decide_eq_true ⟨by have := t.isLt; omega, h _⟩)
include hN in
theorem near_flush (t : Fin (nearCfg m hO).N) : ((nearCfg m hO).win 2).flush t = true :=
  flushes _ rfl t fun h e => by
    rw [near_at2, near_at2] at e
    have e1 : nearAt m (nearT ⟨t.val + 1, h⟩) = nearAt m (nearT t) := congrFun e 1
    have e2 := congrArg Fin.val (hN.near_inj _ _ e1)
    exact absurd (show t.val + 1 = t.val from e2) (by omega)

include hN in
theorem far_flush (t : Fin (farCfg m hO).N) : ((farCfg m hO).win 2).flush t = true :=
  flushes _ rfl t fun h e => by
    rw [far_at2, far_at2] at e
    have e1 : farAt m (farT ⟨t.val + 1, h⟩) = farAt m (farT t) := congrFun e 1
    have e2 := congrArg Fin.val (hN.far_inj _ _ e1)
    exact absurd (show t.val + 1 = t.val from e2) (by omega)

/-- The tiles of each call. -/
def nearQ (β : Fin 2 → ℕ) : Prop := ∃ t : Fin 39, β = ![0, nearAt m t]
def farQ (β : Fin 2 → ℕ) : Prop := ∃ t : Fin 14, β = ![0, farAt m t]
include hN in
theorem near_covers : ((nearCfg m hO).win 2).CoversWhere (nearQ m) := by
  refine ⟨show ∀ a : Fin 2, 0 < S2048x256.size a by decide, fun t _ => ⟨⟨nearT t, near_at2 m hO t⟩, fun a => .inl rfl⟩, fun β hβ => ?_⟩
  obtain ⟨t, ht⟩ := hβ
  refine ⟨t.cast near_N.symm, fun a => ?_, near_flush m hO hN _⟩
  rw [near_at2]; exact (congrFun ht a).symm

include hN in
theorem far_covers : ((farCfg m hO).win 2).CoversWhere (farQ m) := by
  refine ⟨show ∀ a : Fin 2, 0 < S2048x256.size a by decide, fun t _ => ⟨⟨farT t, far_at2 m hO t⟩, fun a => .inl rfl⟩, fun β hβ => ?_⟩
  obtain ⟨t, ht⟩ := hβ
  refine ⟨t.cast far_N.symm, fun a => ?_, far_flush m hO hN _⟩
  rw [far_at2]; exact (congrFun ht a).symm

include hN in
/-- After the near call its tiles hold the product. -/
theorem near_done (c : Dev nD) (j : S2048x13568.Idx) (hj : nearQ m (fun a => (j a).val / S2048x256.size a)) :
    V1 m hO c (Proc.devRef .tc main_v0) j = goal m c j := by
  obtain ⟨t, hf, hi⟩ := ((near_covers m hO hN).covered_iff j).mpr hj
  exact (congrFun (Pipeline.afterRegion_arr (nearDat m hO c) (V0 m c) near_wins.arr_inj 2) j).trans
    ((nearDat m hO c).arrAt_forall_of_flushed 2 (fun i v => v = goal m c i) (fun t _ y => near_writes m hO hN c t y) _ t _ t.isLt hf hi)

include hN in
/-- A tile the far call leaves is one of the near call's. -/
theorem near_else (j : S2048x13568.Idx) (hj : ¬farQ m (fun a => (j a).val / S2048x256.size a)) :
    nearQ m (fun a => (j a).val / S2048x256.size a) := by
  have hk : (j 1).val / 256 < 53 := by have : (j 1).val < 13568 := (j 1).isLt; omega
  have h0 : (j 0).val / 2048 = 0 := by have : (j 0).val < 2048 := (j 0).isLt; omega
  have e (k : ℕ) (h : k = (j 1).val / 256) : (fun a => (j a).val / S2048x256.size a) = ![0, k] := funext fun a => match a with
    | ⟨0, _⟩ => h0
    | ⟨1, _⟩ => h.symm
  rcases hN.onto _ hk with ⟨t, ht⟩ | ⟨t, ht⟩
  · exact ⟨t, e _ ht⟩
  · exact absurd ⟨t, e _ ht⟩ hj

include hN in
/-- The result is the reference's. -/
theorem end_v1 (c : Dev nD) : V3 m hO c (Proc.devRef .tc main_v1) = goal m c := by
  refine (Pipeline.afterRegion_arr (farDat m hO c) (V2 m hO c) far_wins.arr_inj 2).trans ?_
  refine (farDat m hO c).arrAt_eq_of_coversWhere_of_agree 2 (goal m c) (farQ m) (far_covers m hO hN) (fun t _ y => far_writes m hO hN c t y) fun j hj => ?_
  exact (congrFun (copy_v1 m hO c) j).trans (near_done m hO hN c j (near_else m hN j hj))

end Cert.InProjIdeal.Tile

end
-- ==== Proof.TileClaims.lean ====
/-
  The claims about the forward input projection's two calls.
-/
module

public import proofs.«01_k».proof.Defs
public import proofs.«01_k».proof.Proof.TileFrame
public import proofs.«01_k».proof.Proof.TileValue
public import proofs.«01_k».proof.Proof.Gen.InProjRefIdeal.Run
public import proofs.«01_k».proof.Proof.Gen.InProjRefIdeal.Read

@[expose] public section

set_option maxRecDepth 16384

noncomputable section

namespace Cert.Proof.InProj

open Idealize.ShloMosaic Idealize.ShloMosaic.TcCoe

theorem frame : Cert.quiescent_InProj := Cert.InProj.Tile.frame

theorem frame_ideal : Cert.quiescent_InProjIdeal := Cert.InProjIdeal.Tile.frame

theorem frame_ref : Cert.quiescent_InProjRefIdeal := fun m ρ _ =>
  (θ_run Cert.InProjRefIdeal.defs _ _).mono (fun r h => ⟨fun c => (h c).2,
      Idealize.ShloMosaic.sem_eq_zero_of_no_sems (by decide) r.2⟩)
    (Cert.InProjRefIdeal.Value.run (F := Ideal) m ρ)

theorem frame_ref_tiles : Cert.quiescent_InProjRefIdeal_pre_every_tile_once := fun m ρ _ => frame_ref m ρ trivial

theorem preserves : Cert.preserves_InProj_InProjIdeal := trivial

theorem algebraic : Cert.algebraic_InProjIdeal_InProjRefIdeal := by
  intro m ρ m' ρ' hpre hag
  have hN := Cert.InProjIdeal.Tile.names_of_pre m hpre
  have hO := Cert.InProjIdeal.Tile.ok_of_names m hN
  refine ⟨fun c => Cert.InProjIdeal.Tile.goal m c,
    (θ_run Cert.InProjIdeal.defs _ _).mono (fun r h c => ⟨(h.1 c Cert.InProjIdeal.main_v1 rfl).trans (Cert.InProjIdeal.Tile.end_v1 m hO hN c),
      (h.1 c Cert.InProjIdeal.main_arg0 rfl).trans (Cert.InProjIdeal.Tile.end_arg0 m hO c),
      (h.1 c Cert.InProjIdeal.main_arg1 rfl).trans (Cert.InProjIdeal.Tile.end_arg1 m hO c),
      (h.1 c Cert.InProjIdeal.main_arg2 rfl).trans (Cert.InProjIdeal.Tile.end_arg2 m hO c),
      (h.1 c Cert.InProjIdeal.main_arg3 rfl).trans (Cert.InProjIdeal.Tile.end_arg3 m hO c)⟩) (Cert.InProjIdeal.Tile.run m ρ hO),
    (θ_run Cert.InProjRefIdeal.defs _ _).mono (fun r h c => ?_) (Cert.InProjRefIdeal.Value.run (F := Ideal) m' ρ')⟩
  obtain ⟨h0, hr⟩ := h c
  obtain ⟨a0, a1, a2, a3⟩ := hag c
  refine ⟨h0.trans ((Cert.InProjRefIdeal.Read.val_main_v4_eq (F := Ideal) _ _).trans ?_), hr⟩
  show Cert.InProjRefIdeal.Read.val_main_v4 (m' ((c : Thread Cert.InProjRefIdeal.nD Cert.InProjRefIdeal.τ).loc Cert.InProjRefIdeal.main_arg0)) (m' ((c : Thread Cert.InProjRefIdeal.nD Cert.InProjRefIdeal.τ).loc Cert.InProjRefIdeal.main_arg1)) = _
  rw [a0, a1]

end Cert.Proof.InProj

end
-- ==== Proof.SgForward.lean ====
/-
  The forward spatial gating mixer: what the kernel's body computes on one block of 128 rows is what the reference
  computes on those rows of the whole arrays, and the blocks of all points fill the result.
-/
module

public import proofs.«01_k».proof.Proof.Gen.SgFwdIdeal.Value
public import proofs.«01_k».proof.Proof.Gen.SgFwdRefIdeal.Read
public import proofs.«01_k».proof.Proof.SgHeads
public import proofs.«01_k».proof.Proof.SgInput
public import Idealize.ShloMosaic.Lib.Pipeline.ValueKit

@[expose] public section

set_option maxRecDepth 16384

noncomputable section

namespace Cert.SgForward

open Idealize.ShloMosaic Idealize.ShloMosaic.TcCoe Idealize.ShloMosaic.Tactic Idealize.SL.Sem
open Idealize.ShloMosaic.Pipeline (Dat)
open Cert.SgFwdIdeal Cert.SgFwdIdeal.Gen
open Cert.SgFwdRefIdeal.Read
open Cert.SgStage (row col ucol vcol zcol col_surj col_zero col_at row_div row_mod col_div col_mod concat8')

/-! ## One block of rows -/

variable (t : Fin 16)
variable (x0 : (⟨Cert.SgFwdRefIdeal.S2048x13568, .bf16⟩ : BufTy).Contents (Elt Ideal))
variable (x1 x2 : (⟨Cert.SgFwdRefIdeal.S1024, .f32⟩ : BufTy).Contents (Elt Ideal))
variable (x3 : (⟨Cert.SgFwdRefIdeal.S8x128x128, .f32⟩ : BufTy).Contents (Elt Ideal))
variable (x4 : (⟨Cert.SgFwdRefIdeal.S8x128, .f32⟩ : BufTy).Contents (Elt Ideal))
variable (U V Z : Vec Ideal S128x1024 .bf16) (LW LB : Vec Ideal S1x1024 .f32)
variable (Wh : Fin 8 → Vec Ideal S1x128x128 .f32) (Bh : Fin 8 → Vec Ideal S1x128x1 .f32)
variable (hU : ∀ (r : Fin 128) (c : Fin 1024), U (ix2 r c) = x0 (ix2 (row t r) (ucol c)))
variable (hV : ∀ (r : Fin 128) (c : Fin 1024), V (ix2 r c) = x0 (ix2 (row t r) (vcol c)))
variable (hZ : ∀ (r : Fin 128) (c : Fin 1024), Z (ix2 r c) = x0 (ix2 (row t r) (zcol c)))
variable (hLW : ∀ c : Fin 1024, LW (ix2 0 c) = x1 (ix1 c)) (hLB : ∀ c : Fin 1024, LB (ix2 0 c) = x2 (ix1 c))
variable (hW : ∀ (h : Fin 8) (r k : Fin 128), Wh h (ix3 0 r k) = x3 (ix3 h r k))
variable (hB : ∀ (h : Fin 8) (r : Fin 128), Bh h (ix3 0 r 0) = x4 (ix2 h r))

include hV in
/-- The activated second input of a block. -/
theorem act (r : Fin 128) (c : Fin 1024) : k0_pay13 V (ix2 r c) = val_main_v28 x0 (ix2 (row t r) c) := by
  pointwise [k0_pay13, val_main_v28, val_main_v27, val_main_v26, val_main_cst_6, val_main_v25, val_main_v24, val_main_cst_5, val_main_v23, val_main_v22, val_main_v21, val_main_cst_4, val_main_v20, val_main_v19, val_main_v18, val_main_cst_3, val_main_v17, val_main_v16, val_main_v15, val_main_v0]
  rw [hV, mul_comm (x0 (ix2 (row t r) (vcol c)) * x0 (ix2 (row t r) (vcol c)))]

include hV in
/-- The mean of each row. -/
theorem mean (r : Fin 128) : k0_pay14 V (ix2 r 0) = val_main_v32 x0 (ix2 (row t r) 0) := by
  pointwise [k0_pay14, val_main_v32, val_main_v31, val_main_cst_8, val_main_v30, val_main_v29, val_main_cst_7]
  simp only [act t x0 V hV]

include hV in
/-- The variance of each row. -/
theorem var (r : Fin 128) : k0_pay15 V (ix2 r 0) = val_main_v39 x0 (ix2 (row t r) 0) := by
  pointwise [k0_pay15, val_main_v39, val_main_v38, val_main_cst_10, val_main_v37, val_main_v36, val_main_cst_9, val_main_v35, val_main_v34, val_main_v33]
  simp only [act t x0 V hV, mean t x0 V hV]

/-- The normalised values of a block, as the body feeds them to the mixing products. -/
def vn : FVec Ideal S128x1024 .bf16 := k0_pay16 (k0_pay11 LW) (k0_pay12 LB) (k0_pay13 V) (k0_pay14 V) (k0_pay15 V)

include hV hLW hLB in
theorem vn_eq (r : Fin 128) (c : Fin 1024) : vn V LW LB (ix2 r c) = val_main_v52 x0 x1 x2 (ix2 (row t r) c) := by
  pointwise [vn, k0_pay16, k0_pay11, k0_pay12, val_main_v52, val_main_v51, val_main_v50, val_main_v49, val_main_v48, val_main_v47, val_main_v46, val_main_v45, val_main_v44, val_main_v43, val_main_v42, val_main_cst_11, val_main_v41, val_main_v40]
  rw [act t x0 V hV, mean t x0 V hV, var t x0 V hV, hLW, hLB]

/-- The reference's triangular mask is the body's. -/
theorem tri (r k : Fin 128) : val_main_v55 (F := Ideal) (ix2 r k) = k0_pay2 (ix2 r k) := by
  pointwise [val_main_v55, val_main_v54, val_main_c, val_main_call0_v5, val_main_call0_v4, val_main_call0_v3, val_main_call0_v2, val_main_call0_v1, val_main_call0_v0, val_main_call0_c, val_main_call0_c_0, k0_pay2]
  revert r k
  decide +kernel

theorem ref_weight (h : Fin 8) (r k : Fin 128) :
    val_main_v58 (F := Ideal) x3 (ix3 h r k) = Scalar.select (k0_pay2 (ix2 r k)) (x3 (ix3 h r k)) 0 := by
  pointwise [val_main_v58, val_main_v57, val_main_cst_12, val_main_call1_v0, val_main_v56]
  rw [tri]

/-- The masked weights of the eight heads, as the body holds them. -/
def wm : Fin 8 → FVec Ideal S128x128 .bf16 :=
  ![k0_pay3 (Wh 0), k0_pay4 (Wh 1), k0_pay5 (Wh 2), k0_pay6 (Wh 3), k0_pay7 (Wh 4), k0_pay8 (Wh 5), k0_pay9 k0_pay2 (Wh 6), k0_pay10 k0_pay2 (Wh 7)]

include hW in
theorem wm_eq (h : Fin 8) (r k : Fin 128) : wm Wh h (ix2 r k) = val_main_v58 (F := Ideal) x3 (ix3 h r k) := by
  rw [ref_weight, ← hW]
  fin_cases h
  · show k0_pay3 (Wh 0) (ix2 r k) = _
    pointwise [k0_pay3]
  · show k0_pay4 (Wh 1) (ix2 r k) = _
    pointwise [k0_pay4]
  · show k0_pay5 (Wh 2) (ix2 r k) = _
    pointwise [k0_pay5]
  · show k0_pay6 (Wh 3) (ix2 r k) = _
    pointwise [k0_pay6]
  · show k0_pay7 (Wh 4) (ix2 r k) = _
    pointwise [k0_pay7]
  · show k0_pay8 (Wh 5) (ix2 r k) = _
    pointwise [k0_pay8]
  · show k0_pay9 k0_pay2 (Wh 6) (ix2 r k) = _
    pointwise [k0_pay9]
  · show k0_pay10 k0_pay2 (Wh 7) (ix2 r k) = _
    pointwise [k0_pay10]

/-- What one head's mixing product leaves at a place of its square. -/
def mix1 (h : Fin 8) (r d : Fin 128) : EReal := ∑ k : Fin 128, wm Wh h (ix2 r k) * vn V LW LB (ix2 k (col h d)) + Bh h (ix3 0 r 0)

include hV hLW hLB hW hB in
/-- It is the reference's mixed value. -/
theorem mix1_eq (h : Fin 8) (r d : Fin 128) :
    mix1 V LW LB Wh Bh h r d = val_main_v66 x0 x1 x2 x3 x4 (ix2 (row t r) (col h d)) := by
  have e : val_main_v66 x0 x1 x2 x3 x4 (ix2 (row t r) (col h d)) = val_main_v65 x0 x1 x2 x3 x4 (ix4 t r h d) := by
    pointwise [val_main_v66]
    rw [row_div t r, row_mod t r, col_div h d, col_mod h d]
  have e' (k : Fin 128) : val_main_v53 x0 x1 x2 (ix4 t k h d) = val_main_v52 x0 x1 x2 (ix2 (row t k) (col h d)) := by
    pointwise [val_main_v53]
    rfl
  rw [e]
  unfold mix1
  pointwise [val_main_v65, val_main_v64, val_main_v63, val_main_v62, val_main_v61, val_main_v60, val_main_v59]
  rw [hB]
  refine congrArg₂ (· + ·) (Finset.sum_congr rfl fun k _ => ?_) rfl
  rw [e']
  exact (congrArg₂ (· * ·) (wm_eq x3 Wh hW h r k) (vn_eq t x0 x1 x2 V LW LB hV hLW hLB k (col h d))).trans (mul_comm _ _)

/-- The logistic function, as the quotient the reference computes. -/
theorem logistic_eq (x : EReal) : Ideal.logistic x = Ideal.div 1 (1 + Ideal.exp (-x)) := rfl

/-- What the body leaves of a block. -/
def out : FVec Ideal S128x1024 .bf16 :=
  k0_pay1 (k0_pay22 Z) (k0_pay23 (k0_pay8 (Wh 5)) (k0_pay9 k0_pay2 (Wh 6)) (k0_pay10 k0_pay2 (Wh 7)) (vn V LW LB)
    (k0_pay17 (k0_pay3 (Wh 0)) (k0_pay11 LW) (k0_pay12 LB) (k0_pay13 V) (k0_pay14 V) (k0_pay15 V) (Bh 0))
    (k0_pay18 (k0_pay4 (Wh 1)) (k0_pay11 LW) (k0_pay12 LB) (k0_pay13 V) (k0_pay14 V) (k0_pay15 V) (Bh 1))
    (k0_pay19 (k0_pay5 (Wh 2)) (k0_pay11 LW) (k0_pay12 LB) (k0_pay13 V) (k0_pay14 V) (k0_pay15 V) (Bh 2))
    (k0_pay20 (k0_pay6 (Wh 3)) (k0_pay11 LW) (k0_pay12 LB) (k0_pay13 V) (k0_pay14 V) (k0_pay15 V) (Bh 3))
    (k0_pay21 (k0_pay7 (Wh 4)) (k0_pay11 LW) (k0_pay12 LB) (k0_pay13 V) (k0_pay14 V) (k0_pay15 V))
    (Bh 4) (Bh 5) (Bh 6) (Bh 7) U)

/-- The mixed values of a block, the heads side by side. -/
def mixed : FVec Ideal S128x1024 .f32 :=
  concatenate S128x1024 1 [
    ⟨S128x128, k0_pay17 (k0_pay3 (Wh 0)) (k0_pay11 LW) (k0_pay12 LB) (k0_pay13 V) (k0_pay14 V) (k0_pay15 V) (Bh 0)⟩,
    ⟨S128x128, k0_pay18 (k0_pay4 (Wh 1)) (k0_pay11 LW) (k0_pay12 LB) (k0_pay13 V) (k0_pay14 V) (k0_pay15 V) (Bh 1)⟩,
    ⟨S128x128, k0_pay19 (k0_pay5 (Wh 2)) (k0_pay11 LW) (k0_pay12 LB) (k0_pay13 V) (k0_pay14 V) (k0_pay15 V) (Bh 2)⟩,
    ⟨S128x128, k0_pay20 (k0_pay6 (Wh 3)) (k0_pay11 LW) (k0_pay12 LB) (k0_pay13 V) (k0_pay14 V) (k0_pay15 V) (Bh 3)⟩,
    ⟨S128x128, addf (k0_pay21 (k0_pay7 (Wh 4)) (k0_pay11 LW) (k0_pay12 LB) (k0_pay13 V) (k0_pay14 V) (k0_pay15 V)) (broadcastTo S128x128 (shapeCast S128x1 (Bh 4) shapeCasts_S1x128x1_S128x1) broadcasts_S128x1_S128x128)⟩,
    ⟨S128x128, addf (matmul dot_S128x128_S128x128_S128x128_1_0_0_1_n_n none (k0_pay8 (Wh 5)) (extractStridedSlice S128x128 ![0, 640] (vn V LW LB) slices_S128x1024_o0_640_S128x128) (constant S128x128 .f32 0x00000000#32)) (broadcastTo S128x128 (shapeCast S128x1 (Bh 5) shapeCasts_S1x128x1_S128x1) broadcasts_S128x1_S128x128)⟩,
    ⟨S128x128, addf (matmul dot_S128x128_S128x128_S128x128_1_0_0_1_n_n none (k0_pay9 k0_pay2 (Wh 6)) (extractStridedSlice S128x128 ![0, 768] (vn V LW LB) slices_S128x1024_o0_768_S128x128) (constant S128x128 .f32 0x00000000#32)) (broadcastTo S128x128 (shapeCast S128x1 (Bh 6) shapeCasts_S1x128x1_S128x1) broadcasts_S128x1_S128x128)⟩,
    ⟨S128x128, addf (matmul dot_S128x128_S128x128_S128x128_1_0_0_1_n_n none (k0_pay10 k0_pay2 (Wh 7)) (extractStridedSlice S128x128 ![0, 896] (vn V LW LB) slices_S128x1024_o0_896_S128x128) (constant S128x128 .f32 0x00000000#32)) (broadcastTo S128x128 (shapeCast S128x1 (Bh 7) shapeCasts_S1x128x1_S128x1) broadcasts_S128x1_S128x128)⟩
  ] concatenates_S128x128_S128x128_S128x128_S128x128_S128x128_S128x128_S128x128_S128x128_S128x1024_d1

theorem mixed_eq (r : Fin 128) (h : Fin 8) (d : Fin 128) : mixed V LW LB Wh Bh (ix2 r (col h d)) = mix1 V LW LB Wh Bh h r d := by
  unfold mixed mix1
  refine Eq.trans (concat8' _ _ _ _ _ _ _ _ _ r h d) ?_
  fin_cases h
  · show k0_pay17 _ _ _ _ _ _ _ _ = _
    pointwise [k0_pay17]
    rw [Finset.sum_congr rfl fun x _ => by rw [col_zero d]]
    rfl
  · show k0_pay18 _ _ _ _ _ _ _ _ = _
    pointwise [k0_pay18]
    rw [Finset.sum_congr rfl fun x _ => by rw [col_at 128 1 rfl d]]
    rfl
  · show k0_pay19 _ _ _ _ _ _ _ _ = _
    pointwise [k0_pay19]
    rw [Finset.sum_congr rfl fun x _ => by rw [col_at 256 2 rfl d]]
    rfl
  · show k0_pay20 _ _ _ _ _ _ _ _ = _
    pointwise [k0_pay20]
    rw [Finset.sum_congr rfl fun x _ => by rw [col_at 384 3 rfl d]]
    rfl
  · skip
    pointwise [k0_pay21]
    rw [Finset.sum_congr rfl fun x _ => by rw [col_at 512 4 rfl d]]
    rfl
  · skip
    pointwise [k0_pay21]
    rw [Finset.sum_congr rfl fun x _ => by rw [col_at 640 5 rfl d]]
    rfl
  · skip
    pointwise [k0_pay21]
    rw [Finset.sum_congr rfl fun x _ => by rw [col_at 768 6 rfl d]]
    rfl
  · skip
    pointwise [k0_pay21]
    rw [Finset.sum_congr rfl fun x _ => by rw [col_at 896 7 rfl d]]
    rfl

/-- The body's gate, of the mixed values. -/
def gate (M : FVec Ideal S128x1024 .f32) : FVec Ideal S128x1024 .f32 :=
  mulf (mulf (extf .f32 U bitsLt_bf16_f32) (mulf (broadcast S128x1024 (Scalar.ofBits .f32 0x3F000000#32))
    (addf (broadcast S128x1024 (Scalar.ofBits .f32 0x3F800000#32)) (tanh (mulf (broadcast S128x1024 (Scalar.ofBits .f32 0x3F4C422A#32))
      (addf (extf .f32 U bitsLt_bf16_f32) (mulf (broadcast S128x1024 (Scalar.ofBits .f32 0x3D372713#32))
        (mulf (extf .f32 U bitsLt_bf16_f32) (mulf (extf .f32 U bitsLt_bf16_f32) (extf .f32 U bitsLt_bf16_f32)))))))))) M

theorem out_gate : out U V Z LW LB Wh Bh = k0_pay1 (k0_pay22 Z) (gate U (mixed V LW LB Wh Bh)) := rfl

include hU hV hZ hLW hLB hW hB in
/-- What the body leaves of a block is the reference's. -/
theorem out_eq (r : Fin 128) (c : Fin 1024) :
    out U V Z LW LB Wh Bh (ix2 r c) = val_main_v71 x0 x1 x2 x3 x4 (ix2 (row t r) c) := by
  obtain ⟨h, d, rfl⟩ := col_surj c
  have hm := (mixed_eq V LW LB Wh Bh r h d).trans (mix1_eq t x0 x1 x2 x3 x4 V LW LB Wh Bh hV hLW hLB hW hB h r d)
  rw [out_gate]
  generalize mixed V LW LB Wh Bh = M at hm ⊢
  pointwise [gate, k0_pay1, k0_pay22, val_main_v71, val_main_v70, val_main_v69, val_main_call2_v5, val_main_call2_v4, val_main_call2_cst_0, val_main_call2_v3, val_main_call2_v2, val_main_call2_cst, val_main_call2_v1, val_main_call2_v0, val_main_v68, val_main_v67, val_main_v14, val_main_v13, val_main_v12, val_main_cst_2, val_main_v11, val_main_v10, val_main_cst_1, val_main_v9, val_main_v8, val_main_v7, val_main_cst_0, val_main_v6, val_main_v5, val_main_v4, val_main_cst, val_main_v3, val_main_v2, val_main_v1, val_main_v0]
  rw [hm, hU, hZ, logistic_eq, mul_comm (x0 (ix2 (row t r) (ucol (col h d))) * x0 (ix2 (row t r) (ucol (col h d))))]

/-! ## What the kernel reads at each point -/

variable (m : (ℓ : Loc nD τ sig) → Buf (Elt Ideal) ℓ)

/-- A grid point as the number of its block of rows. -/
def pt (t : Fin cfg0.N) : Fin 16 := ⟨t.val, lt_of_lt_of_eq t.isLt N_0⟩

theorem at_row : ∀ t : Fin cfg0.N, win0_0.index t = ![t.val, 2] ∧ win0_1.index t = ![t.val, 3] ∧ win0_2.index t = ![t.val, 4] ∧ win0_7.index t = ![t.val, 0] :=
  (by decide +kernel : ∀ t : Fin grid0.N, win0_0.index t = ![t.val, 2] ∧ win0_1.index t = ![t.val, 3] ∧ win0_2.index t = ![t.val, 4] ∧ win0_7.index t = ![t.val, 0])
theorem at_whole : ∀ t : Fin cfg0.N, win0_3.index t = ![0, 0] ∧ win0_4.index t = ![0, 0] ∧ win0_5.index t = ![0, 0, 0] ∧ win0_6.index t = ![0, 0, 0] :=
  (by decide +kernel : ∀ t : Fin grid0.N, win0_3.index t = ![0, 0] ∧ win0_4.index t = ![0, 0] ∧ win0_5.index t = ![0, 0, 0] ∧ win0_6.index t = ![0, 0, 0])

theorem read_u (c : Dev nD) (t : Fin cfg0.N) (r : Fin 128) (k : Fin 1024) :
    X0_0 m c t (ix2 r k) = m ((c : Thread nD τ).loc main_arg0) (ix2 (row (pt t) r) (ucol k)) := by
  unfold X0_0 Pipeline.Window.fill
  rw [dif_pos (moved0_0 t _)]
  unfold iblk
  rw [View.read_apply]
  show V m c main_arg0 _ = _
  rw [V_main_arg0]
  congr 1
  funext a
  apply Fin.ext
  match a with
  | ⟨0, _⟩ => show win0_0.index t 0 * 128 + 1 * r.val = t.val * 128 + r.val; rw [(at_row t).1]; show t.val * 128 + 1 * r.val = t.val * 128 + r.val; omega
  | ⟨1, _⟩ => show win0_0.index t 1 * 1024 + 1 * k.val = 2048 + k.val; rw [(at_row t).1]; show 2 * 1024 + 1 * k.val = 2048 + k.val; omega

theorem read_v (c : Dev nD) (t : Fin cfg0.N) (r : Fin 128) (k : Fin 1024) :
    X0_1 m c t (ix2 r k) = m ((c : Thread nD τ).loc main_arg0) (ix2 (row (pt t) r) (vcol k)) := by
  unfold X0_1 Pipeline.Window.fill
  rw [dif_pos (moved0_1 t _)]
  unfold iblk
  rw [View.read_apply]
  show V m c main_arg0 _ = _
  rw [V_main_arg0]
  congr 1
  funext a
  apply Fin.ext
  match a with
  | ⟨0, _⟩ => show win0_1.index t 0 * 128 + 1 * r.val = t.val * 128 + r.val; rw [(at_row t).2.1]; show t.val * 128 + 1 * r.val = t.val * 128 + r.val; omega
  | ⟨1, _⟩ => show win0_1.index t 1 * 1024 + 1 * k.val = 3072 + k.val; rw [(at_row t).2.1]; show 3 * 1024 + 1 * k.val = 3072 + k.val; omega

theorem read_z (c : Dev nD) (t : Fin cfg0.N) (r : Fin 128) (k : Fin 1024) :
    X0_2 m c t (ix2 r k) = m ((c : Thread nD τ).loc main_arg0) (ix2 (row (pt t) r) (zcol k)) := by
  unfold X0_2 Pipeline.Window.fill
  rw [dif_pos (moved0_2 t _)]
  unfold iblk
  rw [View.read_apply]
  show V m c main_arg0 _ = _
  rw [V_main_arg0]
  congr 1
  funext a
  apply Fin.ext
  match a with
  | ⟨0, _⟩ => show win0_2.index t 0 * 128 + 1 * r.val = t.val * 128 + r.val; rw [(at_row t).2.2.1]; show t.val * 128 + 1 * r.val = t.val * 128 + r.val; omega
  | ⟨1, _⟩ => show win0_2.index t 1 * 1024 + 1 * k.val = 4096 + k.val; rw [(at_row t).2.2.1]; show 4 * 1024 + 1 * k.val = 4096 + k.val; omega

theorem read_lw (c : Dev nD) (t : Fin cfg0.N) (k : Fin 1024) :
    (iblk m c 3 t : Vec Ideal S1x1024 .f32) (ix2 0 k) = m ((c : Thread nD τ).loc main_arg1) (ix1 k) := by
  unfold iblk
  rw [View.read_apply]
  show broadcastInDim S1x1024 ![1] bcast_S1024_S1x1024_1 (m ((c : Thread nD τ).loc main_arg1)) _ = _
  unfold broadcastInDim
  congr 1
  funext a
  apply Fin.ext
  match a with
  | ⟨0, _⟩ => show win0_3.index t 1 * 1024 + 1 * k.val = k.val; rw [(at_whole t).1]; show 0 * 1024 + 1 * k.val = k.val; omega

theorem read_lb (c : Dev nD) (t : Fin cfg0.N) (k : Fin 1024) :
    (iblk m c 4 t : Vec Ideal S1x1024 .f32) (ix2 0 k) = m ((c : Thread nD τ).loc main_arg2) (ix1 k) := by
  unfold iblk
  rw [View.read_apply]
  show broadcastInDim S1x1024 ![1] bcast_S1024_S1x1024_1 (m ((c : Thread nD τ).loc main_arg2)) _ = _
  unfold broadcastInDim
  congr 1
  funext a
  apply Fin.ext
  match a with
  | ⟨0, _⟩ => show win0_4.index t 1 * 1024 + 1 * k.val = k.val; rw [(at_whole t).2.1]; show 0 * 1024 + 1 * k.val = k.val; omega

theorem read_w (c : Dev nD) (t : Fin cfg0.N) (h : Fin 8) (r k : Fin 128) :
    (iblk m c 5 t : Vec Ideal S8x128x128 .f32) (ix3 h r k) = m ((c : Thread nD τ).loc main_arg3) (ix3 h r k) := by
  unfold iblk
  rw [View.read_apply]
  show V m c main_arg3 _ = _
  rw [V_main_arg3]
  congr 1
  funext a
  apply Fin.ext
  match a with
  | ⟨0, _⟩ => show win0_5.index t 0 * 8 + 1 * h.val = h.val; rw [(at_whole t).2.2.1]; show 0 * 8 + 1 * h.val = h.val; omega
  | ⟨1, _⟩ => show win0_5.index t 1 * 128 + 1 * r.val = r.val; rw [(at_whole t).2.2.1]; show 0 * 128 + 1 * r.val = r.val; omega
  | ⟨2, _⟩ => show win0_5.index t 2 * 128 + 1 * k.val = k.val; rw [(at_whole t).2.2.1]; show 0 * 128 + 1 * k.val = k.val; omega

theorem read_b (c : Dev nD) (t : Fin cfg0.N) (h : Fin 8) (r : Fin 128) :
    (iblk m c 6 t : Vec Ideal S8x128x1 .f32) (ix3 h r 0) = m ((c : Thread nD τ).loc main_arg4) (ix2 h r) := by
  unfold iblk
  rw [View.read_apply]
  show broadcastInDim S8x128x1 ![0, 1] bcast_S8x128_S8x128x1_0_1 (m ((c : Thread nD τ).loc main_arg4)) _ = _
  unfold broadcastInDim
  congr 1
  funext a
  apply Fin.ext
  match a with
  | ⟨0, _⟩ => show win0_6.index t 0 * 8 + 1 * h.val = h.val; rw [(at_whole t).2.2.2]; show 0 * 8 + 1 * h.val = h.val; omega
  | ⟨1, _⟩ => show win0_6.index t 1 * 128 + 1 * r.val = r.val; rw [(at_whole t).2.2.2]; show 0 * 128 + 1 * r.val = r.val; omega

/-- The slab of one head, as the body loads it. -/
theorem inside {w : Nat} (h : Fin 8) : ∀ a, (![h.val, 0, 0] : Fin 3 → Nat) a + (![1, 128, w] : Fin 3 → Nat) a ≤ (![8, 128, w] : Fin 3 → Nat) a
  | ⟨0, _⟩ => by show h.val + 1 ≤ 8; have := h.isLt; omega
  | ⟨1, _⟩ => by show 0 + 128 ≤ 128; omega
  | ⟨2, _⟩ => by show 0 + w ≤ w; omega

/-- The weights and the biases of one head, as the body loads them. -/
def wh (c : Dev nD) (t : Fin cfg0.N) (h : Fin 8) : Vec Ideal S1x128x128 .f32 :=
  View.ld (iblk m c 5 t : Vec Ideal S8x128x128 .f32) (Rect.unit ![h.val, 0, 0] ![1, 128, 128] (inside h))
def bh (c : Dev nD) (t : Fin cfg0.N) (h : Fin 8) : Vec Ideal S1x128x1 .f32 :=
  View.ld (iblk m c 6 t : Vec Ideal S8x128x1 .f32) (Rect.unit ![h.val, 0, 0] ![1, 128, 1] (inside h))

theorem read_wh (c : Dev nD) (t : Fin cfg0.N) (h : Fin 8) (r k : Fin 128) :
    wh m c t h (ix3 0 r k) = m ((c : Thread nD τ).loc main_arg3) (ix3 h r k) :=
  (Cert.SgStage.ld_head (iblk m c 5 t) h _ rfl (inside h) r k).trans (read_w m c t h r k)

theorem read_bh (c : Dev nD) (t : Fin cfg0.N) (h : Fin 8) (r : Fin 128) :
    bh m c t h (ix3 0 r 0) = m ((c : Thread nD τ).loc main_arg4) (ix2 h r) :=
  (Cert.SgStage.ld_bias (iblk m c 6 t) h _ rfl (inside h) r).trans (read_b m c t h r)

/-! ## The result -/

theorem block (c : Dev nD) (t : Fin cfg0.N) :
    outsAt0 m c t = out (X0_0 m c t) (X0_1 m c t) (X0_2 m c t) (iblk m c 3 t) (iblk m c 4 t) (wh m c t) (bh m c t) := by
  unfold outsAt0
  frame_out
  rfl

/-- The gated rows: the reference's array, of the arguments the kernel was launched with. -/
abbrev goal7 (c : Dev nD) : Vec Ideal S2048x1024 .bf16 := val_main_v71 (m ((c : Thread nD τ).loc main_arg0)) (m ((c : Thread nD τ).loc main_arg1)) (m ((c : Thread nD τ).loc main_arg2)) (m ((c : Thread nD τ).loc main_arg3)) (m ((c : Thread nD τ).loc main_arg4))

/-- Each point writes its block of rows, and the blocks fill the result. -/
theorem final7 (c : Dev nD) : (dats m 0 c).arrAt 7 cfg0.N = goal7 m c := by
  refine (dats m 0 c).arrAt_eq_of_covers 7 _ (by decide +kernel) fun t hf y => ?_
  blk_simp
  rw [after0_7, block]
  have hy : (y : S128x1024.Idx) = ix2 (y 0) (y 1) := by
    funext a
    match a with
    | ⟨0, _⟩ => rfl
    | ⟨1, _⟩ => rfl
  have he : (win0_7.blk t).view.emb y = ix2 (row (pt t) (y 0)) (y 1) := by
    funext a
    apply Fin.ext
    match a with
    | ⟨0, _⟩ => show win0_7.index t 0 * 128 + 1 * (y 0).val = t.val * 128 + (y 0).val; rw [(at_row t).2.2.2]; show t.val * 128 + 1 * (y 0).val = t.val * 128 + (y 0).val; omega
    | ⟨1, _⟩ => show win0_7.index t 1 * 1024 + 1 * (y 1).val = (y 1).val; rw [(at_row t).2.2.2]; show 0 * 1024 + 1 * (y 1).val = (y 1).val; omega
  refine (congrArg _ hy).trans (Eq.trans ?_ (congrArg (goal7 m c) he.symm))
  exact out_eq (hU := read_u m c t) (hV := read_v m c t) (hZ := read_z m c t) (hLW := read_lw m c t) (hLB := read_lb m c t) (hW := read_wh m c t) (hB := read_bh m c t) ..

end Cert.SgForward

end
-- ==== Proof.SgForwardClaims.lean ====
/-
  The claims about the forward spatial gating mixer.
-/
module

public import proofs.«01_k».proof.Defs
public import proofs.«01_k».proof.Proof.Gen.SgFwd.Frame
public import proofs.«01_k».proof.Proof.SgForward
public import proofs.«01_k».proof.Proof.Gen.SgFwdRefIdeal.Run

@[expose] public section

noncomputable section

namespace Cert.Proof.SgFwd

open Idealize.ShloMosaic Idealize.ShloMosaic.TcCoe

theorem frame : Cert.quiescent_SgFwd := fun m ρ _ => Cert.SgFwd.Gen.frame m ρ

theorem frame_ideal : Cert.quiescent_SgFwdIdeal := fun m ρ _ => Cert.SgFwdIdeal.Gen.frame m ρ

theorem frame_ref : Cert.quiescent_SgFwdRefIdeal := fun m ρ _ =>
  (θ_run Cert.SgFwdRefIdeal.defs _ _).mono (fun r h => ⟨fun c => (h c).2,
      Idealize.ShloMosaic.sem_eq_zero_of_no_sems (by decide) r.2⟩)
    (Cert.SgFwdRefIdeal.Value.run (F := Ideal) m ρ)

theorem preserves : Cert.preserves_SgFwd_SgFwdIdeal := trivial

theorem algebraic : Cert.algebraic_SgFwdIdeal_SgFwdRefIdeal := by
  intro m ρ m' ρ' _ hag
  refine ⟨fun c => SgForward.goal7 m c,
    (θ_run Cert.SgFwdIdeal.defs _ _).mono (fun r h c => ⟨(h c).1.trans (SgForward.final7 m c), (h c).2⟩) (Cert.SgFwdIdeal.Value.run_blocks m ρ),
    (θ_run Cert.SgFwdRefIdeal.defs _ _).mono (fun r h c => ?_) (Cert.SgFwdRefIdeal.Value.run (F := Ideal) m' ρ')⟩
  obtain ⟨h0, hr⟩ := h c
  obtain ⟨a0, a1, a2, a3, a4⟩ := hag c
  refine ⟨h0.trans ((Cert.SgFwdRefIdeal.Read.val_main_v71_eq _ _).trans ?_), hr⟩
  show Cert.SgFwdRefIdeal.Read.val_main_v71 (m' ((c : Thread Cert.SgFwdRefIdeal.nD Cert.SgFwdRefIdeal.τ).loc Cert.SgFwdRefIdeal.main_arg0)) (m' ((c : Thread Cert.SgFwdRefIdeal.nD Cert.SgFwdRefIdeal.τ).loc Cert.SgFwdRefIdeal.main_arg1)) (m' ((c : Thread Cert.SgFwdRefIdeal.nD Cert.SgFwdRefIdeal.τ).loc Cert.SgFwdRefIdeal.main_arg2)) (m' ((c : Thread Cert.SgFwdRefIdeal.nD Cert.SgFwdRefIdeal.τ).loc Cert.SgFwdRefIdeal.main_arg3)) (m' ((c : Thread Cert.SgFwdRefIdeal.nD Cert.SgFwdRefIdeal.τ).loc Cert.SgFwdRefIdeal.main_arg4)) = _
  rw [a0, a1, a2, a3, a4]

end Cert.Proof.SgFwd

end
-- ==== Proof.AdamClaims.lean ====
/-
  The claims about the optimiser's update of the small weights, on the four shapes of its rows: the moving averages of the
  gradient and of its square, and the step that they give.
-/
module

public import proofs.«01_k».proof.Defs
public import proofs.«01_k».proof.Proof.Gen.AdamA.Frame
public import proofs.«01_k».proof.Proof.Gen.AdamAIdeal.Value
public import proofs.«01_k».proof.Proof.Gen.AdamARefIdeal.Run
public import proofs.«01_k».proof.Proof.Gen.AdamARefIdeal.Read
public import proofs.«01_k».proof.Proof.Gen.AdamC.Frame
public import proofs.«01_k».proof.Proof.Gen.AdamCIdeal.Value
public import proofs.«01_k».proof.Proof.Gen.AdamCRefIdeal.Run
public import proofs.«01_k».proof.Proof.Gen.AdamCRefIdeal.Read
public import proofs.«01_k».proof.Proof.Gen.AdamMix.Frame
public import proofs.«01_k».proof.Proof.Gen.AdamMixIdeal.Value
public import proofs.«01_k».proof.Proof.Gen.AdamMixRefIdeal.Run
public import proofs.«01_k».proof.Proof.Gen.AdamMixRefIdeal.Read
public import proofs.«01_k».proof.Proof.Gen.AdamVec.Frame
public import proofs.«01_k».proof.Proof.Gen.AdamVecIdeal.Value
public import proofs.«01_k».proof.Proof.Gen.AdamVecRefIdeal.Run
public import proofs.«01_k».proof.Proof.Gen.AdamVecRefIdeal.Read

@[expose] public section

noncomputable section

namespace Cert.Proof

open Idealize.ShloMosaic Idealize.ShloMosaic.TcCoe

namespace AdamA

theorem frame : Cert.quiescent_AdamA := fun m ρ _ => Cert.AdamA.Gen.frame m ρ

theorem frame_ideal : Cert.quiescent_AdamAIdeal := fun m ρ _ => Cert.AdamAIdeal.Gen.frame m ρ

theorem frame_ref : Cert.quiescent_AdamARefIdeal := fun m ρ _ =>
  (θ_run Cert.AdamARefIdeal.defs _ _).mono (fun r h => ⟨fun c => (h c).2.2.2,
      Idealize.ShloMosaic.sem_eq_zero_of_no_sems (by decide) r.2⟩)
    (Cert.AdamARefIdeal.Value.run (F := Ideal) m ρ)

theorem preserves : Cert.preserves_AdamA_AdamAIdeal := trivial

theorem algebraic : Cert.algebraic_AdamAIdeal_AdamARefIdeal := by
  intro m ρ m' ρ' _ hag
  refine ⟨_, _, _, (θ_run Cert.AdamAIdeal.defs _ _).mono (fun r h c => h c) (Cert.AdamAIdeal.Value.run (F := Ideal) m ρ),
    (θ_run Cert.AdamARefIdeal.defs _ _).mono (fun r h c => ?_) (Cert.AdamARefIdeal.Value.run (F := Ideal) m' ρ')⟩
  obtain ⟨h0, h1, h2, hr⟩ := h c
  obtain ⟨a0, a1, a2, a3⟩ := hag c
  refine ⟨h0.trans ?_, h1.trans ?_, h2.trans ?_, hr⟩ <;> rw [a1] <;> first | rw [a0, a2, a3] | rw [a2] | rw [a3]
  all_goals rfl

end AdamA

namespace AdamC

theorem frame : Cert.quiescent_AdamC := fun m ρ _ => Cert.AdamC.Gen.frame m ρ

theorem frame_ideal : Cert.quiescent_AdamCIdeal := fun m ρ _ => Cert.AdamCIdeal.Gen.frame m ρ

theorem frame_ref : Cert.quiescent_AdamCRefIdeal := fun m ρ _ =>
  (θ_run Cert.AdamCRefIdeal.defs _ _).mono (fun r h => ⟨fun c => (h c).2.2.2,
      Idealize.ShloMosaic.sem_eq_zero_of_no_sems (by decide) r.2⟩)
    (Cert.AdamCRefIdeal.Value.run (F := Ideal) m ρ)

theorem preserves : Cert.preserves_AdamC_AdamCIdeal := trivial

theorem algebraic : Cert.algebraic_AdamCIdeal_AdamCRefIdeal := by
  intro m ρ m' ρ' _ hag
  refine ⟨_, _, _, (θ_run Cert.AdamCIdeal.defs _ _).mono (fun r h c => h c) (Cert.AdamCIdeal.Value.run (F := Ideal) m ρ),
    (θ_run Cert.AdamCRefIdeal.defs _ _).mono (fun r h c => ?_) (Cert.AdamCRefIdeal.Value.run (F := Ideal) m' ρ')⟩
  obtain ⟨h0, h1, h2, hr⟩ := h c
  obtain ⟨a0, a1, a2, a3⟩ := hag c
  refine ⟨h0.trans ?_, h1.trans ?_, h2.trans ?_, hr⟩ <;> rw [a1] <;> first | rw [a0, a2, a3] | rw [a2] | rw [a3]
  all_goals rfl

end AdamC

namespace AdamMix

theorem frame : Cert.quiescent_AdamMix := fun m ρ _ => Cert.AdamMix.Gen.frame m ρ

theorem frame_ideal : Cert.quiescent_AdamMixIdeal := fun m ρ _ => Cert.AdamMixIdeal.Gen.frame m ρ

theorem frame_ref : Cert.quiescent_AdamMixRefIdeal := fun m ρ _ =>
  (θ_run Cert.AdamMixRefIdeal.defs _ _).mono (fun r h => ⟨fun c => (h c).2.2.2,
      Idealize.ShloMosaic.sem_eq_zero_of_no_sems (by decide) r.2⟩)
    (Cert.AdamMixRefIdeal.Value.run (F := Ideal) m ρ)

theorem preserves : Cert.preserves_AdamMix_AdamMixIdeal := trivial

theorem algebraic : Cert.algebraic_AdamMixIdeal_AdamMixRefIdeal := by
  intro m ρ m' ρ' _ hag
  refine ⟨_, _, _, (θ_run Cert.AdamMixIdeal.defs _ _).mono (fun r h c => h c) (Cert.AdamMixIdeal.Value.run (F := Ideal) m ρ),
    (θ_run Cert.AdamMixRefIdeal.defs _ _).mono (fun r h c => ?_) (Cert.AdamMixRefIdeal.Value.run (F := Ideal) m' ρ')⟩
  obtain ⟨h0, h1, h2, hr⟩ := h c
  obtain ⟨a0, a1, a2, a3⟩ := hag c
  refine ⟨h0.trans ?_, h1.trans ?_, h2.trans ?_, hr⟩ <;> rw [a1] <;> first | rw [a0, a2, a3] | rw [a2] | rw [a3]
  all_goals rfl

end AdamMix

namespace AdamVec

theorem frame : Cert.quiescent_AdamVec := fun m ρ _ => Cert.AdamVec.Gen.frame m ρ

theorem frame_ideal : Cert.quiescent_AdamVecIdeal := fun m ρ _ => Cert.AdamVecIdeal.Gen.frame m ρ

theorem frame_ref : Cert.quiescent_AdamVecRefIdeal := fun m ρ _ =>
  (θ_run Cert.AdamVecRefIdeal.defs _ _).mono (fun r h => ⟨fun c => (h c).2.2.2,
      Idealize.ShloMosaic.sem_eq_zero_of_no_sems (by decide) r.2⟩)
    (Cert.AdamVecRefIdeal.Value.run (F := Ideal) m ρ)

theorem preserves : Cert.preserves_AdamVec_AdamVecIdeal := trivial

theorem algebraic : Cert.algebraic_AdamVecIdeal_AdamVecRefIdeal := by
  intro m ρ m' ρ' _ hag
  refine ⟨_, _, _, (θ_run Cert.AdamVecIdeal.defs _ _).mono (fun r h c => h c) (Cert.AdamVecIdeal.Value.run (F := Ideal) m ρ),
    (θ_run Cert.AdamVecRefIdeal.defs _ _).mono (fun r h c => ?_) (Cert.AdamVecRefIdeal.Value.run (F := Ideal) m' ρ')⟩
  obtain ⟨h0, h1, h2, hr⟩ := h c
  obtain ⟨a0, a1, a2, a3⟩ := hag c
  refine ⟨h0.trans ?_, h1.trans ?_, h2.trans ?_, hr⟩ <;> rw [a1] <;> first | rw [a0, a2, a3] | rw [a2] | rw [a3]
  all_goals rfl

end AdamVec

end Cert.Proof

end
-- ==== Proof.lean ====
/-
  The claims of the certificate, put together.
-/
module

public import proofs.«01_k».proof.Proof.Gen.AdamBr.Frame
public import proofs.«01_k».proof.Proof.Gen.AdamBrIdeal.Frame
public import proofs.«01_k».proof.Proof.Gen.AdamBrRefIdeal.Run
public import proofs.«01_k».proof.Proof.Gen.AdamBrRefIdeal.Read
public import proofs.«01_k».proof.Proof.Gen.S5Par.Frame
public import proofs.«01_k».proof.Proof.Gen.S5ParIdeal.Value
public import proofs.«01_k».proof.Proof.Gen.S5ParRefIdeal.Run
public import proofs.«01_k».proof.Proof.Gen.S5ParRefIdeal.Read
public import proofs.«01_k».proof.Proof.Gen.S5ParBwd.Frame
public import proofs.«01_k».proof.Proof.Gen.S5ParBwdIdeal.Frame
public import proofs.«01_k».proof.Proof.Gen.S5ParBwdRefIdeal.Run
public import proofs.«01_k».proof.Proof.Gen.S5ParBwdRefIdeal.Read
public import proofs.«01_k».proof.Proof.S5ParamsClaims
public import proofs.«01_k».proof.Proof.AdamLayersClaims
public import proofs.«01_k».proof.Proof.Gen.AttnFwd.Frame
public import proofs.«01_k».proof.Proof.Gen.AttnFwdIdeal.Value
public import proofs.«01_k».proof.Proof.Gen.AttnFwdRefIdeal.Run
public import proofs.«01_k».proof.Proof.Gen.AttnFwdRefIdeal.Read
public import proofs.«01_k».proof.Proof.AttnForwardClaims
public import proofs.«01_k».proof.Proof.Gen.AdamA.Frame
public import proofs.«01_k».proof.Proof.Gen.AdamAIdeal.Value
public import proofs.«01_k».proof.Proof.Gen.AdamARefIdeal.Run
public import proofs.«01_k».proof.Proof.Gen.AdamARefIdeal.Read
public import proofs.«01_k».proof.Proof.Gen.AdamC.Frame
public import proofs.«01_k».proof.Proof.Gen.AdamCIdeal.Value
public import proofs.«01_k».proof.Proof.Gen.AdamCRefIdeal.Run
public import proofs.«01_k».proof.Proof.Gen.AdamCRefIdeal.Read
public import proofs.«01_k».proof.Proof.Gen.AdamMix.Frame
public import proofs.«01_k».proof.Proof.Gen.AdamMixIdeal.Value
public import proofs.«01_k».proof.Proof.Gen.AdamMixRefIdeal.Run
public import proofs.«01_k».proof.Proof.Gen.AdamMixRefIdeal.Read
public import proofs.«01_k».proof.Proof.Gen.AdamVec.Frame
public import proofs.«01_k».proof.Proof.Gen.AdamVecIdeal.Value
public import proofs.«01_k».proof.Proof.Gen.AdamVecRefIdeal.Run
public import proofs.«01_k».proof.Proof.Gen.AdamVecRefIdeal.Read
public import proofs.«01_k».proof.Proof.Gen.SgFwd.Frame
public import proofs.«01_k».proof.Proof.Gen.SgFwdIdeal.Value
public import proofs.«01_k».proof.Proof.Gen.SgFwdRefIdeal.Run
public import proofs.«01_k».proof.Proof.Gen.SgFwdRefIdeal.Read
public import proofs.«01_k».proof.Defs
public import proofs.«01_k».proof.Proof.Gen.SgBwd
public import proofs.«01_k».proof.Proof.Gen.SgBwd.Skeleton
public import proofs.«01_k».proof.Proof.Gen.SgBwd.Launch
public import proofs.«01_k».proof.Proof.Gen.SgBwd.Points
public import proofs.«01_k».proof.Proof.Gen.SgBwd.Frame
public import proofs.«01_k».proof.Proof.Gen.SgBwdIdeal
public import proofs.«01_k».proof.Proof.Gen.SgBwdIdeal.Skeleton
public import proofs.«01_k».proof.Proof.Gen.SgBwdIdeal.Launch
public import proofs.«01_k».proof.Proof.Gen.SgBwdIdeal.Points
public import proofs.«01_k».proof.Proof.Gen.SgBwdIdeal.Frame
public import proofs.«01_k».proof.Proof.Gen.SgRefIdeal
public import proofs.«01_k».proof.Proof.Gen.SgBwdIdeal.Value
public import proofs.«01_k».proof.Proof.Gen.SgRefIdeal.Run
public import proofs.«01_k».proof.Proof.Gen.SgRefIdeal.Read
public import proofs.«01_k».proof.Proof.SgClaims
public import proofs.«01_k».proof.Proof.Gen.DWin
public import proofs.«01_k».proof.Proof.Gen.DWin.Frame
public import proofs.«01_k».proof.Proof.Gen.DWinIdeal
public import proofs.«01_k».proof.Proof.Gen.DWinIdeal.Frame
public import proofs.«01_k».proof.Proof.Gen.DWinRefIdeal
public import proofs.«01_k».proof.Proof.Gen.DWinIdeal.Value
public import proofs.«01_k».proof.Proof.Gen.DWinRefIdeal.Run
public import proofs.«01_k».proof.Proof.Gen.DWinRefIdeal.Read
public import proofs.«01_k».proof.Proof.Gen.DH
public import proofs.«01_k».proof.Proof.Gen.DH.Frame
public import proofs.«01_k».proof.Proof.Gen.DHIdeal
public import proofs.«01_k».proof.Proof.Gen.DHIdeal.Frame
public import proofs.«01_k».proof.Proof.Gen.DHRefIdeal
public import proofs.«01_k».proof.Proof.Gen.DHIdeal.Value
public import proofs.«01_k».proof.Proof.Gen.DHRefIdeal.Run
public import proofs.«01_k».proof.Proof.Gen.DHRefIdeal.Read
public import proofs.«01_k».proof.Proof.Gen.DMerged
public import proofs.«01_k».proof.Proof.Gen.DMerged.Frame
public import proofs.«01_k».proof.Proof.Gen.DMergedIdeal
public import proofs.«01_k».proof.Proof.Gen.DMergedIdeal.Frame
public import proofs.«01_k».proof.Proof.Gen.DMergedRefIdeal
public import proofs.«01_k».proof.Proof.Gen.DMergedIdeal.Value
public import proofs.«01_k».proof.Proof.Gen.DMergedRefIdeal.Run
public import proofs.«01_k».proof.Proof.Gen.DMergedRefIdeal.Read
public import proofs.«01_k».proof.Proof.Gen.DWout
public import proofs.«01_k».proof.Proof.Gen.DWout.Frame
public import proofs.«01_k».proof.Proof.Gen.DWoutIdeal
public import proofs.«01_k».proof.Proof.Gen.DWoutIdeal.Frame
public import proofs.«01_k».proof.Proof.Gen.DWoutRefIdeal
public import proofs.«01_k».proof.Proof.Gen.DWoutIdeal.Value
public import proofs.«01_k».proof.Proof.Gen.DWoutRefIdeal.Run
public import proofs.«01_k».proof.Proof.Gen.DWoutRefIdeal.Read
public import proofs.«01_k».proof.Proof.Gen.DY
public import proofs.«01_k».proof.Proof.Gen.DY.Frame
public import proofs.«01_k».proof.Proof.Gen.DYIdeal
public import proofs.«01_k».proof.Proof.Gen.DYIdeal.Frame
public import proofs.«01_k».proof.Proof.Gen.DYRefIdeal
public import proofs.«01_k».proof.Proof.Gen.DYIdeal.Value
public import proofs.«01_k».proof.Proof.Gen.DYRefIdeal.Run
public import proofs.«01_k».proof.Proof.Gen.DYRefIdeal.Read
public import proofs.«01_k».proof.Proof.Gen.DWb
public import proofs.«01_k».proof.Proof.Gen.DWb.Frame
public import proofs.«01_k».proof.Proof.Gen.DWbIdeal
public import proofs.«01_k».proof.Proof.Gen.DWbIdeal.Frame
public import proofs.«01_k».proof.Proof.Gen.DWbRefIdeal
public import proofs.«01_k».proof.Proof.Gen.DWbIdeal.Value
public import proofs.«01_k».proof.Proof.Gen.DWbRefIdeal.Run
public import proofs.«01_k».proof.Proof.Gen.DWbRefIdeal.Read
public import proofs.«01_k».proof.Proof.Gen.Branch
public import proofs.«01_k».proof.Proof.Gen.Branch.Frame
public import proofs.«01_k».proof.Proof.Gen.BranchIdeal
public import proofs.«01_k».proof.Proof.Gen.BranchIdeal.Frame
public import proofs.«01_k».proof.Proof.Gen.BranchRefIdeal
public import proofs.«01_k».proof.Proof.Gen.BranchIdeal.Value
public import proofs.«01_k».proof.Proof.Gen.BranchRefIdeal.Run
public import proofs.«01_k».proof.Proof.Gen.BranchRefIdeal.Read
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjRefIdeal
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.ProductClaims
public import proofs.«01_k».proof.Proof.Gen.MergeBwd
public import proofs.«01_k».proof.Proof.Gen.MergeBwd.Frame
public import proofs.«01_k».proof.Proof.Gen.MergeBwdIdeal
public import proofs.«01_k».proof.Proof.Gen.MergeBwdIdeal.Frame
public import proofs.«01_k».proof.Proof.Gen.MergeBwdRefIdeal
public import proofs.«01_k».proof.Proof.Gen.MergeBwdIdeal.Value
public import proofs.«01_k».proof.Proof.Gen.MergeBwdRefIdeal.Run
public import proofs.«01_k».proof.Proof.Gen.MergeBwdRefIdeal.Read
public import proofs.«01_k».proof.Proof.Gen.RmsBwd
public import proofs.«01_k».proof.Proof.Gen.RmsBwd.Frame
public import proofs.«01_k».proof.Proof.Gen.RmsBwdIdeal
public import proofs.«01_k».proof.Proof.Gen.RmsBwdIdeal.Frame
public import proofs.«01_k».proof.Proof.Gen.RmsBwdRefIdeal
public import proofs.«01_k».proof.Proof.Gen.RmsBwdIdeal.Value
public import proofs.«01_k».proof.Proof.Gen.RmsBwdRefIdeal.Run
public import proofs.«01_k».proof.Proof.Gen.RmsBwdRefIdeal.Read
public import proofs.«01_k».proof.Proof.Gen.LossHead
public import proofs.«01_k».proof.Proof.Gen.LossHead.Frame
public import proofs.«01_k».proof.Proof.Gen.LossHeadIdeal
public import proofs.«01_k».proof.Proof.Gen.LossHeadIdeal.Frame
public import proofs.«01_k».proof.Proof.Gen.LossHeadRefIdeal
public import proofs.«01_k».proof.Proof.Gen.LossHeadIdeal.Value
public import proofs.«01_k».proof.Proof.Gen.LossHeadRefIdeal.Run
public import proofs.«01_k».proof.Proof.Gen.LossHeadRefIdeal.Read
public import proofs.«01_k».proof.Proof.Gen.GluBwd
public import proofs.«01_k».proof.Proof.Gen.GluBwd.Frame
public import proofs.«01_k».proof.Proof.Gen.GluBwdIdeal
public import proofs.«01_k».proof.Proof.Gen.GluBwdIdeal.Frame
public import proofs.«01_k».proof.Proof.Gen.GluBwdRefIdeal
public import proofs.«01_k».proof.Proof.Gen.GluBwdIdeal.Value
public import proofs.«01_k».proof.Proof.Gen.GluBwdRefIdeal.Run
public import proofs.«01_k».proof.Proof.Gen.GluBwdRefIdeal.Read
public import proofs.«01_k».proof.Proof.Gen.MergeFwd
public import proofs.«01_k».proof.Proof.Gen.MergeFwd.Frame
public import proofs.«01_k».proof.Proof.Gen.MergeFwdIdeal
public import proofs.«01_k».proof.Proof.Gen.MergeFwdIdeal.Frame
public import proofs.«01_k».proof.Proof.Gen.MergeFwdRefIdeal
public import proofs.«01_k».proof.Proof.Gen.MergeFwdIdeal.Value
public import proofs.«01_k».proof.Proof.Gen.MergeFwdRefIdeal.Run
public import proofs.«01_k».proof.Proof.Gen.MergeFwdRefIdeal.Read
public import proofs.«01_k».proof.Proof.Gen.RmsFwd
public import proofs.«01_k».proof.Proof.Gen.RmsFwd.Frame
public import proofs.«01_k».proof.Proof.Gen.RmsFwdIdeal
public import proofs.«01_k».proof.Proof.Gen.RmsFwdIdeal.Frame
public import proofs.«01_k».proof.Proof.Gen.RmsFwdRefIdeal
public import proofs.«01_k».proof.Proof.Gen.RmsFwdIdeal.Value
public import proofs.«01_k».proof.Proof.Gen.RmsFwdRefIdeal.Run
public import proofs.«01_k».proof.Proof.Gen.RmsFwdRefIdeal.Read
public import proofs.«01_k».proof.Proof.Gen.GluFwd
public import proofs.«01_k».proof.Proof.Gen.GluFwd.Frame
public import proofs.«01_k».proof.Proof.Gen.GluFwdIdeal
public import proofs.«01_k».proof.Proof.Gen.GluFwdIdeal.Frame
public import proofs.«01_k».proof.Proof.Gen.GluFwdRefIdeal
public import proofs.«01_k».proof.Proof.Gen.GluFwdIdeal.Value
public import proofs.«01_k».proof.Proof.Gen.GluFwdRefIdeal.Run
public import proofs.«01_k».proof.Proof.Gen.GluFwdRefIdeal.Read
public import proofs.«01_k».proof.Proof.GateClaims
public import proofs.«01_k».proof.Proof.Gen.InProj
public import proofs.«01_k».proof.Proof.Gen.InProjIdeal
public import proofs.«01_k».proof.Proof.Gen.InProjRefIdeal.Run
public import proofs.«01_k».proof.Proof.Gen.InProjRefIdeal.Read
public import proofs.«01_k».proof.Proof.Gen.Pre_every_tile_once
public import Idealize.ShloMosaic.Adequacy
public import Idealize.ShloMosaic.Init
public import proofs.«01_k».proof.Proof.TileClaims
public import proofs.«01_k».proof.Proof.SgForwardClaims
public import proofs.«01_k».proof.Proof.AdamClaims

@[expose] public section

noncomputable section

namespace Cert.Proof

open Idealize.ShloMosaic Idealize.SL.Sem Cert.SgBwd

theorem claim : Cert.Claim := ⟨Cert.SgBwd.Gen.facts,
    Cert.SgBwdIdeal.Gen.facts,
    Cert.SgRefIdeal.Gen.facts,
    Cert.DWin.Gen.facts,
    Cert.DWinIdeal.Gen.facts,
    Cert.DWinRefIdeal.Gen.facts,
    Cert.DH.Gen.facts,
    Cert.DHIdeal.Gen.facts,
    Cert.DHRefIdeal.Gen.facts,
    Cert.DMerged.Gen.facts,
    Cert.DMergedIdeal.Gen.facts,
    Cert.DMergedRefIdeal.Gen.facts,
    Cert.DWout.Gen.facts,
    Cert.DWoutIdeal.Gen.facts,
    Cert.DWoutRefIdeal.Gen.facts,
    Cert.DY.Gen.facts,
    Cert.DYIdeal.Gen.facts,
    Cert.DYRefIdeal.Gen.facts,
    Cert.DWb.Gen.facts,
    Cert.DWbIdeal.Gen.facts,
    Cert.DWbRefIdeal.Gen.facts,
    Cert.Branch.Gen.facts,
    Cert.BranchIdeal.Gen.facts,
    Cert.BranchRefIdeal.Gen.facts,
    Cert.OutProj.Gen.facts,
    Cert.OutProjIdeal.Gen.facts,
    Cert.OutProjRefIdeal.Gen.facts,
    Cert.MergeBwd.Gen.facts,
    Cert.MergeBwdIdeal.Gen.facts,
    Cert.MergeBwdRefIdeal.Gen.facts,
    Cert.RmsBwd.Gen.facts,
    Cert.RmsBwdIdeal.Gen.facts,
    Cert.RmsBwdRefIdeal.Gen.facts,
    Cert.LossHead.Gen.facts,
    Cert.LossHeadIdeal.Gen.facts,
    Cert.LossHeadRefIdeal.Gen.facts,
    Cert.GluBwd.Gen.facts,
    Cert.GluBwdIdeal.Gen.facts,
    Cert.GluBwdRefIdeal.Gen.facts,
    Cert.MergeFwd.Gen.facts,
    Cert.MergeFwdIdeal.Gen.facts,
    Cert.MergeFwdRefIdeal.Gen.facts,
    Cert.RmsFwd.Gen.facts,
    Cert.RmsFwdIdeal.Gen.facts,
    Cert.RmsFwdRefIdeal.Gen.facts,
    Cert.GluFwd.Gen.facts,
    Cert.GluFwdIdeal.Gen.facts,
    Cert.GluFwdRefIdeal.Gen.facts,
    Cert.InProj.Gen.facts,
    Cert.InProjIdeal.Gen.facts,
    Cert.InProjRefIdeal.Gen.facts,
    Cert.SgFwd.Gen.facts,
    Cert.SgFwdIdeal.Gen.facts,
    Cert.SgFwdRefIdeal.Gen.facts,
    Cert.AdamA.Gen.facts,
    Cert.AdamAIdeal.Gen.facts,
    Cert.AdamARefIdeal.Gen.facts,
    Cert.AdamC.Gen.facts,
    Cert.AdamCIdeal.Gen.facts,
    Cert.AdamCRefIdeal.Gen.facts,
    Cert.AdamMix.Gen.facts,
    Cert.AdamMixIdeal.Gen.facts,
    Cert.AdamMixRefIdeal.Gen.facts,
    Cert.AdamVec.Gen.facts,
    Cert.AdamVecIdeal.Gen.facts,
    Cert.AdamVecRefIdeal.Gen.facts,
    Cert.AttnFwd.Gen.facts,
    Cert.AttnFwdIdeal.Gen.facts,
    Cert.AttnFwdRefIdeal.Gen.facts,
    Cert.S5Par.Gen.facts,
    Cert.S5ParIdeal.Gen.facts,
    Cert.S5ParRefIdeal.Gen.facts,
    Cert.S5ParBwd.Gen.facts,
    Cert.S5ParBwdIdeal.Gen.facts,
    Cert.S5ParBwdRefIdeal.Gen.facts,
    Cert.AdamBr.Gen.facts,
    Cert.AdamBrIdeal.Gen.facts,
    Cert.AdamBrRefIdeal.Gen.facts,
    Cert.Pre_every_tile_once.Gen.facts,
    Sg.frame,
    Sg.frame_ideal,
    Sg.frame_ref,
    DWin.frame,
    DWin.frame_ideal,
    DWin.frame_ref,
    DH.frame,
    DH.frame_ideal,
    DH.frame_ref,
    DMerged.frame,
    DMerged.frame_ideal,
    DMerged.frame_ref,
    DWout.frame,
    DWout.frame_ideal,
    DWout.frame_ref,
    DY.frame,
    DY.frame_ideal,
    DY.frame_ref,
    DWb.frame,
    DWb.frame_ideal,
    DWb.frame_ref,
    Branch.frame,
    Branch.frame_ideal,
    Branch.frame_ref,
    OutProj.frame,
    OutProj.frame_ideal,
    OutProj.frame_ref,
    MergeBwd.frame,
    MergeBwd.frame_ideal,
    MergeBwd.frame_ref,
    RmsBwd.frame,
    RmsBwd.frame_ideal,
    RmsBwd.frame_ref,
    LossHead.frame,
    LossHead.frame_ideal,
    LossHead.frame_ref,
    GluBwd.frame,
    GluBwd.frame_ideal,
    GluBwd.frame_ref,
    MergeFwd.frame,
    MergeFwd.frame_ideal,
    MergeFwd.frame_ref,
    RmsFwd.frame,
    RmsFwd.frame_ideal,
    RmsFwd.frame_ref,
    GluFwd.frame,
    GluFwd.frame_ideal,
    GluFwd.frame_ref,
    InProj.frame,
    InProj.frame_ideal,
    InProj.frame_ref,
    InProj.frame_ref_tiles,
    SgFwd.frame,
    SgFwd.frame_ideal,
    SgFwd.frame_ref,
    AdamA.frame,
    AdamA.frame_ideal,
    AdamA.frame_ref,
    AdamC.frame,
    AdamC.frame_ideal,
    AdamC.frame_ref,
    AdamMix.frame,
    AdamMix.frame_ideal,
    AdamMix.frame_ref,
    AdamVec.frame,
    AdamVec.frame_ideal,
    AdamVec.frame_ref,
    AttnFwd.frame,
    AttnFwd.frame_ideal,
    AttnFwd.frame_ref,
    S5Par.frame,
    S5Par.frame_ideal,
    S5Par.frame_ref,
    S5ParBwd.frame,
    S5ParBwd.frame_ideal,
    S5ParBwd.frame_ref,
    AdamBr.frame,
    AdamBr.frame_ideal,
    AdamBr.frame_ref,
    Sg.preserves,
    Sg.algebraic,
    DWin.preserves,
    DWin.algebraic,
    DH.preserves,
    DH.algebraic,
    DMerged.preserves,
    DMerged.algebraic,
    DWout.preserves,
    DWout.algebraic,
    DY.preserves,
    DY.algebraic,
    DWb.preserves,
    DWb.algebraic,
    Branch.preserves,
    Branch.algebraic,
    OutProj.preserves,
    OutProj.algebraic,
    MergeBwd.preserves,
    MergeBwd.algebraic,
    RmsBwd.preserves,
    RmsBwd.algebraic,
    LossHead.preserves,
    LossHead.algebraic,
    GluBwd.preserves,
    GluBwd.algebraic,
    MergeFwd.preserves,
    MergeFwd.algebraic,
    RmsFwd.preserves,
    RmsFwd.algebraic,
    GluFwd.preserves,
    GluFwd.algebraic,
    InProj.preserves,
    InProj.algebraic,
    SgFwd.preserves,
    SgFwd.algebraic,
    AdamA.preserves,
    AdamA.algebraic,
    AdamC.preserves,
    AdamC.algebraic,
    AdamMix.preserves,
    AdamMix.algebraic,
    AdamVec.preserves,
    AdamVec.algebraic,
    AttnFwd.preserves,
    AttnFwd.algebraic,
    S5Par.preserves,
    S5Par.algebraic,
    S5ParBwd.preserves,
    S5ParBwd.algebraic,
    AdamBr.preserves,
    AdamBr.algebraic⟩

end Cert.Proof

end
